-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactKernelIdeal_dact_finite [hPre_dact_finite : Cert.Pre_dact_finite.Facts] (m : (ℓ : Loc Cert.DactKernelIdeal.nD Cert.DactKernelIdeal.τ Cert.DactKernelIdeal.sig) → Buf (Elt Ideal) ℓ) : Prop :=
  ∀ c : Dev Cert.DactKernelIdeal.nD,
    (Cert.Pre_dact_finite.fn (F := Ideal) (m ((c.tc : Thread Cert.DactKernelIdeal.nD Cert.DactKernelIdeal.τ).loc Cert.DactKernelIdeal.main_arg0)) (m ((c.tc : Thread Cert.DactKernelIdeal.nD Cert.DactKernelIdeal.τ).loc Cert.DactKernelIdeal.main_arg1)) (m ((c.tc : Thread Cert.DactKernelIdeal.nD Cert.DactKernelIdeal.τ).loc Cert.DactKernelIdeal.main_arg2)) (m ((c.tc : Thread Cert.DactKernelIdeal.nD Cert.DactKernelIdeal.τ).loc Cert.DactKernelIdeal.main_arg3))) = (fun _ => 1#1)

def Pre_DactReferenceIdeal (m : (ℓ : Loc Cert.DactReferenceIdeal.nD Cert.DactReferenceIdeal.τ Cert.DactReferenceIdeal.sig) → Buf (Elt Ideal) ℓ) : Prop :=
  True

def Pre_DactReferenceIdeal_dact_finite [hPre_dact_finite : Cert.Pre_dact_finite.Facts] (m : (ℓ : Loc Cert.DactReferenceIdeal.nD Cert.DactReferenceIdeal.τ Cert.DactReferenceIdeal.sig) → Buf (Elt Ideal) ℓ) : Prop :=
  ∀ c : Dev Cert.DactReferenceIdeal.nD,
    (Cert.Pre_dact_finite.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2)) (m ((c.tc : Thread Cert.DactReferenceIdeal.nD Cert.DactReferenceIdeal.τ).loc Cert.DactReferenceIdeal.main_arg3))) = (fun _ => 1#1)

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MixDxKernel (m : (ℓ : Loc Cert.MixDxKernel.nD Cert.MixDxKernel.τ Cert.MixDxKernel.sig) → Buf (Elt Bits) ℓ) : Prop :=
  True

def Pre_MixDxKernelIdeal (m : (ℓ : Loc Cert.MixDxKernelIdeal.nD Cert.MixDxKernelIdeal.τ Cert.MixDxKernelIdeal.sig) → Buf (Elt Ideal) ℓ) : Prop :=
  True

def Pre_MixDxReferenceIdeal (m : (ℓ : Loc Cert.MixDxReferenceIdeal.nD Cert.MixDxReferenceIdeal.τ Cert.MixDxReferenceIdeal.sig) → Buf (Elt Ideal) ℓ) : Prop :=
  True

def Pre_WinGradKernel (m : (ℓ : Loc Cert.WinGradKernel.nD Cert.WinGradKernel.τ Cert.WinGradKernel.sig) → Buf (Elt Bits) ℓ) : Prop :=
  True

def Pre_WinGradKernelIdeal (m : (ℓ : Loc Cert.WinGradKernelIdeal.nD Cert.WinGradKernelIdeal.τ Cert.WinGradKernelIdeal.sig) → Buf (Elt Ideal) ℓ) : Prop :=
  True

def Pre_WinGradReferenceIdeal (m : (ℓ : Loc Cert.WinGradReferenceIdeal.nD Cert.WinGradReferenceIdeal.τ Cert.WinGradReferenceIdeal.sig) → Buf (Elt Ideal) ℓ) : Prop :=
  True

def Pre_OutDactKernel (m : (ℓ : Loc Cert.OutDactKernel.nD Cert.OutDactKernel.τ Cert.OutDactKernel.sig) → Buf (Elt Bits) ℓ) : Prop :=
  True

def Pre_OutDactKernelIdeal (m : (ℓ : Loc Cert.OutDactKernelIdeal.nD Cert.OutDactKernelIdeal.τ Cert.OutDactKernelIdeal.sig) → Buf (Elt Ideal) ℓ) : Prop :=
  True

def Pre_OutDactReferenceIdeal (m : (ℓ : Loc Cert.OutDactReferenceIdeal.nD Cert.OutDactReferenceIdeal.τ Cert.OutDactReferenceIdeal.sig) → Buf (Elt Ideal) ℓ) : Prop :=
  True

def Pre_OutGradKernel (m : (ℓ : Loc Cert.OutGradKernel.nD Cert.OutGradKernel.τ Cert.OutGradKernel.sig) → Buf (Elt Bits) ℓ) : Prop :=
  True

def Pre_OutGradKernelIdeal (m : (ℓ : Loc Cert.OutGradKernelIdeal.nD Cert.OutGradKernelIdeal.τ Cert.OutGradKernelIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_PleBwdKernel (m : (ℓ : Loc Cert.PleBwdKernel.nD Cert.PleBwdKernel.τ Cert.PleBwdKernel.sig) → Buf (Elt Bits) ℓ) : Prop :=
  True

def Pre_PleBwdKernelIdeal (m : (ℓ : Loc Cert.PleBwdKernelIdeal.nD Cert.PleBwdKernelIdeal.τ Cert.PleBwdKernelIdeal.sig) → Buf (Elt Ideal) ℓ) : Prop :=
  True

def Pre_PleBwdReferenceIdeal (m : (ℓ : Loc Cert.PleBwdReferenceIdeal.nD Cert.PleBwdReferenceIdeal.τ Cert.PleBwdReferenceIdeal.sig) → Buf (Elt Ideal) ℓ) : Prop :=
  True

def Pre_PleDxKernel (m : (ℓ : Loc Cert.PleDxKernel.nD Cert.PleDxKernel.τ Cert.PleDxKernel.sig) → Buf (Elt Bits) ℓ) : Prop :=
  True

def Pre_PleDxKernelIdeal (m : (ℓ : Loc Cert.PleDxKernelIdeal.nD Cert.PleDxKernelIdeal.τ Cert.PleDxKernelIdeal.sig) → Buf (Elt Ideal) ℓ) : Prop :=
  True

def Pre_PleDxReferenceIdeal (m : (ℓ : Loc Cert.PleDxReferenceIdeal.nD Cert.PleDxReferenceIdeal.τ Cert.PleDxReferenceIdeal.sig) → Buf (Elt Ideal) ℓ) : Prop :=
  True

def Pre_GateGradKernel (m : (ℓ : Loc Cert.GateGradKernel.nD Cert.GateGradKernel.τ Cert.GateGradKernel.sig) → Buf (Elt Bits) ℓ) : Prop :=
  True

def Pre_GateGradKernelIdeal (m : (ℓ : Loc Cert.GateGradKernelIdeal.nD Cert.GateGradKernelIdeal.τ Cert.GateGradKernelIdeal.sig) → Buf (Elt Ideal) ℓ) : Prop :=
  True

def Pre_GateGradReferenceIdeal (m : (ℓ : Loc Cert.GateGradReferenceIdeal.nD Cert.GateGradReferenceIdeal.τ Cert.GateGradReferenceIdeal.sig) → Buf (Elt Ideal) ℓ) : Prop :=
  True

def Pre_EmbGradKernel (m : (ℓ : Loc Cert.EmbGradKernel.nD Cert.EmbGradKernel.τ Cert.EmbGradKernel.sig) → Buf (Elt Bits) ℓ) : Prop :=
  True

def Pre_EmbGradKernelIdeal (m : (ℓ : Loc Cert.EmbGradKernelIdeal.nD Cert.EmbGradKernelIdeal.τ Cert.EmbGradKernelIdeal.sig) → Buf (Elt Ideal) ℓ) : Prop :=
  True

def Pre_EmbGradReferenceIdeal (m : (ℓ : Loc Cert.EmbGradReferenceIdeal.nD Cert.EmbGradReferenceIdeal.τ Cert.EmbGradReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_GluGradKernel (m : (ℓ : Loc Cert.GluGradKernel.nD Cert.GluGradKernel.τ Cert.GluGradKernel.sig) → Buf (Elt Bits) ℓ) : Prop :=
  True

def Pre_GluGradKernelIdeal (m : (ℓ : Loc Cert.GluGradKernelIdeal.nD Cert.GluGradKernelIdeal.τ Cert.GluGradKernelIdeal.sig) → Buf (Elt Ideal) ℓ) : Prop :=
  True

def Pre_GluGradReferenceIdeal (m : (ℓ : Loc Cert.GluGradReferenceIdeal.nD Cert.GluGradReferenceIdeal.τ Cert.GluGradReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GluBwdKernel (m : (ℓ : Loc Cert.GluBwdKernel.nD Cert.GluBwdKernel.τ Cert.GluBwdKernel.sig) → Buf (Elt Bits) ℓ) : Prop :=
  True

def Pre_GluBwdKernelIdeal (m : (ℓ : Loc Cert.GluBwdKernelIdeal.nD Cert.GluBwdKernelIdeal.τ Cert.GluBwdKernelIdeal.sig) → Buf (Elt Ideal) ℓ) : Prop :=
  True

def Pre_GluBwdKernelIdeal_glu_finite [hPre_glu_finite : Cert.Pre_glu_finite.Facts] (m : (ℓ : Loc Cert.GluBwdKernelIdeal.nD Cert.GluBwdKernelIdeal.τ Cert.GluBwdKernelIdeal.sig) → Buf (Elt Ideal) ℓ) : Prop :=
  ∀ c : Dev Cert.GluBwdKernelIdeal.nD,
    (Cert.Pre_glu_finite.fn (F := Ideal) (m ((c.tc : Thread Cert.GluBwdKernelIdeal.nD Cert.GluBwdKernelIdeal.τ).loc Cert.GluBwdKernelIdeal.main_arg0)) (m ((c.tc : Thread Cert.GluBwdKernelIdeal.nD Cert.GluBwdKernelIdeal.τ).loc Cert.GluBwdKernelIdeal.main_arg1)) (m ((c.tc : Thread Cert.GluBwdKernelIdeal.nD Cert.GluBwdKernelIdeal.τ).loc Cert.GluBwdKernelIdeal.main_arg2)) (m ((c.tc : Thread Cert.GluBwdKernelIdeal.nD Cert.GluBwdKernelIdeal.τ).loc Cert.GluBwdKernelIdeal.main_arg3)) (m ((c.tc : Thread Cert.GluBwdKernelIdeal.nD Cert.GluBwdKernelIdeal.τ).loc Cert.GluBwdKernelIdeal.main_arg4))) = (fun _ => 1#1)

def Pre_GluBwdReferenceIdeal (m : (ℓ : Loc Cert.GluBwdReferenceIdeal.nD Cert.GluBwdReferenceIdeal.τ Cert.GluBwdReferenceIdeal.sig) → Buf (Elt Ideal) ℓ) : Prop :=
  True

def Pre_GluBwdReferenceIdeal_glu_finite [hPre_glu_finite : Cert.Pre_glu_finite.Facts] (m : (ℓ : Loc Cert.GluBwdReferenceIdeal.nD Cert.GluBwdReferenceIdeal.τ Cert.GluBwdReferenceIdeal.sig) → Buf (Elt Ideal) ℓ) : Prop :=
  ∀ c : Dev Cert.GluBwdReferenceIdeal.nD,
    (Cert.Pre_glu_finite.fn (F := Ideal) (m ((c.tc : Thread Cert.GluBwdReferenceIdeal.nD Cert.GluBwdReferenceIdeal.τ).loc Cert.GluBwdReferenceIdeal.main_arg0)) (m ((c.tc : Thread Cert.GluBwdReferenceIdeal.nD Cert.GluBwdReferenceIdeal.τ).loc Cert.GluBwdReferenceIdeal.main_arg1)) (m ((c.tc : Thread Cert.GluBwdReferenceIdeal.nD Cert.GluBwdReferenceIdeal.τ).loc Cert.GluBwdReferenceIdeal.main_arg2)) (m ((c.tc : Thread Cert.GluBwdReferenceIdeal.nD Cert.GluBwdReferenceIdeal.τ).loc Cert.GluBwdReferenceIdeal.main_arg3)) (m ((c.tc : Thread Cert.GluBwdReferenceIdeal.nD Cert.GluBwdReferenceIdeal.τ).loc Cert.GluBwdReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1)
      ∧ r.2.mem ((c.tc : Thread Cert.WgradKernel.nD Cert.WgradKernel.τ).loc Cert.WgradKernel.main_arg2) = m ((c.tc : Thread Cert.WgradKernel.nD Cert.WgradKernel.τ).loc Cert.WgradKernel.main_arg2)
      ∧ r.2.mem ((c.tc : Thread Cert.WgradKernel.nD Cert.WgradKernel.τ).loc Cert.WgradKernel.main_arg3) = m ((c.tc : Thread Cert.WgradKernel.nD Cert.WgradKernel.τ).loc Cert.WgradKernel.main_arg3)
      ∧ r.2.mem ((c.tc : Thread Cert.WgradKernel.nD Cert.WgradKernel.τ).loc Cert.WgradKernel.main_arg4) = m ((c.tc : Thread Cert.WgradKernel.nD Cert.WgradKernel.τ).loc Cert.WgradKernel.main_arg4))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
      ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2)
      ∧ r.2.mem ((c.tc : Thread Cert.WgradKernelIdeal.nD Cert.WgradKernelIdeal.τ).loc Cert.WgradKernelIdeal.main_arg3) = m ((c.tc : Thread Cert.WgradKernelIdeal.nD Cert.WgradKernelIdeal.τ).loc Cert.WgradKernelIdeal.main_arg3)
      ∧ r.2.mem ((c.tc : Thread Cert.WgradKernelIdeal.nD Cert.WgradKernelIdeal.τ).loc Cert.WgradKernelIdeal.main_arg4) = m ((c.tc : Thread Cert.WgradKernelIdeal.nD Cert.WgradKernelIdeal.τ).loc Cert.WgradKernelIdeal.main_arg4))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1)
      ∧ r.2.mem ((c.tc : Thread Cert.WgradReferenceIdeal.nD Cert.WgradReferenceIdeal.τ).loc Cert.WgradReferenceIdeal.main_arg2) = m ((c.tc : Thread Cert.WgradReferenceIdeal.nD Cert.WgradReferenceIdeal.τ).loc Cert.WgradReferenceIdeal.main_arg2)
      ∧ r.2.mem ((c.tc : Thread Cert.WgradReferenceIdeal.nD Cert.WgradReferenceIdeal.τ).loc Cert.WgradReferenceIdeal.main_arg3) = m ((c.tc : Thread Cert.WgradReferenceIdeal.nD Cert.WgradReferenceIdeal.τ).loc Cert.WgradReferenceIdeal.main_arg3)
      ∧ r.2.mem ((c.tc : Thread Cert.WgradReferenceIdeal.nD Cert.WgradReferenceIdeal.τ).loc Cert.WgradReferenceIdeal.main_arg4) = m ((c.tc : Thread Cert.WgradReferenceIdeal.nD Cert.WgradReferenceIdeal.τ).loc Cert.WgradReferenceIdeal.main_arg4))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1)
      ∧ r.2.mem ((c.tc : Thread Cert.DactKernel.nD Cert.DactKernel.τ).loc Cert.DactKernel.main_arg2) = m ((c.tc : Thread Cert.DactKernel.nD Cert.DactKernel.τ).loc Cert.DactKernel.main_arg2)
      ∧ r.2.mem ((c.tc : Thread Cert.DactKernel.nD Cert.DactKernel.τ).loc Cert.DactKernel.main_arg3) = m ((c.tc : Thread Cert.DactKernel.nD Cert.DactKernel.τ).loc Cert.DactKernel.main_arg3))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
      ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ r.2.sem = fun _ => 0)

def quiescent_DactKernelIdeal_pre_dact_finite [hDactKernelIdeal : Cert.DactKernelIdeal.Facts] [hPre_dact_finite : Cert.Pre_dact_finite.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal_dact_finite m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
      ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
      ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_DactReferenceIdeal_pre_dact_finite [hDactReferenceIdeal : Cert.DactReferenceIdeal.Facts] [hPre_dact_finite : Cert.Pre_dact_finite.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal_dact_finite m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4)
      ∧ r.2.mem ((c.tc : Thread Cert.DxKernel.nD Cert.DxKernel.τ).loc Cert.DxKernel.main_arg5) = m ((c.tc : Thread Cert.DxKernel.nD Cert.DxKernel.τ).loc Cert.DxKernel.main_arg5)
      ∧ r.2.mem ((c.tc : Thread Cert.DxKernel.nD Cert.DxKernel.τ).loc Cert.DxKernel.main_arg6) = m ((c.tc : Thread Cert.DxKernel.nD Cert.DxKernel.τ).loc Cert.DxKernel.main_arg6))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
      ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
      ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_MixDxKernel [hMixDxKernel : Cert.MixDxKernel.Facts] : Prop :=
  ∀ (m : (ℓ : Loc Cert.MixDxKernel.nD Cert.MixDxKernel.τ Cert.MixDxKernel.sig) → Buf (Elt Bits) ℓ) (g : Dev Cert.MixDxKernel.nD → PrngReg), Pre_MixDxKernel m →
    θ_run (Cert.MixDxKernel.defs (F := Bits)) (onTc (τ := Cert.MixDxKernel.τ) (Cert.MixDxKernel.main (F := Bits))) ⟨m, fun _ => 0, g⟩ (fun r => (∀ c : Dev Cert.MixDxKernel.nD,
      r.2.mem ((c.tc : Thread Cert.MixDxKernel.nD Cert.MixDxKernel.τ).loc Cert.MixDxKernel.main_arg0) = m ((c.tc : Thread Cert.MixDxKernel.nD Cert.MixDxKernel.τ).loc Cert.MixDxKernel.main_arg0)
      ∧ r.2.mem ((c.tc : Thread Cert.MixDxKernel.nD Cert.MixDxKernel.τ).loc Cert.MixDxKernel.main_arg1) = m ((c.tc : Thread Cert.MixDxKernel.nD Cert.MixDxKernel.τ).loc Cert.MixDxKernel.main_arg1)
      ∧ r.2.mem ((c.tc : Thread Cert.MixDxKernel.nD Cert.MixDxKernel.τ).loc Cert.MixDxKernel.main_arg2) = m ((c.tc : Thread Cert.MixDxKernel.nD Cert.MixDxKernel.τ).loc Cert.MixDxKernel.main_arg2)
      ∧ r.2.mem ((c.tc : Thread Cert.MixDxKernel.nD Cert.MixDxKernel.τ).loc Cert.MixDxKernel.main_arg3) = m ((c.tc : Thread Cert.MixDxKernel.nD Cert.MixDxKernel.τ).loc Cert.MixDxKernel.main_arg3)
      ∧ r.2.mem ((c.tc : Thread Cert.MixDxKernel.nD Cert.MixDxKernel.τ).loc Cert.MixDxKernel.main_arg4) = m ((c.tc : Thread Cert.MixDxKernel.nD Cert.MixDxKernel.τ).loc Cert.MixDxKernel.main_arg4))
      ∧ r.2.sem = fun _ => 0)

def quiescent_MixDxKernelIdeal [hMixDxKernelIdeal : Cert.MixDxKernelIdeal.Facts] : Prop :=
  ∀ (m : (ℓ : Loc Cert.MixDxKernelIdeal.nD Cert.MixDxKernelIdeal.τ Cert.MixDxKernelIdeal.sig) → Buf (Elt Ideal) ℓ) (g : Dev Cert.MixDxKernelIdeal.nD → PrngReg), Pre_MixDxKernelIdeal m →
    θ_run (Cert.MixDxKernelIdeal.defs (F := Ideal)) (onTc (τ := Cert.MixDxKernelIdeal.τ) (Cert.MixDxKernelIdeal.main (F := Ideal))) ⟨m, fun _ => 0, g⟩ (fun r => (∀ c : Dev Cert.MixDxKernelIdeal.nD,
      r.2.mem ((c.tc : Thread Cert.MixDxKernelIdeal.nD Cert.MixDxKernelIdeal.τ).loc Cert.MixDxKernelIdeal.main_arg0) = m ((c.tc : Thread Cert.MixDxKernelIdeal.nD Cert.MixDxKernelIdeal.τ).loc Cert.MixDxKernelIdeal.main_arg0)
      ∧ r.2.mem ((c.tc : Thread Cert.MixDxKernelIdeal.nD Cert.MixDxKernelIdeal.τ).loc Cert.MixDxKernelIdeal.main_arg1) = m ((c.tc : Thread Cert.MixDxKernelIdeal.nD Cert.MixDxKernelIdeal.τ).loc Cert.MixDxKernelIdeal.main_arg1)
      ∧ r.2.mem ((c.tc : Thread Cert.MixDxKernelIdeal.nD Cert.MixDxKernelIdeal.τ).loc Cert.MixDxKernelIdeal.main_arg2) = m ((c.tc : Thread Cert.MixDxKernelIdeal.nD Cert.MixDxKernelIdeal.τ).loc Cert.MixDxKernelIdeal.main_arg2)
      ∧ r.2.mem ((c.tc : Thread Cert.MixDxKernelIdeal.nD Cert.MixDxKernelIdeal.τ).loc Cert.MixDxKernelIdeal.main_arg3) = m ((c.tc : Thread Cert.MixDxKernelIdeal.nD Cert.MixDxKernelIdeal.τ).loc Cert.MixDxKernelIdeal.main_arg3)
      ∧ r.2.mem ((c.tc : Thread Cert.MixDxKernelIdeal.nD Cert.MixDxKernelIdeal.τ).loc Cert.MixDxKernelIdeal.main_arg4) = m ((c.tc : Thread Cert.MixDxKernelIdeal.nD Cert.MixDxKernelIdeal.τ).loc Cert.MixDxKernelIdeal.main_arg4))
      ∧ r.2.sem = fun _ => 0)

def quiescent_MixDxReferenceIdeal [hMixDxReferenceIdeal : Cert.MixDxReferenceIdeal.Facts] : Prop :=
  ∀ (m : (ℓ : Loc Cert.MixDxReferenceIdeal.nD Cert.MixDxReferenceIdeal.τ Cert.MixDxReferenceIdeal.sig) → Buf (Elt Ideal) ℓ) (g : Dev Cert.MixDxReferenceIdeal.nD → PrngReg), Pre_MixDxReferenceIdeal m →
    θ_run (Cert.MixDxReferenceIdeal.defs (F := Ideal)) (onTc (τ := Cert.MixDxReferenceIdeal.τ) (Cert.MixDxReferenceIdeal.main (F := Ideal))) ⟨m, fun _ => 0, g⟩ (fun r => (∀ c : Dev Cert.MixDxReferenceIdeal.nD,
      r.2.mem ((c.tc : Thread Cert.MixDxReferenceIdeal.nD Cert.MixDxReferenceIdeal.τ).loc Cert.MixDxReferenceIdeal.main_arg0) = m ((c.tc : Thread Cert.MixDxReferenceIdeal.nD Cert.MixDxReferenceIdeal.τ).loc Cert.MixDxReferenceIdeal.main_arg0)
      ∧ r.2.mem ((c.tc : Thread Cert.MixDxReferenceIdeal.nD Cert.MixDxReferenceIdeal.τ).loc Cert.MixDxReferenceIdeal.main_arg1) = m ((c.tc : Thread Cert.MixDxReferenceIdeal.nD Cert.MixDxReferenceIdeal.τ).loc Cert.MixDxReferenceIdeal.main_arg1)
      ∧ r.2.mem ((c.tc : Thread Cert.MixDxReferenceIdeal.nD Cert.MixDxReferenceIdeal.τ).loc Cert.MixDxReferenceIdeal.main_arg2) = m ((c.tc : Thread Cert.MixDxReferenceIdeal.nD Cert.MixDxReferenceIdeal.τ).loc Cert.MixDxReferenceIdeal.main_arg2)
      ∧ r.2.mem ((c.tc : Thread Cert.MixDxReferenceIdeal.nD Cert.MixDxReferenceIdeal.τ).loc Cert.MixDxReferenceIdeal.main_arg3) = m ((c.tc : Thread Cert.MixDxReferenceIdeal.nD Cert.MixDxReferenceIdeal.τ).loc Cert.MixDxReferenceIdeal.main_arg3)
      ∧ r.2.mem ((c.tc : Thread Cert.MixDxReferenceIdeal.nD Cert.MixDxReferenceIdeal.τ).loc Cert.MixDxReferenceIdeal.main_arg4) = m ((c.tc : Thread Cert.MixDxReferenceIdeal.nD Cert.MixDxReferenceIdeal.τ).loc Cert.MixDxReferenceIdeal.main_arg4))
      ∧ r.2.sem = fun _ => 0)

def quiescent_WinGradKernel [hWinGradKernel : Cert.WinGradKernel.Facts] : Prop :=
  ∀ (m : (ℓ : Loc Cert.WinGradKernel.nD Cert.WinGradKernel.τ Cert.WinGradKernel.sig) → Buf (Elt Bits) ℓ) (g : Dev Cert.WinGradKernel.nD → PrngReg), Pre_WinGradKernel m →
    θ_run (Cert.WinGradKernel.defs (F := Bits)) (onTc (τ := Cert.WinGradKernel.τ) (Cert.WinGradKernel.main (F := Bits))) ⟨m, fun _ => 0, g⟩ (fun r => (∀ c : Dev Cert.WinGradKernel.nD,
      r.2.mem ((c.tc : Thread Cert.WinGradKernel.nD Cert.WinGradKernel.τ).loc Cert.WinGradKernel.main_arg0) = m ((c.tc : Thread Cert.WinGradKernel.nD Cert.WinGradKernel.τ).loc Cert.WinGradKernel.main_arg0)
      ∧ r.2.mem ((c.tc : Thread Cert.WinGradKernel.nD Cert.WinGradKernel.τ).loc Cert.WinGradKernel.main_arg1) = m ((c.tc : Thread Cert.WinGradKernel.nD Cert.WinGradKernel.τ).loc Cert.WinGradKernel.main_arg1))
      ∧ r.2.sem = fun _ => 0)

def quiescent_WinGradKernelIdeal [hWinGradKernelIdeal : Cert.WinGradKernelIdeal.Facts] : Prop :=
  ∀ (m : (ℓ : Loc Cert.WinGradKernelIdeal.nD Cert.WinGradKernelIdeal.τ Cert.WinGradKernelIdeal.sig) → Buf (Elt Ideal) ℓ) (g : Dev Cert.WinGradKernelIdeal.nD → PrngReg), Pre_WinGradKernelIdeal m →
    θ_run (Cert.WinGradKernelIdeal.defs (F := Ideal)) (onTc (τ := Cert.WinGradKernelIdeal.τ) (Cert.WinGradKernelIdeal.main (F := Ideal))) ⟨m, fun _ => 0, g⟩ (fun r => (∀ c : Dev Cert.WinGradKernelIdeal.nD,
      r.2.mem ((c.tc : Thread Cert.WinGradKernelIdeal.nD Cert.WinGradKernelIdeal.τ).loc Cert.WinGradKernelIdeal.main_arg0) = m ((c.tc : Thread Cert.WinGradKernelIdeal.nD Cert.WinGradKernelIdeal.τ).loc Cert.WinGradKernelIdeal.main_arg0)
      ∧ r.2.mem ((c.tc : Thread Cert.WinGradKernelIdeal.nD Cert.WinGradKernelIdeal.τ).loc Cert.WinGradKernelIdeal.main_arg1) = m ((c.tc : Thread Cert.WinGradKernelIdeal.nD Cert.WinGradKernelIdeal.τ).loc Cert.WinGradKernelIdeal.main_arg1))
      ∧ r.2.sem = fun _ => 0)

def quiescent_WinGradReferenceIdeal [hWinGradReferenceIdeal : Cert.WinGradReferenceIdeal.Facts] : Prop :=
  ∀ (m : (ℓ : Loc Cert.WinGradReferenceIdeal.nD Cert.WinGradReferenceIdeal.τ Cert.WinGradReferenceIdeal.sig) → Buf (Elt Ideal) ℓ) (g : Dev Cert.WinGradReferenceIdeal.nD → PrngReg), Pre_WinGradReferenceIdeal m →
    θ_run (Cert.WinGradReferenceIdeal.defs (F := Ideal)) (onTc (τ := Cert.WinGradReferenceIdeal.τ) (Cert.WinGradReferenceIdeal.main (F := Ideal))) ⟨m, fun _ => 0, g⟩ (fun r => (∀ c : Dev Cert.WinGradReferenceIdeal.nD,
      r.2.mem ((c.tc : Thread Cert.WinGradReferenceIdeal.nD Cert.WinGradReferenceIdeal.τ).loc Cert.WinGradReferenceIdeal.main_arg0) = m ((c.tc : Thread Cert.WinGradReferenceIdeal.nD Cert.WinGradReferenceIdeal.τ).loc Cert.WinGradReferenceIdeal.main_arg0)
      ∧ r.2.mem ((c.tc : Thread Cert.WinGradReferenceIdeal.nD Cert.WinGradReferenceIdeal.τ).loc Cert.WinGradReferenceIdeal.main_arg1) = m ((c.tc : Thread Cert.WinGradReferenceIdeal.nD Cert.WinGradReferenceIdeal.τ).loc Cert.WinGradReferenceIdeal.main_arg1))
      ∧ r.2.sem = fun _ => 0)

def quiescent_OutDactKernel [hOutDactKernel : Cert.OutDactKernel.Facts] : Prop :=
  ∀ (m : (ℓ : Loc Cert.OutDactKernel.nD Cert.OutDactKernel.τ Cert.OutDactKernel.sig) → Buf (Elt Bits) ℓ) (g : Dev Cert.OutDactKernel.nD → PrngReg), Pre_OutDactKernel m →
    θ_run (Cert.OutDactKernel.defs (F := Bits)) (onTc (τ := Cert.OutDactKernel.τ) (Cert.OutDactKernel.main (F := Bits))) ⟨m, fun _ => 0, g⟩ (fun r => (∀ c : Dev Cert.OutDactKernel.nD,
      r.2.mem ((c.tc : Thread Cert.OutDactKernel.nD Cert.OutDactKernel.τ).loc Cert.OutDactKernel.main_arg0) = m ((c.tc : Thread Cert.OutDactKernel.nD Cert.OutDactKernel.τ).loc Cert.OutDactKernel.main_arg0)
      ∧ r.2.mem ((c.tc : Thread Cert.OutDactKernel.nD Cert.OutDactKernel.τ).loc Cert.OutDactKernel.main_arg1) = m ((c.tc : Thread Cert.OutDactKernel.nD Cert.OutDactKernel.τ).loc Cert.OutDactKernel.main_arg1))
      ∧ r.2.sem = fun _ => 0)

def quiescent_OutDactKernelIdeal [hOutDactKernelIdeal : Cert.OutDactKernelIdeal.Facts] : Prop :=
  ∀ (m : (ℓ : Loc Cert.OutDactKernelIdeal.nD Cert.OutDactKernelIdeal.τ Cert.OutDactKernelIdeal.sig) → Buf (Elt Ideal) ℓ) (g : Dev Cert.OutDactKernelIdeal.nD → PrngReg), Pre_OutDactKernelIdeal m →
    θ_run (Cert.OutDactKernelIdeal.defs (F := Ideal)) (onTc (τ := Cert.OutDactKernelIdeal.τ) (Cert.OutDactKernelIdeal.main (F := Ideal))) ⟨m, fun _ => 0, g⟩ (fun r => (∀ c : Dev Cert.OutDactKernelIdeal.nD,
      r.2.mem ((c.tc : Thread Cert.OutDactKernelIdeal.nD Cert.OutDactKernelIdeal.τ).loc Cert.OutDactKernelIdeal.main_arg0) = m ((c.tc : Thread Cert.OutDactKernelIdeal.nD Cert.OutDactKernelIdeal.τ).loc Cert.OutDactKernelIdeal.main_arg0)
      ∧ r.2.mem ((c.tc : Thread Cert.OutDactKernelIdeal.nD Cert.OutDactKernelIdeal.τ).loc Cert.OutDactKernelIdeal.main_arg1) = m ((c.tc : Thread Cert.OutDactKernelIdeal.nD Cert.OutDactKernelIdeal.τ).loc Cert.OutDactKernelIdeal.main_arg1))
      ∧ r.2.sem = fun _ => 0)

def quiescent_OutDactReferenceIdeal [hOutDactReferenceIdeal : Cert.OutDactReferenceIdeal.Facts] : Prop :=
  ∀ (m : (ℓ : Loc Cert.OutDactReferenceIdeal.nD Cert.OutDactReferenceIdeal.τ Cert.OutDactReferenceIdeal.sig) → Buf (Elt Ideal) ℓ) (g : Dev Cert.OutDactReferenceIdeal.nD → PrngReg), Pre_OutDactReferenceIdeal m →
    θ_run (Cert.OutDactReferenceIdeal.defs (F := Ideal)) (onTc (τ := Cert.OutDactReferenceIdeal.τ) (Cert.OutDactReferenceIdeal.main (F := Ideal))) ⟨m, fun _ => 0, g⟩ (fun r => (∀ c : Dev Cert.OutDactReferenceIdeal.nD,
      r.2.mem ((c.tc : Thread Cert.OutDactReferenceIdeal.nD Cert.OutDactReferenceIdeal.τ).loc Cert.OutDactReferenceIdeal.main_arg0) = m ((c.tc : Thread Cert.OutDactReferenceIdeal.nD Cert.OutDactReferenceIdeal.τ).loc Cert.OutDactReferenceIdeal.main_arg0)
      ∧ r.2.mem ((c.tc : Thread Cert.OutDactReferenceIdeal.nD Cert.OutDactReferenceIdeal.τ).loc Cert.OutDactReferenceIdeal.main_arg1) = m ((c.tc : Thread Cert.OutDactReferenceIdeal.nD Cert.OutDactReferenceIdeal.τ).loc Cert.OutDactReferenceIdeal.main_arg1))
      ∧ r.2.sem = fun _ => 0)

def quiescent_OutGradKernel [hOutGradKernel : Cert.OutGradKernel.Facts] : Prop :=
  ∀ (m : (ℓ : Loc Cert.OutGradKernel.nD Cert.OutGradKernel.τ Cert.OutGradKernel.sig) → Buf (Elt Bits) ℓ) (g : Dev Cert.OutGradKernel.nD → PrngReg), Pre_OutGradKernel m →
    θ_run (Cert.OutGradKernel.defs (F := Bits)) (onTc (τ := Cert.OutGradKernel.τ) (Cert.OutGradKernel.main (F := Bits))) ⟨m, fun _ => 0, g⟩ (fun r => (∀ c : Dev Cert.OutGradKernel.nD,
      r.2.mem ((c.tc : Thread Cert.OutGradKernel.nD Cert.OutGradKernel.τ).loc Cert.OutGradKernel.main_arg0) = m ((c.tc : Thread Cert.OutGradKernel.nD Cert.OutGradKernel.τ).loc Cert.OutGradKernel.main_arg0)
      ∧ r.2.mem ((c.tc : Thread Cert.OutGradKernel.nD Cert.OutGradKernel.τ).loc Cert.OutGradKernel.main_arg1) = m ((c.tc : Thread Cert.OutGradKernel.nD Cert.OutGradKernel.τ).loc Cert.OutGradKernel.main_arg1))
      ∧ r.2.sem = fun _ => 0)

def quiescent_OutGradKernelIdeal [hOutGradKernelIdeal : Cert.OutGradKernelIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg), Pre_OutGradKernelIdeal m →
    θ_run (Cert.OutGradKernelIdeal.defs (F := Ideal)) (onTc (τ := Cert.OutGradKernelIdeal.τ) (Cert.OutGradKernelIdeal.main (F := Ideal))) ⟨m, fun _ => 0, g⟩ (fun r => (∀ c : Dev Cert.OutGradKernelIdeal.nD,
      r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
      ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_PleBwdKernel [hPleBwdKernel : Cert.PleBwdKernel.Facts] : Prop :=
  ∀ (m : (ℓ : Loc Cert.PleBwdKernel.nD Cert.PleBwdKernel.τ Cert.PleBwdKernel.sig) → Buf (Elt Bits) ℓ) (g : Dev Cert.PleBwdKernel.nD → PrngReg), Pre_PleBwdKernel m →
    θ_run (Cert.PleBwdKernel.defs (F := Bits)) (onTc (τ := Cert.PleBwdKernel.τ) (Cert.PleBwdKernel.main (F := Bits))) ⟨m, fun _ => 0, g⟩ (fun r => (∀ c : Dev Cert.PleBwdKernel.nD,
      r.2.mem ((c.tc : Thread Cert.PleBwdKernel.nD Cert.PleBwdKernel.τ).loc Cert.PleBwdKernel.main_arg0) = m ((c.tc : Thread Cert.PleBwdKernel.nD Cert.PleBwdKernel.τ).loc Cert.PleBwdKernel.main_arg0)
      ∧ r.2.mem ((c.tc : Thread Cert.PleBwdKernel.nD Cert.PleBwdKernel.τ).loc Cert.PleBwdKernel.main_arg1) = m ((c.tc : Thread Cert.PleBwdKernel.nD Cert.PleBwdKernel.τ).loc Cert.PleBwdKernel.main_arg1)
      ∧ r.2.mem ((c.tc : Thread Cert.PleBwdKernel.nD Cert.PleBwdKernel.τ).loc Cert.PleBwdKernel.main_arg2) = m ((c.tc : Thread Cert.PleBwdKernel.nD Cert.PleBwdKernel.τ).loc Cert.PleBwdKernel.main_arg2)
      ∧ r.2.mem ((c.tc : Thread Cert.PleBwdKernel.nD Cert.PleBwdKernel.τ).loc Cert.PleBwdKernel.main_arg3) = m ((c.tc : Thread Cert.PleBwdKernel.nD Cert.PleBwdKernel.τ).loc Cert.PleBwdKernel.main_arg3)
      ∧ r.2.mem ((c.tc : Thread Cert.PleBwdKernel.nD Cert.PleBwdKernel.τ).loc Cert.PleBwdKernel.main_arg4) = m ((c.tc : Thread Cert.PleBwdKernel.nD Cert.PleBwdKernel.τ).loc Cert.PleBwdKernel.main_arg4))
      ∧ r.2.sem = fun _ => 0)

def quiescent_PleBwdKernelIdeal [hPleBwdKernelIdeal : Cert.PleBwdKernelIdeal.Facts] : Prop :=
  ∀ (m : (ℓ : Loc Cert.PleBwdKernelIdeal.nD Cert.PleBwdKernelIdeal.τ Cert.PleBwdKernelIdeal.sig) → Buf (Elt Ideal) ℓ) (g : Dev Cert.PleBwdKernelIdeal.nD → PrngReg), Pre_PleBwdKernelIdeal m →
    θ_run (Cert.PleBwdKernelIdeal.defs (F := Ideal)) (onTc (τ := Cert.PleBwdKernelIdeal.τ) (Cert.PleBwdKernelIdeal.main (F := Ideal))) ⟨m, fun _ => 0, g⟩ (fun r => (∀ c : Dev Cert.PleBwdKernelIdeal.nD,
      r.2.mem ((c.tc : Thread Cert.PleBwdKernelIdeal.nD Cert.PleBwdKernelIdeal.τ).loc Cert.PleBwdKernelIdeal.main_arg0) = m ((c.tc : Thread Cert.PleBwdKernelIdeal.nD Cert.PleBwdKernelIdeal.τ).loc Cert.PleBwdKernelIdeal.main_arg0)
      ∧ r.2.mem ((c.tc : Thread Cert.PleBwdKernelIdeal.nD Cert.PleBwdKernelIdeal.τ).loc Cert.PleBwdKernelIdeal.main_arg1) = m ((c.tc : Thread Cert.PleBwdKernelIdeal.nD Cert.PleBwdKernelIdeal.τ).loc Cert.PleBwdKernelIdeal.main_arg1)
      ∧ r.2.mem ((c.tc : Thread Cert.PleBwdKernelIdeal.nD Cert.PleBwdKernelIdeal.τ).loc Cert.PleBwdKernelIdeal.main_arg2) = m ((c.tc : Thread Cert.PleBwdKernelIdeal.nD Cert.PleBwdKernelIdeal.τ).loc Cert.PleBwdKernelIdeal.main_arg2)
      ∧ r.2.mem ((c.tc : Thread Cert.PleBwdKernelIdeal.nD Cert.PleBwdKernelIdeal.τ).loc Cert.PleBwdKernelIdeal.main_arg3) = m ((c.tc : Thread Cert.PleBwdKernelIdeal.nD Cert.PleBwdKernelIdeal.τ).loc Cert.PleBwdKernelIdeal.main_arg3)
      ∧ r.2.mem ((c.tc : Thread Cert.PleBwdKernelIdeal.nD Cert.PleBwdKernelIdeal.τ).loc Cert.PleBwdKernelIdeal.main_arg4) = m ((c.tc : Thread Cert.PleBwdKernelIdeal.nD Cert.PleBwdKernelIdeal.τ).loc Cert.PleBwdKernelIdeal.main_arg4))
      ∧ r.2.sem = fun _ => 0)

def quiescent_PleBwdReferenceIdeal [hPleBwdReferenceIdeal : Cert.PleBwdReferenceIdeal.Facts] : Prop :=
  ∀ (m : (ℓ : Loc Cert.PleBwdReferenceIdeal.nD Cert.PleBwdReferenceIdeal.τ Cert.PleBwdReferenceIdeal.sig) → Buf (Elt Ideal) ℓ) (g : Dev Cert.PleBwdReferenceIdeal.nD → PrngReg), Pre_PleBwdReferenceIdeal m →
    θ_run (Cert.PleBwdReferenceIdeal.defs (F := Ideal)) (onTc (τ := Cert.PleBwdReferenceIdeal.τ) (Cert.PleBwdReferenceIdeal.main (F := Ideal))) ⟨m, fun _ => 0, g⟩ (fun r => (∀ c : Dev Cert.PleBwdReferenceIdeal.nD,
      r.2.mem ((c.tc : Thread Cert.PleBwdReferenceIdeal.nD Cert.PleBwdReferenceIdeal.τ).loc Cert.PleBwdReferenceIdeal.main_arg0) = m ((c.tc : Thread Cert.PleBwdReferenceIdeal.nD Cert.PleBwdReferenceIdeal.τ).loc Cert.PleBwdReferenceIdeal.main_arg0)
      ∧ r.2.mem ((c.tc : Thread Cert.PleBwdReferenceIdeal.nD Cert.PleBwdReferenceIdeal.τ).loc Cert.PleBwdReferenceIdeal.main_arg1) = m ((c.tc : Thread Cert.PleBwdReferenceIdeal.nD Cert.PleBwdReferenceIdeal.τ).loc Cert.PleBwdReferenceIdeal.main_arg1)
      ∧ r.2.mem ((c.tc : Thread Cert.PleBwdReferenceIdeal.nD Cert.PleBwdReferenceIdeal.τ).loc Cert.PleBwdReferenceIdeal.main_arg2) = m ((c.tc : Thread Cert.PleBwdReferenceIdeal.nD Cert.PleBwdReferenceIdeal.τ).loc Cert.PleBwdReferenceIdeal.main_arg2)
      ∧ r.2.mem ((c.tc : Thread Cert.PleBwdReferenceIdeal.nD Cert.PleBwdReferenceIdeal.τ).loc Cert.PleBwdReferenceIdeal.main_arg3) = m ((c.tc : Thread Cert.PleBwdReferenceIdeal.nD Cert.PleBwdReferenceIdeal.τ).loc Cert.PleBwdReferenceIdeal.main_arg3)
      ∧ r.2.mem ((c.tc : Thread Cert.PleBwdReferenceIdeal.nD Cert.PleBwdReferenceIdeal.τ).loc Cert.PleBwdReferenceIdeal.main_arg4) = m ((c.tc : Thread Cert.PleBwdReferenceIdeal.nD Cert.PleBwdReferenceIdeal.τ).loc Cert.PleBwdReferenceIdeal.main_arg4))
      ∧ r.2.sem = fun _ => 0)

def quiescent_PleDxKernel [hPleDxKernel : Cert.PleDxKernel.Facts] : Prop :=
  ∀ (m : (ℓ : Loc Cert.PleDxKernel.nD Cert.PleDxKernel.τ Cert.PleDxKernel.sig) → Buf (Elt Bits) ℓ) (g : Dev Cert.PleDxKernel.nD → PrngReg), Pre_PleDxKernel m →
    θ_run (Cert.PleDxKernel.defs (F := Bits)) (onTc (τ := Cert.PleDxKernel.τ) (Cert.PleDxKernel.main (F := Bits))) ⟨m, fun _ => 0, g⟩ (fun r => (∀ c : Dev Cert.PleDxKernel.nD,
      r.2.mem ((c.tc : Thread Cert.PleDxKernel.nD Cert.PleDxKernel.τ).loc Cert.PleDxKernel.main_arg0) = m ((c.tc : Thread Cert.PleDxKernel.nD Cert.PleDxKernel.τ).loc Cert.PleDxKernel.main_arg0)
      ∧ r.2.mem ((c.tc : Thread Cert.PleDxKernel.nD Cert.PleDxKernel.τ).loc Cert.PleDxKernel.main_arg1) = m ((c.tc : Thread Cert.PleDxKernel.nD Cert.PleDxKernel.τ).loc Cert.PleDxKernel.main_arg1)
      ∧ r.2.mem ((c.tc : Thread Cert.PleDxKernel.nD Cert.PleDxKernel.τ).loc Cert.PleDxKernel.main_arg2) = m ((c.tc : Thread Cert.PleDxKernel.nD Cert.PleDxKernel.τ).loc Cert.PleDxKernel.main_arg2)
      ∧ r.2.mem ((c.tc : Thread Cert.PleDxKernel.nD Cert.PleDxKernel.τ).loc Cert.PleDxKernel.main_arg3) = m ((c.tc : Thread Cert.PleDxKernel.nD Cert.PleDxKernel.τ).loc Cert.PleDxKernel.main_arg3)
      ∧ r.2.mem ((c.tc : Thread Cert.PleDxKernel.nD Cert.PleDxKernel.τ).loc Cert.PleDxKernel.main_arg4) = m ((c.tc : Thread Cert.PleDxKernel.nD Cert.PleDxKernel.τ).loc Cert.PleDxKernel.main_arg4))
      ∧ r.2.sem = fun _ => 0)

def quiescent_PleDxKernelIdeal [hPleDxKernelIdeal : Cert.PleDxKernelIdeal.Facts] : Prop :=
  ∀ (m : (ℓ : Loc Cert.PleDxKernelIdeal.nD Cert.PleDxKernelIdeal.τ Cert.PleDxKernelIdeal.sig) → Buf (Elt Ideal) ℓ) (g : Dev Cert.PleDxKernelIdeal.nD → PrngReg), Pre_PleDxKernelIdeal m →
    θ_run (Cert.PleDxKernelIdeal.defs (F := Ideal)) (onTc (τ := Cert.PleDxKernelIdeal.τ) (Cert.PleDxKernelIdeal.main (F := Ideal))) ⟨m, fun _ => 0, g⟩ (fun r => (∀ c : Dev Cert.PleDxKernelIdeal.nD,
      r.2.mem ((c.tc : Thread Cert.PleDxKernelIdeal.nD Cert.PleDxKernelIdeal.τ).loc Cert.PleDxKernelIdeal.main_arg0) = m ((c.tc : Thread Cert.PleDxKernelIdeal.nD Cert.PleDxKernelIdeal.τ).loc Cert.PleDxKernelIdeal.main_arg0)
      ∧ r.2.mem ((c.tc : Thread Cert.PleDxKernelIdeal.nD Cert.PleDxKernelIdeal.τ).loc Cert.PleDxKernelIdeal.main_arg1) = m ((c.tc : Thread Cert.PleDxKernelIdeal.nD Cert.PleDxKernelIdeal.τ).loc Cert.PleDxKernelIdeal.main_arg1)
      ∧ r.2.mem ((c.tc : Thread Cert.PleDxKernelIdeal.nD Cert.PleDxKernelIdeal.τ).loc Cert.PleDxKernelIdeal.main_arg2) = m ((c.tc : Thread Cert.PleDxKernelIdeal.nD Cert.PleDxKernelIdeal.τ).loc Cert.PleDxKernelIdeal.main_arg2)
      ∧ r.2.mem ((c.tc : Thread Cert.PleDxKernelIdeal.nD Cert.PleDxKernelIdeal.τ).loc Cert.PleDxKernelIdeal.main_arg3) = m ((c.tc : Thread Cert.PleDxKernelIdeal.nD Cert.PleDxKernelIdeal.τ).loc Cert.PleDxKernelIdeal.main_arg3)
      ∧ r.2.mem ((c.tc : Thread Cert.PleDxKernelIdeal.nD Cert.PleDxKernelIdeal.τ).loc Cert.PleDxKernelIdeal.main_arg4) = m ((c.tc : Thread Cert.PleDxKernelIdeal.nD Cert.PleDxKernelIdeal.τ).loc Cert.PleDxKernelIdeal.main_arg4))
      ∧ r.2.sem = fun _ => 0)

def quiescent_PleDxReferenceIdeal [hPleDxReferenceIdeal : Cert.PleDxReferenceIdeal.Facts] : Prop :=
  ∀ (m : (ℓ : Loc Cert.PleDxReferenceIdeal.nD Cert.PleDxReferenceIdeal.τ Cert.PleDxReferenceIdeal.sig) → Buf (Elt Ideal) ℓ) (g : Dev Cert.PleDxReferenceIdeal.nD → PrngReg), Pre_PleDxReferenceIdeal m →
    θ_run (Cert.PleDxReferenceIdeal.defs (F := Ideal)) (onTc (τ := Cert.PleDxReferenceIdeal.τ) (Cert.PleDxReferenceIdeal.main (F := Ideal))) ⟨m, fun _ => 0, g⟩ (fun r => (∀ c : Dev Cert.PleDxReferenceIdeal.nD,
      r.2.mem ((c.tc : Thread Cert.PleDxReferenceIdeal.nD Cert.PleDxReferenceIdeal.τ).loc Cert.PleDxReferenceIdeal.main_arg0) = m ((c.tc : Thread Cert.PleDxReferenceIdeal.nD Cert.PleDxReferenceIdeal.τ).loc Cert.PleDxReferenceIdeal.main_arg0)
      ∧ r.2.mem ((c.tc : Thread Cert.PleDxReferenceIdeal.nD Cert.PleDxReferenceIdeal.τ).loc Cert.PleDxReferenceIdeal.main_arg1) = m ((c.tc : Thread Cert.PleDxReferenceIdeal.nD Cert.PleDxReferenceIdeal.τ).loc Cert.PleDxReferenceIdeal.main_arg1)
      ∧ r.2.mem ((c.tc : Thread Cert.PleDxReferenceIdeal.nD Cert.PleDxReferenceIdeal.τ).loc Cert.PleDxReferenceIdeal.main_arg2) = m ((c.tc : Thread Cert.PleDxReferenceIdeal.nD Cert.PleDxReferenceIdeal.τ).loc Cert.PleDxReferenceIdeal.main_arg2)
      ∧ r.2.mem ((c.tc : Thread Cert.PleDxReferenceIdeal.nD Cert.PleDxReferenceIdeal.τ).loc Cert.PleDxReferenceIdeal.main_arg3) = m ((c.tc : Thread Cert.PleDxReferenceIdeal.nD Cert.PleDxReferenceIdeal.τ).loc Cert.PleDxReferenceIdeal.main_arg3)
      ∧ r.2.mem ((c.tc : Thread Cert.PleDxReferenceIdeal.nD Cert.PleDxReferenceIdeal.τ).loc Cert.PleDxReferenceIdeal.main_arg4) = m ((c.tc : Thread Cert.PleDxReferenceIdeal.nD Cert.PleDxReferenceIdeal.τ).loc Cert.PleDxReferenceIdeal.main_arg4))
      ∧ r.2.sem = fun _ => 0)

def quiescent_GateGradKernel [hGateGradKernel : Cert.GateGradKernel.Facts] : Prop :=
  ∀ (m : (ℓ : Loc Cert.GateGradKernel.nD Cert.GateGradKernel.τ Cert.GateGradKernel.sig) → Buf (Elt Bits) ℓ) (g : Dev Cert.GateGradKernel.nD → PrngReg), Pre_GateGradKernel m →
    θ_run (Cert.GateGradKernel.defs (F := Bits)) (onTc (τ := Cert.GateGradKernel.τ) (Cert.GateGradKernel.main (F := Bits))) ⟨m, fun _ => 0, g⟩ (fun r => (∀ c : Dev Cert.GateGradKernel.nD,
      r.2.mem ((c.tc : Thread Cert.GateGradKernel.nD Cert.GateGradKernel.τ).loc Cert.GateGradKernel.main_arg0) = m ((c.tc : Thread Cert.GateGradKernel.nD Cert.GateGradKernel.τ).loc Cert.GateGradKernel.main_arg0)
      ∧ r.2.mem ((c.tc : Thread Cert.GateGradKernel.nD Cert.GateGradKernel.τ).loc Cert.GateGradKernel.main_arg1) = m ((c.tc : Thread Cert.GateGradKernel.nD Cert.GateGradKernel.τ).loc Cert.GateGradKernel.main_arg1))
      ∧ r.2.sem = fun _ => 0)

def quiescent_GateGradKernelIdeal [hGateGradKernelIdeal : Cert.GateGradKernelIdeal.Facts] : Prop :=
  ∀ (m : (ℓ : Loc Cert.GateGradKernelIdeal.nD Cert.GateGradKernelIdeal.τ Cert.GateGradKernelIdeal.sig) → Buf (Elt Ideal) ℓ) (g : Dev Cert.GateGradKernelIdeal.nD → PrngReg), Pre_GateGradKernelIdeal m →
    θ_run (Cert.GateGradKernelIdeal.defs (F := Ideal)) (onTc (τ := Cert.GateGradKernelIdeal.τ) (Cert.GateGradKernelIdeal.main (F := Ideal))) ⟨m, fun _ => 0, g⟩ (fun r => (∀ c : Dev Cert.GateGradKernelIdeal.nD,
      r.2.mem ((c.tc : Thread Cert.GateGradKernelIdeal.nD Cert.GateGradKernelIdeal.τ).loc Cert.GateGradKernelIdeal.main_arg0) = m ((c.tc : Thread Cert.GateGradKernelIdeal.nD Cert.GateGradKernelIdeal.τ).loc Cert.GateGradKernelIdeal.main_arg0)
      ∧ r.2.mem ((c.tc : Thread Cert.GateGradKernelIdeal.nD Cert.GateGradKernelIdeal.τ).loc Cert.GateGradKernelIdeal.main_arg1) = m ((c.tc : Thread Cert.GateGradKernelIdeal.nD Cert.GateGradKernelIdeal.τ).loc Cert.GateGradKernelIdeal.main_arg1))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1))
      ∧ r.2.sem = fun _ => 0)

def quiescent_EmbGradKernel [hEmbGradKernel : Cert.EmbGradKernel.Facts] : Prop :=
  ∀ (m : (ℓ : Loc Cert.EmbGradKernel.nD Cert.EmbGradKernel.τ Cert.EmbGradKernel.sig) → Buf (Elt Bits) ℓ) (g : Dev Cert.EmbGradKernel.nD → PrngReg), Pre_EmbGradKernel m →
    θ_run (Cert.EmbGradKernel.defs (F := Bits)) (onTc (τ := Cert.EmbGradKernel.τ) (Cert.EmbGradKernel.main (F := Bits))) ⟨m, fun _ => 0, g⟩ (fun r => (∀ c : Dev Cert.EmbGradKernel.nD,
      r.2.mem ((c.tc : Thread Cert.EmbGradKernel.nD Cert.EmbGradKernel.τ).loc Cert.EmbGradKernel.main_arg0) = m ((c.tc : Thread Cert.EmbGradKernel.nD Cert.EmbGradKernel.τ).loc Cert.EmbGradKernel.main_arg0)
      ∧ r.2.mem ((c.tc : Thread Cert.EmbGradKernel.nD Cert.EmbGradKernel.τ).loc Cert.EmbGradKernel.main_arg1) = m ((c.tc : Thread Cert.EmbGradKernel.nD Cert.EmbGradKernel.τ).loc Cert.EmbGradKernel.main_arg1))
      ∧ r.2.sem = fun _ => 0)

def quiescent_EmbGradKernelIdeal [hEmbGradKernelIdeal : Cert.EmbGradKernelIdeal.Facts] : Prop :=
  ∀ (m : (ℓ : Loc Cert.EmbGradKernelIdeal.nD Cert.EmbGradKernelIdeal.τ Cert.EmbGradKernelIdeal.sig) → Buf (Elt Ideal) ℓ) (g : Dev Cert.EmbGradKernelIdeal.nD → PrngReg), Pre_EmbGradKernelIdeal m →
    θ_run (Cert.EmbGradKernelIdeal.defs (F := Ideal)) (onTc (τ := Cert.EmbGradKernelIdeal.τ) (Cert.EmbGradKernelIdeal.main (F := Ideal))) ⟨m, fun _ => 0, g⟩ (fun r => (∀ c : Dev Cert.EmbGradKernelIdeal.nD,
      r.2.mem ((c.tc : Thread Cert.EmbGradKernelIdeal.nD Cert.EmbGradKernelIdeal.τ).loc Cert.EmbGradKernelIdeal.main_arg0) = m ((c.tc : Thread Cert.EmbGradKernelIdeal.nD Cert.EmbGradKernelIdeal.τ).loc Cert.EmbGradKernelIdeal.main_arg0)
      ∧ r.2.mem ((c.tc : Thread Cert.EmbGradKernelIdeal.nD Cert.EmbGradKernelIdeal.τ).loc Cert.EmbGradKernelIdeal.main_arg1) = m ((c.tc : Thread Cert.EmbGradKernelIdeal.nD Cert.EmbGradKernelIdeal.τ).loc Cert.EmbGradKernelIdeal.main_arg1))
      ∧ r.2.sem = fun _ => 0)

def quiescent_EmbGradReferenceIdeal [hEmbGradReferenceIdeal : Cert.EmbGradReferenceIdeal.Facts] : Prop :=
  ∀ (m : (ℓ : Loc Cert.EmbGradReferenceIdeal.nD Cert.EmbGradReferenceIdeal.τ Cert.EmbGradReferenceIdeal.sig) → Buf (Elt Ideal) ℓ) (g : Dev Cert.EmbGradReferenceIdeal.nD → PrngReg), Pre_EmbGradReferenceIdeal m →
    θ_run (Cert.EmbGradReferenceIdeal.defs (F := Ideal)) (onTc (τ := Cert.EmbGradReferenceIdeal.τ) (Cert.EmbGradReferenceIdeal.main (F := Ideal))) ⟨m, fun _ => 0, g⟩ (fun r => (∀ c : Dev Cert.EmbGradReferenceIdeal.nD,
      r.2.mem ((c.tc : Thread Cert.EmbGradReferenceIdeal.nD Cert.EmbGradReferenceIdeal.τ).loc Cert.EmbGradReferenceIdeal.main_arg0) = m ((c.tc : Thread Cert.EmbGradReferenceIdeal.nD Cert.EmbGradReferenceIdeal.τ).loc Cert.EmbGradReferenceIdeal.main_arg0)
      ∧ r.2.mem ((c.tc : Thread Cert.EmbGradReferenceIdeal.nD Cert.EmbGradReferenceIdeal.τ).loc Cert.EmbGradReferenceIdeal.main_arg1) = m ((c.tc : Thread Cert.EmbGradReferenceIdeal.nD Cert.EmbGradReferenceIdeal.τ).loc Cert.EmbGradReferenceIdeal.main_arg1))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0)

def quiescent_GluGradKernel [hGluGradKernel : Cert.GluGradKernel.Facts] : Prop :=
  ∀ (m : (ℓ : Loc Cert.GluGradKernel.nD Cert.GluGradKernel.τ Cert.GluGradKernel.sig) → Buf (Elt Bits) ℓ) (g : Dev Cert.GluGradKernel.nD → PrngReg), Pre_GluGradKernel m →
    θ_run (Cert.GluGradKernel.defs (F := Bits)) (onTc (τ := Cert.GluGradKernel.τ) (Cert.GluGradKernel.main (F := Bits))) ⟨m, fun _ => 0, g⟩ (fun r => (∀ c : Dev Cert.GluGradKernel.nD,
      r.2.mem ((c.tc : Thread Cert.GluGradKernel.nD Cert.GluGradKernel.τ).loc Cert.GluGradKernel.main_arg0) = m ((c.tc : Thread Cert.GluGradKernel.nD Cert.GluGradKernel.τ).loc Cert.GluGradKernel.main_arg0)
      ∧ r.2.mem ((c.tc : Thread Cert.GluGradKernel.nD Cert.GluGradKernel.τ).loc Cert.GluGradKernel.main_arg1) = m ((c.tc : Thread Cert.GluGradKernel.nD Cert.GluGradKernel.τ).loc Cert.GluGradKernel.main_arg1))
      ∧ r.2.sem = fun _ => 0)

def quiescent_GluGradKernelIdeal [hGluGradKernelIdeal : Cert.GluGradKernelIdeal.Facts] : Prop :=
  ∀ (m : (ℓ : Loc Cert.GluGradKernelIdeal.nD Cert.GluGradKernelIdeal.τ Cert.GluGradKernelIdeal.sig) → Buf (Elt Ideal) ℓ) (g : Dev Cert.GluGradKernelIdeal.nD → PrngReg), Pre_GluGradKernelIdeal m →
    θ_run (Cert.GluGradKernelIdeal.defs (F := Ideal)) (onTc (τ := Cert.GluGradKernelIdeal.τ) (Cert.GluGradKernelIdeal.main (F := Ideal))) ⟨m, fun _ => 0, g⟩ (fun r => (∀ c : Dev Cert.GluGradKernelIdeal.nD,
      r.2.mem ((c.tc : Thread Cert.GluGradKernelIdeal.nD Cert.GluGradKernelIdeal.τ).loc Cert.GluGradKernelIdeal.main_arg0) = m ((c.tc : Thread Cert.GluGradKernelIdeal.nD Cert.GluGradKernelIdeal.τ).loc Cert.GluGradKernelIdeal.main_arg0)
      ∧ r.2.mem ((c.tc : Thread Cert.GluGradKernelIdeal.nD Cert.GluGradKernelIdeal.τ).loc Cert.GluGradKernelIdeal.main_arg1) = m ((c.tc : Thread Cert.GluGradKernelIdeal.nD Cert.GluGradKernelIdeal.τ).loc Cert.GluGradKernelIdeal.main_arg1))
      ∧ r.2.sem = fun _ => 0)

def quiescent_GluGradReferenceIdeal [hGluGradReferenceIdeal : Cert.GluGradReferenceIdeal.Facts] : Prop :=
  ∀ (m : (ℓ : Loc Cert.GluGradReferenceIdeal.nD Cert.GluGradReferenceIdeal.τ Cert.GluGradReferenceIdeal.sig) → Buf (Elt Ideal) ℓ) (g : Dev Cert.GluGradReferenceIdeal.nD → PrngReg), Pre_GluGradReferenceIdeal m →
    θ_run (Cert.GluGradReferenceIdeal.defs (F := Ideal)) (onTc (τ := Cert.GluGradReferenceIdeal.τ) (Cert.GluGradReferenceIdeal.main (F := Ideal))) ⟨m, fun _ => 0, g⟩ (fun r => (∀ c : Dev Cert.GluGradReferenceIdeal.nD,
      r.2.mem ((c.tc : Thread Cert.GluGradReferenceIdeal.nD Cert.GluGradReferenceIdeal.τ).loc Cert.GluGradReferenceIdeal.main_arg0) = m ((c.tc : Thread Cert.GluGradReferenceIdeal.nD Cert.GluGradReferenceIdeal.τ).loc Cert.GluGradReferenceIdeal.main_arg0)
      ∧ r.2.mem ((c.tc : Thread Cert.GluGradReferenceIdeal.nD Cert.GluGradReferenceIdeal.τ).loc Cert.GluGradReferenceIdeal.main_arg1) = m ((c.tc : Thread Cert.GluGradReferenceIdeal.nD Cert.GluGradReferenceIdeal.τ).loc Cert.GluGradReferenceIdeal.main_arg1))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_GluBwdKernel [hGluBwdKernel : Cert.GluBwdKernel.Facts] : Prop :=
  ∀ (m : (ℓ : Loc Cert.GluBwdKernel.nD Cert.GluBwdKernel.τ Cert.GluBwdKernel.sig) → Buf (Elt Bits) ℓ) (g : Dev Cert.GluBwdKernel.nD → PrngReg), Pre_GluBwdKernel m →
    θ_run (Cert.GluBwdKernel.defs (F := Bits)) (onTc (τ := Cert.GluBwdKernel.τ) (Cert.GluBwdKernel.main (F := Bits))) ⟨m, fun _ => 0, g⟩ (fun r => (∀ c : Dev Cert.GluBwdKernel.nD,
      r.2.mem ((c.tc : Thread Cert.GluBwdKernel.nD Cert.GluBwdKernel.τ).loc Cert.GluBwdKernel.main_arg0) = m ((c.tc : Thread Cert.GluBwdKernel.nD Cert.GluBwdKernel.τ).loc Cert.GluBwdKernel.main_arg0)
      ∧ r.2.mem ((c.tc : Thread Cert.GluBwdKernel.nD Cert.GluBwdKernel.τ).loc Cert.GluBwdKernel.main_arg1) = m ((c.tc : Thread Cert.GluBwdKernel.nD Cert.GluBwdKernel.τ).loc Cert.GluBwdKernel.main_arg1)
      ∧ r.2.mem ((c.tc : Thread Cert.GluBwdKernel.nD Cert.GluBwdKernel.τ).loc Cert.GluBwdKernel.main_arg2) = m ((c.tc : Thread Cert.GluBwdKernel.nD Cert.GluBwdKernel.τ).loc Cert.GluBwdKernel.main_arg2)
      ∧ r.2.mem ((c.tc : Thread Cert.GluBwdKernel.nD Cert.GluBwdKernel.τ).loc Cert.GluBwdKernel.main_arg3) = m ((c.tc : Thread Cert.GluBwdKernel.nD Cert.GluBwdKernel.τ).loc Cert.GluBwdKernel.main_arg3)
      ∧ r.2.mem ((c.tc : Thread Cert.GluBwdKernel.nD Cert.GluBwdKernel.τ).loc Cert.GluBwdKernel.main_arg4) = m ((c.tc : Thread Cert.GluBwdKernel.nD Cert.GluBwdKernel.τ).loc Cert.GluBwdKernel.main_arg4))
      ∧ r.2.sem = fun _ => 0)

def quiescent_GluBwdKernelIdeal [hGluBwdKernelIdeal : Cert.GluBwdKernelIdeal.Facts] : Prop :=
  ∀ (m : (ℓ : Loc Cert.GluBwdKernelIdeal.nD Cert.GluBwdKernelIdeal.τ Cert.GluBwdKernelIdeal.sig) → Buf (Elt Ideal) ℓ) (g : Dev Cert.GluBwdKernelIdeal.nD → PrngReg), Pre_GluBwdKernelIdeal m →
    θ_run (Cert.GluBwdKernelIdeal.defs (F := Ideal)) (onTc (τ := Cert.GluBwdKernelIdeal.τ) (Cert.GluBwdKernelIdeal.main (F := Ideal))) ⟨m, fun _ => 0, g⟩ (fun r => (∀ c : Dev Cert.GluBwdKernelIdeal.nD,
      r.2.mem ((c.tc : Thread Cert.GluBwdKernelIdeal.nD Cert.GluBwdKernelIdeal.τ).loc Cert.GluBwdKernelIdeal.main_arg0) = m ((c.tc : Thread Cert.GluBwdKernelIdeal.nD Cert.GluBwdKernelIdeal.τ).loc Cert.GluBwdKernelIdeal.main_arg0)
      ∧ r.2.mem ((c.tc : Thread Cert.GluBwdKernelIdeal.nD Cert.GluBwdKernelIdeal.τ).loc Cert.GluBwdKernelIdeal.main_arg1) = m ((c.tc : Thread Cert.GluBwdKernelIdeal.nD Cert.GluBwdKernelIdeal.τ).loc Cert.GluBwdKernelIdeal.main_arg1)
      ∧ r.2.mem ((c.tc : Thread Cert.GluBwdKernelIdeal.nD Cert.GluBwdKernelIdeal.τ).loc Cert.GluBwdKernelIdeal.main_arg2) = m ((c.tc : Thread Cert.GluBwdKernelIdeal.nD Cert.GluBwdKernelIdeal.τ).loc Cert.GluBwdKernelIdeal.main_arg2)
      ∧ r.2.mem ((c.tc : Thread Cert.GluBwdKernelIdeal.nD Cert.GluBwdKernelIdeal.τ).loc Cert.GluBwdKernelIdeal.main_arg3) = m ((c.tc : Thread Cert.GluBwdKernelIdeal.nD Cert.GluBwdKernelIdeal.τ).loc Cert.GluBwdKernelIdeal.main_arg3)
      ∧ r.2.mem ((c.tc : Thread Cert.GluBwdKernelIdeal.nD Cert.GluBwdKernelIdeal.τ).loc Cert.GluBwdKernelIdeal.main_arg4) = m ((c.tc : Thread Cert.GluBwdKernelIdeal.nD Cert.GluBwdKernelIdeal.τ).loc Cert.GluBwdKernelIdeal.main_arg4))
      ∧ r.2.sem = fun _ => 0)

def quiescent_GluBwdKernelIdeal_pre_glu_finite [hGluBwdKernelIdeal : Cert.GluBwdKernelIdeal.Facts] [hPre_glu_finite : Cert.Pre_glu_finite.Facts] : Prop :=
  ∀ (m : (ℓ : Loc Cert.GluBwdKernelIdeal.nD Cert.GluBwdKernelIdeal.τ Cert.GluBwdKernelIdeal.sig) → Buf (Elt Ideal) ℓ) (g : Dev Cert.GluBwdKernelIdeal.nD → PrngReg), Pre_GluBwdKernelIdeal_glu_finite m →
    θ_run (Cert.GluBwdKernelIdeal.defs (F := Ideal)) (onTc (τ := Cert.GluBwdKernelIdeal.τ) (Cert.GluBwdKernelIdeal.main (F := Ideal))) ⟨m, fun _ => 0, g⟩ (fun r => (∀ c : Dev Cert.GluBwdKernelIdeal.nD,
      r.2.mem ((c.tc : Thread Cert.GluBwdKernelIdeal.nD Cert.GluBwdKernelIdeal.τ).loc Cert.GluBwdKernelIdeal.main_arg0) = m ((c.tc : Thread Cert.GluBwdKernelIdeal.nD Cert.GluBwdKernelIdeal.τ).loc Cert.GluBwdKernelIdeal.main_arg0)
      ∧ r.2.mem ((c.tc : Thread Cert.GluBwdKernelIdeal.nD Cert.GluBwdKernelIdeal.τ).loc Cert.GluBwdKernelIdeal.main_arg1) = m ((c.tc : Thread Cert.GluBwdKernelIdeal.nD Cert.GluBwdKernelIdeal.τ).loc Cert.GluBwdKernelIdeal.main_arg1)
      ∧ r.2.mem ((c.tc : Thread Cert.GluBwdKernelIdeal.nD Cert.GluBwdKernelIdeal.τ).loc Cert.GluBwdKernelIdeal.main_arg2) = m ((c.tc : Thread Cert.GluBwdKernelIdeal.nD Cert.GluBwdKernelIdeal.τ).loc Cert.GluBwdKernelIdeal.main_arg2)
      ∧ r.2.mem ((c.tc : Thread Cert.GluBwdKernelIdeal.nD Cert.GluBwdKernelIdeal.τ).loc Cert.GluBwdKernelIdeal.main_arg3) = m ((c.tc : Thread Cert.GluBwdKernelIdeal.nD Cert.GluBwdKernelIdeal.τ).loc Cert.GluBwdKernelIdeal.main_arg3)
      ∧ r.2.mem ((c.tc : Thread Cert.GluBwdKernelIdeal.nD Cert.GluBwdKernelIdeal.τ).loc Cert.GluBwdKernelIdeal.main_arg4) = m ((c.tc : Thread Cert.GluBwdKernelIdeal.nD Cert.GluBwdKernelIdeal.τ).loc Cert.GluBwdKernelIdeal.main_arg4))
      ∧ r.2.sem = fun _ => 0)

def quiescent_GluBwdReferenceIdeal [hGluBwdReferenceIdeal : Cert.GluBwdReferenceIdeal.Facts] : Prop :=
  ∀ (m : (ℓ : Loc Cert.GluBwdReferenceIdeal.nD Cert.GluBwdReferenceIdeal.τ Cert.GluBwdReferenceIdeal.sig) → Buf (Elt Ideal) ℓ) (g : Dev Cert.GluBwdReferenceIdeal.nD → PrngReg), Pre_GluBwdReferenceIdeal m →
    θ_run (Cert.GluBwdReferenceIdeal.defs (F := Ideal)) (onTc (τ := Cert.GluBwdReferenceIdeal.τ) (Cert.GluBwdReferenceIdeal.main (F := Ideal))) ⟨m, fun _ => 0, g⟩ (fun r => (∀ c : Dev Cert.GluBwdReferenceIdeal.nD,
      r.2.mem ((c.tc : Thread Cert.GluBwdReferenceIdeal.nD Cert.GluBwdReferenceIdeal.τ).loc Cert.GluBwdReferenceIdeal.main_arg0) = m ((c.tc : Thread Cert.GluBwdReferenceIdeal.nD Cert.GluBwdReferenceIdeal.τ).loc Cert.GluBwdReferenceIdeal.main_arg0)
      ∧ r.2.mem ((c.tc : Thread Cert.GluBwdReferenceIdeal.nD Cert.GluBwdReferenceIdeal.τ).loc Cert.GluBwdReferenceIdeal.main_arg1) = m ((c.tc : Thread Cert.GluBwdReferenceIdeal.nD Cert.GluBwdReferenceIdeal.τ).loc Cert.GluBwdReferenceIdeal.main_arg1)
      ∧ r.2.mem ((c.tc : Thread Cert.GluBwdReferenceIdeal.nD Cert.GluBwdReferenceIdeal.τ).loc Cert.GluBwdReferenceIdeal.main_arg2) = m ((c.tc : Thread Cert.GluBwdReferenceIdeal.nD Cert.GluBwdReferenceIdeal.τ).loc Cert.GluBwdReferenceIdeal.main_arg2)
      ∧ r.2.mem ((c.tc : Thread Cert.GluBwdReferenceIdeal.nD Cert.GluBwdReferenceIdeal.τ).loc Cert.GluBwdReferenceIdeal.main_arg3) = m ((c.tc : Thread Cert.GluBwdReferenceIdeal.nD Cert.GluBwdReferenceIdeal.τ).loc Cert.GluBwdReferenceIdeal.main_arg3)
      ∧ r.2.mem ((c.tc : Thread Cert.GluBwdReferenceIdeal.nD Cert.GluBwdReferenceIdeal.τ).loc Cert.GluBwdReferenceIdeal.main_arg4) = m ((c.tc : Thread Cert.GluBwdReferenceIdeal.nD Cert.GluBwdReferenceIdeal.τ).loc Cert.GluBwdReferenceIdeal.main_arg4))
      ∧ r.2.sem = fun _ => 0)

def quiescent_GluBwdReferenceIdeal_pre_glu_finite [hGluBwdReferenceIdeal : Cert.GluBwdReferenceIdeal.Facts] [hPre_glu_finite : Cert.Pre_glu_finite.Facts] : Prop :=
  ∀ (m : (ℓ : Loc Cert.GluBwdReferenceIdeal.nD Cert.GluBwdReferenceIdeal.τ Cert.GluBwdReferenceIdeal.sig) → Buf (Elt Ideal) ℓ) (g : Dev Cert.GluBwdReferenceIdeal.nD → PrngReg), Pre_GluBwdReferenceIdeal_glu_finite m →
    θ_run (Cert.GluBwdReferenceIdeal.defs (F := Ideal)) (onTc (τ := Cert.GluBwdReferenceIdeal.τ) (Cert.GluBwdReferenceIdeal.main (F := Ideal))) ⟨m, fun _ => 0, g⟩ (fun r => (∀ c : Dev Cert.GluBwdReferenceIdeal.nD,
      r.2.mem ((c.tc : Thread Cert.GluBwdReferenceIdeal.nD Cert.GluBwdReferenceIdeal.τ).loc Cert.GluBwdReferenceIdeal.main_arg0) = m ((c.tc : Thread Cert.GluBwdReferenceIdeal.nD Cert.GluBwdReferenceIdeal.τ).loc Cert.GluBwdReferenceIdeal.main_arg0)
      ∧ r.2.mem ((c.tc : Thread Cert.GluBwdReferenceIdeal.nD Cert.GluBwdReferenceIdeal.τ).loc Cert.GluBwdReferenceIdeal.main_arg1) = m ((c.tc : Thread Cert.GluBwdReferenceIdeal.nD Cert.GluBwdReferenceIdeal.τ).loc Cert.GluBwdReferenceIdeal.main_arg1)
      ∧ r.2.mem ((c.tc : Thread Cert.GluBwdReferenceIdeal.nD Cert.GluBwdReferenceIdeal.τ).loc Cert.GluBwdReferenceIdeal.main_arg2) = m ((c.tc : Thread Cert.GluBwdReferenceIdeal.nD Cert.GluBwdReferenceIdeal.τ).loc Cert.GluBwdReferenceIdeal.main_arg2)
      ∧ r.2.mem ((c.tc : Thread Cert.GluBwdReferenceIdeal.nD Cert.GluBwdReferenceIdeal.τ).loc Cert.GluBwdReferenceIdeal.main_arg3) = m ((c.tc : Thread Cert.GluBwdReferenceIdeal.nD Cert.GluBwdReferenceIdeal.τ).loc Cert.GluBwdReferenceIdeal.main_arg3)
      ∧ r.2.mem ((c.tc : Thread Cert.GluBwdReferenceIdeal.nD Cert.GluBwdReferenceIdeal.τ).loc Cert.GluBwdReferenceIdeal.main_arg4) = m ((c.tc : Thread Cert.GluBwdReferenceIdeal.nD Cert.GluBwdReferenceIdeal.τ).loc Cert.GluBwdReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v81)) (v3 : (c : Dev Cert.KernelIdeal.nD) → Buf (Elt Ideal) ((c.tc : Thread Cert.KernelIdeal.nD Cert.KernelIdeal.τ).loc Cert.KernelIdeal.main_v109)) (v4 : (c : Dev Cert.KernelIdeal.nD) → Buf (Elt Ideal) ((c.tc : Thread Cert.KernelIdeal.nD Cert.KernelIdeal.τ).loc Cert.KernelIdeal.main_v137)) (v5 : (c : Dev Cert.KernelIdeal.nD) → Buf (Elt Ideal) ((c.tc : Thread Cert.KernelIdeal.nD Cert.KernelIdeal.τ).loc Cert.KernelIdeal.main_v165)) (v6 : (c : Dev Cert.KernelIdeal.nD) → Buf (Elt Ideal) ((c.tc : Thread Cert.KernelIdeal.nD Cert.KernelIdeal.τ).loc Cert.KernelIdeal.main_v193)) (v7 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v81) = v2 c
          ∧ r.2.mem ((c.tc : Thread Cert.KernelIdeal.nD Cert.KernelIdeal.τ).loc Cert.KernelIdeal.main_v109) = v3 c
          ∧ r.2.mem ((c.tc : Thread Cert.KernelIdeal.nD Cert.KernelIdeal.τ).loc Cert.KernelIdeal.main_v137) = v4 c
          ∧ r.2.mem ((c.tc : Thread Cert.KernelIdeal.nD Cert.KernelIdeal.τ).loc Cert.KernelIdeal.main_v165) = v5 c
          ∧ r.2.mem ((c.tc : Thread Cert.KernelIdeal.nD Cert.KernelIdeal.τ).loc Cert.KernelIdeal.main_v193) = v6 c
          ∧ r.2.mem ((c.tc : Thread Cert.KernelIdeal.nD Cert.KernelIdeal.τ).loc Cert.KernelIdeal.main_v194) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v45_7) = v1 c
          ∧ r.2.mem ((c.tc : Thread Cert.ReferenceIdeal.nD Cert.ReferenceIdeal.τ).loc Cert.ReferenceIdeal.main_v45_8) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v38) = v5 c
          ∧ r.2.mem ((c.tc : Thread Cert.ReferenceIdeal.nD Cert.ReferenceIdeal.τ).loc Cert.ReferenceIdeal.main_v34) = v6 c
          ∧ r.2.mem ((c.tc : Thread Cert.ReferenceIdeal.nD Cert.ReferenceIdeal.τ).loc Cert.ReferenceIdeal.main_v29) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)
      ∧ m' ((c.tc : Thread Cert.WgradReferenceIdeal.nD Cert.WgradReferenceIdeal.τ).loc Cert.WgradReferenceIdeal.main_arg2) = m ((c.tc : Thread Cert.WgradKernelIdeal.nD Cert.WgradKernelIdeal.τ).loc Cert.WgradKernelIdeal.main_arg2)
      ∧ m' ((c.tc : Thread Cert.WgradReferenceIdeal.nD Cert.WgradReferenceIdeal.τ).loc Cert.WgradReferenceIdeal.main_arg3) = m ((c.tc : Thread Cert.WgradKernelIdeal.nD Cert.WgradKernelIdeal.τ).loc Cert.WgradKernelIdeal.main_arg3)
      ∧ m' ((c.tc : Thread Cert.WgradReferenceIdeal.nD Cert.WgradReferenceIdeal.τ).loc Cert.WgradReferenceIdeal.main_arg4) = m ((c.tc : Thread Cert.WgradKernelIdeal.nD Cert.WgradKernelIdeal.τ).loc Cert.WgradKernelIdeal.main_arg4)) →
    ∃ (v0 : (c : Dev Cert.WgradKernelIdeal.nD) → Buf (Elt Ideal) ((c.tc : Thread Cert.WgradKernelIdeal.nD Cert.WgradKernelIdeal.τ).loc Cert.WgradKernelIdeal.main_v13_0)) (v1 : (c : Dev Cert.WgradKernelIdeal.nD) → Buf (Elt Ideal) ((c.tc : Thread Cert.WgradKernelIdeal.nD Cert.WgradKernelIdeal.τ).loc Cert.WgradKernelIdeal.main_v13_1)) (v2 : (c : Dev Cert.WgradKernelIdeal.nD) → Buf (Elt Ideal) ((c.tc : Thread Cert.WgradKernelIdeal.nD Cert.WgradKernelIdeal.τ).loc Cert.WgradKernelIdeal.main_v13_2)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v13_0) = v0 c
          ∧ r.2.mem ((c.tc : Thread Cert.WgradKernelIdeal.nD Cert.WgradKernelIdeal.τ).loc Cert.WgradKernelIdeal.main_v13_1) = v1 c
          ∧ r.2.mem ((c.tc : Thread Cert.WgradKernelIdeal.nD Cert.WgradKernelIdeal.τ).loc Cert.WgradKernelIdeal.main_v13_2) = v2 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
          ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2)
          ∧ r.2.mem ((c.tc : Thread Cert.WgradKernelIdeal.nD Cert.WgradKernelIdeal.τ).loc Cert.WgradKernelIdeal.main_arg3) = m ((c.tc : Thread Cert.WgradKernelIdeal.nD Cert.WgradKernelIdeal.τ).loc Cert.WgradKernelIdeal.main_arg3)
          ∧ r.2.mem ((c.tc : Thread Cert.WgradKernelIdeal.nD Cert.WgradKernelIdeal.τ).loc Cert.WgradKernelIdeal.main_arg4) = m ((c.tc : Thread Cert.WgradKernelIdeal.nD Cert.WgradKernelIdeal.τ).loc Cert.WgradKernelIdeal.main_arg4))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v16) = v0 c
          ∧ r.2.mem ((c.tc : Thread Cert.WgradReferenceIdeal.nD Cert.WgradReferenceIdeal.τ).loc Cert.WgradReferenceIdeal.main_v19) = v1 c
          ∧ r.2.mem ((c.tc : Thread Cert.WgradReferenceIdeal.nD Cert.WgradReferenceIdeal.τ).loc Cert.WgradReferenceIdeal.main_v22) = v2 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1)
          ∧ r.2.mem ((c.tc : Thread Cert.WgradReferenceIdeal.nD Cert.WgradReferenceIdeal.τ).loc Cert.WgradReferenceIdeal.main_arg2) = m' ((c.tc : Thread Cert.WgradReferenceIdeal.nD Cert.WgradReferenceIdeal.τ).loc Cert.WgradReferenceIdeal.main_arg2)
          ∧ r.2.mem ((c.tc : Thread Cert.WgradReferenceIdeal.nD Cert.WgradReferenceIdeal.τ).loc Cert.WgradReferenceIdeal.main_arg3) = m' ((c.tc : Thread Cert.WgradReferenceIdeal.nD Cert.WgradReferenceIdeal.τ).loc Cert.WgradReferenceIdeal.main_arg3)
          ∧ r.2.mem ((c.tc : Thread Cert.WgradReferenceIdeal.nD Cert.WgradReferenceIdeal.τ).loc Cert.WgradReferenceIdeal.main_arg4) = m' ((c.tc : Thread Cert.WgradReferenceIdeal.nD Cert.WgradReferenceIdeal.τ).loc Cert.WgradReferenceIdeal.main_arg4))

def preserves_DactKernel_DactKernelIdeal : Prop :=
  True

def algebraic_DactKernelIdeal_DactReferenceIdeal_pre_dact_finite [hDactKernelIdeal : Cert.DactKernelIdeal.Facts] [hDactReferenceIdeal : Cert.DactReferenceIdeal.Facts] [hPre_dact_finite : Cert.Pre_dact_finite.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal_dact_finite m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)
      ∧ m' ((c.tc : Thread Cert.DactReferenceIdeal.nD Cert.DactReferenceIdeal.τ).loc Cert.DactReferenceIdeal.main_arg2) = m ((c.tc : Thread Cert.DactKernelIdeal.nD Cert.DactKernelIdeal.τ).loc Cert.DactKernelIdeal.main_arg2)
      ∧ m' ((c.tc : Thread Cert.DactReferenceIdeal.nD Cert.DactReferenceIdeal.τ).loc Cert.DactReferenceIdeal.main_arg3) = m ((c.tc : Thread Cert.DactKernelIdeal.nD Cert.DactKernelIdeal.τ).loc Cert.DactKernelIdeal.main_arg3)) →
    ∃ (v0 : (c : Dev Cert.DactKernelIdeal.nD) → Buf (Elt Ideal) ((c.tc : Thread Cert.DactKernelIdeal.nD Cert.DactKernelIdeal.τ).loc Cert.DactKernelIdeal.main_v11_0)) (v1 : (c : Dev Cert.DactKernelIdeal.nD) → Buf (Elt Ideal) ((c.tc : Thread Cert.DactKernelIdeal.nD Cert.DactKernelIdeal.τ).loc Cert.DactKernelIdeal.main_v11_1)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v11_0) = v0 c
          ∧ r.2.mem ((c.tc : Thread Cert.DactKernelIdeal.nD Cert.DactKernelIdeal.τ).loc Cert.DactKernelIdeal.main_v11_1) = v1 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1)
          ∧ r.2.mem ((c.tc : Thread Cert.DactKernelIdeal.nD Cert.DactKernelIdeal.τ).loc Cert.DactKernelIdeal.main_arg2) = m ((c.tc : Thread Cert.DactKernelIdeal.nD Cert.DactKernelIdeal.τ).loc Cert.DactKernelIdeal.main_arg2)
          ∧ r.2.mem ((c.tc : Thread Cert.DactKernelIdeal.nD Cert.DactKernelIdeal.τ).loc Cert.DactKernelIdeal.main_arg3) = m ((c.tc : Thread Cert.DactKernelIdeal.nD Cert.DactKernelIdeal.τ).loc Cert.DactKernelIdeal.main_arg3))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v13) = v0 c
          ∧ r.2.mem ((c.tc : Thread Cert.DactReferenceIdeal.nD Cert.DactReferenceIdeal.τ).loc Cert.DactReferenceIdeal.main_v16) = v1 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2)
          ∧ r.2.mem ((c.tc : Thread Cert.DactReferenceIdeal.nD Cert.DactReferenceIdeal.τ).loc Cert.DactReferenceIdeal.main_arg3) = m' ((c.tc : Thread Cert.DactReferenceIdeal.nD Cert.DactReferenceIdeal.τ).loc Cert.DactReferenceIdeal.main_arg3))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)
      ∧ m' ((c.tc : Thread Cert.DxReferenceIdeal.nD Cert.DxReferenceIdeal.τ).loc Cert.DxReferenceIdeal.main_arg5) = m ((c.tc : Thread Cert.DxKernelIdeal.nD Cert.DxKernelIdeal.τ).loc Cert.DxKernelIdeal.main_arg5)
      ∧ m' ((c.tc : Thread Cert.DxReferenceIdeal.nD Cert.DxReferenceIdeal.τ).loc Cert.DxReferenceIdeal.main_arg6) = m ((c.tc : Thread Cert.DxKernelIdeal.nD Cert.DxKernelIdeal.τ).loc Cert.DxKernelIdeal.main_arg6)) →
    ∃ (v0 : (c : Dev Cert.DxKernelIdeal.nD) → Buf (Elt Ideal) ((c.tc : Thread Cert.DxKernelIdeal.nD Cert.DxKernelIdeal.τ).loc Cert.DxKernelIdeal.main_v13_0)) (v1 : (c : Dev Cert.DxKernelIdeal.nD) → Buf (Elt Ideal) ((c.tc : Thread Cert.DxKernelIdeal.nD Cert.DxKernelIdeal.τ).loc Cert.DxKernelIdeal.main_v13_1)) (v2 : (c : Dev Cert.DxKernelIdeal.nD) → Buf (Elt Ideal) ((c.tc : Thread Cert.DxKernelIdeal.nD Cert.DxKernelIdeal.τ).loc Cert.DxKernelIdeal.main_v13_2)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v13_0) = v0 c
          ∧ r.2.mem ((c.tc : Thread Cert.DxKernelIdeal.nD Cert.DxKernelIdeal.τ).loc Cert.DxKernelIdeal.main_v13_1) = v1 c
          ∧ r.2.mem ((c.tc : Thread Cert.DxKernelIdeal.nD Cert.DxKernelIdeal.τ).loc Cert.DxKernelIdeal.main_v13_2) = v2 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4)
          ∧ r.2.mem ((c.tc : Thread Cert.DxKernelIdeal.nD Cert.DxKernelIdeal.τ).loc Cert.DxKernelIdeal.main_arg5) = m ((c.tc : Thread Cert.DxKernelIdeal.nD Cert.DxKernelIdeal.τ).loc Cert.DxKernelIdeal.main_arg5)
          ∧ r.2.mem ((c.tc : Thread Cert.DxKernelIdeal.nD Cert.DxKernelIdeal.τ).loc Cert.DxKernelIdeal.main_arg6) = m ((c.tc : Thread Cert.DxKernelIdeal.nD Cert.DxKernelIdeal.τ).loc Cert.DxKernelIdeal.main_arg6))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v41) = v0 c
          ∧ r.2.mem ((c.tc : Thread Cert.DxReferenceIdeal.nD Cert.DxReferenceIdeal.τ).loc Cert.DxReferenceIdeal.main_v42) = v1 c
          ∧ r.2.mem ((c.tc : Thread Cert.DxReferenceIdeal.nD Cert.DxReferenceIdeal.τ).loc Cert.DxReferenceIdeal.main_v43) = v2 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v7_0)) (v1 : (c : Dev Cert.UpKernelIdeal.nD) → Buf (Elt Ideal) ((c.tc : Thread Cert.UpKernelIdeal.nD Cert.UpKernelIdeal.τ).loc Cert.UpKernelIdeal.main_v7_1)) (v2 : (c : Dev Cert.UpKernelIdeal.nD) → Buf (Elt Ideal) ((c.tc : Thread Cert.UpKernelIdeal.nD Cert.UpKernelIdeal.τ).loc Cert.UpKernelIdeal.main_v7_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v7_0) = v0 c
          ∧ r.2.mem ((c.tc : Thread Cert.UpKernelIdeal.nD Cert.UpKernelIdeal.τ).loc Cert.UpKernelIdeal.main_v7_1) = v1 c
          ∧ r.2.mem ((c.tc : Thread Cert.UpKernelIdeal.nD Cert.UpKernelIdeal.τ).loc Cert.UpKernelIdeal.main_v7_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_v7) = v1 c
          ∧ r.2.mem ((c.tc : Thread Cert.UpReferenceIdeal.nD Cert.UpReferenceIdeal.τ).loc Cert.UpReferenceIdeal.main_v12) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v6_0)) (v1 : (c : Dev Cert.DownKernelIdeal.nD) → Buf (Elt Ideal) ((c.tc : Thread Cert.DownKernelIdeal.nD Cert.DownKernelIdeal.τ).loc Cert.DownKernelIdeal.main_v6_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v6_0) = v0 c
          ∧ r.2.mem ((c.tc : Thread Cert.DownKernelIdeal.nD Cert.DownKernelIdeal.τ).loc Cert.DownKernelIdeal.main_v6_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_v17) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v4)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v9_0)) (v1 : (c : Dev Cert.OutKernelIdeal.nD) → Buf (Elt Ideal) ((c.tc : Thread Cert.OutKernelIdeal.nD Cert.OutKernelIdeal.τ).loc Cert.OutKernelIdeal.main_v9_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v9_0) = v0 c
          ∧ r.2.mem ((c.tc : Thread Cert.OutKernelIdeal.nD Cert.OutKernelIdeal.τ).loc Cert.OutKernelIdeal.main_v9_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_v15) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_MixDxKernel_MixDxKernelIdeal : Prop :=
  True

def algebraic_MixDxKernelIdeal_MixDxReferenceIdeal [hMixDxKernelIdeal : Cert.MixDxKernelIdeal.Facts] [hMixDxReferenceIdeal : Cert.MixDxReferenceIdeal.Facts] : Prop :=
  ∀ (m : (ℓ : Loc Cert.MixDxKernelIdeal.nD Cert.MixDxKernelIdeal.τ Cert.MixDxKernelIdeal.sig) → Buf (Elt Ideal) ℓ) (g : Dev Cert.MixDxKernelIdeal.nD → PrngReg)
    (m' : (ℓ : Loc Cert.MixDxReferenceIdeal.nD Cert.MixDxReferenceIdeal.τ Cert.MixDxReferenceIdeal.sig) → Buf (Elt Ideal) ℓ) (g' : Dev Cert.MixDxReferenceIdeal.nD → PrngReg), Pre_MixDxKernelIdeal m →
    (∀ c : Dev Cert.MixDxKernelIdeal.nD,
      m' ((c.tc : Thread Cert.MixDxReferenceIdeal.nD Cert.MixDxReferenceIdeal.τ).loc Cert.MixDxReferenceIdeal.main_arg0) = m ((c.tc : Thread Cert.MixDxKernelIdeal.nD Cert.MixDxKernelIdeal.τ).loc Cert.MixDxKernelIdeal.main_arg0)
      ∧ m' ((c.tc : Thread Cert.MixDxReferenceIdeal.nD Cert.MixDxReferenceIdeal.τ).loc Cert.MixDxReferenceIdeal.main_arg1) = m ((c.tc : Thread Cert.MixDxKernelIdeal.nD Cert.MixDxKernelIdeal.τ).loc Cert.MixDxKernelIdeal.main_arg1)
      ∧ m' ((c.tc : Thread Cert.MixDxReferenceIdeal.nD Cert.MixDxReferenceIdeal.τ).loc Cert.MixDxReferenceIdeal.main_arg2) = m ((c.tc : Thread Cert.MixDxKernelIdeal.nD Cert.MixDxKernelIdeal.τ).loc Cert.MixDxKernelIdeal.main_arg2)
      ∧ m' ((c.tc : Thread Cert.MixDxReferenceIdeal.nD Cert.MixDxReferenceIdeal.τ).loc Cert.MixDxReferenceIdeal.main_arg3) = m ((c.tc : Thread Cert.MixDxKernelIdeal.nD Cert.MixDxKernelIdeal.τ).loc Cert.MixDxKernelIdeal.main_arg3)
      ∧ m' ((c.tc : Thread Cert.MixDxReferenceIdeal.nD Cert.MixDxReferenceIdeal.τ).loc Cert.MixDxReferenceIdeal.main_arg4) = m ((c.tc : Thread Cert.MixDxKernelIdeal.nD Cert.MixDxKernelIdeal.τ).loc Cert.MixDxKernelIdeal.main_arg4)) →
    ∃ (v0 : (c : Dev Cert.MixDxKernelIdeal.nD) → Buf (Elt Ideal) ((c.tc : Thread Cert.MixDxKernelIdeal.nD Cert.MixDxKernelIdeal.τ).loc Cert.MixDxKernelIdeal.main_v7_0)) (v1 : (c : Dev Cert.MixDxKernelIdeal.nD) → Buf (Elt Ideal) ((c.tc : Thread Cert.MixDxKernelIdeal.nD Cert.MixDxKernelIdeal.τ).loc Cert.MixDxKernelIdeal.main_v7_1)) (v2 : (c : Dev Cert.MixDxKernelIdeal.nD) → Buf (Elt Ideal) ((c.tc : Thread Cert.MixDxKernelIdeal.nD Cert.MixDxKernelIdeal.τ).loc Cert.MixDxKernelIdeal.main_v7_2)),
      θ_run (Cert.MixDxKernelIdeal.defs (F := Ideal)) (onTc (τ := Cert.MixDxKernelIdeal.τ) (Cert.MixDxKernelIdeal.main (F := Ideal))) ⟨m, fun _ => 0, g⟩ (fun r => ∀ c : Dev Cert.MixDxKernelIdeal.nD,
          r.2.mem ((c.tc : Thread Cert.MixDxKernelIdeal.nD Cert.MixDxKernelIdeal.τ).loc Cert.MixDxKernelIdeal.main_v7_0) = v0 c
          ∧ r.2.mem ((c.tc : Thread Cert.MixDxKernelIdeal.nD Cert.MixDxKernelIdeal.τ).loc Cert.MixDxKernelIdeal.main_v7_1) = v1 c
          ∧ r.2.mem ((c.tc : Thread Cert.MixDxKernelIdeal.nD Cert.MixDxKernelIdeal.τ).loc Cert.MixDxKernelIdeal.main_v7_2) = v2 c
          ∧ r.2.mem ((c.tc : Thread Cert.MixDxKernelIdeal.nD Cert.MixDxKernelIdeal.τ).loc Cert.MixDxKernelIdeal.main_arg0) = m ((c.tc : Thread Cert.MixDxKernelIdeal.nD Cert.MixDxKernelIdeal.τ).loc Cert.MixDxKernelIdeal.main_arg0)
          ∧ r.2.mem ((c.tc : Thread Cert.MixDxKernelIdeal.nD Cert.MixDxKernelIdeal.τ).loc Cert.MixDxKernelIdeal.main_arg1) = m ((c.tc : Thread Cert.MixDxKernelIdeal.nD Cert.MixDxKernelIdeal.τ).loc Cert.MixDxKernelIdeal.main_arg1)
          ∧ r.2.mem ((c.tc : Thread Cert.MixDxKernelIdeal.nD Cert.MixDxKernelIdeal.τ).loc Cert.MixDxKernelIdeal.main_arg2) = m ((c.tc : Thread Cert.MixDxKernelIdeal.nD Cert.MixDxKernelIdeal.τ).loc Cert.MixDxKernelIdeal.main_arg2)
          ∧ r.2.mem ((c.tc : Thread Cert.MixDxKernelIdeal.nD Cert.MixDxKernelIdeal.τ).loc Cert.MixDxKernelIdeal.main_arg3) = m ((c.tc : Thread Cert.MixDxKernelIdeal.nD Cert.MixDxKernelIdeal.τ).loc Cert.MixDxKernelIdeal.main_arg3)
          ∧ r.2.mem ((c.tc : Thread Cert.MixDxKernelIdeal.nD Cert.MixDxKernelIdeal.τ).loc Cert.MixDxKernelIdeal.main_arg4) = m ((c.tc : Thread Cert.MixDxKernelIdeal.nD Cert.MixDxKernelIdeal.τ).loc Cert.MixDxKernelIdeal.main_arg4))
      ∧ θ_run (Cert.MixDxReferenceIdeal.defs (F := Ideal)) (onTc (τ := Cert.MixDxReferenceIdeal.τ) (Cert.MixDxReferenceIdeal.main (F := Ideal))) ⟨m', fun _ => 0, g'⟩ (fun r => ∀ c : Dev Cert.MixDxReferenceIdeal.nD,
          r.2.mem ((c.tc : Thread Cert.MixDxReferenceIdeal.nD Cert.MixDxReferenceIdeal.τ).loc Cert.MixDxReferenceIdeal.main_v38) = v0 c
          ∧ r.2.mem ((c.tc : Thread Cert.MixDxReferenceIdeal.nD Cert.MixDxReferenceIdeal.τ).loc Cert.MixDxReferenceIdeal.main_v41) = v1 c
          ∧ r.2.mem ((c.tc : Thread Cert.MixDxReferenceIdeal.nD Cert.MixDxReferenceIdeal.τ).loc Cert.MixDxReferenceIdeal.main_v42) = v2 c
          ∧ r.2.mem ((c.tc : Thread Cert.MixDxReferenceIdeal.nD Cert.MixDxReferenceIdeal.τ).loc Cert.MixDxReferenceIdeal.main_arg0) = m' ((c.tc : Thread Cert.MixDxReferenceIdeal.nD Cert.MixDxReferenceIdeal.τ).loc Cert.MixDxReferenceIdeal.main_arg0)
          ∧ r.2.mem ((c.tc : Thread Cert.MixDxReferenceIdeal.nD Cert.MixDxReferenceIdeal.τ).loc Cert.MixDxReferenceIdeal.main_arg1) = m' ((c.tc : Thread Cert.MixDxReferenceIdeal.nD Cert.MixDxReferenceIdeal.τ).loc Cert.MixDxReferenceIdeal.main_arg1)
          ∧ r.2.mem ((c.tc : Thread Cert.MixDxReferenceIdeal.nD Cert.MixDxReferenceIdeal.τ).loc Cert.MixDxReferenceIdeal.main_arg2) = m' ((c.tc : Thread Cert.MixDxReferenceIdeal.nD Cert.MixDxReferenceIdeal.τ).loc Cert.MixDxReferenceIdeal.main_arg2)
          ∧ r.2.mem ((c.tc : Thread Cert.MixDxReferenceIdeal.nD Cert.MixDxReferenceIdeal.τ).loc Cert.MixDxReferenceIdeal.main_arg3) = m' ((c.tc : Thread Cert.MixDxReferenceIdeal.nD Cert.MixDxReferenceIdeal.τ).loc Cert.MixDxReferenceIdeal.main_arg3)
          ∧ r.2.mem ((c.tc : Thread Cert.MixDxReferenceIdeal.nD Cert.MixDxReferenceIdeal.τ).loc Cert.MixDxReferenceIdeal.main_arg4) = m' ((c.tc : Thread Cert.MixDxReferenceIdeal.nD Cert.MixDxReferenceIdeal.τ).loc Cert.MixDxReferenceIdeal.main_arg4))

def preserves_WinGradKernel_WinGradKernelIdeal : Prop :=
  True

def algebraic_WinGradKernelIdeal_WinGradReferenceIdeal [hWinGradKernelIdeal : Cert.WinGradKernelIdeal.Facts] [hWinGradReferenceIdeal : Cert.WinGradReferenceIdeal.Facts] : Prop :=
  ∀ (m : (ℓ : Loc Cert.WinGradKernelIdeal.nD Cert.WinGradKernelIdeal.τ Cert.WinGradKernelIdeal.sig) → Buf (Elt Ideal) ℓ) (g : Dev Cert.WinGradKernelIdeal.nD → PrngReg)
    (m' : (ℓ : Loc Cert.WinGradReferenceIdeal.nD Cert.WinGradReferenceIdeal.τ Cert.WinGradReferenceIdeal.sig) → Buf (Elt Ideal) ℓ) (g' : Dev Cert.WinGradReferenceIdeal.nD → PrngReg), Pre_WinGradKernelIdeal m →
    (∀ c : Dev Cert.WinGradKernelIdeal.nD,
      m' ((c.tc : Thread Cert.WinGradReferenceIdeal.nD Cert.WinGradReferenceIdeal.τ).loc Cert.WinGradReferenceIdeal.main_arg0) = m ((c.tc : Thread Cert.WinGradKernelIdeal.nD Cert.WinGradKernelIdeal.τ).loc Cert.WinGradKernelIdeal.main_arg0)
      ∧ m' ((c.tc : Thread Cert.WinGradReferenceIdeal.nD Cert.WinGradReferenceIdeal.τ).loc Cert.WinGradReferenceIdeal.main_arg1) = m ((c.tc : Thread Cert.WinGradKernelIdeal.nD Cert.WinGradKernelIdeal.τ).loc Cert.WinGradKernelIdeal.main_arg1)) →
    ∃ (v0 : (c : Dev Cert.WinGradKernelIdeal.nD) → Buf (Elt Ideal) ((c.tc : Thread Cert.WinGradKernelIdeal.nD Cert.WinGradKernelIdeal.τ).loc Cert.WinGradKernelIdeal.main_v5)),
      θ_run (Cert.WinGradKernelIdeal.defs (F := Ideal)) (onTc (τ := Cert.WinGradKernelIdeal.τ) (Cert.WinGradKernelIdeal.main (F := Ideal))) ⟨m, fun _ => 0, g⟩ (fun r => ∀ c : Dev Cert.WinGradKernelIdeal.nD,
          r.2.mem ((c.tc : Thread Cert.WinGradKernelIdeal.nD Cert.WinGradKernelIdeal.τ).loc Cert.WinGradKernelIdeal.main_v5) = v0 c
          ∧ r.2.mem ((c.tc : Thread Cert.WinGradKernelIdeal.nD Cert.WinGradKernelIdeal.τ).loc Cert.WinGradKernelIdeal.main_arg0) = m ((c.tc : Thread Cert.WinGradKernelIdeal.nD Cert.WinGradKernelIdeal.τ).loc Cert.WinGradKernelIdeal.main_arg0)
          ∧ r.2.mem ((c.tc : Thread Cert.WinGradKernelIdeal.nD Cert.WinGradKernelIdeal.τ).loc Cert.WinGradKernelIdeal.main_arg1) = m ((c.tc : Thread Cert.WinGradKernelIdeal.nD Cert.WinGradKernelIdeal.τ).loc Cert.WinGradKernelIdeal.main_arg1))
      ∧ θ_run (Cert.WinGradReferenceIdeal.defs (F := Ideal)) (onTc (τ := Cert.WinGradReferenceIdeal.τ) (Cert.WinGradReferenceIdeal.main (F := Ideal))) ⟨m', fun _ => 0, g'⟩ (fun r => ∀ c : Dev Cert.WinGradReferenceIdeal.nD,
          r.2.mem ((c.tc : Thread Cert.WinGradReferenceIdeal.nD Cert.WinGradReferenceIdeal.τ).loc Cert.WinGradReferenceIdeal.main_v6) = v0 c
          ∧ r.2.mem ((c.tc : Thread Cert.WinGradReferenceIdeal.nD Cert.WinGradReferenceIdeal.τ).loc Cert.WinGradReferenceIdeal.main_arg0) = m' ((c.tc : Thread Cert.WinGradReferenceIdeal.nD Cert.WinGradReferenceIdeal.τ).loc Cert.WinGradReferenceIdeal.main_arg0)
          ∧ r.2.mem ((c.tc : Thread Cert.WinGradReferenceIdeal.nD Cert.WinGradReferenceIdeal.τ).loc Cert.WinGradReferenceIdeal.main_arg1) = m' ((c.tc : Thread Cert.WinGradReferenceIdeal.nD Cert.WinGradReferenceIdeal.τ).loc Cert.WinGradReferenceIdeal.main_arg1))

def preserves_OutDactKernel_OutDactKernelIdeal : Prop :=
  True

def algebraic_OutDactKernelIdeal_OutDactReferenceIdeal [hOutDactKernelIdeal : Cert.OutDactKernelIdeal.Facts] [hOutDactReferenceIdeal : Cert.OutDactReferenceIdeal.Facts] : Prop :=
  ∀ (m : (ℓ : Loc Cert.OutDactKernelIdeal.nD Cert.OutDactKernelIdeal.τ Cert.OutDactKernelIdeal.sig) → Buf (Elt Ideal) ℓ) (g : Dev Cert.OutDactKernelIdeal.nD → PrngReg)
    (m' : (ℓ : Loc Cert.OutDactReferenceIdeal.nD Cert.OutDactReferenceIdeal.τ Cert.OutDactReferenceIdeal.sig) → Buf (Elt Ideal) ℓ) (g' : Dev Cert.OutDactReferenceIdeal.nD → PrngReg), Pre_OutDactKernelIdeal m →
    (∀ c : Dev Cert.OutDactKernelIdeal.nD,
      m' ((c.tc : Thread Cert.OutDactReferenceIdeal.nD Cert.OutDactReferenceIdeal.τ).loc Cert.OutDactReferenceIdeal.main_arg0) = m ((c.tc : Thread Cert.OutDactKernelIdeal.nD Cert.OutDactKernelIdeal.τ).loc Cert.OutDactKernelIdeal.main_arg0)
      ∧ m' ((c.tc : Thread Cert.OutDactReferenceIdeal.nD Cert.OutDactReferenceIdeal.τ).loc Cert.OutDactReferenceIdeal.main_arg1) = m ((c.tc : Thread Cert.OutDactKernelIdeal.nD Cert.OutDactKernelIdeal.τ).loc Cert.OutDactKernelIdeal.main_arg1)) →
    ∃ (v0 : (c : Dev Cert.OutDactKernelIdeal.nD) → Buf (Elt Ideal) ((c.tc : Thread Cert.OutDactKernelIdeal.nD Cert.OutDactKernelIdeal.τ).loc Cert.OutDactKernelIdeal.main_v3)),
      θ_run (Cert.OutDactKernelIdeal.defs (F := Ideal)) (onTc (τ := Cert.OutDactKernelIdeal.τ) (Cert.OutDactKernelIdeal.main (F := Ideal))) ⟨m, fun _ => 0, g⟩ (fun r => ∀ c : Dev Cert.OutDactKernelIdeal.nD,
          r.2.mem ((c.tc : Thread Cert.OutDactKernelIdeal.nD Cert.OutDactKernelIdeal.τ).loc Cert.OutDactKernelIdeal.main_v3) = v0 c
          ∧ r.2.mem ((c.tc : Thread Cert.OutDactKernelIdeal.nD Cert.OutDactKernelIdeal.τ).loc Cert.OutDactKernelIdeal.main_arg0) = m ((c.tc : Thread Cert.OutDactKernelIdeal.nD Cert.OutDactKernelIdeal.τ).loc Cert.OutDactKernelIdeal.main_arg0)
          ∧ r.2.mem ((c.tc : Thread Cert.OutDactKernelIdeal.nD Cert.OutDactKernelIdeal.τ).loc Cert.OutDactKernelIdeal.main_arg1) = m ((c.tc : Thread Cert.OutDactKernelIdeal.nD Cert.OutDactKernelIdeal.τ).loc Cert.OutDactKernelIdeal.main_arg1))
      ∧ θ_run (Cert.OutDactReferenceIdeal.defs (F := Ideal)) (onTc (τ := Cert.OutDactReferenceIdeal.τ) (Cert.OutDactReferenceIdeal.main (F := Ideal))) ⟨m', fun _ => 0, g'⟩ (fun r => ∀ c : Dev Cert.OutDactReferenceIdeal.nD,
          r.2.mem ((c.tc : Thread Cert.OutDactReferenceIdeal.nD Cert.OutDactReferenceIdeal.τ).loc Cert.OutDactReferenceIdeal.main_v4) = v0 c
          ∧ r.2.mem ((c.tc : Thread Cert.OutDactReferenceIdeal.nD Cert.OutDactReferenceIdeal.τ).loc Cert.OutDactReferenceIdeal.main_arg0) = m' ((c.tc : Thread Cert.OutDactReferenceIdeal.nD Cert.OutDactReferenceIdeal.τ).loc Cert.OutDactReferenceIdeal.main_arg0)
          ∧ r.2.mem ((c.tc : Thread Cert.OutDactReferenceIdeal.nD Cert.OutDactReferenceIdeal.τ).loc Cert.OutDactReferenceIdeal.main_arg1) = m' ((c.tc : Thread Cert.OutDactReferenceIdeal.nD Cert.OutDactReferenceIdeal.τ).loc Cert.OutDactReferenceIdeal.main_arg1))

def preserves_OutGradKernel_OutGradKernelIdeal : Prop :=
  True

def algebraic_OutGradKernelIdeal_OutGradReferenceIdeal [hOutGradKernelIdeal : Cert.OutGradKernelIdeal.Facts] [hOutGradReferenceIdeal : Cert.OutGradReferenceIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradKernelIdeal m →
    (∀ c : Dev Cert.OutGradKernelIdeal.nD,
      m' ((c.tc : Thread Cert.OutGradReferenceIdeal.nD Cert.OutGradReferenceIdeal.τ).loc Cert.OutGradReferenceIdeal.main_arg0) = m ((c.tc : Thread Cert.OutGradKernelIdeal.nD Cert.OutGradKernelIdeal.τ).loc Cert.OutGradKernelIdeal.main_arg0)
      ∧ m' ((c.tc : Thread Cert.OutGradReferenceIdeal.nD Cert.OutGradReferenceIdeal.τ).loc Cert.OutGradReferenceIdeal.main_arg1) = m ((c.tc : Thread Cert.OutGradKernelIdeal.nD Cert.OutGradKernelIdeal.τ).loc Cert.OutGradKernelIdeal.main_arg1)) →
    ∃ (v0 : (c : Dev Cert.OutGradKernelIdeal.nD) → Buf (Elt Ideal) ((c.tc : Thread Cert.OutGradKernelIdeal.nD Cert.OutGradKernelIdeal.τ).loc Cert.OutGradKernelIdeal.main_v8)),
      θ_run (Cert.OutGradKernelIdeal.defs (F := Ideal)) (onTc (τ := Cert.OutGradKernelIdeal.τ) (Cert.OutGradKernelIdeal.main (F := Ideal))) ⟨m, fun _ => 0, g⟩ (fun r => ∀ c : Dev Cert.OutGradKernelIdeal.nD,
          r.2.mem ((c.tc : Thread Cert.OutGradKernelIdeal.nD Cert.OutGradKernelIdeal.τ).loc Cert.OutGradKernelIdeal.main_v8) = v0 c
          ∧ r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
          ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v5) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_PleBwdKernel_PleBwdKernelIdeal : Prop :=
  True

def algebraic_PleBwdKernelIdeal_PleBwdReferenceIdeal [hPleBwdKernelIdeal : Cert.PleBwdKernelIdeal.Facts] [hPleBwdReferenceIdeal : Cert.PleBwdReferenceIdeal.Facts] : Prop :=
  ∀ (m : (ℓ : Loc Cert.PleBwdKernelIdeal.nD Cert.PleBwdKernelIdeal.τ Cert.PleBwdKernelIdeal.sig) → Buf (Elt Ideal) ℓ) (g : Dev Cert.PleBwdKernelIdeal.nD → PrngReg)
    (m' : (ℓ : Loc Cert.PleBwdReferenceIdeal.nD Cert.PleBwdReferenceIdeal.τ Cert.PleBwdReferenceIdeal.sig) → Buf (Elt Ideal) ℓ) (g' : Dev Cert.PleBwdReferenceIdeal.nD → PrngReg), Pre_PleBwdKernelIdeal m →
    (∀ c : Dev Cert.PleBwdKernelIdeal.nD,
      m' ((c.tc : Thread Cert.PleBwdReferenceIdeal.nD Cert.PleBwdReferenceIdeal.τ).loc Cert.PleBwdReferenceIdeal.main_arg0) = m ((c.tc : Thread Cert.PleBwdKernelIdeal.nD Cert.PleBwdKernelIdeal.τ).loc Cert.PleBwdKernelIdeal.main_arg0)
      ∧ m' ((c.tc : Thread Cert.PleBwdReferenceIdeal.nD Cert.PleBwdReferenceIdeal.τ).loc Cert.PleBwdReferenceIdeal.main_arg1) = m ((c.tc : Thread Cert.PleBwdKernelIdeal.nD Cert.PleBwdKernelIdeal.τ).loc Cert.PleBwdKernelIdeal.main_arg1)
      ∧ m' ((c.tc : Thread Cert.PleBwdReferenceIdeal.nD Cert.PleBwdReferenceIdeal.τ).loc Cert.PleBwdReferenceIdeal.main_arg2) = m ((c.tc : Thread Cert.PleBwdKernelIdeal.nD Cert.PleBwdKernelIdeal.τ).loc Cert.PleBwdKernelIdeal.main_arg2)
      ∧ m' ((c.tc : Thread Cert.PleBwdReferenceIdeal.nD Cert.PleBwdReferenceIdeal.τ).loc Cert.PleBwdReferenceIdeal.main_arg3) = m ((c.tc : Thread Cert.PleBwdKernelIdeal.nD Cert.PleBwdKernelIdeal.τ).loc Cert.PleBwdKernelIdeal.main_arg3)
      ∧ m' ((c.tc : Thread Cert.PleBwdReferenceIdeal.nD Cert.PleBwdReferenceIdeal.τ).loc Cert.PleBwdReferenceIdeal.main_arg4) = m ((c.tc : Thread Cert.PleBwdKernelIdeal.nD Cert.PleBwdKernelIdeal.τ).loc Cert.PleBwdKernelIdeal.main_arg4)) →
    ∃ (v0 : (c : Dev Cert.PleBwdKernelIdeal.nD) → Buf (Elt Ideal) ((c.tc : Thread Cert.PleBwdKernelIdeal.nD Cert.PleBwdKernelIdeal.τ).loc Cert.PleBwdKernelIdeal.main_v7_0)) (v1 : (c : Dev Cert.PleBwdKernelIdeal.nD) → Buf (Elt Ideal) ((c.tc : Thread Cert.PleBwdKernelIdeal.nD Cert.PleBwdKernelIdeal.τ).loc Cert.PleBwdKernelIdeal.main_v7_1)),
      θ_run (Cert.PleBwdKernelIdeal.defs (F := Ideal)) (onTc (τ := Cert.PleBwdKernelIdeal.τ) (Cert.PleBwdKernelIdeal.main (F := Ideal))) ⟨m, fun _ => 0, g⟩ (fun r => ∀ c : Dev Cert.PleBwdKernelIdeal.nD,
          r.2.mem ((c.tc : Thread Cert.PleBwdKernelIdeal.nD Cert.PleBwdKernelIdeal.τ).loc Cert.PleBwdKernelIdeal.main_v7_0) = v0 c
          ∧ r.2.mem ((c.tc : Thread Cert.PleBwdKernelIdeal.nD Cert.PleBwdKernelIdeal.τ).loc Cert.PleBwdKernelIdeal.main_v7_1) = v1 c
          ∧ r.2.mem ((c.tc : Thread Cert.PleBwdKernelIdeal.nD Cert.PleBwdKernelIdeal.τ).loc Cert.PleBwdKernelIdeal.main_arg0) = m ((c.tc : Thread Cert.PleBwdKernelIdeal.nD Cert.PleBwdKernelIdeal.τ).loc Cert.PleBwdKernelIdeal.main_arg0)
          ∧ r.2.mem ((c.tc : Thread Cert.PleBwdKernelIdeal.nD Cert.PleBwdKernelIdeal.τ).loc Cert.PleBwdKernelIdeal.main_arg1) = m ((c.tc : Thread Cert.PleBwdKernelIdeal.nD Cert.PleBwdKernelIdeal.τ).loc Cert.PleBwdKernelIdeal.main_arg1)
          ∧ r.2.mem ((c.tc : Thread Cert.PleBwdKernelIdeal.nD Cert.PleBwdKernelIdeal.τ).loc Cert.PleBwdKernelIdeal.main_arg2) = m ((c.tc : Thread Cert.PleBwdKernelIdeal.nD Cert.PleBwdKernelIdeal.τ).loc Cert.PleBwdKernelIdeal.main_arg2)
          ∧ r.2.mem ((c.tc : Thread Cert.PleBwdKernelIdeal.nD Cert.PleBwdKernelIdeal.τ).loc Cert.PleBwdKernelIdeal.main_arg3) = m ((c.tc : Thread Cert.PleBwdKernelIdeal.nD Cert.PleBwdKernelIdeal.τ).loc Cert.PleBwdKernelIdeal.main_arg3)
          ∧ r.2.mem ((c.tc : Thread Cert.PleBwdKernelIdeal.nD Cert.PleBwdKernelIdeal.τ).loc Cert.PleBwdKernelIdeal.main_arg4) = m ((c.tc : Thread Cert.PleBwdKernelIdeal.nD Cert.PleBwdKernelIdeal.τ).loc Cert.PleBwdKernelIdeal.main_arg4))
      ∧ θ_run (Cert.PleBwdReferenceIdeal.defs (F := Ideal)) (onTc (τ := Cert.PleBwdReferenceIdeal.τ) (Cert.PleBwdReferenceIdeal.main (F := Ideal))) ⟨m', fun _ => 0, g'⟩ (fun r => ∀ c : Dev Cert.PleBwdReferenceIdeal.nD,
          r.2.mem ((c.tc : Thread Cert.PleBwdReferenceIdeal.nD Cert.PleBwdReferenceIdeal.τ).loc Cert.PleBwdReferenceIdeal.main_v15) = v0 c
          ∧ r.2.mem ((c.tc : Thread Cert.PleBwdReferenceIdeal.nD Cert.PleBwdReferenceIdeal.τ).loc Cert.PleBwdReferenceIdeal.main_v18) = v1 c
          ∧ r.2.mem ((c.tc : Thread Cert.PleBwdReferenceIdeal.nD Cert.PleBwdReferenceIdeal.τ).loc Cert.PleBwdReferenceIdeal.main_arg0) = m' ((c.tc : Thread Cert.PleBwdReferenceIdeal.nD Cert.PleBwdReferenceIdeal.τ).loc Cert.PleBwdReferenceIdeal.main_arg0)
          ∧ r.2.mem ((c.tc : Thread Cert.PleBwdReferenceIdeal.nD Cert.PleBwdReferenceIdeal.τ).loc Cert.PleBwdReferenceIdeal.main_arg1) = m' ((c.tc : Thread Cert.PleBwdReferenceIdeal.nD Cert.PleBwdReferenceIdeal.τ).loc Cert.PleBwdReferenceIdeal.main_arg1)
          ∧ r.2.mem ((c.tc : Thread Cert.PleBwdReferenceIdeal.nD Cert.PleBwdReferenceIdeal.τ).loc Cert.PleBwdReferenceIdeal.main_arg2) = m' ((c.tc : Thread Cert.PleBwdReferenceIdeal.nD Cert.PleBwdReferenceIdeal.τ).loc Cert.PleBwdReferenceIdeal.main_arg2)
          ∧ r.2.mem ((c.tc : Thread Cert.PleBwdReferenceIdeal.nD Cert.PleBwdReferenceIdeal.τ).loc Cert.PleBwdReferenceIdeal.main_arg3) = m' ((c.tc : Thread Cert.PleBwdReferenceIdeal.nD Cert.PleBwdReferenceIdeal.τ).loc Cert.PleBwdReferenceIdeal.main_arg3)
          ∧ r.2.mem ((c.tc : Thread Cert.PleBwdReferenceIdeal.nD Cert.PleBwdReferenceIdeal.τ).loc Cert.PleBwdReferenceIdeal.main_arg4) = m' ((c.tc : Thread Cert.PleBwdReferenceIdeal.nD Cert.PleBwdReferenceIdeal.τ).loc Cert.PleBwdReferenceIdeal.main_arg4))

def preserves_PleDxKernel_PleDxKernelIdeal : Prop :=
  True

def algebraic_PleDxKernelIdeal_PleDxReferenceIdeal [hPleDxKernelIdeal : Cert.PleDxKernelIdeal.Facts] [hPleDxReferenceIdeal : Cert.PleDxReferenceIdeal.Facts] : Prop :=
  ∀ (m : (ℓ : Loc Cert.PleDxKernelIdeal.nD Cert.PleDxKernelIdeal.τ Cert.PleDxKernelIdeal.sig) → Buf (Elt Ideal) ℓ) (g : Dev Cert.PleDxKernelIdeal.nD → PrngReg)
    (m' : (ℓ : Loc Cert.PleDxReferenceIdeal.nD Cert.PleDxReferenceIdeal.τ Cert.PleDxReferenceIdeal.sig) → Buf (Elt Ideal) ℓ) (g' : Dev Cert.PleDxReferenceIdeal.nD → PrngReg), Pre_PleDxKernelIdeal m →
    (∀ c : Dev Cert.PleDxKernelIdeal.nD,
      m' ((c.tc : Thread Cert.PleDxReferenceIdeal.nD Cert.PleDxReferenceIdeal.τ).loc Cert.PleDxReferenceIdeal.main_arg0) = m ((c.tc : Thread Cert.PleDxKernelIdeal.nD Cert.PleDxKernelIdeal.τ).loc Cert.PleDxKernelIdeal.main_arg0)
      ∧ m' ((c.tc : Thread Cert.PleDxReferenceIdeal.nD Cert.PleDxReferenceIdeal.τ).loc Cert.PleDxReferenceIdeal.main_arg1) = m ((c.tc : Thread Cert.PleDxKernelIdeal.nD Cert.PleDxKernelIdeal.τ).loc Cert.PleDxKernelIdeal.main_arg1)
      ∧ m' ((c.tc : Thread Cert.PleDxReferenceIdeal.nD Cert.PleDxReferenceIdeal.τ).loc Cert.PleDxReferenceIdeal.main_arg2) = m ((c.tc : Thread Cert.PleDxKernelIdeal.nD Cert.PleDxKernelIdeal.τ).loc Cert.PleDxKernelIdeal.main_arg2)
      ∧ m' ((c.tc : Thread Cert.PleDxReferenceIdeal.nD Cert.PleDxReferenceIdeal.τ).loc Cert.PleDxReferenceIdeal.main_arg3) = m ((c.tc : Thread Cert.PleDxKernelIdeal.nD Cert.PleDxKernelIdeal.τ).loc Cert.PleDxKernelIdeal.main_arg3)
      ∧ m' ((c.tc : Thread Cert.PleDxReferenceIdeal.nD Cert.PleDxReferenceIdeal.τ).loc Cert.PleDxReferenceIdeal.main_arg4) = m ((c.tc : Thread Cert.PleDxKernelIdeal.nD Cert.PleDxKernelIdeal.τ).loc Cert.PleDxKernelIdeal.main_arg4)) →
    ∃ (v0 : (c : Dev Cert.PleDxKernelIdeal.nD) → Buf (Elt Ideal) ((c.tc : Thread Cert.PleDxKernelIdeal.nD Cert.PleDxKernelIdeal.τ).loc Cert.PleDxKernelIdeal.main_v5_0)) (v1 : (c : Dev Cert.PleDxKernelIdeal.nD) → Buf (Elt Ideal) ((c.tc : Thread Cert.PleDxKernelIdeal.nD Cert.PleDxKernelIdeal.τ).loc Cert.PleDxKernelIdeal.main_v5_1)) (v2 : (c : Dev Cert.PleDxKernelIdeal.nD) → Buf (Elt Ideal) ((c.tc : Thread Cert.PleDxKernelIdeal.nD Cert.PleDxKernelIdeal.τ).loc Cert.PleDxKernelIdeal.main_v5_2)),
      θ_run (Cert.PleDxKernelIdeal.defs (F := Ideal)) (onTc (τ := Cert.PleDxKernelIdeal.τ) (Cert.PleDxKernelIdeal.main (F := Ideal))) ⟨m, fun _ => 0, g⟩ (fun r => ∀ c : Dev Cert.PleDxKernelIdeal.nD,
          r.2.mem ((c.tc : Thread Cert.PleDxKernelIdeal.nD Cert.PleDxKernelIdeal.τ).loc Cert.PleDxKernelIdeal.main_v5_0) = v0 c
          ∧ r.2.mem ((c.tc : Thread Cert.PleDxKernelIdeal.nD Cert.PleDxKernelIdeal.τ).loc Cert.PleDxKernelIdeal.main_v5_1) = v1 c
          ∧ r.2.mem ((c.tc : Thread Cert.PleDxKernelIdeal.nD Cert.PleDxKernelIdeal.τ).loc Cert.PleDxKernelIdeal.main_v5_2) = v2 c
          ∧ r.2.mem ((c.tc : Thread Cert.PleDxKernelIdeal.nD Cert.PleDxKernelIdeal.τ).loc Cert.PleDxKernelIdeal.main_arg0) = m ((c.tc : Thread Cert.PleDxKernelIdeal.nD Cert.PleDxKernelIdeal.τ).loc Cert.PleDxKernelIdeal.main_arg0)
          ∧ r.2.mem ((c.tc : Thread Cert.PleDxKernelIdeal.nD Cert.PleDxKernelIdeal.τ).loc Cert.PleDxKernelIdeal.main_arg1) = m ((c.tc : Thread Cert.PleDxKernelIdeal.nD Cert.PleDxKernelIdeal.τ).loc Cert.PleDxKernelIdeal.main_arg1)
          ∧ r.2.mem ((c.tc : Thread Cert.PleDxKernelIdeal.nD Cert.PleDxKernelIdeal.τ).loc Cert.PleDxKernelIdeal.main_arg2) = m ((c.tc : Thread Cert.PleDxKernelIdeal.nD Cert.PleDxKernelIdeal.τ).loc Cert.PleDxKernelIdeal.main_arg2)
          ∧ r.2.mem ((c.tc : Thread Cert.PleDxKernelIdeal.nD Cert.PleDxKernelIdeal.τ).loc Cert.PleDxKernelIdeal.main_arg3) = m ((c.tc : Thread Cert.PleDxKernelIdeal.nD Cert.PleDxKernelIdeal.τ).loc Cert.PleDxKernelIdeal.main_arg3)
          ∧ r.2.mem ((c.tc : Thread Cert.PleDxKernelIdeal.nD Cert.PleDxKernelIdeal.τ).loc Cert.PleDxKernelIdeal.main_arg4) = m ((c.tc : Thread Cert.PleDxKernelIdeal.nD Cert.PleDxKernelIdeal.τ).loc Cert.PleDxKernelIdeal.main_arg4))
      ∧ θ_run (Cert.PleDxReferenceIdeal.defs (F := Ideal)) (onTc (τ := Cert.PleDxReferenceIdeal.τ) (Cert.PleDxReferenceIdeal.main (F := Ideal))) ⟨m', fun _ => 0, g'⟩ (fun r => ∀ c : Dev Cert.PleDxReferenceIdeal.nD,
          r.2.mem ((c.tc : Thread Cert.PleDxReferenceIdeal.nD Cert.PleDxReferenceIdeal.τ).loc Cert.PleDxReferenceIdeal.main_v38) = v0 c
          ∧ r.2.mem ((c.tc : Thread Cert.PleDxReferenceIdeal.nD Cert.PleDxReferenceIdeal.τ).loc Cert.PleDxReferenceIdeal.main_v41) = v1 c
          ∧ r.2.mem ((c.tc : Thread Cert.PleDxReferenceIdeal.nD Cert.PleDxReferenceIdeal.τ).loc Cert.PleDxReferenceIdeal.main_v42) = v2 c
          ∧ r.2.mem ((c.tc : Thread Cert.PleDxReferenceIdeal.nD Cert.PleDxReferenceIdeal.τ).loc Cert.PleDxReferenceIdeal.main_arg0) = m' ((c.tc : Thread Cert.PleDxReferenceIdeal.nD Cert.PleDxReferenceIdeal.τ).loc Cert.PleDxReferenceIdeal.main_arg0)
          ∧ r.2.mem ((c.tc : Thread Cert.PleDxReferenceIdeal.nD Cert.PleDxReferenceIdeal.τ).loc Cert.PleDxReferenceIdeal.main_arg1) = m' ((c.tc : Thread Cert.PleDxReferenceIdeal.nD Cert.PleDxReferenceIdeal.τ).loc Cert.PleDxReferenceIdeal.main_arg1)
          ∧ r.2.mem ((c.tc : Thread Cert.PleDxReferenceIdeal.nD Cert.PleDxReferenceIdeal.τ).loc Cert.PleDxReferenceIdeal.main_arg2) = m' ((c.tc : Thread Cert.PleDxReferenceIdeal.nD Cert.PleDxReferenceIdeal.τ).loc Cert.PleDxReferenceIdeal.main_arg2)
          ∧ r.2.mem ((c.tc : Thread Cert.PleDxReferenceIdeal.nD Cert.PleDxReferenceIdeal.τ).loc Cert.PleDxReferenceIdeal.main_arg3) = m' ((c.tc : Thread Cert.PleDxReferenceIdeal.nD Cert.PleDxReferenceIdeal.τ).loc Cert.PleDxReferenceIdeal.main_arg3)
          ∧ r.2.mem ((c.tc : Thread Cert.PleDxReferenceIdeal.nD Cert.PleDxReferenceIdeal.τ).loc Cert.PleDxReferenceIdeal.main_arg4) = m' ((c.tc : Thread Cert.PleDxReferenceIdeal.nD Cert.PleDxReferenceIdeal.τ).loc Cert.PleDxReferenceIdeal.main_arg4))

def preserves_GateGradKernel_GateGradKernelIdeal : Prop :=
  True

def algebraic_GateGradKernelIdeal_GateGradReferenceIdeal [hGateGradKernelIdeal : Cert.GateGradKernelIdeal.Facts] [hGateGradReferenceIdeal : Cert.GateGradReferenceIdeal.Facts] : Prop :=
  ∀ (m : (ℓ : Loc Cert.GateGradKernelIdeal.nD Cert.GateGradKernelIdeal.τ Cert.GateGradKernelIdeal.sig) → Buf (Elt Ideal) ℓ) (g : Dev Cert.GateGradKernelIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradKernelIdeal m →
    (∀ c : Dev Cert.GateGradKernelIdeal.nD,
      m' ((c.tc : Thread Cert.GateGradReferenceIdeal.nD Cert.GateGradReferenceIdeal.τ).loc Cert.GateGradReferenceIdeal.main_arg0) = m ((c.tc : Thread Cert.GateGradKernelIdeal.nD Cert.GateGradKernelIdeal.τ).loc Cert.GateGradKernelIdeal.main_arg0)
      ∧ m' ((c.tc : Thread Cert.GateGradReferenceIdeal.nD Cert.GateGradReferenceIdeal.τ).loc Cert.GateGradReferenceIdeal.main_arg1) = m ((c.tc : Thread Cert.GateGradKernelIdeal.nD Cert.GateGradKernelIdeal.τ).loc Cert.GateGradKernelIdeal.main_arg1)) →
    ∃ (v0 : (c : Dev Cert.GateGradKernelIdeal.nD) → Buf (Elt Ideal) ((c.tc : Thread Cert.GateGradKernelIdeal.nD Cert.GateGradKernelIdeal.τ).loc Cert.GateGradKernelIdeal.main_v4)),
      θ_run (Cert.GateGradKernelIdeal.defs (F := Ideal)) (onTc (τ := Cert.GateGradKernelIdeal.τ) (Cert.GateGradKernelIdeal.main (F := Ideal))) ⟨m, fun _ => 0, g⟩ (fun r => ∀ c : Dev Cert.GateGradKernelIdeal.nD,
          r.2.mem ((c.tc : Thread Cert.GateGradKernelIdeal.nD Cert.GateGradKernelIdeal.τ).loc Cert.GateGradKernelIdeal.main_v4) = v0 c
          ∧ r.2.mem ((c.tc : Thread Cert.GateGradKernelIdeal.nD Cert.GateGradKernelIdeal.τ).loc Cert.GateGradKernelIdeal.main_arg0) = m ((c.tc : Thread Cert.GateGradKernelIdeal.nD Cert.GateGradKernelIdeal.τ).loc Cert.GateGradKernelIdeal.main_arg0)
          ∧ r.2.mem ((c.tc : Thread Cert.GateGradKernelIdeal.nD Cert.GateGradKernelIdeal.τ).loc Cert.GateGradKernelIdeal.main_arg1) = m ((c.tc : Thread Cert.GateGradKernelIdeal.nD Cert.GateGradKernelIdeal.τ).loc Cert.GateGradKernelIdeal.main_arg1))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v5) = v0 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1))

def preserves_EmbGradKernel_EmbGradKernelIdeal : Prop :=
  True

def algebraic_EmbGradKernelIdeal_EmbGradReferenceIdeal [hEmbGradKernelIdeal : Cert.EmbGradKernelIdeal.Facts] [hEmbGradReferenceIdeal : Cert.EmbGradReferenceIdeal.Facts] : Prop :=
  ∀ (m : (ℓ : Loc Cert.EmbGradKernelIdeal.nD Cert.EmbGradKernelIdeal.τ Cert.EmbGradKernelIdeal.sig) → Buf (Elt Ideal) ℓ) (g : Dev Cert.EmbGradKernelIdeal.nD → PrngReg)
    (m' : (ℓ : Loc Cert.EmbGradReferenceIdeal.nD Cert.EmbGradReferenceIdeal.τ Cert.EmbGradReferenceIdeal.sig) → Buf (Elt Ideal) ℓ) (g' : Dev Cert.EmbGradReferenceIdeal.nD → PrngReg), Pre_EmbGradKernelIdeal m →
    (∀ c : Dev Cert.EmbGradKernelIdeal.nD,
      m' ((c.tc : Thread Cert.EmbGradReferenceIdeal.nD Cert.EmbGradReferenceIdeal.τ).loc Cert.EmbGradReferenceIdeal.main_arg0) = m ((c.tc : Thread Cert.EmbGradKernelIdeal.nD Cert.EmbGradKernelIdeal.τ).loc Cert.EmbGradKernelIdeal.main_arg0)
      ∧ m' ((c.tc : Thread Cert.EmbGradReferenceIdeal.nD Cert.EmbGradReferenceIdeal.τ).loc Cert.EmbGradReferenceIdeal.main_arg1) = m ((c.tc : Thread Cert.EmbGradKernelIdeal.nD Cert.EmbGradKernelIdeal.τ).loc Cert.EmbGradKernelIdeal.main_arg1)) →
    ∃ (v0 : (c : Dev Cert.EmbGradKernelIdeal.nD) → Buf (Elt Ideal) ((c.tc : Thread Cert.EmbGradKernelIdeal.nD Cert.EmbGradKernelIdeal.τ).loc Cert.EmbGradKernelIdeal.main_v5)),
      θ_run (Cert.EmbGradKernelIdeal.defs (F := Ideal)) (onTc (τ := Cert.EmbGradKernelIdeal.τ) (Cert.EmbGradKernelIdeal.main (F := Ideal))) ⟨m, fun _ => 0, g⟩ (fun r => ∀ c : Dev Cert.EmbGradKernelIdeal.nD,
          r.2.mem ((c.tc : Thread Cert.EmbGradKernelIdeal.nD Cert.EmbGradKernelIdeal.τ).loc Cert.EmbGradKernelIdeal.main_v5) = v0 c
          ∧ r.2.mem ((c.tc : Thread Cert.EmbGradKernelIdeal.nD Cert.EmbGradKernelIdeal.τ).loc Cert.EmbGradKernelIdeal.main_arg0) = m ((c.tc : Thread Cert.EmbGradKernelIdeal.nD Cert.EmbGradKernelIdeal.τ).loc Cert.EmbGradKernelIdeal.main_arg0)
          ∧ r.2.mem ((c.tc : Thread Cert.EmbGradKernelIdeal.nD Cert.EmbGradKernelIdeal.τ).loc Cert.EmbGradKernelIdeal.main_arg1) = m ((c.tc : Thread Cert.EmbGradKernelIdeal.nD Cert.EmbGradKernelIdeal.τ).loc Cert.EmbGradKernelIdeal.main_arg1))
      ∧ θ_run (Cert.EmbGradReferenceIdeal.defs (F := Ideal)) (onTc (τ := Cert.EmbGradReferenceIdeal.τ) (Cert.EmbGradReferenceIdeal.main (F := Ideal))) ⟨m', fun _ => 0, g'⟩ (fun r => ∀ c : Dev Cert.EmbGradReferenceIdeal.nD,
          r.2.mem ((c.tc : Thread Cert.EmbGradReferenceIdeal.nD Cert.EmbGradReferenceIdeal.τ).loc Cert.EmbGradReferenceIdeal.main_v6) = v0 c
          ∧ r.2.mem ((c.tc : Thread Cert.EmbGradReferenceIdeal.nD Cert.EmbGradReferenceIdeal.τ).loc Cert.EmbGradReferenceIdeal.main_arg0) = m' ((c.tc : Thread Cert.EmbGradReferenceIdeal.nD Cert.EmbGradReferenceIdeal.τ).loc Cert.EmbGradReferenceIdeal.main_arg0)
          ∧ r.2.mem ((c.tc : Thread Cert.EmbGradReferenceIdeal.nD Cert.EmbGradReferenceIdeal.τ).loc Cert.EmbGradReferenceIdeal.main_arg1) = m' ((c.tc : Thread Cert.EmbGradReferenceIdeal.nD Cert.EmbGradReferenceIdeal.τ).loc Cert.EmbGradReferenceIdeal.main_arg1))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)) →
    ∃ (v0 : (c : Dev Cert.PleKernelIdeal.nD) → Buf (Elt Ideal) ((c.tc : Thread Cert.PleKernelIdeal.nD Cert.PleKernelIdeal.τ).loc Cert.PleKernelIdeal.main_v7)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v7) = v0 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v9) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4))

def preserves_GluGradKernel_GluGradKernelIdeal : Prop :=
  True

def algebraic_GluGradKernelIdeal_GluGradReferenceIdeal [hGluGradKernelIdeal : Cert.GluGradKernelIdeal.Facts] [hGluGradReferenceIdeal : Cert.GluGradReferenceIdeal.Facts] : Prop :=
  ∀ (m : (ℓ : Loc Cert.GluGradKernelIdeal.nD Cert.GluGradKernelIdeal.τ Cert.GluGradKernelIdeal.sig) → Buf (Elt Ideal) ℓ) (g : Dev Cert.GluGradKernelIdeal.nD → PrngReg)
    (m' : (ℓ : Loc Cert.GluGradReferenceIdeal.nD Cert.GluGradReferenceIdeal.τ Cert.GluGradReferenceIdeal.sig) → Buf (Elt Ideal) ℓ) (g' : Dev Cert.GluGradReferenceIdeal.nD → PrngReg), Pre_GluGradKernelIdeal m →
    (∀ c : Dev Cert.GluGradKernelIdeal.nD,
      m' ((c.tc : Thread Cert.GluGradReferenceIdeal.nD Cert.GluGradReferenceIdeal.τ).loc Cert.GluGradReferenceIdeal.main_arg0) = m ((c.tc : Thread Cert.GluGradKernelIdeal.nD Cert.GluGradKernelIdeal.τ).loc Cert.GluGradKernelIdeal.main_arg0)
      ∧ m' ((c.tc : Thread Cert.GluGradReferenceIdeal.nD Cert.GluGradReferenceIdeal.τ).loc Cert.GluGradReferenceIdeal.main_arg1) = m ((c.tc : Thread Cert.GluGradKernelIdeal.nD Cert.GluGradKernelIdeal.τ).loc Cert.GluGradKernelIdeal.main_arg1)) →
    ∃ (v0 : (c : Dev Cert.GluGradKernelIdeal.nD) → Buf (Elt Ideal) ((c.tc : Thread Cert.GluGradKernelIdeal.nD Cert.GluGradKernelIdeal.τ).loc Cert.GluGradKernelIdeal.main_v4)),
      θ_run (Cert.GluGradKernelIdeal.defs (F := Ideal)) (onTc (τ := Cert.GluGradKernelIdeal.τ) (Cert.GluGradKernelIdeal.main (F := Ideal))) ⟨m, fun _ => 0, g⟩ (fun r => ∀ c : Dev Cert.GluGradKernelIdeal.nD,
          r.2.mem ((c.tc : Thread Cert.GluGradKernelIdeal.nD Cert.GluGradKernelIdeal.τ).loc Cert.GluGradKernelIdeal.main_v4) = v0 c
          ∧ r.2.mem ((c.tc : Thread Cert.GluGradKernelIdeal.nD Cert.GluGradKernelIdeal.τ).loc Cert.GluGradKernelIdeal.main_arg0) = m ((c.tc : Thread Cert.GluGradKernelIdeal.nD Cert.GluGradKernelIdeal.τ).loc Cert.GluGradKernelIdeal.main_arg0)
          ∧ r.2.mem ((c.tc : Thread Cert.GluGradKernelIdeal.nD Cert.GluGradKernelIdeal.τ).loc Cert.GluGradKernelIdeal.main_arg1) = m ((c.tc : Thread Cert.GluGradKernelIdeal.nD Cert.GluGradKernelIdeal.τ).loc Cert.GluGradKernelIdeal.main_arg1))
      ∧ θ_run (Cert.GluGradReferenceIdeal.defs (F := Ideal)) (onTc (τ := Cert.GluGradReferenceIdeal.τ) (Cert.GluGradReferenceIdeal.main (F := Ideal))) ⟨m', fun _ => 0, g'⟩ (fun r => ∀ c : Dev Cert.GluGradReferenceIdeal.nD,
          r.2.mem ((c.tc : Thread Cert.GluGradReferenceIdeal.nD Cert.GluGradReferenceIdeal.τ).loc Cert.GluGradReferenceIdeal.main_v5) = v0 c
          ∧ r.2.mem ((c.tc : Thread Cert.GluGradReferenceIdeal.nD Cert.GluGradReferenceIdeal.τ).loc Cert.GluGradReferenceIdeal.main_arg0) = m' ((c.tc : Thread Cert.GluGradReferenceIdeal.nD Cert.GluGradReferenceIdeal.τ).loc Cert.GluGradReferenceIdeal.main_arg0)
          ∧ r.2.mem ((c.tc : Thread Cert.GluGradReferenceIdeal.nD Cert.GluGradReferenceIdeal.τ).loc Cert.GluGradReferenceIdeal.main_arg1) = m' ((c.tc : Thread Cert.GluGradReferenceIdeal.nD Cert.GluGradReferenceIdeal.τ).loc Cert.GluGradReferenceIdeal.main_arg1))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)) →
    ∃ (v0 : (c : Dev Cert.GluKernelIdeal.nD) → Buf (Elt Ideal) ((c.tc : Thread Cert.GluKernelIdeal.nD Cert.GluKernelIdeal.τ).loc Cert.GluKernelIdeal.main_v3)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v3) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v37) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_GluBwdKernel_GluBwdKernelIdeal : Prop :=
  IdealRules.named_const.Statement Cert.GluBwdKernelIdeal.κ "gelu_cubic" .f32 0x3D372713#32 ((8943 / 200000 : ℝ) : EReal)
  ∧ IdealRules.named_const.Statement Cert.GluBwdKernelIdeal.κ "gelu_cubic_3" .f32 0x3E095D4F#32 ((26829 / 200000 : ℝ) : EReal)

def algebraic_GluBwdKernelIdeal_GluBwdReferenceIdeal_pre_glu_finite [hGluBwdKernelIdeal : Cert.GluBwdKernelIdeal.Facts] [hGluBwdReferenceIdeal : Cert.GluBwdReferenceIdeal.Facts] [hPre_glu_finite : Cert.Pre_glu_finite.Facts] : Prop :=
  ∀ (m : (ℓ : Loc Cert.GluBwdKernelIdeal.nD Cert.GluBwdKernelIdeal.τ Cert.GluBwdKernelIdeal.sig) → Buf (Elt Ideal) ℓ) (g : Dev Cert.GluBwdKernelIdeal.nD → PrngReg)
    (m' : (ℓ : Loc Cert.GluBwdReferenceIdeal.nD Cert.GluBwdReferenceIdeal.τ Cert.GluBwdReferenceIdeal.sig) → Buf (Elt Ideal) ℓ) (g' : Dev Cert.GluBwdReferenceIdeal.nD → PrngReg), Pre_GluBwdKernelIdeal_glu_finite m →
    (∀ c : Dev Cert.GluBwdKernelIdeal.nD,
      m' ((c.tc : Thread Cert.GluBwdReferenceIdeal.nD Cert.GluBwdReferenceIdeal.τ).loc Cert.GluBwdReferenceIdeal.main_arg0) = m ((c.tc : Thread Cert.GluBwdKernelIdeal.nD Cert.GluBwdKernelIdeal.τ).loc Cert.GluBwdKernelIdeal.main_arg0)
      ∧ m' ((c.tc : Thread Cert.GluBwdReferenceIdeal.nD Cert.GluBwdReferenceIdeal.τ).loc Cert.GluBwdReferenceIdeal.main_arg1) = m ((c.tc : Thread Cert.GluBwdKernelIdeal.nD Cert.GluBwdKernelIdeal.τ).loc Cert.GluBwdKernelIdeal.main_arg1)
      ∧ m' ((c.tc : Thread Cert.GluBwdReferenceIdeal.nD Cert.GluBwdReferenceIdeal.τ).loc Cert.GluBwdReferenceIdeal.main_arg2) = m ((c.tc : Thread Cert.GluBwdKernelIdeal.nD Cert.GluBwdKernelIdeal.τ).loc Cert.GluBwdKernelIdeal.main_arg2)
      ∧ m' ((c.tc : Thread Cert.GluBwdReferenceIdeal.nD Cert.GluBwdReferenceIdeal.τ).loc Cert.GluBwdReferenceIdeal.main_arg3) = m ((c.tc : Thread Cert.GluBwdKernelIdeal.nD Cert.GluBwdKernelIdeal.τ).loc Cert.GluBwdKernelIdeal.main_arg3)
      ∧ m' ((c.tc : Thread Cert.GluBwdReferenceIdeal.nD Cert.GluBwdReferenceIdeal.τ).loc Cert.GluBwdReferenceIdeal.main_arg4) = m ((c.tc : Thread Cert.GluBwdKernelIdeal.nD Cert.GluBwdKernelIdeal.τ).loc Cert.GluBwdKernelIdeal.main_arg4)) →
    ∃ (v0 : (c : Dev Cert.GluBwdKernelIdeal.nD) → Buf (Elt Ideal) ((c.tc : Thread Cert.GluBwdKernelIdeal.nD Cert.GluBwdKernelIdeal.τ).loc Cert.GluBwdKernelIdeal.main_v3_0)) (v1 : (c : Dev Cert.GluBwdKernelIdeal.nD) → Buf (Elt Ideal) ((c.tc : Thread Cert.GluBwdKernelIdeal.nD Cert.GluBwdKernelIdeal.τ).loc Cert.GluBwdKernelIdeal.main_v3_1)) (v2 : (c : Dev Cert.GluBwdKernelIdeal.nD) → Buf (Elt Ideal) ((c.tc : Thread Cert.GluBwdKernelIdeal.nD Cert.GluBwdKernelIdeal.τ).loc Cert.GluBwdKernelIdeal.main_v3_2)) (v3 : (c : Dev Cert.GluBwdKernelIdeal.nD) → Buf (Elt Ideal) ((c.tc : Thread Cert.GluBwdKernelIdeal.nD Cert.GluBwdKernelIdeal.τ).loc Cert.GluBwdKernelIdeal.main_v3_3)) (v4 : (c : Dev Cert.GluBwdKernelIdeal.nD) → Buf (Elt Ideal) ((c.tc : Thread Cert.GluBwdKernelIdeal.nD Cert.GluBwdKernelIdeal.τ).loc Cert.GluBwdKernelIdeal.main_v3_4)),
      θ_run (Cert.GluBwdKernelIdeal.defs (F := Ideal)) (onTc (τ := Cert.GluBwdKernelIdeal.τ) (Cert.GluBwdKernelIdeal.main (F := Ideal))) ⟨m, fun _ => 0, g⟩ (fun r => ∀ c : Dev Cert.GluBwdKernelIdeal.nD,
          r.2.mem ((c.tc : Thread Cert.GluBwdKernelIdeal.nD Cert.GluBwdKernelIdeal.τ).loc Cert.GluBwdKernelIdeal.main_v3_0) = v0 c
          ∧ r.2.mem ((c.tc : Thread Cert.GluBwdKernelIdeal.nD Cert.GluBwdKernelIdeal.τ).loc Cert.GluBwdKernelIdeal.main_v3_1) = v1 c
          ∧ r.2.mem ((c.tc : Thread Cert.GluBwdKernelIdeal.nD Cert.GluBwdKernelIdeal.τ).loc Cert.GluBwdKernelIdeal.main_v3_2) = v2 c
          ∧ r.2.mem ((c.tc : Thread Cert.GluBwdKernelIdeal.nD Cert.GluBwdKernelIdeal.τ).loc Cert.GluBwdKernelIdeal.main_v3_3) = v3 c
          ∧ r.2.mem ((c.tc : Thread Cert.GluBwdKernelIdeal.nD Cert.GluBwdKernelIdeal.τ).loc Cert.GluBwdKernelIdeal.main_v3_4) = v4 c
          ∧ r.2.mem ((c.tc : Thread Cert.GluBwdKernelIdeal.nD Cert.GluBwdKernelIdeal.τ).loc Cert.GluBwdKernelIdeal.main_arg0) = m ((c.tc : Thread Cert.GluBwdKernelIdeal.nD Cert.GluBwdKernelIdeal.τ).loc Cert.GluBwdKernelIdeal.main_arg0)
          ∧ r.2.mem ((c.tc : Thread Cert.GluBwdKernelIdeal.nD Cert.GluBwdKernelIdeal.τ).loc Cert.GluBwdKernelIdeal.main_arg1) = m ((c.tc : Thread Cert.GluBwdKernelIdeal.nD Cert.GluBwdKernelIdeal.τ).loc Cert.GluBwdKernelIdeal.main_arg1)
          ∧ r.2.mem ((c.tc : Thread Cert.GluBwdKernelIdeal.nD Cert.GluBwdKernelIdeal.τ).loc Cert.GluBwdKernelIdeal.main_arg2) = m ((c.tc : Thread Cert.GluBwdKernelIdeal.nD Cert.GluBwdKernelIdeal.τ).loc Cert.GluBwdKernelIdeal.main_arg2)
          ∧ r.2.mem ((c.tc : Thread Cert.GluBwdKernelIdeal.nD Cert.GluBwdKernelIdeal.τ).loc Cert.GluBwdKernelIdeal.main_arg3) = m ((c.tc : Thread Cert.GluBwdKernelIdeal.nD Cert.GluBwdKernelIdeal.τ).loc Cert.GluBwdKernelIdeal.main_arg3)
          ∧ r.2.mem ((c.tc : Thread Cert.GluBwdKernelIdeal.nD Cert.GluBwdKernelIdeal.τ).loc Cert.GluBwdKernelIdeal.main_arg4) = m ((c.tc : Thread Cert.GluBwdKernelIdeal.nD Cert.GluBwdKernelIdeal.τ).loc Cert.GluBwdKernelIdeal.main_arg4))
      ∧ θ_run (Cert.GluBwdReferenceIdeal.defs (F := Ideal)) (onTc (τ := Cert.GluBwdReferenceIdeal.τ) (Cert.GluBwdReferenceIdeal.main (F := Ideal))) ⟨m', fun _ => 0, g'⟩ (fun r => ∀ c : Dev Cert.GluBwdReferenceIdeal.nD,
          r.2.mem ((c.tc : Thread Cert.GluBwdReferenceIdeal.nD Cert.GluBwdReferenceIdeal.τ).loc Cert.GluBwdReferenceIdeal.main_v91) = v0 c
          ∧ r.2.mem ((c.tc : Thread Cert.GluBwdReferenceIdeal.nD Cert.GluBwdReferenceIdeal.τ).loc Cert.GluBwdReferenceIdeal.main_v92) = v1 c
          ∧ r.2.mem ((c.tc : Thread Cert.GluBwdReferenceIdeal.nD Cert.GluBwdReferenceIdeal.τ).loc Cert.GluBwdReferenceIdeal.main_v93) = v2 c
          ∧ r.2.mem ((c.tc : Thread Cert.GluBwdReferenceIdeal.nD Cert.GluBwdReferenceIdeal.τ).loc Cert.GluBwdReferenceIdeal.main_v94) = v3 c
          ∧ r.2.mem ((c.tc : Thread Cert.GluBwdReferenceIdeal.nD Cert.GluBwdReferenceIdeal.τ).loc Cert.GluBwdReferenceIdeal.main_v95) = v4 c
          ∧ r.2.mem ((c.tc : Thread Cert.GluBwdReferenceIdeal.nD Cert.GluBwdReferenceIdeal.τ).loc Cert.GluBwdReferenceIdeal.main_arg0) = m' ((c.tc : Thread Cert.GluBwdReferenceIdeal.nD Cert.GluBwdReferenceIdeal.τ).loc Cert.GluBwdReferenceIdeal.main_arg0)
          ∧ r.2.mem ((c.tc : Thread Cert.GluBwdReferenceIdeal.nD Cert.GluBwdReferenceIdeal.τ).loc Cert.GluBwdReferenceIdeal.main_arg1) = m' ((c.tc : Thread Cert.GluBwdReferenceIdeal.nD Cert.GluBwdReferenceIdeal.τ).loc Cert.GluBwdReferenceIdeal.main_arg1)
          ∧ r.2.mem ((c.tc : Thread Cert.GluBwdReferenceIdeal.nD Cert.GluBwdReferenceIdeal.τ).loc Cert.GluBwdReferenceIdeal.main_arg2) = m' ((c.tc : Thread Cert.GluBwdReferenceIdeal.nD Cert.GluBwdReferenceIdeal.τ).loc Cert.GluBwdReferenceIdeal.main_arg2)
          ∧ r.2.mem ((c.tc : Thread Cert.GluBwdReferenceIdeal.nD Cert.GluBwdReferenceIdeal.τ).loc Cert.GluBwdReferenceIdeal.main_arg3) = m' ((c.tc : Thread Cert.GluBwdReferenceIdeal.nD Cert.GluBwdReferenceIdeal.τ).loc Cert.GluBwdReferenceIdeal.main_arg3)
          ∧ r.2.mem ((c.tc : Thread Cert.GluBwdReferenceIdeal.nD Cert.GluBwdReferenceIdeal.τ).loc Cert.GluBwdReferenceIdeal.main_arg4) = m' ((c.tc : Thread Cert.GluBwdReferenceIdeal.nD Cert.GluBwdReferenceIdeal.τ).loc Cert.GluBwdReferenceIdeal.main_arg4))

def Claim : Prop :=
  ∃ (hKernel : Cert.Kernel.Facts) (hKernelIdeal : Cert.KernelIdeal.Facts) (hReferenceIdeal : Cert.ReferenceIdeal.Facts) (hWgradKernel : Cert.WgradKernel.Facts) (hWgradKernelIdeal : Cert.WgradKernelIdeal.Facts) (hWgradReferenceIdeal : Cert.WgradReferenceIdeal.Facts) (hDactKernel : Cert.DactKernel.Facts) (hDactKernelIdeal : Cert.DactKernelIdeal.Facts) (hDactReferenceIdeal : Cert.DactReferenceIdeal.Facts) (hDxKernel : Cert.DxKernel.Facts) (hDxKernelIdeal : Cert.DxKernelIdeal.Facts) (hDxReferenceIdeal : Cert.DxReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hProjKernel : Cert.ProjKernel.Facts) (hProjKernelIdeal : Cert.ProjKernelIdeal.Facts) (hProjReferenceIdeal : Cert.ProjReferenceIdeal.Facts) (hOutKernel : Cert.OutKernel.Facts) (hOutKernelIdeal : Cert.OutKernelIdeal.Facts) (hOutReferenceIdeal : Cert.OutReferenceIdeal.Facts) (hMixDxKernel : Cert.MixDxKernel.Facts) (hMixDxKernelIdeal : Cert.MixDxKernelIdeal.Facts) (hMixDxReferenceIdeal : Cert.MixDxReferenceIdeal.Facts) (hWinGradKernel : Cert.WinGradKernel.Facts) (hWinGradKernelIdeal : Cert.WinGradKernelIdeal.Facts) (hWinGradReferenceIdeal : Cert.WinGradReferenceIdeal.Facts) (hOutDactKernel : Cert.OutDactKernel.Facts) (hOutDactKernelIdeal : Cert.OutDactKernelIdeal.Facts) (hOutDactReferenceIdeal : Cert.OutDactReferenceIdeal.Facts) (hOutGradKernel : Cert.OutGradKernel.Facts) (hOutGradKernelIdeal : Cert.OutGradKernelIdeal.Facts) (hOutGradReferenceIdeal : Cert.OutGradReferenceIdeal.Facts) (hPleBwdKernel : Cert.PleBwdKernel.Facts) (hPleBwdKernelIdeal : Cert.PleBwdKernelIdeal.Facts) (hPleBwdReferenceIdeal : Cert.PleBwdReferenceIdeal.Facts) (hPleDxKernel : Cert.PleDxKernel.Facts) (hPleDxKernelIdeal : Cert.PleDxKernelIdeal.Facts) (hPleDxReferenceIdeal : Cert.PleDxReferenceIdeal.Facts) (hGateGradKernel : Cert.GateGradKernel.Facts) (hGateGradKernelIdeal : Cert.GateGradKernelIdeal.Facts) (hGateGradReferenceIdeal : Cert.GateGradReferenceIdeal.Facts) (hEmbGradKernel : Cert.EmbGradKernel.Facts) (hEmbGradKernelIdeal : Cert.EmbGradKernelIdeal.Facts) (hEmbGradReferenceIdeal : Cert.EmbGradReferenceIdeal.Facts) (hPleKernel : Cert.PleKernel.Facts) (hPleKernelIdeal : Cert.PleKernelIdeal.Facts) (hPleReferenceIdeal : Cert.PleReferenceIdeal.Facts) (hGluGradKernel : Cert.GluGradKernel.Facts) (hGluGradKernelIdeal : Cert.GluGradKernelIdeal.Facts) (hGluGradReferenceIdeal : Cert.GluGradReferenceIdeal.Facts) (hGluKernel : Cert.GluKernel.Facts) (hGluKernelIdeal : Cert.GluKernelIdeal.Facts) (hGluReferenceIdeal : Cert.GluReferenceIdeal.Facts) (hNormKernel : Cert.NormKernel.Facts) (hNormKernelIdeal : Cert.NormKernelIdeal.Facts) (hNormReferenceIdeal : Cert.NormReferenceIdeal.Facts) (hGluBwdKernel : Cert.GluBwdKernel.Facts) (hGluBwdKernelIdeal : Cert.GluBwdKernelIdeal.Facts) (hGluBwdReferenceIdeal : Cert.GluBwdReferenceIdeal.Facts) (hPre_finite : Cert.Pre_finite.Facts) (hPre_dact_finite : Cert.Pre_dact_finite.Facts) (hPre_glu_finite : Cert.Pre_glu_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ quiescent_DactKernel (hDactKernel := hDactKernel)
    ∧ quiescent_DactKernelIdeal (hDactKernelIdeal := hDactKernelIdeal)
    ∧ quiescent_DactKernelIdeal_pre_dact_finite (hDactKernelIdeal := hDactKernelIdeal) (hPre_dact_finite := hPre_dact_finite)
    ∧ quiescent_DactReferenceIdeal (hDactReferenceIdeal := hDactReferenceIdeal)
    ∧ quiescent_DactReferenceIdeal_pre_dact_finite (hDactReferenceIdeal := hDactReferenceIdeal) (hPre_dact_finite := hPre_dact_finite)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MixDxKernel (hMixDxKernel := hMixDxKernel)
    ∧ quiescent_MixDxKernelIdeal (hMixDxKernelIdeal := hMixDxKernelIdeal)
    ∧ quiescent_MixDxReferenceIdeal (hMixDxReferenceIdeal := hMixDxReferenceIdeal)
    ∧ quiescent_WinGradKernel (hWinGradKernel := hWinGradKernel)
    ∧ quiescent_WinGradKernelIdeal (hWinGradKernelIdeal := hWinGradKernelIdeal)
    ∧ quiescent_WinGradReferenceIdeal (hWinGradReferenceIdeal := hWinGradReferenceIdeal)
    ∧ quiescent_OutDactKernel (hOutDactKernel := hOutDactKernel)
    ∧ quiescent_OutDactKernelIdeal (hOutDactKernelIdeal := hOutDactKernelIdeal)
    ∧ quiescent_OutDactReferenceIdeal (hOutDactReferenceIdeal := hOutDactReferenceIdeal)
    ∧ quiescent_OutGradKernel (hOutGradKernel := hOutGradKernel)
    ∧ quiescent_OutGradKernelIdeal (hOutGradKernelIdeal := hOutGradKernelIdeal)
    ∧ quiescent_OutGradReferenceIdeal (hOutGradReferenceIdeal := hOutGradReferenceIdeal)
    ∧ quiescent_PleBwdKernel (hPleBwdKernel := hPleBwdKernel)
    ∧ quiescent_PleBwdKernelIdeal (hPleBwdKernelIdeal := hPleBwdKernelIdeal)
    ∧ quiescent_PleBwdReferenceIdeal (hPleBwdReferenceIdeal := hPleBwdReferenceIdeal)
    ∧ quiescent_PleDxKernel (hPleDxKernel := hPleDxKernel)
    ∧ quiescent_PleDxKernelIdeal (hPleDxKernelIdeal := hPleDxKernelIdeal)
    ∧ quiescent_PleDxReferenceIdeal (hPleDxReferenceIdeal := hPleDxReferenceIdeal)
    ∧ quiescent_GateGradKernel (hGateGradKernel := hGateGradKernel)
    ∧ quiescent_GateGradKernelIdeal (hGateGradKernelIdeal := hGateGradKernelIdeal)
    ∧ quiescent_GateGradReferenceIdeal (hGateGradReferenceIdeal := hGateGradReferenceIdeal)
    ∧ quiescent_EmbGradKernel (hEmbGradKernel := hEmbGradKernel)
    ∧ quiescent_EmbGradKernelIdeal (hEmbGradKernelIdeal := hEmbGradKernelIdeal)
    ∧ quiescent_EmbGradReferenceIdeal (hEmbGradReferenceIdeal := hEmbGradReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_GluGradKernel (hGluGradKernel := hGluGradKernel)
    ∧ quiescent_GluGradKernelIdeal (hGluGradKernelIdeal := hGluGradKernelIdeal)
    ∧ quiescent_GluGradReferenceIdeal (hGluGradReferenceIdeal := hGluGradReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GluBwdKernel (hGluBwdKernel := hGluBwdKernel)
    ∧ quiescent_GluBwdKernelIdeal (hGluBwdKernelIdeal := hGluBwdKernelIdeal)
    ∧ quiescent_GluBwdKernelIdeal_pre_glu_finite (hGluBwdKernelIdeal := hGluBwdKernelIdeal) (hPre_glu_finite := hPre_glu_finite)
    ∧ quiescent_GluBwdReferenceIdeal (hGluBwdReferenceIdeal := hGluBwdReferenceIdeal)
    ∧ quiescent_GluBwdReferenceIdeal_pre_glu_finite (hGluBwdReferenceIdeal := hGluBwdReferenceIdeal) (hPre_glu_finite := hPre_glu_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_WgradKernel_WgradKernelIdeal
    ∧ algebraic_WgradKernelIdeal_WgradReferenceIdeal (hWgradKernelIdeal := hWgradKernelIdeal) (hWgradReferenceIdeal := hWgradReferenceIdeal)
    ∧ preserves_DactKernel_DactKernelIdeal
    ∧ algebraic_DactKernelIdeal_DactReferenceIdeal_pre_dact_finite (hDactKernelIdeal := hDactKernelIdeal) (hDactReferenceIdeal := hDactReferenceIdeal) (hPre_dact_finite := hPre_dact_finite)
    ∧ preserves_DxKernel_DxKernelIdeal
    ∧ algebraic_DxKernelIdeal_DxReferenceIdeal (hDxKernelIdeal := hDxKernelIdeal) (hDxReferenceIdeal := hDxReferenceIdeal)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_OutKernel_OutKernelIdeal
    ∧ algebraic_OutKernelIdeal_OutReferenceIdeal (hOutKernelIdeal := hOutKernelIdeal) (hOutReferenceIdeal := hOutReferenceIdeal)
    ∧ preserves_MixDxKernel_MixDxKernelIdeal
    ∧ algebraic_MixDxKernelIdeal_MixDxReferenceIdeal (hMixDxKernelIdeal := hMixDxKernelIdeal) (hMixDxReferenceIdeal := hMixDxReferenceIdeal)
    ∧ preserves_WinGradKernel_WinGradKernelIdeal
    ∧ algebraic_WinGradKernelIdeal_WinGradReferenceIdeal (hWinGradKernelIdeal := hWinGradKernelIdeal) (hWinGradReferenceIdeal := hWinGradReferenceIdeal)
    ∧ preserves_OutDactKernel_OutDactKernelIdeal
    ∧ algebraic_OutDactKernelIdeal_OutDactReferenceIdeal (hOutDactKernelIdeal := hOutDactKernelIdeal) (hOutDactReferenceIdeal := hOutDactReferenceIdeal)
    ∧ preserves_OutGradKernel_OutGradKernelIdeal
    ∧ algebraic_OutGradKernelIdeal_OutGradReferenceIdeal (hOutGradKernelIdeal := hOutGradKernelIdeal) (hOutGradReferenceIdeal := hOutGradReferenceIdeal)
    ∧ preserves_PleBwdKernel_PleBwdKernelIdeal
    ∧ algebraic_PleBwdKernelIdeal_PleBwdReferenceIdeal (hPleBwdKernelIdeal := hPleBwdKernelIdeal) (hPleBwdReferenceIdeal := hPleBwdReferenceIdeal)
    ∧ preserves_PleDxKernel_PleDxKernelIdeal
    ∧ algebraic_PleDxKernelIdeal_PleDxReferenceIdeal (hPleDxKernelIdeal := hPleDxKernelIdeal) (hPleDxReferenceIdeal := hPleDxReferenceIdeal)
    ∧ preserves_GateGradKernel_GateGradKernelIdeal
    ∧ algebraic_GateGradKernelIdeal_GateGradReferenceIdeal (hGateGradKernelIdeal := hGateGradKernelIdeal) (hGateGradReferenceIdeal := hGateGradReferenceIdeal)
    ∧ preserves_EmbGradKernel_EmbGradKernelIdeal
    ∧ algebraic_EmbGradKernelIdeal_EmbGradReferenceIdeal (hEmbGradKernelIdeal := hEmbGradKernelIdeal) (hEmbGradReferenceIdeal := hEmbGradReferenceIdeal)
    ∧ preserves_PleKernel_PleKernelIdeal
    ∧ algebraic_PleKernelIdeal_PleReferenceIdeal (hPleKernelIdeal := hPleKernelIdeal) (hPleReferenceIdeal := hPleReferenceIdeal)
    ∧ preserves_GluGradKernel_GluGradKernelIdeal
    ∧ algebraic_GluGradKernelIdeal_GluGradReferenceIdeal (hGluGradKernelIdeal := hGluGradKernelIdeal) (hGluGradReferenceIdeal := hGluGradReferenceIdeal)
    ∧ preserves_GluKernel_GluKernelIdeal
    ∧ algebraic_GluKernelIdeal_GluReferenceIdeal (hGluKernelIdeal := hGluKernelIdeal) (hGluReferenceIdeal := hGluReferenceIdeal)
    ∧ preserves_NormKernel_NormKernelIdeal
    ∧ algebraic_NormKernelIdeal_NormReferenceIdeal (hNormKernelIdeal := hNormKernelIdeal) (hNormReferenceIdeal := hNormReferenceIdeal)
    ∧ preserves_GluBwdKernel_GluBwdKernelIdeal
    ∧ algebraic_GluBwdKernelIdeal_GluBwdReferenceIdeal_pre_glu_finite (hGluBwdKernelIdeal := hGluBwdKernelIdeal) (hGluBwdReferenceIdeal := hGluBwdReferenceIdeal) (hPre_glu_finite := hPre_glu_finite)
-- ==== Pre_dact_finite.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x2816 .f32) (main_arg1 : FVec F S2048x2816 .f32) (main_arg2 : FVec F S2816x1024 .f32) (main_arg3 : FVec F S2048x1024 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2048x2816 .f32 := Host.absf main_arg1
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_c_1 : IVec S_ 1 := constantI S_ 1 1#1
  let main_v7 : IVec S_ 1 := (fun x v => Host.reduce IntOp.andi x v reducesTo_S2048x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_finite.lean ====
abbrev S2048x512 : Shape := ⟨2, ![2048, 512]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32x64x16 : S_.BroadcastsInDim S32x64x16 (![] : Fin 0 → Fin S32x64x16.rank)
  reducesTo_S32x64x16_S_d0_1_2 : S32x64x16.ReducesTo [0, 1, 2] S_
  bcast_S_S32x16x64 : S_.BroadcastsInDim S32x16x64 (![] : Fin 0 → Fin S32x16x64.rank)
  reducesTo_S32x16x64_S_d0_1_2 : S32x16x64.ReducesTo [0, 1, 2] S_
  bcast_S_S32x16 : S_.BroadcastsInDim S32x16 (![] : Fin 0 → Fin S32x16.rank)
  reducesTo_S32x16_S_d0_1 : S32x16.ReducesTo [0, 1] S_

variable [Facts]

def fn_part2 {F : FTy → Type} [FloatOps F] (main_arg7 : FVec F S32x16x64 .f32) (main_arg8 : FVec F S32x16 .f32) (main_v33 : IVec S_ 1) : IVec S_ 1 :=
  let main_v34 : FVec F S32x16x64 .f32 := Host.absf main_arg7
  let main_cst_12 : FVec F S_ .f32 := constant S_ .f32 0x7F800000#32
  let main_v35 : FVec F S32x16x64 .f32 := broadcastInDim S32x16x64 ![] bcast_S_S32x16x64 main_cst_12
  let main_v36 : IVec S32x16x64 1 := cmpf .olt main_v34 main_v35
  let main_c_13 : IVec S_ 1 := constantI S_ 1 1#1
  let main_v37 : IVec S_ 1 := (fun x v => Host.reduce IntOp.andi x v reducesTo_S32x16x64_S_d0_1_2 h_S_) main_v36 main_c_13
  let main_v38 : IVec S_ 1 := andi main_v33 main_v37
  let main_v39 : FVec F S32x16 .f32 := Host.absf main_arg8
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  main_v43

def fn_part1 {F : FTy → Type} [FloatOps F] (main_arg4 : FVec F S32x64x16 .f32) (main_arg5 : FVec F S32x64x16 .f32) (main_arg6 : FVec F S32x16x64 .f32) (main_arg7 : FVec F S32x16x64 .f32) (main_arg8 : FVec F S32x16 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x64x16 .f32 := Host.absf main_arg4
  let main_cst_6 : FVec F S_ .f32 := constant S_ .f32 0x7F800000#32
  let main_v20 : FVec F S32x64x16 .f32 := broadcastInDim S32x64x16 ![] bcast_S_S32x64x16 main_cst_6
  let main_v21 : IVec S32x64x16 1 := cmpf .olt main_v19 main_v20
  let main_c_7 : IVec S_ 1 := constantI S_ 1 1#1
  let main_v22 : IVec S_ 1 := (fun x v => Host.reduce IntOp.andi x v reducesTo_S32x64x16_S_d0_1_2 h_S_) main_v21 main_c_7
  let main_v23 : IVec S_ 1 := andi main_v18 main_v22
  let main_v24 : FVec F S32x64x16 .f32 := Host.absf main_arg5
  let main_cst_8 : FVec F S_ .f32 := constant S_ .f32 0x7F800000#32
  let main_v25 : FVec F S32x64x16 .f32 := broadcastInDim S32x64x16 ![] bcast_S_S32x64x16 main_cst_8
  let main_v26 : IVec S32x64x16 1 := cmpf .olt main_v24 main_v25
  let main_c_9 : IVec S_ 1 := constantI S_ 1 1#1
  let main_v27 : IVec S_ 1 := (fun x v => Host.reduce IntOp.andi x v reducesTo_S32x64x16_S_d0_1_2 h_S_) main_v26 main_c_9
  let main_v28 : IVec S_ 1 := andi main_v23 main_v27
  let main_v29 : FVec F S32x16x64 .f32 := Host.absf main_arg6
  let main_cst_10 : FVec F S_ .f32 := constant S_ .f32 0x7F800000#32
  let main_v30 : FVec F S32x16x64 .f32 := broadcastInDim S32x16x64 ![] bcast_S_S32x16x64 main_cst_10
  let main_v31 : IVec S32x16x64 1 := cmpf .olt main_v29 main_v30
  let main_c_11 : IVec S_ 1 := constantI S_ 1 1#1
  let main_v32 : IVec S_ 1 := (fun x v => Host.reduce IntOp.andi x v reducesTo_S32x16x64_S_d0_1_2 h_S_) main_v31 main_c_11
  let main_v33 : IVec S_ 1 := andi main_v28 main_v32
  fn_part2 (F := F) main_arg7 main_arg8 main_v33

def fn {F : FTy → Type} [FloatOps F] (main_arg0 : FVec F S2048x512 .f32) (main_arg1 : FVec F S2048x512 .f32) (main_arg2 : FVec F S32x64 .f32) (main_arg3 : FVec F S32x64 .f32) (main_arg4 : FVec F S32x64x16 .f32) (main_arg5 : FVec F S32x64x16 .f32) (main_arg6 : FVec F S32x16x64 .f32) (main_arg7 : FVec F S32x16x64 .f32) (main_arg8 : FVec F S32x16 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_v13 main_v16
-- ==== Pre_glu_finite.lean ====
abbrev S2048x512 : Shape := ⟨2, ![2048, 512]⟩
abbrev S512x512 : Shape := ⟨2, ![512, 512]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x512 .f32) (main_arg1 : FVec F S512x512 .f32) (main_arg2 : FVec F S512 .f32) (main_arg3 : FVec F S512 .f32) (main_arg4 : FVec F S2048x512 .f32) : IVec S_ 1 :=
  let main_v0 : FVec F S512 .f32 := Host.absf main_arg3
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S2048x512 .f32 := Host.absf main_arg4
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S2048x512 : Shape := ⟨2, ![2048, 512]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S2048 : Shape := ⟨1, ![2048]⟩
abbrev S1x2048 : Shape := ⟨2, ![1, 2048]⟩
abbrev S2x2048 : Shape := ⟨2, ![2, 2048]⟩
abbrev S8x256x512 : Shape := ⟨3, ![8, 256, 512]⟩
abbrev S256x8x512 : Shape := ⟨3, ![256, 8, 512]⟩
abbrev S4x8x64x16 : Shape := ⟨4, ![4, 8, 64, 16]⟩
abbrev S4x8x16x64 : Shape := ⟨4, ![4, 8, 16, 64]⟩
abbrev S8x8 : Shape := ⟨2, ![8, 8]⟩
abbrev S_ : Shape := ⟨0, ![]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x512 : Shape := ⟨2, ![1, 512]⟩
abbrev S2048x128 : Shape := ⟨2, ![2048, 128]⟩
abbrev S2x512 : Shape := ⟨2, ![2, 512]⟩
abbrev S1x128x512 : Shape := ⟨3, ![1, 128, 512]⟩
abbrev S1x512x128 : Shape := ⟨3, ![1, 512, 128]⟩
abbrev S1x128 : Shape := ⟨2, ![1, 128]⟩
abbrev S128x512 : Shape := ⟨2, ![128, 512]⟩
abbrev S8x512 : Shape := ⟨2, ![8, 512]⟩
abbrev S512x128 : Shape := ⟨2, ![512, 128]⟩
abbrev S512 : Shape := ⟨1, ![512]⟩
abbrev S128 : Shape := ⟨1, ![128]⟩
abbrev S4x1x16x1x64 : Shape := ⟨5, ![4, 1, 16, 1, 64]⟩
abbrev S4x16x64 : Shape := ⟨3, ![4, 16, 64]⟩
abbrev S4x1x16x64 : Shape := ⟨4, ![4, 1, 16, 64]⟩
abbrev S4x1x64x1x16 : Shape := ⟨5, ![4, 1, 64, 1, 16]⟩
abbrev S4x64x16 : Shape := ⟨3, ![4, 64, 16]⟩
abbrev S4x1x64x16 : Shape := ⟨4, ![4, 1, 64, 16]⟩

abbrev nBuf : Space → Nat
  | .hbm => 214
  | .vmem => 34
  | .smem => 0
  | _ => 0

abbrev hbmTy0_0 (i : Nat) : BufTy := match i % 128 with
  | 0 => ⟨S2048x512, .f32⟩
  | 1 => ⟨S2048x512, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S32x16, .f32⟩
  | 9 => ⟨S2048, .f32⟩
  | 10 => ⟨S2048, .f32⟩
  | 11 => ⟨S1x2048, .f32⟩
  | 12 => ⟨S1x2048, .f32⟩
  | 13 => ⟨S2x2048, .f32⟩
  | 14 => ⟨S8x256x512, .f32⟩
  | 15 => ⟨S256x8x512, .f32⟩
  | 16 => ⟨S2048x512, .f32⟩
  | 17 => ⟨S8x256x512, .f32⟩
  | 18 => ⟨S256x8x512, .f32⟩
  | 19 => ⟨S2048x512, .f32⟩
  | 20 => ⟨S4x8x64x16, .f32⟩
  | 21 => ⟨S4x8x16x64, .f32⟩
  | 22 => ⟨S8x8, .i32⟩
  | 23 => ⟨S8x8, .i32⟩
  | 24 => ⟨S_, .i32⟩
  | 25 => ⟨S8x8, .i32⟩
  | 26 => ⟨S8x8, .i32⟩
  | 27 => ⟨S8x8, .i1⟩
  | 28 => ⟨S8x8, .f32⟩
  | 29 => ⟨S4x8x16x1x64, .f32⟩
  | 30 => ⟨S1x8x1x8x1, .f32⟩
  | 31 => ⟨S4x8x16x8x64, .f32⟩
  | 32 => ⟨S4x8x16x8x64, .f32⟩
  | 33 => ⟨S4x8x16x8x64, .f32⟩
  | 34 => ⟨S4x128x512, .f32⟩
  | 35 => ⟨S4x128x512, .bf16⟩
  | 36 => ⟨S4x8x64x16, .f32⟩
  | 37 => ⟨S4x8x16x64, .f32⟩
  | 38 => ⟨S8x8, .i32⟩
  | 39 => ⟨S8x8, .i32⟩
  | 40 => ⟨S_, .i32⟩
  | 41 => ⟨S8x8, .i32⟩
  | 42 => ⟨S8x8, .i32⟩
  | 43 => ⟨S8x8, .i1⟩
  | 44 => ⟨S8x8, .f32⟩
  | 45 => ⟨S4x8x16x1x64, .f32⟩
  | 46 => ⟨S1x8x1x8x1, .f32⟩
  | 47 => ⟨S4x8x16x8x64, .f32⟩
  | 48 => ⟨S4x8x16x8x64, .f32⟩
  | 49 => ⟨S4x8x16x8x64, .f32⟩
  | 50 => ⟨S4x128x512, .f32⟩
  | 51 => ⟨S4x128x512, .bf16⟩
  | 52 => ⟨S4x8x16x64, .f32⟩
  | 53 => ⟨S4x8x64x16, .f32⟩
  | 54 => ⟨S8x8, .i32⟩
  | 55 => ⟨S8x8, .i32⟩
  | 56 => ⟨S_, .i32⟩
  | 57 => ⟨S8x8, .i32⟩
  | 58 => ⟨S8x8, .i32⟩
  | 59 => ⟨S8x8, .i1⟩
  | 60 => ⟨S8x8, .f32⟩
  | 61 => ⟨S4x8x64x1x16, .f32⟩
  | 62 => ⟨S1x8x1x8x1, .f32⟩
  | 63 => ⟨S4x8x64x8x16, .f32⟩
  | 64 => ⟨S4x8x64x8x16, .f32⟩
  | 65 => ⟨S4x8x64x8x16, .f32⟩
  | 66 => ⟨S4x512x128, .f32⟩
  | 67 => ⟨S4x512x128, .bf16⟩
  | 68 => ⟨S4x8x16x64, .f32⟩
  | 69 => ⟨S4x8x64x16, .f32⟩
  | 70 => ⟨S8x8, .i32⟩
  | 71 => ⟨S8x8, .i32⟩
  | 72 => ⟨S_, .i32⟩
  | 73 => ⟨S8x8, .i32⟩
  | 74 => ⟨S8x8, .i32⟩
  | 75 => ⟨S8x8, .i1⟩
  | 76 => ⟨S8x8, .f32⟩
  | 77 => ⟨S4x8x64x1x16, .f32⟩
  | 78 => ⟨S1x8x1x8x1, .f32⟩
  | 79 => ⟨S4x8x64x8x16, .f32⟩
  | 80 => ⟨S4x8x64x8x16, .f32⟩
  | 81 => ⟨S4x8x64x8x16, .f32⟩
  | 82 => ⟨S4x512x128, .f32⟩
  | 83 => ⟨S4x512x128, .bf16⟩
  | 84 => ⟨S1x512, .f32⟩
  | 85 => ⟨S2048x512, .f32⟩
  | 86 => ⟨S2x2048, .f32⟩
  | 87 => ⟨S4x128x512, .f32⟩
  | 88 => ⟨S4x128x512, .f32⟩
  | 89 => ⟨S4x512x128, .f32⟩
  | 90 => ⟨S4x512x128, .f32⟩
  | 91 => ⟨S1x512, .f32⟩
  | 92 => ⟨S256x8x512, .f32⟩
  | 93 => ⟨S8x256x512, .f32⟩
  | 94 => ⟨S2048x512, .f32⟩
  | 95 => ⟨S1x2048, .f32⟩
  | 96 => ⟨S2048, .f32⟩
  | 97 => ⟨S32x64, .f32⟩
  | 98 => ⟨S1x2048, .f32⟩
  | 99 => ⟨S2048, .f32⟩
  | 100 => ⟨S32x64, .f32⟩
  | 101 => ⟨S4x8x16x8x64, .f32⟩
  | 102 => ⟨S4x1x16x1x64, .f32⟩
  | 103 => ⟨S4x16x64, .f32⟩
  | 104 => ⟨S4x1x16x1x64, .f32⟩
  | 105 => ⟨S4x16x64, .f32⟩
  | 106 => ⟨S4x1x16x1x64, .f32⟩
  | 107 => ⟨S4x16x64, .f32⟩
  | 108 => ⟨S4x1x16x1x64, .f32⟩
  | 109 => ⟨S4x16x64, .f32⟩
  | 110 => ⟨S4x1x16x1x64, .f32⟩
  | 111 => ⟨S4x16x64, .f32⟩
  | 112 => ⟨S4x1x16x1x64, .f32⟩
  | 113 => ⟨S4x16x64, .f32⟩
  | 114 => ⟨S4x1x16x1x64, .f32⟩
  | 115 => ⟨S4x16x64, .f32⟩
  | 116 => ⟨S4x1x16x1x64, .f32⟩
  | 117 => ⟨S4x16x64, .f32⟩
  | 118 => ⟨S4x1x16x64, .f32⟩
  | 119 => ⟨S4x1x16x64, .f32⟩
  | 120 => ⟨S4x1x16x64, .f32⟩
  | 121 => ⟨S4x1x16x64, .f32⟩
  | 122 => ⟨S4x1x16x64, .f32⟩
  | 123 => ⟨S4x1x16x64, .f32⟩
  | 124 => ⟨S4x1x16x64, .f32⟩
  | 125 => ⟨S4x1x16x64, .f32⟩
  | 126 => ⟨S4x8x16x64, .f32⟩
  | 127 => ⟨S4x8x64x16, .f32⟩
  | _ => ⟨S2048x512, .f32⟩

abbrev hbmTy0_1 (i : Nat) : BufTy := match i % 128 with
  | 0 => ⟨S32x64x16, .f32⟩
  | 1 => ⟨S4x8x16x8x64, .f32⟩
  | 2 => ⟨S4x1x16x1x64, .f32⟩
  | 3 => ⟨S4x16x64, .f32⟩
  | 4 => ⟨S4x1x16x1x64, .f32⟩
  | 5 => ⟨S4x16x64, .f32⟩
  | 6 => ⟨S4x1x16x1x64, .f32⟩
  | 7 => ⟨S4x16x64, .f32⟩
  | 8 => ⟨S4x1x16x1x64, .f32⟩
  | 9 => ⟨S4x16x64, .f32⟩
  | 10 => ⟨S4x1x16x1x64, .f32⟩
  | 11 => ⟨S4x16x64, .f32⟩
  | 12 => ⟨S4x1x16x1x64, .f32⟩
  | 13 => ⟨S4x16x64, .f32⟩
  | 14 => ⟨S4x1x16x1x64, .f32⟩
  | 15 => ⟨S4x16x64, .f32⟩
  | 16 => ⟨S4x1x16x1x64, .f32⟩
  | 17 => ⟨S4x16x64, .f32⟩
  | 18 => ⟨S4x1x16x64, .f32⟩
  | 19 => ⟨S4x1x16x64, .f32⟩
  | 20 => ⟨S4x1x16x64, .f32⟩
  | 21 => ⟨S4x1x16x64, .f32⟩
  | 22 => ⟨S4x1x16x64, .f32⟩
  | 23 => ⟨S4x1x16x64, .f32⟩
  | 24 => ⟨S4x1x16x64, .f32⟩
  | 25 => ⟨S4x1x16x64, .f32⟩
  | 26 => ⟨S4x8x16x64, .f32⟩
  | 27 => ⟨S4x8x64x16, .f32⟩
  | 28 => ⟨S32x64x16, .f32⟩
  | 29 => ⟨S4x8x64x8x16, .f32⟩
  | 30 => ⟨S4x1x64x1x16, .f32⟩
  | 31 => ⟨S4x64x16, .f32⟩
  | 32 => ⟨S4x1x64x1x16, .f32⟩
  | 33 => ⟨S4x64x16, .f32⟩
  | 34 => ⟨S4x1x64x1x16, .f32⟩
  | 35 => ⟨S4x64x16, .f32⟩
  | 36 => ⟨S4x1x64x1x16, .f32⟩
  | 37 => ⟨S4x64x16, .f32⟩
  | 38 => ⟨S4x1x64x1x16, .f32⟩
  | 39 => ⟨S4x64x16, .f32⟩
  | 40 => ⟨S4x1x64x1x16, .f32⟩
  | 41 => ⟨S4x64x16, .f32⟩
  | 42 => ⟨S4x1x64x1x16, .f32⟩
  | 43 => ⟨S4x64x16, .f32⟩
  | 44 => ⟨S4x1x64x1x16, .f32⟩
  | 45 => ⟨S4x64x16, .f32⟩
  | 46 => ⟨S4x1x64x16, .f32⟩
  | 47 => ⟨S4x1x64x16, .f32⟩
  | 48 => ⟨S4x1x64x16, .f32⟩
  | 49 => ⟨S4x1x64x16, .f32⟩
  | 50 => ⟨S4x1x64x16, .f32⟩
  | 51 => ⟨S4x1x64x16, .f32⟩
  | 52 => ⟨S4x1x64x16, .f32⟩
  | 53 => ⟨S4x1x64x16, .f32⟩
  | 54 => ⟨S4x8x64x16, .f32⟩
  | 55 => ⟨S4x8x16x64, .f32⟩
  | 56 => ⟨S32x16x64, .f32⟩
  | 57 => ⟨S4x8x64x8x16, .f32⟩
  | 58 => ⟨S4x1x64x1x16, .f32⟩
  | 59 => ⟨S4x64x16, .f32⟩
  | 60 => ⟨S4x1x64x1x16, .f32⟩
  | 61 => ⟨S4x64x16, .f32⟩
  | 62 => ⟨S4x1x64x1x16, .f32⟩
  | 63 => ⟨S4x64x16, .f32⟩
  | 64 => ⟨S4x1x64x1x16, .f32⟩
  | 65 => ⟨S4x64x16, .f32⟩
  | 66 => ⟨S4x1x64x1x16, .f32⟩
  | 67 => ⟨S4x64x16, .f32⟩
  | 68 => ⟨S4x1x64x1x16, .f32⟩
  | 69 => ⟨S4x64x16, .f32⟩
  | 70 => ⟨S4x1x64x1x16, .f32⟩
  | 71 => ⟨S4x64x16, .f32⟩
  | 72 => ⟨S4x1x64x1x16, .f32⟩
  | 73 => ⟨S4x64x16, .f32⟩
  | 74 => ⟨S4x1x64x16, .f32⟩
  | 75 => ⟨S4x1x64x16, .f32⟩
  | 76 => ⟨S4x1x64x16, .f32⟩
  | 77 => ⟨S4x1x64x16, .f32⟩
  | 78 => ⟨S4x1x64x16, .f32⟩
  | 79 => ⟨S4x1x64x16, .f32⟩
  | 80 => ⟨S4x1x64x16, .f32⟩
  | 81 => ⟨S4x1x64x16, .f32⟩
  | 82 => ⟨S4x8x64x16, .f32⟩
  | 83 => ⟨S4x8x16x64, .f32⟩
  | 84 => ⟨S32x16x64, .f32⟩
  | 85 => ⟨S32x16, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2x512, .f32⟩
  | .local _ .vmem, ⟨5, _⟩ => ⟨S2x512, .f32⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x128, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | .local _ .vmem, ⟨18, _⟩ => ⟨S2x512, .f32⟩
  | .local _ .vmem, ⟨19, _⟩ => ⟨S2x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S1x512x128, .f32⟩
  | .local _ .vmem, ⟨25, _⟩ => ⟨S1x512x128, .f32⟩
  | .local _ .vmem, ⟨26, _⟩ => ⟨S1x512x128, .f32⟩
  | .local _ .vmem, ⟨27, _⟩ => ⟨S1x512x128, .f32⟩
  | .local _ .vmem, ⟨28, _⟩ => ⟨S1x128, .f32⟩
  | .local _ .vmem, ⟨29, _⟩ => ⟨S1x128, .f32⟩
  | .local _ .vmem, ⟨30, _⟩ => ⟨S2048x512, .f32⟩
  | .local _ .vmem, ⟨31, _⟩ => ⟨S2048x512, .f32⟩
  | .local _ .vmem, ⟨32, _⟩ => ⟨S2048x512, .f32⟩
  | .local _ .vmem, ⟨33, _⟩ => ⟨S2048x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_1 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_c_2 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72_0 : Ref sig .tc := ⟨.hbm, 85, rfl⟩
abbrev main_v72_1 : Ref sig .tc := ⟨.hbm, 86, rfl⟩
abbrev main_v72_2 : Ref sig .tc := ⟨.hbm, 87, rfl⟩
abbrev main_v72_3 : Ref sig .tc := ⟨.hbm, 88, rfl⟩
abbrev main_v72_4 : Ref sig .tc := ⟨.hbm, 89, rfl⟩
abbrev main_v72_5 : Ref sig .tc := ⟨.hbm, 90, rfl⟩
abbrev main_v72_6 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c256_i32 : BitVec 32 := 256#32
  let v27 : BitVec 32 := Scalar.addi c0_i32 c256_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c8_i32 : BitVec 32 := 8#32
  let v447 : BitVec 32 := Scalar.muli arg20 c8_i32
  v447
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c8_i32 : BitVec 32 := 8#32
  let v447 : BitVec 32 := Scalar.muli arg20 c8_i32
  let v448 : BitVec 32 := v447
  let v455 : Index := Scalar.indexCast v448
  let c0_155 : Index := 0#32
  ![v455.toNat, 0]
@[reducible] def k0_t2_loop : Scf.Loop 32 :=
  let c0_i32_42 : BitVec 32 := 0#32
  let c256_i32_43 : BitVec 32 := 256#32
  let v191 : BitVec 32 := Scalar.addi c0_i32_42 c256_i32_43
  let c1_i32_44 : BitVec 32 := 1#32
  ⟨c0_i32_42, v191, c1_i32_44⟩
def k0_mult2 (k0_t2 : Fin k0_t2_loop.trips) : BitVec 32 :=
  let c0_i32_42 : BitVec 32 := 0#32
  let c1_i32_44 : BitVec 32 := 1#32
  let arg20 : BitVec 32 := Scf.iv c0_i32_42 c1_i32_44 k0_t2
  let c8_i32 : BitVec 32 := 8#32
  let v447 : BitVec 32 := Scalar.muli arg20 c8_i32
  v447
def k0_off2 (k0_t2 : Fin k0_t2_loop.trips) : Fin 2 → Nat :=
  let c0_i32_42 : BitVec 32 := 0#32
  let c1_i32_44 : BitVec 32 := 1#32
  let arg20 : BitVec 32 := Scf.iv c0_i32_42 c1_i32_44 k0_t2
  let c8_i32 : BitVec 32 := 8#32
  let v447 : BitVec 32 := Scalar.muli arg20 c8_i32
  let v448 : BitVec 32 := v447
  let v461 : Index := Scalar.indexCast v448
  let c0_155 : Index := 0#32
  ![v461.toNat, 0]
@[reducible] def k0_t3_loop : Scf.Loop 32 :=
  let c0_i32_74 : BitVec 32 := 0#32
  let c256_i32_75 : BitVec 32 := 256#32
  let v224 : BitVec 32 := Scalar.addi c0_i32_74 c256_i32_75
  let c1_i32_76 : BitVec 32 := 1#32
  ⟨c0_i32_74, v224, c1_i32_76⟩
def k0_mult3 (k0_t3 : Fin k0_t3_loop.trips) : BitVec 32 :=
  let c255_i32 : BitVec 32 := 255#32
  let c0_i32_74 : BitVec 32 := 0#32
  let c1_i32_76 : BitVec 32 := 1#32
  let arg20 : BitVec 32 := Scf.iv c0_i32_74 c1_i32_76 k0_t3
  let v447 : BitVec 32 := Scalar.subi c255_i32 arg20
  let c8_i32 : BitVec 32 := 8#32
  let v448 : BitVec 32 := Scalar.muli v447 c8_i32
  v448
def k0_off3 (k0_t3 : Fin k0_t3_loop.trips) : Fin 2 → Nat :=
  let c255_i32 : BitVec 32 := 255#32
  let c0_i32_74 : BitVec 32 := 0#32
  let c1_i32_76 : BitVec 32 := 1#32
  let arg20 : BitVec 32 := Scf.iv c0_i32_74 c1_i32_76 k0_t3
  let v447 : BitVec 32 := Scalar.subi c255_i32 arg20
  let c8_i32 : BitVec 32 := 8#32
  let v448 : BitVec 32 := Scalar.muli v447 c8_i32
  let v449 : BitVec 32 := v448
  let v456 : Index := Scalar.indexCast v449
  let c0_155 : Index := 0#32
  ![v456.toNat, 0]
@[reducible] def k0_t4_loop : Scf.Loop 32 :=
  let c0_i32_107 : BitVec 32 := 0#32
  let c256_i32_108 : BitVec 32 := 256#32
  let v388 : BitVec 32 := Scalar.addi c0_i32_107 c256_i32_108
  let c1_i32_109 : BitVec 32 := 1#32
  ⟨c0_i32_107, v388, c1_i32_109⟩
def k0_mult4 (k0_t4 : Fin k0_t4_loop.trips) : BitVec 32 :=
  let c255_i32 : BitVec 32 := 255#32
  let c0_i32_107 : BitVec 32 := 0#32
  let c1_i32_109 : BitVec 32 := 1#32
  let arg20 : BitVec 32 := Scf.iv c0_i32_107 c1_i32_109 k0_t4
  let v447 : BitVec 32 := Scalar.subi c255_i32 arg20
  let c8_i32 : BitVec 32 := 8#32
  let v448 : BitVec 32 := Scalar.muli v447 c8_i32
  v448
def k0_off4 (k0_t4 : Fin k0_t4_loop.trips) : Fin 2 → Nat :=
  let c255_i32 : BitVec 32 := 255#32
  let c0_i32_107 : BitVec 32 := 0#32
  let c1_i32_109 : BitVec 32 := 1#32
  let arg20 : BitVec 32 := Scf.iv c0_i32_107 c1_i32_109 k0_t4
  let v447 : BitVec 32 := Scalar.subi c255_i32 arg20
  let c8_i32 : BitVec 32 := 8#32
  let v448 : BitVec 32 := Scalar.muli v447 c8_i32
  let v449 : BitVec 32 := v448
  let v462 : Index := Scalar.indexCast v449
  let c0_155 : Index := 0#32
  ![v462.toNat, 0]
def k0_mult5 (k0_t4 : Fin k0_t4_loop.trips) : BitVec 32 :=
  let c255_i32 : BitVec 32 := 255#32
  let c0_i32_107 : BitVec 32 := 0#32
  let c1_i32_109 : BitVec 32 := 1#32
  let arg20 : BitVec 32 := Scf.iv c0_i32_107 c1_i32_109 k0_t4
  let v447 : BitVec 32 := Scalar.subi c255_i32 arg20
  let c1_i32_159 : BitVec 32 := 1#32
  let v476 : BitVec 32 := Scalar.subi v447 c1_i32_159
  let c0_i32_160 : BitVec 32 := 0#32
  let v477 : BitVec 32 := Scalar.maxsi v476 c0_i32_160
  let c8_i32_161 : BitVec 32 := 8#32
  let v478 : BitVec 32 := Scalar.muli v477 c8_i32_161
  v478
def k0_off5 (k0_t4 : Fin k0_t4_loop.trips) : Fin 2 → Nat :=
  let c255_i32 : BitVec 32 := 255#32
  let c0_i32_107 : BitVec 32 := 0#32
  let c1_i32_109 : BitVec 32 := 1#32
  let arg20 : BitVec 32 := Scf.iv c0_i32_107 c1_i32_109 k0_t4
  let v447 : BitVec 32 := Scalar.subi c255_i32 arg20
  let c1_i32_159 : BitVec 32 := 1#32
  let v476 : BitVec 32 := Scalar.subi v447 c1_i32_159
  let c0_i32_160 : BitVec 32 := 0#32
  let v477 : BitVec 32 := Scalar.maxsi v476 c0_i32_160
  let c8_i32_161 : BitVec 32 := 8#32
  let v478 : BitVec 32 := Scalar.muli v477 c8_i32_161
  let v479 : BitVec 32 := v478
  let v480 : Index := Scalar.indexCast v479
  let c0_162 : Index := 0#32
  ![v480.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2048x512 : Shape := ⟨2, ![2048, 512]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S2048x32x16 : Shape := ⟨3, ![2048, 32, 16]⟩
abbrev S32x64x2048 : Shape := ⟨3, ![32, 64, 2048]⟩
abbrev S2048x32x64 : Shape := ⟨3, ![2048, 32, 64]⟩
abbrev S_ : Shape := ⟨0, ![]⟩
abbrev S1x32x64 : Shape := ⟨3, ![1, 32, 64]⟩
abbrev S32x16x2048 : Shape := ⟨3, ![32, 16, 2048]⟩
abbrev S1x32x16 : Shape := ⟨3, ![1, 32, 16]⟩
abbrev S32x2048x64 : Shape := ⟨3, ![32, 2048, 64]⟩
abbrev S32x2048x16 : Shape := ⟨3, ![32, 2048, 16]⟩

abbrev nBuf : Space → Nat
  | .hbm => 190
  | .vmem => 0
  | .smem => 0
  | _ => 0

abbrev hbmTy0_0 (i : Nat) : BufTy := match i % 128 with
  | 0 => ⟨S2048x512, .f32⟩
  | 1 => ⟨S2048x512, .f32⟩
  | 2 => ⟨S32x64, .f32⟩
  | 3 => ⟨S32x64, .f32⟩
  | 4 => ⟨S32x64x16, .f32⟩
  | 5 => ⟨S32x64x16, .f32⟩
  | 6 => ⟨S32x16x64, .f32⟩
  | 7 => ⟨S32x16x64, .f32⟩
  | 8 => ⟨S32x16, .f32⟩
  | 9 => ⟨S2048x32x16, .f32⟩
  | 10 => ⟨S32x64x2048, .f32⟩
  | 11 => ⟨S2048x32x64, .f32⟩
  | 12 => ⟨S32x64x2048, .f32⟩
  | 13 => ⟨S2048x32x64, .f32⟩
  | 14 => ⟨S_, .f32⟩
  | 15 => ⟨S32x64, .f32⟩
  | 16 => ⟨S_, .f32⟩
  | 17 => ⟨S2048x32x64, .f32⟩
  | 18 => ⟨S_, .f32⟩
  | 19 => ⟨S2048x32x64, .f32⟩
  | 20 => ⟨S_, .f32⟩
  | 21 => ⟨S2048x32x64, .f32⟩
  | 22 => ⟨S_, .f32⟩
  | 23 => ⟨S2048x32x64, .f32⟩
  | 24 => ⟨S_, .i32⟩
  | 25 => ⟨S2048x32x64, .f32⟩
  | 26 => ⟨S2048x32x64, .f32⟩
  | 27 => ⟨S32x64, .f32⟩
  | 28 => ⟨S32x64, .f32⟩
  | 29 => ⟨S_, .i32⟩
  | 30 => ⟨S32x64, .f32⟩
  | 31 => ⟨S32x64, .f32⟩
  | 32 => ⟨S2048x32x64, .f32⟩
  | 33 => ⟨S2048x32x64, .f32⟩
  | 34 => ⟨S2048x32x64, .f32⟩
  | 35 => ⟨S2048x32x64, .f32⟩
  | 36 => ⟨S_, .i32⟩
  | 37 => ⟨S_, .i1⟩
  | 38 => ⟨S_, .i32⟩
  | 39 => ⟨S_, .i32⟩
  | 40 => ⟨S1x32x64, .f32⟩
  | 41 => ⟨S32x64, .f32⟩
  | 42 => ⟨S_, .i32⟩
  | 43 => ⟨S_, .i32⟩
  | 44 => ⟨S1x32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S1x32x64, .f32⟩
  | 55 => ⟨S_, .i32⟩
  | 56 => ⟨S_, .i32⟩
  | 57 => ⟨S2048x32x64, .f32⟩
  | 58 => ⟨S1x32x64, .f32⟩
  | 59 => ⟨S_, .i32⟩
  | 60 => ⟨S_, .i32⟩
  | 61 => ⟨S2048x32x64, .f32⟩
  | 62 => ⟨S1x32x64, .f32⟩
  | 63 => ⟨S_, .i32⟩
  | 64 => ⟨S_, .i32⟩
  | 65 => ⟨S2048x32x64, .f32⟩
  | 66 => ⟨S1x32x64, .f32⟩
  | 67 => ⟨S_, .i32⟩
  | 68 => ⟨S_, .i32⟩
  | 69 => ⟨S2048x32x64, .f32⟩
  | 70 => ⟨S_, .i32⟩
  | 71 => ⟨S_, .i32⟩
  | 72 => ⟨S32x16x2048, .f32⟩
  | 73 => ⟨S2048x32x16, .f32⟩
  | 74 => ⟨S32x16x2048, .f32⟩
  | 75 => ⟨S2048x32x16, .f32⟩
  | 76 => ⟨S2048x32x16, .f32⟩
  | 77 => ⟨S1x32x16, .f32⟩
  | 78 => ⟨S2048x32x16, .f32⟩
  | 79 => ⟨S2048x32x16, .f32⟩
  | 80 => ⟨S2048x32x16, .f32⟩
  | 81 => ⟨S2048x512, .f32⟩
  | 82 => ⟨S_, .f32⟩
  | 83 => ⟨S32x64, .f32⟩
  | 84 => ⟨S_, .f32⟩
  | 85 => ⟨S32x64, .f32⟩
  | 86 => ⟨S2048x32x16, .f32⟩
  | 87 => ⟨S2048x32x16, .f32⟩
  | 88 => ⟨S2048x32x16, .f32⟩
  | 89 => ⟨S2048x32x16, .f32⟩
  | 90 => ⟨S_, .f32⟩
  | 91 => ⟨S32x16, .f32⟩
  | 92 => ⟨S1x32x16, .f32⟩
  | 93 => ⟨S_, .f32⟩
  | 94 => ⟨S32x16, .f32⟩
  | 95 => ⟨S2048x32x16, .f32⟩
  | 96 => ⟨S32x16x2048, .f32⟩
  | 97 => ⟨S32x2048x64, .f32⟩
  | 98 => ⟨S2048x32x64, .f32⟩
  | 99 => ⟨S32x16x64, .f32⟩
  | 100 => ⟨S32x16x2048, .f32⟩
  | 101 => ⟨S32x2048x64, .f32⟩
  | 102 => ⟨S2048x32x64, .f32⟩
  | 103 => ⟨S32x16x64, .f32⟩
  | 104 => ⟨S_, .f32⟩
  | 105 => ⟨S32x64, .f32⟩
  | 106 => ⟨S_, .f32⟩
  | 107 => ⟨S32x64, .f32⟩
  | 108 => ⟨S_, .f32⟩
  | 109 => ⟨S32x64, .f32⟩
  | 110 => ⟨S_, .f32⟩
  | 111 => ⟨S32x64, .f32⟩
  | 112 => ⟨S_, .f32⟩
  | 113 => ⟨S2048x32x64, .f32⟩
  | 114 => ⟨S_, .f32⟩
  | 115 => ⟨S2048x32x64, .f32⟩
  | 116 => ⟨S_, .i32⟩
  | 117 => ⟨S2048x32x64, .f32⟩
  | 118 => ⟨S2048x32x64, .f32⟩
  | 119 => ⟨S2048x32x64, .f32⟩
  | 120 => ⟨S2048x32x64, .f32⟩
  | 121 => ⟨S32x64, .f32⟩
  | 122 => ⟨S32x64, .f32⟩
  | 123 => ⟨S_, .i32⟩
  | 124 => ⟨S32x64, .f32⟩
  | 125 => ⟨S32x64, .f32⟩
  | 126 => ⟨S32x64, .f32⟩
  | 127 => ⟨S32x64, .f32⟩
  | _ => ⟨S2048x512, .f32⟩

abbrev hbmTy0_1 (i : Nat) : BufTy := match i % 128 with
  | 0 => ⟨S2048x32x64, .f32⟩
  | 1 => ⟨S2048x32x64, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S1x32x64, .f32⟩
  | 11 => ⟨S32x64, .f32⟩
  | 12 => ⟨S_, .i32⟩
  | 13 => ⟨S_, .i32⟩
  | 14 => ⟨S1x32x64, .f32⟩
  | 15 => ⟨S32x64, .f32⟩
  | 16 => ⟨S_, .i32⟩
  | 17 => ⟨S_, .i32⟩
  | 18 => ⟨S1x32x64, .f32⟩
  | 19 => ⟨S32x64, .f32⟩
  | 20 => ⟨S_, .i32⟩
  | 21 => ⟨S_, .i32⟩
  | 22 => ⟨S1x32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S1x32x64, .f32⟩
  | 42 => ⟨S_, .i32⟩
  | 43 => ⟨S_, .i32⟩
  | 44 => ⟨S2048x32x64, .f32⟩
  | 45 => ⟨S1x32x64, .f32⟩
  | 46 => ⟨S_, .i32⟩
  | 47 => ⟨S_, .i32⟩
  | 48 => ⟨S2048x32x64, .f32⟩
  | 49 => ⟨S_, .i32⟩
  | 50 => ⟨S_, .i32⟩
  | 51 => ⟨S32x64x2048, .f32⟩
  | 52 => ⟨S32x2048x16, .f32⟩
  | 53 => ⟨S2048x32x16, .f32⟩
  | 54 => ⟨S2048x32x16, .f32⟩
  | 55 => ⟨S32x64x16, .f32⟩
  | 56 => ⟨S32x64x2048, .f32⟩
  | 57 => ⟨S32x2048x16, .f32⟩
  | 58 => ⟨S2048x32x16, .f32⟩
  | 59 => ⟨S2048x32x16, .f32⟩
  | 60 => ⟨S32x64x16, .f32⟩
  | 61 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_c : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev main_v10_5 : Ref sig .tc := ⟨.hbm, 30, rfl⟩
abbrev main_v10_6 : Ref sig .tc := ⟨.hbm, 31, rfl⟩
abbrev main_v10_7 : Ref sig .tc := ⟨.hbm, 32, rfl⟩
abbrev main_v10_8 : Ref sig .tc := ⟨.hbm, 33, rfl⟩
abbrev main_v10_9 : Ref sig .tc := ⟨.hbm, 34, rfl⟩
abbrev main_v10_10 : Ref sig .tc := ⟨.hbm, 35, rfl⟩
abbrev main_while0c_c_25 : Ref sig .tc := ⟨.hbm, 36, rfl⟩
abbrev main_while0c_v57 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v57 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_v0 : Ref sig .tc := ⟨.hbm, 44, rfl⟩
abbrev main_while0b_v58 : Ref sig .tc := ⟨.hbm, 45, rfl⟩
abbrev main_while0b_v59 : Ref sig .tc := ⟨.hbm, 46, rfl⟩
abbrev main_while0b_v60 : Ref sig .tc := ⟨.hbm, 47, rfl⟩
abbrev main_while0b_v61 : Ref sig .tc := ⟨.hbm, 48, rfl⟩
abbrev main_while0b_v62 : Ref sig .tc := ⟨.hbm, 49, rfl⟩
abbrev main_while0b_v63 : Ref sig .tc := ⟨.hbm, 50, rfl⟩
abbrev main_while0b_v64 : Ref sig .tc := ⟨.hbm, 51, rfl⟩
abbrev main_while0b_v65 : Ref sig .tc := ⟨.hbm, 52, rfl⟩
abbrev main_while0b_v66 : Ref sig .tc := ⟨.hbm, 53, rfl⟩
abbrev main_while0b_call2_v0 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_v67 : Ref sig .tc := ⟨.hbm, 57, rfl⟩
abbrev main_while0b_call3_v0 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_v68 : Ref sig .tc := ⟨.hbm, 61, rfl⟩
abbrev main_while0b_call4_v0 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_v69 : Ref sig .tc := ⟨.hbm, 65, rfl⟩
abbrev main_while0b_call5_v0 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_v70 : Ref sig .tc := ⟨.hbm, 69, rfl⟩
abbrev main_while0b_c_25 : Ref sig .tc := ⟨.hbm, 70, rfl⟩
abbrev main_while0b_v71 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_cst_4 : Ref sig .tc := ⟨.hbm, 82, rfl⟩
abbrev main_v21 : Ref sig .tc := ⟨.hbm, 83, rfl⟩
abbrev main_cst_5 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_6 : Ref sig .tc := ⟨.hbm, 90, rfl⟩
abbrev main_v27 : Ref sig .tc := ⟨.hbm, 91, rfl⟩
abbrev main_v28 : Ref sig .tc := ⟨.hbm, 92, rfl⟩
abbrev main_cst_7 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_8 : Ref sig .tc := ⟨.hbm, 104, rfl⟩
abbrev main_v39 : Ref sig .tc := ⟨.hbm, 105, rfl⟩
abbrev main_cst_9 : Ref sig .tc := ⟨.hbm, 106, rfl⟩
abbrev main_v40 : Ref sig .tc := ⟨.hbm, 107, rfl⟩
abbrev main_cst_10 : Ref sig .tc := ⟨.hbm, 108, rfl⟩
abbrev main_v41 : Ref sig .tc := ⟨.hbm, 109, rfl⟩
abbrev main_cst_11 : Ref sig .tc := ⟨.hbm, 110, rfl⟩
abbrev main_v42 : Ref sig .tc := ⟨.hbm, 111, rfl⟩
abbrev main_cst_12 : Ref sig .tc := ⟨.hbm, 112, rfl⟩
abbrev main_v43 : Ref sig .tc := ⟨.hbm, 113, rfl⟩
abbrev main_cst_13 : Ref sig .tc := ⟨.hbm, 114, rfl⟩
abbrev main_v44 : Ref sig .tc := ⟨.hbm, 115, rfl⟩
abbrev main_c_14 : Ref sig .tc := ⟨.hbm, 116, rfl⟩
abbrev main_v45_0 : Ref sig .tc := ⟨.hbm, 117, rfl⟩
abbrev main_v45_1 : Ref sig .tc := ⟨.hbm, 118, rfl⟩
abbrev main_v45_2 : Ref sig .tc := ⟨.hbm, 119, rfl⟩
abbrev main_v45_3 : Ref sig .tc := ⟨.hbm, 120, rfl⟩
abbrev main_v45_4 : Ref sig .tc := ⟨.hbm, 121, rfl⟩
abbrev main_v45_5 : Ref sig .tc := ⟨.hbm, 122, rfl⟩
abbrev main_v45_6 : Ref sig .tc := ⟨.hbm, 123, rfl⟩
abbrev main_v45_7 : Ref sig .tc := ⟨.hbm, 124, rfl⟩
abbrev main_v45_8 : Ref sig .tc := ⟨.hbm, 125, rfl⟩
abbrev main_v45_9 : Ref sig .tc := ⟨.hbm, 126, rfl⟩
abbrev main_v45_10 : Ref sig .tc := ⟨.hbm, 127, rfl⟩
abbrev main_v45_11 : Ref sig .tc := ⟨.hbm, 128, rfl⟩
abbrev main_v45_12 : Ref sig .tc := ⟨.hbm, 129, rfl⟩
abbrev main_while1c_c_27 : Ref sig .tc := ⟨.hbm, 130, rfl⟩
abbrev main_while1c_v57 : Ref sig .tc := ⟨.hbm, 131, rfl⟩
abbrev main_while1b_c_27 : Ref sig .tc := ⟨.hbm, 132, rfl⟩
abbrev main_while1b_v57 : Ref sig .tc := ⟨.hbm, 133, rfl⟩
abbrev main_while1b_c_28 : Ref sig .tc := ⟨.hbm, 134, rfl⟩
abbrev main_while1b_v58 : Ref sig .tc := ⟨.hbm, 135, rfl⟩
abbrev main_while1b_call6_c : Ref sig .tc := ⟨.hbm, 136, rfl⟩
abbrev main_while1b_call6_c_0 : Ref sig .tc := ⟨.hbm, 137, rfl⟩
abbrev main_while1b_call6_v0 : Ref sig .tc := ⟨.hbm, 138, rfl⟩
abbrev main_while1b_v59 : Ref sig .tc := ⟨.hbm, 139, rfl⟩
abbrev main_while1b_call7_c : Ref sig .tc := ⟨.hbm, 140, rfl⟩
abbrev main_while1b_call7_c_0 : Ref sig .tc := ⟨.hbm, 141, rfl⟩
abbrev main_while1b_call7_v0 : Ref sig .tc := ⟨.hbm, 142, rfl⟩
abbrev main_while1b_v60 : Ref sig .tc := ⟨.hbm, 143, rfl⟩
abbrev main_while1b_call8_c : Ref sig .tc := ⟨.hbm, 144, rfl⟩
abbrev main_while1b_call8_c_0 : Ref sig .tc := ⟨.hbm, 145, rfl⟩
abbrev main_while1b_call8_v0 : Ref sig .tc := ⟨.hbm, 146, rfl⟩
abbrev main_while1b_v61 : Ref sig .tc := ⟨.hbm, 147, rfl⟩
abbrev main_while1b_call9_c : Ref sig .tc := ⟨.hbm, 148, rfl⟩
abbrev main_while1b_call9_c_0 : Ref sig .tc := ⟨.hbm, 149, rfl⟩
abbrev main_while1b_call9_v0 : Ref sig .tc := ⟨.hbm, 150, rfl⟩
abbrev main_while1b_v62 : Ref sig .tc := ⟨.hbm, 151, rfl⟩
abbrev main_while1b_v63 : Ref sig .tc := ⟨.hbm, 152, rfl⟩
abbrev main_while1b_v64 : Ref sig .tc := ⟨.hbm, 153, rfl⟩
abbrev main_while1b_v65 : Ref sig .tc := ⟨.hbm, 154, rfl⟩
abbrev main_while1b_v66 : Ref sig .tc := ⟨.hbm, 155, rfl⟩
abbrev main_while1b_v67 : Ref sig .tc := ⟨.hbm, 156, rfl⟩
abbrev main_while1b_v68 : Ref sig .tc := ⟨.hbm, 157, rfl⟩
abbrev main_while1b_v69 : Ref sig .tc := ⟨.hbm, 158, rfl⟩
abbrev main_while1b_v70 : Ref sig .tc := ⟨.hbm, 159, rfl⟩
abbrev main_while1b_v71 : Ref sig .tc := ⟨.hbm, 160, rfl⟩
abbrev main_while1b_v72 : Ref sig .tc := ⟨.hbm, 161, rfl⟩
abbrev main_while1b_v73 : Ref sig .tc := ⟨.hbm, 162, rfl⟩
abbrev main_while1b_v74 : Ref sig .tc := ⟨.hbm, 163, rfl⟩
abbrev main_while1b_v75 : Ref sig .tc := ⟨.hbm, 164, rfl⟩
abbrev main_while1b_v76 : Ref sig .tc := ⟨.hbm, 165, rfl⟩
abbrev main_while1b_v77 : Ref sig .tc := ⟨.hbm, 166, rfl⟩
abbrev main_while1b_v78 : Ref sig .tc := ⟨.hbm, 167, rfl⟩
abbrev main_while1b_v79 : Ref sig .tc := ⟨.hbm, 168, rfl⟩
abbrev main_while1b_call10_v0 : Ref sig .tc := ⟨.hbm, 169, rfl⟩
abbrev main_while1b_call10_c : Ref sig .tc := ⟨.hbm, 170, rfl⟩
abbrev main_while1b_call10_c_0 : Ref sig .tc := ⟨.hbm, 171, rfl⟩
abbrev main_while1b_v80 : Ref sig .tc := ⟨.hbm, 172, rfl⟩
abbrev main_while1b_call11_v0 : Ref sig .tc := ⟨.hbm, 173, rfl⟩
abbrev main_while1b_call11_c : Ref sig .tc := ⟨.hbm, 174, rfl⟩
abbrev main_while1b_call11_c_0 : Ref sig .tc := ⟨.hbm, 175, rfl⟩
abbrev main_while1b_v81 : Ref sig .tc := ⟨.hbm, 176, rfl⟩
abbrev main_while1b_c_29 : Ref sig .tc := ⟨.hbm, 177, rfl⟩
abbrev main_while1b_v82 : Ref sig .tc := ⟨.hbm, 178, rfl⟩
abbrev main_v46 : Ref sig .tc := ⟨.hbm, 179, rfl⟩
abbrev main_v47 : Ref sig .tc := ⟨.hbm, 180, rfl⟩
abbrev main_v48 : Ref sig .tc := ⟨.hbm, 181, rfl⟩
abbrev main_v49 : Ref sig .tc := ⟨.hbm, 182, rfl⟩
abbrev main_v50 : Ref sig .tc := ⟨.hbm, 183, rfl⟩
abbrev main_v51 : Ref sig .tc := ⟨.hbm, 184, rfl⟩
abbrev main_v52 : Ref sig .tc := ⟨.hbm, 185, rfl⟩
abbrev main_v53 : Ref sig .tc := ⟨.hbm, 186, rfl⟩
abbrev main_v54 : Ref sig .tc := ⟨.hbm, 187, rfl⟩
abbrev main_v55 : Ref sig .tc := ⟨.hbm, 188, rfl⟩
abbrev main_v56 : Ref sig .tc := ⟨.hbm, 189, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== WgradKernel.lean ====
abbrev S2048x1024 : Shape := ⟨2, ![2048, 1024]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 22
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x1024, .f32⟩
  | .hbm, ⟨5, _⟩ => ⟨S2048x1024, .bf16⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S2048x4x704, .f32⟩
  | .hbm, ⟨11, _⟩ => ⟨S4x2048x704, .f32⟩
  | .hbm, ⟨12, _⟩ => ⟨S4x2048x704, .bf16⟩
  | .hbm, ⟨13, _⟩ => ⟨S2048x4x704, .f32⟩
  | .hbm, ⟨14, _⟩ => ⟨S4x2048x704, .f32⟩
  | .hbm, ⟨15, _⟩ => ⟨S4x2048x704, .bf16⟩
  | .hbm, ⟨16, _⟩ => ⟨S2048x4x704, .f32⟩
  | .hbm, ⟨17, _⟩ => ⟨S4x2048x704, .f32⟩
  | .hbm, ⟨18, _⟩ => ⟨S4x2048x704, .bf16⟩
  | .hbm, ⟨19, _⟩ => ⟨S4x704x1024, .bf16⟩
  | .hbm, ⟨20, _⟩ => ⟨S4x704x1024, .bf16⟩
  | .hbm, ⟨21, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x2048x704, .bf16⟩
  | .local _ .vmem, ⟨4, _⟩ => ⟨S1x2048x704, .bf16⟩
  | .local _ .vmem, ⟨5, _⟩ => ⟨S2048x1024, .bf16⟩
  | .local _ .vmem, ⟨6, _⟩ => ⟨S1x2048x704, .bf16⟩
  | .local _ .vmem, ⟨7, _⟩ => ⟨S1x2048x704, .bf16⟩
  | .local _ .vmem, ⟨8, _⟩ => ⟨S2048x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WgradReferenceIdeal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x1024, .f32⟩
  | .hbm, ⟨5, _⟩ => ⟨S_, .f32⟩
  | .hbm, ⟨6, _⟩ => ⟨S1024x2816, .f32⟩
  | .hbm, ⟨7, _⟩ => ⟨S_, .f32⟩
  | .hbm, ⟨8, _⟩ => ⟨S2816x1024, .f32⟩
  | .hbm, ⟨9, _⟩ => ⟨S2048x2816, .f32⟩
  | .hbm, ⟨10, _⟩ => ⟨S2048x2816, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S1024x2816, .f32⟩
  | .hbm, ⟨19, _⟩ => ⟨S2816x1024, .f32⟩
  | .hbm, ⟨20, _⟩ => ⟨S2816x1024, .f32⟩
  | .hbm, ⟨21, _⟩ => ⟨S1024x2816, .f32⟩
  | .hbm, ⟨22, _⟩ => ⟨S2816x1024, .f32⟩
  | .hbm, ⟨23, _⟩ => ⟨S1024x2816, .f32⟩
  | .hbm, ⟨24, _⟩ => ⟨S2816x1024, .bf16⟩
  | .hbm, ⟨25, _⟩ => ⟨S4x704x1024, .bf16⟩
  | .hbm, ⟨26, _⟩ => ⟨S2816x1024, .f32⟩
  | .hbm, ⟨27, _⟩ => ⟨S2816x1024, .bf16⟩
  | .hbm, ⟨28, _⟩ => ⟨S4x704x1024, .bf16⟩
  | .hbm, ⟨29, _⟩ => ⟨S2816x1024, .f32⟩
  | .hbm, ⟨30, _⟩ => ⟨S2816x1024, .bf16⟩
  | .hbm, ⟨31, _⟩ => ⟨S4x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== DactKernel.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S4x704x1024 : Shape := ⟨3, ![4, 704, 1024]⟩
abbrev S2048x4x704 : Shape := ⟨3, ![2048, 4, 704]⟩
abbrev S4x2048x704 : Shape := ⟨3, ![4, 2048, 704]⟩
abbrev S512x1024 : Shape := ⟨2, ![512, 1024]⟩
abbrev S1x704x1024 : Shape := ⟨3, ![1, 704, 1024]⟩
abbrev S1x512x704 : Shape := ⟨3, ![1, 512, 704]⟩
abbrev S704x1024 : Shape := ⟨2, ![704, 1024]⟩
abbrev S512x704 : Shape := ⟨2, ![512, 704]⟩

abbrev nBuf : Space → Nat
  | .hbm => 18
  | .vmem => 12
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S4x704x1024, .f32⟩
  | .hbm, ⟨9, _⟩ => ⟨S4x704x1024, .bf16⟩
  | .hbm, ⟨10, _⟩ => ⟨S2048x4x704, .f32⟩
  | .hbm, ⟨11, _⟩ => ⟨S4x2048x704, .f32⟩
  | .hbm, ⟨12, _⟩ => ⟨S4x2048x704, .bf16⟩
  | .hbm, ⟨13, _⟩ => ⟨S2048x4x704, .f32⟩
  | .hbm, ⟨14, _⟩ => ⟨S4x2048x704, .f32⟩
  | .hbm, ⟨15, _⟩ => ⟨S4x2048x704, .bf16⟩
  | .hbm, ⟨16, _⟩ => ⟨S4x2048x704, .bf16⟩
  | .hbm, ⟨17, _⟩ => ⟨S4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactReferenceIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S2048x4x704 : Shape := ⟨3, ![2048, 4, 704]⟩
abbrev S4x2048x704 : Shape := ⟨3, ![4, 2048, 704]⟩

abbrev nBuf : Space → Nat
  | .hbm => 38
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .bf16⟩
  | .hbm, ⟨33, _⟩ => ⟨S2048x4x704, .bf16⟩
  | .hbm, ⟨34, _⟩ => ⟨S4x2048x704, .bf16⟩
  | .hbm, ⟨35, _⟩ => ⟨S2048x2816, .bf16⟩
  | .hbm, ⟨36, _⟩ => ⟨S2048x4x704, .bf16⟩
  | .hbm, ⟨37, _⟩ => ⟨S4x2048x704, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== DxKernel.lean ====
abbrev S2048x1024 : Shape := ⟨2, ![2048, 1024]⟩
abbrev S1024 : Shape := ⟨1, ![1024]⟩
abbrev S1024x2816 : Shape := ⟨2, ![1024, 2816]⟩
abbrev S2048x2816 : Shape := ⟨2, ![2048, 2816]⟩
abbrev S2816x1024 : Shape := ⟨2, ![2816, 1024]⟩
abbrev S4x704x1024 : Shape := ⟨3, ![4, 704, 1024]⟩
abbrev S2048x4x704 : Shape := ⟨3, ![2048, 4, 704]⟩
abbrev S4x2048x704 : Shape := ⟨3, ![4, 2048, 704]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 23
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2048x2816, .f32⟩
  | .hbm, ⟨5, _⟩ => ⟨S2048x2816, .f32⟩
  | .hbm, ⟨6, _⟩ => ⟨S2048x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S2048x4x704, .f32⟩
  | .hbm, ⟨14, _⟩ => ⟨S4x2048x704, .f32⟩
  | .hbm, ⟨15, _⟩ => ⟨S4x2048x704, .bf16⟩
  | .hbm, ⟨16, _⟩ => ⟨S2048x4x704, .f32⟩
  | .hbm, ⟨17, _⟩ => ⟨S4x2048x704, .f32⟩
  | .hbm, ⟨18, _⟩ => ⟨S4x2048x704, .bf16⟩
  | .hbm, ⟨19, _⟩ => ⟨S1x1024, .f32⟩
  | .hbm, ⟨20, _⟩ => ⟨S2048x1024, .f32⟩
  | .hbm, ⟨21, _⟩ => ⟨S2048x1024, .bf16⟩
  | .hbm, ⟨22, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_68 : BitVec 32 := 0#32
  let v84 : BitVec 1 := Scalar.cmpi .ne v83 c0_i32_68
  v84

def k0_cond2 (i : grid0.Coords) : BitVec 1 :=
  let arg0 : BitVec 32 := BitVec.ofNat 32 (i 0).val
  let c0_i32_69 : BitVec 32 := 0#32
  let v85 : BitVec 1 := Scalar.cmpi .sgt arg0 c0_i32_69
  let v86 : BitVec 32 := Scalar.extui v85
  let c0_i32_70 : BitVec 32 := 0#32
  let v87 : BitVec 1 := Scalar.cmpi .ne v86 c0_i32_70
  v87

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DxReferenceIdeal.lean ====
abbrev S2048x1024 : Shape := ⟨2, ![2048, 1024]⟩
abbrev S1024 : Shape := ⟨1, ![1024]⟩
abbrev S1024x2816 : Shape := ⟨2, ![1024, 2816]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2048x2816, .f32⟩
  | .hbm, ⟨5, _⟩ => ⟨S2048x2816, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .bf16⟩
  | .hbm, ⟨59, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== UpKernel.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2048x704 : Shape := ⟨3, ![4, 2048, 704]⟩
abbrev S512x1024 : Shape := ⟨2, ![512, 1024]⟩
abbrev S1x704x1024 : Shape := ⟨3, ![1, 704, 1024]⟩
abbrev S1x512x704 : Shape := ⟨3, ![1, 512, 704]⟩
abbrev S704x1024 : Shape := ⟨2, ![704, 1024]⟩
abbrev S512x704 : Shape := ⟨2, ![512, 704]⟩

abbrev nBuf : Space → Nat
  | .hbm => 13
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x1024, .bf16⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x2048x704, .bf16⟩
  | .hbm, ⟨11, _⟩ => ⟨S4x2048x704, .bf16⟩
  | .hbm, ⟨12, _⟩ => ⟨S4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S2048x1024 : Shape := ⟨2, ![2048, 1024]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .bf16⟩
  | .hbm, ⟨6, _⟩ => ⟨S2048x4x704, .bf16⟩
  | .hbm, ⟨7, _⟩ => ⟨S4x2048x704, .bf16⟩
  | .hbm, ⟨8, _⟩ => ⟨S2048x2816, .bf16⟩
  | .hbm, ⟨9, _⟩ => ⟨S2048x4x704, .bf16⟩
  | .hbm, ⟨10, _⟩ => ⟨S4x2048x704, .bf16⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .bf16⟩
  | .hbm, ⟨22, _⟩ => ⟨S2048x4x704, .bf16⟩
  | .hbm, ⟨23, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== DownKernel.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x4x704, .f32⟩
  | .hbm, ⟨5, _⟩ => ⟨S4x2048x704, .f32⟩
  | .hbm, ⟨6, _⟩ => ⟨S4x2048x704, .bf16⟩
  | .hbm, ⟨7, _⟩ => ⟨S4x704x1024, .f32⟩
  | .hbm, ⟨8, _⟩ => ⟨S4x704x1024, .bf16⟩
  | .hbm, ⟨9, _⟩ => ⟨S1x1024, .f32⟩
  | .hbm, ⟨10, _⟩ => ⟨S2048x1024, .f32⟩
  | .hbm, ⟨11, _⟩ => ⟨S2048x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== ProjKernel.lean ====
abbrev S2048x1024 : Shape := ⟨2, ![2048, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S4x2048x512 : Shape := ⟨3, ![4, 2048, 512]⟩
abbrev S512x1024 : Shape := ⟨2, ![512, 1024]⟩
abbrev S1x1024x512 : Shape := ⟨3, ![1, 1024, 512]⟩
abbrev S1x512x512 : Shape := ⟨3, ![1, 512, 512]⟩
abbrev S1024x512 : Shape := ⟨2, ![1024, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .bf16⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S4x2048x512, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512x512, .f32⟩
  | .local _ .vmem, ⟨5, _⟩ => ⟨S1x512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S2048x1024 : Shape := ⟨2, ![2048, 1024]⟩
abbrev S1024x2048 : Shape := ⟨2, ![1024, 2048]⟩
abbrev S2048x2048 : Shape := ⟨2, ![2048, 2048]⟩
abbrev S2048x4x512 : Shape := ⟨3, ![2048, 4, 512]⟩
abbrev S4x2048x512 : Shape := ⟨3, ![4, 2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x4x512, .f32⟩
  | .hbm, ⟨4, _⟩ => ⟨S4x2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutKernel.lean ====
abbrev S2048x1024 : Shape := ⟨2, ![2048, 1024]⟩
abbrev S1024x1024 : Shape := ⟨2, ![1024, 1024]⟩
abbrev S1024 : Shape := ⟨1, ![1024]⟩
abbrev S2048x512 : Shape := ⟨2, ![2048, 512]⟩
abbrev S1x2048x512 : Shape := ⟨3, ![1, 2048, 512]⟩
abbrev S2x2048x512 : Shape := ⟨3, ![2, 2048, 512]⟩
abbrev S2x512x1024 : Shape := ⟨3, ![2, 512, 1024]⟩
abbrev S1x1024 : Shape := ⟨2, ![1, 1024]⟩
abbrev S2x512x512 : Shape := ⟨3, ![2, 512, 512]⟩
abbrev S512x1024 : Shape := ⟨2, ![512, 1024]⟩
abbrev S1x512x512 : Shape := ⟨3, ![1, 512, 512]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x512, .f32⟩
  | .hbm, ⟨5, _⟩ => ⟨S2048x512, .f32⟩
  | .hbm, ⟨6, _⟩ => ⟨S1x2048x512, .f32⟩
  | .hbm, ⟨7, _⟩ => ⟨S1x2048x512, .f32⟩
  | .hbm, ⟨8, _⟩ => ⟨S2x2048x512, .f32⟩
  | .hbm, ⟨9, _⟩ => ⟨S2x2048x512, .bf16⟩
  | .hbm, ⟨10, _⟩ => ⟨S1024x1024, .bf16⟩
  | .hbm, ⟨11, _⟩ => ⟨S2x512x1024, .bf16⟩
  | .hbm, ⟨12, _⟩ => ⟨S1x1024, .f32⟩
  | .hbm, ⟨13, _⟩ => ⟨S2048x1024, .f32⟩
  | .hbm, ⟨14, _⟩ => ⟨S2048x1024, .bf16⟩
  | .local _ .vmem, ⟨0, _⟩ => ⟨S2x512x512, .bf16⟩
  | .local _ .vmem, ⟨1, _⟩ => ⟨S2x512x512, .bf16⟩
  | .local _ .vmem, ⟨2, _⟩ => ⟨S2x512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MixDxKernel.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S2048x4x512 : Shape := ⟨3, ![2048, 4, 512]⟩
abbrev S4x2048x512 : Shape := ⟨3, ![4, 2048, 512]⟩
abbrev S1024x4x512 : Shape := ⟨3, ![1024, 4, 512]⟩
abbrev S4x1024x512 : Shape := ⟨3, ![4, 1024, 512]⟩
abbrev S1x1024 : Shape := ⟨2, ![1, 1024]⟩
abbrev S4x512x512 : Shape := ⟨3, ![4, 512, 512]⟩
abbrev S512x1024 : Shape := ⟨2, ![512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x2048, .f32⟩
  | .hbm, ⟨4, _⟩ => ⟨S2048x1024, .f32⟩
  | .hbm, ⟨5, _⟩ => ⟨S2048x4x512, .f32⟩
  | .hbm, ⟨6, _⟩ => ⟨S4x2048x512, .f32⟩
  | .hbm, ⟨7, _⟩ => ⟨S4x2048x512, .bf16⟩
  | .hbm, ⟨8, _⟩ => ⟨S1024x4x512, .f32⟩
  | .hbm, ⟨9, _⟩ => ⟨S4x1024x512, .f32⟩
  | .hbm, ⟨10, _⟩ => ⟨S4x1024x512, .bf16⟩
  | .hbm, ⟨11, _⟩ => ⟨S1x1024, .f32⟩
  | .hbm, ⟨12, _⟩ => ⟨S2048x1024, .f32⟩
  | .hbm, ⟨13, _⟩ => ⟨S2048x1024, .bf16⟩
  | .hbm, ⟨14, _⟩ => ⟨S1x1024, .f32⟩
  | .local _ .vmem, ⟨0, _⟩ => ⟨S4x512x512, .bf16⟩
  | .local _ .vmem, ⟨1, _⟩ => ⟨S4x512x512, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_40 : BitVec 32 := 0#32
  let v60 : BitVec 1 := Scalar.cmpi .ne v59 c0_i32_40
  v60

def k0_cond2 (i : grid0.Coords) : BitVec 1 :=
  let arg0 : BitVec 32 := BitVec.ofNat 32 (i 0).val
  let c0_i32_41 : BitVec 32 := 0#32
  let v61 : BitVec 1 := Scalar.cmpi .sgt arg0 c0_i32_41
  let v62 : BitVec 32 := Scalar.extui v61
  let c0_i32_42 : BitVec 32 := 0#32
  let v63 : BitVec 1 := Scalar.cmpi .ne v62 c0_i32_42
  v63

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixDxReferenceIdeal.lean ====
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x2048, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .bf16⟩
  | .hbm, ⟨57, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== WinGradKernel.lean ====
abbrev S2048x1024 : Shape := ⟨2, ![2048, 1024]⟩
abbrev S2048x2048 : Shape := ⟨2, ![2048, 2048]⟩
abbrev S2048x4x512 : Shape := ⟨3, ![2048, 4, 512]⟩
abbrev S4x2048x512 : Shape := ⟨3, ![4, 2048, 512]⟩
abbrev S1x2048x1024 : Shape := ⟨3, ![1, 2048, 1024]⟩
abbrev S4x1024x512 : Shape := ⟨3, ![4, 1024, 512]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x4x512, .f32⟩
  | .hbm, ⟨4, _⟩ => ⟨S4x2048x512, .f32⟩
  | .hbm, ⟨5, _⟩ => ⟨S4x2048x512, .bf16⟩
  | .hbm, ⟨6, _⟩ => ⟨S1x2048x1024, .bf16⟩
  | .hbm, ⟨7, _⟩ => ⟨S4x1024x512, .bf16⟩
  | .local _ .vmem, ⟨0, _⟩ => ⟨S1x2048x1024, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WinGradReferenceIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x4x512, .bf16⟩
  | .hbm, ⟨9, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDactKernel.lean ====
abbrev S2048x1024 : Shape := ⟨2, ![2048, 1024]⟩
abbrev S1024x1024 : Shape := ⟨2, ![1024, 1024]⟩
abbrev S2x512x1024 : Shape := ⟨3, ![2, 512, 1024]⟩
abbrev S2x2048x512 : Shape := ⟨3, ![2, 2048, 512]⟩
abbrev S512x1024 : Shape := ⟨2, ![512, 1024]⟩
abbrev S1x512x1024 : Shape := ⟨3, ![1, 512, 1024]⟩
abbrev S1x512x512 : Shape := ⟨3, ![1, 512, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2x512x1024, .bf16⟩
  | .hbm, ⟨5, _⟩ => ⟨S2x2048x512, .f32⟩
  | .local _ .vmem, ⟨0, _⟩ => ⟨S512x1024, .bf16⟩
  | .local _ .vmem, ⟨1, _⟩ => ⟨S512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .f32⟩
  | .local _ .vmem, ⟨5, _⟩ => ⟨S1x512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDactReferenceIdeal.lean ====
abbrev S2048x1024 : Shape := ⟨2, ![2048, 1024]⟩
abbrev S1024x1024 : Shape := ⟨2, ![1024, 1024]⟩
abbrev S_ : Shape := ⟨0, ![]⟩
abbrev S2048x2x512 : Shape := ⟨3, ![2048, 2, 512]⟩
abbrev S2x2048x512 : Shape := ⟨3, ![2, 2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x2x512, .f32⟩
  | .hbm, ⟨7, _⟩ => ⟨S2x2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutGradKernel.lean ====
abbrev S2048x1024 : Shape := ⟨2, ![2048, 1024]⟩
abbrev S2048x512 : Shape := ⟨2, ![2048, 512]⟩
abbrev S1x2048x512 : Shape := ⟨3, ![1, 2048, 512]⟩
abbrev S2x2048x512 : Shape := ⟨3, ![2, 2048, 512]⟩
abbrev S1x2048x1024 : Shape := ⟨3, ![1, 2048, 1024]⟩
abbrev S2x512x1024 : Shape := ⟨3, ![2, 512, 1024]⟩
abbrev S1x512x1024 : Shape := ⟨3, ![1, 512, 1024]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x512, .f32⟩
  | .hbm, ⟨4, _⟩ => ⟨S1x2048x512, .f32⟩
  | .hbm, ⟨5, _⟩ => ⟨S1x2048x512, .f32⟩
  | .hbm, ⟨6, _⟩ => ⟨S2x2048x512, .f32⟩
  | .hbm, ⟨7, _⟩ => ⟨S2x2048x512, .bf16⟩
  | .hbm, ⟨8, _⟩ => ⟨S2048x1024, .bf16⟩
  | .hbm, ⟨9, _⟩ => ⟨S1x2048x1024, .bf16⟩
  | .hbm, ⟨10, _⟩ => ⟨S2x512x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x512x1024, .bf16⟩
  | .local _ .vmem, ⟨4, _⟩ => ⟨S1x512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutGradReferenceIdeal.lean ====
abbrev S2048x1024 : Shape := ⟨2, ![2048, 1024]⟩
abbrev S_ : Shape := ⟨0, ![]⟩
abbrev S1024x1024 : Shape := ⟨2, ![1024, 1024]⟩
abbrev S2x512x1024 : Shape := ⟨3, ![2, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S2x512x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PleBwdKernel.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S_ : Shape := ⟨0, ![]⟩
abbrev S8x128 : Shape := ⟨2, ![8, 128]⟩
abbrev S4x2048x256 : Shape := ⟨3, ![4, 2048, 256]⟩
abbrev S512x1024 : Shape := ⟨2, ![512, 1024]⟩
abbrev S512x256 : Shape := ⟨2, ![512, 256]⟩
abbrev S1024x256 : Shape := ⟨2, ![1024, 256]⟩
abbrev S1x256x256 : Shape := ⟨3, ![1, 256, 256]⟩
abbrev S1x512x256 : Shape := ⟨3, ![1, 512, 256]⟩
abbrev S256x256 : Shape := ⟨2, ![256, 256]⟩
abbrev S1x1 : Shape := ⟨2, ![1, 1]⟩

abbrev nBuf : Space → Nat
  | .hbm => 15
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S2048x1024, .f32⟩
  | .hbm, ⟨5, _⟩ => ⟨S2048x1024, .bf16⟩
  | .hbm, ⟨6, _⟩ => ⟨S2048x256, .bf16⟩
  | .hbm, ⟨7, _⟩ => ⟨S1024x1024, .bf16⟩
  | .hbm, ⟨8, _⟩ => ⟨S256x4x256, .f32⟩
  | .hbm, ⟨9, _⟩ => ⟨S4x256x256, .f32⟩
  | .hbm, ⟨10, _⟩ => ⟨S4x256x256, .bf16⟩
  | .hbm, ⟨11, _⟩ => ⟨S_, .f32⟩
  | .hbm, ⟨12, _⟩ => ⟨S8x128, .f32⟩
  | .hbm, ⟨13, _⟩ => ⟨S2048x1024, .bf16⟩
  | .hbm, ⟨14, _⟩ => ⟨S4x2048x256, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x256, .bf16⟩
  | .local _ .vmem, ⟨5, _⟩ => ⟨S1024x256, .bf16⟩
  | .local _ .vmem, ⟨6, _⟩ => ⟨S1x256x256, .bf16⟩
  | .local _ .vmem, ⟨7, _⟩ => ⟨S1x256x256, .bf16⟩
  | .local _ .vmem, ⟨8, _⟩ => ⟨S512x256, .f32⟩
  | .local _ .vmem, ⟨9, _⟩ => ⟨S512x256, .f32⟩
  | .local _ .vmem, ⟨10, _⟩ => ⟨S8x128, .f32⟩
  | .local _ .vmem, ⟨11, _⟩ => ⟨S512x256, .bf16⟩
  | .local _ .vmem, ⟨12, _⟩ => ⟨S512x256, .bf16⟩
  | .local _ .vmem, ⟨13, _⟩ => ⟨S1x512x256, .bf16⟩
  | .local _ .vmem, ⟨14, _⟩ => ⟨S1x512x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PleBwdReferenceIdeal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S_ : Shape := ⟨0, ![]⟩
abbrev S2048x4x256 : Shape := ⟨3, ![2048, 4, 256]⟩
abbrev S4x2048x256 : Shape := ⟨3, ![4, 2048, 256]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S2048x1024, .bf16⟩
  | .hbm, ⟨25, _⟩ => ⟨S2048x4x256, .bf16⟩
  | .hbm, ⟨26, _⟩ => ⟨S4x2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== PleDxKernel.lean ====
abbrev S2048x1024 : Shape := ⟨2, ![2048, 1024]⟩
abbrev S1024 : Shape := ⟨1, ![1024]⟩
abbrev S1024x1024 : Shape := ⟨2, ![1024, 1024]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x2048x1024, .bf16⟩
  | .hbm, ⟨7, _⟩ => ⟨S1024x1024, .bf16⟩
  | .hbm, ⟨8, _⟩ => ⟨S1x1024x1024, .bf16⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_22 : BitVec 32 := 0#32
  let v42 : BitVec 1 := Scalar.cmpi .ne v41 c0_i32_22
  v42

def k0_cond2 (i : grid0.Coords) : BitVec 1 :=
  let arg0 : BitVec 32 := BitVec.ofNat 32 (i 0).val
  let c0_i32_23 : BitVec 32 := 0#32
  let v43 : BitVec 1 := Scalar.cmpi .sgt arg0 c0_i32_23
  let v44 : BitVec 32 := Scalar.extui v43
  let c0_i32_24 : BitVec 32 := 0#32
  let v45 : BitVec 1 := Scalar.cmpi .ne v44 c0_i32_24
  v45

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PleDxReferenceIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .bf16⟩
  | .hbm, ⟨57, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== GateGradKernel.lean ====
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 7
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1x2048x1024, .bf16⟩
  | .hbm, ⟨5, _⟩ => ⟨S1x2048x1024, .bf16⟩
  | .hbm, ⟨6, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== GateGradReferenceIdeal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EmbGradKernel.lean ====
abbrev S2048x256 : Shape := ⟨2, ![2048, 256]⟩
abbrev S2048x1024 : Shape := ⟨2, ![2048, 1024]⟩
abbrev S2048x4x256 : Shape := ⟨3, ![2048, 4, 256]⟩
abbrev S4x2048x256 : Shape := ⟨3, ![4, 2048, 256]⟩
abbrev S1x2048x256 : Shape := ⟨3, ![1, 2048, 256]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 8
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S2048x256, .bf16⟩
  | .hbm, ⟨3, _⟩ => ⟨S2048x4x256, .f32⟩
  | .hbm, ⟨4, _⟩ => ⟨S4x2048x256, .f32⟩
  | .hbm, ⟨5, _⟩ => ⟨S4x2048x256, .bf16⟩
  | .hbm, ⟨6, _⟩ => ⟨S1x2048x256, .bf16⟩
  | .hbm, ⟨7, _⟩ => ⟨S4x256x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x256x256, .bf16⟩
  | .local _ .vmem, ⟨4, _⟩ => ⟨S1x256x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== EmbGradReferenceIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x1024, .bf16⟩
  | .hbm, ⟨8, _⟩ => ⟨S256x4x256, .bf16⟩
  | .hbm, ⟨9, _⟩ => ⟨S4x256x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PleKernel.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S_ : Shape := ⟨0, ![]⟩
abbrev S8x128 : Shape := ⟨2, ![8, 128]⟩
abbrev S512x1024 : Shape := ⟨2, ![512, 1024]⟩
abbrev S512x256 : Shape := ⟨2, ![512, 256]⟩
abbrev S1024x256 : Shape := ⟨2, ![1024, 256]⟩
abbrev S1x256x256 : Shape := ⟨3, ![1, 256, 256]⟩
abbrev S1x1 : Shape := ⟨2, ![1, 1]⟩
abbrev S256x256 : Shape := ⟨2, ![256, 256]⟩

abbrev nBuf : Space → Nat
  | .hbm => 14
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S2048x1024, .f32⟩
  | .hbm, ⟨5, _⟩ => ⟨S2048x1024, .bf16⟩
  | .hbm, ⟨6, _⟩ => ⟨S2048x256, .bf16⟩
  | .hbm, ⟨7, _⟩ => ⟨S1024x1024, .bf16⟩
  | .hbm, ⟨8, _⟩ => ⟨S256x4x256, .f32⟩
  | .hbm, ⟨9, _⟩ => ⟨S4x256x256, .f32⟩
  | .hbm, ⟨10, _⟩ => ⟨S4x256x256, .bf16⟩
  | .hbm, ⟨11, _⟩ => ⟨S_, .f32⟩
  | .hbm, ⟨12, _⟩ => ⟨S8x128, .f32⟩
  | .hbm, ⟨13, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x256, .bf16⟩
  | .local _ .vmem, ⟨5, _⟩ => ⟨S1024x256, .bf16⟩
  | .local _ .vmem, ⟨6, _⟩ => ⟨S1x256x256, .bf16⟩
  | .local _ .vmem, ⟨7, _⟩ => ⟨S1x256x256, .bf16⟩
  | .local _ .vmem, ⟨8, _⟩ => ⟨S512x256, .f32⟩
  | .local _ .vmem, ⟨9, _⟩ => ⟨S512x256, .f32⟩
  | .local _ .vmem, ⟨10, _⟩ => ⟨S8x128, .f32⟩
  | .local _ .vmem, ⟨11, _⟩ => ⟨S512x256, .f32⟩
  | .local _ .vmem, ⟨12, _⟩ => ⟨S512x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleReferenceIdeal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== GluGradKernel.lean ====
abbrev S2048x512 : Shape := ⟨2, ![2048, 512]⟩
abbrev S1x2048x512 : Shape := ⟨3, ![1, 2048, 512]⟩
abbrev S1x512x512 : Shape := ⟨3, ![1, 512, 512]⟩
abbrev S512x512 : Shape := ⟨2, ![512, 512]⟩

abbrev nBuf : Space → Nat
  | .hbm => 7
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .bf16⟩
  | .hbm, ⟨3, _⟩ => ⟨S2048x512, .bf16⟩
  | .hbm, ⟨4, _⟩ => ⟨S1x2048x512, .bf16⟩
  | .hbm, ⟨5, _⟩ => ⟨S1x2048x512, .bf16⟩
  | .hbm, ⟨6, _⟩ => ⟨S1x512x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== GluGradReferenceIdeal.lean ====
abbrev S2048x512 : Shape := ⟨2, ![2048, 512]⟩
abbrev S_ : Shape := ⟨0, ![]⟩
abbrev S512x512 : Shape := ⟨2, ![512, 512]⟩
abbrev S1x512x512 : Shape := ⟨3, ![1, 512, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S_, .f32⟩
  | .hbm, ⟨3, _⟩ => ⟨S512x512, .f32⟩
  | .hbm, ⟨4, _⟩ => ⟨S2048x512, .f32⟩
  | .hbm, ⟨5, _⟩ => ⟨S512x512, .f32⟩
  | .hbm, ⟨6, _⟩ => ⟨S512x512, .f32⟩
  | .hbm, ⟨7, _⟩ => ⟨S512x512, .bf16⟩
  | .hbm, ⟨8, _⟩ => ⟨S1x512x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GluKernel.lean ====
abbrev S2048x512 : Shape := ⟨2, ![2048, 512]⟩
abbrev S512x512 : Shape := ⟨2, ![512, 512]⟩
abbrev S512 : Shape := ⟨1, ![512]⟩
abbrev S1x512 : Shape := ⟨2, ![1, 512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512x512, .bf16⟩
  | .hbm, ⟨5, _⟩ => ⟨S1x512, .f32⟩
  | .hbm, ⟨6, _⟩ => ⟨S1x512, .f32⟩
  | .hbm, ⟨7, _⟩ => ⟨S2048x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluReferenceIdeal.lean ====
abbrev S2048x512 : Shape := ⟨2, ![2048, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S1x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x512, .f32⟩
  | .hbm, ⟨46, _⟩ => ⟨S2048x512, .f32⟩
  | .hbm, ⟨47, _⟩ => ⟨S1x512, .f32⟩
  | .hbm, ⟨48, _⟩ => ⟨S2048x512, .f32⟩
  | .hbm, ⟨49, _⟩ => ⟨S2048x512, .f32⟩
  | .hbm, ⟨50, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== NormKernel.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GluBwdKernel.lean ====
abbrev S2048x512 : Shape := ⟨2, ![2048, 512]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S2048x512, .f32⟩
  | .hbm, ⟨5, _⟩ => ⟨S512x512, .bf16⟩
  | .hbm, ⟨6, _⟩ => ⟨S1x512, .f32⟩
  | .hbm, ⟨7, _⟩ => ⟨S1x512, .f32⟩
  | .hbm, ⟨8, _⟩ => ⟨S2048x512, .f32⟩
  | .hbm, ⟨9, _⟩ => ⟨S2048x512, .bf16⟩
  | .hbm, ⟨10, _⟩ => ⟨S2048x512, .bf16⟩
  | .hbm, ⟨11, _⟩ => ⟨S1x512, .f32⟩
  | .hbm, ⟨12, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S1x512, .f32⟩
  | .local _ .vmem, ⟨14, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let v95 : BitVec 32 := Scalar.extui v94
  let c0_i32_40 : BitVec 32 := 0#32
  let v96 : BitVec 1 := Scalar.cmpi .ne v95 c0_i32_40
  v96

def k0_cond2 (i : grid0.Coords) : BitVec 1 :=
  let arg0 : BitVec 32 := BitVec.ofNat 32 (i 0).val
  let c0_i32_41 : BitVec 32 := 0#32
  let v97 : BitVec 1 := Scalar.cmpi .sgt arg0 c0_i32_41
  let v98 : BitVec 32 := Scalar.extui v97
  let c0_i32_42 : BitVec 32 := 0#32
  let v99 : BitVec 1 := Scalar.cmpi .ne v98 c0_i32_42
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GluBwdKernelIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== GluBwdReferenceIdeal.lean ====
abbrev S2048x512 : Shape := ⟨2, ![2048, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S2048 : Shape := ⟨1, ![2048]⟩
abbrev S2048x1 : Shape := ⟨2, ![2048, 1]⟩

abbrev nBuf : Space → Nat
  | .hbm => 125
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S2048x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S1x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x512, .f32⟩
  | .hbm, ⟨68, _⟩ => ⟨S2048x512, .f32⟩
  | .hbm, ⟨69, _⟩ => ⟨S1x512, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S2048x512, .f32⟩
  | .hbm, ⟨77, _⟩ => ⟨S2048x512, .f32⟩
  | .hbm, ⟨78, _⟩ => ⟨S_, .f32⟩
  | .hbm, ⟨79, _⟩ => ⟨S512, .f32⟩
  | .hbm, ⟨80, _⟩ => ⟨S2048x512, .f32⟩
  | .hbm, ⟨81, _⟩ => ⟨S_, .f32⟩
  | .hbm, ⟨82, _⟩ => ⟨S2048, .f32⟩
  | .hbm, ⟨83, _⟩ => ⟨S2048x1, .f32⟩
  | .hbm, ⟨84, _⟩ => ⟨S2048x512, .f32⟩
  | .hbm, ⟨85, _⟩ => ⟨S2048x512, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x512, .f32⟩
  | .hbm, ⟨93, _⟩ => ⟨S2048x512, .f32⟩
  | .hbm, ⟨94, _⟩ => ⟨S2048x512, .f32⟩
  | .hbm, ⟨95, _⟩ => ⟨S2048x512, .f32⟩
  | .hbm, ⟨96, _⟩ => ⟨S2048x512, .f32⟩
  | .hbm, ⟨97, _⟩ => ⟨S2048x512, .f32⟩
  | .hbm, ⟨98, _⟩ => ⟨S2048x512, .f32⟩
  | .hbm, ⟨99, _⟩ => ⟨S2048x512, .f32⟩
  | .hbm, ⟨100, _⟩ => ⟨S_, .f32⟩
  | .hbm, ⟨101, _⟩ => ⟨S512, .f32⟩
  | .hbm, ⟨102, _⟩ => ⟨S1x512, .f32⟩
  | .hbm, ⟨103, _⟩ => ⟨S_, .f32⟩
  | .hbm, ⟨104, _⟩ => ⟨S512, .f32⟩
  | .hbm, ⟨105, _⟩ => ⟨S2048x512, .f32⟩
  | .hbm, ⟨106, _⟩ => ⟨S2048x512, .f32⟩
  | .hbm, ⟨107, _⟩ => ⟨S2048x512, .f32⟩
  | .hbm, ⟨108, _⟩ => ⟨S2048x512, .f32⟩
  | .hbm, ⟨109, _⟩ => ⟨S_, .f32⟩
  | .hbm, ⟨110, _⟩ => ⟨S2048x512, .f32⟩
  | .hbm, ⟨111, _⟩ => ⟨S2048x512, .f32⟩
  | .hbm, ⟨112, _⟩ => ⟨S2048x512, .f32⟩
  | .hbm, ⟨113, _⟩ => ⟨S_, .f32⟩
  | .hbm, ⟨114, _⟩ => ⟨S2048x512, .f32⟩
  | .hbm, ⟨115, _⟩ => ⟨S2048x512, .f32⟩
  | .hbm, ⟨116, _⟩ => ⟨S2048x512, .f32⟩
  | .hbm, ⟨117, _⟩ => ⟨S2048x512, .f32⟩
  | .hbm, ⟨118, _⟩ => ⟨S2048x512, .f32⟩
  | .hbm, ⟨119, _⟩ => ⟨S2048x512, .f32⟩
  | .hbm, ⟨120, _⟩ => ⟨S2048x512, .f32⟩
  | .hbm, ⟨121, _⟩ => ⟨S2048x512, .bf16⟩
  | .hbm, ⟨122, _⟩ => ⟨S2048x512, .bf16⟩
  | .hbm, ⟨123, _⟩ => ⟨S1x512, .f32⟩
  | .hbm, ⟨124, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩
abbrev main_v76 : Ref sig .tc := ⟨.hbm, 102, rfl⟩
abbrev main_cst_20 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_21 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_22 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference program's operations, stretch by stretch: what @main runs before, between and after its two counted
loops, and what each loop's body and condition run. Of each stretch: what it touches and what it writes. -/

@[expose] public section

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.StableHlo

variable {F : FTy → Type} [FloatOps F]

/-- Reading row `k` of a stack of 2048 rows. -/
abbrev idxOps (x : StableHlo.TRef sig ⟨S2048x32x64, .f32⟩) (k : StableHlo.TRef sig ⟨S_, .i32⟩) (φ : fn_dynamic_index_in_dim.Bufs) :
    List (HloOp τ sig (Elt F)) :=
  [ StableHlo.TRef.nullary φ.c (constantI S_ 32 0#32),
    StableHlo.TRef.nullary φ.c_0 (constantI S_ 32 0#32),
    StableHlo.TRef.unaryIndexed x ![k, φ.c, φ.c_0] φ.v0
      (fun x i => Host.dynamicSlice S1x32x64 x (fun k => (i k (Shape.Idx.first h_S_)).toInt) sliceFits_S2048x32x64_S1x32x64),
    StableHlo.TRef.reshape φ.v0 φ.v1 (rfl : (.f32 : EltTy) = .f32) shapeCasts_S1x32x64_S32x64 ]
theorem idxOps_sub (x : StableHlo.TRef sig ⟨S2048x32x64, .f32⟩) (k : StableHlo.TRef sig ⟨S_, .i32⟩) (φ : fn_dynamic_index_in_dim.Bufs) :
    (idxOps x k φ : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- Writing row `k` of a stack of 2048 rows. -/
abbrev putOps (x : StableHlo.TRef sig ⟨S2048x32x64, .f32⟩) (u : StableHlo.TRef sig ⟨S32x64, .f32⟩) (k : StableHlo.TRef sig ⟨S_, .i32⟩)
    (φ : fn_dynamic_update_index_in_dim.Bufs) : List (HloOp τ sig (Elt F)) :=
  [ StableHlo.TRef.unary u φ.v0 (broadcastInDim S1x32x64 ![1, 2] bcast_S32x64_S1x32x64_1_2),
    StableHlo.TRef.nullary φ.c (constantI S_ 32 0#32),
    StableHlo.TRef.nullary φ.c_0 (constantI S_ 32 0#32),
    StableHlo.TRef.binaryIndexed x φ.v0 ![k, φ.c, φ.c_0] φ.v1
      (fun x u i => Host.dynamicUpdateSlice x u (fun k => (i k (Shape.Idx.first h_S_)).toInt) updateFits_S2048x32x64_S1x32x64) ]
theorem putOps_sub (x : StableHlo.TRef sig ⟨S2048x32x64, .f32⟩) (u : StableHlo.TRef sig ⟨S32x64, .f32⟩) (k : StableHlo.TRef sig ⟨S_, .i32⟩)
    (φ : fn_dynamic_update_index_in_dim.Bufs) :
    (putOps x u k φ : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- @main before its first loop. -/
abbrev preOps : List (HloOp τ sig (Elt F)) :=
  [ StableHlo.reshape main_arg0 main_v0 (rfl : (.f32 : EltTy) = .f32) shapeCasts_S2048x512_S2048x32x16,
    StableHlo.binary main_arg4 main_v0 main_v1 ((fun l r => Host.dotGeneral dot_S32x64x16_S2048x32x16_S32x64x2048_2_2_1_0_0_1 none l r) : (⟨S32x64x16, .f32⟩ : BufTy).Contents (Elt F) → (⟨S2048x32x16, .f32⟩ : BufTy).Contents (Elt F) → (⟨S32x64x2048, .f32⟩ : BufTy).Contents (Elt F)),
    StableHlo.unary main_v1 main_v2 ((transpose S2048x32x64 [2, 0, 1] · transposes_S32x64x2048_S2048x32x64_2_0_1) : (⟨S32x64x2048, .f32⟩ : BufTy).Contents (Elt F) → (⟨S2048x32x64, .f32⟩ : BufTy).Contents (Elt F)),
    StableHlo.binary main_arg5 main_v0 main_v3 ((fun l r => Host.dotGeneral dot_S32x64x16_S2048x32x16_S32x64x2048_2_2_1_0_0_1 none l r) : (⟨S32x64x16, .f32⟩ : BufTy).Contents (Elt F) → (⟨S2048x32x16, .f32⟩ : BufTy).Contents (Elt F) → (⟨S32x64x2048, .f32⟩ : BufTy).Contents (Elt F)),
    StableHlo.unary main_v3 main_v4 ((transpose S2048x32x64 [2, 0, 1] · transposes_S32x64x2048_S2048x32x64_2_0_1) : (⟨S32x64x2048, .f32⟩ : BufTy).Contents (Elt F) → (⟨S2048x32x64, .f32⟩ : BufTy).Contents (Elt F)),
    StableHlo.nullary main_cst (constant S_ .f32 0x00000000#32),
    StableHlo.unary main_cst main_v5 (broadcastInDim S32x64 ![] bcast_S_S32x64 : (⟨S_, .f32⟩ : BufTy).Contents (Elt F) → (⟨S32x64, .f32⟩ : BufTy).Contents (Elt F)),
    StableHlo.nullary main_cst_0 (constant S_ .f32 0x00000000#32),
    StableHlo.unary main_cst_0 main_v6 (broadcastInDim S2048x32x64 ![] bcast_S_S2048x32x64 : (⟨S_, .f32⟩ : BufTy).Contents (Elt F) → (⟨S2048x32x64, .f32⟩ : BufTy).Contents (Elt F)),
    StableHlo.nullary main_cst_1 (constant S_ .f32 0x00000000#32),
    StableHlo.unary main_cst_1 main_v7 (broadcastInDim S2048x32x64 ![] bcast_S_S2048x32x64 : (⟨S_, .f32⟩ : BufTy).Contents (Elt F) → (⟨S2048x32x64, .f32⟩ : BufTy).Contents (Elt F)),
    StableHlo.nullary main_cst_2 (constant S_ .f32 0x00000000#32),
    StableHlo.unary main_cst_2 main_v8 (broadcastInDim S2048x32x64 ![] bcast_S_S2048x32x64 : (⟨S_, .f32⟩ : BufTy).Contents (Elt F) → (⟨S2048x32x64, .f32⟩ : BufTy).Contents (Elt F)),
    StableHlo.nullary main_cst_3 (constant S_ .f32 0x00000000#32),
    StableHlo.unary main_cst_3 main_v9 (broadcastInDim S2048x32x64 ![] bcast_S_S2048x32x64 : (⟨S_, .f32⟩ : BufTy).Contents (Elt F) → (⟨S2048x32x64, .f32⟩ : BufTy).Contents (Elt F)),
    StableHlo.nullary main_c (constantI S_ 32 0#32),
    StableHlo.unary main_v2 main_v10_0 id,
    StableHlo.unary main_v4 main_v10_1 id,
    StableHlo.unary main_arg2 main_v10_2 id,
    StableHlo.unary main_arg3 main_v10_3 id,
    StableHlo.unary main_c main_v10_4 id,
    StableHlo.unary main_v5 main_v10_5 id,
    StableHlo.unary main_v5 main_v10_6 id,
    StableHlo.unary main_v6 main_v10_7 id,
    StableHlo.unary main_v7 main_v10_8 id,
    StableHlo.unary main_v8 main_v10_9 id,
    StableHlo.unary main_v9 main_v10_10 id ]
theorem preOps_sub : (preOps : List (HloOp τ sig (Elt F))).Forall fun op => op.bufs ⊆ StableHlo.tcRefs τ sig :=
  ⟨StableHlo.reshape_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem preOps_fresh : (preOps : List (HloOp τ sig (Elt F))).Forall fun op => op.fresh = ∅ :=
  StableHlo.forall_fresh_of_map rfl
abbrev preOps_W : List (Ref sig .tc) := [main_v0, main_v1, main_v2, main_v3, main_v4, main_cst, main_v5, main_cst_0, main_v6, main_cst_1, main_v7, main_cst_2, main_v8, main_cst_3, main_v9, main_c, main_v10_0, main_v10_1, main_v10_2, main_v10_3, main_v10_4, main_v10_5, main_v10_6, main_v10_7, main_v10_8, main_v10_9, main_v10_10]
theorem preOps_writes : (preOps : List (HloOp τ sig (Elt F))).Forall fun op => op.writes ⊆ (preOps_W.map (Proc.devRef (τ := τ) .tc)).toFinset :=
  StableHlo.forall_writes_sub_of_map rfl
theorem preOps_keep (V : Valuation τ sig (Elt F)) {b : Ref sig .tc} (h : b ∉ preOps_W) : after preOps V (Proc.devRef .tc b) = V (Proc.devRef .tc b) :=
  StableHlo.after_of_writes_sub preOps V preOps_writes h

/-- @main between the loops, the first part. -/
abbrev midOpsA : List (HloOp τ sig (Elt F)) :=
  [ StableHlo.binary main_arg6 main_v10_7 main_v11 ((fun l r => Host.dotGeneral dot_S32x16x64_S2048x32x64_S32x16x2048_2_2_1_0_0_1 none l r) : (⟨S32x16x64, .f32⟩ : BufTy).Contents (Elt F) → (⟨S2048x32x64, .f32⟩ : BufTy).Contents (Elt F) → (⟨S32x16x2048, .f32⟩ : BufTy).Contents (Elt F)),
    StableHlo.unary main_v11 main_v12 ((transpose S2048x32x16 [2, 0, 1] · transposes_S32x16x2048_S2048x32x16_2_0_1) : (⟨S32x16x2048, .f32⟩ : BufTy).Contents (Elt F) → (⟨S2048x32x16, .f32⟩ : BufTy).Contents (Elt F)),
    StableHlo.binary main_arg7 main_v10_8 main_v13 ((fun l r => Host.dotGeneral dot_S32x16x64_S2048x32x64_S32x16x2048_2_2_1_0_0_1 none l r) : (⟨S32x16x64, .f32⟩ : BufTy).Contents (Elt F) → (⟨S2048x32x64, .f32⟩ : BufTy).Contents (Elt F) → (⟨S32x16x2048, .f32⟩ : BufTy).Contents (Elt F)),
    StableHlo.unary main_v13 main_v14 ((transpose S2048x32x16 [2, 0, 1] · transposes_S32x16x2048_S2048x32x16_2_0_1) : (⟨S32x16x2048, .f32⟩ : BufTy).Contents (Elt F) → (⟨S2048x32x16, .f32⟩ : BufTy).Contents (Elt F)),
    StableHlo.binary main_v12 main_v14 main_v15 (subf : (⟨S2048x32x16, .f32⟩ : BufTy).Contents (Elt F) → (⟨S2048x32x16, .f32⟩ : BufTy).Contents (Elt F) → (⟨S2048x32x16, .f32⟩ : BufTy).Contents (Elt F)),
    StableHlo.unary main_arg8 main_v16 (broadcastInDim S1x32x16 ![1, 2] bcast_S32x16_S1x32x16_1_2 : (⟨S32x16, .f32⟩ : BufTy).Contents (Elt F) → (⟨S1x32x16, .f32⟩ : BufTy).Contents (Elt F)),
    StableHlo.unary main_v16 main_v17 (broadcastInDim S2048x32x16 ![0, 1, 2] bcast_S1x32x16_S2048x32x16_0_1_2 : (⟨S1x32x16, .f32⟩ : BufTy).Contents (Elt F) → (⟨S2048x32x16, .f32⟩ : BufTy).Contents (Elt F)),
    StableHlo.binary main_v17 main_v0 main_v18 (mulf : (⟨S2048x32x16, .f32⟩ : BufTy).Contents (Elt F) → (⟨S2048x32x16, .f32⟩ : BufTy).Contents (Elt F) → (⟨S2048x32x16, .f32⟩ : BufTy).Contents (Elt F)),
    StableHlo.binary main_v15 main_v18 main_v19 (addf : (⟨S2048x32x16, .f32⟩ : BufTy).Contents (Elt F) → (⟨S2048x32x16, .f32⟩ : BufTy).Contents (Elt F) → (⟨S2048x32x16, .f32⟩ : BufTy).Contents (Elt F)),
    StableHlo.reshape main_v19 main_v20 (rfl : (.f32 : EltTy) = .f32) shapeCasts_S2048x32x16_S2048x512,
    StableHlo.nullary main_cst_4 (constant S_ .f32 0x00000000#32),
    StableHlo.unary main_cst_4 main_v21 (broadcastInDim S32x64 ![] bcast_S_S32x64 : (⟨S_, .f32⟩ : BufTy).Contents (Elt F) → (⟨S32x64, .f32⟩ : BufTy).Contents (Elt F)),
    StableHlo.nullary main_cst_5 (constant S_ .f32 0x00000000#32),
    StableHlo.unary main_cst_5 main_v22 (broadcastInDim S32x64 ![] bcast_S_S32x64 : (⟨S_, .f32⟩ : BufTy).Contents (Elt F) → (⟨S32x64, .f32⟩ : BufTy).Contents (Elt F)),
    StableHlo.reshape main_arg1 main_v23 (rfl : (.f32 : EltTy) = .f32) shapeCasts_S2048x512_S2048x32x16,
    StableHlo.unary main_v16 main_v24 (broadcastInDim S2048x32x16 ![0, 1, 2] bcast_S1x32x16_S2048x32x16_0_1_2 : (⟨S1x32x16, .f32⟩ : BufTy).Contents (Elt F) → (⟨S2048x32x16, .f32⟩ : BufTy).Contents (Elt F)),
    StableHlo.binary main_v24 main_v23 main_v25 (mulf : (⟨S2048x32x16, .f32⟩ : BufTy).Contents (Elt F) → (⟨S2048x32x16, .f32⟩ : BufTy).Contents (Elt F) → (⟨S2048x32x16, .f32⟩ : BufTy).Contents (Elt F)),
    StableHlo.binary main_v23 main_v0 main_v26 (mulf : (⟨S2048x32x16, .f32⟩ : BufTy).Contents (Elt F) → (⟨S2048x32x16, .f32⟩ : BufTy).Contents (Elt F) → (⟨S2048x32x16, .f32⟩ : BufTy).Contents (Elt F)),
    StableHlo.nullary main_cst_6 (constant S_ .f32 0x00000000#32),
    StableHlo.binary main_v26 main_cst_6 main_v27 ((fun x v => Host.reduceAdd x v reducesTo_S2048x32x16_S32x16_d0 h_S_) : (⟨S2048x32x16, .f32⟩ : BufTy).Contents (Elt F) → (⟨S_, .f32⟩ : BufTy).Contents (Elt F) → (⟨S32x16, .f32⟩ : BufTy).Contents (Elt F)),
    StableHlo.reshape main_v27 main_v28 (rfl : (.f32 : EltTy) = .f32) shapeCasts_S32x16_S1x32x16,
    StableHlo.nullary main_cst_7 (constant S_ .f32 0x00000000#32),
    StableHlo.binary main_v28 main_cst_7 main_v29 ((fun x v => Host.reduceAdd x v reducesTo_S1x32x16_S32x16_d0 h_S_) : (⟨S1x32x16, .f32⟩ : BufTy).Contents (Elt F) → (⟨S_, .f32⟩ : BufTy).Contents (Elt F) → (⟨S32x16, .f32⟩ : BufTy).Contents (Elt F)),
    StableHlo.unary main_v23 main_v30 (Host.negf : (⟨S2048x32x16, .f32⟩ : BufTy).Contents (Elt F) → (⟨S2048x32x16, .f32⟩ : BufTy).Contents (Elt F)),
    StableHlo.unary main_v30 main_v31 ((transpose S32x16x2048 [1, 2, 0] · transposes_S2048x32x16_S32x16x2048_1_2_0) : (⟨S2048x32x16, .f32⟩ : BufTy).Contents (Elt F) → (⟨S32x16x2048, .f32⟩ : BufTy).Contents (Elt F)),
    StableHlo.binary main_v31 main_arg7 main_v32 ((fun l r => Host.dotGeneral dot_S32x16x2048_S32x16x64_S32x2048x64_1_1_2_2_0_0 none l r) : (⟨S32x16x2048, .f32⟩ : BufTy).Contents (Elt F) → (⟨S32x16x64, .f32⟩ : BufTy).Contents (Elt F) → (⟨S32x2048x64, .f32⟩ : BufTy).Contents (Elt F)),
    StableHlo.unary main_v32 main_v33 ((transpose S2048x32x64 [1, 0, 2] · transposes_S32x2048x64_S2048x32x64_1_0_2) : (⟨S32x2048x64, .f32⟩ : BufTy).Contents (Elt F) → (⟨S2048x32x64, .f32⟩ : BufTy).Contents (Elt F)),
    StableHlo.binary main_v31 main_v10_8 main_v34 ((fun l r => Host.dotGeneral dot_S32x16x2048_S2048x32x64_S32x16x64_2_0_1_2_0_1 none l r) : (⟨S32x16x2048, .f32⟩ : BufTy).Contents (Elt F) → (⟨S2048x32x64, .f32⟩ : BufTy).Contents (Elt F) → (⟨S32x16x64, .f32⟩ : BufTy).Contents (Elt F)),
    StableHlo.unary main_v23 main_v35 ((transpose S32x16x2048 [1, 2, 0] · transposes_S2048x32x16_S32x16x2048_1_2_0) : (⟨S2048x32x16, .f32⟩ : BufTy).Contents (Elt F) → (⟨S32x16x2048, .f32⟩ : BufTy).Contents (Elt F)),
    StableHlo.binary main_v35 main_arg6 main_v36 ((fun l r => Host.dotGeneral dot_S32x16x2048_S32x16x64_S32x2048x64_1_1_2_2_0_0 none l r) : (⟨S32x16x2048, .f32⟩ : BufTy).Contents (Elt F) → (⟨S32x16x64, .f32⟩ : BufTy).Contents (Elt F) → (⟨S32x2048x64, .f32⟩ : BufTy).Contents (Elt F)),
    StableHlo.unary main_v36 main_v37 ((transpose S2048x32x64 [1, 0, 2] · transposes_S32x2048x64_S2048x32x64_1_0_2) : (⟨S32x2048x64, .f32⟩ : BufTy).Contents (Elt F) → (⟨S2048x32x64, .f32⟩ : BufTy).Contents (Elt F)),
    StableHlo.binary main_v35 main_v10_7 main_v38 ((fun l r => Host.dotGeneral dot_S32x16x2048_S2048x32x64_S32x16x64_2_0_1_2_0_1 none l r) : (⟨S32x16x2048, .f32⟩ : BufTy).Contents (Elt F) → (⟨S2048x32x64, .f32⟩ : BufTy).Contents (Elt F) → (⟨S32x16x64, .f32⟩ : BufTy).Contents (Elt F)) ]
theorem midOpsA_sub : (midOpsA : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.nullary_bufs_sub .., StableHlo.unary_bufs_sub .., StableHlo.reshape_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩
theorem midOpsA_fresh : (midOpsA : List (HloOp τ sig (Elt F))).Forall fun op => op.fresh = ∅ :=
  StableHlo.forall_fresh_of_map rfl
abbrev midOpsA_W : List (Ref sig .tc) := [main_v11, main_v12, main_v13, main_v14, main_v15, main_v16, main_v17, main_v18, main_v19, main_v20, main_cst_4, main_v21, main_cst_5, main_v22, main_v23, main_v24, main_v25, main_v26, main_cst_6, main_v27, main_v28, main_cst_7, main_v29, main_v30, main_v31, main_v32, main_v33, main_v34, main_v35, main_v36, main_v37, main_v38]
theorem midOpsA_writes : (midOpsA : List (HloOp τ sig (Elt F))).Forall fun op => op.writes ⊆ (midOpsA_W.map (Proc.devRef (τ := τ) .tc)).toFinset :=
  StableHlo.forall_writes_sub_of_map rfl
theorem midOpsA_keep (V : Valuation τ sig (Elt F)) {b : Ref sig .tc} (h : b ∉ midOpsA_W) : after midOpsA V (Proc.devRef .tc b) = V (Proc.devRef .tc b) :=
  StableHlo.after_of_writes_sub midOpsA V midOpsA_writes h

/-- @main between the loops, the second part: the second loop's entry. -/
abbrev midOpsB : List (HloOp τ sig (Elt F)) :=
  [ StableHlo.nullary main_cst_8 (constant S_ .f32 0x00000000#32),
    StableHlo.unary main_cst_8 main_v39 (broadcastInDim S32x64 ![] bcast_S_S32x64 : (⟨S_, .f32⟩ : BufTy).Contents (Elt F) → (⟨S32x64, .f32⟩ : BufTy).Contents (Elt F)),
    StableHlo.nullary main_cst_9 (constant S_ .f32 0x00000000#32),
    StableHlo.unary main_cst_9 main_v40 (broadcastInDim S32x64 ![] bcast_S_S32x64 : (⟨S_, .f32⟩ : BufTy).Contents (Elt F) → (⟨S32x64, .f32⟩ : BufTy).Contents (Elt F)),
    StableHlo.nullary main_cst_10 (constant S_ .f32 0x00000000#32),
    StableHlo.unary main_cst_10 main_v41 (broadcastInDim S32x64 ![] bcast_S_S32x64 : (⟨S_, .f32⟩ : BufTy).Contents (Elt F) → (⟨S32x64, .f32⟩ : BufTy).Contents (Elt F)),
    StableHlo.nullary main_cst_11 (constant S_ .f32 0x00000000#32),
    StableHlo.unary main_cst_11 main_v42 (broadcastInDim S32x64 ![] bcast_S_S32x64 : (⟨S_, .f32⟩ : BufTy).Contents (Elt F) → (⟨S32x64, .f32⟩ : BufTy).Contents (Elt F)),
    StableHlo.nullary main_cst_12 (constant S_ .f32 0x00000000#32),
    StableHlo.unary main_cst_12 main_v43 (broadcastInDim S2048x32x64 ![] bcast_S_S2048x32x64 : (⟨S_, .f32⟩ : BufTy).Contents (Elt F) → (⟨S2048x32x64, .f32⟩ : BufTy).Contents (Elt F)),
    StableHlo.nullary main_cst_13 (constant S_ .f32 0x00000000#32),
    StableHlo.unary main_cst_13 main_v44 (broadcastInDim S2048x32x64 ![] bcast_S_S2048x32x64 : (⟨S_, .f32⟩ : BufTy).Contents (Elt F) → (⟨S2048x32x64, .f32⟩ : BufTy).Contents (Elt F)),
    StableHlo.nullary main_c_14 (constantI S_ 32 0#32),
    StableHlo.unary main_v37 main_v45_0 id,
    StableHlo.unary main_v33 main_v45_1 id,
    StableHlo.unary main_v10_9 main_v45_2 id,
    StableHlo.unary main_v10_10 main_v45_3 id,
    StableHlo.unary main_arg2 main_v45_4 id,
    StableHlo.unary main_arg3 main_v45_5 id,
    StableHlo.unary main_c_14 main_v45_6 id,
    StableHlo.unary main_v41 main_v45_7 id,
    StableHlo.unary main_v42 main_v45_8 id,
    StableHlo.unary main_v39 main_v45_9 id,
    StableHlo.unary main_v40 main_v45_10 id,
    StableHlo.unary main_v43 main_v45_11 id,
    StableHlo.unary main_v44 main_v45_12 id ]
theorem midOpsB_sub : (midOpsB : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem midOpsB_fresh : (midOpsB : List (HloOp τ sig (Elt F))).Forall fun op => op.fresh = ∅ :=
  StableHlo.forall_fresh_of_map rfl
abbrev midOpsB_W : List (Ref sig .tc) := [main_cst_8, main_v39, main_cst_9, main_v40, main_cst_10, main_v41, main_cst_11, main_v42, main_cst_12, main_v43, main_cst_13, main_v44, main_c_14, main_v45_0, main_v45_1, main_v45_2, main_v45_3, main_v45_4, main_v45_5, main_v45_6, main_v45_7, main_v45_8, main_v45_9, main_v45_10, main_v45_11, main_v45_12]
theorem midOpsB_writes : (midOpsB : List (HloOp τ sig (Elt F))).Forall fun op => op.writes ⊆ (midOpsB_W.map (Proc.devRef (τ := τ) .tc)).toFinset :=
  StableHlo.forall_writes_sub_of_map rfl
theorem midOpsB_keep (V : Valuation τ sig (Elt F)) {b : Ref sig .tc} (h : b ∉ midOpsB_W) : after midOpsB V (Proc.devRef .tc b) = V (Proc.devRef .tc b) :=
  StableHlo.after_of_writes_sub midOpsB V midOpsB_writes h

/-- @main after its second loop. -/
abbrev postOps : List (HloOp τ sig (Elt F)) :=
  [ StableHlo.unary main_v45_12 main_v46 ((transpose S32x64x2048 [1, 2, 0] · transposes_S2048x32x64_S32x64x2048_1_2_0) : (⟨S2048x32x64, .f32⟩ : BufTy).Contents (Elt F) → (⟨S32x64x2048, .f32⟩ : BufTy).Contents (Elt F)),
    StableHlo.binary main_v46 main_arg5 main_v47 ((fun l r => Host.dotGeneral dot_S32x64x2048_S32x64x16_S32x2048x16_1_1_2_2_0_0 none l r) : (⟨S32x64x2048, .f32⟩ : BufTy).Contents (Elt F) → (⟨S32x64x16, .f32⟩ : BufTy).Contents (Elt F) → (⟨S32x2048x16, .f32⟩ : BufTy).Contents (Elt F)),
    StableHlo.unary main_v47 main_v48 ((transpose S2048x32x16 [1, 0, 2] · transposes_S32x2048x16_S2048x32x16_1_0_2) : (⟨S32x2048x16, .f32⟩ : BufTy).Contents (Elt F) → (⟨S2048x32x16, .f32⟩ : BufTy).Contents (Elt F)),
    StableHlo.binary main_v25 main_v48 main_v49 (addf : (⟨S2048x32x16, .f32⟩ : BufTy).Contents (Elt F) → (⟨S2048x32x16, .f32⟩ : BufTy).Contents (Elt F) → (⟨S2048x32x16, .f32⟩ : BufTy).Contents (Elt F)),
    StableHlo.binary main_v46 main_v0 main_v50 ((fun l r => Host.dotGeneral dot_S32x64x2048_S2048x32x16_S32x64x16_2_0_1_2_0_1 none l r) : (⟨S32x64x2048, .f32⟩ : BufTy).Contents (Elt F) → (⟨S2048x32x16, .f32⟩ : BufTy).Contents (Elt F) → (⟨S32x64x16, .f32⟩ : BufTy).Contents (Elt F)),
    StableHlo.unary main_v45_11 main_v51 ((transpose S32x64x2048 [1, 2, 0] · transposes_S2048x32x64_S32x64x2048_1_2_0) : (⟨S2048x32x64, .f32⟩ : BufTy).Contents (Elt F) → (⟨S32x64x2048, .f32⟩ : BufTy).Contents (Elt F)),
    StableHlo.binary main_v51 main_arg4 main_v52 ((fun l r => Host.dotGeneral dot_S32x64x2048_S32x64x16_S32x2048x16_1_1_2_2_0_0 none l r) : (⟨S32x64x2048, .f32⟩ : BufTy).Contents (Elt F) → (⟨S32x64x16, .f32⟩ : BufTy).Contents (Elt F) → (⟨S32x2048x16, .f32⟩ : BufTy).Contents (Elt F)),
    StableHlo.unary main_v52 main_v53 ((transpose S2048x32x16 [1, 0, 2] · transposes_S32x2048x16_S2048x32x16_1_0_2) : (⟨S32x2048x16, .f32⟩ : BufTy).Contents (Elt F) → (⟨S2048x32x16, .f32⟩ : BufTy).Contents (Elt F)),
    StableHlo.binary main_v49 main_v53 main_v54 (addf : (⟨S2048x32x16, .f32⟩ : BufTy).Contents (Elt F) → (⟨S2048x32x16, .f32⟩ : BufTy).Contents (Elt F) → (⟨S2048x32x16, .f32⟩ : BufTy).Contents (Elt F)),
    StableHlo.binary main_v51 main_v0 main_v55 ((fun l r => Host.dotGeneral dot_S32x64x2048_S2048x32x16_S32x64x16_2_0_1_2_0_1 none l r) : (⟨S32x64x2048, .f32⟩ : BufTy).Contents (Elt F) → (⟨S2048x32x16, .f32⟩ : BufTy).Contents (Elt F) → (⟨S32x64x16, .f32⟩ : BufTy).Contents (Elt F)),
    StableHlo.reshape main_v54 main_v56 (rfl : (.f32 : EltTy) = .f32) shapeCasts_S2048x32x16_S2048x512 ]
theorem postOps_sub : (postOps : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.reshape_bufs_sub ..⟩
theorem postOps_fresh : (postOps : List (HloOp τ sig (Elt F))).Forall fun op => op.fresh = ∅ :=
  StableHlo.forall_fresh_of_map rfl
abbrev postOps_W : List (Ref sig .tc) := [main_v46, main_v47, main_v48, main_v49, main_v50, main_v51, main_v52, main_v53, main_v54, main_v55, main_v56]
theorem postOps_writes : (postOps : List (HloOp τ sig (Elt F))).Forall fun op => op.writes ⊆ (postOps_W.map (Proc.devRef (τ := τ) .tc)).toFinset :=
  StableHlo.forall_writes_sub_of_map rfl
theorem postOps_keep (V : Valuation τ sig (Elt F)) {b : Ref sig .tc} (h : b ∉ postOps_W) : after postOps V (Proc.devRef .tc b) = V (Proc.devRef .tc b) :=
  StableHlo.after_of_writes_sub postOps V postOps_writes h

/-- The condition of the forward loop. -/
abbrev fwdCond : List (HloOp τ sig (Elt F)) :=
  [ StableHlo.nullary main_while0c_c_25 (constantI S_ 32 2048#32),
    StableHlo.binary main_v10_4 main_while0c_c_25 main_while0c_v57 (cmpi .slt : (⟨S_, .i32⟩ : BufTy).Contents (Elt F) → (⟨S_, .i32⟩ : BufTy).Contents (Elt F) → (⟨S_, .i1⟩ : BufTy).Contents (Elt F)) ]
theorem fwdCond_sub : (fwdCond : List (HloOp τ sig (Elt F))).Forall fun op => op.bufs ⊆ StableHlo.tcRefs τ sig :=
  ⟨StableHlo.nullary_bufs_sub .., StableHlo.binary_bufs_sub ..⟩
theorem fwdCond_fresh : (fwdCond : List (HloOp τ sig (Elt F))).Forall fun op => op.fresh = ∅ :=
  StableHlo.forall_fresh_of_map rfl
abbrev fwdCond_W : List (Ref sig .tc) := [main_while0c_c_25, main_while0c_v57]
theorem fwdCond_writes : (fwdCond : List (HloOp τ sig (Elt F))).Forall fun op => op.writes ⊆ (fwdCond_W.map (Proc.devRef (τ := τ) .tc)).toFinset :=
  StableHlo.forall_writes_sub_of_map rfl
theorem fwdCond_keep (V : Valuation τ sig (Elt F)) {b : Ref sig .tc} (h : b ∉ fwdCond_W) : after fwdCond V (Proc.devRef .tc b) = V (Proc.devRef .tc b) :=
  StableHlo.after_of_writes_sub fwdCond V fwdCond_writes h

/-- The forward loop's body, stretch 0. -/
abbrev fwdB0 : List (HloOp τ sig (Elt F)) := idxOps (.of main_v10_0) (.of main_v10_4) main_while0b_call0
theorem fwdB0_sub : (fwdB0 : List (HloOp τ sig (Elt F))).Forall fun op => op.bufs ⊆ StableHlo.tcRefs τ sig := idxOps_sub ..
theorem fwdB0_fresh : (fwdB0 : List (HloOp τ sig (Elt F))).Forall fun op => op.fresh = ∅ :=
  StableHlo.forall_fresh_of_map rfl
abbrev fwdB0_W : List (Ref sig .tc) := [main_while0b_call0_c, main_while0b_call0_c_0, main_while0b_call0_v0, main_while0b_v57]
theorem fwdB0_writes : (fwdB0 : List (HloOp τ sig (Elt F))).Forall fun op => op.writes ⊆ (fwdB0_W.map (Proc.devRef (τ := τ) .tc)).toFinset :=
  StableHlo.forall_writes_sub_of_map rfl
theorem fwdB0_keep (V : Valuation τ sig (Elt F)) {b : Ref sig .tc} (h : b ∉ fwdB0_W) : after fwdB0 V (Proc.devRef .tc b) = V (Proc.devRef .tc b) :=
  StableHlo.after_of_writes_sub fwdB0 V fwdB0_writes h

/-- The forward loop's body, stretch 1. -/
abbrev fwdB1 : List (HloOp τ sig (Elt F)) := idxOps (.of main_v10_1) (.of main_v10_4) main_while0b_call1
theorem fwdB1_sub : (fwdB1 : List (HloOp τ sig (Elt F))).Forall fun op => op.bufs ⊆ StableHlo.tcRefs τ sig := idxOps_sub ..
theorem fwdB1_fresh : (fwdB1 : List (HloOp τ sig (Elt F))).Forall fun op => op.fresh = ∅ :=
  StableHlo.forall_fresh_of_map rfl
abbrev fwdB1_W : List (Ref sig .tc) := [main_while0b_call1_c, main_while0b_call1_c_0, main_while0b_call1_v0, main_while0b_v58]
theorem fwdB1_writes : (fwdB1 : List (HloOp τ sig (Elt F))).Forall fun op => op.writes ⊆ (fwdB1_W.map (Proc.devRef (τ := τ) .tc)).toFinset :=
  StableHlo.forall_writes_sub_of_map rfl
theorem fwdB1_keep (V : Valuation τ sig (Elt F)) {b : Ref sig .tc} (h : b ∉ fwdB1_W) : after fwdB1 V (Proc.devRef .tc b) = V (Proc.devRef .tc b) :=
  StableHlo.after_of_writes_sub fwdB1 V fwdB1_writes h

/-- The forward loop's body, stretch 2. -/
abbrev fwdB2 : List (HloOp τ sig (Elt F)) :=
  [ StableHlo.binary main_v10_2 main_v10_5 main_while0b_v59 (mulf : (⟨S32x64, .f32⟩ : BufTy).Contents (Elt F) → (⟨S32x64, .f32⟩ : BufTy).Contents (Elt F) → (⟨S32x64, .f32⟩ : BufTy).Contents (Elt F)),
    StableHlo.binary main_v10_3 main_v10_6 main_while0b_v60 (mulf : (⟨S32x64, .f32⟩ : BufTy).Contents (Elt F) → (⟨S32x64, .f32⟩ : BufTy).Contents (Elt F) → (⟨S32x64, .f32⟩ : BufTy).Contents (Elt F)),
    StableHlo.binary main_while0b_v59 main_while0b_v60 main_while0b_v61 (subf : (⟨S32x64, .f32⟩ : BufTy).Contents (Elt F) → (⟨S32x64, .f32⟩ : BufTy).Contents (Elt F) → (⟨S32x64, .f32⟩ : BufTy).Contents (Elt F)),
    StableHlo.binary main_while0b_v61 main_while0b_v57 main_while0b_v62 (addf : (⟨S32x64, .f32⟩ : BufTy).Contents (Elt F) → (⟨S32x64, .f32⟩ : BufTy).Contents (Elt F) → (⟨S32x64, .f32⟩ : BufTy).Contents (Elt F)),
    StableHlo.binary main_v10_2 main_v10_6 main_while0b_v63 (mulf : (⟨S32x64, .f32⟩ : BufTy).Contents (Elt F) → (⟨S32x64, .f32⟩ : BufTy).Contents (Elt F) → (⟨S32x64, .f32⟩ : BufTy).Contents (Elt F)),
    StableHlo.binary main_v10_3 main_v10_5 main_while0b_v64 (mulf : (⟨S32x64, .f32⟩ : BufTy).Contents (Elt F) → (⟨S32x64, .f32⟩ : BufTy).Contents (Elt F) → (⟨S32x64, .f32⟩ : BufTy).Contents (Elt F)),
    StableHlo.binary main_while0b_v63 main_while0b_v64 main_while0b_v65 (addf : (⟨S32x64, .f32⟩ : BufTy).Contents (Elt F) → (⟨S32x64, .f32⟩ : BufTy).Contents (Elt F) → (⟨S32x64, .f32⟩ : BufTy).Contents (Elt F)),
    StableHlo.binary main_while0b_v65 main_while0b_v58 main_while0b_v66 (addf : (⟨S32x64, .f32⟩ : BufTy).Contents (Elt F) → (⟨S32x64, .f32⟩ : BufTy).Contents (Elt F) → (⟨S32x64, .f32⟩ : BufTy).Contents (Elt F)) ]
theorem fwdB2_sub : (fwdB2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem fwdB2_fresh : (fwdB2 : List (HloOp τ sig (Elt F))).Forall fun op => op.fresh = ∅ :=
  StableHlo.forall_fresh_of_map rfl
abbrev fwdB2_W : List (Ref sig .tc) := [main_while0b_v59, main_while0b_v60, main_while0b_v61, main_while0b_v62, main_while0b_v63, main_while0b_v64, main_while0b_v65, main_while0b_v66]
theorem fwdB2_writes : (fwdB2 : List (HloOp τ sig (Elt F))).Forall fun op => op.writes ⊆ (fwdB2_W.map (Proc.devRef (τ := τ) .tc)).toFinset :=
  StableHlo.forall_writes_sub_of_map rfl
theorem fwdB2_keep (V : Valuation τ sig (Elt F)) {b : Ref sig .tc} (h : b ∉ fwdB2_W) : after fwdB2 V (Proc.devRef .tc b) = V (Proc.devRef .tc b) :=
  StableHlo.after_of_writes_sub fwdB2 V fwdB2_writes h

/-- The forward loop's body, stretch 3. -/
abbrev fwdB3 : List (HloOp τ sig (Elt F)) := putOps (.of main_v10_7) (.of main_while0b_v62) (.of main_v10_4) main_while0b_call2
theorem fwdB3_sub : (fwdB3 : List (HloOp τ sig (Elt F))).Forall fun op => op.bufs ⊆ StableHlo.tcRefs τ sig := putOps_sub ..
theorem fwdB3_fresh : (fwdB3 : List (HloOp τ sig (Elt F))).Forall fun op => op.fresh = ∅ :=
  StableHlo.forall_fresh_of_map rfl
abbrev fwdB3_W : List (Ref sig .tc) := [main_while0b_call2_v0, main_while0b_call2_c, main_while0b_call2_c_0, main_while0b_v67]
theorem fwdB3_writes : (fwdB3 : List (HloOp τ sig (Elt F))).Forall fun op => op.writes ⊆ (fwdB3_W.map (Proc.devRef (τ := τ) .tc)).toFinset :=
  StableHlo.forall_writes_sub_of_map rfl
theorem fwdB3_keep (V : Valuation τ sig (Elt F)) {b : Ref sig .tc} (h : b ∉ fwdB3_W) : after fwdB3 V (Proc.devRef .tc b) = V (Proc.devRef .tc b) :=
  StableHlo.after_of_writes_sub fwdB3 V fwdB3_writes h

/-- The forward loop's body, stretch 4. -/
abbrev fwdB4 : List (HloOp τ sig (Elt F)) := putOps (.of main_v10_8) (.of main_while0b_v66) (.of main_v10_4) main_while0b_call3
theorem fwdB4_sub : (fwdB4 : List (HloOp τ sig (Elt F))).Forall fun op => op.bufs ⊆ StableHlo.tcRefs τ sig := putOps_sub ..
theorem fwdB4_fresh : (fwdB4 : List (HloOp τ sig (Elt F))).Forall fun op => op.fresh = ∅ :=
  StableHlo.forall_fresh_of_map rfl
abbrev fwdB4_W : List (Ref sig .tc) := [main_while0b_call3_v0, main_while0b_call3_c, main_while0b_call3_c_0, main_while0b_v68]
theorem fwdB4_writes : (fwdB4 : List (HloOp τ sig (Elt F))).Forall fun op => op.writes ⊆ (fwdB4_W.map (Proc.devRef (τ := τ) .tc)).toFinset :=
  StableHlo.forall_writes_sub_of_map rfl
theorem fwdB4_keep (V : Valuation τ sig (Elt F)) {b : Ref sig .tc} (h : b ∉ fwdB4_W) : after fwdB4 V (Proc.devRef .tc b) = V (Proc.devRef .tc b) :=
  StableHlo.after_of_writes_sub fwdB4 V fwdB4_writes h

/-- The forward loop's body, stretch 5. -/
abbrev fwdB5 : List (HloOp τ sig (Elt F)) := putOps (.of main_v10_9) (.of main_v10_5) (.of main_v10_4) main_while0b_call4
theorem fwdB5_sub : (fwdB5 : List (HloOp τ sig (Elt F))).Forall fun op => op.bufs ⊆ StableHlo.tcRefs τ sig := putOps_sub ..
theorem fwdB5_fresh : (fwdB5 : List (HloOp τ sig (Elt F))).Forall fun op => op.fresh = ∅ :=
  StableHlo.forall_fresh_of_map rfl
abbrev fwdB5_W : List (Ref sig .tc) := [main_while0b_call4_v0, main_while0b_call4_c, main_while0b_call4_c_0, main_while0b_v69]
theorem fwdB5_writes : (fwdB5 : List (HloOp τ sig (Elt F))).Forall fun op => op.writes ⊆ (fwdB5_W.map (Proc.devRef (τ := τ) .tc)).toFinset :=
  StableHlo.forall_writes_sub_of_map rfl
theorem fwdB5_keep (V : Valuation τ sig (Elt F)) {b : Ref sig .tc} (h : b ∉ fwdB5_W) : after fwdB5 V (Proc.devRef .tc b) = V (Proc.devRef .tc b) :=
  StableHlo.after_of_writes_sub fwdB5 V fwdB5_writes h

/-- The forward loop's body, stretch 6. -/
abbrev fwdB6 : List (HloOp τ sig (Elt F)) := putOps (.of main_v10_10) (.of main_v10_6) (.of main_v10_4) main_while0b_call5
theorem fwdB6_sub : (fwdB6 : List (HloOp τ sig (Elt F))).Forall fun op => op.bufs ⊆ StableHlo.tcRefs τ sig := putOps_sub ..
theorem fwdB6_fresh : (fwdB6 : List (HloOp τ sig (Elt F))).Forall fun op => op.fresh = ∅ :=
  StableHlo.forall_fresh_of_map rfl
abbrev fwdB6_W : List (Ref sig .tc) := [main_while0b_call5_v0, main_while0b_call5_c, main_while0b_call5_c_0, main_while0b_v70]
theorem fwdB6_writes : (fwdB6 : List (HloOp τ sig (Elt F))).Forall fun op => op.writes ⊆ (fwdB6_W.map (Proc.devRef (τ := τ) .tc)).toFinset :=
  StableHlo.forall_writes_sub_of_map rfl
theorem fwdB6_keep (V : Valuation τ sig (Elt F)) {b : Ref sig .tc} (h : b ∉ fwdB6_W) : after fwdB6 V (Proc.devRef .tc b) = V (Proc.devRef .tc b) :=
  StableHlo.after_of_writes_sub fwdB6 V fwdB6_writes h

/-- The forward loop's body, stretch 7. -/
abbrev fwdB7 : List (HloOp τ sig (Elt F)) :=
  [ StableHlo.nullary main_while0b_c_25 (constantI S_ 32 1#32),
    StableHlo.binary main_v10_4 main_while0b_c_25 main_while0b_v71 (addi : (⟨S_, .i32⟩ : BufTy).Contents (Elt F) → (⟨S_, .i32⟩ : BufTy).Contents (Elt F) → (⟨S_, .i32⟩ : BufTy).Contents (Elt F)),
    StableHlo.unary main_while0b_v71 main_v10_4 id,
    StableHlo.unary main_while0b_v62 main_v10_5 id,
    StableHlo.unary main_while0b_v66 main_v10_6 id,
    StableHlo.unary main_while0b_v67 main_v10_7 id,
    StableHlo.unary main_while0b_v68 main_v10_8 id,
    StableHlo.unary main_while0b_v69 main_v10_9 id,
    StableHlo.unary main_while0b_v70 main_v10_10 id ]
theorem fwdB7_sub : (fwdB7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem fwdB7_fresh : (fwdB7 : List (HloOp τ sig (Elt F))).Forall fun op => op.fresh = ∅ :=
  StableHlo.forall_fresh_of_map rfl
abbrev fwdB7_W : List (Ref sig .tc) := [main_while0b_c_25, main_while0b_v71, main_v10_4, main_v10_5, main_v10_6, main_v10_7, main_v10_8, main_v10_9, main_v10_10]
theorem fwdB7_writes : (fwdB7 : List (HloOp τ sig (Elt F))).Forall fun op => op.writes ⊆ (fwdB7_W.map (Proc.devRef (τ := τ) .tc)).toFinset :=
  StableHlo.forall_writes_sub_of_map rfl
theorem fwdB7_keep (V : Valuation τ sig (Elt F)) {b : Ref sig .tc} (h : b ∉ fwdB7_W) : after fwdB7 V (Proc.devRef .tc b) = V (Proc.devRef .tc b) :=
  StableHlo.after_of_writes_sub fwdB7 V fwdB7_writes h

/-- The forward loop's body. -/
abbrev fwdBody : List (List (HloOp τ sig (Elt F))) := [fwdB0, fwdB1, fwdB2, fwdB3, fwdB4, fwdB5, fwdB6, fwdB7]
theorem fwdBody_plain : StableHlo.Plain (fwdBody (F := F)) :=
  .cons fwdB0_sub (hf := List.forall_iff_forall_mem.mp fwdB0_fresh) <| .cons fwdB1_sub (hf := List.forall_iff_forall_mem.mp fwdB1_fresh) <| .cons fwdB2_sub (hf := List.forall_iff_forall_mem.mp fwdB2_fresh) <| .cons fwdB3_sub (hf := List.forall_iff_forall_mem.mp fwdB3_fresh) <| .cons fwdB4_sub (hf := List.forall_iff_forall_mem.mp fwdB4_fresh) <| .cons fwdB5_sub (hf := List.forall_iff_forall_mem.mp fwdB5_fresh) <| .cons fwdB6_sub (hf := List.forall_iff_forall_mem.mp fwdB6_fresh) <| .cons fwdB7_sub (hf := List.forall_iff_forall_mem.mp fwdB7_fresh) <| .nil
set_option maxRecDepth 100000 in
theorem fwdBody_chain : main_while0_body (F := F) = (Pipeline.chain ((fwdBody (F := F)).map fun ops => StableHlo.seq ops) :
    Prog (TpuEff nD τ sig (Elt F) (HostLoop.Sig (Pipeline.Sig Λ₀ (Fin 0) fun p => (pcfgs (F := F) p).Adm) 2) .tc) PUnit) := by
  show _ = Pipeline.chain [StableHlo.seq fwdB0, StableHlo.seq fwdB1, StableHlo.seq fwdB2, StableHlo.seq fwdB3, StableHlo.seq fwdB4, StableHlo.seq fwdB5, StableHlo.seq fwdB6, StableHlo.seq fwdB7]
  rewrite [Pipeline.chain_cons, Pipeline.chain_cons, StableHlo.chain_seq_cons, Pipeline.chain_cons, Pipeline.chain_cons, Pipeline.chain_cons, Pipeline.chain_cons, StableHlo.chain_seq_cons]
  chain_rfl

/-- The condition of the backward loop. -/
abbrev bwdCond : List (HloOp τ sig (Elt F)) :=
  [ StableHlo.nullary main_while1c_c_27 (constantI S_ 32 2048#32),
    StableHlo.binary main_v45_6 main_while1c_c_27 main_while1c_v57 (cmpi .slt : (⟨S_, .i32⟩ : BufTy).Contents (Elt F) → (⟨S_, .i32⟩ : BufTy).Contents (Elt F) → (⟨S_, .i1⟩ : BufTy).Contents (Elt F)) ]
theorem bwdCond_sub : (bwdCond : List (HloOp τ sig (Elt F))).Forall fun op => op.bufs ⊆ StableHlo.tcRefs τ sig :=
  ⟨StableHlo.nullary_bufs_sub .., StableHlo.binary_bufs_sub ..⟩
theorem bwdCond_fresh : (bwdCond : List (HloOp τ sig (Elt F))).Forall fun op => op.fresh = ∅ :=
  StableHlo.forall_fresh_of_map rfl
abbrev bwdCond_W : List (Ref sig .tc) := [main_while1c_c_27, main_while1c_v57]
theorem bwdCond_writes : (bwdCond : List (HloOp τ sig (Elt F))).Forall fun op => op.writes ⊆ (bwdCond_W.map (Proc.devRef (τ := τ) .tc)).toFinset :=
  StableHlo.forall_writes_sub_of_map rfl
theorem bwdCond_keep (V : Valuation τ sig (Elt F)) {b : Ref sig .tc} (h : b ∉ bwdCond_W) : after bwdCond V (Proc.devRef .tc b) = V (Proc.devRef .tc b) :=
  StableHlo.after_of_writes_sub bwdCond V bwdCond_writes h

/-- The backward loop's body, stretch 0. -/
abbrev bwdB0 : List (HloOp τ sig (Elt F)) :=
  [ StableHlo.nullary main_while1b_c_27 (constantI S_ 32 2048#32),
    StableHlo.binary main_while1b_c_27 main_v45_6 main_while1b_v57 (subi : (⟨S_, .i32⟩ : BufTy).Contents (Elt F) → (⟨S_, .i32⟩ : BufTy).Contents (Elt F) → (⟨S_, .i32⟩ : BufTy).Contents (Elt F)),
    StableHlo.nullary main_while1b_c_28 (constantI S_ 32 1#32),
    StableHlo.binary main_while1b_v57 main_while1b_c_28 main_while1b_v58 (subi : (⟨S_, .i32⟩ : BufTy).Contents (Elt F) → (⟨S_, .i32⟩ : BufTy).Contents (Elt F) → (⟨S_, .i32⟩ : BufTy).Contents (Elt F)) ]
theorem bwdB0_sub : (bwdB0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bwdB0_fresh : (bwdB0 : List (HloOp τ sig (Elt F))).Forall fun op => op.fresh = ∅ :=
  StableHlo.forall_fresh_of_map rfl
abbrev bwdB0_W : List (Ref sig .tc) := [main_while1b_c_27, main_while1b_v57, main_while1b_c_28, main_while1b_v58]
theorem bwdB0_writes : (bwdB0 : List (HloOp τ sig (Elt F))).Forall fun op => op.writes ⊆ (bwdB0_W.map (Proc.devRef (τ := τ) .tc)).toFinset :=
  StableHlo.forall_writes_sub_of_map rfl
theorem bwdB0_keep (V : Valuation τ sig (Elt F)) {b : Ref sig .tc} (h : b ∉ bwdB0_W) : after bwdB0 V (Proc.devRef .tc b) = V (Proc.devRef .tc b) :=
  StableHlo.after_of_writes_sub bwdB0 V bwdB0_writes h

/-- The backward loop's body, stretch 1. -/
abbrev bwdB1 : List (HloOp τ sig (Elt F)) := idxOps (.of main_v45_0) (.of main_while1b_v58) main_while1b_call6
theorem bwdB1_sub : (bwdB1 : List (HloOp τ sig (Elt F))).Forall fun op => op.bufs ⊆ StableHlo.tcRefs τ sig := idxOps_sub ..
theorem bwdB1_fresh : (bwdB1 : List (HloOp τ sig (Elt F))).Forall fun op => op.fresh = ∅ :=
  StableHlo.forall_fresh_of_map rfl
abbrev bwdB1_W : List (Ref sig .tc) := [main_while1b_call6_c, main_while1b_call6_c_0, main_while1b_call6_v0, main_while1b_v59]
theorem bwdB1_writes : (bwdB1 : List (HloOp τ sig (Elt F))).Forall fun op => op.writes ⊆ (bwdB1_W.map (Proc.devRef (τ := τ) .tc)).toFinset :=
  StableHlo.forall_writes_sub_of_map rfl
theorem bwdB1_keep (V : Valuation τ sig (Elt F)) {b : Ref sig .tc} (h : b ∉ bwdB1_W) : after bwdB1 V (Proc.devRef .tc b) = V (Proc.devRef .tc b) :=
  StableHlo.after_of_writes_sub bwdB1 V bwdB1_writes h

/-- The backward loop's body, stretch 2. -/
abbrev bwdB2 : List (HloOp τ sig (Elt F)) := idxOps (.of main_v45_1) (.of main_while1b_v58) main_while1b_call7
theorem bwdB2_sub : (bwdB2 : List (HloOp τ sig (Elt F))).Forall fun op => op.bufs ⊆ StableHlo.tcRefs τ sig := idxOps_sub ..
theorem bwdB2_fresh : (bwdB2 : List (HloOp τ sig (Elt F))).Forall fun op => op.fresh = ∅ :=
  StableHlo.forall_fresh_of_map rfl
abbrev bwdB2_W : List (Ref sig .tc) := [main_while1b_call7_c, main_while1b_call7_c_0, main_while1b_call7_v0, main_while1b_v60]
theorem bwdB2_writes : (bwdB2 : List (HloOp τ sig (Elt F))).Forall fun op => op.writes ⊆ (bwdB2_W.map (Proc.devRef (τ := τ) .tc)).toFinset :=
  StableHlo.forall_writes_sub_of_map rfl
theorem bwdB2_keep (V : Valuation τ sig (Elt F)) {b : Ref sig .tc} (h : b ∉ bwdB2_W) : after bwdB2 V (Proc.devRef .tc b) = V (Proc.devRef .tc b) :=
  StableHlo.after_of_writes_sub bwdB2 V bwdB2_writes h

/-- The backward loop's body, stretch 3. -/
abbrev bwdB3 : List (HloOp τ sig (Elt F)) := idxOps (.of main_v45_2) (.of main_while1b_v58) main_while1b_call8
theorem bwdB3_sub : (bwdB3 : List (HloOp τ sig (Elt F))).Forall fun op => op.bufs ⊆ StableHlo.tcRefs τ sig := idxOps_sub ..
theorem bwdB3_fresh : (bwdB3 : List (HloOp τ sig (Elt F))).Forall fun op => op.fresh = ∅ :=
  StableHlo.forall_fresh_of_map rfl
abbrev bwdB3_W : List (Ref sig .tc) := [main_while1b_call8_c, main_while1b_call8_c_0, main_while1b_call8_v0, main_while1b_v61]
theorem bwdB3_writes : (bwdB3 : List (HloOp τ sig (Elt F))).Forall fun op => op.writes ⊆ (bwdB3_W.map (Proc.devRef (τ := τ) .tc)).toFinset :=
  StableHlo.forall_writes_sub_of_map rfl
theorem bwdB3_keep (V : Valuation τ sig (Elt F)) {b : Ref sig .tc} (h : b ∉ bwdB3_W) : after bwdB3 V (Proc.devRef .tc b) = V (Proc.devRef .tc b) :=
  StableHlo.after_of_writes_sub bwdB3 V bwdB3_writes h

/-- The backward loop's body, stretch 4. -/
abbrev bwdB4 : List (HloOp τ sig (Elt F)) := idxOps (.of main_v45_3) (.of main_while1b_v58) main_while1b_call9
theorem bwdB4_sub : (bwdB4 : List (HloOp τ sig (Elt F))).Forall fun op => op.bufs ⊆ StableHlo.tcRefs τ sig := idxOps_sub ..
theorem bwdB4_fresh : (bwdB4 : List (HloOp τ sig (Elt F))).Forall fun op => op.fresh = ∅ :=
  StableHlo.forall_fresh_of_map rfl
abbrev bwdB4_W : List (Ref sig .tc) := [main_while1b_call9_c, main_while1b_call9_c_0, main_while1b_call9_v0, main_while1b_v62]
theorem bwdB4_writes : (bwdB4 : List (HloOp τ sig (Elt F))).Forall fun op => op.writes ⊆ (bwdB4_W.map (Proc.devRef (τ := τ) .tc)).toFinset :=
  StableHlo.forall_writes_sub_of_map rfl
theorem bwdB4_keep (V : Valuation τ sig (Elt F)) {b : Ref sig .tc} (h : b ∉ bwdB4_W) : after bwdB4 V (Proc.devRef .tc b) = V (Proc.devRef .tc b) :=
  StableHlo.after_of_writes_sub bwdB4 V bwdB4_writes h

/-- The backward loop's body, stretch 5. -/
abbrev bwdB5 : List (HloOp τ sig (Elt F)) :=
  [ StableHlo.binary main_v45_9 main_while1b_v59 main_while1b_v63 (addf : (⟨S32x64, .f32⟩ : BufTy).Contents (Elt F) → (⟨S32x64, .f32⟩ : BufTy).Contents (Elt F) → (⟨S32x64, .f32⟩ : BufTy).Contents (Elt F)),
    StableHlo.binary main_v45_10 main_while1b_v60 main_while1b_v64 (addf : (⟨S32x64, .f32⟩ : BufTy).Contents (Elt F) → (⟨S32x64, .f32⟩ : BufTy).Contents (Elt F) → (⟨S32x64, .f32⟩ : BufTy).Contents (Elt F)),
    StableHlo.binary main_v45_5 main_while1b_v64 main_while1b_v65 (mulf : (⟨S32x64, .f32⟩ : BufTy).Contents (Elt F) → (⟨S32x64, .f32⟩ : BufTy).Contents (Elt F) → (⟨S32x64, .f32⟩ : BufTy).Contents (Elt F)),
    StableHlo.binary main_while1b_v64 main_while1b_v61 main_while1b_v66 (mulf : (⟨S32x64, .f32⟩ : BufTy).Contents (Elt F) → (⟨S32x64, .f32⟩ : BufTy).Contents (Elt F) → (⟨S32x64, .f32⟩ : BufTy).Contents (Elt F)),
    StableHlo.binary main_v45_8 main_while1b_v66 main_while1b_v67 (addf : (⟨S32x64, .f32⟩ : BufTy).Contents (Elt F) → (⟨S32x64, .f32⟩ : BufTy).Contents (Elt F) → (⟨S32x64, .f32⟩ : BufTy).Contents (Elt F)),
    StableHlo.binary main_v45_4 main_while1b_v64 main_while1b_v68 (mulf : (⟨S32x64, .f32⟩ : BufTy).Contents (Elt F) → (⟨S32x64, .f32⟩ : BufTy).Contents (Elt F) → (⟨S32x64, .f32⟩ : BufTy).Contents (Elt F)),
    StableHlo.binary main_while1b_v64 main_while1b_v62 main_while1b_v69 (mulf : (⟨S32x64, .f32⟩ : BufTy).Contents (Elt F) → (⟨S32x64, .f32⟩ : BufTy).Contents (Elt F) → (⟨S32x64, .f32⟩ : BufTy).Contents (Elt F)),
    StableHlo.binary main_v45_7 main_while1b_v69 main_while1b_v70 (addf : (⟨S32x64, .f32⟩ : BufTy).Contents (Elt F) → (⟨S32x64, .f32⟩ : BufTy).Contents (Elt F) → (⟨S32x64, .f32⟩ : BufTy).Contents (Elt F)),
    StableHlo.unary main_while1b_v63 main_while1b_v71 (Host.negf : (⟨S32x64, .f32⟩ : BufTy).Contents (Elt F) → (⟨S32x64, .f32⟩ : BufTy).Contents (Elt F)),
    StableHlo.binary main_v45_5 main_while1b_v71 main_while1b_v72 (mulf : (⟨S32x64, .f32⟩ : BufTy).Contents (Elt F) → (⟨S32x64, .f32⟩ : BufTy).Contents (Elt F) → (⟨S32x64, .f32⟩ : BufTy).Contents (Elt F)),
    StableHlo.binary main_while1b_v68 main_while1b_v72 main_while1b_v73 (addf : (⟨S32x64, .f32⟩ : BufTy).Contents (Elt F) → (⟨S32x64, .f32⟩ : BufTy).Contents (Elt F) → (⟨S32x64, .f32⟩ : BufTy).Contents (Elt F)),
    StableHlo.binary main_while1b_v71 main_while1b_v62 main_while1b_v74 (mulf : (⟨S32x64, .f32⟩ : BufTy).Contents (Elt F) → (⟨S32x64, .f32⟩ : BufTy).Contents (Elt F) → (⟨S32x64, .f32⟩ : BufTy).Contents (Elt F)),
    StableHlo.binary main_while1b_v67 main_while1b_v74 main_while1b_v75 (addf : (⟨S32x64, .f32⟩ : BufTy).Contents (Elt F) → (⟨S32x64, .f32⟩ : BufTy).Contents (Elt F) → (⟨S32x64, .f32⟩ : BufTy).Contents (Elt F)),
    StableHlo.binary main_v45_4 main_while1b_v63 main_while1b_v76 (mulf : (⟨S32x64, .f32⟩ : BufTy).Contents (Elt F) → (⟨S32x64, .f32⟩ : BufTy).Contents (Elt F) → (⟨S32x64, .f32⟩ : BufTy).Contents (Elt F)),
    StableHlo.binary main_while1b_v65 main_while1b_v76 main_while1b_v77 (addf : (⟨S32x64, .f32⟩ : BufTy).Contents (Elt F) → (⟨S32x64, .f32⟩ : BufTy).Contents (Elt F) → (⟨S32x64, .f32⟩ : BufTy).Contents (Elt F)),
    StableHlo.binary main_while1b_v63 main_while1b_v61 main_while1b_v78 (mulf : (⟨S32x64, .f32⟩ : BufTy).Contents (Elt F) → (⟨S32x64, .f32⟩ : BufTy).Contents (Elt F) → (⟨S32x64, .f32⟩ : BufTy).Contents (Elt F)),
    StableHlo.binary main_while1b_v70 main_while1b_v78 main_while1b_v79 (addf : (⟨S32x64, .f32⟩ : BufTy).Contents (Elt F) → (⟨S32x64, .f32⟩ : BufTy).Contents (Elt F) → (⟨S32x64, .f32⟩ : BufTy).Contents (Elt F)) ]
theorem bwdB5_sub : (bwdB5 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem bwdB5_fresh : (bwdB5 : List (HloOp τ sig (Elt F))).Forall fun op => op.fresh = ∅ :=
  StableHlo.forall_fresh_of_map rfl
abbrev bwdB5_W : List (Ref sig .tc) := [main_while1b_v63, main_while1b_v64, main_while1b_v65, main_while1b_v66, main_while1b_v67, main_while1b_v68, main_while1b_v69, main_while1b_v70, main_while1b_v71, main_while1b_v72, main_while1b_v73, main_while1b_v74, main_while1b_v75, main_while1b_v76, main_while1b_v77, main_while1b_v78, main_while1b_v79]
theorem bwdB5_writes : (bwdB5 : List (HloOp τ sig (Elt F))).Forall fun op => op.writes ⊆ (bwdB5_W.map (Proc.devRef (τ := τ) .tc)).toFinset :=
  StableHlo.forall_writes_sub_of_map rfl
theorem bwdB5_keep (V : Valuation τ sig (Elt F)) {b : Ref sig .tc} (h : b ∉ bwdB5_W) : after bwdB5 V (Proc.devRef .tc b) = V (Proc.devRef .tc b) :=
  StableHlo.after_of_writes_sub bwdB5 V bwdB5_writes h

/-- The backward loop's body, stretch 6. -/
abbrev bwdB6 : List (HloOp τ sig (Elt F)) := putOps (.of main_v45_11) (.of main_while1b_v63) (.of main_while1b_v58) main_while1b_call10
theorem bwdB6_sub : (bwdB6 : List (HloOp τ sig (Elt F))).Forall fun op => op.bufs ⊆ StableHlo.tcRefs τ sig := putOps_sub ..
theorem bwdB6_fresh : (bwdB6 : List (HloOp τ sig (Elt F))).Forall fun op => op.fresh = ∅ :=
  StableHlo.forall_fresh_of_map rfl
abbrev bwdB6_W : List (Ref sig .tc) := [main_while1b_call10_v0, main_while1b_call10_c, main_while1b_call10_c_0, main_while1b_v80]
theorem bwdB6_writes : (bwdB6 : List (HloOp τ sig (Elt F))).Forall fun op => op.writes ⊆ (bwdB6_W.map (Proc.devRef (τ := τ) .tc)).toFinset :=
  StableHlo.forall_writes_sub_of_map rfl
theorem bwdB6_keep (V : Valuation τ sig (Elt F)) {b : Ref sig .tc} (h : b ∉ bwdB6_W) : after bwdB6 V (Proc.devRef .tc b) = V (Proc.devRef .tc b) :=
  StableHlo.after_of_writes_sub bwdB6 V bwdB6_writes h

/-- The backward loop's body, stretch 7. -/
abbrev bwdB7 : List (HloOp τ sig (Elt F)) := putOps (.of main_v45_12) (.of main_while1b_v64) (.of main_while1b_v58) main_while1b_call11
theorem bwdB7_sub : (bwdB7 : List (HloOp τ sig (Elt F))).Forall fun op => op.bufs ⊆ StableHlo.tcRefs τ sig := putOps_sub ..
theorem bwdB7_fresh : (bwdB7 : List (HloOp τ sig (Elt F))).Forall fun op => op.fresh = ∅ :=
  StableHlo.forall_fresh_of_map rfl
abbrev bwdB7_W : List (Ref sig .tc) := [main_while1b_call11_v0, main_while1b_call11_c, main_while1b_call11_c_0, main_while1b_v81]
theorem bwdB7_writes : (bwdB7 : List (HloOp τ sig (Elt F))).Forall fun op => op.writes ⊆ (bwdB7_W.map (Proc.devRef (τ := τ) .tc)).toFinset :=
  StableHlo.forall_writes_sub_of_map rfl
theorem bwdB7_keep (V : Valuation τ sig (Elt F)) {b : Ref sig .tc} (h : b ∉ bwdB7_W) : after bwdB7 V (Proc.devRef .tc b) = V (Proc.devRef .tc b) :=
  StableHlo.after_of_writes_sub bwdB7 V bwdB7_writes h

/-- The backward loop's body, stretch 8. -/
abbrev bwdB8 : List (HloOp τ sig (Elt F)) :=
  [ StableHlo.nullary main_while1b_c_29 (constantI S_ 32 1#32),
    StableHlo.binary main_v45_6 main_while1b_c_29 main_while1b_v82 (addi : (⟨S_, .i32⟩ : BufTy).Contents (Elt F) → (⟨S_, .i32⟩ : BufTy).Contents (Elt F) → (⟨S_, .i32⟩ : BufTy).Contents (Elt F)),
    StableHlo.unary main_while1b_v82 main_v45_6 id,
    StableHlo.unary main_while1b_v79 main_v45_7 id,
    StableHlo.unary main_while1b_v75 main_v45_8 id,
    StableHlo.unary main_while1b_v77 main_v45_9 id,
    StableHlo.unary main_while1b_v73 main_v45_10 id,
    StableHlo.unary main_while1b_v80 main_v45_11 id,
    StableHlo.unary main_while1b_v81 main_v45_12 id ]
theorem bwdB8_sub : (bwdB8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem bwdB8_fresh : (bwdB8 : List (HloOp τ sig (Elt F))).Forall fun op => op.fresh = ∅ :=
  StableHlo.forall_fresh_of_map rfl
abbrev bwdB8_W : List (Ref sig .tc) := [main_while1b_c_29, main_while1b_v82, main_v45_6, main_v45_7, main_v45_8, main_v45_9, main_v45_10, main_v45_11, main_v45_12]
theorem bwdB8_writes : (bwdB8 : List (HloOp τ sig (Elt F))).Forall fun op => op.writes ⊆ (bwdB8_W.map (Proc.devRef (τ := τ) .tc)).toFinset :=
  StableHlo.forall_writes_sub_of_map rfl
theorem bwdB8_keep (V : Valuation τ sig (Elt F)) {b : Ref sig .tc} (h : b ∉ bwdB8_W) : after bwdB8 V (Proc.devRef .tc b) = V (Proc.devRef .tc b) :=
  StableHlo.after_of_writes_sub bwdB8 V bwdB8_writes h

/-- The backward loop's body. -/
abbrev bwdBody : List (List (HloOp τ sig (Elt F))) := [bwdB0, bwdB1, bwdB2, bwdB3, bwdB4, bwdB5, bwdB6, bwdB7, bwdB8]
theorem bwdBody_plain : StableHlo.Plain (bwdBody (F := F)) :=
  .cons bwdB0_sub (hf := List.forall_iff_forall_mem.mp bwdB0_fresh) <| .cons bwdB1_sub (hf := List.forall_iff_forall_mem.mp bwdB1_fresh) <| .cons bwdB2_sub (hf := List.forall_iff_forall_mem.mp bwdB2_fresh) <| .cons bwdB3_sub (hf := List.forall_iff_forall_mem.mp bwdB3_fresh) <| .cons bwdB4_sub (hf := List.forall_iff_forall_mem.mp bwdB4_fresh) <| .cons bwdB5_sub (hf := List.forall_iff_forall_mem.mp bwdB5_fresh) <| .cons bwdB6_sub (hf := List.forall_iff_forall_mem.mp bwdB6_fresh) <| .cons bwdB7_sub (hf := List.forall_iff_forall_mem.mp bwdB7_fresh) <| .cons bwdB8_sub (hf := List.forall_iff_forall_mem.mp bwdB8_fresh) <| .nil
set_option maxRecDepth 100000 in
theorem bwdBody_chain : main_while1_body (F := F) = (Pipeline.chain ((bwdBody (F := F)).map fun ops => StableHlo.seq ops) :
    Prog (TpuEff nD τ sig (Elt F) (HostLoop.Sig (Pipeline.Sig Λ₀ (Fin 0) fun p => (pcfgs (F := F) p).Adm) 2) .tc) PUnit) := by
  show _ = Pipeline.chain [StableHlo.seq bwdB0, StableHlo.seq bwdB1, StableHlo.seq bwdB2, StableHlo.seq bwdB3, StableHlo.seq bwdB4, StableHlo.seq bwdB5, StableHlo.seq bwdB6, StableHlo.seq bwdB7, StableHlo.seq bwdB8]
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

abbrev preI : List (List (HloOp τ sig (Elt F))) := [preOps]
abbrev midI : List (List (HloOp τ sig (Elt F))) := [midOpsA, midOpsB]
abbrev postI : List (List (HloOp τ sig (Elt F))) := [postOps]
theorem preI_plain : StableHlo.Plain (preI (F := F)) := .cons preOps_sub (hf := List.forall_iff_forall_mem.mp preOps_fresh) .nil
theorem midI_plain : StableHlo.Plain (midI (F := F)) :=
  .cons midOpsA_sub (hf := List.forall_iff_forall_mem.mp midOpsA_fresh) <| .cons midOpsB_sub (hf := List.forall_iff_forall_mem.mp midOpsB_fresh) .nil
theorem postI_plain : StableHlo.Plain (postI (F := F)) := .cons postOps_sub (hf := List.forall_iff_forall_mem.mp postOps_fresh) .nil

set_option maxRecDepth 100000 in
/-- @main is its stretches and its two loops, in order. -/
theorem main_chain (c : Dev nD) : main (F := F) c = (Pipeline.chain
    [StableHlo.seq preOps, HostLoop.enter 0, StableHlo.seq midOpsA, StableHlo.seq midOpsB, HostLoop.enter 1, StableHlo.seq postOps] :
    Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, StableHlo.chain_seq_cons, Pipeline.chain_cons, StableHlo.chain_seq_cons]
  chain_rfl

end Cert.ReferenceIdeal.Scan

end
-- ==== Proof.RefRun.lean ====
module

public import proofs.«01_k».proof.Proof.RefOps

/-! The reference program's run: it terminates from every memory, and every buffer of @main ends at the contents that its
stretches and its two counted loops compute one after the other. -/

@[expose] public section

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket ucRefs sub_ucRefs)

variable {F : FTy → Type} [FloatOps F]

/-! ## The contents at each point -/

section Contents

variable (m : (ℓ : Loc nD τ sig) → Buf (Elt F) ℓ)

/-- At the forward loop's entry. -/
abbrev W0 (c : Dev nD) : Valuation τ sig (Elt F) := afterL preI (launchContents m c)
/-- Before the forward loop's `k`-th condition. -/
abbrev fwdAt (k : ℕ) (c : Dev nD) : Valuation τ sig (Elt F) := atTrip fwdCond fwdBody (W0 m) k c
/-- After the forward loop. -/
abbrev W1 (c : Dev nD) : Valuation τ sig (Elt F) := after fwdCond (fwdAt m 2048 c)
/-- At the backward loop's entry. -/
abbrev W2 (c : Dev nD) : Valuation τ sig (Elt F) := afterL midI (W1 m c)
/-- Before the backward loop's `k`-th condition. -/
abbrev bwdAt (k : ℕ) (c : Dev nD) : Valuation τ sig (Elt F) := atTrip bwdCond bwdBody (W2 m) k c
/-- After the backward loop. -/
abbrev W3 (c : Dev nD) : Valuation τ sig (Elt F) := after bwdCond (bwdAt m 2048 c)
/-- At @main's end. -/
abbrev W4 (c : Dev nD) : Valuation τ sig (Elt F) := afterL postI (W3 m c)

end Contents

/-! ## The counters -/

set_option maxRecDepth 100000 in
theorem fwd_step (X : Valuation τ sig (Elt F)) :
    after fwdB7 X (Proc.devRef .tc main_v10_4) = addi (X (Proc.devRef .tc main_v10_4)) (constantI S_ 32 1#32) := by
  after_results
  rfl

set_option maxRecDepth 100000 in
theorem fwd_start (X : Valuation τ sig (Elt F)) :
    after preOps X (Proc.devRef .tc main_v10_4) = fun _ => (0#32 : BitVec 32) := by
  after_results
  rfl

set_option maxRecDepth 100000 in
theorem bwd_step (X : Valuation τ sig (Elt F)) :
    after bwdB8 X (Proc.devRef .tc main_v45_6) = addi (X (Proc.devRef .tc main_v45_6)) (constantI S_ 32 1#32) := by
  after_results
  rfl

set_option maxRecDepth 100000 in
theorem bwd_start (X : Valuation τ sig (Elt F)) :
    after midOpsB X (Proc.devRef .tc main_v45_6) = fun _ => (0#32 : BitVec 32) := by
  after_results
  rfl

/-- The forward loop's counter at trip `k`. -/
theorem fwd_ctr (m : (ℓ : Loc nD τ sig) → Buf (Elt F) ℓ) (c : Dev nD) :
    ∀ k, fwdAt m k c (Proc.devRef .tc main_v10_4) = fun _ => Scf.iv 0#32 1#32 k
  | 0 => by
    show after (preOps (F := F)) _ (Proc.devRef .tc main_v10_4) = _
    rw [fwd_start, Scf.iv_zero]
  | k + 1 => by
    show afterL fwdBody (after fwdCond (fwdAt m k c)) (Proc.devRef .tc main_v10_4) = _
    simp only [afterL_cons, afterL_nil]
    rw [fwd_step, fwdB6_keep _ (by decide +kernel), fwdB5_keep _ (by decide +kernel), fwdB4_keep _ (by decide +kernel),
      fwdB3_keep _ (by decide +kernel), fwdB2_keep _ (by decide +kernel), fwdB1_keep _ (by decide +kernel),
      fwdB0_keep _ (by decide +kernel), fwdCond_keep _ (by decide +kernel), fwd_ctr m c k, Scf.iv_succ]
    rfl

/-- The backward loop's counter at trip `k`. -/
theorem bwd_ctr (m : (ℓ : Loc nD τ sig) → Buf (Elt F) ℓ) (c : Dev nD) :
    ∀ k, bwdAt m k c (Proc.devRef .tc main_v45_6) = fun _ => Scf.iv 0#32 1#32 k
  | 0 => by
    show after (midOpsB (F := F)) _ (Proc.devRef .tc main_v45_6) = _
    rw [bwd_start, Scf.iv_zero]
  | k + 1 => by
    show afterL bwdBody (after bwdCond (bwdAt m k c)) (Proc.devRef .tc main_v45_6) = _
    simp only [afterL_cons, afterL_nil]
    rw [bwd_step, bwdB7_keep _ (by decide +kernel), bwdB6_keep _ (by decide +kernel), bwdB5_keep _ (by decide +kernel),
      bwdB4_keep _ (by decide +kernel), bwdB3_keep _ (by decide +kernel), bwdB2_keep _ (by decide +kernel),
      bwdB1_keep _ (by decide +kernel), bwdB0_keep _ (by decide +kernel), bwdCond_keep _ (by decide +kernel), bwd_ctr m c k, Scf.iv_succ]
    rfl

/-! ## The conditions -/

/-- What is carried beside the buffers. -/
abbrev Rest (c : Dev nD) : sProp (MT nD τ sig Unit (Elt F) ℕ (Option PUnit) ℕ) :=
  iprop(∃ W, owes (c : Thread nD τ) (0 : CellTallies nD τ sig Unit) W)

abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noIx : GSem nD τ sig → Finset Unit := fun _ => ∅
abbrev noLv : GSem nD τ sig → Unit → ℕ := fun _ _ => 0

set_option backward.isDefEq.respectTransparency.types false in
theorem fwd_cond (m : (ℓ : Loc nD τ sig) → Buf (Elt F) ℓ) :
    LoopCond (Ix := Unit) (Name := ℕ) (U := Option PUnit) (Lvl := ℕ) (pcfgs (F := F)) defs₀ Variants.none loops Rest
      (main_while0_cond (F := F)) fwdCond fwdBody (W0 m) 2048 := by
  intro k hk c bd
  have hctr := fwd_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v10_4 HostLoop.idx0)
        (HloOp.result _ (fwdAt m k c) main_while0c_c_25 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]
  · rw [after_cons, after_cons, after_nil]; iexact Hh
  iexact HR

set_option backward.isDefEq.respectTransparency.types false in
theorem bwd_cond (m : (ℓ : Loc nD τ sig) → Buf (Elt F) ℓ) :
    LoopCond (Ix := Unit) (Name := ℕ) (U := Option PUnit) (Lvl := ℕ) (pcfgs (F := F)) defs₀ Variants.none loops Rest
      (main_while1_cond (F := F)) bwdCond bwdBody (W2 m) 2048 := by
  intro k hk c bd
  have hctr := bwd_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v45_6 HostLoop.idx0)
        (HloOp.result _ (bwdAt m k c) main_while1c_c_27 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]
  · rw [after_cons, after_cons, after_nil]; iexact Hh
  iexact HR

/-! ## The run -/

/-- @main's segments. -/
def mainSegs (m : (ℓ : Loc nD τ sig) → Buf (Elt F) ℓ) : List (CSeg (pcfgs (F := F)) noAdm defs₀ Variants.none noIx noLv loops noTk) :=
  segsOf _ _ _ _ _ _ _ _ Rest preI preI_plain (launchContents m)
    ++ loopSeg _ _ _ _ _ _ _ _ 0 main_while0_cond main_while0_body rfl fwdCond fwdBody fwdBody_plain fwdBody_chain 2048 (W0 m) Rest (fwd_cond m)
      :: (segsOf _ _ _ _ _ _ _ _ Rest midI midI_plain (W1 m)
        ++ loopSeg _ _ _ _ _ _ _ _ 1 main_while1_cond main_while1_body rfl bwdCond bwdBody bwdBody_plain bwdBody_chain 2048 (W2 m) Rest (bwd_cond m)
          :: segsOf _ _ _ _ _ _ _ _ Rest postI postI_plain (W3 m))

theorem mainSegs_prog (m : (ℓ : Loc nD τ sig) → Buf (Elt F) ℓ) : (mainSegs m).map CSeg.prog
    = [seq preOps, HostLoop.enter 0, seq midOpsA, seq midOpsB, HostLoop.enter 1, seq postOps] := by
  unfold mainSegs
  simp only [List.map_append, List.map_cons, segsOf_prog]
  rfl

theorem main_segs (m : (ℓ : Loc nD τ sig) → Buf (Elt F) ℓ) (c : Dev nD) :
    main (F := F) c = Pipeline.chain ((mainSegs m).map CSeg.prog) := by
  rw [mainSegs_prog, main_chain]

theorem mainSegs_chains (m : (ℓ : Loc nD τ sig) → Buf (Elt F) ℓ) :
    CSeg.Chains (fun c => iprop(held (c : Thread nD τ) (ucRefs τ sig) (launchContents m c) ∗ Rest c)) (mainSegs m)
      (fun c => iprop(held (c : Thread nD τ) (ucRefs τ sig) (W4 m c) ∗ Rest c)) := by
  unfold mainSegs
  refine CSeg.Chains.append (segsOf_chains _ _ _ _ _ _ _ _ Rest preI preI_plain _) ⟨fun _ => .rfl, ?_⟩
  exact CSeg.Chains.append (segsOf_chains _ _ _ _ _ _ _ _ Rest midI midI_plain _) ⟨fun _ => .rfl, segsOf_chains _ _ _ _ _ _ _ _ Rest postI postI_plain _⟩

/-- Every weakly fair execution of the reference terminates, with every buffer of @main at `W4`. -/
theorem run_fold [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = W4 m c (Proc.devRef .tc b)) :=
  Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noIx noLv loops noTk m ρ main (mainSegs m)
    (fun c Q => by rw [main_segs m c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rest c))
    (Tₙ := fun c => iprop(held (c : Thread nD τ) (ucRefs τ sig) (W4 m c)))
    (hch := mainSegs_chains m)
    (hinit := by
      refine Pipeline.initEach noIx noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W4 m c b)
    (hfin := fun c s' => by
      unfold held
      iintro ⟨Hh, HSI⟩
      ihave Hr := (pointsTo_read_all (ucRefs τ sig) (fun b => ((c : Dev nD), b)) (fun b => W4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Scan

end
-- ==== Proof.Scan.lean ====
module

public import Mathlib.Data.Complex.Basic
public import Mathlib.Algebra.BigOperators.Group.Finset.Basic
public import Idealize.ShloMosaic.Lib.Pointwise

/-! The recurrence `h' = l * h + b` over the complex numbers, and pairs of real vectors read as one complex vector. -/

@[expose] public section

noncomputable section

namespace Cert.Rec

open Idealize.ShloMosaic

/-- The state of the recurrence after `n` steps, from zero. -/
def scan (l : ℂ) (b : ℕ → ℂ) : ℕ → ℂ
  | 0 => 0
  | n + 1 => l * scan l b n + b n

theorem scan_zero (l : ℂ) (b : ℕ → ℂ) : scan l b 0 = 0 := rfl

theorem scan_succ (l : ℂ) (b : ℕ → ℂ) (n : ℕ) : scan l b (n + 1) = l * scan l b n + b n := rfl

/-- The recurrence cut at step `m`: the rest of it from zero, and the state at `m` decayed. -/
theorem scan_add (l : ℂ) (b : ℕ → ℂ) (m n : ℕ) :
    scan l b (m + n) = scan l (fun t => b (m + t)) n + l ^ n * scan l b m := by
  induction n with
  | zero => simp [scan_zero]
  | succ n ih => rw [← Nat.add_assoc, scan_succ, ih, scan_succ, pow_succ]; ring

/-- Only the first `n` inputs matter. -/
theorem scan_congr (l : ℂ) {b b' : ℕ → ℂ} (n : ℕ) (h : ∀ t < n, b t = b' t) : scan l b n = scan l b' n := by
  induction n with
  | zero => rfl
  | succ n ih => rw [scan_succ, scan_succ, ih fun t ht => h t (by omega), h n (by omega)]

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n m : ℕ}

/-- The vectors `X` and `Y` hold the real and the imaginary part of `z`. -/
def CV (X Y : FVec Ideal ⟨2, ![n, m]⟩ .f32) (z : Fin n → Fin m → ℂ) : Prop :=
  ∀ s p, X (ix2 s p) = ((z s p).re : EReal) ∧ Y (ix2 s p) = ((z s p).im : EReal)

variable {X Y X' Y' : FVec Ideal ⟨2, ![n, m]⟩ .f32} {z z' : Fin n → Fin m → ℂ}

theorem CV.congr (h : CV X Y z) (e : ∀ s p, z s p = z' s p) : CV X Y z' := fun s p => by rw [← e]; exact h s p

/-- The product as the kernel writes it. -/
theorem CV.mul (h : CV X Y z) (h' : CV X' Y' z') :
    CV (subf (mulf X X') (mulf Y Y')) (addf (mulf X Y') (mulf Y X')) (fun s p => z s p * z' s p) := fun s p => by
  obtain ⟨h1, h2⟩ := h s p
  obtain ⟨h3, h4⟩ := h' s p
  constructor
  · show X (ix2 s p) * X' (ix2 s p) - Y (ix2 s p) * Y' (ix2 s p) = _
    rw [h1, h2, h3, h4, ← EReal.coe_mul, ← EReal.coe_mul, ← EReal.coe_sub, Complex.mul_re]
  · show X (ix2 s p) * Y' (ix2 s p) + Y (ix2 s p) * X' (ix2 s p) = _
    rw [h1, h2, h3, h4, ← EReal.coe_mul, ← EReal.coe_mul, ← EReal.coe_add, Complex.mul_im]

theorem CV.add (h : CV X Y z) (h' : CV X' Y' z') : CV (addf X X') (addf Y Y') (fun s p => z s p + z' s p) := fun s p => by
  obtain ⟨h1, h2⟩ := h s p
  obtain ⟨h3, h4⟩ := h' s p
  constructor
  · show X (ix2 s p) + X' (ix2 s p) = _
    rw [h1, h3, ← EReal.coe_add, Complex.add_re]
  · show Y (ix2 s p) + Y' (ix2 s p) = _
    rw [h2, h4, ← EReal.coe_add, Complex.add_im]

/-- The conjugate of one factor times the other, as the kernel writes it. -/
theorem CV.conjMul (h : CV X Y z) (h' : CV X' Y' z') :
    CV (addf (mulf X X') (mulf Y Y')) (subf (mulf X Y') (mulf Y X')) (fun s p => (starRingEnd ℂ) (z s p) * z' s p) := fun s p => by
  obtain ⟨h1, h2⟩ := h s p
  obtain ⟨h3, h4⟩ := h' s p
  constructor
  · show X (ix2 s p) * X' (ix2 s p) + Y (ix2 s p) * Y' (ix2 s p) = _
    rw [h1, h2, h3, h4, ← EReal.coe_mul, ← EReal.coe_mul, ← EReal.coe_add, Complex.mul_re, Complex.conj_re, Complex.conj_im]
    congr 1; ring
  · show X (ix2 s p) * Y' (ix2 s p) - Y (ix2 s p) * X' (ix2 s p) = _
    rw [h1, h2, h3, h4, ← EReal.coe_mul, ← EReal.coe_mul, ← EReal.coe_sub, Complex.mul_im, Complex.conj_re, Complex.conj_im]
    congr 1; ring

/-- The conjugate, the imaginary part taken from zero. -/
theorem CV.conj {W : FVec Ideal ⟨2, ![n, m]⟩ .f32} (h : CV X Y z) (hW : ∀ j, W j = 0) :
    CV X (subf W Y) (fun s p => (starRingEnd ℂ) (z s p)) := fun s p => by
  obtain ⟨h1, h2⟩ := h s p
  refine ⟨h1, ?_⟩
  show W (ix2 s p) - Y (ix2 s p) = _
  rw [hW, h2, zero_sub, Complex.conj_im, EReal.coe_neg]

/-- A vector of zeros twice is the complex zero. -/
theorem CV.zero {X Y : FVec Ideal ⟨2, ![n, m]⟩ .f32} (h : ∀ j, X j = 0) (h' : ∀ j, Y j = 0) : CV X Y fun _ _ => 0 := fun s p =>
  ⟨by rw [h]; simp, by rw [h']; simp⟩

/-- Ones and zeros are the complex one. -/
theorem CV.one {X Y : FVec Ideal ⟨2, ![n, m]⟩ .f32} (h : ∀ j, X j = 1) (h' : ∀ j, Y j = 0) : CV X Y fun _ _ => 1 := fun s p =>
  ⟨by rw [h]; simp, by rw [h']; simp⟩

/-- The segment mask: the iota row compared with the number of a segment. -/
theorem mask_eq : ∀ s k : Fin 8,
    Scalar.cmpi .eq (BitVec.ofNat 32 s.val) (BitVec.ofNat 32 k.val) = if s = k then 1#1 else 0#1 := by decide

theorem rows_rollDown (X : FVec Ideal ⟨2, ![8, 512]⟩ .f32) (hr : (⟨2, ![8, 512]⟩ : Shape).Rotates (0 : Fin 2) none)
    (s : Fin 8) (p : Fin 512) : dynamicRotate (0 : Fin 2) 1#32 none X hr (ix2 s p) = X (ix2 (s - 1) p) := by
  have e : ∀ s : Fin 8, (⟨(s.val + 8 - 1) % 8, Nat.mod_lt _ (by decide)⟩ : Fin 8) = s - 1 := by decide
  rw [← e]
  pointwise

theorem rows_rollUp (X : FVec Ideal ⟨2, ![8, 512]⟩ .f32) (hr : (⟨2, ![8, 512]⟩ : Shape).Rotates (0 : Fin 2) none)
    (s : Fin 8) (p : Fin 512) : dynamicRotate (0 : Fin 2) 7#32 none X hr (ix2 s p) = X (ix2 (s + 1) p) := by
  have e : ∀ s : Fin 8, (⟨(s.val + 8 - 7) % 8, Nat.mod_lt _ (by decide)⟩ : Fin 8) = s + 1 := by decide
  rw [← e]
  pointwise

/-- One segment's carry: the rows rolled down by one, kept on the row `k` alone. -/
theorem CV.rollDown {X Y X' Y' : FVec Ideal ⟨2, ![8, 512]⟩ .f32} {z z' : Fin 8 → Fin 512 → ℂ} {iota q q' : IVec ⟨2, ![8, 512]⟩ 32}
    (h : CV X Y z) (h' : CV X' Y' z') (hr : (⟨2, ![8, 512]⟩ : Shape).Rotates (0 : Fin 2) none)
    (hi : ∀ s p, iota (ix2 s p) = BitVec.ofNat 32 s.val) (k : Fin 8) (hq : ∀ j, q j = BitVec.ofNat 32 k.val)
    (hq' : ∀ j, q' j = BitVec.ofNat 32 k.val) :
    CV (select (cmpi .eq iota q) (dynamicRotate (0 : Fin 2) 1#32 none X hr) X')
      (select (cmpi .eq iota q') (dynamicRotate (0 : Fin 2) 1#32 none Y hr) Y')
      (fun s p => if s = k then z (s - 1) p else z' s p) := by
  intro s p
  have r1 := rows_rollDown X hr s p
  have r2 := rows_rollDown Y hr s p
  constructor
  · show Scalar.select (Scalar.cmpi .eq (iota (ix2 s p)) (q (ix2 s p))) _ _ = _
    rw [hi, hq, mask_eq, r1]
    by_cases hs : s = k
    · simp only [hs, if_true]; exact (h _ _).1
    · simp only [hs, if_false]; exact (h' _ _).1
  · show Scalar.select (Scalar.cmpi .eq (iota (ix2 s p)) (q' (ix2 s p))) _ _ = _
    rw [hi, hq', mask_eq, r2]
    by_cases hs : s = k
    · simp only [hs, if_true]; exact (h _ _).2
    · simp only [hs, if_false]; exact (h' _ _).2

/-- The same with the rows rolled up by one (a roll by seven of eight). -/
theorem CV.rollUp {X Y X' Y' : FVec Ideal ⟨2, ![8, 512]⟩ .f32} {z z' : Fin 8 → Fin 512 → ℂ} {iota q q' : IVec ⟨2, ![8, 512]⟩ 32}
    (h : CV X Y z) (h' : CV X' Y' z') (hr : (⟨2, ![8, 512]⟩ : Shape).Rotates (0 : Fin 2) none)
    (hi : ∀ s p, iota (ix2 s p) = BitVec.ofNat 32 s.val) (k : Fin 8) (hq : ∀ j, q j = BitVec.ofNat 32 k.val)
    (hq' : ∀ j, q' j = BitVec.ofNat 32 k.val) :
    CV (select (cmpi .eq iota q) (dynamicRotate (0 : Fin 2) 7#32 none X hr) X')
      (select (cmpi .eq iota q') (dynamicRotate (0 : Fin 2) 7#32 none Y hr) Y')
      (fun s p => if s = k then z (s + 1) p else z' s p) := by
  intro s p
  have r1 := rows_rollUp X hr s p
  have r2 := rows_rollUp Y hr s p
  constructor
  · show Scalar.select (Scalar.cmpi .eq (iota (ix2 s p)) (q (ix2 s p))) _ _ = _
    rw [hi, hq, mask_eq, r1]
    by_cases hs : s = k
    · simp only [hs, if_true]; exact (h _ _).1
    · simp only [hs, if_false]; exact (h' _ _).1
  · show Scalar.select (Scalar.cmpi .eq (iota (ix2 s p)) (q' (ix2 s p))) _ _ = _
    rw [hi, hq', mask_eq, r2]
    by_cases hs : s = k
    · simp only [hs, if_true]; exact (h _ _).2
    · simp only [hs, if_false]; exact (h' _ _).2

end Cert.Rec
-- ==== Proof.Spec.lean ====
module

public import proofs.«01_k».proof.Proof.Scan

/-! The gradients of the recurrence, over real inputs: what both programs compute. -/

@[expose] public section

noncomputable section

namespace Cert.Rec

open Idealize.ShloMosaic Finset

/-- Real inputs: the sequence, its cotangents, and the parameters of the 32 groups. -/
structure Data where
  U : ℕ → Fin 512 → ℝ
  Y : ℕ → Fin 512 → ℝ
  lam : Fin 32 → Fin 64 → ℂ
  bb : Fin 32 → Fin 64 → Fin 16 → ℂ
  cc : Fin 32 → Fin 16 → Fin 64 → ℂ
  dd : Fin 32 → Fin 16 → ℝ

/-- The arguments hold these reals. -/
structure Data.Holds (d : Data) (a0 a1 : FVec Ideal ⟨2, ![2048, 512]⟩ .f32) (a2 a3 : FVec Ideal ⟨2, ![32, 64]⟩ .f32)
    (a4 a5 : FVec Ideal ⟨3, ![32, 64, 16]⟩ .f32) (a6 a7 : FVec Ideal ⟨3, ![32, 16, 64]⟩ .f32) (a8 : FVec Ideal ⟨2, ![32, 16]⟩ .f32) : Prop where
  u : ∀ (n : Fin 2048) q, a0 (ix2 n q) = (d.U n.val q : EReal)
  y : ∀ (n : Fin 2048) q, a1 (ix2 n q) = (d.Y n.val q : EReal)
  lre : ∀ g p, a2 (ix2 g p) = ((d.lam g p).re : EReal)
  lim : ∀ g p, a3 (ix2 g p) = ((d.lam g p).im : EReal)
  bre : ∀ g p h, a4 (ix3 g p h) = ((d.bb g p h).re : EReal)
  bim : ∀ g p h, a5 (ix3 g p h) = ((d.bb g p h).im : EReal)
  cre : ∀ g h p, a6 (ix3 g h p) = ((d.cc g h p).re : EReal)
  cim : ∀ g h p, a7 (ix3 g h p) = ((d.cc g h p).im : EReal)
  dd : ∀ g h, a8 (ix2 g h) = (d.dd g h : EReal)

/-- The channel of a group. -/
def chan (g : Fin 32) (h : Fin 16) : Fin 512 := ⟨16 * g.val + h.val, by omega⟩

variable (d : Data)

/-- The driven input of a state. -/
def Data.bu (g : Fin 32) (p : Fin 64) (n : ℕ) : ℂ := ∑ h, (d.U n (chan g h) : ℂ) * d.bb g p h

/-- The cotangent of a state, from the outputs. -/
def Data.dO (g : Fin 32) (p : Fin 64) (n : ℕ) : ℂ := ∑ h, (d.Y n (chan g h) : ℂ) * (starRingEnd ℂ) (d.cc g h p)

/-- The state before time `n`. -/
def Data.hs (g : Fin 32) (p : Fin 64) (n : ℕ) : ℂ := scan (d.lam g p) (d.bu g p) n

/-- The cotangent of the state at time `n`, carried back from the end. -/
def Data.gs (g : Fin 32) (p : Fin 64) (n : ℕ) : ℂ := scan ((starRingEnd ℂ) (d.lam g p)) (fun k => d.dO g p (2047 - k)) (2048 - n)

def Data.rU (n : ℕ) (g : Fin 32) (h : Fin 16) : ℝ :=
  ∑ p, (d.gs g p n).re * (d.bb g p h).re + ∑ p, (d.gs g p n).im * (d.bb g p h).im + d.dd g h * d.Y n (chan g h)

def Data.rL (g : Fin 32) (p : Fin 64) : ℂ := ∑ n ∈ range 2048, (starRingEnd ℂ) (d.hs g p n) * d.gs g p n

def Data.rBre (g : Fin 32) (p : Fin 64) (h : Fin 16) : ℝ := ∑ n : Fin 2048, d.U n.val (chan g h) * (d.gs g p n.val).re
def Data.rBim (g : Fin 32) (p : Fin 64) (h : Fin 16) : ℝ := ∑ n : Fin 2048, d.U n.val (chan g h) * (d.gs g p n.val).im
def Data.rCre (g : Fin 32) (h : Fin 16) (p : Fin 64) : ℝ := ∑ n : Fin 2048, (d.hs g p (n.val + 1)).re * d.Y n.val (chan g h)
def Data.rCim (g : Fin 32) (h : Fin 16) (p : Fin 64) : ℝ := -∑ n : Fin 2048, (d.hs g p (n.val + 1)).im * d.Y n.val (chan g h)
def Data.rD (g : Fin 32) (h : Fin 16) : ℝ := ∑ n : Fin 2048, d.Y n.val (chan g h) * d.U n.val (chan g h)

end Cert.Rec
-- ==== Proof.Results.lean ====
module

public import proofs.«01_k».proof.Proof.Spec
public import Idealize.ShloMosaic.Lib.Pointwise

/-! The gradients as arrays. -/

@[expose] public section

noncomputable section

namespace Cert.Rec

open Idealize.ShloMosaic

variable (d : Data)

def Data.aU : FVec Ideal ⟨2, ![2048, 512]⟩ .f32 := fun i =>
  (d.rU (i 0 : Fin 2048).val ⟨(i 1 : Fin 512).val / 16, by have : (i 1 : Fin 512).val < 512 := (i 1 : Fin 512).isLt; omega⟩
    ⟨(i 1 : Fin 512).val % 16, Nat.mod_lt _ (by decide)⟩ : EReal)
def Data.aLre : FVec Ideal ⟨2, ![32, 64]⟩ .f32 := fun i => ((d.rL (i 0 : Fin 32) (i 1 : Fin 64)).re : EReal)
def Data.aLim : FVec Ideal ⟨2, ![32, 64]⟩ .f32 := fun i => ((d.rL (i 0 : Fin 32) (i 1 : Fin 64)).im : EReal)
def Data.aBre : FVec Ideal ⟨3, ![32, 64, 16]⟩ .f32 := fun i => (d.rBre (i 0 : Fin 32) (i 1 : Fin 64) (i 2 : Fin 16) : EReal)
def Data.aBim : FVec Ideal ⟨3, ![32, 64, 16]⟩ .f32 := fun i => (d.rBim (i 0 : Fin 32) (i 1 : Fin 64) (i 2 : Fin 16) : EReal)
def Data.aCre : FVec Ideal ⟨3, ![32, 16, 64]⟩ .f32 := fun i => (d.rCre (i 0 : Fin 32) (i 1 : Fin 16) (i 2 : Fin 64) : EReal)
def Data.aCim : FVec Ideal ⟨3, ![32, 16, 64]⟩ .f32 := fun i => (d.rCim (i 0 : Fin 32) (i 1 : Fin 16) (i 2 : Fin 64) : EReal)
def Data.aD : FVec Ideal ⟨2, ![32, 16]⟩ .f32 := fun i => (d.rD (i 0 : Fin 32) (i 1 : Fin 16) : EReal)

end Cert.Rec
-- ==== Proof.RefReads.lean ====
module

public import proofs.«01_k».proof.Proof.RefRun
public import proofs.«01_k».proof.Proof.Results
public import Idealize.ShloMosaic.Lib.Pointwise
public import Idealize.ShloMosaic.Lib.WordCmp
public import Idealize.ShloMosaic.Lib.WordArith.Masks
public import Idealize.ShloMosaic.Lib.StableHlo.ReadAt

/-! What each stretch of the reference writes, entry by entry. -/

@[expose] public section

noncomputable section

namespace Cert.ReferenceIdeal.Scan

open Cert.ReferenceIdeal Cert.ReferenceIdeal.Gen Cert.Rec
open Idealize.ShloMosaic Idealize.ShloMosaic.TcCoe Idealize.ShloMosaic.Tactic
open Idealize.ShloMosaic.StableHlo

set_option maxRecDepth 16384

/-- The counter as an integer. -/
theorem iv_int (n : ℕ) (hn : n < 2048) : (Scf.iv 0#32 1#32 n).toInt = n := by
  have h := WordArith.toNat_iv_zero_one n (by omega)
  rw [BitVec.toInt_eq_toNat_cond, h]
  split <;> omega

/-- The backward loop's row. -/
theorem row_int (n : ℕ) (hn : n < 2048) : (2048#32 - Scf.iv 0#32 1#32 n - 1#32).toInt = ((2047 - n : ℕ) : ℤ) := by
  have h := WordArith.toNat_iv_zero_one n (by omega)
  have e : (2048#32 - Scf.iv 0#32 1#32 n - 1#32).toNat = 2047 - n := by
    rw [BitVec.toNat_sub, BitVec.toNat_sub, h]
    simp only [BitVec.toNat_ofNat]
    omega
  rw [BitVec.toInt_eq_toNat_cond, e]
  split <;> omega

/-- A row of a stack. -/
theorem row_read (x : FVec Ideal S2048x32x64 .f32) (start : Fin 3 → Int) (n : ℕ) (hn : n < 2048) (h0 : start 0 = n) (h1 : start 1 = 0)
    (h2 : start 2 = 0) (g : Fin 32) (p : Fin 64) :
    shapeCast S32x64 (Host.dynamicSlice S1x32x64 x start sliceFits_S2048x32x64_S1x32x64) shapeCasts_S1x32x64_S32x64 (ix2 g p) = x (ix3 ⟨n, hn⟩ g p) := by
  rw [WordCmp.dynamicSlice_eq_extract S1x32x64 x start _ ![n, 0, 0] ⟨rfl, fun a => by fin_cases a <;> simp <;> omega⟩
    (fun a => by fin_cases a <;> simp [h0, h1, h2])]
  pointwise

/-- A stack with one row replaced. -/
theorem row_put (x : FVec Ideal S2048x32x64 .f32) (u : FVec Ideal S32x64 .f32) (start : Fin 3 → Int) (n : ℕ) (hn : n < 2048) (h0 : start 0 = n)
    (h1 : start 1 = 0) (h2 : start 2 = 0) (r : Fin 2048) (g : Fin 32) (p : Fin 64) :
    Host.dynamicUpdateSlice x (broadcastInDim S1x32x64 ![1, 2] bcast_S32x64_S1x32x64_1_2 u) start updateFits_S2048x32x64_S1x32x64 (ix3 r g p)
      = if r.val = n then u (ix2 g p) else x (ix3 r g p) := by
  refine (congrFun (WordCmp.dynamicUpdateSlice_eq_update x _ start updateFits_S2048x32x64_S1x32x64 ![n, 0, 0]
    ⟨rfl, fun a => by fin_cases a <;> simp <;> omega⟩ (fun a => by fin_cases a <;> simp [h0, h1, h2])) _).trans ?_
  pointwise
  rw [dite_eq_ite]
  exact if_congr (by omega) rfl rfl

theorem chan_eq (g : Fin 32) (h : Fin 16) (hl : g.val * 16 + h.val < 512) : (⟨g.val * 16 + h.val, hl⟩ : Fin 512) = chan g h :=
  Fin.ext (by show g.val * 16 + h.val = 16 * g.val + h.val; omega)

variable (X : Valuation τ sig (Elt Ideal))

theorem f0 (w : BitVec 32) (k : ℕ) (hn : k < 2048) (hk : X (Proc.devRef .tc main_v10_4) = fun _ => w) (hw : w.toInt = k) (g : Fin 32) (p : Fin 64) :
    after fwdB0 X (Proc.devRef .tc main_while0b_v57) (ix2 g p) = X (Proc.devRef .tc main_v10_0) (ix3 ⟨k, hn⟩ g p) := by
  after_results
  refine row_read _ _ k hn ?_ ?_ ?_ g p
  · exact (congrArg (fun f => BitVec.toInt (f (Shape.Idx.first h_S_))) hk).trans hw
  · rfl
  · rfl

theorem f1 (w : BitVec 32) (k : ℕ) (hn : k < 2048) (hk : X (Proc.devRef .tc main_v10_4) = fun _ => w) (hw : w.toInt = k) (g : Fin 32) (p : Fin 64) :
    after fwdB1 X (Proc.devRef .tc main_while0b_v58) (ix2 g p) = X (Proc.devRef .tc main_v10_1) (ix3 ⟨k, hn⟩ g p) := by
  after_results
  refine row_read _ _ k hn ?_ ?_ ?_ g p
  · exact (congrArg (fun f => BitVec.toInt (f (Shape.Idx.first h_S_))) hk).trans hw
  · rfl
  · rfl

theorem f3 (w : BitVec 32) (k : ℕ) (hn : k < 2048) (hk : X (Proc.devRef .tc main_v10_4) = fun _ => w) (hw : w.toInt = k) (r : Fin 2048) (g : Fin 32) (p : Fin 64) :
    after fwdB3 X (Proc.devRef .tc main_while0b_v67) (ix3 r g p) = if r.val = k then X (Proc.devRef .tc main_while0b_v62) (ix2 g p)
      else X (Proc.devRef .tc main_v10_7) (ix3 r g p) := by
  after_results
  refine row_put _ _ _ k hn ?_ ?_ ?_ r g p
  · exact (congrArg (fun f => BitVec.toInt (f (Shape.Idx.first h_S_))) hk).trans hw
  · rfl
  · rfl

theorem f4 (w : BitVec 32) (k : ℕ) (hn : k < 2048) (hk : X (Proc.devRef .tc main_v10_4) = fun _ => w) (hw : w.toInt = k) (r : Fin 2048) (g : Fin 32) (p : Fin 64) :
    after fwdB4 X (Proc.devRef .tc main_while0b_v68) (ix3 r g p) = if r.val = k then X (Proc.devRef .tc main_while0b_v66) (ix2 g p)
      else X (Proc.devRef .tc main_v10_8) (ix3 r g p) := by
  after_results
  refine row_put _ _ _ k hn ?_ ?_ ?_ r g p
  · exact (congrArg (fun f => BitVec.toInt (f (Shape.Idx.first h_S_))) hk).trans hw
  · rfl
  · rfl

theorem f5 (w : BitVec 32) (k : ℕ) (hn : k < 2048) (hk : X (Proc.devRef .tc main_v10_4) = fun _ => w) (hw : w.toInt = k) (r : Fin 2048) (g : Fin 32) (p : Fin 64) :
    after fwdB5 X (Proc.devRef .tc main_while0b_v69) (ix3 r g p) = if r.val = k then X (Proc.devRef .tc main_v10_5) (ix2 g p)
      else X (Proc.devRef .tc main_v10_9) (ix3 r g p) := by
  after_results
  refine row_put _ _ _ k hn ?_ ?_ ?_ r g p
  · exact (congrArg (fun f => BitVec.toInt (f (Shape.Idx.first h_S_))) hk).trans hw
  · rfl
  · rfl

theorem f6 (w : BitVec 32) (k : ℕ) (hn : k < 2048) (hk : X (Proc.devRef .tc main_v10_4) = fun _ => w) (hw : w.toInt = k) (r : Fin 2048) (g : Fin 32) (p : Fin 64) :
    after fwdB6 X (Proc.devRef .tc main_while0b_v70) (ix3 r g p) = if r.val = k then X (Proc.devRef .tc main_v10_6) (ix2 g p)
      else X (Proc.devRef .tc main_v10_10) (ix3 r g p) := by
  after_results
  refine row_put _ _ _ k hn ?_ ?_ ?_ r g p
  · exact (congrArg (fun f => BitVec.toInt (f (Shape.Idx.first h_S_))) hk).trans hw
  · rfl
  · rfl

theorem b0 (n : ℕ) (hk : X (Proc.devRef .tc main_v45_6) = fun _ => Scf.iv 0#32 1#32 n) :
    after bwdB0 X (Proc.devRef .tc main_while1b_v58) = fun _ => 2048#32 - Scf.iv 0#32 1#32 n - 1#32 := by
  after_results
  rw [hk]
  rfl

theorem b1 (w : BitVec 32) (k : ℕ) (hn : k < 2048) (hk : X (Proc.devRef .tc main_while1b_v58) = fun _ => w) (hw : w.toInt = k) (g : Fin 32) (p : Fin 64) :
    after bwdB1 X (Proc.devRef .tc main_while1b_v59) (ix2 g p) = X (Proc.devRef .tc main_v45_0) (ix3 ⟨k, hn⟩ g p) := by
  after_results
  refine row_read _ _ k hn ?_ ?_ ?_ g p
  · exact (congrArg (fun f => BitVec.toInt (f (Shape.Idx.first h_S_))) hk).trans hw
  · rfl
  · rfl

theorem b2 (w : BitVec 32) (k : ℕ) (hn : k < 2048) (hk : X (Proc.devRef .tc main_while1b_v58) = fun _ => w) (hw : w.toInt = k) (g : Fin 32) (p : Fin 64) :
    after bwdB2 X (Proc.devRef .tc main_while1b_v60) (ix2 g p) = X (Proc.devRef .tc main_v45_1) (ix3 ⟨k, hn⟩ g p) := by
  after_results
  refine row_read _ _ k hn ?_ ?_ ?_ g p
  · exact (congrArg (fun f => BitVec.toInt (f (Shape.Idx.first h_S_))) hk).trans hw
  · rfl
  · rfl

theorem b3 (w : BitVec 32) (k : ℕ) (hn : k < 2048) (hk : X (Proc.devRef .tc main_while1b_v58) = fun _ => w) (hw : w.toInt = k) (g : Fin 32) (p : Fin 64) :
    after bwdB3 X (Proc.devRef .tc main_while1b_v61) (ix2 g p) = X (Proc.devRef .tc main_v45_2) (ix3 ⟨k, hn⟩ g p) := by
  after_results
  refine row_read _ _ k hn ?_ ?_ ?_ g p
  · exact (congrArg (fun f => BitVec.toInt (f (Shape.Idx.first h_S_))) hk).trans hw
  · rfl
  · rfl

theorem b4 (w : BitVec 32) (k : ℕ) (hn : k < 2048) (hk : X (Proc.devRef .tc main_while1b_v58) = fun _ => w) (hw : w.toInt = k) (g : Fin 32) (p : Fin 64) :
    after bwdB4 X (Proc.devRef .tc main_while1b_v62) (ix2 g p) = X (Proc.devRef .tc main_v45_3) (ix3 ⟨k, hn⟩ g p) := by
  after_results
  refine row_read _ _ k hn ?_ ?_ ?_ g p
  · exact (congrArg (fun f => BitVec.toInt (f (Shape.Idx.first h_S_))) hk).trans hw
  · rfl
  · rfl

theorem b6 (w : BitVec 32) (k : ℕ) (hn : k < 2048) (hk : X (Proc.devRef .tc main_while1b_v58) = fun _ => w) (hw : w.toInt = k) (r : Fin 2048) (g : Fin 32) (p : Fin 64) :
    after bwdB6 X (Proc.devRef .tc main_while1b_v80) (ix3 r g p) = if r.val = k then X (Proc.devRef .tc main_while1b_v63) (ix2 g p)
      else X (Proc.devRef .tc main_v45_11) (ix3 r g p) := by
  after_results
  refine row_put _ _ _ k hn ?_ ?_ ?_ r g p
  · exact (congrArg (fun f => BitVec.toInt (f (Shape.Idx.first h_S_))) hk).trans hw
  · rfl
  · rfl

theorem b7 (w : BitVec 32) (k : ℕ) (hn : k < 2048) (hk : X (Proc.devRef .tc main_while1b_v58) = fun _ => w) (hw : w.toInt = k) (r : Fin 2048) (g : Fin 32) (p : Fin 64) :
    after bwdB7 X (Proc.devRef .tc main_while1b_v81) (ix3 r g p) = if r.val = k then X (Proc.devRef .tc main_while1b_v64) (ix2 g p)
      else X (Proc.devRef .tc main_v45_12) (ix3 r g p) := by
  after_results
  refine row_put _ _ _ k hn ?_ ?_ ?_ r g p
  · exact (congrArg (fun f => BitVec.toInt (f (Shape.Idx.first h_S_))) hk).trans hw
  · rfl
  · rfl

theorem f7_5 : after fwdB7 X (Proc.devRef .tc main_v10_5) = X (Proc.devRef .tc main_while0b_v62) := by
  after_results
  rfl

theorem f7_6 : after fwdB7 X (Proc.devRef .tc main_v10_6) = X (Proc.devRef .tc main_while0b_v66) := by
  after_results
  rfl

theorem f7_7 : after fwdB7 X (Proc.devRef .tc main_v10_7) = X (Proc.devRef .tc main_while0b_v67) := by
  after_results
  rfl

theorem f7_8 : after fwdB7 X (Proc.devRef .tc main_v10_8) = X (Proc.devRef .tc main_while0b_v68) := by
  after_results
  rfl

theorem f7_9 : after fwdB7 X (Proc.devRef .tc main_v10_9) = X (Proc.devRef .tc main_while0b_v69) := by
  after_results
  rfl

theorem f7_10 : after fwdB7 X (Proc.devRef .tc main_v10_10) = X (Proc.devRef .tc main_while0b_v70) := by
  after_results
  rfl

theorem b8_7 : after bwdB8 X (Proc.devRef .tc main_v45_7) = X (Proc.devRef .tc main_while1b_v79) := by
  after_results
  rfl

theorem b8_8 : after bwdB8 X (Proc.devRef .tc main_v45_8) = X (Proc.devRef .tc main_while1b_v75) := by
  after_results
  rfl

theorem b8_9 : after bwdB8 X (Proc.devRef .tc main_v45_9) = X (Proc.devRef .tc main_while1b_v77) := by
  after_results
  rfl

theorem b8_10 : after bwdB8 X (Proc.devRef .tc main_v45_10) = X (Proc.devRef .tc main_while1b_v73) := by
  after_results
  rfl

theorem b8_11 : after bwdB8 X (Proc.devRef .tc main_v45_11) = X (Proc.devRef .tc main_while1b_v80) := by
  after_results
  rfl

theorem b8_12 : after bwdB8 X (Proc.devRef .tc main_v45_12) = X (Proc.devRef .tc main_while1b_v81) := by
  after_results
  rfl

theorem p10_2 : after preOps X (Proc.devRef .tc main_v10_2) = X (Proc.devRef .tc main_arg2) := by
  after_results
  rfl

theorem p10_3 : after preOps X (Proc.devRef .tc main_v10_3) = X (Proc.devRef .tc main_arg3) := by
  after_results
  rfl

theorem p10_0 : after preOps X (Proc.devRef .tc main_v10_0) = after preOps X (Proc.devRef .tc main_v2) := by
  after_results
  rfl

theorem p10_1 : after preOps X (Proc.devRef .tc main_v10_1) = after preOps X (Proc.devRef .tc main_v4) := by
  after_results
  rfl

theorem m45_0 : after midOpsB X (Proc.devRef .tc main_v45_0) = X (Proc.devRef .tc main_v37) := by
  after_results
  rfl

theorem m45_1 : after midOpsB X (Proc.devRef .tc main_v45_1) = X (Proc.devRef .tc main_v33) := by
  after_results
  rfl

theorem m45_2 : after midOpsB X (Proc.devRef .tc main_v45_2) = X (Proc.devRef .tc main_v10_9) := by
  after_results
  rfl

theorem m45_3 : after midOpsB X (Proc.devRef .tc main_v45_3) = X (Proc.devRef .tc main_v10_10) := by
  after_results
  rfl

theorem m45_4 : after midOpsB X (Proc.devRef .tc main_v45_4) = X (Proc.devRef .tc main_arg2) := by
  after_results
  rfl

theorem m45_5 : after midOpsB X (Proc.devRef .tc main_v45_5) = X (Proc.devRef .tc main_arg3) := by
  after_results
  rfl

theorem p2 (n : Fin 2048) (g : Fin 32) (p : Fin 64)  :
    after preOps X (Proc.devRef .tc main_v2) (ix3 n g p) = ∑ h, (show EReal from X (Proc.devRef .tc main_arg4) (ix3 g p h)) * (show EReal from X (Proc.devRef .tc main_arg0) (ix2 n (chan g h))) := by
  after_reads_at
  try simp only [id_eq]
  try pointwise
  try simp only [chan_eq]

theorem p4 (n : Fin 2048) (g : Fin 32) (p : Fin 64)  :
    after preOps X (Proc.devRef .tc main_v4) (ix3 n g p) = ∑ h, (show EReal from X (Proc.devRef .tc main_arg5) (ix3 g p h)) * (show EReal from X (Proc.devRef .tc main_arg0) (ix2 n (chan g h))) := by
  after_reads_at
  try simp only [id_eq]
  try pointwise
  try simp only [chan_eq]

theorem p0 (n : Fin 2048) (g : Fin 32) (h : Fin 16)  :
    after preOps X (Proc.devRef .tc main_v0) (ix3 n g h) = (show EReal from X (Proc.devRef .tc main_arg0) (ix2 n (chan g h))) := by
  after_reads_at
  try simp only [id_eq]
  try pointwise
  try simp only [chan_eq]

theorem p10_5 (g : Fin 32) (p : Fin 64)  :
    after preOps X (Proc.devRef .tc main_v10_5) (ix2 g p) = (0 : EReal) := by
  after_reads_at
  try simp only [id_eq]
  try pointwise
  try simp only [chan_eq]

theorem p10_6 (g : Fin 32) (p : Fin 64)  :
    after preOps X (Proc.devRef .tc main_v10_6) (ix2 g p) = (0 : EReal) := by
  after_reads_at
  try simp only [id_eq]
  try pointwise
  try simp only [chan_eq]

theorem m25 (n : Fin 2048) (g : Fin 32) (h : Fin 16)  :
    after midOpsA X (Proc.devRef .tc main_v25) (ix3 n g h) = (show EReal from X (Proc.devRef .tc main_arg8) (ix2 g h)) * (show EReal from X (Proc.devRef .tc main_arg1) (ix2 n (chan g h))) := by
  after_reads_at
  try simp only [id_eq]
  try pointwise
  try simp only [chan_eq]

theorem m29 (g : Fin 32) (h : Fin 16)  :
    after midOpsA X (Proc.devRef .tc main_v29) (ix2 g h) = ∑ _x : Fin 1, ∑ n : Fin 2048, (show EReal from X (Proc.devRef .tc main_arg1) (ix2 n (chan g h))) * (show EReal from X (Proc.devRef .tc main_v0) (ix3 n g h)) := by
  after_reads_at
  try simp only [id_eq]
  try pointwise
  try simp only [chan_eq]

theorem m33 (n : Fin 2048) (g : Fin 32) (p : Fin 64)  :
    after midOpsA X (Proc.devRef .tc main_v33) (ix3 n g p) = ∑ h, -(show EReal from X (Proc.devRef .tc main_arg1) (ix2 n (chan g h))) * (show EReal from X (Proc.devRef .tc main_arg7) (ix3 g h p)) := by
  after_reads_at
  try simp only [id_eq]
  try pointwise
  try simp only [chan_eq]

theorem m37 (n : Fin 2048) (g : Fin 32) (p : Fin 64)  :
    after midOpsA X (Proc.devRef .tc main_v37) (ix3 n g p) = ∑ h, (show EReal from X (Proc.devRef .tc main_arg1) (ix2 n (chan g h))) * (show EReal from X (Proc.devRef .tc main_arg6) (ix3 g h p)) := by
  after_reads_at
  try simp only [id_eq]
  try pointwise
  try simp only [chan_eq]

theorem m34 (g : Fin 32) (h : Fin 16) (p : Fin 64)  :
    after midOpsA X (Proc.devRef .tc main_v34) (ix3 g h p) = ∑ n : Fin 2048, -(show EReal from X (Proc.devRef .tc main_arg1) (ix2 n (chan g h))) * (show EReal from X (Proc.devRef .tc main_v10_8) (ix3 n g p)) := by
  after_reads_at
  try simp only [id_eq]
  try pointwise
  try simp only [chan_eq]

theorem m38 (g : Fin 32) (h : Fin 16) (p : Fin 64)  :
    after midOpsA X (Proc.devRef .tc main_v38) (ix3 g h p) = ∑ n : Fin 2048, (show EReal from X (Proc.devRef .tc main_arg1) (ix2 n (chan g h))) * (show EReal from X (Proc.devRef .tc main_v10_7) (ix3 n g p)) := by
  after_reads_at
  try simp only [id_eq]
  try pointwise
  try simp only [chan_eq]

theorem m45_7 (g : Fin 32) (p : Fin 64)  :
    after midOpsB X (Proc.devRef .tc main_v45_7) (ix2 g p) = (0 : EReal) := by
  after_reads_at
  try simp only [id_eq]
  try pointwise
  try simp only [chan_eq]

theorem m45_8 (g : Fin 32) (p : Fin 64)  :
    after midOpsB X (Proc.devRef .tc main_v45_8) (ix2 g p) = (0 : EReal) := by
  after_reads_at
  try simp only [id_eq]
  try pointwise
  try simp only [chan_eq]

theorem m45_9 (g : Fin 32) (p : Fin 64)  :
    after midOpsB X (Proc.devRef .tc main_v45_9) (ix2 g p) = (0 : EReal) := by
  after_reads_at
  try simp only [id_eq]
  try pointwise
  try simp only [chan_eq]

theorem m45_10 (g : Fin 32) (p : Fin 64)  :
    after midOpsB X (Proc.devRef .tc main_v45_10) (ix2 g p) = (0 : EReal) := by
  after_reads_at
  try simp only [id_eq]
  try pointwise
  try simp only [chan_eq]

theorem q56 (n : Fin 2048) (q : Fin 512) :
    after postOps X (Proc.devRef .tc main_v56) (ix2 n q) = (show EReal from X (Proc.devRef .tc main_v25) (ix3 n ⟨q.val / 16, by omega⟩ ⟨q.val % 16, Nat.mod_lt _ (by decide)⟩))
      + ∑ p, (show EReal from X (Proc.devRef .tc main_v45_12) (ix3 n ⟨q.val / 16, by omega⟩ p)) * (show EReal from X (Proc.devRef .tc main_arg5) (ix3 ⟨q.val / 16, by omega⟩ p ⟨q.val % 16, Nat.mod_lt _ (by decide)⟩))
      + ∑ p, (show EReal from X (Proc.devRef .tc main_v45_11) (ix3 n ⟨q.val / 16, by omega⟩ p)) * (show EReal from X (Proc.devRef .tc main_arg4) (ix3 ⟨q.val / 16, by omega⟩ p ⟨q.val % 16, Nat.mod_lt _ (by decide)⟩)) := by
  after_reads_at
  try simp only [id_eq]
  try pointwise
  try simp only [chan_eq]

theorem q50 (g : Fin 32) (p : Fin 64) (h : Fin 16)  :
    after postOps X (Proc.devRef .tc main_v50) (ix3 g p h) = ∑ n : Fin 2048, (show EReal from X (Proc.devRef .tc main_v45_12) (ix3 n g p)) * (show EReal from X (Proc.devRef .tc main_v0) (ix3 n g h)) := by
  after_reads_at
  try simp only [id_eq]
  try pointwise
  try simp only [chan_eq]

theorem q55 (g : Fin 32) (p : Fin 64) (h : Fin 16)  :
    after postOps X (Proc.devRef .tc main_v55) (ix3 g p h) = ∑ n : Fin 2048, (show EReal from X (Proc.devRef .tc main_v45_11) (ix3 n g p)) * (show EReal from X (Proc.devRef .tc main_v0) (ix3 n g h)) := by
  after_reads_at
  try simp only [id_eq]
  try pointwise
  try simp only [chan_eq]

theorem b79 {a s t x y u v : EReal} (g : Fin 32) (p : Fin 64)  (h0 : X (Proc.devRef .tc main_v45_7) (ix2 g p) = a) (h1 : X (Proc.devRef .tc main_v45_9) (ix2 g p) = s) (h2 : X (Proc.devRef .tc main_v45_10) (ix2 g p) = t) (h3 : X (Proc.devRef .tc main_while1b_v59) (ix2 g p) = x) (h4 : X (Proc.devRef .tc main_while1b_v60) (ix2 g p) = y) (h5 : X (Proc.devRef .tc main_while1b_v61) (ix2 g p) = u) (h6 : X (Proc.devRef .tc main_while1b_v62) (ix2 g p) = v) :
    after bwdB5 X (Proc.devRef .tc main_while1b_v79) (ix2 g p) = a + (t + y) * v + (s + x) * u := by
  subst h0 h1 h2 h3 h4 h5 h6
  after_reads_at
  try simp only [id_eq]
  try pointwise
  try simp only [chan_eq]

theorem b75 {b s t x y u v : EReal} (g : Fin 32) (p : Fin 64)  (h0 : X (Proc.devRef .tc main_v45_8) (ix2 g p) = b) (h1 : X (Proc.devRef .tc main_v45_9) (ix2 g p) = s) (h2 : X (Proc.devRef .tc main_v45_10) (ix2 g p) = t) (h3 : X (Proc.devRef .tc main_while1b_v59) (ix2 g p) = x) (h4 : X (Proc.devRef .tc main_while1b_v60) (ix2 g p) = y) (h5 : X (Proc.devRef .tc main_while1b_v61) (ix2 g p) = u) (h6 : X (Proc.devRef .tc main_while1b_v62) (ix2 g p) = v) :
    after bwdB5 X (Proc.devRef .tc main_while1b_v75) (ix2 g p) = b + (t + y) * u + -(s + x) * v := by
  subst h0 h1 h2 h3 h4 h5 h6
  after_reads_at
  try simp only [id_eq]
  try pointwise
  try simp only [chan_eq]

theorem b77 {l i s t x y : EReal} (g : Fin 32) (p : Fin 64)  (h0 : X (Proc.devRef .tc main_v45_4) (ix2 g p) = l) (h1 : X (Proc.devRef .tc main_v45_5) (ix2 g p) = i) (h2 : X (Proc.devRef .tc main_v45_9) (ix2 g p) = s) (h3 : X (Proc.devRef .tc main_v45_10) (ix2 g p) = t) (h4 : X (Proc.devRef .tc main_while1b_v59) (ix2 g p) = x) (h5 : X (Proc.devRef .tc main_while1b_v60) (ix2 g p) = y) :
    after bwdB5 X (Proc.devRef .tc main_while1b_v77) (ix2 g p) = i * (t + y) + l * (s + x) := by
  subst h0 h1 h2 h3 h4 h5
  after_reads_at
  try simp only [id_eq]
  try pointwise
  try simp only [chan_eq]

theorem b73 {l i s t x y : EReal} (g : Fin 32) (p : Fin 64)  (h0 : X (Proc.devRef .tc main_v45_4) (ix2 g p) = l) (h1 : X (Proc.devRef .tc main_v45_5) (ix2 g p) = i) (h2 : X (Proc.devRef .tc main_v45_9) (ix2 g p) = s) (h3 : X (Proc.devRef .tc main_v45_10) (ix2 g p) = t) (h4 : X (Proc.devRef .tc main_while1b_v59) (ix2 g p) = x) (h5 : X (Proc.devRef .tc main_while1b_v60) (ix2 g p) = y) :
    after bwdB5 X (Proc.devRef .tc main_while1b_v73) (ix2 g p) = l * (t + y) + i * -(s + x) := by
  subst h0 h1 h2 h3 h4 h5
  after_reads_at
  try simp only [id_eq]
  try pointwise
  try simp only [chan_eq]

theorem b63 {s x : EReal} (g : Fin 32) (p : Fin 64)  (h0 : X (Proc.devRef .tc main_v45_9) (ix2 g p) = s) (h1 : X (Proc.devRef .tc main_while1b_v59) (ix2 g p) = x) :
    after bwdB5 X (Proc.devRef .tc main_while1b_v63) (ix2 g p) = s + x := by
  subst h0 h1
  after_reads_at
  try simp only [id_eq]
  try pointwise
  try simp only [chan_eq]

theorem b64 {t y : EReal} (g : Fin 32) (p : Fin 64)  (h0 : X (Proc.devRef .tc main_v45_10) (ix2 g p) = t) (h1 : X (Proc.devRef .tc main_while1b_v60) (ix2 g p) = y) :
    after bwdB5 X (Proc.devRef .tc main_while1b_v64) (ix2 g p) = t + y := by
  subst h0 h1
  after_reads_at
  try simp only [id_eq]
  try pointwise
  try simp only [chan_eq]

theorem f62 {l i s t x : EReal} (g : Fin 32) (p : Fin 64)  (h0 : X (Proc.devRef .tc main_v10_2) (ix2 g p) = l) (h1 : X (Proc.devRef .tc main_v10_3) (ix2 g p) = i) (h2 : X (Proc.devRef .tc main_v10_5) (ix2 g p) = s) (h3 : X (Proc.devRef .tc main_v10_6) (ix2 g p) = t) (h4 : X (Proc.devRef .tc main_while0b_v57) (ix2 g p) = x) :
    after fwdB2 X (Proc.devRef .tc main_while0b_v62) (ix2 g p) = l * s - i * t + x := by
  subst h0 h1 h2 h3 h4
  after_reads_at
  try simp only [id_eq]
  try pointwise
  try simp only [chan_eq]

theorem f66 {l i s t x : EReal} (g : Fin 32) (p : Fin 64)  (h0 : X (Proc.devRef .tc main_v10_2) (ix2 g p) = l) (h1 : X (Proc.devRef .tc main_v10_3) (ix2 g p) = i) (h2 : X (Proc.devRef .tc main_v10_5) (ix2 g p) = s) (h3 : X (Proc.devRef .tc main_v10_6) (ix2 g p) = t) (h4 : X (Proc.devRef .tc main_while0b_v58) (ix2 g p) = x) :
    after fwdB2 X (Proc.devRef .tc main_while0b_v66) (ix2 g p) = l * t + i * s + x := by
  subst h0 h1 h2 h3 h4
  after_reads_at
  try simp only [id_eq]
  try pointwise
  try simp only [chan_eq]

end Cert.ReferenceIdeal.Scan
-- ==== Proof.RefTrip.lean ====
module

public import proofs.«01_k».proof.Proof.RefReads

/-! One trip of each loop of the reference, entry by entry. -/

@[expose] public section

noncomputable section

namespace Cert.ReferenceIdeal.Scan

open Cert.ReferenceIdeal Cert.ReferenceIdeal.Gen
open Idealize.ShloMosaic Idealize.ShloMosaic.TcCoe Idealize.ShloMosaic.Tactic
open Idealize.ShloMosaic.StableHlo

set_option maxRecDepth 16384

theorem fwd_trip (X : Valuation τ sig (Elt Ideal)) (w : BitVec 32) (k : ℕ) (hn : k < 2048) (hk : X (Proc.devRef .tc main_v10_4) = fun _ => w) (hw : w.toInt = k)
    (g : Fin 32) (p : Fin 64) {l i s t x y : EReal} (h2 : X (Proc.devRef .tc main_v10_2) (ix2 g p) = l) (h3 : X (Proc.devRef .tc main_v10_3) (ix2 g p) = i)
    (h5 : X (Proc.devRef .tc main_v10_5) (ix2 g p) = s) (h6 : X (Proc.devRef .tc main_v10_6) (ix2 g p) = t) (h0 : X (Proc.devRef .tc main_v10_0) (ix3 ⟨k, hn⟩ g p) = x)
    (h1 : X (Proc.devRef .tc main_v10_1) (ix3 ⟨k, hn⟩ g p) = y) (Z : Valuation τ sig (Elt Ideal)) (hZ : Z = afterL fwdBody (after fwdCond X)) :
    Z (Proc.devRef .tc main_v10_5) (ix2 g p) = l * s - i * t + x ∧ Z (Proc.devRef .tc main_v10_6) (ix2 g p) = l * t + i * s + y
      ∧ ∀ r : Fin 2048, Z (Proc.devRef .tc main_v10_7) (ix3 r g p) = (if r.val = k then l * s - i * t + x else X (Proc.devRef .tc main_v10_7) (ix3 r g p))
        ∧ Z (Proc.devRef .tc main_v10_8) (ix3 r g p) = (if r.val = k then l * t + i * s + y else X (Proc.devRef .tc main_v10_8) (ix3 r g p))
        ∧ Z (Proc.devRef .tc main_v10_9) (ix3 r g p) = (if r.val = k then s else X (Proc.devRef .tc main_v10_9) (ix3 r g p))
        ∧ Z (Proc.devRef .tc main_v10_10) (ix3 r g p) = (if r.val = k then t else X (Proc.devRef .tc main_v10_10) (ix3 r g p)) := by
  subst hZ
  simp only [afterL_cons, afterL_nil]
  have c0 : (after fwdCond X) (Proc.devRef .tc main_v10_4) = X (Proc.devRef .tc main_v10_4) := by rw [fwdCond_keep _ (b := main_v10_4) (by decide +kernel)]
  have c1 : (after fwdB0 (after fwdCond X)) (Proc.devRef .tc main_v10_4) = X (Proc.devRef .tc main_v10_4) := by rw [fwdB0_keep _ (b := main_v10_4) (by decide +kernel), fwdCond_keep _ (b := main_v10_4) (by decide +kernel)]
  have c3 : (after fwdB2 (after fwdB1 (after fwdB0 (after fwdCond X)))) (Proc.devRef .tc main_v10_4) = X (Proc.devRef .tc main_v10_4) := by rw [fwdB2_keep _ (b := main_v10_4) (by decide +kernel), fwdB1_keep _ (b := main_v10_4) (by decide +kernel), fwdB0_keep _ (b := main_v10_4) (by decide +kernel), fwdCond_keep _ (b := main_v10_4) (by decide +kernel)]
  have c4 : (after fwdB3 (after fwdB2 (after fwdB1 (after fwdB0 (after fwdCond X))))) (Proc.devRef .tc main_v10_4) = X (Proc.devRef .tc main_v10_4) := by rw [fwdB3_keep _ (b := main_v10_4) (by decide +kernel), fwdB2_keep _ (b := main_v10_4) (by decide +kernel), fwdB1_keep _ (b := main_v10_4) (by decide +kernel), fwdB0_keep _ (b := main_v10_4) (by decide +kernel), fwdCond_keep _ (b := main_v10_4) (by decide +kernel)]
  have c5 : (after fwdB4 (after fwdB3 (after fwdB2 (after fwdB1 (after fwdB0 (after fwdCond X)))))) (Proc.devRef .tc main_v10_4) = X (Proc.devRef .tc main_v10_4) := by rw [fwdB4_keep _ (b := main_v10_4) (by decide +kernel), fwdB3_keep _ (b := main_v10_4) (by decide +kernel), fwdB2_keep _ (b := main_v10_4) (by decide +kernel), fwdB1_keep _ (b := main_v10_4) (by decide +kernel), fwdB0_keep _ (b := main_v10_4) (by decide +kernel), fwdCond_keep _ (b := main_v10_4) (by decide +kernel)]
  have c6 : (after fwdB5 (after fwdB4 (after fwdB3 (after fwdB2 (after fwdB1 (after fwdB0 (after fwdCond X))))))) (Proc.devRef .tc main_v10_4) = X (Proc.devRef .tc main_v10_4) := by rw [fwdB5_keep _ (b := main_v10_4) (by decide +kernel), fwdB4_keep _ (b := main_v10_4) (by decide +kernel), fwdB3_keep _ (b := main_v10_4) (by decide +kernel), fwdB2_keep _ (b := main_v10_4) (by decide +kernel), fwdB1_keep _ (b := main_v10_4) (by decide +kernel), fwdB0_keep _ (b := main_v10_4) (by decide +kernel), fwdCond_keep _ (b := main_v10_4) (by decide +kernel)]
  have a2 : (after fwdB1 (after fwdB0 (after fwdCond X))) (Proc.devRef .tc main_v10_2) = X (Proc.devRef .tc main_v10_2) := by rw [fwdB1_keep _ (b := main_v10_2) (by decide +kernel), fwdB0_keep _ (b := main_v10_2) (by decide +kernel), fwdCond_keep _ (b := main_v10_2) (by decide +kernel)]
  have a3 : (after fwdB1 (after fwdB0 (after fwdCond X))) (Proc.devRef .tc main_v10_3) = X (Proc.devRef .tc main_v10_3) := by rw [fwdB1_keep _ (b := main_v10_3) (by decide +kernel), fwdB0_keep _ (b := main_v10_3) (by decide +kernel), fwdCond_keep _ (b := main_v10_3) (by decide +kernel)]
  have a5 : (after fwdB1 (after fwdB0 (after fwdCond X))) (Proc.devRef .tc main_v10_5) = X (Proc.devRef .tc main_v10_5) := by rw [fwdB1_keep _ (b := main_v10_5) (by decide +kernel), fwdB0_keep _ (b := main_v10_5) (by decide +kernel), fwdCond_keep _ (b := main_v10_5) (by decide +kernel)]
  have a6 : (after fwdB1 (after fwdB0 (after fwdCond X))) (Proc.devRef .tc main_v10_6) = X (Proc.devRef .tc main_v10_6) := by rw [fwdB1_keep _ (b := main_v10_6) (by decide +kernel), fwdB0_keep _ (b := main_v10_6) (by decide +kernel), fwdCond_keep _ (b := main_v10_6) (by decide +kernel)]
  have a0 : (after fwdCond X) (Proc.devRef .tc main_v10_0) = X (Proc.devRef .tc main_v10_0) := by rw [fwdCond_keep _ (b := main_v10_0) (by decide +kernel)]
  have a1 : (after fwdB0 (after fwdCond X)) (Proc.devRef .tc main_v10_1) = X (Proc.devRef .tc main_v10_1) := by rw [fwdB0_keep _ (b := main_v10_1) (by decide +kernel), fwdCond_keep _ (b := main_v10_1) (by decide +kernel)]
  have a57 : (after fwdB1 (after fwdB0 (after fwdCond X))) (Proc.devRef .tc main_while0b_v57) = (after fwdB0 (after fwdCond X)) (Proc.devRef .tc main_while0b_v57) := by rw [fwdB1_keep _ (b := main_while0b_v57) (by decide +kernel)]
  have e57 := (congrFun a57 (ix2 g p)).trans ((f0 _ w k hn (c0.trans hk) hw g p).trans ((congrFun a0 _).trans h0))
  have e58 := (f1 _ w k hn (c1.trans hk) hw g p).trans ((congrFun a1 _).trans h1)
  have e62 := f62 _ g p ((congrFun a2 _).trans h2) ((congrFun a3 _).trans h3) ((congrFun a5 _).trans h5) ((congrFun a6 _).trans h6) e57
  have e66 := f66 _ g p ((congrFun a2 _).trans h2) ((congrFun a3 _).trans h3) ((congrFun a5 _).trans h5) ((congrFun a6 _).trans h6) e58
  have a66 : (after fwdB3 (after fwdB2 (after fwdB1 (after fwdB0 (after fwdCond X))))) (Proc.devRef .tc main_while0b_v66) = (after fwdB2 (after fwdB1 (after fwdB0 (after fwdCond X)))) (Proc.devRef .tc main_while0b_v66) := by rw [fwdB3_keep _ (b := main_while0b_v66) (by decide +kernel)]
  have d7 : (after fwdB2 (after fwdB1 (after fwdB0 (after fwdCond X)))) (Proc.devRef .tc main_v10_7) = X (Proc.devRef .tc main_v10_7) := by rw [fwdB2_keep _ (b := main_v10_7) (by decide +kernel), fwdB1_keep _ (b := main_v10_7) (by decide +kernel), fwdB0_keep _ (b := main_v10_7) (by decide +kernel), fwdCond_keep _ (b := main_v10_7) (by decide +kernel)]
  have d8 : (after fwdB3 (after fwdB2 (after fwdB1 (after fwdB0 (after fwdCond X))))) (Proc.devRef .tc main_v10_8) = X (Proc.devRef .tc main_v10_8) := by rw [fwdB3_keep _ (b := main_v10_8) (by decide +kernel), fwdB2_keep _ (b := main_v10_8) (by decide +kernel), fwdB1_keep _ (b := main_v10_8) (by decide +kernel), fwdB0_keep _ (b := main_v10_8) (by decide +kernel), fwdCond_keep _ (b := main_v10_8) (by decide +kernel)]
  have d9 : (after fwdB4 (after fwdB3 (after fwdB2 (after fwdB1 (after fwdB0 (after fwdCond X)))))) (Proc.devRef .tc main_v10_9) = X (Proc.devRef .tc main_v10_9) := by rw [fwdB4_keep _ (b := main_v10_9) (by decide +kernel), fwdB3_keep _ (b := main_v10_9) (by decide +kernel), fwdB2_keep _ (b := main_v10_9) (by decide +kernel), fwdB1_keep _ (b := main_v10_9) (by decide +kernel), fwdB0_keep _ (b := main_v10_9) (by decide +kernel), fwdCond_keep _ (b := main_v10_9) (by decide +kernel)]
  have d10 : (after fwdB5 (after fwdB4 (after fwdB3 (after fwdB2 (after fwdB1 (after fwdB0 (after fwdCond X))))))) (Proc.devRef .tc main_v10_10) = X (Proc.devRef .tc main_v10_10) := by rw [fwdB5_keep _ (b := main_v10_10) (by decide +kernel), fwdB4_keep _ (b := main_v10_10) (by decide +kernel), fwdB3_keep _ (b := main_v10_10) (by decide +kernel), fwdB2_keep _ (b := main_v10_10) (by decide +kernel), fwdB1_keep _ (b := main_v10_10) (by decide +kernel), fwdB0_keep _ (b := main_v10_10) (by decide +kernel), fwdCond_keep _ (b := main_v10_10) (by decide +kernel)]
  have d5 : (after fwdB4 (after fwdB3 (after fwdB2 (after fwdB1 (after fwdB0 (after fwdCond X)))))) (Proc.devRef .tc main_v10_5) = X (Proc.devRef .tc main_v10_5) := by rw [fwdB4_keep _ (b := main_v10_5) (by decide +kernel), fwdB3_keep _ (b := main_v10_5) (by decide +kernel), fwdB2_keep _ (b := main_v10_5) (by decide +kernel), fwdB1_keep _ (b := main_v10_5) (by decide +kernel), fwdB0_keep _ (b := main_v10_5) (by decide +kernel), fwdCond_keep _ (b := main_v10_5) (by decide +kernel)]
  have d6 : (after fwdB5 (after fwdB4 (after fwdB3 (after fwdB2 (after fwdB1 (after fwdB0 (after fwdCond X))))))) (Proc.devRef .tc main_v10_6) = X (Proc.devRef .tc main_v10_6) := by rw [fwdB5_keep _ (b := main_v10_6) (by decide +kernel), fwdB4_keep _ (b := main_v10_6) (by decide +kernel), fwdB3_keep _ (b := main_v10_6) (by decide +kernel), fwdB2_keep _ (b := main_v10_6) (by decide +kernel), fwdB1_keep _ (b := main_v10_6) (by decide +kernel), fwdB0_keep _ (b := main_v10_6) (by decide +kernel), fwdCond_keep _ (b := main_v10_6) (by decide +kernel)]
  have g62 : (after fwdB6 (after fwdB5 (after fwdB4 (after fwdB3 (after fwdB2 (after fwdB1 (after fwdB0 (after fwdCond X)))))))) (Proc.devRef .tc main_while0b_v62) = (after fwdB2 (after fwdB1 (after fwdB0 (after fwdCond X)))) (Proc.devRef .tc main_while0b_v62) := by rw [fwdB6_keep _ (b := main_while0b_v62) (by decide +kernel), fwdB5_keep _ (b := main_while0b_v62) (by decide +kernel), fwdB4_keep _ (b := main_while0b_v62) (by decide +kernel), fwdB3_keep _ (b := main_while0b_v62) (by decide +kernel)]
  have g66 : (after fwdB6 (after fwdB5 (after fwdB4 (after fwdB3 (after fwdB2 (after fwdB1 (after fwdB0 (after fwdCond X)))))))) (Proc.devRef .tc main_while0b_v66) = (after fwdB2 (after fwdB1 (after fwdB0 (after fwdCond X)))) (Proc.devRef .tc main_while0b_v66) := by rw [fwdB6_keep _ (b := main_while0b_v66) (by decide +kernel), fwdB5_keep _ (b := main_while0b_v66) (by decide +kernel), fwdB4_keep _ (b := main_while0b_v66) (by decide +kernel), fwdB3_keep _ (b := main_while0b_v66) (by decide +kernel)]
  have g67 : (after fwdB6 (after fwdB5 (after fwdB4 (after fwdB3 (after fwdB2 (after fwdB1 (after fwdB0 (after fwdCond X)))))))) (Proc.devRef .tc main_while0b_v67) = (after fwdB3 (after fwdB2 (after fwdB1 (after fwdB0 (after fwdCond X))))) (Proc.devRef .tc main_while0b_v67) := by rw [fwdB6_keep _ (b := main_while0b_v67) (by decide +kernel), fwdB5_keep _ (b := main_while0b_v67) (by decide +kernel), fwdB4_keep _ (b := main_while0b_v67) (by decide +kernel)]
  have g68 : (after fwdB6 (after fwdB5 (after fwdB4 (after fwdB3 (after fwdB2 (after fwdB1 (after fwdB0 (after fwdCond X)))))))) (Proc.devRef .tc main_while0b_v68) = (after fwdB4 (after fwdB3 (after fwdB2 (after fwdB1 (after fwdB0 (after fwdCond X)))))) (Proc.devRef .tc main_while0b_v68) := by rw [fwdB6_keep _ (b := main_while0b_v68) (by decide +kernel), fwdB5_keep _ (b := main_while0b_v68) (by decide +kernel)]
  have g69 : (after fwdB6 (after fwdB5 (after fwdB4 (after fwdB3 (after fwdB2 (after fwdB1 (after fwdB0 (after fwdCond X)))))))) (Proc.devRef .tc main_while0b_v69) = (after fwdB5 (after fwdB4 (after fwdB3 (after fwdB2 (after fwdB1 (after fwdB0 (after fwdCond X))))))) (Proc.devRef .tc main_while0b_v69) := by rw [fwdB6_keep _ (b := main_while0b_v69) (by decide +kernel)]
  refine ⟨(congrFun (f7_5 _) _).trans ((congrFun g62 _).trans e62), (congrFun (f7_6 _) _).trans ((congrFun g66 _).trans e66), fun r => ⟨?_, ?_, ?_, ?_⟩⟩
  · refine (congrFun (f7_7 _) _).trans ((congrFun g67 _).trans ((f3 _ w k hn (c3.trans hk) hw r g p).trans ?_))
    rw [e62, d7]
  · refine (congrFun (f7_8 _) _).trans ((congrFun g68 _).trans ((f4 _ w k hn (c4.trans hk) hw r g p).trans ?_))
    rw [a66, e66, d8]
  · refine (congrFun (f7_9 _) _).trans ((congrFun g69 _).trans ((f5 _ w k hn (c5.trans hk) hw r g p).trans ?_))
    rw [d5, h5, d9]
  · refine (congrFun (f7_10 _) _).trans ((f6 _ w k hn (c6.trans hk) hw r g p).trans ?_)
    rw [d6, h6, d10]

theorem bwd_trip (X : Valuation τ sig (Elt Ideal)) (j k : ℕ) (hn : k < 2048) (hk : X (Proc.devRef .tc main_v45_6) = fun _ => Scf.iv 0#32 1#32 j)
    (w : BitVec 32) (ew : 2048#32 - Scf.iv 0#32 1#32 j - 1#32 = w) (hw : w.toInt = k)
    (g : Fin 32) (p : Fin 64) {l i a b s t x y u v : EReal} (h4 : X (Proc.devRef .tc main_v45_4) (ix2 g p) = l) (h5 : X (Proc.devRef .tc main_v45_5) (ix2 g p) = i)
    (h7 : X (Proc.devRef .tc main_v45_7) (ix2 g p) = a) (h8 : X (Proc.devRef .tc main_v45_8) (ix2 g p) = b)
    (h9 : X (Proc.devRef .tc main_v45_9) (ix2 g p) = s) (h10 : X (Proc.devRef .tc main_v45_10) (ix2 g p) = t)
    (h0 : X (Proc.devRef .tc main_v45_0) (ix3 ⟨k, hn⟩ g p) = x) (h1 : X (Proc.devRef .tc main_v45_1) (ix3 ⟨k, hn⟩ g p) = y)
    (h2 : X (Proc.devRef .tc main_v45_2) (ix3 ⟨k, hn⟩ g p) = u) (h3 : X (Proc.devRef .tc main_v45_3) (ix3 ⟨k, hn⟩ g p) = v)
    (Z : Valuation τ sig (Elt Ideal)) (hZ : Z = afterL bwdBody (after bwdCond X)) :
    Z (Proc.devRef .tc main_v45_7) (ix2 g p) = a + (t + y) * v + (s + x) * u ∧ Z (Proc.devRef .tc main_v45_8) (ix2 g p) = b + (t + y) * u + -(s + x) * v
      ∧ Z (Proc.devRef .tc main_v45_9) (ix2 g p) = i * (t + y) + l * (s + x) ∧ Z (Proc.devRef .tc main_v45_10) (ix2 g p) = l * (t + y) + i * -(s + x)
      ∧ ∀ r : Fin 2048, Z (Proc.devRef .tc main_v45_11) (ix3 r g p) = (if r.val = k then s + x else X (Proc.devRef .tc main_v45_11) (ix3 r g p))
        ∧ Z (Proc.devRef .tc main_v45_12) (ix3 r g p) = (if r.val = k then t + y else X (Proc.devRef .tc main_v45_12) (ix3 r g p)) := by
  subst hZ
  simp only [afterL_cons, afterL_nil]
  have z0 : (after bwdCond X) (Proc.devRef .tc main_v45_6) = X (Proc.devRef .tc main_v45_6) := by rw [bwdCond_keep _ (b := main_v45_6) (by decide +kernel)]
  have c1 := (b0 _ j (z0.trans hk)).trans (congrArg (fun (z : BitVec 32) (_ : S_.Idx) => z) ew)
  have c2 : (after bwdB1 (after bwdB0 (after bwdCond X))) (Proc.devRef .tc main_while1b_v58) = (after bwdB0 (after bwdCond X)) (Proc.devRef .tc main_while1b_v58) := by rw [bwdB1_keep _ (b := main_while1b_v58) (by decide +kernel)]
  have c3 : (after bwdB2 (after bwdB1 (after bwdB0 (after bwdCond X)))) (Proc.devRef .tc main_while1b_v58) = (after bwdB0 (after bwdCond X)) (Proc.devRef .tc main_while1b_v58) := by rw [bwdB2_keep _ (b := main_while1b_v58) (by decide +kernel), bwdB1_keep _ (b := main_while1b_v58) (by decide +kernel)]
  have c4 : (after bwdB3 (after bwdB2 (after bwdB1 (after bwdB0 (after bwdCond X))))) (Proc.devRef .tc main_while1b_v58) = (after bwdB0 (after bwdCond X)) (Proc.devRef .tc main_while1b_v58) := by rw [bwdB3_keep _ (b := main_while1b_v58) (by decide +kernel), bwdB2_keep _ (b := main_while1b_v58) (by decide +kernel), bwdB1_keep _ (b := main_while1b_v58) (by decide +kernel)]
  have c6 : (after bwdB5 (after bwdB4 (after bwdB3 (after bwdB2 (after bwdB1 (after bwdB0 (after bwdCond X))))))) (Proc.devRef .tc main_while1b_v58) = (after bwdB0 (after bwdCond X)) (Proc.devRef .tc main_while1b_v58) := by rw [bwdB5_keep _ (b := main_while1b_v58) (by decide +kernel), bwdB4_keep _ (b := main_while1b_v58) (by decide +kernel), bwdB3_keep _ (b := main_while1b_v58) (by decide +kernel), bwdB2_keep _ (b := main_while1b_v58) (by decide +kernel), bwdB1_keep _ (b := main_while1b_v58) (by decide +kernel)]
  have c7 : (after bwdB6 (after bwdB5 (after bwdB4 (after bwdB3 (after bwdB2 (after bwdB1 (after bwdB0 (after bwdCond X)))))))) (Proc.devRef .tc main_while1b_v58) = (after bwdB0 (after bwdCond X)) (Proc.devRef .tc main_while1b_v58) := by rw [bwdB6_keep _ (b := main_while1b_v58) (by decide +kernel), bwdB5_keep _ (b := main_while1b_v58) (by decide +kernel), bwdB4_keep _ (b := main_while1b_v58) (by decide +kernel), bwdB3_keep _ (b := main_while1b_v58) (by decide +kernel), bwdB2_keep _ (b := main_while1b_v58) (by decide +kernel), bwdB1_keep _ (b := main_while1b_v58) (by decide +kernel)]
  have a0 : (after bwdB0 (after bwdCond X)) (Proc.devRef .tc main_v45_0) = X (Proc.devRef .tc main_v45_0) := by rw [bwdB0_keep _ (b := main_v45_0) (by decide +kernel), bwdCond_keep _ (b := main_v45_0) (by decide +kernel)]
  have a1 : (after bwdB1 (after bwdB0 (after bwdCond X))) (Proc.devRef .tc main_v45_1) = X (Proc.devRef .tc main_v45_1) := by rw [bwdB1_keep _ (b := main_v45_1) (by decide +kernel), bwdB0_keep _ (b := main_v45_1) (by decide +kernel), bwdCond_keep _ (b := main_v45_1) (by decide +kernel)]
  have a2 : (after bwdB2 (after bwdB1 (after bwdB0 (after bwdCond X)))) (Proc.devRef .tc main_v45_2) = X (Proc.devRef .tc main_v45_2) := by rw [bwdB2_keep _ (b := main_v45_2) (by decide +kernel), bwdB1_keep _ (b := main_v45_2) (by decide +kernel), bwdB0_keep _ (b := main_v45_2) (by decide +kernel), bwdCond_keep _ (b := main_v45_2) (by decide +kernel)]
  have a3 : (after bwdB3 (after bwdB2 (after bwdB1 (after bwdB0 (after bwdCond X))))) (Proc.devRef .tc main_v45_3) = X (Proc.devRef .tc main_v45_3) := by rw [bwdB3_keep _ (b := main_v45_3) (by decide +kernel), bwdB2_keep _ (b := main_v45_3) (by decide +kernel), bwdB1_keep _ (b := main_v45_3) (by decide +kernel), bwdB0_keep _ (b := main_v45_3) (by decide +kernel), bwdCond_keep _ (b := main_v45_3) (by decide +kernel)]
  have a4 : (after bwdB4 (after bwdB3 (after bwdB2 (after bwdB1 (after bwdB0 (after bwdCond X)))))) (Proc.devRef .tc main_v45_4) = X (Proc.devRef .tc main_v45_4) := by rw [bwdB4_keep _ (b := main_v45_4) (by decide +kernel), bwdB3_keep _ (b := main_v45_4) (by decide +kernel), bwdB2_keep _ (b := main_v45_4) (by decide +kernel), bwdB1_keep _ (b := main_v45_4) (by decide +kernel), bwdB0_keep _ (b := main_v45_4) (by decide +kernel), bwdCond_keep _ (b := main_v45_4) (by decide +kernel)]
  have a5 : (after bwdB4 (after bwdB3 (after bwdB2 (after bwdB1 (after bwdB0 (after bwdCond X)))))) (Proc.devRef .tc main_v45_5) = X (Proc.devRef .tc main_v45_5) := by rw [bwdB4_keep _ (b := main_v45_5) (by decide +kernel), bwdB3_keep _ (b := main_v45_5) (by decide +kernel), bwdB2_keep _ (b := main_v45_5) (by decide +kernel), bwdB1_keep _ (b := main_v45_5) (by decide +kernel), bwdB0_keep _ (b := main_v45_5) (by decide +kernel), bwdCond_keep _ (b := main_v45_5) (by decide +kernel)]
  have a7 : (after bwdB4 (after bwdB3 (after bwdB2 (after bwdB1 (after bwdB0 (after bwdCond X)))))) (Proc.devRef .tc main_v45_7) = X (Proc.devRef .tc main_v45_7) := by rw [bwdB4_keep _ (b := main_v45_7) (by decide +kernel), bwdB3_keep _ (b := main_v45_7) (by decide +kernel), bwdB2_keep _ (b := main_v45_7) (by decide +kernel), bwdB1_keep _ (b := main_v45_7) (by decide +kernel), bwdB0_keep _ (b := main_v45_7) (by decide +kernel), bwdCond_keep _ (b := main_v45_7) (by decide +kernel)]
  have a8 : (after bwdB4 (after bwdB3 (after bwdB2 (after bwdB1 (after bwdB0 (after bwdCond X)))))) (Proc.devRef .tc main_v45_8) = X (Proc.devRef .tc main_v45_8) := by rw [bwdB4_keep _ (b := main_v45_8) (by decide +kernel), bwdB3_keep _ (b := main_v45_8) (by decide +kernel), bwdB2_keep _ (b := main_v45_8) (by decide +kernel), bwdB1_keep _ (b := main_v45_8) (by decide +kernel), bwdB0_keep _ (b := main_v45_8) (by decide +kernel), bwdCond_keep _ (b := main_v45_8) (by decide +kernel)]
  have a9 : (after bwdB4 (after bwdB3 (after bwdB2 (after bwdB1 (after bwdB0 (after bwdCond X)))))) (Proc.devRef .tc main_v45_9) = X (Proc.devRef .tc main_v45_9) := by rw [bwdB4_keep _ (b := main_v45_9) (by decide +kernel), bwdB3_keep _ (b := main_v45_9) (by decide +kernel), bwdB2_keep _ (b := main_v45_9) (by decide +kernel), bwdB1_keep _ (b := main_v45_9) (by decide +kernel), bwdB0_keep _ (b := main_v45_9) (by decide +kernel), bwdCond_keep _ (b := main_v45_9) (by decide +kernel)]
  have a10 : (after bwdB4 (after bwdB3 (after bwdB2 (after bwdB1 (after bwdB0 (after bwdCond X)))))) (Proc.devRef .tc main_v45_10) = X (Proc.devRef .tc main_v45_10) := by rw [bwdB4_keep _ (b := main_v45_10) (by decide +kernel), bwdB3_keep _ (b := main_v45_10) (by decide +kernel), bwdB2_keep _ (b := main_v45_10) (by decide +kernel), bwdB1_keep _ (b := main_v45_10) (by decide +kernel), bwdB0_keep _ (b := main_v45_10) (by decide +kernel), bwdCond_keep _ (b := main_v45_10) (by decide +kernel)]
  have a59 : (after bwdB4 (after bwdB3 (after bwdB2 (after bwdB1 (after bwdB0 (after bwdCond X)))))) (Proc.devRef .tc main_while1b_v59) = (after bwdB1 (after bwdB0 (after bwdCond X))) (Proc.devRef .tc main_while1b_v59) := by rw [bwdB4_keep _ (b := main_while1b_v59) (by decide +kernel), bwdB3_keep _ (b := main_while1b_v59) (by decide +kernel), bwdB2_keep _ (b := main_while1b_v59) (by decide +kernel)]
  have a60 : (after bwdB4 (after bwdB3 (after bwdB2 (after bwdB1 (after bwdB0 (after bwdCond X)))))) (Proc.devRef .tc main_while1b_v60) = (after bwdB2 (after bwdB1 (after bwdB0 (after bwdCond X)))) (Proc.devRef .tc main_while1b_v60) := by rw [bwdB4_keep _ (b := main_while1b_v60) (by decide +kernel), bwdB3_keep _ (b := main_while1b_v60) (by decide +kernel)]
  have a61 : (after bwdB4 (after bwdB3 (after bwdB2 (after bwdB1 (after bwdB0 (after bwdCond X)))))) (Proc.devRef .tc main_while1b_v61) = (after bwdB3 (after bwdB2 (after bwdB1 (after bwdB0 (after bwdCond X))))) (Proc.devRef .tc main_while1b_v61) := by rw [bwdB4_keep _ (b := main_while1b_v61) (by decide +kernel)]
  have e59 := (congrFun a59 (ix2 g p)).trans ((b1 _ w k hn c1 hw g p).trans ((congrFun a0 _).trans h0))
  have e60 := (congrFun a60 (ix2 g p)).trans ((b2 _ w k hn (c2.trans c1) hw g p).trans ((congrFun a1 _).trans h1))
  have e61 := (congrFun a61 (ix2 g p)).trans ((b3 _ w k hn (c3.trans c1) hw g p).trans ((congrFun a2 _).trans h2))
  have e62 := (b4 _ w k hn (c4.trans c1) hw g p).trans ((congrFun a3 _).trans h3)
  have e79 := b79 _ g p ((congrFun a7 _).trans h7) ((congrFun a9 _).trans h9) ((congrFun a10 _).trans h10) e59 e60 e61 e62
  have e75 := b75 _ g p ((congrFun a8 _).trans h8) ((congrFun a9 _).trans h9) ((congrFun a10 _).trans h10) e59 e60 e61 e62
  have e77 := b77 _ g p ((congrFun a4 _).trans h4) ((congrFun a5 _).trans h5) ((congrFun a9 _).trans h9) ((congrFun a10 _).trans h10) e59 e60
  have e73 := b73 _ g p ((congrFun a4 _).trans h4) ((congrFun a5 _).trans h5) ((congrFun a9 _).trans h9) ((congrFun a10 _).trans h10) e59 e60
  have e63 := b63 _ g p ((congrFun a9 _).trans h9) e59
  have e64 := b64 _ g p ((congrFun a10 _).trans h10) e60
  have d11 : (after bwdB5 (after bwdB4 (after bwdB3 (after bwdB2 (after bwdB1 (after bwdB0 (after bwdCond X))))))) (Proc.devRef .tc main_v45_11) = X (Proc.devRef .tc main_v45_11) := by rw [bwdB5_keep _ (b := main_v45_11) (by decide +kernel), bwdB4_keep _ (b := main_v45_11) (by decide +kernel), bwdB3_keep _ (b := main_v45_11) (by decide +kernel), bwdB2_keep _ (b := main_v45_11) (by decide +kernel), bwdB1_keep _ (b := main_v45_11) (by decide +kernel), bwdB0_keep _ (b := main_v45_11) (by decide +kernel), bwdCond_keep _ (b := main_v45_11) (by decide +kernel)]
  have d12 : (after bwdB6 (after bwdB5 (after bwdB4 (after bwdB3 (after bwdB2 (after bwdB1 (after bwdB0 (after bwdCond X)))))))) (Proc.devRef .tc main_v45_12) = X (Proc.devRef .tc main_v45_12) := by rw [bwdB6_keep _ (b := main_v45_12) (by decide +kernel), bwdB5_keep _ (b := main_v45_12) (by decide +kernel), bwdB4_keep _ (b := main_v45_12) (by decide +kernel), bwdB3_keep _ (b := main_v45_12) (by decide +kernel), bwdB2_keep _ (b := main_v45_12) (by decide +kernel), bwdB1_keep _ (b := main_v45_12) (by decide +kernel), bwdB0_keep _ (b := main_v45_12) (by decide +kernel), bwdCond_keep _ (b := main_v45_12) (by decide +kernel)]
  have d64 : (after bwdB6 (after bwdB5 (after bwdB4 (after bwdB3 (after bwdB2 (after bwdB1 (after bwdB0 (after bwdCond X)))))))) (Proc.devRef .tc main_while1b_v64) = (after bwdB5 (after bwdB4 (after bwdB3 (after bwdB2 (after bwdB1 (after bwdB0 (after bwdCond X))))))) (Proc.devRef .tc main_while1b_v64) := by rw [bwdB6_keep _ (b := main_while1b_v64) (by decide +kernel)]
  have g79 : (after bwdB7 (after bwdB6 (after bwdB5 (after bwdB4 (after bwdB3 (after bwdB2 (after bwdB1 (after bwdB0 (after bwdCond X))))))))) (Proc.devRef .tc main_while1b_v79) = (after bwdB5 (after bwdB4 (after bwdB3 (after bwdB2 (after bwdB1 (after bwdB0 (after bwdCond X))))))) (Proc.devRef .tc main_while1b_v79) := by rw [bwdB7_keep _ (b := main_while1b_v79) (by decide +kernel), bwdB6_keep _ (b := main_while1b_v79) (by decide +kernel)]
  have g75 : (after bwdB7 (after bwdB6 (after bwdB5 (after bwdB4 (after bwdB3 (after bwdB2 (after bwdB1 (after bwdB0 (after bwdCond X))))))))) (Proc.devRef .tc main_while1b_v75) = (after bwdB5 (after bwdB4 (after bwdB3 (after bwdB2 (after bwdB1 (after bwdB0 (after bwdCond X))))))) (Proc.devRef .tc main_while1b_v75) := by rw [bwdB7_keep _ (b := main_while1b_v75) (by decide +kernel), bwdB6_keep _ (b := main_while1b_v75) (by decide +kernel)]
  have g77 : (after bwdB7 (after bwdB6 (after bwdB5 (after bwdB4 (after bwdB3 (after bwdB2 (after bwdB1 (after bwdB0 (after bwdCond X))))))))) (Proc.devRef .tc main_while1b_v77) = (after bwdB5 (after bwdB4 (after bwdB3 (after bwdB2 (after bwdB1 (after bwdB0 (after bwdCond X))))))) (Proc.devRef .tc main_while1b_v77) := by rw [bwdB7_keep _ (b := main_while1b_v77) (by decide +kernel), bwdB6_keep _ (b := main_while1b_v77) (by decide +kernel)]
  have g73 : (after bwdB7 (after bwdB6 (after bwdB5 (after bwdB4 (after bwdB3 (after bwdB2 (after bwdB1 (after bwdB0 (after bwdCond X))))))))) (Proc.devRef .tc main_while1b_v73) = (after bwdB5 (after bwdB4 (after bwdB3 (after bwdB2 (after bwdB1 (after bwdB0 (after bwdCond X))))))) (Proc.devRef .tc main_while1b_v73) := by rw [bwdB7_keep _ (b := main_while1b_v73) (by decide +kernel), bwdB6_keep _ (b := main_while1b_v73) (by decide +kernel)]
  have g80 : (after bwdB7 (after bwdB6 (after bwdB5 (after bwdB4 (after bwdB3 (after bwdB2 (after bwdB1 (after bwdB0 (after bwdCond X))))))))) (Proc.devRef .tc main_while1b_v80) = (after bwdB6 (after bwdB5 (after bwdB4 (after bwdB3 (after bwdB2 (after bwdB1 (after bwdB0 (after bwdCond X)))))))) (Proc.devRef .tc main_while1b_v80) := by rw [bwdB7_keep _ (b := main_while1b_v80) (by decide +kernel)]
  refine ⟨(congrFun (b8_7 _) _).trans ((congrFun g79 _).trans e79), (congrFun (b8_8 _) _).trans ((congrFun g75 _).trans e75),
    (congrFun (b8_9 _) _).trans ((congrFun g77 _).trans e77), (congrFun (b8_10 _) _).trans ((congrFun g73 _).trans e73), fun r => ⟨?_, ?_⟩⟩
  · refine (congrFun (b8_11 _) _).trans ((congrFun g80 _).trans ((b6 _ w k hn (c6.trans c1) hw r g p).trans ?_))
    rw [e63, d11]
  · refine (congrFun (b8_12 _) _).trans ((b7 _ w k hn (c7.trans c1) hw r g p).trans ?_)
    rw [d64, e64, d12]

end Cert.ReferenceIdeal.Scan
-- ==== Proof.RefFrame.lean ====
module

public import proofs.«01_k».proof.Proof.RefRun
public import Idealize.ShloMosaic.Adequacy

/-! The reference program leaves its arguments as they were, and every semaphore counter at zero. -/

@[expose] public section

noncomputable section

namespace Cert.ReferenceIdeal.Scan

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-- No stretch of the forward loop writes `b`. -/
def FwdKeeps (b : Ref sig .tc) : Bool :=
  decide (b ∉ fwdCond_W) && decide (b ∉ fwdB0_W) && decide (b ∉ fwdB1_W) && decide (b ∉ fwdB2_W) && decide (b ∉ fwdB3_W) && decide (b ∉ fwdB4_W)
    && decide (b ∉ fwdB5_W) && decide (b ∉ fwdB6_W) && decide (b ∉ fwdB7_W)

/-- No stretch of the backward loop writes `b`. -/
def BwdKeeps (b : Ref sig .tc) : Bool :=
  decide (b ∉ bwdCond_W) && decide (b ∉ bwdB0_W) && decide (b ∉ bwdB1_W) && decide (b ∉ bwdB2_W) && decide (b ∉ bwdB3_W) && decide (b ∉ bwdB4_W)
    && decide (b ∉ bwdB5_W) && decide (b ∉ bwdB6_W) && decide (b ∉ bwdB7_W) && decide (b ∉ bwdB8_W)

/-- A buffer that the forward loop does not write is as at the loop's entry, at every trip. -/
theorem fwdAt_keep {b : Ref sig .tc} (h : FwdKeeps b = true) (m : (ℓ : Loc nD τ sig) → Buf (Elt F) ℓ) (c : Dev nD) :
    ∀ k, fwdAt m k c (Proc.devRef .tc b) = W0 m c (Proc.devRef .tc b)
  | 0 => rfl
  | k + 1 => by
    have ih := fwdAt_keep h m c k
    simp only [FwdKeeps, Bool.and_eq_true, decide_eq_true_eq] at h
    obtain ⟨⟨⟨⟨⟨⟨⟨⟨hc, h0⟩, h1⟩, h2⟩, h3⟩, h4⟩, h5⟩, h6⟩, h7⟩ := h
    show afterL fwdBody (after fwdCond (fwdAt m k c)) (Proc.devRef .tc b) = _
    simp only [afterL_cons, afterL_nil]
    rw [fwdB7_keep _ h7, fwdB6_keep _ h6, fwdB5_keep _ h5, fwdB4_keep _ h4, fwdB3_keep _ h3, fwdB2_keep _ h2, fwdB1_keep _ h1,
      fwdB0_keep _ h0, fwdCond_keep _ hc, ih]
    rfl

/-- A buffer that the backward loop does not write is as at the loop's entry, at every trip. -/
theorem bwdAt_keep {b : Ref sig .tc} (h : BwdKeeps b = true) (m : (ℓ : Loc nD τ sig) → Buf (Elt F) ℓ) (c : Dev nD) :
    ∀ k, bwdAt m k c (Proc.devRef .tc b) = W2 m c (Proc.devRef .tc b)
  | 0 => rfl
  | k + 1 => by
    have ih := bwdAt_keep h m c k
    simp only [BwdKeeps, Bool.and_eq_true, decide_eq_true_eq] at h
    obtain ⟨⟨⟨⟨⟨⟨⟨⟨⟨hc, h0⟩, h1⟩, h2⟩, h3⟩, h4⟩, h5⟩, h6⟩, h7⟩, h8⟩ := h
    show afterL bwdBody (after bwdCond (bwdAt m k c)) (Proc.devRef .tc b) = _
    simp only [afterL_cons, afterL_nil]
    rw [bwdB8_keep _ h8, bwdB7_keep _ h7, bwdB6_keep _ h6, bwdB5_keep _ h5, bwdB4_keep _ h4, bwdB3_keep _ h3, bwdB2_keep _ h2, bwdB1_keep _ h1,
      bwdB0_keep _ h0, bwdCond_keep _ hc, ih]
    rfl

/-- No stretch of @main writes `b`. -/
def MainKeeps (b : Ref sig .tc) : Bool :=
  FwdKeeps b && BwdKeeps b && decide (b ∉ preOps_W) && decide (b ∉ midOpsA_W) && decide (b ∉ midOpsB_W) && decide (b ∉ postOps_W)

theorem FwdKeeps.cond {b : Ref sig .tc} (h : FwdKeeps b = true) : b ∉ fwdCond_W := by
  simp only [FwdKeeps, Bool.and_eq_true, decide_eq_true_eq] at h
  exact h.1.1.1.1.1.1.1.1

theorem BwdKeeps.cond {b : Ref sig .tc} (h : BwdKeeps b = true) : b ∉ bwdCond_W := by
  simp only [BwdKeeps, Bool.and_eq_true, decide_eq_true_eq] at h
  exact h.1.1.1.1.1.1.1.1.1

/-- After the forward loop, a buffer that it does not write is as before it. -/
theorem W1_keep {b : Ref sig .tc} (h : FwdKeeps b = true) (m : (ℓ : Loc nD τ sig) → Buf (Elt F) ℓ) (c : Dev nD) :
    W1 m c (Proc.devRef .tc b) = W0 m c (Proc.devRef .tc b) := by
  rw [W1, fwdCond_keep _ (FwdKeeps.cond h), fwdAt_keep h m c]

/-- After the backward loop, a buffer that it does not write is as before it. -/
theorem W3_keep {b : Ref sig .tc} (h : BwdKeeps b = true) (m : (ℓ : Loc nD τ sig) → Buf (Elt F) ℓ) (c : Dev nD) :
    W3 m c (Proc.devRef .tc b) = W2 m c (Proc.devRef .tc b) := by
  rw [W3, bwdCond_keep _ (BwdKeeps.cond h), bwdAt_keep h m c]

/-- A buffer that @main does not write ends as it began. -/
theorem W4_keep {b : Ref sig .tc} (h : MainKeeps b = true) (m : (ℓ : Loc nD τ sig) → Buf (Elt F) ℓ) (c : Dev nD) :
    W4 m c (Proc.devRef .tc b) = m ((c.tc : Thread nD τ).loc b) := by
  simp only [MainKeeps, Bool.and_eq_true, decide_eq_true_eq] at h
  obtain ⟨⟨⟨⟨⟨hf, hb⟩, h0⟩, hA⟩, hB⟩, hP⟩ := h
  show after postOps (W3 m c) (Proc.devRef .tc b) = _
  rw [postOps_keep _ hP, W3_keep hb]
  show after midOpsB (after midOpsA (W1 m c)) (Proc.devRef .tc b) = _
  rw [midOpsB_keep _ hB, midOpsA_keep _ hA, W1_keep hf]
  show after preOps (launchContents m c) (Proc.devRef .tc b) = _
  rw [preOps_keep _ h0]

/-- The reference's frame. -/
theorem frame [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run (defs (F := F)) _ _).mono (fun r h => ⟨fun c =>
    ⟨(h c main_arg0 (by decide)).trans (W4_keep (by decide +kernel) m c),
     (h c main_arg1 (by decide)).trans (W4_keep (by decide +kernel) m c),
     (h c main_arg2 (by decide)).trans (W4_keep (by decide +kernel) m c),
     (h c main_arg3 (by decide)).trans (W4_keep (by decide +kernel) m c),
     (h c main_arg4 (by decide)).trans (W4_keep (by decide +kernel) m c),
     (h c main_arg5 (by decide)).trans (W4_keep (by decide +kernel) m c),
     (h c main_arg6 (by decide)).trans (W4_keep (by decide +kernel) m c),
     (h c main_arg7 (by decide)).trans (W4_keep (by decide +kernel) m c),
     (h c main_arg8 (by decide)).trans (W4_keep (by decide +kernel) m c)⟩,
    Idealize.ShloMosaic.sem_eq_zero_of_no_sems (by decide) r.2⟩) (run_fold m ρ)

end Cert.ReferenceIdeal.Scan

end
-- ==== Proof.RefValue.lean ====
module

public import proofs.«01_k».proof.Proof.RefTrip
public import proofs.«01_k».proof.Proof.RefFrame

/-! What the reference ends with: the gradients of the recurrence. -/

@[expose] public section

noncomputable section

namespace Cert.ReferenceIdeal.Scan

open Cert.ReferenceIdeal Cert.ReferenceIdeal.Gen Cert.Rec
open Idealize.ShloMosaic Idealize.ShloMosaic.TcCoe Idealize.ShloMosaic.Tactic
open Idealize.SL.Sem
open Idealize.ShloMosaic.StableHlo

set_option maxRecDepth 16384

variable (m : (ℓ : Loc nD τ sig) → Buf (Elt Ideal) ℓ) (c : Dev nD) (d : Data)

/-- The reference's arguments hold the data. -/
def At : Prop :=
  d.Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable {m c d}

/-- The cotangent after `k` backward steps. -/
def back (d : Data) (g : Fin 32) (p : Fin 64) (k : ℕ) : ℂ := Cert.Rec.scan ((starRingEnd ℂ) (d.lam g p)) (fun k => d.dO g p (2047 - k)) k

theorem back_succ (d : Data) (g : Fin 32) (p : Fin 64) (k : ℕ) :
    back d g p (k + 1) = (starRingEnd ℂ) (d.lam g p) * back d g p k + d.dO g p (2047 - k) := rfl

theorem gs_back (d : Data) (g : Fin 32) (p : Fin 64) (k : ℕ) (hk : k < 2048) : d.gs g p (2047 - k) = back d g p (k + 1) := by
  show Cert.Rec.scan _ _ (2048 - (2047 - k)) = _
  rw [show 2048 - (2047 - k) = k + 1 by omega]
  rfl

theorem hs_succ (d : Data) (g : Fin 32) (p : Fin 64) (k : ℕ) : d.hs g p (k + 1) = d.lam g p * d.hs g p k + d.bu g p k := rfl

/-- The sum over the last `k` times. -/
def acc (d : Data) (g : Fin 32) (p : Fin 64) (k : ℕ) : ℂ := ∑ j ∈ Finset.range k, (starRingEnd ℂ) (d.hs g p (2047 - j)) * d.gs g p (2047 - j)

theorem acc_all (d : Data) (g : Fin 32) (p : Fin 64) : acc d g p 2048 = d.rL g p :=
  (Finset.sum_congr rfl fun j hj => by rw [show 2047 - j = 2048 - 1 - j by omega]).trans
    (Finset.sum_range_reflect (fun n => (starRingEnd ℂ) (d.hs g p n) * d.gs g p n) 2048)

theorem idx2 {a b : ℕ} (i : (⟨2, ![a, b]⟩ : Shape).Idx) : i = ix2 (i 0 : Fin a) (i 1 : Fin b) := by
  funext k
  fin_cases k <;> rfl

theorem idx3 {a b e : ℕ} (i : (⟨3, ![a, b, e]⟩ : Shape).Idx) : i = ix3 (i 0 : Fin a) (i 1 : Fin b) (i 2 : Fin e) := by
  funext k
  fin_cases k <;> rfl

theorem bu_re (d : Data) (g : Fin 32) (p : Fin 64) (n : ℕ) : (d.bu g p n).re = ∑ h, (d.bb g p h).re * d.U n (chan g h) := by
  rw [Data.bu, Complex.re_sum]
  exact Finset.sum_congr rfl fun h _ => by rw [Complex.re_ofReal_mul, mul_comm]

theorem bu_im (d : Data) (g : Fin 32) (p : Fin 64) (n : ℕ) : (d.bu g p n).im = ∑ h, (d.bb g p h).im * d.U n (chan g h) := by
  rw [Data.bu, Complex.im_sum]
  exact Finset.sum_congr rfl fun h _ => by rw [Complex.im_ofReal_mul, mul_comm]

theorem dO_re (d : Data) (g : Fin 32) (p : Fin 64) (n : ℕ) : (d.dO g p n).re = ∑ h, d.Y n (chan g h) * (d.cc g h p).re := by
  rw [Data.dO, Complex.re_sum]
  exact Finset.sum_congr rfl fun h _ => by rw [Complex.re_ofReal_mul, Complex.conj_re]

theorem dO_im (d : Data) (g : Fin 32) (p : Fin 64) (n : ℕ) : (d.dO g p n).im = ∑ h, -d.Y n (chan g h) * (d.cc g h p).im := by
  rw [Data.dO, Complex.im_sum]
  exact Finset.sum_congr rfl fun h _ => by rw [Complex.im_ofReal_mul, Complex.conj_im]; ring

theorem w0_bre (H : At m c d) (n : Fin 2048) (g : Fin 32) (p : Fin 64) : W0 m c (Proc.devRef .tc main_v10_0) (ix3 n g p) = ((d.bu g p n.val).re : EReal) := by
  refine (congrFun (p10_0 (launchContents m c)) _).trans ((p2 (launchContents m c) n g p).trans ?_)
  rw [bu_re, coe_sum]
  show @Eq EReal _ _
  exact Finset.sum_congr rfl fun h _ => (congrArg₂ (fun x y : EReal => x * y) (H.bre g p h) (H.u n _)).trans (EReal.coe_mul _ _).symm

theorem w0_bim (H : At m c d) (n : Fin 2048) (g : Fin 32) (p : Fin 64) : W0 m c (Proc.devRef .tc main_v10_1) (ix3 n g p) = ((d.bu g p n.val).im : EReal) := by
  refine (congrFun (p10_1 (launchContents m c)) _).trans ((p4 (launchContents m c) n g p).trans ?_)
  rw [bu_im, coe_sum]
  show @Eq EReal _ _
  exact Finset.sum_congr rfl fun h _ => (congrArg₂ (fun x y : EReal => x * y) (H.bim g p h) (H.u n _)).trans (EReal.coe_mul _ _).symm

theorem w0_lre (H : At m c d) (g : Fin 32) (p : Fin 64) : W0 m c (Proc.devRef .tc main_v10_2) (ix2 g p) = ((d.lam g p).re : EReal) :=
  (congrFun (p10_2 (launchContents m c)) _).trans (H.lre g p)

theorem w0_lim (H : At m c d) (g : Fin 32) (p : Fin 64) : W0 m c (Proc.devRef .tc main_v10_3) (ix2 g p) = ((d.lam g p).im : EReal) :=
  (congrFun (p10_3 (launchContents m c)) _).trans (H.lim g p)

/-- The forward loop before trip `k`. -/
structure FwdInv (X : Valuation τ sig (Elt Ideal)) (d : Data) (k : ℕ) (g : Fin 32) (p : Fin 64) : Prop where
  re : X (Proc.devRef .tc main_v10_5) (ix2 g p) = ((d.hs g p k).re : EReal)
  im : X (Proc.devRef .tc main_v10_6) (ix2 g p) = ((d.hs g p k).im : EReal)
  are : ∀ n : Fin 2048, n.val < k → X (Proc.devRef .tc main_v10_7) (ix3 n g p) = ((d.hs g p (n.val + 1)).re : EReal)
  aim : ∀ n : Fin 2048, n.val < k → X (Proc.devRef .tc main_v10_8) (ix3 n g p) = ((d.hs g p (n.val + 1)).im : EReal)
  bre : ∀ n : Fin 2048, n.val < k → X (Proc.devRef .tc main_v10_9) (ix3 n g p) = ((d.hs g p n.val).re : EReal)
  bim : ∀ n : Fin 2048, n.val < k → X (Proc.devRef .tc main_v10_10) (ix3 n g p) = ((d.hs g p n.val).im : EReal)

theorem fwd_inv (H : At m c d) (g : Fin 32) (p : Fin 64) : ∀ k ≤ 2048, FwdInv (fwdAt m k c) d k g p
  | 0, _ => ⟨p10_5 (launchContents m c) g p, p10_6 (launchContents m c) g p, fun n h => absurd h (by omega), fun n h => absurd h (by omega),
      fun n h => absurd h (by omega), fun n h => absurd h (by omega)⟩
  | k + 1, hk => by
    have ih := fwd_inv H g p k (by omega)
    have tr := fwd_trip (fwdAt m k c) _ k (by omega) (fwd_ctr m c k) (iv_int k (by omega)) g p
      ((congrFun (fwdAt_keep (by decide +kernel) m c k) _).trans (w0_lre H g p)) ((congrFun (fwdAt_keep (by decide +kernel) m c k) _).trans (w0_lim H g p))
      ih.re ih.im ((congrFun (fwdAt_keep (by decide +kernel) m c k) _).trans (w0_bre H ⟨k, by omega⟩ g p))
      ((congrFun (fwdAt_keep (by decide +kernel) m c k) _).trans (w0_bim H ⟨k, by omega⟩ g p)) (fwdAt m (k + 1) c) rfl
    obtain ⟨t5, t6, ts⟩ := tr
    have e5 : (((d.lam g p).re : EReal) * ((d.hs g p k).re : EReal) - ((d.lam g p).im : EReal) * ((d.hs g p k).im : EReal)) + ((d.bu g p k).re : EReal)
        = ((d.hs g p (k + 1)).re : EReal) := by
      rw [hs_succ, Complex.add_re, Complex.mul_re, EReal.coe_add, EReal.coe_sub, EReal.coe_mul, EReal.coe_mul]
    have e6 : (((d.lam g p).re : EReal) * ((d.hs g p k).im : EReal) + ((d.lam g p).im : EReal) * ((d.hs g p k).re : EReal)) + ((d.bu g p k).im : EReal)
        = ((d.hs g p (k + 1)).im : EReal) := by
      rw [hs_succ, Complex.add_im, Complex.mul_im, EReal.coe_add, EReal.coe_add, EReal.coe_mul, EReal.coe_mul]
    refine ⟨t5.trans e5, t6.trans e6, fun n h => (ts n).1.trans ?_, fun n h => (ts n).2.1.trans ?_, fun n h => (ts n).2.2.1.trans ?_,
      fun n h => (ts n).2.2.2.trans ?_⟩
    · split_ifs with h'
      · rw [h']; exact e5
      · exact ih.are n (by omega)
    · split_ifs with h'
      · rw [h']; exact e6
      · exact ih.aim n (by omega)
    · split_ifs with h'
      · rw [h']
      · exact ih.bre n (by omega)
    · split_ifs with h'
      · rw [h']
      · exact ih.bim n (by omega)

/-- The stacks after the forward loop. -/
theorem w1 (H : At m c d) (n : Fin 2048) (g : Fin 32) (p : Fin 64) :
    W1 m c (Proc.devRef .tc main_v10_7) (ix3 n g p) = ((d.hs g p (n.val + 1)).re : EReal) ∧ W1 m c (Proc.devRef .tc main_v10_8) (ix3 n g p) = ((d.hs g p (n.val + 1)).im : EReal)
      ∧ W1 m c (Proc.devRef .tc main_v10_9) (ix3 n g p) = ((d.hs g p n.val).re : EReal) ∧ W1 m c (Proc.devRef .tc main_v10_10) (ix3 n g p) = ((d.hs g p n.val).im : EReal) := by
  have i := fwd_inv H g p 2048 le_rfl
  refine ⟨(congrFun (fwdCond_keep _ (by decide +kernel)) _).trans (i.are n n.isLt), (congrFun (fwdCond_keep _ (by decide +kernel)) _).trans (i.aim n n.isLt),
    (congrFun (fwdCond_keep _ (by decide +kernel)) _).trans (i.bre n n.isLt), (congrFun (fwdCond_keep _ (by decide +kernel)) _).trans (i.bim n n.isLt)⟩

/-- An argument's buffer after the forward loop. -/
theorem w1_arg {b : Ref sig .tc} (h : FwdKeeps b = true) (h0 : b ∉ preOps_W) : W1 m c (Proc.devRef .tc b) = m ((c.tc : Thread nD τ).loc b) := by
  rw [W1_keep h]
  show after preOps (launchContents m c) (Proc.devRef .tc b) = _
  rw [preOps_keep _ h0]

theorem w1_u (H : At m c d) (n : Fin 2048) (g : Fin 32) (h : Fin 16) : W1 m c (Proc.devRef .tc main_v0) (ix3 n g h) = (d.U n.val (chan g h) : EReal) :=
  (congrFun (W1_keep (by decide +kernel) m c) _).trans ((p0 (launchContents m c) n g h).trans (H.u n _))

/-- The middle stretch, its second part seen through. -/
theorem w2_keep {b : Ref sig .tc} (h : b ∉ midOpsB_W) : W2 m c (Proc.devRef .tc b) = after midOpsA (W1 m c) (Proc.devRef .tc b) :=
  midOpsB_keep _ h

theorem w2_ore (H : At m c d) (n : Fin 2048) (g : Fin 32) (p : Fin 64) : W2 m c (Proc.devRef .tc main_v45_0) (ix3 n g p) = ((d.dO g p n.val).re : EReal) := by
  refine (congrFun (m45_0 (after midOpsA (W1 m c))) _).trans ((m37 (W1 m c) n g p).trans ?_)
  rw [dO_re, coe_sum]
  show @Eq EReal _ _
  exact Finset.sum_congr rfl fun h _ => (congrArg₂ (fun x y : EReal => x * y) ((congrFun (w1_arg (m := m) (c := c) (b := main_arg1) (by decide +kernel) (by decide +kernel)) _).trans (H.y n _)) ((congrFun (w1_arg (m := m) (c := c) (b := main_arg6) (by decide +kernel) (by decide +kernel)) _).trans (H.cre g h p))).trans
    (EReal.coe_mul _ _).symm

theorem w2_oim (H : At m c d) (n : Fin 2048) (g : Fin 32) (p : Fin 64) : W2 m c (Proc.devRef .tc main_v45_1) (ix3 n g p) = ((d.dO g p n.val).im : EReal) := by
  refine (congrFun (m45_1 (after midOpsA (W1 m c))) _).trans ((m33 (W1 m c) n g p).trans ?_)
  rw [dO_im, coe_sum]
  show @Eq EReal _ _
  exact Finset.sum_congr rfl fun h _ => (congrArg₂ (fun x y : EReal => -x * y) ((congrFun (w1_arg (m := m) (c := c) (b := main_arg1) (by decide +kernel) (by decide +kernel)) _).trans (H.y n _)) ((congrFun (w1_arg (m := m) (c := c) (b := main_arg7) (by decide +kernel) (by decide +kernel)) _).trans (H.cim g h p))).trans
    (by rw [← EReal.coe_neg, EReal.coe_mul])

theorem w2_hre (H : At m c d) (n : Fin 2048) (g : Fin 32) (p : Fin 64) : W2 m c (Proc.devRef .tc main_v45_2) (ix3 n g p) = ((d.hs g p n.val).re : EReal) :=
  (congrFun (m45_2 (after midOpsA (W1 m c))) _).trans ((congrFun (midOpsA_keep _ (by decide +kernel)) _).trans (w1 H n g p).2.2.1)

theorem w2_him (H : At m c d) (n : Fin 2048) (g : Fin 32) (p : Fin 64) : W2 m c (Proc.devRef .tc main_v45_3) (ix3 n g p) = ((d.hs g p n.val).im : EReal) :=
  (congrFun (m45_3 (after midOpsA (W1 m c))) _).trans ((congrFun (midOpsA_keep _ (by decide +kernel)) _).trans (w1 H n g p).2.2.2)

theorem w2_lre (H : At m c d) (g : Fin 32) (p : Fin 64) : W2 m c (Proc.devRef .tc main_v45_4) (ix2 g p) = ((d.lam g p).re : EReal) :=
  (congrFun (m45_4 (after midOpsA (W1 m c))) _).trans ((congrFun (midOpsA_keep _ (by decide +kernel)) _).trans ((congrFun (w1_arg (m := m) (c := c) (b := main_arg2) (by decide +kernel) (by decide +kernel)) _).trans (H.lre g p)))

theorem w2_lim (H : At m c d) (g : Fin 32) (p : Fin 64) : W2 m c (Proc.devRef .tc main_v45_5) (ix2 g p) = ((d.lam g p).im : EReal) :=
  (congrFun (m45_5 (after midOpsA (W1 m c))) _).trans ((congrFun (midOpsA_keep _ (by decide +kernel)) _).trans ((congrFun (w1_arg (m := m) (c := c) (b := main_arg3) (by decide +kernel) (by decide +kernel)) _).trans (H.lim g p)))

/-- The backward loop before trip `k`. -/
structure BwdInv (X : Valuation τ sig (Elt Ideal)) (d : Data) (k : ℕ) (g : Fin 32) (p : Fin 64) : Prop where
  lre : X (Proc.devRef .tc main_v45_7) (ix2 g p) = ((acc d g p k).re : EReal)
  lim : X (Proc.devRef .tc main_v45_8) (ix2 g p) = ((acc d g p k).im : EReal)
  re : X (Proc.devRef .tc main_v45_9) (ix2 g p) = (((starRingEnd ℂ) (d.lam g p) * back d g p k).re : EReal)
  im : X (Proc.devRef .tc main_v45_10) (ix2 g p) = (((starRingEnd ℂ) (d.lam g p) * back d g p k).im : EReal)
  gre : ∀ n : Fin 2048, 2048 - k ≤ n.val → X (Proc.devRef .tc main_v45_11) (ix3 n g p) = ((d.gs g p n.val).re : EReal)
  gim : ∀ n : Fin 2048, 2048 - k ≤ n.val → X (Proc.devRef .tc main_v45_12) (ix3 n g p) = ((d.gs g p n.val).im : EReal)

theorem bwd_inv (H : At m c d) (g : Fin 32) (p : Fin 64) : ∀ k ≤ 2048, BwdInv (bwdAt m k c) d k g p
  | 0, _ => ⟨(m45_7 (after midOpsA (W1 m c)) g p).trans (by simp [acc]), (m45_8 (after midOpsA (W1 m c)) g p).trans (by simp [acc]),
      (m45_9 (after midOpsA (W1 m c)) g p).trans (by simp [back, Cert.Rec.scan_zero]), (m45_10 (after midOpsA (W1 m c)) g p).trans (by simp [back, Cert.Rec.scan_zero]),
      fun n h => absurd n.isLt (by omega), fun n h => absurd n.isLt (by omega)⟩
  | k + 1, hk => by
    have ih := bwd_inv H g p k (by omega)
    have tr := bwd_trip (bwdAt m k c) k (2047 - k) (by omega) (bwd_ctr m c k) _ rfl (row_int k (by omega)) g p
      ((congrFun (bwdAt_keep (by decide +kernel) m c k) _).trans (w2_lre H g p)) ((congrFun (bwdAt_keep (by decide +kernel) m c k) _).trans (w2_lim H g p))
      ih.lre ih.lim ih.re ih.im
      ((congrFun (bwdAt_keep (by decide +kernel) m c k) _).trans (w2_ore H ⟨2047 - k, by omega⟩ g p))
      ((congrFun (bwdAt_keep (by decide +kernel) m c k) _).trans (w2_oim H ⟨2047 - k, by omega⟩ g p))
      ((congrFun (bwdAt_keep (by decide +kernel) m c k) _).trans (w2_hre H ⟨2047 - k, by omega⟩ g p))
      ((congrFun (bwdAt_keep (by decide +kernel) m c k) _).trans (w2_him H ⟨2047 - k, by omega⟩ g p)) (bwdAt m (k + 1) c) rfl
    obtain ⟨t7, t8, t9, t10, ts⟩ := tr
    have er : (((starRingEnd ℂ) (d.lam g p) * back d g p k).re : EReal) + ((d.dO g p (2047 - k)).re : EReal) = ((back d g p (k + 1)).re : EReal) := by
      rw [back_succ, Complex.add_re, EReal.coe_add]
    have ei : (((starRingEnd ℂ) (d.lam g p) * back d g p k).im : EReal) + ((d.dO g p (2047 - k)).im : EReal) = ((back d g p (k + 1)).im : EReal) := by
      rw [back_succ, Complex.add_im, EReal.coe_add]
    have ea : acc d g p (k + 1) = acc d g p k + (starRingEnd ℂ) (d.hs g p (2047 - k)) * back d g p (k + 1) := by
      rw [acc, Finset.sum_range_succ, gs_back d g p k (by omega)]
      rfl
    refine ⟨t7.trans ?_, t8.trans ?_, t9.trans ?_, t10.trans ?_, fun n h => (ts n).1.trans ?_, fun n h => (ts n).2.trans ?_⟩
    · rw [er, ei, ea, ← EReal.coe_mul, ← EReal.coe_mul, ← EReal.coe_add, ← EReal.coe_add, Complex.add_re, Complex.mul_re, Complex.conj_re, Complex.conj_im]
      exact congrArg _ (by ring)
    · rw [er, ei, ea, ← EReal.coe_neg, ← EReal.coe_mul, ← EReal.coe_mul, ← EReal.coe_add, ← EReal.coe_add, Complex.add_im, Complex.mul_im, Complex.conj_re, Complex.conj_im]
      exact congrArg _ (by ring)
    · rw [er, ei, ← EReal.coe_mul, ← EReal.coe_mul, ← EReal.coe_add, Complex.mul_re, Complex.conj_re, Complex.conj_im]
      exact congrArg _ (by ring)
    · rw [er, ei, ← EReal.coe_neg, ← EReal.coe_mul, ← EReal.coe_mul, ← EReal.coe_add, Complex.mul_im, Complex.conj_re, Complex.conj_im]
      exact congrArg _ (by ring)
    · split_ifs with h'
      · rw [h', gs_back d g p k (by omega)]; exact er
      · exact ih.gre n (by omega)
    · split_ifs with h'
      · rw [h', gs_back d g p k (by omega)]; exact ei
      · exact ih.gim n (by omega)

/-- The backward loop's results. -/
theorem w3 (H : At m c d) (g : Fin 32) (p : Fin 64) :
    W3 m c (Proc.devRef .tc main_v45_7) (ix2 g p) = ((d.rL g p).re : EReal) ∧ W3 m c (Proc.devRef .tc main_v45_8) (ix2 g p) = ((d.rL g p).im : EReal)
      ∧ (∀ n : Fin 2048, W3 m c (Proc.devRef .tc main_v45_11) (ix3 n g p) = ((d.gs g p n.val).re : EReal))
      ∧ ∀ n : Fin 2048, W3 m c (Proc.devRef .tc main_v45_12) (ix3 n g p) = ((d.gs g p n.val).im : EReal) := by
  have i := bwd_inv H g p 2048 le_rfl
  rw [← acc_all]
  refine ⟨(congrFun (bwdCond_keep _ (by decide +kernel)) _).trans i.lre, (congrFun (bwdCond_keep _ (by decide +kernel)) _).trans i.lim,
    fun n => (congrFun (bwdCond_keep _ (by decide +kernel)) _).trans (i.gre n (by omega)),
    fun n => (congrFun (bwdCond_keep _ (by decide +kernel)) _).trans (i.gim n (by omega))⟩

/-- A buffer of the middle stretch at the end. -/
theorem w3_mid {b : Ref sig .tc} (h : BwdKeeps b = true) (hB : b ∉ midOpsB_W) : W3 m c (Proc.devRef .tc b) = after midOpsA (W1 m c) (Proc.devRef .tc b) :=
  (W3_keep h m c).trans (w2_keep hB)

theorem w4_mid {b : Ref sig .tc} (h : BwdKeeps b = true) (hB : b ∉ midOpsB_W) (hP : b ∉ postOps_W) :
    W4 m c (Proc.devRef .tc b) = after midOpsA (W1 m c) (Proc.devRef .tc b) :=
  (postOps_keep _ hP).trans (w3_mid h hB)

/-- An argument's buffer after the backward loop. -/
theorem w3_arg {b : Ref sig .tc} (h : BwdKeeps b = true) (hB : b ∉ midOpsB_W) (hA : b ∉ midOpsA_W) (hf : FwdKeeps b = true) (h0 : b ∉ preOps_W) :
    W3 m c (Proc.devRef .tc b) = m ((c.tc : Thread nD τ).loc b) :=
  (w3_mid h hB).trans ((midOpsA_keep _ hA).trans (w1_arg hf h0))

theorem w3_u (H : At m c d) (n : Fin 2048) (g : Fin 32) (h : Fin 16) : W3 m c (Proc.devRef .tc main_v0) (ix3 n g h) = (d.U n.val (chan g h) : EReal) :=
  (congrFun (w3_mid (by decide +kernel) (by decide +kernel)) _).trans ((congrFun (midOpsA_keep _ (by decide +kernel)) _).trans (w1_u H n g h))

theorem e_lre (H : At m c d) : W4 m c (Proc.devRef .tc main_v45_7) = d.aLre := funext fun i => by
  rw [idx2 i]
  exact (congrFun (postOps_keep _ (by decide +kernel)) _).trans (w3 H _ _).1

theorem e_lim (H : At m c d) : W4 m c (Proc.devRef .tc main_v45_8) = d.aLim := funext fun i => by
  rw [idx2 i]
  exact (congrFun (postOps_keep _ (by decide +kernel)) _).trans (w3 H _ _).2.1

theorem e_bre (H : At m c d) : W4 m c (Proc.devRef .tc main_v55) = d.aBre := funext fun i => by
  rw [idx3 i]
  refine (q55 (W3 m c) _ _ _).trans ?_
  show @Eq EReal _ ((∑ n : Fin 2048, d.U n.val (chan _ _) * (d.gs _ _ n.val).re : ℝ) : EReal)
  rw [coe_sum]
  exact Finset.sum_congr rfl fun n _ => (congrArg₂ (fun x y : EReal => x * y) ((w3 H _ _).2.2.1 n) (w3_u H n _ _)).trans
    ((EReal.coe_mul _ _).symm.trans (congrArg _ (mul_comm _ _)))

theorem e_bim (H : At m c d) : W4 m c (Proc.devRef .tc main_v50) = d.aBim := funext fun i => by
  rw [idx3 i]
  refine (q50 (W3 m c) _ _ _).trans ?_
  show @Eq EReal _ ((∑ n : Fin 2048, d.U n.val (chan _ _) * (d.gs _ _ n.val).im : ℝ) : EReal)
  rw [coe_sum]
  exact Finset.sum_congr rfl fun n _ => (congrArg₂ (fun x y : EReal => x * y) ((w3 H _ _).2.2.2 n) (w3_u H n _ _)).trans
    ((EReal.coe_mul _ _).symm.trans (congrArg _ (mul_comm _ _)))

theorem e_cre (H : At m c d) : W4 m c (Proc.devRef .tc main_v38) = d.aCre := funext fun i => by
  rw [idx3 i]
  refine (congrFun (w4_mid (by decide +kernel) (by decide +kernel) (by decide +kernel)) _).trans ((m38 (W1 m c) _ _ _).trans ?_)
  show @Eq EReal _ ((∑ n : Fin 2048, (d.hs _ _ (n.val + 1)).re * d.Y n.val (chan _ _) : ℝ) : EReal)
  rw [coe_sum]
  exact Finset.sum_congr rfl fun n _ => (congrArg₂ (fun x y : EReal => x * y) ((congrFun (w1_arg (m := m) (c := c) (b := main_arg1) (by decide +kernel) (by decide +kernel)) _).trans (H.y n _)) (w1 H n _ _).1).trans
    ((EReal.coe_mul _ _).symm.trans (congrArg _ (mul_comm _ _)))

theorem e_cim (H : At m c d) : W4 m c (Proc.devRef .tc main_v34) = d.aCim := funext fun i => by
  rw [idx3 i]
  refine (congrFun (w4_mid (by decide +kernel) (by decide +kernel) (by decide +kernel)) _).trans ((m34 (W1 m c) _ _ _).trans ?_)
  show @Eq EReal _ ((-∑ n : Fin 2048, (d.hs _ _ (n.val + 1)).im * d.Y n.val (chan _ _) : ℝ) : EReal)
  rw [← Finset.sum_neg_distrib, coe_sum]
  exact Finset.sum_congr rfl fun n _ => (congrArg₂ (fun x y : EReal => -x * y) ((congrFun (w1_arg (m := m) (c := c) (b := main_arg1) (by decide +kernel) (by decide +kernel)) _).trans (H.y n _)) (w1 H n _ _).2.1).trans
    (by rw [← EReal.coe_neg, ← EReal.coe_mul]; exact congrArg _ ((neg_mul _ _).trans (congrArg Neg.neg (mul_comm _ _))))

theorem e_d (H : At m c d) : W4 m c (Proc.devRef .tc main_v29) = d.aD := funext fun i => by
  rw [idx2 i]
  refine (congrFun (w4_mid (by decide +kernel) (by decide +kernel) (by decide +kernel)) _).trans ((m29 (W1 m c) _ _).trans ?_)
  show @Eq EReal _ ((∑ n : Fin 2048, d.Y n.val (chan _ _) * d.U n.val (chan _ _) : ℝ) : EReal)
  rw [coe_sum, Fin.sum_univ_one]
  exact Finset.sum_congr rfl fun n _ => (congrArg₂ (fun x y : EReal => x * y) ((congrFun (w1_arg (m := m) (c := c) (b := main_arg1) (by decide +kernel) (by decide +kernel)) _).trans (H.y n _)) (w1_u H n _ _)).trans
    (EReal.coe_mul _ _).symm

theorem e_u (H : At m c d) : W4 m c (Proc.devRef .tc main_v56) = d.aU := funext fun i => by
  rw [idx2 i]
  refine (q56 (W3 m c) _ _).trans ?_
  show _ = ((d.rU _ _ _ : ℝ) : EReal)
  rw [Data.rU, EReal.coe_add, EReal.coe_add, EReal.coe_mul, coe_sum, coe_sum, add_assoc, add_comm]
  refine congrArg₂ (fun x y : EReal => x + y) ((add_comm _ _).trans (congrArg₂ (fun x y : EReal => x + y) ?_ ?_)) ?_
  · exact Finset.sum_congr rfl fun p _ => (congrArg₂ (fun x y : EReal => x * y) ((w3 H _ p).2.2.1 _)
      ((congrFun (w3_arg (b := main_arg4) (by decide +kernel) (by decide +kernel) (by decide +kernel) (by decide +kernel) (by decide +kernel)) _).trans
        (H.bre _ p _))).trans (EReal.coe_mul _ _).symm
  · exact Finset.sum_congr rfl fun p _ => (congrArg₂ (fun x y : EReal => x * y) ((w3 H _ p).2.2.2 _)
      ((congrFun (w3_arg (b := main_arg5) (by decide +kernel) (by decide +kernel) (by decide +kernel) (by decide +kernel) (by decide +kernel)) _).trans
        (H.bim _ p _))).trans (EReal.coe_mul _ _).symm
  · refine (congrFun (w3_mid (b := main_v25) (by decide +kernel) (by decide +kernel)) _).trans ((m25 (W1 m c) _ _ _).trans ?_)
    exact congrArg₂ (fun x y : EReal => x * y) ((congrFun (w1_arg (m := m) (c := c) (b := main_arg8) (by decide +kernel) (by decide +kernel)) _).trans (H.dd _ _)) ((congrFun (w1_arg (m := m) (c := c) (b := main_arg1) (by decide +kernel) (by decide +kernel)) _).trans (H.y _ _))

/-- The reference's results are the gradients, and its arguments are unchanged. -/
theorem gradients (m : (ℓ : Loc nD τ sig) → Buf (Elt Ideal) ℓ) (g : Dev nD → PrngReg) (D : Dev nD → Data) (hd : ∀ c, At m c (D c)) :
    θ_run (defs (F := Ideal)) (onTc (τ := τ) (main (F := Ideal))) ⟨m, fun _ => 0, g⟩ (fun r => ∀ c : Dev nD,
      r.2.mem ((c.tc : Thread nD τ).loc main_v56) = (D c).aU
      ∧ r.2.mem ((c.tc : Thread nD τ).loc main_v45_7) = (D c).aLre
      ∧ r.2.mem ((c.tc : Thread nD τ).loc main_v45_8) = (D c).aLim
      ∧ r.2.mem ((c.tc : Thread nD τ).loc main_v55) = (D c).aBre
      ∧ r.2.mem ((c.tc : Thread nD τ).loc main_v50) = (D c).aBim
      ∧ r.2.mem ((c.tc : Thread nD τ).loc main_v38) = (D c).aCre
      ∧ r.2.mem ((c.tc : Thread nD τ).loc main_v34) = (D c).aCim
      ∧ r.2.mem ((c.tc : Thread nD τ).loc main_v29) = (D c).aD
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c =>
    ⟨(h c main_v56 (by decide)).trans (e_u (hd c)),
     (h c main_v45_7 (by decide)).trans (e_lre (hd c)),
     (h c main_v45_8 (by decide)).trans (e_lim (hd c)),
     (h c main_v55 (by decide)).trans (e_bre (hd c)),
     (h c main_v50 (by decide)).trans (e_bim (hd c)),
     (h c main_v38 (by decide)).trans (e_cre (hd c)),
     (h c main_v34 (by decide)).trans (e_cim (hd c)),
     (h c main_v29 (by decide)).trans (e_d (hd c)),
     (h c main_arg0 (by decide)).trans (W4_keep (by decide +kernel) m c),
     (h c main_arg1 (by decide)).trans (W4_keep (by decide +kernel) m c),
     (h c main_arg2 (by decide)).trans (W4_keep (by decide +kernel) m c),
     (h c main_arg3 (by decide)).trans (W4_keep (by decide +kernel) m c),
     (h c main_arg4 (by decide)).trans (W4_keep (by decide +kernel) m c),
     (h c main_arg5 (by decide)).trans (W4_keep (by decide +kernel) m c),
     (h c main_arg6 (by decide)).trans (W4_keep (by decide +kernel) m c),
     (h c main_arg7 (by decide)).trans (W4_keep (by decide +kernel) m c),
     (h c main_arg8 (by decide)).trans (W4_keep (by decide +kernel) m c)⟩) (run_fold m g)

end Cert.ReferenceIdeal.Scan
-- ==== Proof.KCarry.lean ====
module

public import proofs.«01_k».proof.Proof.Gen.KernelIdeal.Frame
public import proofs.«01_k».proof.Proof.Scan

/-! The 256th power of the eigenvalues and the carries between the eight segments. -/

@[expose] public section

noncomputable section

namespace Cert.KernelIdeal.Gen

open Idealize.ShloMosaic Idealize.ShloMosaic.TcCoe Idealize.ShloMosaic.Tactic
open Cert.Rec

set_option maxRecDepth 16384

theorem zero_pay19 (j : S8x512.Idx) : k0_pay19 (F := Ideal) j = 0 := Ideal.ofBits_zero_f32
theorem zero_pay72 (j : S8x512.Idx) : k0_pay72 (F := Ideal) j = 0 := Ideal.ofBits_zero_f32
theorem one_pay63 (j : S8x512.Idx) : k0_pay63 (F := Ideal) j = 1 := Ideal.ofBits_one_f32
theorem one_pay113 (j : S8x512.Idx) : k0_pay113 (F := Ideal) j = 1 := Ideal.ofBits_one_f32

/-- The row numbers. -/
theorem iota_rows (s : Fin 8) (p : Fin 512) : iota Kind.tc S8x512 32 [0] iota_S8x512_d0_w32 (ix2 s p) = BitVec.ofNat 32 s.val := by
  pointwise

/-- The conjugate eigenvalue. -/
theorem CV.conj_lam {v21 v25 : FVec Ideal S8x512 .f32} {L : Fin 512 → ℂ} (hl : CV v21 v25 fun (_ : Fin 8) p => L p) :
    CV v21 (k0_pay73 v25) fun (_ : Fin 8) p => (starRingEnd ℂ) (L p) :=
  hl.conj (W := broadcast S8x512 (Scalar.ofBits (F := Ideal) .f32 0x00000000#32)) fun _ => Ideal.ofBits_zero_f32

/-- A square. -/
theorem CV.sq {X Y : FVec Ideal S8x512 .f32} {L : Fin 512 → ℂ} {k : ℕ} (h : CV X Y fun (_ : Fin 8) p => L p ^ k) :
    CV (subf (mulf X X) (mulf Y Y)) (addf (mulf X Y) (mulf Y X)) fun (_ : Fin 8) p => L p ^ (2 * k) :=
  (h.mul h).congr fun s p => by rw [← pow_add, two_mul]

/-- The state a segment starts from, given to the segment `k` by the one before it. -/
theorem CV.carryDown {F0 F1 Q0 Q1 X Y : FVec Ideal S8x512 .f32} {f S : ℕ → Fin 512 → ℂ} {Q : Fin 512 → ℂ} {iota q q' : IVec S8x512 32}
    (hf : CV F0 F1 fun (s : Fin 8) p => f s.val p) (hQ : CV Q0 Q1 fun (_ : Fin 8) p => Q p)
    (hS : ∀ s p, s < 7 → f s p + Q p * S s p = S (s + 1) p) (k : Fin 8) (j : ℕ) (hj : k.val = j) (hk : 0 < j)
    (h : CV X Y fun (s : Fin 8) p => if s.val < j then S s.val p else 0)
    (hi : ∀ (s : Fin 8) (p : Fin 512), iota (ix2 s p) = BitVec.ofNat 32 s.val) (hq : ∀ i, q i = BitVec.ofNat 32 k.val)
    (hq' : ∀ i, q' i = BitVec.ofNat 32 k.val) :
    CV (select (cmpi .eq iota q) (dynamicRotate (0 : Fin 2) 1#32 none (addf F0 (subf (mulf Q0 X) (mulf Q1 Y))) rotates_S8x512_d0) X)
      (select (cmpi .eq iota q') (dynamicRotate (0 : Fin 2) 1#32 none (addf F1 (addf (mulf Q0 Y) (mulf Q1 X))) rotates_S8x512_d0) Y)
      fun (s : Fin 8) p => if s.val < j + 1 then S s.val p else 0 := by
  refine (CV.rollDown (hf.add (hQ.mul h)) h rotates_S8x512_d0 hi k hq hq').congr fun s p => ?_
  have hp : ∀ k : Fin 8, 0 < k.val → (k - 1).val = k.val - 1 := by decide
  subst hj
  by_cases hs : s = k
  · subst hs
    have := s.isLt
    rw [if_pos rfl, if_pos (by omega), hp s hk, if_pos (by omega), hS _ _ (by omega)]
    congr 1; omega
  · have hv : s.val ≠ k.val := fun h => hs (Fin.ext h)
    rw [if_neg hs]
    by_cases hlt : s.val < k.val
    · rw [if_pos hlt, if_pos (by omega)]
    · rw [if_neg hlt, if_neg (by omega)]

/-- The same from the segment after it. -/
theorem CV.carryUp {F0 F1 Q0 Q1 X Y : FVec Ideal S8x512 .f32} {f S : ℕ → Fin 512 → ℂ} {Q : Fin 512 → ℂ} {iota q q' : IVec S8x512 32}
    (hf : CV F0 F1 fun (s : Fin 8) p => f s.val p) (hQ : CV Q0 Q1 fun (_ : Fin 8) p => Q p)
    (hS : ∀ s p, s < 7 → f (s + 1) p + Q p * S (s + 1) p = S s p) (k : Fin 8) (j : ℕ) (hj : k.val = j) (hk : j < 7)
    (h : CV X Y fun (s : Fin 8) p => if j + 1 ≤ s.val then S s.val p else 0)
    (hi : ∀ (s : Fin 8) (p : Fin 512), iota (ix2 s p) = BitVec.ofNat 32 s.val) (hq : ∀ i, q i = BitVec.ofNat 32 k.val)
    (hq' : ∀ i, q' i = BitVec.ofNat 32 k.val) :
    CV (select (cmpi .eq iota q) (dynamicRotate (0 : Fin 2) 7#32 none (addf F0 (subf (mulf Q0 X) (mulf Q1 Y))) rotates_S8x512_d0) X)
      (select (cmpi .eq iota q') (dynamicRotate (0 : Fin 2) 7#32 none (addf F1 (addf (mulf Q0 Y) (mulf Q1 X))) rotates_S8x512_d0) Y)
      fun (s : Fin 8) p => if j ≤ s.val then S s.val p else 0 := by
  refine (CV.rollUp (hf.add (hQ.mul h)) h rotates_S8x512_d0 hi k hq hq').congr fun s p => ?_
  have hp : ∀ k : Fin 8, k.val < 7 → (k + 1).val = k.val + 1 := by decide
  subst hj
  by_cases hs : s = k
  · subst hs
    rw [if_pos rfl, if_pos (by omega), hp s hk, if_pos (by omega), hS _ _ (by omega)]
  · have hv : s.val ≠ k.val := fun h => hs (Fin.ext h)
    rw [if_neg hs]
    by_cases hlt : k.val + 1 ≤ s.val
    · rw [if_pos hlt, if_pos (by omega)]
    · rw [if_neg hlt, if_neg (by omega)]

/-- The eighth square, of the eigenvalues. -/
theorem pow_fwd {v21 v25 v31 : FVec Ideal S8x512 .f32} {L : Fin 512 → ℂ} (hl : CV v21 v25 fun (_ : Fin 8) p => L p)
    (h2 : v31 = subf (mulf v21 v21) (mulf v25 v25)) :
    CV (k0_pay38 v21 v25 v31) (k0_pay39 v21 v25 v31) fun (_ : Fin 8) p => L p ^ 256 := by
  subst h2
  have h1 : CV v21 v25 fun (_ : Fin 8) p => L p ^ 1 := hl.congr fun _ _ => (pow_one _).symm
  exact CV.sq (CV.sq (CV.sq (CV.sq (CV.sq (CV.sq (CV.sq (CV.sq h1)))))))

/-- The states the eight segments start from. -/
theorem carry_fwd {v21 v25 v31 f0 f1 : FVec Ideal S8x512 .f32} {L : Fin 512 → ℂ} {f S : ℕ → Fin 512 → ℂ}
    (hl : CV v21 v25 fun (_ : Fin 8) p => L p) (h2 : v31 = subf (mulf v21 v21) (mulf v25 v25))
    (hf : CV f0 f1 fun (s : Fin 8) p => f s.val p) (hS0 : ∀ p, S 0 p = 0)
    (hS : ∀ s p, s < 7 → f s p + L p ^ 256 * S s p = S (s + 1) p) :
    let r9 := k0_pay38 v21 v25 v31
    let r10 := k0_pay39 v21 v25 v31
    let r11 := k0_pay40 v21 v25 (k0_pay19 (F := Ideal)) f0 v31
    let r12 := k0_pay41 v21 v25 (k0_pay19 (F := Ideal)) f1 v31
    let r13 := k0_pay47 (k0_pay19 (F := Ideal)) f0 f1 r9 r10 (iota Kind.tc S8x512 32 [0] iota_S8x512_d0_w32) r11 r12 k0_pay42
    let r14 := k0_pay48 (k0_pay19 (F := Ideal)) f0 f1 r9 r10 (iota Kind.tc S8x512 32 [0] iota_S8x512_d0_w32) r11 r12 k0_pay42
    let r15 := k0_pay49 (k0_pay19 (F := Ideal)) f0 f1 r9 r10 (iota Kind.tc S8x512 32 [0] iota_S8x512_d0_w32) r11 r12 k0_pay42
    let r16 := k0_pay50 (k0_pay19 (F := Ideal)) f0 f1 r9 r10 (iota Kind.tc S8x512 32 [0] iota_S8x512_d0_w32) r11 r12 k0_pay42
    let r17 := k0_pay56 f0 f1 r9 r10 (iota Kind.tc S8x512 32 [0] iota_S8x512_d0_w32) r13 r14 r15 r16 k0_pay51
    let r18 := k0_pay57 f0 f1 r9 r10 (iota Kind.tc S8x512 32 [0] iota_S8x512_d0_w32) r13 r14 r15 r16 k0_pay51
    let r19 := k0_pay58 f0 f1 r9 r10 (iota Kind.tc S8x512 32 [0] iota_S8x512_d0_w32) r13 r14 r15 r16 k0_pay51
    let r20 := k0_pay59 f0 f1 r9 r10 (iota Kind.tc S8x512 32 [0] iota_S8x512_d0_w32) r13 r14 r15 r16 k0_pay51
    CV (k0_pay61 (iota Kind.tc S8x512 32 [0] iota_S8x512_d0_w32) r17 r19 k0_pay60) (k0_pay62 (iota Kind.tc S8x512 32 [0] iota_S8x512_d0_w32) r18 r20) fun (s : Fin 8) p => S s.val p := by
  intro r9 r10 r11 r12 r13 r14 r15 r16 r17 r18 r19 r20
  have hQ : CV r9 r10 fun (_ : Fin 8) p => L p ^ 256 := pow_fwd hl h2
  have h0 : CV (k0_pay19 (F := Ideal)) (k0_pay19 (F := Ideal)) fun (s : Fin 8) p => if s.val < 1 then S s.val p else 0 := (CV.zero zero_pay19 zero_pay19).congr fun s p => by
    by_cases h : s.val < 1
    · rw [if_pos h, show s.val = 0 by omega, hS0]
    · rw [if_neg h]
  have h1 : CV (k0_pay43 (k0_pay19 (F := Ideal)) (iota Kind.tc S8x512 32 [0] iota_S8x512_d0_w32) r11 k0_pay42) (k0_pay44 (k0_pay19 (F := Ideal)) (iota Kind.tc S8x512 32 [0] iota_S8x512_d0_w32) r12) fun (s : Fin 8) p => if s.val < 2 then S s.val p else 0 :=
    CV.carryDown hf hQ hS 1 1 rfl (by decide) h0 iota_rows (fun _ => rfl) (fun _ => rfl)
  have h2 : CV (k0_pay45 (k0_pay19 (F := Ideal)) f0 r9 r10 (iota Kind.tc S8x512 32 [0] iota_S8x512_d0_w32) r11 r12 k0_pay42) (k0_pay46 (k0_pay19 (F := Ideal)) f1 r9 r10 (iota Kind.tc S8x512 32 [0] iota_S8x512_d0_w32) r11 r12 k0_pay42) fun (s : Fin 8) p => if s.val < 3 then S s.val p else 0 :=
    CV.carryDown hf hQ hS 2 2 rfl (by decide) h1 iota_rows (fun _ => rfl) (fun _ => rfl)
  have h3 : CV r13 r14 fun (s : Fin 8) p => if s.val < 4 then S s.val p else 0 :=
    CV.carryDown hf hQ hS 3 3 rfl (by decide) h2 iota_rows (fun _ => rfl) (fun _ => rfl)
  have h4 : CV (k0_pay52 (iota Kind.tc S8x512 32 [0] iota_S8x512_d0_w32) r13 r15 k0_pay51) (k0_pay53 (iota Kind.tc S8x512 32 [0] iota_S8x512_d0_w32) r14 r16) fun (s : Fin 8) p => if s.val < 5 then S s.val p else 0 :=
    CV.carryDown hf hQ hS 4 4 rfl (by decide) h3 iota_rows (fun _ => rfl) (fun _ => rfl)
  have h5 : CV (k0_pay54 f0  r9 r10 (iota Kind.tc S8x512 32 [0] iota_S8x512_d0_w32) r13 r14 r15 r16 k0_pay51) (k0_pay55 f1  r9 r10 (iota Kind.tc S8x512 32 [0] iota_S8x512_d0_w32) r13 r14 r15 r16 k0_pay51) fun (s : Fin 8) p => if s.val < 6 then S s.val p else 0 :=
    CV.carryDown hf hQ hS 5 5 rfl (by decide) h4 iota_rows (fun _ => rfl) (fun _ => rfl)
  have h6 : CV r17 r18 fun (s : Fin 8) p => if s.val < 7 then S s.val p else 0 :=
    CV.carryDown hf hQ hS 6 6 rfl (by decide) h5 iota_rows (fun _ => rfl) (fun _ => rfl)
  have h7 : CV (k0_pay61 (iota Kind.tc S8x512 32 [0] iota_S8x512_d0_w32) r17 r19 k0_pay60) (k0_pay62 (iota Kind.tc S8x512 32 [0] iota_S8x512_d0_w32) r18 r20) fun (s : Fin 8) p => if s.val < 8 then S s.val p else 0 :=
    CV.carryDown hf hQ hS 7 7 rfl (by decide) h6 iota_rows (fun _ => rfl) (fun _ => rfl)
  exact h7.congr fun s p => if_pos s.isLt

/-- The eighth square, of the conjugate eigenvalues. -/
theorem pow_bwd {v21 v25 : FVec Ideal S8x512 .f32} {M : Fin 512 → ℂ} (hl : CV v21 (k0_pay73 v25) fun (_ : Fin 8) p => M p) :
    CV (k0_pay93 (k0_pay88 v21 v25) (k0_pay89 v21 v25) (k0_pay90 v21 v25)) (k0_pay94 (k0_pay88 v21 v25) (k0_pay89 v21 v25) (k0_pay90 v21 v25))
      fun (_ : Fin 8) p => M p ^ 256 := by
  have h1 : CV v21 (k0_pay73 v25) fun (_ : Fin 8) p => M p ^ 1 := hl.congr fun _ _ => (pow_one _).symm
  exact CV.sq (CV.sq (CV.sq (CV.sq (CV.sq (CV.sq (CV.sq (CV.sq h1)))))))

/-- The states the eight segments of the backward recurrence start from. -/
theorem carry_bwd {v21 v25 f0 f1 : FVec Ideal S8x512 .f32} {M : Fin 512 → ℂ} {f S : ℕ → Fin 512 → ℂ}
    (hl : CV v21 (k0_pay73 v25) fun (_ : Fin 8) p => M p)
    (hf : CV f0 f1 fun (s : Fin 8) p => f s.val p) (hS7 : ∀ p, S 7 p = 0)
    (hS : ∀ s p, s < 7 → f (s + 1) p + M p ^ 256 * S (s + 1) p = S s p) :
    let r25 := k0_pay88 v21 v25
    let r26 := k0_pay89 v21 v25
    let r27 := k0_pay90 v21 v25
    let r28 := k0_pay93 r25 r26 r27
    let r29 := k0_pay94 r25 r26 r27
    let r30 := k0_pay97 (k0_pay72 (F := Ideal)) f0 f1 r25 r26 r27
    let r31 := k0_pay98 (k0_pay72 (F := Ideal)) f0 f1 r25 r26 r27
    let r32 := k0_pay99 (k0_pay72 (F := Ideal)) f0 f1 r25 r26 r27
    let r33 := k0_pay100 (k0_pay72 (F := Ideal)) f0 f1 r25 r26 r27
    let r34 := k0_pay105 f0 f1 r28 r29 (iota Kind.tc S8x512 32 [0] iota_S8x512_d0_w32) r30 r31 r32 r33 7#32
    let r35 := k0_pay106 f0 f1 r28 r29 (iota Kind.tc S8x512 32 [0] iota_S8x512_d0_w32) r30 r31 r32 r33 7#32
    let r36 := k0_pay107 f0 f1 r28 r29 (iota Kind.tc S8x512 32 [0] iota_S8x512_d0_w32) r30 r31 r32 r33 7#32
    let r37 := k0_pay108 f0 f1 r28 r29 (iota Kind.tc S8x512 32 [0] iota_S8x512_d0_w32) r30 r31 r32 r33 7#32
    CV (k0_pay111 f0 f1 r28 r29 (iota Kind.tc S8x512 32 [0] iota_S8x512_d0_w32) r34 r35 r36 r37 7#32) (k0_pay112 f1 r28 r29 (iota Kind.tc S8x512 32 [0] iota_S8x512_d0_w32) r34 r35 r36 r37 7#32)
      fun (s : Fin 8) p => S s.val p := by
  intro r25 r26 r27 r28 r29 r30 r31 r32 r33 r34 r35 r36 r37
  have hQ : CV r28 r29 fun (_ : Fin 8) p => M p ^ 256 := pow_bwd hl
  have h7 : CV (k0_pay72 (F := Ideal)) (k0_pay72 (F := Ideal)) fun (s : Fin 8) p => if 7 ≤ s.val then S s.val p else 0 := (CV.zero zero_pay72 zero_pay72).congr fun s p => by
    by_cases h : 7 ≤ s.val
    · rw [if_pos h, show s.val = 7 by omega, hS7]
    · rw [if_neg h]
  have h6 : CV (k0_pay95 (k0_pay72 (F := Ideal)) f0 r25 r26 r27) (k0_pay96 (k0_pay72 (F := Ideal)) f1 r25 r26 r27) fun (s : Fin 8) p => if 6 ≤ s.val then S s.val p else 0 :=
    CV.carryUp hf hQ hS 6 6 rfl (by decide) h7 iota_rows (fun _ => rfl) (fun _ => rfl)
  have h5 : CV r30 r31 fun (s : Fin 8) p => if 5 ≤ s.val then S s.val p else 0 :=
    CV.carryUp hf hQ hS 5 5 rfl (by decide) h6 iota_rows (fun _ => rfl) (fun _ => rfl)
  have h4 : CV (k0_pay101 (iota Kind.tc S8x512 32 [0] iota_S8x512_d0_w32) r30 r33 7#32) (k0_pay102 f1 (iota Kind.tc S8x512 32 [0] iota_S8x512_d0_w32) r31 r32) fun (s : Fin 8) p => if 4 ≤ s.val then S s.val p else 0 :=
    CV.carryUp hf hQ hS 4 4 rfl (by decide) h5 iota_rows (fun _ => rfl) (fun _ => rfl)
  have h3 : CV (k0_pay103 f0 f1 r28 r29 (iota Kind.tc S8x512 32 [0] iota_S8x512_d0_w32) r30 r31 r32 r33 7#32) (k0_pay104 f1 r28 r29 (iota Kind.tc S8x512 32 [0] iota_S8x512_d0_w32) r30 r31 r32 r33 7#32) fun (s : Fin 8) p => if 3 ≤ s.val then S s.val p else 0 :=
    CV.carryUp hf hQ hS 3 3 rfl (by decide) h4 iota_rows (fun _ => rfl) (fun _ => rfl)
  have h2 : CV r34 r35 fun (s : Fin 8) p => if 2 ≤ s.val then S s.val p else 0 :=
    CV.carryUp hf hQ hS 2 2 rfl (by decide) h3 iota_rows (fun _ => rfl) (fun _ => rfl)
  have h1 : CV (k0_pay109 (iota Kind.tc S8x512 32 [0] iota_S8x512_d0_w32) r34 r37 7#32) (k0_pay110 f1 (iota Kind.tc S8x512 32 [0] iota_S8x512_d0_w32) r35 r36) fun (s : Fin 8) p => if 1 ≤ s.val then S s.val p else 0 :=
    CV.carryUp hf hQ hS 1 1 rfl (by decide) h2 iota_rows (fun _ => rfl) (fun _ => rfl)
  have h0 : CV (k0_pay111 f0 f1 r28 r29 (iota Kind.tc S8x512 32 [0] iota_S8x512_d0_w32) r34 r35 r36 r37 7#32) (k0_pay112 f1 r28 r29 (iota Kind.tc S8x512 32 [0] iota_S8x512_d0_w32) r34 r35 r36 r37 7#32) fun (s : Fin 8) p => if 0 ≤ s.val then S s.val p else 0 :=
    CV.carryUp hf hQ hS 0 0 rfl (by decide) h1 iota_rows (fun _ => rfl) (fun _ => rfl)
  exact h0.congr fun s p => if_pos (Nat.zero_le _)

end Cert.KernelIdeal.Gen
-- ==== Proof.KVec.lean ====
module

public import proofs.«01_k».proof.Proof.Gen.KernelIdeal.Skeleton
public import proofs.«01_k».proof.Proof.Scan
public import Idealize.ShloMosaic.Lib.Pointwise

/-! The products of the body at an index, over reals. -/

@[expose] public section

noncomputable section

namespace Cert.KernelIdeal.Gen

open Idealize.ShloMosaic Idealize.ShloMosaic.TcCoe Idealize.ShloMosaic.Tactic
open Cert.Rec

set_option maxRecDepth 16384

/-- A sum of products of reals. -/
theorem sum_coe_mul {n : ℕ} {f g : Fin n → EReal} {a b : Fin n → ℝ} (hf : ∀ i, f i = (a i : EReal)) (hg : ∀ i, g i = (b i : EReal)) :
    ∑ i, f i * g i = ((∑ i, a i * b i : ℝ) : EReal) := by
  rw [coe_sum]
  exact Finset.sum_congr rfl fun i _ => by rw [hf, hg, EReal.coe_mul]

/-- The driven inputs. -/
theorem cv_in {v0 : FVec Ideal S2048x128 .f32} {v6 v12 : FVec Ideal S1x128x512 .bf16} {U : Fin 2048 → Fin 128 → ℝ} {b : Fin 128 → Fin 512 → ℂ}
    (hu : ∀ r k, v0 (ix2 r k) = (U r k : EReal)) (hb : ∀ k p, v6 (ix3 0 k p) = ((b k p).re : EReal) ∧ v12 (ix3 0 k p) = ((b k p).im : EReal)) :
    CV (k0_pay15 (F := Ideal) v0 v6) (k0_pay16 (F := Ideal) v0 v12) fun r p => ∑ k, (U r k : ℂ) * b k p := by
  intro r p
  constructor
  · unfold k0_pay15 k0_pay12 k0_pay11
    pointwise
    refine (sum_coe_mul (fun k => hu r k) fun k => (hb k p).1).trans ?_
    simp [Complex.re_sum]
  · unfold k0_pay16 k0_pay12 k0_pay11
    pointwise
    refine (sum_coe_mul (fun k => hu r k) fun k => (hb k p).2).trans ?_
    simp [Complex.im_sum]

/-- The cotangents of the states, before they are carried back. -/
theorem cv_out {v3 : FVec Ideal S2048x128 .f32} {v207 v213 : FVec Ideal S1x512x128 .bf16} {Y : Fin 2048 → Fin 128 → ℝ} {c : Fin 512 → Fin 128 → ℂ}
    (hy : ∀ r k, v3 (ix2 r k) = (Y r k : EReal)) (hc : ∀ p k, v207 (ix3 0 p k) = ((c p k).re : EReal) ∧ v213 (ix3 0 p k) = ((c p k).im : EReal)) :
    CV (k0_pay70 (F := Ideal) (k0_pay14 v3) v207) (k0_pay71 (F := Ideal) (k0_pay14 v3) v213) fun r p => ∑ k, (Y r k : ℂ) * (starRingEnd ℂ) (c p k) := by
  intro r p
  constructor
  · unfold k0_pay70 k0_pay14 k0_pay13
    pointwise
    refine (sum_coe_mul (fun k => hy r k) fun k => (hc p k).1).trans ?_
    simp [Complex.re_sum]
  · unfold k0_pay71 k0_pay14 k0_pay13
    pointwise
    rw [sum_coe_mul (fun k => hy r k) fun k => (hc p k).2]
    simp [Complex.im_sum]

/-- The gradient of the output matrix. -/
theorem val_dc {v3 : FVec Ideal S2048x128 .f32} {v193 v199 : FVec Ideal S2048x512 .f32} {Y : Fin 2048 → Fin 128 → ℝ} {H : Fin 2048 → Fin 512 → ℂ}
    (hy : ∀ r k, v3 (ix2 r k) = (Y r k : EReal)) (hH : CV v193 v199 H) (p : Fin 512) (k : Fin 128) :
    k0_pay68 (F := Ideal) (k0_pay14 v3) v193 (ix3 0 p k) = ((∑ r, (H r p).re * Y r k : ℝ) : EReal)
    ∧ k0_pay69 (F := Ideal) (k0_pay14 v3) v199 (ix3 0 p k) = ((-∑ r, (H r p).im * Y r k : ℝ) : EReal) := by
  constructor
  · unfold k0_pay68 k0_pay14 k0_pay13
    pointwise
    exact sum_coe_mul (fun r => (hH r p).1) fun r => hy r k
  · unfold k0_pay69 k0_pay14 k0_pay13
    pointwise
    rw [sum_coe_mul (fun r => (hH r p).2) fun r => hy r k]
    simp

/-- The gradient of the input matrix. -/
theorem val_db {v0 : FVec Ideal S2048x128 .f32} {v418 v420 : FVec Ideal S2048x512 .f32} {U : Fin 2048 → Fin 128 → ℝ} {G : Fin 2048 → Fin 512 → ℂ}
    (hu : ∀ r k, v0 (ix2 r k) = (U r k : EReal)) (hG : CV v418 v420 G) (k : Fin 128) (p : Fin 512) :
    k0_pay1 (F := Ideal) (k0_pay12 v0) (k0_pay119 v418) (ix3 0 k p) = ((∑ r, U r k * (G r p).re : ℝ) : EReal)
    ∧ k0_pay2 (F := Ideal) (k0_pay12 v0) (k0_pay120 v420) (ix3 0 k p) = ((∑ r, U r k * (G r p).im : ℝ) : EReal) := by
  constructor
  · unfold k0_pay1 k0_pay119 k0_pay12 k0_pay11
    pointwise
    exact sum_coe_mul (fun r => hu r k) fun r => (hG r p).1
  · unfold k0_pay2 k0_pay120 k0_pay12 k0_pay11
    pointwise
    exact sum_coe_mul (fun r => hu r k) fun r => (hG r p).2

/-- The gradient of the direct term. -/
theorem val_dd {v0 v3 : FVec Ideal S2048x128 .f32} {U Y : Fin 2048 → Fin 128 → ℝ}
    (hu : ∀ r k, v0 (ix2 r k) = (U r k : EReal)) (hy : ∀ r k, v3 (ix2 r k) = (Y r k : EReal)) (k : Fin 128) :
    k0_pay3 (F := Ideal) (k0_pay11 v0) (k0_pay13 v3) (ix2 0 k) = ((∑ r, Y r k * U r k : ℝ) : EReal) := by
  unfold k0_pay3 k0_pay13 k0_pay11
  pointwise
  exact sum_coe_mul (fun r => hy r k) fun r => hu r k

/-- The gradient of the inputs. -/
theorem val_du {v3 : FVec Ideal S2048x128 .f32} {v418 v420 : FVec Ideal S2048x512 .f32} {v422 v425 : FVec Ideal S1x128x512 .bf16}
    {v429 : FVec Ideal S1x128 .f32} {Y : Fin 2048 → Fin 128 → ℝ} {G : Fin 2048 → Fin 512 → ℂ} {b : Fin 128 → Fin 512 → ℂ} {d : Fin 128 → ℝ}
    (hy : ∀ r k, v3 (ix2 r k) = (Y r k : EReal)) (hG : CV v418 v420 G)
    (hb : ∀ k p, v422 (ix3 0 k p) = ((b k p).re : EReal) ∧ v425 (ix3 0 k p) = ((b k p).im : EReal))
    (hd : ∀ k, v429 (ix2 0 k) = (d k : EReal)) (r : Fin 2048) (k : Fin 128) :
    k0_pay121 (F := Ideal) (k0_pay13 v3) v418 v420 v422 v425 v429 (ix2 r k)
      = ((∑ p, (G r p).re * (b k p).re + ∑ p, (G r p).im * (b k p).im + d k * Y r k : ℝ) : EReal) := by
  unfold k0_pay121 k0_pay119 k0_pay120 k0_pay13
  pointwise
  rw [sum_coe_mul (fun p => (hG r p).1) fun p => (hb k p).1, sum_coe_mul (fun p => (hG r p).2) fun p => (hb k p).2, hd, hy]
  push_cast
  rfl

/-- The states one row block back, for the first rows. -/
theorem cv_prev {v392 v398 : FVec Ideal S8x512 .f32} {H : ℕ → Fin 512 → ℂ} (h : CV v392 v398 fun (s : Fin 8) p => H s.val p) :
    CV (k0_pay115 (F := Ideal) (iota Kind.tc S8x512 32 [0] iota_S8x512_d0_w32) v392)
      (select (k0_pay116 (iota Kind.tc S8x512 32 [0] iota_S8x512_d0_w32)) (broadcast S8x512 (Scalar.ofBits (F := Ideal) .f32 0x00000000#32)) (k0_pay117 (F := Ideal) v398))
      fun s p => if s.val = 0 then 0 else H (s.val - 1) p := by
  intro s p
  unfold k0_pay115 k0_pay116 k0_pay117
  have hm : ∀ x y : EReal, Scalar.select (IntOp.cmpi .eq (BitVec.ofNat 32 s.val) 0#32) x y = if s = 0 then x else y := by
    intro x y
    have h := mask_eq s 0
    rw [show IntOp.cmpi .eq (BitVec.ofNat 32 s.val) 0#32 = _ from h]
    by_cases hs : s = 0
    · rw [if_pos hs, if_pos hs]; rfl
    · rw [if_neg hs, if_neg hs]; rfl
  have hk : s.val ≠ 0 → (s.val + 8 - 1) % 8 = s.val - 1 := by omega
  constructor
  · pointwise
    refine (hm _ _).trans ?_
    by_cases hs : s.val = 0
    · rw [if_pos (Fin.ext hs), if_pos hs]; rfl
    · rw [if_neg fun e => hs (congrArg Fin.val e), if_neg hs]
      refine (h _ p).1.trans ?_
      simp only [hk hs]
  · pointwise
    refine (hm _ _).trans ?_
    by_cases hs : s.val = 0
    · rw [if_pos (Fin.ext hs), if_pos hs]; rfl
    · rw [if_neg fun e => hs (congrArg Fin.val e), if_neg hs]
      refine (h _ p).2.trans ?_
      simp only [hk hs]

/-- The gradient of the eigenvalues. -/
theorem val_dl {a0 a1 v395 v399 v402 v403 : FVec Ideal S8x512 .f32} {v397 : IVec S8x512 1} {z : Ideal .f32} {A P G : Fin 8 → Fin 512 → ℂ}
    (hA : CV a0 a1 A) (hP : CV v395 (select v397 (broadcast S8x512 z) v399) P) (hG : CV v402 v403 G) (p : Fin 512) :
    k0_pay118 (F := Ideal) a0 a1 v395 v397 v399 z v402 v403 (ix2 0 p) = (((∑ s, (A s p + (starRingEnd ℂ) (P s p) * G s p)).re : ℝ) : EReal)
    ∧ k0_pay118 (F := Ideal) a0 a1 v395 v397 v399 z v402 v403 (ix2 1 p) = (((∑ s, (A s p + (starRingEnd ℂ) (P s p) * G s p)).im : ℝ) : EReal) := by
  have h := fun s => hP s p
  unfold k0_pay118
  constructor
  · pointwise
    rw [Complex.re_sum, coe_sum]
    refine Finset.sum_congr rfl fun s _ => ?_
    have h2 : Scalar.select (v397 (ix2 s p)) z (v399 (ix2 s p)) = (((P s p).im : ℝ) : EReal) := (h s).2
    rw [h2, (h s).1, (hA s p).1, (hG s p).1, (hG s p).2, ← EReal.coe_mul, ← EReal.coe_mul, ← EReal.coe_add, ← EReal.coe_add]
    congr 1
    simp
    ring
  · pointwise
    rw [Complex.im_sum, coe_sum]
    refine Finset.sum_congr rfl fun s _ => ?_
    have h2 : Scalar.select (v397 (ix2 s p)) z (v399 (ix2 s p)) = (((P s p).im : ℝ) : EReal) := (h s).2
    rw [h2, (h s).1, (hA s p).2, (hG s p).1, (hG s p).2, ← EReal.coe_mul, ← EReal.coe_mul, ← EReal.coe_add, ← EReal.coe_sub]
    congr 1
    simp
    ring

end Cert.KernelIdeal.Gen
-- ==== Proof.KLoops.lean ====
module

public import proofs.«01_k».proof.Proof.Gen.KernelIdeal.Frame
public import proofs.«01_k».proof.Proof.Scan
public import Idealize.ShloMosaic.Lib.WritesUnit

/-! The four counted loops of the body at the ideal values: what each carries and what it leaves in the scratch. -/

@[expose] public section

noncomputable section

namespace Cert.KernelIdeal.Gen

open Idealize.ShloMosaic Idealize.ShloMosaic.TcCoe Idealize.ShloMosaic.Tactic
open Cert.Rec

set_option maxRecDepth 16384

/-! ### Rows of the scratch -/

/-- Eight rows loaded from a pair of buffers. -/
theorem CV.rows {κ : Kind} {sp sp' : Space} (v : View sig κ sp S2048x512 .f32) (v' : View sig κ sp' S2048x512 .f32)
    {f : v.ty.Contents (Elt Ideal)} {f' : v'.ty.Contents (Elt Ideal)} {z : ℕ → Fin 512 → ℂ}
    (h : CV (v.read (Elt Ideal) f) (v'.read (Elt Ideal) f') fun r : Fin 2048 => z r.val)
    {off : Fin 2 → ℕ} {o : ℕ} (hoff : off = ![o, 0]) (inb inb' : ∀ a, off a + S8x512.size a ≤ S2048x512.size a) :
    CV (v.readAt (Elt Ideal) (Rect.unit (s := S2048x512) off S8x512.size inb).toLoadRect f)
      (v'.readAt (Elt Ideal) (Rect.unit (s := S2048x512) off S8x512.size inb').toLoadRect f') fun (s : Fin 8) p => z (o + s.val) p := by
  subst hoff
  intro s p
  have hb : o + s.val < 2048 := by
    have h0 : o + 8 ≤ 2048 := inb 0
    have := s.isLt
    omega
  have e : (Rect.unit (s := S2048x512) ![o, 0] S8x512.size inb).toLoadRect.idx (ix2 s p) = ix2 ⟨o + s.val, hb⟩ p := by
    funext a
    refine Fin.ext ?_
    refine Fin.cases ?_ (fun a => ?_) a
    · show o + 1 * s.val = o + s.val
      omega
    · refine Fin.cases ?_ (fun a => a.elim0) a
      show 0 + 1 * p.val = p.val
      omega
  constructor
  · show v.read (Elt Ideal) f _ = _
    rw [e]; exact (h _ _).1
  · show v'.read (Elt Ideal) f' _ = _
    have e' : (Rect.unit (s := S2048x512) ![o, 0] S8x512.size inb').toLoadRect.idx (ix2 s p) = ix2 ⟨o + s.val, hb⟩ p := e
    rw [e']; exact (h _ _).2

theorem read_put {κ : Kind} {sp : Space} (v : View sig κ sp S2048x512 .f32) (f : v.ty.Contents (Elt Ideal))
    (L : List (View.Piece (Elt Ideal) S2048x512 .f32)) {off : Fin 2 → ℕ} {o : ℕ} (hoff : off = ![o, 0])
    (inb : ∀ a, off a + S8x512.size a ≤ S2048x512.size a) (w : FVec Ideal S8x512 .f32) (r : Fin 2048) (p : Fin 512) :
    (∀ s : Fin 8, r.val = o + s.val → v.read (Elt Ideal) (v.writes (Elt Ideal) f
        ((⟨Rect.unit (s := S2048x512) off S8x512.size inb, w⟩ : View.Piece (Elt Ideal) S2048x512 .f32) :: L)) (ix2 r p) = w (ix2 s p))
    ∧ (r.val < o ∨ o + 8 ≤ r.val → v.read (Elt Ideal) (v.writes (Elt Ideal) f
        ((⟨Rect.unit (s := S2048x512) off S8x512.size inb, w⟩ : View.Piece (Elt Ideal) S2048x512 .f32) :: L)) (ix2 r p)
        = v.read (Elt Ideal) (v.writes (Elt Ideal) f L) (ix2 r p)) := by
  constructor
  · intro s hs
    exact View.read_writes_cons_rows_of_mem v f inb w L (ix2 r p) (ix2 s p) hoff hs rfl
  · intro h
    exact View.read_writes_cons_rows_of_not_mem v f inb w L (ix2 r p) hoff rfl h

/-- Eight rows stored over a pair of buffers. -/
theorem CV.put {κ : Kind} {sp sp' : Space} (v : View sig κ sp S2048x512 .f32) (v' : View sig κ sp' S2048x512 .f32)
    {f : v.ty.Contents (Elt Ideal)} {f' : v'.ty.Contents (Elt Ideal)} {L L' : List (View.Piece (Elt Ideal) S2048x512 .f32)}
    {z : ℕ → Fin 512 → ℂ}
    (h : CV (v.read (Elt Ideal) (v.writes (Elt Ideal) f L)) (v'.read (Elt Ideal) (v'.writes (Elt Ideal) f' L')) fun r : Fin 2048 => z r.val)
    {w w' : FVec Ideal S8x512 .f32} {y : Fin 8 → Fin 512 → ℂ} (hw : CV w w' y)
    {off : Fin 2 → ℕ} {o : ℕ} (hoff : off = ![o, 0]) (inb inb' : ∀ a, off a + S8x512.size a ≤ S2048x512.size a)
    {z' : ℕ → Fin 512 → ℂ} (hin : ∀ (s : Fin 8) p, z' (o + s.val) p = y s p)
    (hout : ∀ r p, r < 2048 → (r < o ∨ o + 8 ≤ r) → z' r p = z r p) :
    CV (v.read (Elt Ideal) (v.writes (Elt Ideal) f ([(⟨Rect.unit (s := S2048x512) off S8x512.size inb, w⟩ : View.Piece (Elt Ideal) S2048x512 .f32)] ++ L)))
      (v'.read (Elt Ideal) (v'.writes (Elt Ideal) f' ([(⟨Rect.unit (s := S2048x512) off S8x512.size inb', w'⟩ : View.Piece (Elt Ideal) S2048x512 .f32)] ++ L')))
      fun r : Fin 2048 => z' r.val := by
  intro r p
  by_cases hr : o ≤ r.val ∧ r.val < o + 8
  · have hs : r.val = o + (⟨r.val - o, by omega⟩ : Fin 8).val := by
      show r.val = o + (r.val - o)
      omega
    have e := hin ⟨r.val - o, by omega⟩ p
    rw [← hs] at e
    refine ⟨((read_put v f L hoff inb w r p).1 _ hs).trans ?_, ((read_put v' f' L' hoff inb' w' r p).1 _ hs).trans ?_⟩
    · show _ = ((z' r.val p).re : EReal)
      rw [e]; exact (hw _ _).1
    · show _ = ((z' r.val p).im : EReal)
      rw [e]; exact (hw _ _).2
  · have ho : r.val < o ∨ o + 8 ≤ r.val := by omega
    refine ⟨((read_put v f L hoff inb w r p).2 ho).trans ?_, ((read_put v' f' L' hoff inb' w' r p).2 ho).trans ?_⟩
    · show _ = ((z' r.val p).re : EReal)
      rw [hout _ _ r.isLt ho]; exact (h _ _).1
    · show _ = ((z' r.val p).im : EReal)
      rw [hout _ _ r.isLt ho]; exact (h _ _).2

/-! ### Offsets -/

theorem off1_eq (k : Fin k0_t1_loop.trips) : k0_off1 k = ![8 * k.val, 0] := by
  have e : ∀ k : Fin 256, (Scalar.indexCast (Scalar.muli (Scf.iv 0#32 1#32 k.val) 8#32)).toNat = 8 * k.val := by decide
  exact congrArg (fun n => ![n, 0]) (e k)

theorem off2_eq (k : Fin k0_t2_loop.trips) : k0_off2 k = ![8 * k.val, 0] := by
  have e : ∀ k : Fin 256, (Scalar.indexCast (Scalar.muli (Scf.iv 0#32 1#32 k.val) 8#32)).toNat = 8 * k.val := by decide
  exact congrArg (fun n => ![n, 0]) (e k)

theorem off3_eq (k : Fin k0_t3_loop.trips) : k0_off3 k = ![8 * (255 - k.val), 0] := by
  have e : ∀ k : Fin 256, (Scalar.indexCast (Scalar.muli (Scalar.subi 255#32 (Scf.iv 0#32 1#32 k.val)) 8#32)).toNat
      = 8 * (255 - k.val) := by decide
  exact congrArg (fun n => ![n, 0]) (e k)

theorem off4_eq (k : Fin k0_t4_loop.trips) : k0_off4 k = ![8 * (255 - k.val), 0] := by
  have e : ∀ k : Fin 256, (Scalar.indexCast (Scalar.muli (Scalar.subi 255#32 (Scf.iv 0#32 1#32 k.val)) 8#32)).toNat
      = 8 * (255 - k.val) := by decide
  exact congrArg (fun n => ![n, 0]) (e k)

theorem off5_eq (k : Fin k0_t4_loop.trips) : k0_off5 k = ![8 * (254 - k.val), 0] := by
  have e : ∀ k : Fin 256, (Scalar.indexCast (Scalar.muli (Scalar.maxsi (Scalar.subi (Scalar.subi 255#32 (Scf.iv 0#32 1#32 k.val)) 1#32)
      0#32) 8#32)).toNat = 8 * (254 - k.val) := by decide
  exact congrArg (fun n => ![n, 0]) (e k)

/-- The last loop's guard: every row but the first of a segment has a predecessor in it. -/
theorem guard_eq : ∀ k : Fin 256, Scalar.cmpi .sgt (Scalar.subi 255#32 (Scf.iv 0#32 1#32 k.val)) 0#32
    = if k.val < 255 then 1#1 else 0#1 := by decide

/-- One trip of loop 1. -/
theorem trip1_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (v18 v22 : Vec Ideal S1x512 .f32) (k : Fin k0_t1_loop.trips) (acc : FVec Ideal S8x512 .f32 × FVec Ideal S8x512 .f32)
    (f : BufTy.Contents (Elt Ideal) arg16.view.ty) (g : BufTy.Contents (Elt Ideal) arg17.view.ty) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 k acc f g
      = (k0_pay20 v18 v22 acc.1 acc.2 (View.readAt (Elt Ideal) arg16.view (Rect.unit (s := S2048x512) (k0_off1 k) S8x512.size (k0_off1_inb k)).toLoadRect f), k0_pay21 v18 v22 acc.1 acc.2 (View.readAt (Elt Ideal) arg17.view (Rect.unit (s := S2048x512) (k0_off1 k) S8x512.size (k0_off1_inb k)).toLoadRect g))
    ∧ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 k acc f g
      = (([⟨Rect.unit (s := S2048x512) (k0_off1 k) S8x512.size (k0_off1_inb k), k0_pay22 v18 v22 acc.1 acc.2 (View.readAt (Elt Ideal) arg16.view (Rect.unit (s := S2048x512) (k0_off1 k) S8x512.size (k0_off1_inb k)).toLoadRect f)⟩] : List (View.Piece (Elt Ideal) S2048x512 .f32)),
         ([⟨Rect.unit (s := S2048x512) (k0_off1 k) S8x512.size (k0_off1_inb k), k0_pay23 v18 v22 acc.1 acc.2 (View.readAt (Elt Ideal) arg17.view (Rect.unit (s := S2048x512) (k0_off1 k) S8x512.size (k0_off1_inb k)).toLoadRect g)⟩] : List (View.Piece (Elt Ideal) S2048x512 .f32))) := by
  unfold tripR_k0_t1 tripL_k0_t1 trip_k0_t1
  exact ⟨rfl, rfl⟩

/-- One trip of loop 2. -/
theorem trip2_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (v5 : FVec Ideal S2048x128 .bf16) (v21 v25 v26 : FVec Ideal S8x512 .f32) (v77 : IVec S8x512 32) (v170 v173 v181 v183 : FVec Ideal S8x512 .f32) (v184 : IVec S8x512 32) (k : Fin k0_t2_loop.trips) (acc : FVec Ideal S8x512 .f32 × FVec Ideal S8x512 .f32)
    (f : BufTy.Contents (Elt Ideal) arg16.view.ty) (g : BufTy.Contents (Elt Ideal) arg17.view.ty) :
    tripR_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 k acc f g
      = (k0_pay64 v21 v25 acc.1 acc.2, k0_pay65 v21 v25 acc.1 acc.2)
    ∧ tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 k acc f g
      = (([⟨Rect.unit (s := S2048x512) (k0_off2 k) S8x512.size (k0_off2_inb k), k0_pay66 v21 v25 v77 v170 v173 v181 v183 v184 acc.1 acc.2 (View.readAt (Elt Ideal) arg16.view (Rect.unit (s := S2048x512) (k0_off2 k) S8x512.size (k0_off2_inb k)).toLoadRect f)⟩] : List (View.Piece (Elt Ideal) S2048x512 .f32)),
         ([⟨Rect.unit (s := S2048x512) (k0_off2 k) S8x512.size (k0_off2_inb k), k0_pay67 v21 v25 v77 v170 v173 v181 v183 v184 acc.1 acc.2 (View.readAt (Elt Ideal) arg17.view (Rect.unit (s := S2048x512) (k0_off2 k) S8x512.size (k0_off2_inb k)).toLoadRect g)⟩] : List (View.Piece (Elt Ideal) S2048x512 .f32))) := by
  unfold tripR_k0_t2 tripL_k0_t2 trip_k0_t2
  exact ⟨rfl, rfl⟩

/-- One trip of loop 3. -/
theorem trip3_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (v5 : FVec Ideal S2048x128 .bf16) (v21 v25 : FVec Ideal S8x512 .f32) (v213 : Vec Ideal S1x512x128 .bf16) (k : Fin k0_t3_loop.trips) (acc : FVec Ideal S8x512 .f32 × FVec Ideal S8x512 .f32)
    (f : BufTy.Contents (Elt Ideal) arg18.view.ty) (g : BufTy.Contents (Elt Ideal) arg19.view.ty) :
    tripR_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 k acc f g
      = (k0_pay74 v21 v25 acc.1 acc.2 (View.readAt (Elt Ideal) arg18.view (Rect.unit (s := S2048x512) (k0_off3 k) S8x512.size (k0_off3_inb k)).toLoadRect f), k0_pay75 v21 v25 acc.1 acc.2 (View.readAt (Elt Ideal) arg19.view (Rect.unit (s := S2048x512) (k0_off3 k) S8x512.size (k0_off3_inb k)).toLoadRect g))
    ∧ tripL_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 k acc f g
      = (([⟨Rect.unit (s := S2048x512) (k0_off3 k) S8x512.size (k0_off3_inb k), k0_pay76 v21 v25 acc.1 acc.2 (View.readAt (Elt Ideal) arg18.view (Rect.unit (s := S2048x512) (k0_off3 k) S8x512.size (k0_off3_inb k)).toLoadRect f)⟩] : List (View.Piece (Elt Ideal) S2048x512 .f32)),
         ([⟨Rect.unit (s := S2048x512) (k0_off3 k) S8x512.size (k0_off3_inb k), k0_pay77 v21 v25 acc.1 acc.2 (View.readAt (Elt Ideal) arg19.view (Rect.unit (s := S2048x512) (k0_off3 k) S8x512.size (k0_off3_inb k)).toLoadRect g)⟩] : List (View.Piece (Elt Ideal) S2048x512 .f32))) := by
  unfold tripR_k0_t3 tripL_k0_t3 trip_k0_t3
  exact ⟨rfl, rfl⟩

/-- One trip of loop 4. -/
theorem trip4_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (v21 v221 v223 v225_0 v225_1 v270 v273 : FVec Ideal S8x512 .f32) (v274 : IVec S8x512 32) (v351 v354 v360 v361 : FVec Ideal S8x512 .f32) (c7_i32_98 : BitVec 32) (X_arg16 : BufTy.Contents (Elt Ideal) arg16.view.ty) (X_arg17 : BufTy.Contents (Elt Ideal) arg17.view.ty) (k : Fin k0_t4_loop.trips) (acc : FVec Ideal S8x512 .f32 × FVec Ideal S8x512 .f32 × FVec Ideal S8x512 .f32 × FVec Ideal S8x512 .f32)
    (f : BufTy.Contents (Elt Ideal) arg18.view.ty) (g : BufTy.Contents (Elt Ideal) arg19.view.ty) :
    tripR_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 k acc f g
      = (k0_pay4 v21 v223 acc.1 acc.2.1, k0_pay5 v21 v223 acc.1 acc.2.1,
      k0_pay10 v21 v223 (k0_pay111 v225_0 v225_1 v270 v273 v274 v351 v354 v360 v361 c7_i32_98) (k0_pay112 v225_1 v270 v273 v274 v351 v354 v360 v361 c7_i32_98) 0#32 1#32 k acc.1 acc.2.1 acc.2.2.1 (View.readAt (Elt Ideal) arg18.view (Rect.unit (s := S2048x512) (k0_off4 k) S8x512.size (k0_off4_inb k)).toLoadRect f) (View.readAt (Elt Ideal) arg19.view (Rect.unit (s := S2048x512) (k0_off4 k) S8x512.size (k0_off4_inb k)).toLoadRect g) (View.readAt (Elt Ideal) arg16.view (Rect.unit (s := S2048x512) (k0_off5 k) S8x512.size (k0_off5_inb k)).toLoadRect X_arg16) (View.readAt (Elt Ideal) arg17.view (Rect.unit (s := S2048x512) (k0_off5 k) S8x512.size (k0_off5_inb k)).toLoadRect X_arg17),
      k0_pay114 acc.2.2.2 (k0_pay6 v21 v223 (k0_pay111 v225_0 v225_1 v270 v273 v274 v351 v354 v360 v361 c7_i32_98) (k0_pay112 v225_1 v270 v273 v274 v351 v354 v360 v361 c7_i32_98) acc.1 acc.2.1 (View.readAt (Elt Ideal) arg18.view (Rect.unit (s := S2048x512) (k0_off4 k) S8x512.size (k0_off4_inb k)).toLoadRect f)) (k0_pay7 v21 v223 (k0_pay111 v225_0 v225_1 v270 v273 v274 v351 v354 v360 v361 c7_i32_98) (k0_pay112 v225_1 v270 v273 v274 v351 v354 v360 v361 c7_i32_98) acc.1 acc.2.1 (View.readAt (Elt Ideal) arg19.view (Rect.unit (s := S2048x512) (k0_off4 k) S8x512.size (k0_off4_inb k)).toLoadRect g)) (View.readAt (Elt Ideal) arg16.view (Rect.unit (s := S2048x512) (k0_off5 k) S8x512.size (k0_off5_inb k)).toLoadRect X_arg16) (View.readAt (Elt Ideal) arg17.view (Rect.unit (s := S2048x512) (k0_off5 k) S8x512.size (k0_off5_inb k)).toLoadRect X_arg17)
        (Scalar.cmpi .sgt (Scalar.subi 255#32 (Scf.iv 0#32 1#32 k.val)) 0#32))
    ∧ tripL_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 k acc f g
      = (([⟨Rect.unit (s := S2048x512) (k0_off4 k) S8x512.size (k0_off4_inb k), k0_pay8 v21 v223 (k0_pay111 v225_0 v225_1 v270 v273 v274 v351 v354 v360 v361 c7_i32_98) (k0_pay112 v225_1 v270 v273 v274 v351 v354 v360 v361 c7_i32_98) acc.1 acc.2.1 (View.readAt (Elt Ideal) arg18.view (Rect.unit (s := S2048x512) (k0_off4 k) S8x512.size (k0_off4_inb k)).toLoadRect f)⟩] : List (View.Piece (Elt Ideal) S2048x512 .f32)),
         ([⟨Rect.unit (s := S2048x512) (k0_off4 k) S8x512.size (k0_off4_inb k), k0_pay9 v21 v223 (k0_pay111 v225_0 v225_1 v270 v273 v274 v351 v354 v360 v361 c7_i32_98) (k0_pay112 v225_1 v270 v273 v274 v351 v354 v360 v361 c7_i32_98) acc.1 acc.2.1 (View.readAt (Elt Ideal) arg19.view (Rect.unit (s := S2048x512) (k0_off4 k) S8x512.size (k0_off4_inb k)).toLoadRect g)⟩] : List (View.Piece (Elt Ideal) S2048x512 .f32))) := by
  unfold tripR_k0_t4 tripL_k0_t4 trip_k0_t4
  exact ⟨rfl, rfl⟩

/-! ### What the loops leave in the rows -/

/-- The rows after `k` trips of the first loop: row `8t + s` holds segment `s`, element `t`. -/
def seg1 (L : Fin 512 → ℂ) (B : ℕ → Fin 512 → ℂ) (k : ℕ) (r : ℕ) (p : Fin 512) : ℂ :=
  if r / 8 < k then scan (L p) (fun t => B (8 * t + r % 8) p) (r / 8 + 1) else B r p

/-- The rows after `k` trips of the second loop: the carry `C` added with its decay. -/
def seg2 (L : Fin 512 → ℂ) (C : ℕ → Fin 512 → ℂ) (B : ℕ → Fin 512 → ℂ) (k : ℕ) (r : ℕ) (p : Fin 512) : ℂ :=
  if r / 8 < k then B r p + L p ^ (r / 8 + 1) * C (r % 8) p else B r p

/-- The rows after `k` trips of the third loop, which runs from the last element of every segment. -/
def seg3 (M : Fin 512 → ℂ) (D : ℕ → Fin 512 → ℂ) (k : ℕ) (r : ℕ) (p : Fin 512) : ℂ :=
  if 255 - r / 8 < k then scan (M p) (fun t => D (8 * (255 - t) + r % 8) p) (256 - r / 8) else D r p

/-- The rows after `k` trips of the fourth loop. -/
def seg4 (M : Fin 512 → ℂ) (C : ℕ → Fin 512 → ℂ) (D : ℕ → Fin 512 → ℂ) (k : ℕ) (r : ℕ) (p : Fin 512) : ℂ :=
  if 255 - r / 8 < k then D r p + M p ^ (256 - r / 8) * C (r % 8) p else D r p

/-- What the fourth loop adds to the gradient of the eigenvalues at trip `t`. -/
def term4 (M : Fin 512 → ℂ) (C : ℕ → Fin 512 → ℂ) (D H : ℕ → Fin 512 → ℂ) (s : ℕ) (p : Fin 512) (t : ℕ) : ℂ :=
  if t < 255 then (starRingEnd ℂ) (H (8 * (254 - t) + s) p) * (D (8 * (255 - t) + s) p + M p ^ (t + 1) * C s p) else 0

/-- The first loop: every segment from zero. -/
theorem loop1 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (v18 v22 : Vec Ideal S1x512 .f32)
    (G : BufTy.Contents (Elt Ideal) arg16.view.ty) (G' : BufTy.Contents (Elt Ideal) arg17.view.ty) (init : FVec Ideal S8x512 .f32 × FVec Ideal S8x512 .f32)
    {L : Fin 512 → ℂ} {B : ℕ → Fin 512 → ℂ} (hl : CV (k0_pay17 v18) (k0_pay18 v22) fun _ p => L p)
    (hG : CV (arg16.view.read (Elt Ideal) G) (arg17.view.read (Elt Ideal) G') fun r : Fin 2048 => B r.val)
    (hi : CV init.1 init.2 fun _ _ => 0) (k : ℕ) (hk : k ≤ 256) :
    CV (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).1.1 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).1.2 (fun (s : Fin 8) p => scan (L p) (fun t => B (8 * t + s.val) p) k)
    ∧ CV (arg16.view.read (Elt Ideal) (arg16.view.writes (Elt Ideal) G (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).2.1))
      (arg17.view.read (Elt Ideal) (arg17.view.writes (Elt Ideal) G' (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).2.2)) fun r : Fin 2048 => seg1 L B k r.val := by
  induction k with
  | zero => exact ⟨hi, hG.congr fun r p => by simp [seg1]⟩
  | succ k ih =>
    obtain ⟨h1, h2⟩ := ih (by omega)
    have hs := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init (⟨k, hk⟩ : Fin k0_t1_loop.trips)
    obtain ⟨e1, e2⟩ := trip1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 (⟨k, hk⟩ : Fin k0_t1_loop.trips) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).1
      (arg16.view.writes (Elt Ideal) G (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).2.1) (arg17.view.writes (Elt Ideal) G' (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).2.2)
    have hs' := hs.trans (congrArg₂ (fun x y => (x, y.1 ++ (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).2.1, y.2 ++ (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v22 G G' init k).2.2)) e1 e2)
    have hrow := CV.rows arg16.view arg17.view h2 (off1_eq ⟨k, hk⟩) (k0_off1_inb _) (k0_off1_inb _)
    have hst : (⟨k, hk⟩ : Fin k0_t1_loop.trips).val = k := rfl
    simp only [hst] at hs'
    rw [hs']
    have hnew := ((hl.mul h1).add hrow).congr (z' := fun (s : Fin 8) p => scan (L p) (fun t => B (8 * t + s.val) p) (k + 1)) fun s p => by
      have := s.isLt
      show _ + seg1 L B k (8 * k + s.val) p = _
      rw [seg1, if_neg (by omega), scan_succ]
    refine ⟨hnew, ?_⟩
    refine CV.put arg16.view arg17.view h2
      (by intro s p; unfold k0_pay22 k0_pay23; simp only [shapeCast_self]; exact hnew s p) (off1_eq ⟨k, hk⟩) _ _ ?_ ?_
    · intro s p
      have := s.isLt
      show seg1 L B (k + 1) (8 * k + s.val) p = _
      have e1 : (8 * k + s.val) / 8 = k := by omega
      have e2 : (8 * k + s.val) % 8 = s.val := by omega
      rw [seg1, e1, e2, if_pos (by omega)]
    · intro r p hr ho
      have ho' : r < 8 * k ∨ 8 * k + 8 ≤ r := ho
      unfold seg1
      by_cases h : r / 8 < k
      · rw [if_pos h, if_pos (by omega)]
      · rw [if_neg h, if_neg (by omega)]

/-- The second loop: every segment given the state it starts from. -/
theorem loop2 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (v5 : FVec Ideal S2048x128 .bf16) (v21 v25 v26 : FVec Ideal S8x512 .f32) (v77 : IVec S8x512 32) (v170 v173 v181 v183 : FVec Ideal S8x512 .f32) (v184 : IVec S8x512 32)
    (G : BufTy.Contents (Elt Ideal) arg16.view.ty) (G' : BufTy.Contents (Elt Ideal) arg17.view.ty) (init : FVec Ideal S8x512 .f32 × FVec Ideal S8x512 .f32)
    {L : Fin 512 → ℂ} {B C : ℕ → Fin 512 → ℂ} (hl : CV v21 v25 fun _ p => L p)
    (hC : CV (k0_pay61 v77 v170 v181 v184) (k0_pay62 v77 v173 v183) fun (s : Fin 8) p => C s.val p)
    (hG : CV (arg16.view.read (Elt Ideal) G) (arg17.view.read (Elt Ideal) G') fun r : Fin 2048 => B r.val)
    (hi : CV init.1 init.2 fun _ _ => 1) (k : ℕ) (hk : k ≤ 256) :
    CV (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).1.1 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).1.2 (fun (_ : Fin 8) p => L p ^ k)
    ∧ CV (arg16.view.read (Elt Ideal) (arg16.view.writes (Elt Ideal) G (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).2.1))
      (arg17.view.read (Elt Ideal) (arg17.view.writes (Elt Ideal) G' (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).2.2)) fun r : Fin 2048 => seg2 L C B k r.val := by
  induction k with
  | zero => exact ⟨hi.congr fun s p => by simp, hG.congr fun r p => by simp [seg2]⟩
  | succ k ih =>
    obtain ⟨h1, h2⟩ := ih (by omega)
    have hs := st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init (⟨k, hk⟩ : Fin k0_t2_loop.trips)
    obtain ⟨e1, e2⟩ := trip2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 (⟨k, hk⟩ : Fin k0_t2_loop.trips) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).1
      (arg16.view.writes (Elt Ideal) G (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).2.1) (arg17.view.writes (Elt Ideal) G' (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).2.2)
    have hs' := hs.trans (congrArg₂ (fun x y => (x, y.1 ++ (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).2.1, y.2 ++ (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v26 v77 v170 v173 v181 v183 v184 G G' init k).2.2)) e1 e2)
    have hrow := CV.rows arg16.view arg17.view h2 (off2_eq ⟨k, hk⟩) (k0_off2_inb _) (k0_off2_inb _)
    have hst : (⟨k, hk⟩ : Fin k0_t2_loop.trips).val = k := rfl
    simp only [hst] at hs'
    rw [hs']
    have hpw := (hl.mul h1).congr (z' := fun (_ : Fin 8) p => L p ^ (k + 1)) fun s p => by rw [pow_succ, mul_comm]
    have hnew := hrow.add (hpw.mul hC)
    refine ⟨hpw, ?_⟩
    refine CV.put arg16.view arg17.view h2
      (by intro s p; unfold k0_pay66 k0_pay67; simp only [shapeCast_self]; exact hnew s p) (off2_eq ⟨k, hk⟩) _ _ ?_ ?_
    · intro s p
      have := s.isLt
      show seg2 L C B (k + 1) (8 * k + s.val) p = seg2 L C B k (8 * k + s.val) p + _
      have e1 : (8 * k + s.val) / 8 = k := by omega
      have e2 : (8 * k + s.val) % 8 = s.val := by omega
      rw [seg2, seg2, e1, e2, if_pos (by omega), if_neg (by omega)]
    · intro r p hr ho
      have ho' : r < 8 * k ∨ 8 * k + 8 ≤ r := ho
      unfold seg2
      by_cases h : r / 8 < k
      · rw [if_pos h, if_pos (by omega)]
      · rw [if_neg h, if_neg (by omega)]

/-- The third loop: every segment from zero, backwards, with the conjugate. -/
theorem loop3 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (v5 : FVec Ideal S2048x128 .bf16) (v21 v25 : FVec Ideal S8x512 .f32) (v213 : Vec Ideal S1x512x128 .bf16)
    (G : BufTy.Contents (Elt Ideal) arg18.view.ty) (G' : BufTy.Contents (Elt Ideal) arg19.view.ty) (init : FVec Ideal S8x512 .f32 × FVec Ideal S8x512 .f32)
    {M : Fin 512 → ℂ} {D : ℕ → Fin 512 → ℂ} (hl : CV v21 (k0_pay73 v25) fun _ p => M p)
    (hG : CV (arg18.view.read (Elt Ideal) G) (arg19.view.read (Elt Ideal) G') fun r : Fin 2048 => D r.val)
    (hi : CV init.1 init.2 fun _ _ => 0) (k : ℕ) (hk : k ≤ 256) :
    CV (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).1.1 (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).1.2 (fun (s : Fin 8) p => scan (M p) (fun t => D (8 * (255 - t) + s.val) p) k)
    ∧ CV (arg18.view.read (Elt Ideal) (arg18.view.writes (Elt Ideal) G (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).2.1))
      (arg19.view.read (Elt Ideal) (arg19.view.writes (Elt Ideal) G' (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).2.2)) fun r : Fin 2048 => seg3 M D k r.val := by
  induction k with
  | zero => exact ⟨hi, hG.congr fun r p => by simp [seg3]⟩
  | succ k ih =>
    obtain ⟨h1, h2⟩ := ih (by omega)
    have hs := st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init (⟨k, hk⟩ : Fin k0_t3_loop.trips)
    obtain ⟨e1, e2⟩ := trip3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 (⟨k, hk⟩ : Fin k0_t3_loop.trips) (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).1
      (arg18.view.writes (Elt Ideal) G (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).2.1) (arg19.view.writes (Elt Ideal) G' (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).2.2)
    have hs' := hs.trans (congrArg₂ (fun x y => (x, y.1 ++ (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).2.1, y.2 ++ (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v21 v25 v213 G G' init k).2.2)) e1 e2)
    have hrow := CV.rows arg18.view arg19.view h2 (off3_eq ⟨k, hk⟩) (k0_off3_inb _) (k0_off3_inb _)
    have hst : (⟨k, hk⟩ : Fin k0_t3_loop.trips).val = k := rfl
    simp only [hst] at hs'
    rw [hs']
    have hnew := ((hl.mul h1).add hrow).congr (z' := fun (s : Fin 8) p => scan (M p) (fun t => D (8 * (255 - t) + s.val) p) (k + 1)) fun s p => by
      have := s.isLt
      show _ + seg3 M D k (8 * (255 - k) + s.val) p = _
      rw [seg3, if_neg (by omega), scan_succ]
    refine ⟨hnew, ?_⟩
    refine CV.put arg18.view arg19.view h2
      (by intro s p; unfold k0_pay76 k0_pay77; simp only [shapeCast_self]; exact hnew s p) (off3_eq ⟨k, hk⟩) _ _ ?_ ?_
    · intro s p
      have := s.isLt
      show seg3 M D (k + 1) (8 * (255 - k) + s.val) p = _
      have e1 : (8 * (255 - k) + s.val) / 8 = 255 - k := by omega
      have e2 : (8 * (255 - k) + s.val) % 8 = s.val := by omega
      have e3 : 256 - (255 - k) = k + 1 := by omega
      rw [seg3, e1, e2, e3, if_pos (by omega)]
    · intro r p hr ho
      have ho' : r < 8 * (255 - k) ∨ 8 * (255 - k) + 8 ≤ r := ho
      unfold seg3
      by_cases h : 255 - r / 8 < k
      · rw [if_pos h, if_pos (by omega)]
      · rw [if_neg h, if_neg (by omega)]

/-- The fourth loop: the states of the backward recurrence, and the sums of the eigenvalue gradient. -/
theorem loop4 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (v21 v221 v223 v225_0 v225_1 v270 v273 : FVec Ideal S8x512 .f32) (v274 : IVec S8x512 32) (v351 v354 v360 v361 : FVec Ideal S8x512 .f32) (c7_i32_98 : BitVec 32) (X_arg16 : BufTy.Contents (Elt Ideal) arg16.view.ty) (X_arg17 : BufTy.Contents (Elt Ideal) arg17.view.ty)
    (G : BufTy.Contents (Elt Ideal) arg18.view.ty) (G' : BufTy.Contents (Elt Ideal) arg19.view.ty) (init : FVec Ideal S8x512 .f32 × FVec Ideal S8x512 .f32 × FVec Ideal S8x512 .f32 × FVec Ideal S8x512 .f32)
    {M : Fin 512 → ℂ} {D C H : ℕ → Fin 512 → ℂ} (hl : CV v21 v223 fun _ p => M p)
    (hC : CV (k0_pay111 v225_0 v225_1 v270 v273 v274 v351 v354 v360 v361 c7_i32_98)
      (k0_pay112 v225_1 v270 v273 v274 v351 v354 v360 v361 c7_i32_98) fun (s : Fin 8) p => C s.val p)
    (hX : CV (arg16.view.read (Elt Ideal) X_arg16) (arg17.view.read (Elt Ideal) X_arg17) fun r : Fin 2048 => H r.val)
    (hG : CV (arg18.view.read (Elt Ideal) G) (arg19.view.read (Elt Ideal) G') fun r : Fin 2048 => D r.val)
    (hi : CV init.1 init.2.1 fun _ _ => 1) (hj : CV init.2.2.1 init.2.2.2 fun _ _ => 0) (k : ℕ) (hk : k ≤ 256) :
    (CV (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).1.1 (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).1.2.1 (fun (_ : Fin 8) p => M p ^ k) ∧ CV (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).1.2.2.1 (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).1.2.2.2 (fun (s : Fin 8) p => ∑ t ∈ Finset.range k, term4 M C D H s.val p t))
    ∧ CV (arg18.view.read (Elt Ideal) (arg18.view.writes (Elt Ideal) G (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).2.1))
      (arg19.view.read (Elt Ideal) (arg19.view.writes (Elt Ideal) G' (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).2.2)) fun r : Fin 2048 => seg4 M C D k r.val := by
  induction k with
  | zero => exact ⟨⟨hi.congr fun s p => by simp, hj.congr fun s p => by simp⟩, hG.congr fun r p => by simp [seg4]⟩
  | succ k ih =>
    obtain ⟨h1, h2⟩ := ih (by omega)
    have hs := st_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init (⟨k, hk⟩ : Fin k0_t4_loop.trips)
    obtain ⟨e1, e2⟩ := trip4_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 (⟨k, hk⟩ : Fin k0_t4_loop.trips) (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).1
      (arg18.view.writes (Elt Ideal) G (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).2.1) (arg19.view.writes (Elt Ideal) G' (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).2.2)
    have hs' := hs.trans (congrArg₂ (fun x y => (x, y.1 ++ (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).2.1, y.2 ++ (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v21 v221 v223 v225_0 v225_1 v270 v273 v274 v351 v354 v360 v361 c7_i32_98 X_arg16 X_arg17 G G' init k).2.2)) e1 e2)
    have hrow := CV.rows arg18.view arg19.view h2 (off4_eq ⟨k, hk⟩) (k0_off4_inb _) (k0_off4_inb _)
    have hst : (⟨k, hk⟩ : Fin k0_t4_loop.trips).val = k := rfl
    simp only [hst] at hs'
    rw [hs']
    have hpw := (hl.mul h1.1).congr (z' := fun (_ : Fin 8) p => M p ^ (k + 1)) fun s p => by rw [pow_succ, mul_comm]
    have hnew := hrow.add (hpw.mul hC)
    have hprev := CV.rows arg16.view arg17.view hX (off5_eq ⟨k, hk⟩) (k0_off5_inb _) (k0_off5_inb _)
    have hz : ∀ j : S8x512.Idx, (broadcast S8x512 (Scalar.ofBits (F := Ideal) .f32 0x00000000#32) : FVec Ideal S8x512 .f32) j = 0 :=
      fun j => Ideal.ofBits_zero_f32
    have hg : Scalar.cmpi .sgt (Scalar.subi 255#32 (Scf.iv 0#32 1#32 k)) 0#32 = if k < 255 then 1#1 else 0#1 := guard_eq ⟨k, hk⟩
    refine ⟨⟨hpw, ?_⟩, ?_⟩
    · by_cases h : k < 255
      · have hadd := (h1.2.add (hprev.conjMul hnew)).congr (z' := fun (s : Fin 8) p => ∑ t ∈ Finset.range (k + 1), term4 M C D H s.val p t)
          fun s p => by
            have := s.isLt
            rw [Finset.sum_range_succ]
            show _ + (starRingEnd ℂ) (H (8 * (254 - k) + s.val) p) * (seg4 M C D k (8 * (255 - k) + s.val) p + _) = _ + term4 M C D H s.val p k
            rw [term4, if_pos h, seg4, if_neg (by omega)]
        unfold k0_pay10 k0_pay114
        dsimp only
        simp only [hst, hg, if_pos h]
        exact hadd
      · have hadd := (h1.2.add (CV.zero hz hz)).congr (z' := fun (s : Fin 8) p => ∑ t ∈ Finset.range (k + 1), term4 M C D H s.val p t)
          fun s p => by
            rw [Finset.sum_range_succ, term4, if_neg h]
        unfold k0_pay10 k0_pay114
        dsimp only
        simp only [hst, hg, if_neg h]
        exact hadd
    refine CV.put arg18.view arg19.view h2
      (by intro s p; unfold k0_pay8 k0_pay9; simp only [shapeCast_self]; exact hnew s p) (off4_eq ⟨k, hk⟩) _ _ ?_ ?_
    · intro s p
      have := s.isLt
      show seg4 M C D (k + 1) (8 * (255 - k) + s.val) p = seg4 M C D k (8 * (255 - k) + s.val) p + _
      have e1 : (8 * (255 - k) + s.val) / 8 = 255 - k := by omega
      have e2 : (8 * (255 - k) + s.val) % 8 = s.val := by omega
      have e3 : 256 - (255 - k) = k + 1 := by omega
      rw [seg4, seg4, e1, e2, e3, if_pos (by omega), if_neg (by omega)]
    · intro r p hr ho
      have ho' : r < 8 * (255 - k) ∨ 8 * (255 - k) + 8 ≤ r := ho
      unfold seg4
      by_cases h : 255 - r / 8 < k
      · rw [if_pos h, if_pos (by omega)]
      · rw [if_neg h, if_neg (by omega)]

end Cert.KernelIdeal.Gen
-- ==== Proof.Segments.lean ====
module

public import proofs.«01_k».proof.Proof.KLoops

/-! The rows hold the times eight segments at a time: row `8t + s` is time `256s + t`. -/

@[expose] public section

noncomputable section

namespace Cert.KernelIdeal.Gen

open Cert.Rec Finset

/-- The row of a time. -/
def rowOf (n : ℕ) : ℕ := 8 * (n % 256) + n / 256

/-- The time of a row. -/
def timeOf (r : ℕ) : ℕ := 256 * (r % 8) + r / 8

theorem rowOf_timeOf (r : ℕ) (h : r < 2048) : rowOf (timeOf r) = r := by
  unfold rowOf timeOf; omega

theorem timeOf_rowOf (n : ℕ) (h : n < 2048) : timeOf (rowOf n) = n := by
  unfold rowOf timeOf; omega

theorem rowOf_lt (n : ℕ) (h : n < 2048) : rowOf n < 2048 := by
  unfold rowOf; omega

theorem timeOf_lt (r : ℕ) (h : r < 2048) : timeOf r < 2048 := by
  unfold timeOf; omega

/-- Rows and times are the same numbers in another order. -/
def rowEquiv : Fin 2048 ≃ Fin 2048 where
  toFun n := ⟨rowOf n.val, rowOf_lt n.val n.isLt⟩
  invFun r := ⟨timeOf r.val, timeOf_lt r.val r.isLt⟩
  left_inv n := Fin.ext (timeOf_rowOf n.val n.isLt)
  right_inv r := Fin.ext (rowOf_timeOf r.val r.isLt)

variable {A : Type*} [AddCommMonoid A]

/-- A sum over the rows is the sum over the times. -/
theorem sum_rows (f : Fin 2048 → A) : ∑ r, f r = ∑ n, f (rowEquiv n) := (Equiv.sum_comp rowEquiv f).symm

/-- A sum over the times, segment by segment and last element first. -/
theorem sum_segments (f : ℕ → A) : ∑ s : Fin 8, ∑ t ∈ range 256, f (256 * s.val + (255 - t)) = ∑ n ∈ range 2048, f n := by
  have h : ∀ k : ℕ, ∑ s ∈ range k, ∑ t ∈ range 256, f (256 * s + (255 - t)) = ∑ n ∈ range (256 * k), f n := by
    intro k
    induction k with
    | zero => simp
    | succ k ih =>
      rw [sum_range_succ, ih, Nat.mul_succ, sum_range_add, ← sum_range_reflect (fun t => f (256 * k + t)) 256]
  rw [← h 8, Finset.sum_range]

/-- The states at the times, from the rows of the inputs. -/
def fwdT (B : ℕ → Fin 512 → ℂ) (p : Fin 512) (n : ℕ) : ℂ := B (rowOf n) p

/-- The cotangents at the times, last time first. -/
def bwdT (D : ℕ → Fin 512 → ℂ) (p : Fin 512) (n : ℕ) : ℂ := D (rowOf (2047 - n)) p

/-- The state a segment starts from. -/
def fwdC (L : Fin 512 → ℂ) (B : ℕ → Fin 512 → ℂ) (s : ℕ) (p : Fin 512) : ℂ := scan (L p) (fwdT B p) (256 * s)

/-- The cotangent a segment starts from. -/
def bwdC (M : Fin 512 → ℂ) (D : ℕ → Fin 512 → ℂ) (s : ℕ) (p : Fin 512) : ℂ := scan (M p) (bwdT D p) (256 * (7 - s))

theorem fwdC_succ (L : Fin 512 → ℂ) (B : ℕ → Fin 512 → ℂ) (s : ℕ) (p : Fin 512) (h : s < 7) :
    scan (L p) (fun t => B (8 * t + s) p) 256 + L p ^ 256 * fwdC L B s p = fwdC L B (s + 1) p := by
  unfold fwdC
  rw [Nat.mul_succ, scan_add]
  congr 1
  refine scan_congr _ _ fun t ht => ?_
  unfold fwdT rowOf
  congr 1; omega

theorem bwdC_succ (M : Fin 512 → ℂ) (D : ℕ → Fin 512 → ℂ) (s : ℕ) (p : Fin 512) (h : s < 7) :
    scan (M p) (fun t => D (8 * (255 - t) + (s + 1)) p) 256 + M p ^ 256 * bwdC M D (s + 1) p = bwdC M D s p := by
  unfold bwdC
  rw [show 256 * (7 - s) = 256 * (7 - (s + 1)) + 256 by omega, scan_add]
  congr 1
  refine scan_congr _ _ fun t ht => ?_
  unfold bwdT rowOf
  congr 1; omega

/-- The states in the rows after the second loop. -/
theorem fwd_rows (L : Fin 512 → ℂ) (B : ℕ → Fin 512 → ℂ) (r : ℕ) (hr : r < 2048) (p : Fin 512) :
    seg2 L (fwdC L B) (seg1 L B 256) 256 r p = scan (L p) (fwdT B p) (timeOf r + 1) := by
  unfold seg2 seg1 fwdC
  rw [if_pos (by omega), if_pos (by omega), show timeOf r + 1 = 256 * (r % 8) + (r / 8 + 1) by unfold timeOf; omega, scan_add _ (fwdT B p)]
  congr 1
  refine scan_congr _ _ fun t ht => ?_
  unfold fwdT rowOf
  congr 1; omega

/-- The cotangents in the rows after the fourth loop. -/
theorem bwd_rows (M : Fin 512 → ℂ) (D : ℕ → Fin 512 → ℂ) (r : ℕ) (hr : r < 2048) (p : Fin 512) :
    seg4 M (bwdC M D) (seg3 M D 256) 256 r p = scan (M p) (bwdT D p) (2048 - timeOf r) := by
  unfold seg4 seg3 bwdC
  rw [if_pos (by omega), if_pos (by omega), show 2048 - timeOf r = 256 * (7 - r % 8) + (256 - r / 8) by unfold timeOf; omega, scan_add _ (bwdT D p)]
  congr 1
  refine scan_congr _ _ fun t ht => ?_
  unfold bwdT rowOf
  congr 1; omega

/-- The state one row block before the rows `0 … 7`: the last block one segment on, and zero before the first. -/
def prevRow (H : ℕ → Fin 512 → ℂ) (s : ℕ) (p : Fin 512) : ℂ := if s = 0 then 0 else H (2040 + (s - 1)) p

/-- The gradient of the eigenvalues: the terms of the fourth loop and those of its first rows, over the segments. -/
theorem lam_sum (L M : Fin 512 → ℂ) (B D : ℕ → Fin 512 → ℂ) (p : Fin 512) :
    ∑ s : Fin 8, (∑ t ∈ range 256, term4 M (bwdC M D) (seg3 M D 256) (fun r p => seg2 L (fwdC L B) (seg1 L B 256) 256 r p) s.val p t
        + (starRingEnd ℂ) (prevRow (fun r p => seg2 L (fwdC L B) (seg1 L B 256) 256 r p) s.val p) * seg4 M (bwdC M D) (seg3 M D 256) 256 s.val p)
      = ∑ n ∈ range 2048, (starRingEnd ℂ) (scan (L p) (fwdT B p) n) * scan (M p) (bwdT D p) (2048 - n) := by
  rw [← sum_segments fun n => (starRingEnd ℂ) (scan (L p) (fwdT B p) n) * scan (M p) (bwdT D p) (2048 - n)]
  refine Finset.sum_congr rfl fun s _ => ?_
  have hs := s.isLt
  rw [sum_range_succ, sum_range_succ (n := 255)]
  have h0 : term4 M (bwdC M D) (seg3 M D 256) (fun r p => seg2 L (fwdC L B) (seg1 L B 256) 256 r p) s.val p 255 = 0 := by
    unfold term4; rw [if_neg (by omega)]
  rw [h0, add_zero]
  refine congrArg₂ (· + ·) (Finset.sum_congr rfl fun t ht => ?_) (congrArg₂ (· * ·) (congrArg _ ?_) ?_)
  · have ht' : t < 255 := mem_range.mp ht
    unfold term4
    rw [if_pos ht']
    refine congrArg₂ (· * ·) (congrArg _ ?_) ?_
    · show seg2 L (fwdC L B) (seg1 L B 256) 256 (8 * (254 - t) + s.val) p = _
      rw [fwd_rows L B _ (by omega)]
      congr 1; unfold timeOf; omega
    · have h := bwd_rows M D (8 * (255 - t) + s.val) (by omega) p
      rw [show 2048 - (256 * s.val + (255 - t)) = 2048 - timeOf (8 * (255 - t) + s.val) by unfold timeOf; omega, ← h]
      unfold seg4
      rw [if_pos (by omega), show 256 - (8 * (255 - t) + s.val) / 8 = t + 1 by omega, show (8 * (255 - t) + s.val) % 8 = s.val by omega]
  · unfold prevRow
    by_cases h : s.val = 0
    · rw [if_pos h, h]; rfl
    · rw [if_neg h]
      show seg2 L (fwdC L B) (seg1 L B 256) 256 (2040 + (s.val - 1)) p = _
      rw [fwd_rows L B _ (by omega)]
      congr 1; unfold timeOf; omega
  · rw [bwd_rows M D _ (by omega)]
    congr 1; unfold timeOf; omega

end Cert.KernelIdeal.Gen
-- ==== Proof.KBody.lean ====
module

public import proofs.«01_k».proof.Proof.KCarry
public import proofs.«01_k».proof.Proof.KVec
public import proofs.«01_k».proof.Proof.Segments
public import Idealize.ShloMosaic.Lib.VecWindow

/-! What one grid point's body leaves in its outputs, for real inputs. -/

@[expose] public section

noncomputable section

namespace Cert.KernelIdeal.Gen

open Idealize.ShloMosaic Idealize.ShloMosaic.TcCoe Idealize.ShloMosaic.Tactic
open Cert.Rec

set_option maxRecDepth 16384
set_option pp.maxSteps 60

attribute [local irreducible] st_k0_t1 st_k0_t2 st_k0_t3 st_k0_t4

/-- A whole argument read back. -/
theorem whole_read {κ : Kind} {sp : Space} {s : Shape} {e : EltTy} {m : Memref sig κ sp s e} (h : m.IsWhole) (X : s.Idx → Elt Ideal e)
    {off : Fin s.rank → ℕ} (inb : ∀ a, off a + s.size a ≤ s.size a) :
    View.readAt (Elt Ideal) m.view (Rect.unit off s.size inb).toLoadRect (h.unread X) = X := by
  rw [View.readAt_full, h.read_unread]

/-- Two lists of writes, one after the other. -/
theorem cv_append (v v' : View sig .tc .vmem S2048x512 .f32) {f : v.ty.Contents (Elt Ideal)} {f' : v'.ty.Contents (Elt Ideal)}
    {L1 L2 L1' L2' : List (View.Piece (Elt Ideal) S2048x512 .f32)} {z : Fin 2048 → Fin 512 → ℂ}
    (h : CV (v.read (Elt Ideal) (v.writes (Elt Ideal) (v.writes (Elt Ideal) f L2) L1)) (v'.read (Elt Ideal) (v'.writes (Elt Ideal) (v'.writes (Elt Ideal) f' L2') L1')) z) :
    CV (v.read (Elt Ideal) (v.writes (Elt Ideal) f (L1 ++ L2))) (v'.read (Elt Ideal) (v'.writes (Elt Ideal) f' (L1' ++ L2'))) z := by
  rw [View.writes_append, View.writes_append]
  exact h

/-- The driven inputs by row. -/
def inRow (U : ℕ → Fin 128 → ℝ) (b : Fin 128 → Fin 512 → ℂ) (r : ℕ) (p : Fin 512) : ℂ := ∑ k, (U r k : ℂ) * b k p

/-- The cotangents by row. -/
def outRow (Y : ℕ → Fin 128 → ℝ) (e : Fin 512 → Fin 128 → ℂ) (r : ℕ) (p : Fin 512) : ℂ := ∑ k, (Y r k : ℂ) * (starRingEnd ℂ) (e p k)

/-- The states by row. -/
def hRow (L : Fin 512 → ℂ) (B : ℕ → Fin 512 → ℂ) (r : ℕ) (p : Fin 512) : ℂ := seg2 L (fwdC L B) (seg1 L B 256) 256 r p

/-- The carried cotangents by row. -/
def gRow (M : Fin 512 → ℂ) (D : ℕ → Fin 512 → ℂ) (r : ℕ) (p : Fin 512) : ℂ := seg4 M (bwdC M D) (seg3 M D 256) 256 r p

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (x0 : Vec Ideal S2048x128 .f32) (x1 : Vec Ideal S2048x128 .f32) (x2 : Vec Ideal S2x512 .f32) (x3 : Vec Ideal S1x128x512 .bf16) (x4 : Vec Ideal S1x128x512 .bf16) (x5 : Vec Ideal S1x512x128 .bf16) (x6 : Vec Ideal S1x512x128 .bf16) (x7 : Vec Ideal S1x128 .f32)
variable {U Y : ℕ → Fin 128 → ℝ} {L : Fin 512 → ℂ} {b : Fin 128 → Fin 512 → ℂ} {e : Fin 512 → Fin 128 → ℂ} {d : Fin 128 → ℝ}

theorem w_lam (hl : ∀ p, x2 (ix2 0 p) = ((L p).re : EReal) ∧ x2 (ix2 1 p) = ((L p).im : EReal)) : CV (kernelRun0_A.sl.r_4 (F := Ideal) c arg3 harg3 x2) (kernelRun0_A.sl.r_5 (F := Ideal) c arg3 harg3 x2) fun (_ : Fin 8) p => L p := by
  intro s p
  unfold kernelRun0_A.sl.r_4 kernelRun0_A.sl.r_5 k0_pay17 k0_pay18
  constructor
  · pointwise
    refine (congrFun (harg3.read_unread x2) _).trans (Eq.trans (congrArg x2 ?_) (hl p).1)
    exact funext (Fin.forall_fin_two.mpr ⟨Fin.ext (by simp), Fin.ext (by simp)⟩)
  · pointwise
    refine (congrFun (harg3.read_unread x2) _).trans (Eq.trans (congrArg x2 ?_) (hl p).2)
    exact funext (Fin.forall_fin_two.mpr ⟨Fin.ext (by simp), Fin.ext (by simp)⟩)

theorem w_in (hu : ∀ (r : Fin 2048) k, x0 (ix2 r k) = (U r.val k : EReal)) (hb : ∀ k p, x3 (ix3 0 k p) = ((b k p).re : EReal) ∧ x4 (ix3 0 k p) = ((b k p).im : EReal)) :
    CV (arg16.view.read (Elt Ideal) (arg16.view.writes (Elt Ideal) arg16.view.junk ((kernelRun0_A.sl.HS0_1 (F := Ideal) c arg1 harg1 arg4 harg4 x0 x3)))) (arg17.view.read (Elt Ideal) (arg17.view.writes (Elt Ideal) arg17.view.junk ((kernelRun0_A.sl.HS1_1 (F := Ideal) c arg1 harg1 arg5 harg5 x0 x4)))) fun r : Fin 2048 => inRow U b r.val := by
  unfold kernelRun0_A.sl.HS0_1 kernelRun0_A.sl.HS1_1
  rw [View.read_writes_full, View.read_writes_full, whole_read, whole_read, whole_read]
  exact cv_in hu hb

theorem w_out (hy : ∀ (r : Fin 2048) k, x1 (ix2 r k) = (Y r.val k : EReal)) (hc : ∀ p k, x5 (ix3 0 p k) = ((e p k).re : EReal) ∧ x6 (ix3 0 p k) = ((e p k).im : EReal)) :
    CV (arg18.view.read (Elt Ideal) (arg18.view.writes (Elt Ideal) arg18.view.junk ((kernelRun0_A.sl.HS2_1 (F := Ideal) c arg2 harg2 arg6 harg6 x1 x5)))) (arg19.view.read (Elt Ideal) (arg19.view.writes (Elt Ideal) arg19.view.junk ((kernelRun0_A.sl.HS3_1 (F := Ideal) c arg2 harg2 arg7 harg7 x1 x6)))) fun r : Fin 2048 => outRow Y e r.val := by
  unfold kernelRun0_A.sl.HS2_1 kernelRun0_A.sl.HS3_1 kernelRun0_A.sl.r_3 kernelRun0_A.sl.r_21
  rw [View.read_writes_full, View.read_writes_full, whole_read, whole_read, whole_read]
  exact cv_out hy hc

theorem w_t1 (hu : ∀ (r : Fin 2048) k, x0 (ix2 r k) = (U r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) :
    CV (kernelRun0_A.sl.r_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (fun (s : Fin 8) p => scan (L p) (fun t => inRow U b (8 * t + s.val) p) 256)
    ∧ CV (arg16.view.read (Elt Ideal) (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3)))) (arg17.view.read (Elt Ideal) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4)))) fun r : Fin 2048 => seg1 L (inRow U b) 256 r.val := by
  have h := loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19)
    (L := L) (B := inRow U b) (w_lam c arg3 harg3 x2 hl) (w_in c arg1 harg1 arg4 harg4 arg5 harg5 arg16 arg17 x0 x3 x4 hu hb) (CV.zero zero_pay19 zero_pay19) (Scf.trips k0_t1_loop.lb k0_t1_loop.ub k0_t1_loop.st) (by decide)
  exact ⟨h.1, cv_append _ _ h.2⟩

theorem w_t2 (hu : ∀ (r : Fin 2048) k, x0 (ix2 r k) = (U r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) :
    CV (arg16.view.read (Elt Ideal) (arg16.view.writes (Elt Ideal) arg16.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19) (Scf.trips k0_t2_loop.lb k0_t2_loop.ub k0_t2_loop.st)).2.1 ++ ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))))) (arg17.view.read (Elt Ideal) (arg17.view.writes (Elt Ideal) arg17.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19) (Scf.trips k0_t2_loop.lb k0_t2_loop.ub k0_t2_loop.st)).2.2 ++ ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))))) fun r : Fin 2048 => hRow L (inRow U b) r.val := by
  have h1 := w_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4 hu hl hb
  have hc := carry_fwd (S := fwdC L (inRow U b)) (f := fun s p => scan (L p) (fun t => inRow U b (8 * t + s) p) 256) (w_lam c arg3 harg3 x2 hl) (v31 := (kernelRun0_A.sl.r_8 (F := Ideal) c arg3 harg3 x2)) rfl h1.1 (fun p => scan_zero _ _) (fun s p h => fwdC_succ L _ s p h)
  have h := loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19)
    (L := L) (B := seg1 L (inRow U b) 256) (C := fwdC L (inRow U b)) (w_lam c arg3 harg3 x2 hl) hc h1.2 (CV.one one_pay63 zero_pay19) (Scf.trips k0_t2_loop.lb k0_t2_loop.ub k0_t2_loop.st) (by decide)
  exact cv_append _ _ h.2

theorem w_t3 (hy : ∀ (r : Fin 2048) k, x1 (ix2 r k) = (Y r.val k : EReal)) (hl : ∀ p, x2 (ix2 0 p) = ((L p).re : EReal) ∧ x2 (ix2 1 p) = ((L p).im : EReal)) (hc : ∀ p k, x5 (ix3 0 p k) = ((e p k).re : EReal) ∧ x6 (ix3 0 p k) = ((e p k).im : EReal)) :
    CV (kernelRun0_A.sl.r_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (fun (s : Fin 8) p => scan ((starRingEnd ℂ) (L p)) (fun t => outRow Y e (8 * (255 - t) + s.val) p) 256)
    ∧ CV (arg18.view.read (Elt Ideal) (arg18.view.writes (Elt Ideal) arg18.view.junk ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.1 ++ (kernelRun0_A.sl.HS2_1 (F := Ideal) c arg2 harg2 arg6 harg6 x1 x5)))) (arg19.view.read (Elt Ideal) (arg19.view.writes (Elt Ideal) arg19.view.junk ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.2 ++ (kernelRun0_A.sl.HS3_1 (F := Ideal) c arg2 harg2 arg7 harg7 x1 x6)))) fun r : Fin 2048 => seg3 (fun p => (starRingEnd ℂ) (L p)) (outRow Y e) 256 r.val := by
  have h := loop3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72)
    (M := fun p => (starRingEnd ℂ) (L p)) (D := outRow Y e) (CV.conj_lam (w_lam c arg3 harg3 x2 hl)) (w_out c arg2 harg2 arg6 harg6 arg7 harg7 arg18 arg19 x1 x5 x6 hy hc) (CV.zero zero_pay72 zero_pay72) (Scf.trips k0_t3_loop.lb k0_t3_loop.ub k0_t3_loop.st) (by decide)
  exact ⟨h.1, cv_append _ _ h.2⟩

theorem w_t4 (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) :
    (CV (kernelRun0_A.sl.r_38 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) fun (s : Fin 8) p => ∑ t ∈ Finset.range 256, term4 (fun p => (starRingEnd ℂ) (L p)) (bwdC (fun p => (starRingEnd ℂ) (L p)) (outRow Y e)) (seg3 (fun p => (starRingEnd ℂ) (L p)) (outRow Y e) 256) (hRow L (inRow U b)) s.val p t)
    ∧ CV (arg18.view.read (Elt Ideal) (arg18.view.writes (Elt Ideal) arg18.view.junk ((st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_4 (F := Ideal) c arg3 harg3 x2) k0_pay72 (kernelRun0_A.sl.r_22 (F := Ideal) c arg3 harg3 x2) (kernelRun0_A.sl.r_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_28 (F := Ideal) c arg3 harg3 x2) (kernelRun0_A.sl.r_29 (F := Ideal) c arg3 harg3 x2) kernelRun0_A.sl.v274 (kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_35 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_37 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (7#32) (arg16.view.writes (Elt Ideal) arg16.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19) (Scf.trips k0_t2_loop.lb k0_t2_loop.ub k0_t2_loop.st)).2.1 ++ ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3)))) (arg17.view.writes (Elt Ideal) arg17.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19) (Scf.trips k0_t2_loop.lb k0_t2_loop.ub k0_t2_loop.st)).2.2 ++ ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4)))) (arg18.view.writes (Elt Ideal) arg18.view.junk ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.1 ++ (kernelRun0_A.sl.HS2_1 (F := Ideal) c arg2 harg2 arg6 harg6 x1 x5))) (arg19.view.writes (Elt Ideal) arg19.view.junk ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.2 ++ (kernelRun0_A.sl.HS3_1 (F := Ideal) c arg2 harg2 arg7 harg7 x1 x6))) (k0_pay113, k0_pay72, k0_pay72, k0_pay72) (Scf.trips k0_t4_loop.lb k0_t4_loop.ub k0_t4_loop.st)).2.1 ++ ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.1 ++ (kernelRun0_A.sl.HS2_1 (F := Ideal) c arg2 harg2 arg6 harg6 x1 x5))))) (arg19.view.read (Elt Ideal) (arg19.view.writes (Elt Ideal) arg19.view.junk ((st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_4 (F := Ideal) c arg3 harg3 x2) k0_pay72 (kernelRun0_A.sl.r_22 (F := Ideal) c arg3 harg3 x2) (kernelRun0_A.sl.r_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_28 (F := Ideal) c arg3 harg3 x2) (kernelRun0_A.sl.r_29 (F := Ideal) c arg3 harg3 x2) kernelRun0_A.sl.v274 (kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_35 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_37 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (7#32) (arg16.view.writes (Elt Ideal) arg16.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19) (Scf.trips k0_t2_loop.lb k0_t2_loop.ub k0_t2_loop.st)).2.1 ++ ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3)))) (arg17.view.writes (Elt Ideal) arg17.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19) (Scf.trips k0_t2_loop.lb k0_t2_loop.ub k0_t2_loop.st)).2.2 ++ ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4)))) (arg18.view.writes (Elt Ideal) arg18.view.junk ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.1 ++ (kernelRun0_A.sl.HS2_1 (F := Ideal) c arg2 harg2 arg6 harg6 x1 x5))) (arg19.view.writes (Elt Ideal) arg19.view.junk ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.2 ++ (kernelRun0_A.sl.HS3_1 (F := Ideal) c arg2 harg2 arg7 harg7 x1 x6))) (k0_pay113, k0_pay72, k0_pay72, k0_pay72) (Scf.trips k0_t4_loop.lb k0_t4_loop.ub k0_t4_loop.st)).2.2 ++ ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.2 ++ (kernelRun0_A.sl.HS3_1 (F := Ideal) c arg2 harg2 arg7 harg7 x1 x6))))) fun r : Fin 2048 => gRow (fun p => (starRingEnd ℂ) (L p)) (outRow Y e) r.val := by
  have h2 := w_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hu hl hb
  have h3 := w_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6 hy hl hc
  have hl' := CV.conj_lam (w_lam c arg3 harg3 x2 hl)
  have hc' := carry_bwd (S := bwdC (fun p => (starRingEnd ℂ) (L p)) (outRow Y e)) (f := fun s p => scan ((starRingEnd ℂ) (L p)) (fun t => outRow Y e (8 * (255 - t) + s) p) 256) hl' h3.1 (fun p => scan_zero _ _) (fun s p h => bwdC_succ (fun p => (starRingEnd ℂ) (L p)) (outRow Y e) s p h)
  have h := loop4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_4 (F := Ideal) c arg3 harg3 x2) k0_pay72 (kernelRun0_A.sl.r_22 (F := Ideal) c arg3 harg3 x2) (kernelRun0_A.sl.r_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_28 (F := Ideal) c arg3 harg3 x2) (kernelRun0_A.sl.r_29 (F := Ideal) c arg3 harg3 x2) kernelRun0_A.sl.v274 (kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_35 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_36 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (kernelRun0_A.sl.r_37 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x5 x6) (7#32) (arg16.view.writes (Elt Ideal) arg16.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19) (Scf.trips k0_t2_loop.lb k0_t2_loop.ub k0_t2_loop.st)).2.1 ++ ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3)))) (arg17.view.writes (Elt Ideal) arg17.view.junk ((st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) k0_pay19 kernelRun0_A.sl.v77 (kernelRun0_A.sl.r_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) (kernelRun0_A.sl.r_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 x4) k0_pay60 (arg16.view.writes (Elt Ideal) arg16.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.1 ++ (kernelRun0_A.sl.HS0_1 (F := Ideal) c arg1 harg1 arg4 harg4 x0 x3))) (arg17.view.writes (Elt Ideal) arg17.view.junk ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4))) (k0_pay63, k0_pay19) (Scf.trips k0_t2_loop.lb k0_t2_loop.ub k0_t2_loop.st)).2.2 ++ ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg3.view (Rect.unit (s := S2x512) ![0, 0] S1x512.size inb_S2x512_S1x512_0_0).toLoadRect (harg3.unread x2)) (View.readAt (Elt Ideal) arg3.view (Rect.unit (s := S2x512) ![1, 0] S1x512.size inb_S2x512_S1x512_1_0).toLoadRect (harg3.unread x2)) (arg16.view.writes (Elt Ideal) arg16.view.junk ((kernelRun0_A.sl.HS0_1 (F := Ideal) c arg1 harg1 arg4 harg4 x0 x3))) (arg17.view.writes (Elt Ideal) arg17.view.junk ((kernelRun0_A.sl.HS1_1 (F := Ideal) c arg1 harg1 arg5 harg5 x0 x4))) (k0_pay19, k0_pay19) (Scf.trips k0_t1_loop.lb k0_t1_loop.ub k0_t1_loop.st)).2.2 ++ (kernelRun0_A.sl.HS1_1 (F := Ideal) c arg1 harg1 arg5 harg5 x0 x4)))) (arg18.view.writes (Elt Ideal) arg18.view.junk ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.1 ++ (kernelRun0_A.sl.HS2_1 (F := Ideal) c arg2 harg2 arg6 harg6 x1 x5))) (arg19.view.writes (Elt Ideal) arg19.view.junk ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (kernelRun0_A.sl.r_3 (F := Ideal) c arg2 harg2 x1) (kernelRun0_A.sl.r_4 (F := Ideal) c arg3 harg3 x2) (kernelRun0_A.sl.r_5 (F := Ideal) c arg3 harg3 x2) (kernelRun0_A.sl.r_21 (F := Ideal) c arg7 harg7 x6) (arg18.view.writes (Elt Ideal) arg18.view.junk ((kernelRun0_A.sl.HS2_1 (F := Ideal) c arg2 harg2 arg6 harg6 x1 x5))) (arg19.view.writes (Elt Ideal) arg19.view.junk ((kernelRun0_A.sl.HS3_1 (F := Ideal) c arg2 harg2 arg7 harg7 x1 x6))) (k0_pay72, k0_pay72) (Scf.trips k0_t3_loop.lb k0_t3_loop.ub k0_t3_loop.st)).2.2 ++ (kernelRun0_A.sl.HS3_1 (F := Ideal) c arg2 harg2 arg7 harg7 x1 x6))) (k0_pay113, k0_pay72, k0_pay72, k0_pay72)
    (M := fun p => (starRingEnd ℂ) (L p)) (D := seg3 (fun p => (starRingEnd ℂ) (L p)) (outRow Y e) 256) (C := bwdC (fun p => (starRingEnd ℂ) (L p)) (outRow Y e)) (H := hRow L (inRow U b)) hl' hc' h2 h3.2 (CV.one one_pay113 zero_pay72) (CV.zero zero_pay72 zero_pay72) (Scf.trips k0_t4_loop.lb k0_t4_loop.ub k0_t4_loop.st) (by decide)
  exact ⟨h.1.2, cv_append _ _ h.2⟩

end Cert.KernelIdeal.Gen
-- ==== Proof.KOut.lean ====
module

public import proofs.«01_k».proof.Proof.KBody

/-! The outputs of one grid point, for real inputs. -/

@[expose] public section

noncomputable section

namespace Cert.KernelIdeal.Gen

open Idealize.ShloMosaic Idealize.ShloMosaic.TcCoe Idealize.ShloMosaic.Tactic
open Cert.Rec

set_option maxRecDepth 16384
set_option pp.maxSteps 60

attribute [local irreducible] st_k0_t1 st_k0_t2 st_k0_t3 st_k0_t4

/-- A load of all rows. -/
theorem cv_full (v v' : View sig .tc .vmem S2048x512 .f32) {W W' : List (View.Piece (Elt Ideal) S2048x512 .f32)} {z : Fin 2048 → Fin 512 → ℂ}
    (inb inb' : ∀ a, (![0, 0] : Fin 2 → ℕ) a + S2048x512.size a ≤ S2048x512.size a)
    (h : CV (v.read (Elt Ideal) (v.writes (Elt Ideal) v.junk W)) (v'.read (Elt Ideal) (v'.writes (Elt Ideal) v'.junk W')) z) :
    CV (v.readCov W (Rect.unit (s := S2048x512) ![0, 0] S2048x512.size inb).toLoadRect) (v'.readCov W' (Rect.unit (s := S2048x512) ![0, 0] S2048x512.size inb').toLoadRect) z := by
  unfold View.readCov
  rw [View.readAt_full, View.readAt_full]
  exact h

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2x512 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2x512 .f32) (harg10 : arg10.IsWhole) (arg11 : Memref sig .tc .vmem S1x128x512 .f32) (harg11 : arg11.IsWhole) (arg12 : Memref sig .tc .vmem S1x128x512 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x128 .f32) (harg15 : arg15.IsWhole) (arg16 : Memref sig .tc .vmem S2048x512 .f32) (harg16 : arg16.IsWhole) (arg17 : Memref sig .tc .vmem S2048x512 .f32) (harg17 : arg17.IsWhole) (arg18 : Memref sig .tc .vmem S2048x512 .f32) (harg18 : arg18.IsWhole) (arg19 : Memref sig .tc .vmem S2048x512 .f32) (harg19 : arg19.IsWhole) (x0 : Vec Ideal S2048x128 .f32) (x1 : Vec Ideal S2048x128 .f32) (x2 : Vec Ideal S2x512 .f32) (x3 : Vec Ideal S1x128x512 .bf16) (x4 : Vec Ideal S1x128x512 .bf16) (x5 : Vec Ideal S1x512x128 .bf16) (x6 : Vec Ideal S1x512x128 .bf16) (x7 : Vec Ideal S1x128 .f32)
variable {U Y : ℕ → Fin 128 → ℝ} {L : Fin 512 → ℂ} {b : Fin 128 → Fin 512 → ℂ} {e : Fin 512 → Fin 128 → ℂ} {d : Fin 128 → ℝ}

theorem cv_h (hu : ∀ (r : Fin 2048) k, x0 (ix2 r k) = (U r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) : CV (kernelRun0_A.sl.v193 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (kernelRun0_A.sl.v199 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) fun r : Fin 2048 => hRow L (inRow U b) r.val :=
  cv_full _ _ _ _ (w_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hu hl hb)

theorem cv_hlast (hu : ∀ (r : Fin 2048) k, x0 (ix2 r k) = (U r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) : CV (kernelRun0_A.sl.v392 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) (kernelRun0_A.sl.v398 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4) fun (s : Fin 8) p => hRow L (inRow U b) (2040 + s.val) p :=
  CV.rows _ _ (w_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hu hl hb) rfl _ _

theorem cv_g (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) : CV (kernelRun0_A.sl.v418 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (kernelRun0_A.sl.v420 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) fun r : Fin 2048 => gRow (fun p => (starRingEnd ℂ) (L p)) (outRow Y e) r.val :=
  cv_full _ _ _ _ (w_t4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc).2

theorem cv_gfirst (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) : CV (kernelRun0_A.sl.v402 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) (kernelRun0_A.sl.v403 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6) fun (s : Fin 8) p => gRow (fun p => (starRingEnd ℂ) (L p)) (outRow Y e) (0 + s.val) p :=
  CV.rows _ _ (w_t4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc).2 rfl _ _

/-- The gradient of the inputs. -/
theorem out_du (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) (hd : ∀ k, x7 (ix2 0 k) = (d k : EReal)) (r : Fin 2048) (k : Fin 128) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 (ix2 r k) = ((∑ p, (gRow (fun p => (starRingEnd ℂ) (L p)) (outRow Y e) r.val p).re * (b k p).re + ∑ p, (gRow (fun p => (starRingEnd ℂ) (L p)) (outRow Y e) r.val p).im * (b k p).im + d k * Y r.val k : ℝ) : EReal) := by
  unfold out0_A_8 kernelRun0_A
  refine (congrFun (View.read_writes_full _ _ _ _ _) _).trans ?_
  refine val_du (Y := fun r => Y r.val) (fun r k => ?_) (cv_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc) (fun k p => ?_) (fun k => ?_) r k
  · rw [whole_read]; exact hy r k
  · rw [whole_read, whole_read]; exact hb k p
  · rw [whole_read]; exact hd k
/-- The real part of the gradient of the eigenvalues. -/
theorem out_dl (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) (hd : ∀ k, x7 (ix2 0 k) = (d k : EReal)) (p : Fin 512) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 (ix2 0 p) = (((∑ n ∈ Finset.range 2048, (starRingEnd ℂ) (scan (L p) (fwdT (inRow U b) p) n) * scan ((starRingEnd ℂ) (L p)) (bwdT (outRow Y e) p) (2048 - n)).re : ℝ) : EReal) := by
  unfold out0_A_9 kernelRun0_A
  refine (congrFun (View.read_writes_full _ _ _ _ _) _).trans ?_
  refine (val_dl (w_t4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc).1 (cv_prev (H := fun r => hRow L (inRow U b) (2040 + r)) (cv_hlast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hu hl hb)) (cv_gfirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc) p).1.trans ?_
  rw [← lam_sum L (fun p => (starRingEnd ℂ) (L p)) (inRow U b) (outRow Y e) p]
  simp only [zero_add]
  rfl
/-- The imaginary part of the gradient of the eigenvalues. -/
theorem out_dl_im (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) (hd : ∀ k, x7 (ix2 0 k) = (d k : EReal)) (p : Fin 512) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 (ix2 1 p) = (((∑ n ∈ Finset.range 2048, (starRingEnd ℂ) (scan (L p) (fwdT (inRow U b) p) n) * scan ((starRingEnd ℂ) (L p)) (bwdT (outRow Y e) p) (2048 - n)).im : ℝ) : EReal) := by
  unfold out0_A_9 kernelRun0_A
  refine (congrFun (View.read_writes_full _ _ _ _ _) _).trans ?_
  refine (val_dl (w_t4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc).1 (cv_prev (H := fun r => hRow L (inRow U b) (2040 + r)) (cv_hlast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hu hl hb)) (cv_gfirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc) p).2.trans ?_
  rw [← lam_sum L (fun p => (starRingEnd ℂ) (L p)) (inRow U b) (outRow Y e) p]
  simp only [zero_add]
  rfl
/-- The real part of the gradient of the input matrix. -/
theorem out_db (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) (hd : ∀ k, x7 (ix2 0 k) = (d k : EReal)) (k : Fin 128) (p : Fin 512) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 (ix3 0 k p) = ((∑ r : Fin 2048, U r.val k * (gRow (fun p => (starRingEnd ℂ) (L p)) (outRow Y e) r.val p).re : ℝ) : EReal) := by
  unfold out0_A_10 kernelRun0_A
  refine (congrFun (View.read_writes_full _ _ _ _ _) _).trans ?_
  refine (val_db (U := fun r => U r.val) (fun r k => ?_) (cv_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc) k p).1
  rw [whole_read]; exact hu r k
/-- The imaginary part of the gradient of the input matrix. -/
theorem out_db_im (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) (hd : ∀ k, x7 (ix2 0 k) = (d k : EReal)) (k : Fin 128) (p : Fin 512) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 (ix3 0 k p) = ((∑ r : Fin 2048, U r.val k * (gRow (fun p => (starRingEnd ℂ) (L p)) (outRow Y e) r.val p).im : ℝ) : EReal) := by
  unfold out0_A_11 kernelRun0_A
  refine (congrFun (View.read_writes_full _ _ _ _ _) _).trans ?_
  refine (val_db (U := fun r => U r.val) (fun r k => ?_) (cv_g c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 hu hy hl hb hc) k p).2
  rw [whole_read]; exact hu r k
/-- The real part of the gradient of the output matrix. -/
theorem out_dc (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) (hd : ∀ k, x7 (ix2 0 k) = (d k : EReal)) (p : Fin 512) (k : Fin 128) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 (ix3 0 p k) = ((∑ r : Fin 2048, (hRow L (inRow U b) r.val p).re * Y r.val k : ℝ) : EReal) := by
  unfold out0_A_12 kernelRun0_A
  refine (congrFun (View.read_writes_full _ _ _ _ _) _).trans ?_
  refine (val_dc (Y := fun r => Y r.val) (fun r k => ?_) (cv_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hu hl hb) p k).1
  rw [whole_read]; exact hy r k
/-- The imaginary part of the gradient of the output matrix. -/
theorem out_dc_im (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) (hd : ∀ k, x7 (ix2 0 k) = (d k : EReal)) (p : Fin 512) (k : Fin 128) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 (ix3 0 p k) = ((-∑ r : Fin 2048, (hRow L (inRow U b) r.val p).im * Y r.val k : ℝ) : EReal) := by
  unfold out0_A_13 kernelRun0_A
  refine (congrFun (View.read_writes_full _ _ _ _ _) _).trans ?_
  refine (val_dc (Y := fun r => Y r.val) (fun r k => ?_) (cv_h c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 hu hl hb) p k).2
  rw [whole_read]; exact hy r k
/-- The gradient of the direct term. -/
theorem out_dd (hu : ∀ (r : Fin 2048) k, x0 (ix2 r k) = (U r.val k : EReal)) (hy : ∀ (r : Fin 2048) k, x1 (ix2 r k) = (Y r.val k : EReal)) (hl : ∀ p, x2 (ix2 0 p) = ((L p).re : EReal) ∧ x2 (ix2 1 p) = ((L p).im : EReal)) (hb : ∀ k p, x3 (ix3 0 k p) = ((b k p).re : EReal) ∧ x4 (ix3 0 k p) = ((b k p).im : EReal)) (hc : ∀ p k, x5 (ix3 0 p k) = ((e p k).re : EReal) ∧ x6 (ix3 0 p k) = ((e p k).im : EReal)) (hd : ∀ k, x7 (ix2 0 k) = (d k : EReal)) (k : Fin 128) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 (ix2 0 k) = ((∑ r : Fin 2048, Y r.val k * U r.val k : ℝ) : EReal) := by
  unfold out0_A_14 kernelRun0_A
  refine (congrFun (View.read_writes_full _ _ _ _ _) _).trans ?_
  refine val_dd (U := fun r => U r.val) (Y := fun r => Y r.val) (fun r k => ?_) (fun r k => ?_) k
  · rw [whole_read]; exact hu r k
  · rw [whole_read]; exact hy r k

end Cert.KernelIdeal.Gen
-- ==== Proof.KIn.lean ====
module

public import proofs.«01_k».proof.Proof.Gen.KernelIdeal.Frame
public import proofs.«01_k».proof.Proof.Segments
public import proofs.«01_k».proof.Proof.Spec
public import Idealize.ShloMosaic.Lib.Pointwise
public import Idealize.ShloMosaic.Lib.Pipeline.ValueKit
public import Idealize.ShloMosaic.Lib.StableHlo.ReadAt

/-! The blocks one grid point reads, as entries of the arguments. -/

@[expose] public section

noncomputable section

namespace Cert.KernelIdeal.Gen

open Idealize.ShloMosaic Idealize.ShloMosaic.TcCoe Idealize.ShloMosaic.Tactic
open Cert.Rec

set_option maxRecDepth 16384

/-- The group of a block's part. -/
def grp (t a : ℕ) : Fin 32 := ⟨(8 * t + a) % 32, Nat.mod_lt _ (by decide)⟩

/-- The state of a lane. -/
def lan (p : Fin 512) : Fin 64 := ⟨p.val % 64, Nat.mod_lt _ (by decide)⟩

/-- The channel of a column, in its group. -/
def col (k : Fin 128) : Fin 16 := ⟨k.val % 16, Nat.mod_lt _ (by decide)⟩

section
variable (d : Data) (t : ℕ)

/-- The inputs of the grid point `t`. -/
def kU (r : ℕ) (k : Fin 128) : ℝ := d.U (timeOf r) (chan (grp t (k.val / 16)) (col k))
def kY (r : ℕ) (k : Fin 128) : ℝ := d.Y (timeOf r) (chan (grp t (k.val / 16)) (col k))
def kL (p : Fin 512) : ℂ := d.lam (grp t (p.val / 64)) (lan p)
def kB (k : Fin 128) (p : Fin 512) : ℂ := if k.val / 16 = p.val / 64 then d.bb (grp t (p.val / 64)) (lan p) (col k) else 0
def kC (p : Fin 512) (k : Fin 128) : ℂ := if k.val / 16 = p.val / 64 then d.cc (grp t (p.val / 64)) (col k) (lan p) else 0
def kD (k : Fin 128) : ℝ := d.dd (grp t (k.val / 16)) (col k)
end

/-- The mask of the diagonal blocks. -/
theorem eye (a b : ℕ) (ha : a < 8) (hb : b < 8) :
    FloatOps.uitofp (F := Ideal) FTy.f32 (IntOp.cmpi CmpIPredicate.eq (IntOp.addi (BitVec.ofNat 32 a) 0#32) (BitVec.ofNat 32 b)) = ((if a = b then 1 else 0 : ℝ) : EReal) := by
  have h : ∀ a b : Fin 8, IntOp.cmpi CmpIPredicate.eq (IntOp.addi (BitVec.ofNat 32 a.val) 0#32) (BitVec.ofNat 32 b.val) = if a.val = b.val then 1#1 else 0#1 := by decide
  rw [h ⟨a, ha⟩ ⟨b, hb⟩]
  show ((_ : ℕ) : EReal) = _
  by_cases e : a = b
  · simp [e]
  · simp [e]

theorem idx_all : ∀ t : Fin cfg0.N, win0_0.index t = ![0, t.val] ∧ win0_1.index t = ![0, t.val] ∧ win0_2.index t = ![0, t.val]
    ∧ win0_3.index t = ![t.val, 0, 0] ∧ win0_4.index t = ![t.val, 0, 0] ∧ win0_5.index t = ![t.val, 0, 0] ∧ win0_6.index t = ![t.val, 0, 0]
    ∧ win0_7.index t = ![0, t.val] := by decide +kernel

variable (m : (l : Loc nD τ sig) → Buf (Elt Ideal) l) (c : Dev nD) {d : Data}

/-- The arguments of a device hold these reals. -/
def At (d : Data) : Prop :=
  d.Holds (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8))

theorem R_u (r : Fin 2048) (q : Fin 512) :
    V m c main_v7 (ix2 r q) = m (c, Proc.devRef .tc main_arg0) (ix2 ⟨r.val % 8 * 256 + r.val / 8, by omega⟩ q) := by
  unfold V V0
  after_reads_at

theorem V_u (h : At m c d) (r : Fin 2048) (q : Fin 512) : V m c main_v7 (ix2 r q) = (d.U (timeOf r.val) q : EReal) :=
  (R_u m c r q).trans ((h.u _ q).trans (congrArg (fun n => ((d.U n q : ℝ) : EReal))
    (show r.val % 8 * 256 + r.val / 8 = timeOf r.val by unfold timeOf; omega)))

theorem R_y (r : Fin 2048) (q : Fin 512) :
    V m c main_v10 (ix2 r q) = m (c, Proc.devRef .tc main_arg1) (ix2 ⟨r.val % 8 * 256 + r.val / 8, by omega⟩ q) := by
  unfold V V0
  after_reads_at

theorem V_y (h : At m c d) (r : Fin 2048) (q : Fin 512) : V m c main_v10 (ix2 r q) = (d.Y (timeOf r.val) q : EReal) :=
  (R_y m c r q).trans ((h.y _ q).trans (congrArg (fun n => ((d.Y n q : ℝ) : EReal))
    (show r.val % 8 * 256 + r.val / 8 = timeOf r.val by unfold timeOf; omega)))

theorem V_lre (h : At m c d) (p : Fin 2048) :
    V m c main_v4 (ix2 0 p) = ((d.lam ⟨p.val / 64, by omega⟩ ⟨p.val % 64, by omega⟩).re : EReal) := by
  have e : V m c main_v4 (ix2 0 p) = m (c, Proc.devRef .tc main_arg2) (ix2 ⟨p.val / 64, by omega⟩ ⟨p.val % 64, by omega⟩) := by
    clear h
    unfold V V0
    after_reads_at
    try rfl
  exact e.trans (h.lre _ _)

theorem V_lim (h : At m c d) (p : Fin 2048) :
    V m c main_v4 (ix2 1 p) = ((d.lam ⟨p.val / 64, by omega⟩ ⟨p.val % 64, by omega⟩).im : EReal) := by
  have e : V m c main_v4 (ix2 1 p) = m (c, Proc.devRef .tc main_arg3) (ix2 ⟨p.val / 64, by omega⟩ ⟨p.val % 64, by omega⟩) := by
    clear h
    unfold V V0
    after_reads_at
    try rfl
  exact e.trans (h.lim _ _)

theorem R_bre (t : Fin 4) (k : Fin 128) (p : Fin 512) :
    V m c main_v25 (ix3 t k p) = (show EReal from m (c, Proc.devRef .tc main_arg4) (ix3 ⟨t.val * 8 + k.val / 16, by omega⟩ ⟨p.val % 64, by omega⟩ ⟨k.val % 16, by omega⟩))
      * (((if k.val / 16 = p.val / 64 then 1 else 0 : ℝ) : ℝ) : EReal) := by
  unfold V V0
  after_reads_at
  have e := eye (k.val / 16) (p.val / 64) (by omega) (by omega)
  simp only [e]
  try rfl

theorem V_bre (h : At m c d) (t : Fin 4) (k : Fin 128) (p : Fin 512) : V m c main_v25 (ix3 t k p) = ((kB d t.val k p).re : EReal) := by
  have ht := t.isLt
  refine (R_bre m c t k p).trans ((congrArg (fun x : EReal => x * _) (h.bre _ _ _)).trans ?_)
  unfold kB
  by_cases e : k.val / 16 = p.val / 64
  · rw [if_pos e, if_pos e]
    have hg : grp t.val (p.val / 64) = ⟨t.val * 8 + k.val / 16, by omega⟩ :=
      Fin.ext (by show (8 * t.val + p.val / 64) % 32 = t.val * 8 + k.val / 16; omega)
    rw [hg, EReal.coe_one]
    exact mul_one _
  · rw [if_neg e, if_neg e, EReal.coe_zero]
    exact (mul_zero _).trans (by simp)

theorem R_bim (t : Fin 4) (k : Fin 128) (p : Fin 512) :
    V m c main_v40 (ix3 t k p) = (show EReal from m (c, Proc.devRef .tc main_arg5) (ix3 ⟨t.val * 8 + k.val / 16, by omega⟩ ⟨p.val % 64, by omega⟩ ⟨k.val % 16, by omega⟩))
      * (((if k.val / 16 = p.val / 64 then 1 else 0 : ℝ) : ℝ) : EReal) := by
  unfold V V0
  after_reads_at
  have e := eye (k.val / 16) (p.val / 64) (by omega) (by omega)
  simp only [e]
  try rfl

theorem V_bim (h : At m c d) (t : Fin 4) (k : Fin 128) (p : Fin 512) : V m c main_v40 (ix3 t k p) = ((kB d t.val k p).im : EReal) := by
  have ht := t.isLt
  refine (R_bim m c t k p).trans ((congrArg (fun x : EReal => x * _) (h.bim _ _ _)).trans ?_)
  unfold kB
  by_cases e : k.val / 16 = p.val / 64
  · rw [if_pos e, if_pos e]
    have hg : grp t.val (p.val / 64) = ⟨t.val * 8 + k.val / 16, by omega⟩ :=
      Fin.ext (by show (8 * t.val + p.val / 64) % 32 = t.val * 8 + k.val / 16; omega)
    rw [hg, EReal.coe_one]
    exact mul_one _
  · rw [if_neg e, if_neg e, EReal.coe_zero]
    exact (mul_zero _).trans (by simp)

theorem R_cre (t : Fin 4) (p : Fin 512) (k : Fin 128) :
    V m c main_v55 (ix3 t p k) = (show EReal from m (c, Proc.devRef .tc main_arg6) (ix3 ⟨t.val * 8 + p.val / 64, by omega⟩ ⟨k.val % 16, by omega⟩ ⟨p.val % 64, by omega⟩))
      * (((if p.val / 64 = k.val / 16 then 1 else 0 : ℝ) : ℝ) : EReal) := by
  unfold V V0
  after_reads_at
  have e := eye (p.val / 64) (k.val / 16) (by omega) (by omega)
  simp only [e]
  try rfl

theorem V_cre (h : At m c d) (t : Fin 4) (p : Fin 512) (k : Fin 128) : V m c main_v55 (ix3 t p k) = ((kC d t.val p k).re : EReal) := by
  have ht := t.isLt
  refine (R_cre m c t p k).trans ((congrArg (fun x : EReal => x * _) (h.cre _ _ _)).trans ?_)
  unfold kC
  by_cases e : k.val / 16 = p.val / 64
  · rw [if_pos e.symm, if_pos e]
    have hg : grp t.val (p.val / 64) = ⟨t.val * 8 + p.val / 64, by omega⟩ :=
      Fin.ext (by show (8 * t.val + p.val / 64) % 32 = t.val * 8 + p.val / 64; omega)
    rw [hg, EReal.coe_one]
    exact mul_one _
  · rw [if_neg fun h => e h.symm, if_neg e, EReal.coe_zero]
    exact (mul_zero _).trans (by simp)

theorem R_cim (t : Fin 4) (p : Fin 512) (k : Fin 128) :
    V m c main_v70 (ix3 t p k) = (show EReal from m (c, Proc.devRef .tc main_arg7) (ix3 ⟨t.val * 8 + p.val / 64, by omega⟩ ⟨k.val % 16, by omega⟩ ⟨p.val % 64, by omega⟩))
      * (((if p.val / 64 = k.val / 16 then 1 else 0 : ℝ) : ℝ) : EReal) := by
  unfold V V0
  after_reads_at
  have e := eye (p.val / 64) (k.val / 16) (by omega) (by omega)
  simp only [e]
  try rfl

theorem V_cim (h : At m c d) (t : Fin 4) (p : Fin 512) (k : Fin 128) : V m c main_v70 (ix3 t p k) = ((kC d t.val p k).im : EReal) := by
  have ht := t.isLt
  refine (R_cim m c t p k).trans ((congrArg (fun x : EReal => x * _) (h.cim _ _ _)).trans ?_)
  unfold kC
  by_cases e : k.val / 16 = p.val / 64
  · rw [if_pos e.symm, if_pos e]
    have hg : grp t.val (p.val / 64) = ⟨t.val * 8 + p.val / 64, by omega⟩ :=
      Fin.ext (by show (8 * t.val + p.val / 64) % 32 = t.val * 8 + p.val / 64; omega)
    rw [hg, EReal.coe_one]
    exact mul_one _
  · rw [if_neg fun h => e h.symm, if_neg e, EReal.coe_zero]
    exact (mul_zero _).trans (by simp)

theorem V_d (h : At m c d) (k : Fin 512) : V m c main_v71 (ix2 0 k) = (d.dd ⟨k.val / 16, by omega⟩ ⟨k.val % 16, by omega⟩ : EReal) := by
  have e : V m c main_v71 (ix2 0 k) = m (c, Proc.devRef .tc main_arg8) (ix2 ⟨k.val / 16, by omega⟩ ⟨k.val % 16, by omega⟩) := by
    clear h
    unfold V V0
    after_reads_at
    try rfl
  exact e.trans (h.dd _ _)

/-- The grid has four points. -/
theorem four (t : Fin cfg0.N) : t.val < 4 := t.isLt

theorem in_u (h : At m c d) (t : Fin cfg0.N) (r : Fin 2048) (k : Fin 128) : iblk m c 0 t (ix2 r k) = (kU d t.val r.val k : EReal) := by
  have ht := four t
  have e : iblk m c 0 t (ix2 r k) = V m c main_v7 (ix2 r ⟨128 * t.val + k.val, by omega⟩) := by
    have hi := (idx_all t).1
    unfold iblk
    blk_ext [hi]
  rw [e, V_u m c h]
  have hc : (⟨128 * t.val + k.val, by omega⟩ : Fin 512) = chan (grp t.val (k.val / 16)) (col k) :=
    Fin.ext (by show 128 * t.val + k.val = 16 * ((8 * t.val + k.val / 16) % 32) + k.val % 16; omega)
  rw [hc]
  rfl

theorem in_y (h : At m c d) (t : Fin cfg0.N) (r : Fin 2048) (k : Fin 128) : iblk m c 1 t (ix2 r k) = (kY d t.val r.val k : EReal) := by
  have ht := four t
  have e : iblk m c 1 t (ix2 r k) = V m c main_v10 (ix2 r ⟨128 * t.val + k.val, by omega⟩) := by
    have hi := (idx_all t).2.1
    unfold iblk
    blk_ext [hi]
  rw [e, V_y m c h]
  have hc : (⟨128 * t.val + k.val, by omega⟩ : Fin 512) = chan (grp t.val (k.val / 16)) (col k) :=
    Fin.ext (by show 128 * t.val + k.val = 16 * ((8 * t.val + k.val / 16) % 32) + k.val % 16; omega)
  rw [hc]
  rfl

theorem in_l (h : At m c d) (t : Fin cfg0.N) (p : Fin 512) :
    iblk m c 2 t (ix2 0 p) = ((kL d t.val p).re : EReal) ∧ iblk m c 2 t (ix2 1 p) = ((kL d t.val p).im : EReal) := by
  have ht := four t
  have hi := (idx_all t).2.2.1
  have hl : d.lam ⟨(512 * t.val + p.val) / 64, by omega⟩ ⟨(512 * t.val + p.val) % 64, by omega⟩ = kL d t.val p := by
    unfold kL
    congr 1
    · exact Fin.ext (by show (512 * t.val + p.val) / 64 = (8 * t.val + p.val / 64) % 32; omega)
    · exact Fin.ext (by show (512 * t.val + p.val) % 64 = p.val % 64; omega)
  constructor
  · have e : iblk m c 2 t (ix2 0 p) = V m c main_v4 (ix2 0 ⟨512 * t.val + p.val, by omega⟩) := by
      unfold iblk
      blk_ext [hi]
    rw [e, V_lre m c h, ← hl]
  · have e : iblk m c 2 t (ix2 1 p) = V m c main_v4 (ix2 1 ⟨512 * t.val + p.val, by omega⟩) := by
      unfold iblk
      blk_ext [hi]
    rw [e, V_lim m c h, ← hl]

theorem in_b (h : At m c d) (t : Fin cfg0.N) (k : Fin 128) (p : Fin 512) :
    iblk m c 3 t (ix3 0 k p) = ((kB d t.val k p).re : EReal) ∧ iblk m c 4 t (ix3 0 k p) = ((kB d t.val k p).im : EReal) := by
  have ht := four t
  have hi := (idx_all t).2.2.2.1
  have hi' := (idx_all t).2.2.2.2.1
  constructor
  · have e : iblk m c 3 t (ix3 0 k p) = V m c main_v25 (ix3 ⟨t.val, ht⟩ k p) := by
      unfold iblk
      blk_ext [hi]
    rw [e, V_bre m c h]
  · have e : iblk m c 4 t (ix3 0 k p) = V m c main_v40 (ix3 ⟨t.val, ht⟩ k p) := by
      unfold iblk
      blk_ext [hi']
    rw [e, V_bim m c h]

theorem in_c (h : At m c d) (t : Fin cfg0.N) (p : Fin 512) (k : Fin 128) :
    iblk m c 5 t (ix3 0 p k) = ((kC d t.val p k).re : EReal) ∧ iblk m c 6 t (ix3 0 p k) = ((kC d t.val p k).im : EReal) := by
  have ht := four t
  have hi := (idx_all t).2.2.2.2.2.1
  have hi' := (idx_all t).2.2.2.2.2.2.1
  constructor
  · have e : iblk m c 5 t (ix3 0 p k) = V m c main_v55 (ix3 ⟨t.val, ht⟩ p k) := by
      unfold iblk
      blk_ext [hi]
    rw [e, V_cre m c h]
  · have e : iblk m c 6 t (ix3 0 p k) = V m c main_v70 (ix3 ⟨t.val, ht⟩ p k) := by
      unfold iblk
      blk_ext [hi']
    rw [e, V_cim m c h]

theorem in_d (h : At m c d) (t : Fin cfg0.N) (k : Fin 128) : iblk m c 7 t (ix2 0 k) = (kD d t.val k : EReal) := by
  have ht := four t
  have e : iblk m c 7 t (ix2 0 k) = V m c main_v71 (ix2 0 ⟨128 * t.val + k.val, by omega⟩) := by
    have hi := (idx_all t).2.2.2.2.2.2.2
    unfold iblk
    blk_ext [hi]
  rw [e, V_d m c h]
  unfold kD
  congr 2
  · exact Fin.ext (by show (128 * t.val + k.val) / 16 = (8 * t.val + k.val / 16) % 32; omega)
  · exact Fin.ext (by show (128 * t.val + k.val) % 16 = k.val % 16; omega)

end Cert.KernelIdeal.Gen
-- ==== Proof.KSpec.lean ====
module

public import proofs.«01_k».proof.Proof.KOut
public import proofs.«01_k».proof.Proof.KIn

/-! The outputs of one grid point are the gradients of its groups. -/

@[expose] public section

noncomputable section

namespace Cert.KernelIdeal.Gen

open Idealize.ShloMosaic Idealize.ShloMosaic.TcCoe Idealize.ShloMosaic.Tactic
open Cert.Rec Finset

set_option maxRecDepth 16384
set_option pp.maxSteps 60

/-- A sum over the columns of one group. -/
theorem sum_col {A : Type} [AddCommMonoid A] (a : ℕ) (ha : a < 8) (f : Fin 16 → A) :
    ∑ k : Fin 128, (if k.val / 16 = a then f (col k) else 0) = ∑ h, f h := by
  rw [← Finset.sum_filter]
  refine Finset.sum_nbij' (fun k => col k) (fun h => ⟨16 * a + h.val, by omega⟩) (fun _ _ => Finset.mem_univ _)
    (fun h _ => Finset.mem_filter.mpr ⟨Finset.mem_univ _, ?_⟩) (fun k hk => ?_) (fun h _ => ?_) (fun _ _ => rfl)
  · show (16 * a + h.val) / 16 = a
    omega
  · have hk := (Finset.mem_filter.mp hk).2
    exact Fin.ext (by show 16 * a + k.val % 16 = k.val; omega)
  · exact Fin.ext (by show (16 * a + h.val) % 16 = h.val; omega)

/-- A sum over the lanes of one group. -/
theorem sum_lane {A : Type} [AddCommMonoid A] (a : ℕ) (ha : a < 8) (f : Fin 64 → A) :
    ∑ p : Fin 512, (if a = p.val / 64 then f (lan p) else 0) = ∑ s, f s := by
  rw [← Finset.sum_filter]
  refine Finset.sum_nbij' (fun p => lan p) (fun s => ⟨64 * a + s.val, by omega⟩) (fun _ _ => Finset.mem_univ _)
    (fun s _ => Finset.mem_filter.mpr ⟨Finset.mem_univ _, ?_⟩) (fun p hp => ?_) (fun s _ => ?_) (fun _ _ => rfl)
  · show a = (64 * a + s.val) / 64
    omega
  · have hp := (Finset.mem_filter.mp hp).2
    exact Fin.ext (by show 64 * a + p.val % 64 = p.val; omega)
  · exact Fin.ext (by show (64 * a + s.val) % 64 = s.val; omega)

section
variable (d : Data) (t : ℕ)

theorem in_bu (r : ℕ) (p : Fin 512) : inRow (kU d t) (kB d t) r p = d.bu (grp t (p.val / 64)) (lan p) (timeOf r) := by
  unfold inRow Data.bu
  rw [← sum_col (p.val / 64) (by omega)]
  refine Finset.sum_congr rfl fun k _ => ?_
  unfold kB kU
  by_cases e : k.val / 16 = p.val / 64
  · rw [if_pos e, if_pos e, e]
  · rw [if_neg e, if_neg e, mul_zero]

theorem out_dO (r : ℕ) (p : Fin 512) : outRow (kY d t) (kC d t) r p = d.dO (grp t (p.val / 64)) (lan p) (timeOf r) := by
  unfold outRow Data.dO
  rw [← sum_col (p.val / 64) (by omega)]
  refine Finset.sum_congr rfl fun k _ => ?_
  unfold kC kY
  by_cases e : k.val / 16 = p.val / 64
  · rw [if_pos e, if_pos e, e]
  · rw [if_neg e, if_neg e, map_zero, mul_zero]

theorem scan_in (p : Fin 512) (n : ℕ) (hn : n ≤ 2048) :
    scan (kL d t p) (fwdT (inRow (kU d t) (kB d t)) p) n = d.hs (grp t (p.val / 64)) (lan p) n := by
  refine scan_congr _ _ fun j hj => ?_
  unfold fwdT
  rw [in_bu, timeOf_rowOf j (by omega)]

theorem scan_out (p : Fin 512) (n : ℕ) :
    scan ((starRingEnd ℂ) (kL d t p)) (bwdT (outRow (kY d t) (kC d t)) p) (2048 - n) = d.gs (grp t (p.val / 64)) (lan p) n := by
  refine scan_congr _ _ fun j hj => ?_
  unfold bwdT
  rw [out_dO, timeOf_rowOf (2047 - j) (by omega)]

theorem g_row (r : ℕ) (hr : r < 2048) (p : Fin 512) :
    gRow (fun p => (starRingEnd ℂ) (kL d t p)) (outRow (kY d t) (kC d t)) r p = d.gs (grp t (p.val / 64)) (lan p) (timeOf r) :=
  (bwd_rows _ _ r hr p).trans (scan_out d t p _)

theorem h_row (r : ℕ) (hr : r < 2048) (p : Fin 512) :
    hRow (kL d t) (inRow (kU d t) (kB d t)) r p = d.hs (grp t (p.val / 64)) (lan p) (timeOf r + 1) :=
  (fwd_rows _ _ r hr p).trans (scan_in d t p (timeOf r + 1) (Nat.succ_le_of_lt (timeOf_lt r hr)))

theorem row_time (n : Fin 2048) : timeOf (rowEquiv n).val = n.val := timeOf_rowOf n.val n.isLt

end

attribute [local irreducible] out0_A_8 out0_A_9 out0_A_10 out0_A_11 out0_A_12 out0_A_13 out0_A_14 gRow hRow inRow outRow Cert.Rec.scan

variable (m : (l : Loc nD τ sig) → Buf (Elt Ideal) l) (c : Dev nD) {d : Data} (h : At m c d) (t : Fin cfg0.N)

include h

theorem o_du (r : Fin 2048) (k : Fin 128) :
    (outsAt0 m c t).1 (ix2 r k) = (d.rU (timeOf r.val) (grp t.val (k.val / 16)) (col k) : EReal) := by
  refine (out_du (U := kU d t.val) (Y := kY d t.val) (L := kL d t.val) (b := kB d t.val) (e := kC d t.val) (d := kD d t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (in_u m c h t) (in_y m c h t) (in_l m c h t) (in_b m c h t) (in_c m c h t) (in_d m c h t) r k).trans (congrArg _ ?_)
  unfold Data.rU
  refine congrArg₂ (· + ·) (congrArg₂ (· + ·) ?_ ?_) rfl
  · rw [← sum_lane (k.val / 16) (by omega)]
    refine Finset.sum_congr rfl fun p _ => ?_
    rw [g_row d t.val r.val r.isLt]
    unfold kB
    by_cases e : k.val / 16 = p.val / 64
    · rw [if_pos e, if_pos e, e]
    · rw [if_neg e, if_neg e, Complex.zero_re, mul_zero]
  · rw [← sum_lane (k.val / 16) (by omega)]
    refine Finset.sum_congr rfl fun p _ => ?_
    rw [g_row d t.val r.val r.isLt]
    unfold kB
    by_cases e : k.val / 16 = p.val / 64
    · rw [if_pos e, if_pos e, e]
    · rw [if_neg e, if_neg e, Complex.zero_im, mul_zero]

theorem sum_l (p : Fin 512) : ∑ n ∈ range 2048, (starRingEnd ℂ) (scan (kL d t.val p) (fwdT (inRow (kU d t.val) (kB d t.val)) p) n)
      * scan ((starRingEnd ℂ) (kL d t.val p)) (bwdT (outRow (kY d t.val) (kC d t.val)) p) (2048 - n)
    = d.rL (grp t.val (p.val / 64)) (lan p) := by
  clear h
  refine Finset.sum_congr rfl fun n hn => ?_
  rw [scan_in d t.val p n (by have := Finset.mem_range.mp hn; omega), scan_out]

theorem o_dl (p : Fin 512) : (outsAt0 m c t).2.1 (ix2 0 p) = ((d.rL (grp t.val (p.val / 64)) (lan p)).re : EReal) :=
  (out_dl (U := kU d t.val) (Y := kY d t.val) (L := kL d t.val) (b := kB d t.val) (e := kC d t.val) (d := kD d t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (in_u m c h t) (in_y m c h t) (in_l m c h t) (in_b m c h t) (in_c m c h t) (in_d m c h t) p).trans (congrArg (fun z : ℂ => (z.re : EReal)) (sum_l m c h t p))

theorem o_dl_im (p : Fin 512) : (outsAt0 m c t).2.1 (ix2 1 p) = ((d.rL (grp t.val (p.val / 64)) (lan p)).im : EReal) :=
  (out_dl_im (U := kU d t.val) (Y := kY d t.val) (L := kL d t.val) (b := kB d t.val) (e := kC d t.val) (d := kD d t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (in_u m c h t) (in_y m c h t) (in_l m c h t) (in_b m c h t) (in_c m c h t) (in_d m c h t) p).trans (congrArg (fun z : ℂ => (z.im : EReal)) (sum_l m c h t p))

theorem o_db (k : Fin 128) (p : Fin 512) (e : k.val / 16 = p.val / 64) :
    (outsAt0 m c t).2.2.1 (ix3 0 k p) = (d.rBre (grp t.val (p.val / 64)) (lan p) (col k) : EReal) := by
  refine (out_db (U := kU d t.val) (Y := kY d t.val) (L := kL d t.val) (b := kB d t.val) (e := kC d t.val) (d := kD d t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (in_u m c h t) (in_y m c h t) (in_l m c h t) (in_b m c h t) (in_c m c h t) (in_d m c h t) k p).trans (congrArg _ ?_)
  unfold Data.rBre
  rw [sum_rows]
  refine Finset.sum_congr rfl fun n _ => ?_
  rw [g_row d t.val _ (rowEquiv n).isLt]
  unfold kU
  rw [row_time, e]

theorem o_db_im (k : Fin 128) (p : Fin 512) (e : k.val / 16 = p.val / 64) :
    (outsAt0 m c t).2.2.2.1 (ix3 0 k p) = (d.rBim (grp t.val (p.val / 64)) (lan p) (col k) : EReal) := by
  refine (out_db_im (U := kU d t.val) (Y := kY d t.val) (L := kL d t.val) (b := kB d t.val) (e := kC d t.val) (d := kD d t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (in_u m c h t) (in_y m c h t) (in_l m c h t) (in_b m c h t) (in_c m c h t) (in_d m c h t) k p).trans (congrArg _ ?_)
  unfold Data.rBim
  rw [sum_rows]
  refine Finset.sum_congr rfl fun n _ => ?_
  rw [g_row d t.val _ (rowEquiv n).isLt]
  unfold kU
  rw [row_time, e]

theorem o_dc (p : Fin 512) (k : Fin 128) (e : k.val / 16 = p.val / 64) :
    (outsAt0 m c t).2.2.2.2.1 (ix3 0 p k) = (d.rCre (grp t.val (p.val / 64)) (col k) (lan p) : EReal) := by
  refine (out_dc (U := kU d t.val) (Y := kY d t.val) (L := kL d t.val) (b := kB d t.val) (e := kC d t.val) (d := kD d t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (in_u m c h t) (in_y m c h t) (in_l m c h t) (in_b m c h t) (in_c m c h t) (in_d m c h t) p k).trans (congrArg _ ?_)
  unfold Data.rCre
  rw [sum_rows]
  refine Finset.sum_congr rfl fun n _ => ?_
  rw [h_row d t.val _ (rowEquiv n).isLt]
  unfold kY
  rw [row_time, e]

theorem o_dc_im (p : Fin 512) (k : Fin 128) (e : k.val / 16 = p.val / 64) :
    (outsAt0 m c t).2.2.2.2.2.1 (ix3 0 p k) = (d.rCim (grp t.val (p.val / 64)) (col k) (lan p) : EReal) := by
  refine (out_dc_im (U := kU d t.val) (Y := kY d t.val) (L := kL d t.val) (b := kB d t.val) (e := kC d t.val) (d := kD d t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (in_u m c h t) (in_y m c h t) (in_l m c h t) (in_b m c h t) (in_c m c h t) (in_d m c h t) p k).trans (congrArg _ ?_)
  unfold Data.rCim
  refine congrArg _ ?_
  rw [sum_rows]
  refine Finset.sum_congr rfl fun n _ => ?_
  rw [h_row d t.val _ (rowEquiv n).isLt]
  unfold kY
  rw [row_time, e]

theorem o_dd (k : Fin 128) : (outsAt0 m c t).2.2.2.2.2.2 (ix2 0 k) = (d.rD (grp t.val (k.val / 16)) (col k) : EReal) := by
  refine (out_dd (U := kU d t.val) (Y := kY d t.val) (L := kL d t.val) (b := kB d t.val) (e := kC d t.val) (d := kD d t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (in_u m c h t) (in_y m c h t) (in_l m c h t) (in_b m c h t) (in_c m c h t) (in_d m c h t) k).trans (congrArg _ ?_)
  unfold Data.rD
  rw [sum_rows]
  refine Finset.sum_congr rfl fun n _ => ?_
  unfold kY kU
  rw [row_time]

end Cert.KernelIdeal.Gen
-- ==== Proof.KTail.lean ====
module

public import proofs.«01_k».proof.Proof.Gen.KernelIdeal.Frame
public import Idealize.ShloMosaic.Lib.Pointwise
public import Idealize.ShloMosaic.Lib.StableHlo.ReadAt

/-! The results, as entries of the arrays that the kernel leaves. -/

@[expose] public section

noncomputable section

namespace Cert.KernelIdeal.Gen

open Idealize.ShloMosaic Idealize.ShloMosaic.TcCoe Idealize.ShloMosaic.Tactic

set_option maxRecDepth 16384

variable (W : Valuation τ sig (Elt Ideal))

theorem T_du (n : Fin 2048) (q : Fin 512) :
    StableHlo.after (List.flatten [hostOps1]) W (Proc.devRef .tc main_v75) (ix2 n q) = W (Proc.devRef .tc main_v72_0) (ix2 ⟨n.val % 256 * 8 + n.val / 256, by omega⟩ q) := by
  after_reads_at

theorem T_dl (g : Fin 32) (p : Fin 64) :
    StableHlo.after (List.flatten [hostOps1]) W (Proc.devRef .tc main_v78) (ix2 g p) = W (Proc.devRef .tc main_v72_1) (ix2 0 ⟨g.val * 64 + p.val, by omega⟩) := by
  after_reads_at

theorem T_dl_im (g : Fin 32) (p : Fin 64) :
    StableHlo.after (List.flatten [hostOps1]) W (Proc.devRef .tc main_v81) (ix2 g p) = W (Proc.devRef .tc main_v72_1) (ix2 1 ⟨g.val * 64 + p.val, by omega⟩) := by
  after_reads_at

theorem T_dd (g : Fin 32) (h : Fin 16) :
    StableHlo.after (List.flatten [hostOps1]) W (Proc.devRef .tc main_v194) (ix2 g h) = W (Proc.devRef .tc main_v72_6) (ix2 0 ⟨g.val * 16 + h.val, by omega⟩) := by
  after_reads_at

theorem T_db_0 (a : Fin 4) (b : Fin 1) (h : Fin 16) (p : Fin 64) :
    StableHlo.upto (List.flatten [hostOps1]) W 34 (Proc.devRef .tc main_v99) (ix4 a b h p)
      = W (Proc.devRef .tc main_v72_2) (ix3 a ⟨0 * 16 + h.val, by omega⟩ ⟨0 * 64 + p.val, by omega⟩) := by
  after_reads_at
  try rfl

theorem T_db_1 (a : Fin 4) (b : Fin 1) (h : Fin 16) (p : Fin 64) :
    StableHlo.upto (List.flatten [hostOps1]) W 34 (Proc.devRef .tc main_v100) (ix4 a b h p)
      = W (Proc.devRef .tc main_v72_2) (ix3 a ⟨1 * 16 + h.val, by omega⟩ ⟨1 * 64 + p.val, by omega⟩) := by
  after_reads_at
  try rfl

theorem T_db_2 (a : Fin 4) (b : Fin 1) (h : Fin 16) (p : Fin 64) :
    StableHlo.upto (List.flatten [hostOps1]) W 34 (Proc.devRef .tc main_v101) (ix4 a b h p)
      = W (Proc.devRef .tc main_v72_2) (ix3 a ⟨2 * 16 + h.val, by omega⟩ ⟨2 * 64 + p.val, by omega⟩) := by
  after_reads_at
  try rfl

theorem T_db_3 (a : Fin 4) (b : Fin 1) (h : Fin 16) (p : Fin 64) :
    StableHlo.upto (List.flatten [hostOps1]) W 34 (Proc.devRef .tc main_v102) (ix4 a b h p)
      = W (Proc.devRef .tc main_v72_2) (ix3 a ⟨3 * 16 + h.val, by omega⟩ ⟨3 * 64 + p.val, by omega⟩) := by
  after_reads_at
  try rfl

theorem T_db_4 (a : Fin 4) (b : Fin 1) (h : Fin 16) (p : Fin 64) :
    StableHlo.upto (List.flatten [hostOps1]) W 34 (Proc.devRef .tc main_v103) (ix4 a b h p)
      = W (Proc.devRef .tc main_v72_2) (ix3 a ⟨4 * 16 + h.val, by omega⟩ ⟨4 * 64 + p.val, by omega⟩) := by
  after_reads_at
  try rfl

theorem T_db_5 (a : Fin 4) (b : Fin 1) (h : Fin 16) (p : Fin 64) :
    StableHlo.upto (List.flatten [hostOps1]) W 34 (Proc.devRef .tc main_v104) (ix4 a b h p)
      = W (Proc.devRef .tc main_v72_2) (ix3 a ⟨5 * 16 + h.val, by omega⟩ ⟨5 * 64 + p.val, by omega⟩) := by
  after_reads_at
  try rfl

theorem T_db_6 (a : Fin 4) (b : Fin 1) (h : Fin 16) (p : Fin 64) :
    StableHlo.upto (List.flatten [hostOps1]) W 34 (Proc.devRef .tc main_v105) (ix4 a b h p)
      = W (Proc.devRef .tc main_v72_2) (ix3 a ⟨6 * 16 + h.val, by omega⟩ ⟨6 * 64 + p.val, by omega⟩) := by
  after_reads_at
  try rfl

theorem T_db_7 (a : Fin 4) (b : Fin 1) (h : Fin 16) (p : Fin 64) :
    StableHlo.upto (List.flatten [hostOps1]) W 34 (Proc.devRef .tc main_v106) (ix4 a b h p)
      = W (Proc.devRef .tc main_v72_2) (ix3 a ⟨7 * 16 + h.val, by omega⟩ ⟨7 * 64 + p.val, by omega⟩) := by
  after_reads_at
  try rfl

theorem T_db (g : Fin 32) (p : Fin 64) (h : Fin 16) :
    StableHlo.after (List.flatten [hostOps1]) W (Proc.devRef .tc main_v109) (ix3 g p h) = W (Proc.devRef .tc main_v72_2)
      (ix3 ⟨g.val / 8, by omega⟩ ⟨g.val % 8 * 16 + h.val, by omega⟩ ⟨g.val % 8 * 64 + p.val, by omega⟩) := by
  after_reads_at
  obtain e | e | e | e | e | e | e | e : g.val % 8 = 0 ∨ g.val % 8 = 1 ∨ g.val % 8 = 2 ∨ g.val % 8 = 3 ∨ g.val % 8 = 4
      ∨ g.val % 8 = 5 ∨ g.val % 8 = 6 ∨ g.val % 8 = 7 := by omega
  · rw [dif_pos (by omega)]
    refine (T_db_0 W _ _ _ _).trans (congrArg (W (Proc.devRef .tc main_v72_2)) ?_)
    exact congrArg₂ (ix3 (⟨g.val / 8, by omega⟩ : Fin 4)) (Fin.ext (by simp only [e])) (Fin.ext (by simp only [e]))
  · rw [dif_neg (by omega)]; rw [dif_pos (by omega)]
    refine (T_db_1 W _ _ _ _).trans (congrArg (W (Proc.devRef .tc main_v72_2)) ?_)
    exact congrArg₂ (ix3 (⟨g.val / 8, by omega⟩ : Fin 4)) (Fin.ext (by simp only [e])) (Fin.ext (by simp only [e]))
  · rw [dif_neg (by omega)]; rw [dif_neg (by omega)]; rw [dif_pos (by omega)]
    refine (T_db_2 W _ _ _ _).trans (congrArg (W (Proc.devRef .tc main_v72_2)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_pos (by omega)]
    refine (T_db_3 W _ _ _ _).trans (congrArg (W (Proc.devRef .tc main_v72_2)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_pos (by omega)]
    refine (T_db_4 W _ _ _ _).trans (congrArg (W (Proc.devRef .tc main_v72_2)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_pos (by omega)]
    refine (T_db_5 W _ _ _ _).trans (congrArg (W (Proc.devRef .tc main_v72_2)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_neg (by omega)]; rw [dif_pos (by omega)]
    refine (T_db_6 W _ _ _ _).trans (congrArg (W (Proc.devRef .tc main_v72_2)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_neg (by omega)]; rw [dif_neg (by omega)]
    refine (T_db_7 W _ _ _ _).trans (congrArg (W (Proc.devRef .tc main_v72_2)) ?_)
    exact congrArg₂ (ix3 (⟨g.val / 8, by omega⟩ : Fin 4)) (Fin.ext (by simp only [e])) (Fin.ext (by simp only [e]))

theorem T_db_im_0 (a : Fin 4) (b : Fin 1) (h : Fin 16) (p : Fin 64) :
    StableHlo.upto (List.flatten [hostOps1]) W 62 (Proc.devRef .tc main_v127) (ix4 a b h p)
      = W (Proc.devRef .tc main_v72_3) (ix3 a ⟨0 * 16 + h.val, by omega⟩ ⟨0 * 64 + p.val, by omega⟩) := by
  after_reads_at
  try rfl

theorem T_db_im_1 (a : Fin 4) (b : Fin 1) (h : Fin 16) (p : Fin 64) :
    StableHlo.upto (List.flatten [hostOps1]) W 62 (Proc.devRef .tc main_v128) (ix4 a b h p)
      = W (Proc.devRef .tc main_v72_3) (ix3 a ⟨1 * 16 + h.val, by omega⟩ ⟨1 * 64 + p.val, by omega⟩) := by
  after_reads_at
  try rfl

theorem T_db_im_2 (a : Fin 4) (b : Fin 1) (h : Fin 16) (p : Fin 64) :
    StableHlo.upto (List.flatten [hostOps1]) W 62 (Proc.devRef .tc main_v129) (ix4 a b h p)
      = W (Proc.devRef .tc main_v72_3) (ix3 a ⟨2 * 16 + h.val, by omega⟩ ⟨2 * 64 + p.val, by omega⟩) := by
  after_reads_at
  try rfl

theorem T_db_im_3 (a : Fin 4) (b : Fin 1) (h : Fin 16) (p : Fin 64) :
    StableHlo.upto (List.flatten [hostOps1]) W 62 (Proc.devRef .tc main_v130) (ix4 a b h p)
      = W (Proc.devRef .tc main_v72_3) (ix3 a ⟨3 * 16 + h.val, by omega⟩ ⟨3 * 64 + p.val, by omega⟩) := by
  after_reads_at
  try rfl

theorem T_db_im_4 (a : Fin 4) (b : Fin 1) (h : Fin 16) (p : Fin 64) :
    StableHlo.upto (List.flatten [hostOps1]) W 62 (Proc.devRef .tc main_v131) (ix4 a b h p)
      = W (Proc.devRef .tc main_v72_3) (ix3 a ⟨4 * 16 + h.val, by omega⟩ ⟨4 * 64 + p.val, by omega⟩) := by
  after_reads_at
  try rfl

theorem T_db_im_5 (a : Fin 4) (b : Fin 1) (h : Fin 16) (p : Fin 64) :
    StableHlo.upto (List.flatten [hostOps1]) W 62 (Proc.devRef .tc main_v132) (ix4 a b h p)
      = W (Proc.devRef .tc main_v72_3) (ix3 a ⟨5 * 16 + h.val, by omega⟩ ⟨5 * 64 + p.val, by omega⟩) := by
  after_reads_at
  try rfl

theorem T_db_im_6 (a : Fin 4) (b : Fin 1) (h : Fin 16) (p : Fin 64) :
    StableHlo.upto (List.flatten [hostOps1]) W 62 (Proc.devRef .tc main_v133) (ix4 a b h p)
      = W (Proc.devRef .tc main_v72_3) (ix3 a ⟨6 * 16 + h.val, by omega⟩ ⟨6 * 64 + p.val, by omega⟩) := by
  after_reads_at
  try rfl

theorem T_db_im_7 (a : Fin 4) (b : Fin 1) (h : Fin 16) (p : Fin 64) :
    StableHlo.upto (List.flatten [hostOps1]) W 62 (Proc.devRef .tc main_v134) (ix4 a b h p)
      = W (Proc.devRef .tc main_v72_3) (ix3 a ⟨7 * 16 + h.val, by omega⟩ ⟨7 * 64 + p.val, by omega⟩) := by
  after_reads_at
  try rfl

theorem T_db_im (g : Fin 32) (p : Fin 64) (h : Fin 16) :
    StableHlo.after (List.flatten [hostOps1]) W (Proc.devRef .tc main_v137) (ix3 g p h) = W (Proc.devRef .tc main_v72_3)
      (ix3 ⟨g.val / 8, by omega⟩ ⟨g.val % 8 * 16 + h.val, by omega⟩ ⟨g.val % 8 * 64 + p.val, by omega⟩) := by
  after_reads_at
  obtain e | e | e | e | e | e | e | e : g.val % 8 = 0 ∨ g.val % 8 = 1 ∨ g.val % 8 = 2 ∨ g.val % 8 = 3 ∨ g.val % 8 = 4
      ∨ g.val % 8 = 5 ∨ g.val % 8 = 6 ∨ g.val % 8 = 7 := by omega
  · rw [dif_pos (by omega)]
    refine (T_db_im_0 W _ _ _ _).trans (congrArg (W (Proc.devRef .tc main_v72_3)) ?_)
    exact congrArg₂ (ix3 (⟨g.val / 8, by omega⟩ : Fin 4)) (Fin.ext (by simp only [e])) (Fin.ext (by simp only [e]))
  · rw [dif_neg (by omega)]; rw [dif_pos (by omega)]
    refine (T_db_im_1 W _ _ _ _).trans (congrArg (W (Proc.devRef .tc main_v72_3)) ?_)
    exact congrArg₂ (ix3 (⟨g.val / 8, by omega⟩ : Fin 4)) (Fin.ext (by simp only [e])) (Fin.ext (by simp only [e]))
  · rw [dif_neg (by omega)]; rw [dif_neg (by omega)]; rw [dif_pos (by omega)]
    refine (T_db_im_2 W _ _ _ _).trans (congrArg (W (Proc.devRef .tc main_v72_3)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_pos (by omega)]
    refine (T_db_im_3 W _ _ _ _).trans (congrArg (W (Proc.devRef .tc main_v72_3)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_pos (by omega)]
    refine (T_db_im_4 W _ _ _ _).trans (congrArg (W (Proc.devRef .tc main_v72_3)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_pos (by omega)]
    refine (T_db_im_5 W _ _ _ _).trans (congrArg (W (Proc.devRef .tc main_v72_3)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_neg (by omega)]; rw [dif_pos (by omega)]
    refine (T_db_im_6 W _ _ _ _).trans (congrArg (W (Proc.devRef .tc main_v72_3)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_neg (by omega)]; rw [dif_neg (by omega)]
    refine (T_db_im_7 W _ _ _ _).trans (congrArg (W (Proc.devRef .tc main_v72_3)) ?_)
    exact congrArg₂ (ix3 (⟨g.val / 8, by omega⟩ : Fin 4)) (Fin.ext (by simp only [e])) (Fin.ext (by simp only [e]))

theorem T_dc_0 (a : Fin 4) (b : Fin 1) (p : Fin 64) (h : Fin 16) :
    StableHlo.upto (List.flatten [hostOps1]) W 90 (Proc.devRef .tc main_v155) (ix4 a b p h)
      = W (Proc.devRef .tc main_v72_4) (ix3 a ⟨0 * 64 + p.val, by omega⟩ ⟨0 * 16 + h.val, by omega⟩) := by
  after_reads_at
  try rfl

theorem T_dc_1 (a : Fin 4) (b : Fin 1) (p : Fin 64) (h : Fin 16) :
    StableHlo.upto (List.flatten [hostOps1]) W 90 (Proc.devRef .tc main_v156) (ix4 a b p h)
      = W (Proc.devRef .tc main_v72_4) (ix3 a ⟨1 * 64 + p.val, by omega⟩ ⟨1 * 16 + h.val, by omega⟩) := by
  after_reads_at
  try rfl

theorem T_dc_2 (a : Fin 4) (b : Fin 1) (p : Fin 64) (h : Fin 16) :
    StableHlo.upto (List.flatten [hostOps1]) W 90 (Proc.devRef .tc main_v157) (ix4 a b p h)
      = W (Proc.devRef .tc main_v72_4) (ix3 a ⟨2 * 64 + p.val, by omega⟩ ⟨2 * 16 + h.val, by omega⟩) := by
  after_reads_at
  try rfl

theorem T_dc_3 (a : Fin 4) (b : Fin 1) (p : Fin 64) (h : Fin 16) :
    StableHlo.upto (List.flatten [hostOps1]) W 90 (Proc.devRef .tc main_v158) (ix4 a b p h)
      = W (Proc.devRef .tc main_v72_4) (ix3 a ⟨3 * 64 + p.val, by omega⟩ ⟨3 * 16 + h.val, by omega⟩) := by
  after_reads_at
  try rfl

theorem T_dc_4 (a : Fin 4) (b : Fin 1) (p : Fin 64) (h : Fin 16) :
    StableHlo.upto (List.flatten [hostOps1]) W 90 (Proc.devRef .tc main_v159) (ix4 a b p h)
      = W (Proc.devRef .tc main_v72_4) (ix3 a ⟨4 * 64 + p.val, by omega⟩ ⟨4 * 16 + h.val, by omega⟩) := by
  after_reads_at
  try rfl

theorem T_dc_5 (a : Fin 4) (b : Fin 1) (p : Fin 64) (h : Fin 16) :
    StableHlo.upto (List.flatten [hostOps1]) W 90 (Proc.devRef .tc main_v160) (ix4 a b p h)
      = W (Proc.devRef .tc main_v72_4) (ix3 a ⟨5 * 64 + p.val, by omega⟩ ⟨5 * 16 + h.val, by omega⟩) := by
  after_reads_at
  try rfl

theorem T_dc_6 (a : Fin 4) (b : Fin 1) (p : Fin 64) (h : Fin 16) :
    StableHlo.upto (List.flatten [hostOps1]) W 90 (Proc.devRef .tc main_v161) (ix4 a b p h)
      = W (Proc.devRef .tc main_v72_4) (ix3 a ⟨6 * 64 + p.val, by omega⟩ ⟨6 * 16 + h.val, by omega⟩) := by
  after_reads_at
  try rfl

theorem T_dc_7 (a : Fin 4) (b : Fin 1) (p : Fin 64) (h : Fin 16) :
    StableHlo.upto (List.flatten [hostOps1]) W 90 (Proc.devRef .tc main_v162) (ix4 a b p h)
      = W (Proc.devRef .tc main_v72_4) (ix3 a ⟨7 * 64 + p.val, by omega⟩ ⟨7 * 16 + h.val, by omega⟩) := by
  after_reads_at
  try rfl

theorem T_dc (g : Fin 32) (h : Fin 16) (p : Fin 64) :
    StableHlo.after (List.flatten [hostOps1]) W (Proc.devRef .tc main_v165) (ix3 g h p) = W (Proc.devRef .tc main_v72_4)
      (ix3 ⟨g.val / 8, by omega⟩ ⟨g.val % 8 * 64 + p.val, by omega⟩ ⟨g.val % 8 * 16 + h.val, by omega⟩) := by
  after_reads_at
  obtain e | e | e | e | e | e | e | e : g.val % 8 = 0 ∨ g.val % 8 = 1 ∨ g.val % 8 = 2 ∨ g.val % 8 = 3 ∨ g.val % 8 = 4
      ∨ g.val % 8 = 5 ∨ g.val % 8 = 6 ∨ g.val % 8 = 7 := by omega
  · rw [dif_pos (by omega)]
    refine (T_dc_0 W _ _ _ _).trans (congrArg (W (Proc.devRef .tc main_v72_4)) ?_)
    exact congrArg₂ (ix3 (⟨g.val / 8, by omega⟩ : Fin 4)) (Fin.ext (by simp only [e])) (Fin.ext (by simp only [e]))
  · rw [dif_neg (by omega)]; rw [dif_pos (by omega)]
    refine (T_dc_1 W _ _ _ _).trans (congrArg (W (Proc.devRef .tc main_v72_4)) ?_)
    exact congrArg₂ (ix3 (⟨g.val / 8, by omega⟩ : Fin 4)) (Fin.ext (by simp only [e])) (Fin.ext (by simp only [e]))
  · rw [dif_neg (by omega)]; rw [dif_neg (by omega)]; rw [dif_pos (by omega)]
    refine (T_dc_2 W _ _ _ _).trans (congrArg (W (Proc.devRef .tc main_v72_4)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_pos (by omega)]
    refine (T_dc_3 W _ _ _ _).trans (congrArg (W (Proc.devRef .tc main_v72_4)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_pos (by omega)]
    refine (T_dc_4 W _ _ _ _).trans (congrArg (W (Proc.devRef .tc main_v72_4)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_pos (by omega)]
    refine (T_dc_5 W _ _ _ _).trans (congrArg (W (Proc.devRef .tc main_v72_4)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_neg (by omega)]; rw [dif_pos (by omega)]
    refine (T_dc_6 W _ _ _ _).trans (congrArg (W (Proc.devRef .tc main_v72_4)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_neg (by omega)]; rw [dif_neg (by omega)]
    refine (T_dc_7 W _ _ _ _).trans (congrArg (W (Proc.devRef .tc main_v72_4)) ?_)
    exact congrArg₂ (ix3 (⟨g.val / 8, by omega⟩ : Fin 4)) (Fin.ext (by simp only [e])) (Fin.ext (by simp only [e]))

theorem T_dc_im_0 (a : Fin 4) (b : Fin 1) (p : Fin 64) (h : Fin 16) :
    StableHlo.upto (List.flatten [hostOps1]) W 118 (Proc.devRef .tc main_v183) (ix4 a b p h)
      = W (Proc.devRef .tc main_v72_5) (ix3 a ⟨0 * 64 + p.val, by omega⟩ ⟨0 * 16 + h.val, by omega⟩) := by
  after_reads_at
  try rfl

theorem T_dc_im_1 (a : Fin 4) (b : Fin 1) (p : Fin 64) (h : Fin 16) :
    StableHlo.upto (List.flatten [hostOps1]) W 118 (Proc.devRef .tc main_v184) (ix4 a b p h)
      = W (Proc.devRef .tc main_v72_5) (ix3 a ⟨1 * 64 + p.val, by omega⟩ ⟨1 * 16 + h.val, by omega⟩) := by
  after_reads_at
  try rfl

theorem T_dc_im_2 (a : Fin 4) (b : Fin 1) (p : Fin 64) (h : Fin 16) :
    StableHlo.upto (List.flatten [hostOps1]) W 118 (Proc.devRef .tc main_v185) (ix4 a b p h)
      = W (Proc.devRef .tc main_v72_5) (ix3 a ⟨2 * 64 + p.val, by omega⟩ ⟨2 * 16 + h.val, by omega⟩) := by
  after_reads_at
  try rfl

theorem T_dc_im_3 (a : Fin 4) (b : Fin 1) (p : Fin 64) (h : Fin 16) :
    StableHlo.upto (List.flatten [hostOps1]) W 118 (Proc.devRef .tc main_v186) (ix4 a b p h)
      = W (Proc.devRef .tc main_v72_5) (ix3 a ⟨3 * 64 + p.val, by omega⟩ ⟨3 * 16 + h.val, by omega⟩) := by
  after_reads_at
  try rfl

theorem T_dc_im_4 (a : Fin 4) (b : Fin 1) (p : Fin 64) (h : Fin 16) :
    StableHlo.upto (List.flatten [hostOps1]) W 118 (Proc.devRef .tc main_v187) (ix4 a b p h)
      = W (Proc.devRef .tc main_v72_5) (ix3 a ⟨4 * 64 + p.val, by omega⟩ ⟨4 * 16 + h.val, by omega⟩) := by
  after_reads_at
  try rfl

theorem T_dc_im_5 (a : Fin 4) (b : Fin 1) (p : Fin 64) (h : Fin 16) :
    StableHlo.upto (List.flatten [hostOps1]) W 118 (Proc.devRef .tc main_v188) (ix4 a b p h)
      = W (Proc.devRef .tc main_v72_5) (ix3 a ⟨5 * 64 + p.val, by omega⟩ ⟨5 * 16 + h.val, by omega⟩) := by
  after_reads_at
  try rfl

theorem T_dc_im_6 (a : Fin 4) (b : Fin 1) (p : Fin 64) (h : Fin 16) :
    StableHlo.upto (List.flatten [hostOps1]) W 118 (Proc.devRef .tc main_v189) (ix4 a b p h)
      = W (Proc.devRef .tc main_v72_5) (ix3 a ⟨6 * 64 + p.val, by omega⟩ ⟨6 * 16 + h.val, by omega⟩) := by
  after_reads_at
  try rfl

theorem T_dc_im_7 (a : Fin 4) (b : Fin 1) (p : Fin 64) (h : Fin 16) :
    StableHlo.upto (List.flatten [hostOps1]) W 118 (Proc.devRef .tc main_v190) (ix4 a b p h)
      = W (Proc.devRef .tc main_v72_5) (ix3 a ⟨7 * 64 + p.val, by omega⟩ ⟨7 * 16 + h.val, by omega⟩) := by
  after_reads_at
  try rfl

theorem T_dc_im (g : Fin 32) (h : Fin 16) (p : Fin 64) :
    StableHlo.after (List.flatten [hostOps1]) W (Proc.devRef .tc main_v193) (ix3 g h p) = W (Proc.devRef .tc main_v72_5)
      (ix3 ⟨g.val / 8, by omega⟩ ⟨g.val % 8 * 64 + p.val, by omega⟩ ⟨g.val % 8 * 16 + h.val, by omega⟩) := by
  after_reads_at
  obtain e | e | e | e | e | e | e | e : g.val % 8 = 0 ∨ g.val % 8 = 1 ∨ g.val % 8 = 2 ∨ g.val % 8 = 3 ∨ g.val % 8 = 4
      ∨ g.val % 8 = 5 ∨ g.val % 8 = 6 ∨ g.val % 8 = 7 := by omega
  · rw [dif_pos (by omega)]
    refine (T_dc_im_0 W _ _ _ _).trans (congrArg (W (Proc.devRef .tc main_v72_5)) ?_)
    exact congrArg₂ (ix3 (⟨g.val / 8, by omega⟩ : Fin 4)) (Fin.ext (by simp only [e])) (Fin.ext (by simp only [e]))
  · rw [dif_neg (by omega)]; rw [dif_pos (by omega)]
    refine (T_dc_im_1 W _ _ _ _).trans (congrArg (W (Proc.devRef .tc main_v72_5)) ?_)
    exact congrArg₂ (ix3 (⟨g.val / 8, by omega⟩ : Fin 4)) (Fin.ext (by simp only [e])) (Fin.ext (by simp only [e]))
  · rw [dif_neg (by omega)]; rw [dif_neg (by omega)]; rw [dif_pos (by omega)]
    refine (T_dc_im_2 W _ _ _ _).trans (congrArg (W (Proc.devRef .tc main_v72_5)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_pos (by omega)]
    refine (T_dc_im_3 W _ _ _ _).trans (congrArg (W (Proc.devRef .tc main_v72_5)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_pos (by omega)]
    refine (T_dc_im_4 W _ _ _ _).trans (congrArg (W (Proc.devRef .tc main_v72_5)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_pos (by omega)]
    refine (T_dc_im_5 W _ _ _ _).trans (congrArg (W (Proc.devRef .tc main_v72_5)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_neg (by omega)]; rw [dif_pos (by omega)]
    refine (T_dc_im_6 W _ _ _ _).trans (congrArg (W (Proc.devRef .tc main_v72_5)) ?_)
    exact congrArg₂ (ix3 (⟨g.val / 8, by omega⟩ : Fin 4)) (Fin.ext (by simp only [e])) (Fin.ext (by simp only [e]))
  · rw [dif_neg (by omega)]; rw [dif_neg (by omega)]; rw [dif_neg (by omega)]; rw [dif_neg (by omega)]; rw [dif_neg (by omega)]; rw [dif_neg (by omega)]; rw [dif_neg (by omega)]
    refine (T_dc_im_7 W _ _ _ _).trans (congrArg (W (Proc.devRef .tc main_v72_5)) ?_)
    exact congrArg₂ (ix3 (⟨g.val / 8, by omega⟩ : Fin 4)) (Fin.ext (by simp only [e])) (Fin.ext (by simp only [e]))

end Cert.KernelIdeal.Gen
-- ==== Proof.KHost.lean ====
module

public import proofs.«01_k».proof.Proof.KSpec
public import proofs.«01_k».proof.Proof.KTail

/-! The arrays that the kernel leaves, and its results. -/

@[expose] public section

noncomputable section

namespace Cert.KernelIdeal.Gen

open Idealize.ShloMosaic Idealize.ShloMosaic.TcCoe Idealize.ShloMosaic.Tactic
open Cert.Rec Finset

set_option maxRecDepth 16384
set_option pp.maxSteps 200

variable (m : (l : Loc nD τ sig) → Buf (Elt Ideal) l) (c : Dev nD)

theorem idx_out : ∀ t : Fin cfg0.N, win0_8.index t = ![0, t.val] ∧ win0_9.index t = ![0, t.val] ∧ win0_10.index t = ![t.val, 0, 0]
    ∧ win0_11.index t = ![t.val, 0, 0] ∧ win0_12.index t = ![t.val, 0, 0] ∧ win0_13.index t = ![t.val, 0, 0] ∧ win0_14.index t = ![0, t.val] := by
  decide +kernel

/-- A grid point by its number. -/
def pt (a : ℕ) : Fin cfg0.N := ⟨a % 4, Nat.mod_lt _ (by decide)⟩

theorem arr_8 : (dats m 0 c).arrAt 8 cfg0.N = fun i : S2048x512.Idx => (outsAt0 m c (pt ((i 1 : Fin 512).val / 128))).1 (ix2 (i 0 : Fin 2048) (⟨(i 1 : Fin 512).val % 128, Nat.mod_lt _ (by decide)⟩ : Fin 128)) := by
  refine (dats m 0 c).arrAt_eq_of_covers 8 _ (by decide +kernel) fun t hf y => ?_
  have hi := (idx_out t).1
  have ht := four t
  obtain ⟨r, k, rfl⟩ : ∃ (r : Fin 2048) (k : Fin 128), y = ix2 r k := ⟨y 0, y 1, eq_ix2 y⟩
  blk_simp
  rw [after0_8]
  have h0 : win0_8.index t 0 = 0 := by rw [hi]; rfl
  have h1 : win0_8.index t 1 = t.val := by rw [hi]; rfl
  refine congrArg₂ (fun (s : Fin cfg0.N) y => (outsAt0 m c s).1 y) (Fin.ext ?_) (congrArg₂ ix2 (Fin.ext ?_) (Fin.ext ?_))
  · show t.val = (win0_8.index t 1 * 128 + k.val) / 128 % 4
    omega
  · blk_simp
    omega
  · show k.val = (win0_8.index t 1 * 128 + k.val) % 128
    omega

theorem arr_9 : (dats m 0 c).arrAt 9 cfg0.N = fun i : S2x2048.Idx => (outsAt0 m c (pt ((i 1 : Fin 2048).val / 512))).2.1 (ix2 (i 0 : Fin 2) (⟨(i 1 : Fin 2048).val % 512, Nat.mod_lt _ (by decide)⟩ : Fin 512)) := by
  refine (dats m 0 c).arrAt_eq_of_covers 9 _ (by decide +kernel) fun t hf y => ?_
  have hi := (idx_out t).2.1
  have ht := four t
  obtain ⟨r, k, rfl⟩ : ∃ (r : Fin 2) (k : Fin 512), y = ix2 r k := ⟨y 0, y 1, eq_ix2 y⟩
  blk_simp
  rw [after0_9]
  have h0 : win0_9.index t 0 = 0 := by rw [hi]; rfl
  have h1 : win0_9.index t 1 = t.val := by rw [hi]; rfl
  refine congrArg₂ (fun (s : Fin cfg0.N) y => (outsAt0 m c s).2.1 y) (Fin.ext ?_) (congrArg₂ ix2 (Fin.ext ?_) (Fin.ext ?_))
  · show t.val = (win0_9.index t 1 * 512 + k.val) / 512 % 4
    omega
  · blk_simp
    omega
  · show k.val = (win0_9.index t 1 * 512 + k.val) % 512
    omega

theorem arr_10 : (dats m 0 c).arrAt 10 cfg0.N = fun i : S4x128x512.Idx => (outsAt0 m c (pt (i 0 : Fin 4).val)).2.2.1 (ix3 0 (i 1 : Fin 128) (i 2 : Fin 512)) := by
  refine (dats m 0 c).arrAt_eq_of_covers 10 _ (by decide +kernel) fun t hf y => ?_
  have hi := (idx_out t).2.2.1
  have ht := four t
  obtain ⟨a, x, y, rfl⟩ : ∃ (a : Fin 1) (x : Fin 128) (z : Fin 512), y = ix3 a x z := ⟨y 0, y 1, y 2, eq_ix3 y⟩
  blk_simp
  rw [after0_10]
  have h0 : win0_10.index t 0 = t.val := by rw [hi]; rfl
  have h1 : win0_10.index t 1 = 0 := by rw [hi]; rfl
  have h2 : win0_10.index t 2 = 0 := by rw [hi]; rfl
  refine congrArg₂ (fun (s : Fin cfg0.N) y => (outsAt0 m c s).2.2.1 y) (Fin.ext ?_) ?_
  · show t.val = win0_10.index t 0 % 4
    omega
  · rw [show a = 0 from Subsingleton.elim _ _]
    refine congrArg₂ (ix3 0) (Fin.ext ?_) (Fin.ext ?_)
    · blk_simp
      omega
    · blk_simp
      omega

theorem arr_11 : (dats m 0 c).arrAt 11 cfg0.N = fun i : S4x128x512.Idx => (outsAt0 m c (pt (i 0 : Fin 4).val)).2.2.2.1 (ix3 0 (i 1 : Fin 128) (i 2 : Fin 512)) := by
  refine (dats m 0 c).arrAt_eq_of_covers 11 _ (by decide +kernel) fun t hf y => ?_
  have hi := (idx_out t).2.2.2.1
  have ht := four t
  obtain ⟨a, x, y, rfl⟩ : ∃ (a : Fin 1) (x : Fin 128) (z : Fin 512), y = ix3 a x z := ⟨y 0, y 1, y 2, eq_ix3 y⟩
  blk_simp
  rw [after0_11]
  have h0 : win0_11.index t 0 = t.val := by rw [hi]; rfl
  have h1 : win0_11.index t 1 = 0 := by rw [hi]; rfl
  have h2 : win0_11.index t 2 = 0 := by rw [hi]; rfl
  refine congrArg₂ (fun (s : Fin cfg0.N) y => (outsAt0 m c s).2.2.2.1 y) (Fin.ext ?_) ?_
  · show t.val = win0_11.index t 0 % 4
    omega
  · rw [show a = 0 from Subsingleton.elim _ _]
    refine congrArg₂ (ix3 0) (Fin.ext ?_) (Fin.ext ?_)
    · blk_simp
      omega
    · blk_simp
      omega

theorem arr_12 : (dats m 0 c).arrAt 12 cfg0.N = fun i : S4x512x128.Idx => (outsAt0 m c (pt (i 0 : Fin 4).val)).2.2.2.2.1 (ix3 0 (i 1 : Fin 512) (i 2 : Fin 128)) := by
  refine (dats m 0 c).arrAt_eq_of_covers 12 _ (by decide +kernel) fun t hf y => ?_
  have hi := (idx_out t).2.2.2.2.1
  have ht := four t
  obtain ⟨a, x, y, rfl⟩ : ∃ (a : Fin 1) (x : Fin 512) (z : Fin 128), y = ix3 a x z := ⟨y 0, y 1, y 2, eq_ix3 y⟩
  blk_simp
  rw [after0_12]
  have h0 : win0_12.index t 0 = t.val := by rw [hi]; rfl
  have h1 : win0_12.index t 1 = 0 := by rw [hi]; rfl
  have h2 : win0_12.index t 2 = 0 := by rw [hi]; rfl
  refine congrArg₂ (fun (s : Fin cfg0.N) y => (outsAt0 m c s).2.2.2.2.1 y) (Fin.ext ?_) ?_
  · show t.val = win0_12.index t 0 % 4
    omega
  · rw [show a = 0 from Subsingleton.elim _ _]
    refine congrArg₂ (ix3 0) (Fin.ext ?_) (Fin.ext ?_)
    · blk_simp
      omega
    · blk_simp
      omega

theorem arr_13 : (dats m 0 c).arrAt 13 cfg0.N = fun i : S4x512x128.Idx => (outsAt0 m c (pt (i 0 : Fin 4).val)).2.2.2.2.2.1 (ix3 0 (i 1 : Fin 512) (i 2 : Fin 128)) := by
  refine (dats m 0 c).arrAt_eq_of_covers 13 _ (by decide +kernel) fun t hf y => ?_
  have hi := (idx_out t).2.2.2.2.2.1
  have ht := four t
  obtain ⟨a, x, y, rfl⟩ : ∃ (a : Fin 1) (x : Fin 512) (z : Fin 128), y = ix3 a x z := ⟨y 0, y 1, y 2, eq_ix3 y⟩
  blk_simp
  rw [after0_13]
  have h0 : win0_13.index t 0 = t.val := by rw [hi]; rfl
  have h1 : win0_13.index t 1 = 0 := by rw [hi]; rfl
  have h2 : win0_13.index t 2 = 0 := by rw [hi]; rfl
  refine congrArg₂ (fun (s : Fin cfg0.N) y => (outsAt0 m c s).2.2.2.2.2.1 y) (Fin.ext ?_) ?_
  · show t.val = win0_13.index t 0 % 4
    omega
  · rw [show a = 0 from Subsingleton.elim _ _]
    refine congrArg₂ (ix3 0) (Fin.ext ?_) (Fin.ext ?_)
    · blk_simp
      omega
    · blk_simp
      omega

theorem arr_14 : (dats m 0 c).arrAt 14 cfg0.N = fun i : S1x512.Idx => (outsAt0 m c (pt ((i 1 : Fin 512).val / 128))).2.2.2.2.2.2 (ix2 (i 0 : Fin 1) (⟨(i 1 : Fin 512).val % 128, Nat.mod_lt _ (by decide)⟩ : Fin 128)) := by
  refine (dats m 0 c).arrAt_eq_of_covers 14 _ (by decide +kernel) fun t hf y => ?_
  have hi := (idx_out t).2.2.2.2.2.2
  have ht := four t
  obtain ⟨r, k, rfl⟩ : ∃ (r : Fin 1) (k : Fin 128), y = ix2 r k := ⟨y 0, y 1, eq_ix2 y⟩
  blk_simp
  rw [after0_14]
  have h0 : win0_14.index t 0 = 0 := by rw [hi]; rfl
  have h1 : win0_14.index t 1 = t.val := by rw [hi]; rfl
  refine congrArg₂ (fun (s : Fin cfg0.N) y => (outsAt0 m c s).2.2.2.2.2.2 y) (Fin.ext ?_) (congrArg₂ ix2 (Fin.ext ?_) (Fin.ext ?_))
  · show t.val = (win0_14.index t 1 * 128 + k.val) / 128 % 4
    omega
  · blk_simp
    omega
  · show k.val = (win0_14.index t 1 * 128 + k.val) % 128
    omega

end Cert.KernelIdeal.Gen
-- ==== Proof.KRun.lean ====
module

public import proofs.«01_k».proof.Proof.KHost
public import proofs.«01_k».proof.Proof.Results
public import Idealize.ShloMosaic.Lib.Claim

/-! The kernel's results are the gradients. -/

@[expose] public section

noncomputable section

namespace Cert.KernelIdeal.Gen

open Idealize.ShloMosaic Idealize.ShloMosaic.TcCoe Idealize.ShloMosaic.Tactic
open Cert.Rec Finset

set_option maxRecDepth 16384
set_option pp.maxSteps 400

variable (m : (l : Loc nD τ sig) → Buf (Elt Ideal) l) (c : Dev nD) {d : Data}

attribute [local irreducible] outsAt0

/-- What the buffers hold between the kernel and the host's last operations. -/
abbrev VT : Valuation τ sig (Elt Ideal) := Pipeline.withArrays (cfgs 0).spec c (V0 m c) fun w => (dats m 0 c).arrAt w (cfgs 0).N

theorem arr_inj : Function.Injective (Pipeline.arrRef (cfgs 0).spec) := by
  decide +kernel

theorem congr2 {A B : Type} (f : A → B → ℝ) {a a' : A} {b b' : B} (ha : a = a') (hb : b = b') : ((f a b : ℝ) : EReal) = (f a' b' : ℝ) := by
  rw [ha, hb]

theorem congr3 {A B C : Type} (f : A → B → C → ℝ) {a a' : A} {b b' : B} {x x' : C} (ha : a = a') (hb : b = b') (hx : x = x') :
    ((f a b x : ℝ) : EReal) = (f a' b' x' : ℝ) := by
  rw [ha, hb, hx]

theorem VT_8 : VT m c (Proc.devRef .tc main_v72_0) = (dats m 0 c).arrAt 8 cfg0.N :=
  Pipeline.withArrays_arr (cfgs 0).spec arr_inj c (V0 m c) (fun w => (dats m 0 c).arrAt w (cfgs 0).N) 8

theorem VT_9 : VT m c (Proc.devRef .tc main_v72_1) = (dats m 0 c).arrAt 9 cfg0.N :=
  Pipeline.withArrays_arr (cfgs 0).spec arr_inj c (V0 m c) (fun w => (dats m 0 c).arrAt w (cfgs 0).N) 9

theorem VT_10 : VT m c (Proc.devRef .tc main_v72_2) = (dats m 0 c).arrAt 10 cfg0.N :=
  Pipeline.withArrays_arr (cfgs 0).spec arr_inj c (V0 m c) (fun w => (dats m 0 c).arrAt w (cfgs 0).N) 10

theorem VT_11 : VT m c (Proc.devRef .tc main_v72_3) = (dats m 0 c).arrAt 11 cfg0.N :=
  Pipeline.withArrays_arr (cfgs 0).spec arr_inj c (V0 m c) (fun w => (dats m 0 c).arrAt w (cfgs 0).N) 11

theorem VT_12 : VT m c (Proc.devRef .tc main_v72_4) = (dats m 0 c).arrAt 12 cfg0.N :=
  Pipeline.withArrays_arr (cfgs 0).spec arr_inj c (V0 m c) (fun w => (dats m 0 c).arrAt w (cfgs 0).N) 12

theorem VT_13 : VT m c (Proc.devRef .tc main_v72_5) = (dats m 0 c).arrAt 13 cfg0.N :=
  Pipeline.withArrays_arr (cfgs 0).spec arr_inj c (V0 m c) (fun w => (dats m 0 c).arrAt w (cfgs 0).N) 13

theorem VT_14 : VT m c (Proc.devRef .tc main_v72_6) = (dats m 0 c).arrAt 14 cfg0.N :=
  Pipeline.withArrays_arr (cfgs 0).spec arr_inj c (V0 m c) (fun w => (dats m 0 c).arrAt w (cfgs 0).N) 14

theorem res_du (h : At m c d) : Pipeline.afterTail₀ cfgs (dats m) 0 (V0 m) [hostOps1] c main_v75 = d.aU := by
  funext y
  obtain ⟨n, q, rfl⟩ : ∃ (n : Fin 2048) (q : Fin 512), y = ix2 n q := ⟨y 0, y 1, eq_ix2 y⟩
  refine (T_du (VT m c) n q).trans ?_
  rw [VT_8, arr_8]
  refine (o_du m c h _ _ _).trans ?_
  refine congr3 d.rU ?_ (Fin.ext ?_) (Fin.ext ?_)
  · show timeOf (n.val % 256 * 8 + n.val / 256) = n.val
    unfold timeOf
    omega
  · show (8 * (q.val / 128 % 4) + q.val % 128 / 16) % 32 = q.val / 16
    omega
  · show q.val % 128 % 16 = q.val % 16
    omega

theorem res_dl (h : At m c d) : Pipeline.afterTail₀ cfgs (dats m) 0 (V0 m) [hostOps1] c main_v78 = d.aLre := by
  funext y
  obtain ⟨g, p, rfl⟩ : ∃ (g : Fin 32) (p : Fin 64), y = ix2 g p := ⟨y 0, y 1, eq_ix2 y⟩
  refine (T_dl (VT m c) g p).trans ?_
  rw [VT_9, arr_9]
  refine (o_dl m c h _ _).trans ?_
  refine congr2 (fun g p => (d.rL g p).re) (Fin.ext ?_) (Fin.ext ?_)
  · show (8 * ((g.val * 64 + p.val) / 512 % 4) + (g.val * 64 + p.val) % 512 / 64) % 32 = g.val
    omega
  · show (g.val * 64 + p.val) % 512 % 64 = p.val
    omega

theorem res_dl_im (h : At m c d) : Pipeline.afterTail₀ cfgs (dats m) 0 (V0 m) [hostOps1] c main_v81 = d.aLim := by
  funext y
  obtain ⟨g, p, rfl⟩ : ∃ (g : Fin 32) (p : Fin 64), y = ix2 g p := ⟨y 0, y 1, eq_ix2 y⟩
  refine (T_dl_im (VT m c) g p).trans ?_
  rw [VT_9, arr_9]
  refine (o_dl_im m c h _ _).trans ?_
  refine congr2 (fun g p => (d.rL g p).im) (Fin.ext ?_) (Fin.ext ?_)
  · show (8 * ((g.val * 64 + p.val) / 512 % 4) + (g.val * 64 + p.val) % 512 / 64) % 32 = g.val
    omega
  · show (g.val * 64 + p.val) % 512 % 64 = p.val
    omega

theorem res_db (h : At m c d) : Pipeline.afterTail₀ cfgs (dats m) 0 (V0 m) [hostOps1] c main_v109 = d.aBre := by
  funext y
  obtain ⟨g, p, q, rfl⟩ : ∃ (g : Fin 32) (p : Fin 64) (q : Fin 16), y = ix3 g p q := ⟨y 0, y 1, y 2, eq_ix3 y⟩
  refine (T_db (VT m c) g p q).trans ?_
  rw [VT_10, arr_10]
  refine (o_db m c h (pt (g.val / 8)) ⟨g.val % 8 * 16 + q.val, by omega⟩ ⟨g.val % 8 * 64 + p.val, by omega⟩
    (by show (g.val % 8 * 16 + q.val) / 16 = (g.val % 8 * 64 + p.val) / 64; omega)).trans ?_
  refine congr3 d.rBre (Fin.ext ?_) (Fin.ext ?_) (Fin.ext ?_)
  · show (8 * (g.val / 8 % 4) + (g.val % 8 * 64 + p.val) / 64) % 32 = g.val
    omega
  · show (g.val % 8 * 64 + p.val) % 64 = p.val
    omega
  · show (g.val % 8 * 16 + q.val) % 16 = q.val
    omega

theorem res_db_im (h : At m c d) : Pipeline.afterTail₀ cfgs (dats m) 0 (V0 m) [hostOps1] c main_v137 = d.aBim := by
  funext y
  obtain ⟨g, p, q, rfl⟩ : ∃ (g : Fin 32) (p : Fin 64) (q : Fin 16), y = ix3 g p q := ⟨y 0, y 1, y 2, eq_ix3 y⟩
  refine (T_db_im (VT m c) g p q).trans ?_
  rw [VT_11, arr_11]
  refine (o_db_im m c h (pt (g.val / 8)) ⟨g.val % 8 * 16 + q.val, by omega⟩ ⟨g.val % 8 * 64 + p.val, by omega⟩
    (by show (g.val % 8 * 16 + q.val) / 16 = (g.val % 8 * 64 + p.val) / 64; omega)).trans ?_
  refine congr3 d.rBim (Fin.ext ?_) (Fin.ext ?_) (Fin.ext ?_)
  · show (8 * (g.val / 8 % 4) + (g.val % 8 * 64 + p.val) / 64) % 32 = g.val
    omega
  · show (g.val % 8 * 64 + p.val) % 64 = p.val
    omega
  · show (g.val % 8 * 16 + q.val) % 16 = q.val
    omega

theorem res_dc (h : At m c d) : Pipeline.afterTail₀ cfgs (dats m) 0 (V0 m) [hostOps1] c main_v165 = d.aCre := by
  funext y
  obtain ⟨g, q, p, rfl⟩ : ∃ (g : Fin 32) (q : Fin 16) (p : Fin 64), y = ix3 g q p := ⟨y 0, y 1, y 2, eq_ix3 y⟩
  refine (T_dc (VT m c) g q p).trans ?_
  rw [VT_12, arr_12]
  refine (o_dc m c h (pt (g.val / 8)) ⟨g.val % 8 * 64 + p.val, by omega⟩ ⟨g.val % 8 * 16 + q.val, by omega⟩
    (by show (g.val % 8 * 16 + q.val) / 16 = (g.val % 8 * 64 + p.val) / 64; omega)).trans ?_
  refine congr3 d.rCre (Fin.ext ?_) (Fin.ext ?_) (Fin.ext ?_)
  · show (8 * (g.val / 8 % 4) + (g.val % 8 * 64 + p.val) / 64) % 32 = g.val
    omega
  · show (g.val % 8 * 16 + q.val) % 16 = q.val
    omega
  · show (g.val % 8 * 64 + p.val) % 64 = p.val
    omega

theorem res_dc_im (h : At m c d) : Pipeline.afterTail₀ cfgs (dats m) 0 (V0 m) [hostOps1] c main_v193 = d.aCim := by
  funext y
  obtain ⟨g, q, p, rfl⟩ : ∃ (g : Fin 32) (q : Fin 16) (p : Fin 64), y = ix3 g q p := ⟨y 0, y 1, y 2, eq_ix3 y⟩
  refine (T_dc_im (VT m c) g q p).trans ?_
  rw [VT_13, arr_13]
  refine (o_dc_im m c h (pt (g.val / 8)) ⟨g.val % 8 * 64 + p.val, by omega⟩ ⟨g.val % 8 * 16 + q.val, by omega⟩
    (by show (g.val % 8 * 16 + q.val) / 16 = (g.val % 8 * 64 + p.val) / 64; omega)).trans ?_
  refine congr3 d.rCim (Fin.ext ?_) (Fin.ext ?_) (Fin.ext ?_)
  · show (8 * (g.val / 8 % 4) + (g.val % 8 * 64 + p.val) / 64) % 32 = g.val
    omega
  · show (g.val % 8 * 16 + q.val) % 16 = q.val
    omega
  · show (g.val % 8 * 64 + p.val) % 64 = p.val
    omega

theorem res_dd (h : At m c d) : Pipeline.afterTail₀ cfgs (dats m) 0 (V0 m) [hostOps1] c main_v194 = d.aD := by
  funext y
  obtain ⟨g, q, rfl⟩ : ∃ (g : Fin 32) (q : Fin 16), y = ix2 g q := ⟨y 0, y 1, eq_ix2 y⟩
  refine (T_dd (VT m c) g q).trans ?_
  rw [VT_14, arr_14]
  refine (o_dd m c h _ _).trans ?_
  refine congr2 d.rD (Fin.ext ?_) (Fin.ext ?_)
  · show (8 * ((g.val * 16 + q.val) / 128 % 4) + (g.val * 16 + q.val) % 128 / 16) % 32 = g.val
    omega
  · show (g.val * 16 + q.val) % 128 % 16 = q.val
    omega

/-- Every run ends with the gradients in the result buffers. -/
theorem ends (g : Dev nD → PrngReg) (D : Dev nD → Data) (hd : ∀ c, At m c (D c)) :
    θ_run (defs (F := Ideal)) (onTc (τ := τ) (main (F := Ideal))) ⟨m, fun _ => 0, g⟩ (fun r => ∀ c : Dev nD,
      r.2.mem ((c.tc : Thread nD τ).loc main_v75) = (D c).aU
      ∧ r.2.mem ((c.tc : Thread nD τ).loc main_v78) = (D c).aLre
      ∧ r.2.mem ((c.tc : Thread nD τ).loc main_v81) = (D c).aLim
      ∧ r.2.mem ((c.tc : Thread nD τ).loc main_v109) = (D c).aBre
      ∧ r.2.mem ((c.tc : Thread nD τ).loc main_v137) = (D c).aBim
      ∧ r.2.mem ((c.tc : Thread nD τ).loc main_v165) = (D c).aCre
      ∧ r.2.mem ((c.tc : Thread nD τ).loc main_v193) = (D c).aCim
      ∧ r.2.mem ((c.tc : Thread nD τ).loc main_v194) = (D c).aD) := by
  run_from run_main m g
  · exact res_du m c (hd c)
  · exact res_dl m c (hd c)
  · exact res_dl_im m c (hd c)
  · exact res_db m c (hd c)
  · exact res_db_im m c (hd c)
  · exact res_dc m c (hd c)
  · exact res_dc_im m c (hd c)
  · exact res_dd m c (hd c)

/-- The same, with the arguments unchanged. -/
theorem gradients (g : Dev nD → PrngReg) (D : Dev nD → Data) (hd : ∀ c, At m c (D c)) :
    θ_run (defs (F := Ideal)) (onTc (τ := τ) (main (F := Ideal))) ⟨m, fun _ => 0, g⟩ (fun r => ∀ c : Dev nD,
      r.2.mem ((c.tc : Thread nD τ).loc main_v75) = (D c).aU
      ∧ r.2.mem ((c.tc : Thread nD τ).loc main_v78) = (D c).aLre
      ∧ r.2.mem ((c.tc : Thread nD τ).loc main_v81) = (D c).aLim
      ∧ r.2.mem ((c.tc : Thread nD τ).loc main_v109) = (D c).aBre
      ∧ r.2.mem ((c.tc : Thread nD τ).loc main_v137) = (D c).aBim
      ∧ r.2.mem ((c.tc : Thread nD τ).loc main_v165) = (D c).aCre
      ∧ r.2.mem ((c.tc : Thread nD τ).loc main_v193) = (D c).aCim
      ∧ r.2.mem ((c.tc : Thread nD τ).loc main_v194) = (D c).aD
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono
    (fun r h c => ⟨(h.1 c).1, (h.1 c).2.1, (h.1 c).2.2.1, (h.1 c).2.2.2.1, (h.1 c).2.2.2.2.1, (h.1 c).2.2.2.2.2.1,
      (h.1 c).2.2.2.2.2.2.1, (h.1 c).2.2.2.2.2.2.2, h.2 c⟩)
    (θ_run_and (ends m g D hd) (unchanged m g))

end Cert.KernelIdeal.Gen
-- ==== Proof.Finite.lean ====
module

public import proofs.«01_k».proof.Defs
public import proofs.«01_k».proof.Proof.Spec
public import Idealize.ShloMosaic.Lib.ReduceAll
public import Idealize.ShloMosaic.Lib.Pointwise

/-! Arguments that satisfy the precondition are real. -/

@[expose] public section

noncomputable section

namespace Cert.Rec

open Idealize.ShloMosaic

/-- A value whose absolute value is below infinity is real. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal hlt.1.ne ?_).symm
  rintro rfl
  simp at hlt

/-- The same through the array: every entry is real when `all (|x| < ∞)`. -/
theorem real_of_all {s : Shape} (x : FVec Ideal s .f32) {axes : List (Fin s.rank)} (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32))) (constantI ⟨0, ![]⟩ 1 1#1) hr hu j = 1#1)
    (i : s.Idx) : x i = ((x i : EReal).toReal : EReal) := by
  haveI : Subsingleton (⟨0, ![]⟩ : Shape).Idx := ⟨fun a b => funext fun k => k.elim0⟩
  exact real_of_lt _ (Host.reduce_andi_all _ _ hr hu j e i)

theorem holds_of_pre [Cert.Pre_finite.Facts] (a0 a1 : FVec Ideal ⟨2, ![2048, 512]⟩ .f32) (a2 a3 : FVec Ideal ⟨2, ![32, 64]⟩ .f32)
    (a4 a5 : FVec Ideal ⟨3, ![32, 64, 16]⟩ .f32) (a6 a7 : FVec Ideal ⟨3, ![32, 16, 64]⟩ .f32) (a8 : FVec Ideal ⟨2, ![32, 16]⟩ .f32)
    (h : Cert.Pre_finite.fn (F := Ideal) a0 a1 a2 a3 a4 a5 a6 a7 a8 = fun _ => 1#1) : ∃ d : Data, d.Holds a0 a1 a2 a3 a4 a5 a6 a7 a8 := by
  have h' := congrFun h (Shape.Idx.first Cert.Pre_finite.Facts.h_S_)
  obtain ⟨h', h8⟩ := IntOp.andi_eq_one.1 h'
  obtain ⟨h', h7⟩ := IntOp.andi_eq_one.1 h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  exact ⟨{ U := fun n q => (a0 (ix2 ⟨n % 2048, Nat.mod_lt _ (by decide)⟩ q) : EReal).toReal
           Y := fun n q => (a1 (ix2 ⟨n % 2048, Nat.mod_lt _ (by decide)⟩ q) : EReal).toReal
           lam := fun g p => ⟨(a2 (ix2 g p) : EReal).toReal, (a3 (ix2 g p) : EReal).toReal⟩
           bb := fun g p h => ⟨(a4 (ix3 g p h) : EReal).toReal, (a5 (ix3 g p h) : EReal).toReal⟩
           cc := fun g h p => ⟨(a6 (ix3 g h p) : EReal).toReal, (a7 (ix3 g h p) : EReal).toReal⟩
           dd := fun g h => (a8 (ix2 g h) : EReal).toReal },
    { u := fun n q => (real_of_all a0 _ _ _ _ h0 _).trans (by
        have e : (⟨n.val % 2048, Nat.mod_lt _ (by decide)⟩ : Fin 2048) = n := Fin.ext (Nat.mod_eq_of_lt n.isLt)
        show _ = ((EReal.toReal (a0 (ix2 (⟨n.val % 2048, _⟩ : Fin 2048) q)) : ℝ) : EReal)
        rw [e])
      y := fun n q => (real_of_all a1 _ _ _ _ h1 _).trans (by
        have e : (⟨n.val % 2048, Nat.mod_lt _ (by decide)⟩ : Fin 2048) = n := Fin.ext (Nat.mod_eq_of_lt n.isLt)
        show _ = ((EReal.toReal (a1 (ix2 (⟨n.val % 2048, _⟩ : Fin 2048) q)) : ℝ) : EReal)
        rw [e])
      lre := fun _ _ => real_of_all a2 _ _ _ _ h2 _
      lim := fun _ _ => real_of_all a3 _ _ _ _ h3 _
      bre := fun _ _ _ => real_of_all a4 _ _ _ _ h4 _
      bim := fun _ _ _ => real_of_all a5 _ _ _ _ h5 _
      cre := fun _ _ _ => real_of_all a6 _ _ _ _ h6 _
      cim := fun _ _ _ => real_of_all a7 _ _ _ _ h7 _
      dd := fun _ _ => real_of_all a8 _ _ _ _ h8 _ }⟩

end Cert.Rec
-- ==== Proof.FfnSpec.lean ====
module

public import Idealize.ShloMosaic.PureOps
public import Idealize.ShloMosaic.Lib.Pointwise

/-! The feed-forward block's gradients: the columns of one device, and the sums. -/

@[expose] public section

noncomputable section

namespace Cert.Ffn

open Idealize.ShloMosaic

/-- The whole array's column that is column `i` of part `s`. -/
def col (s : Fin 4) (i : Fin 704) : Fin 2816 := ⟨s.val * 704 + i.val, by have := s.isLt; have := i.isLt; omega⟩

theorem col_eq (s : Fin 4) (i : Fin 704) (h : s.val * 704 + i.val < 2816) : (⟨s.val * 704 + i.val, h⟩ : Fin 2816) = col s i := rfl

/-- Part `s` of the transpose of `x`, times `y`. -/
def wgrad (x : FVec Ideal ⟨2, ![2048, 2816]⟩ .f32) (y : FVec Ideal ⟨2, ![2048, 1024]⟩ .f32) : FVec Ideal ⟨3, ![4, 704, 1024]⟩ .bf16 := fun i =>
  (show EReal from ∑ k : Fin 2048, (show EReal from x (ix2 k (col (i 0) (i 1)))) * (show EReal from y (ix2 k (i 2))))

/-- Half of an array. -/
def half (x : FVec Ideal ⟨2, ![2048, 1024]⟩ .f32) : FVec Ideal ⟨2, ![2048, 1024]⟩ .f32 := fun i =>
  (show EReal from Ideal.ofBits FTy.f32 0x3F000000#32 * (show EReal from x i))

/-- The logistic function. -/
def sgm (a : EReal) : EReal := Ideal.div 1 (1 + Ideal.exp (-a))

/-- The gradient of `silu a * b` in `a`, for the cotangent `d`. -/
def dGate (d a b : EReal) : EReal := d * b * (sgm a * (1 + a * (1 - sgm a)))

/-- The gradient of `silu a * b` in `b`, for the cotangent `d`. -/
def dUp (d a : EReal) : EReal := d * (a * sgm a)

/-- The cotangent of the activation: half of `dh` times the transpose of `w`. -/
def dSilu (dh : FVec Ideal ⟨2, ![2048, 1024]⟩ .f32) (w : FVec Ideal ⟨2, ![2816, 1024]⟩ .f32) (i : Fin 2048) (j : Fin 2816) : EReal :=
  ∑ k : Fin 1024, (show EReal from half dh (ix2 i k)) * (show EReal from w (ix2 j k))

/-- Both gradients, by parts of the columns. -/
def daOf (a b : FVec Ideal ⟨2, ![2048, 2816]⟩ .f32) (w : FVec Ideal ⟨2, ![2816, 1024]⟩ .f32) (dh : FVec Ideal ⟨2, ![2048, 1024]⟩ .f32) :
    FVec Ideal ⟨3, ![4, 2048, 704]⟩ .bf16 := fun i =>
  (show EReal from dGate (dSilu dh w (i 1) (col (i 0) (i 2))) (a (ix2 (i 1) (col (i 0) (i 2)))) (b (ix2 (i 1) (col (i 0) (i 2)))))

def dbOf (a : FVec Ideal ⟨2, ![2048, 2816]⟩ .f32) (w : FVec Ideal ⟨2, ![2816, 1024]⟩ .f32) (dh : FVec Ideal ⟨2, ![2048, 1024]⟩ .f32) :
    FVec Ideal ⟨3, ![4, 2048, 704]⟩ .bf16 := fun i =>
  (show EReal from dUp (dSilu dh w (i 1) (col (i 0) (i 2))) (a (ix2 (i 1) (col (i 0) (i 2)))))

/-- The logistic function is real at a real. -/
theorem sgm_coe (a : ℝ) : sgm a = ((1 / (1 + Real.exp (-a)) : ℝ) : EReal) := by
  have h : (1 + Ideal.exp (-(a : EReal)) : EReal) = ((1 + Real.exp (-a) : ℝ) : EReal) := by
    rw [← EReal.coe_neg, Ideal.exp_coe, EReal.coe_add, EReal.coe_one]
  have hp : (1 + Real.exp (-a) : ℝ) ≠ 0 := by positivity
  rw [sgm, h, Ideal.div_coe hp, one_mul]

/-- The gradient in `a` as the chain rule writes it. -/
theorem dGate_rule (d a b : ℝ) : dGate d a b = (d : EReal) * b * sgm a + a * ((d : EReal) * b) * (sgm a * (1 - sgm a)) := by
  rw [dGate, sgm_coe]
  norm_cast
  ring

/-- One half is a real. -/
theorem half_real : ∃ r : ℝ, Ideal.ofBits FTy.f32 0x3F000000#32 = (r : EReal) := by
  refine ⟨8388608 * (2 ^ 24)⁻¹, ?_⟩
  rw [EReal.coe_mul]
  simp [Ideal.ofBits, Ideal.ieee]

/-- A sum of reals is real. -/
theorem sum_real {ι : Type} (t : Finset ι) (f : ι → EReal) (h : ∀ k, ∃ r : ℝ, f k = (r : EReal)) : ∃ r : ℝ, (∑ k ∈ t, f k) = (r : EReal) :=
  Finset.sum_induction f (fun x : EReal => ∃ r : ℝ, x = (r : EReal))
    (fun _ _ ⟨p, hp⟩ ⟨q, hq⟩ => ⟨p + q, by rw [hp, hq, EReal.coe_add]⟩) ⟨0, EReal.coe_zero.symm⟩ fun k _ => h k

/-- A product of reals is real. -/
theorem mul_real {x y : EReal} (hx : ∃ r : ℝ, x = (r : EReal)) (hy : ∃ r : ℝ, y = (r : EReal)) : ∃ r : ℝ, x * y = (r : EReal) := by
  obtain ⟨p, rfl⟩ := hx
  obtain ⟨q, rfl⟩ := hy
  exact ⟨p * q, (EReal.coe_mul p q).symm⟩

end Cert.Ffn

end
-- ==== Proof.WgradValue.lean ====
module

public import proofs.«01_k».proof.Proof.Gen.WgradKernelIdeal.Value
public import proofs.«01_k».proof.Proof.Gen.WgradReferenceIdeal.Run
public import proofs.«01_k».proof.Proof.FfnSpec
public import Idealize.ShloMosaic.Lib.Pipeline.ValueKit
public import Idealize.ShloMosaic.Lib.StableHlo.ReadAt

/-! The weight gradients of the feed-forward block. -/

@[expose] public section

noncomputable section

namespace Cert.WgradKernelIdeal.Gen

open Idealize.ShloMosaic Idealize.ShloMosaic.TcCoe Idealize.ShloMosaic.Tactic
open Cert.Ffn Finset

set_option maxRecDepth 16384

/-- The product that one grid point computes, entry by entry. -/
theorem pay (x : Vec Ideal S1x2048x704 .bf16) (y : Vec Ideal S2048x1024 .bf16) (i : Fin 704) (j : Fin 1024) :
    k0_pay1 x y (ix3 0 i j) = (show EReal from ∑ k : Fin 2048, (show EReal from x (ix3 0 k i)) * (show EReal from y (ix2 k j))) := by
  pointwise [k0_pay1]

/-- The product of two blocks of which the entries are known. -/
theorem pay_of (x : Vec Ideal S1x2048x704 .bf16) (y : Vec Ideal S2048x1024 .bf16) (X : FVec Ideal S2048x2816 .f32) (Y : FVec Ideal S2048x1024 .f32)
    (s : Fin 4) (hx : ∀ (k : Fin 2048) (i : Fin 704), x (ix3 0 k i) = X (ix2 k (col s i))) (hy : ∀ (k : Fin 2048) (j : Fin 1024), y (ix2 k j) = Y (ix2 k j))
    (i : Fin 704) (j : Fin 1024) : k0_pay1 x y (ix3 0 i j) = wgrad X Y (ix3 s i j) :=
  (pay x y i j).trans (Finset.sum_congr rfl fun k _ => congrArg₂ (fun a b : EReal => a * b) (hx k i) (hy k j))

theorem idx_all : ∀ t : Fin cfg0.N, win0_0.index t = ![t.val, 0, 0] ∧ win0_1.index t = ![0, 0] ∧ win0_2.index t = ![t.val, 0, 0]
    ∧ win0_3.index t = ![0, 0] ∧ win0_4.index t = ![t.val, 0, 0] ∧ win0_5.index t = ![0, 0] ∧ win0_6.index t = ![t.val, 0, 0]
    ∧ win0_7.index t = ![t.val, 0, 0] ∧ win0_8.index t = ![t.val, 0, 0] := by decide +kernel

variable (m : (l : Loc nD τ sig) → Buf (Elt Ideal) l) (c : Dev nD)

theorem R_s (t : Fin 4) (k : Fin 2048) (i : Fin 704) : V m c main_v6 (ix3 t k i) = m (c, Proc.devRef .tc main_arg1) (ix2 k (col t i)) := by
  unfold V
  after_reads_at
  rfl

theorem R_a (t : Fin 4) (k : Fin 2048) (i : Fin 704) : V m c main_v9 (ix3 t k i) = m (c, Proc.devRef .tc main_arg2) (ix2 k (col t i)) := by
  unfold V
  after_reads_at
  rfl

theorem R_b (t : Fin 4) (k : Fin 2048) (i : Fin 704) : V m c main_v12 (ix3 t k i) = m (c, Proc.devRef .tc main_arg3) (ix2 k (col t i)) := by
  unfold V
  after_reads_at
  rfl

theorem R_u (k : Fin 2048) (j : Fin 1024) : V m c main_v0 (ix2 k j) = m (c, Proc.devRef .tc main_arg0) (ix2 k j) := by
  unfold V
  after_reads_at

theorem R_dh (k : Fin 2048) (j : Fin 1024) : V m c main_v3 (ix2 k j) = half (m (c, Proc.devRef .tc main_arg4)) (ix2 k j) := by
  unfold V
  after_reads_at
  rfl

theorem arr_6 : (dats m 0 c).arrAt 6 cfg0.N = wgrad (m (c, Proc.devRef .tc main_arg1)) (half (m (c, Proc.devRef .tc main_arg4))) := by
  refine (dats m 0 c).arrAt_eq_of_covers 6 _ (by decide +kernel) fun t hf y => ?_
  obtain ⟨a, x, z, rfl⟩ : ∃ (a : Fin 1) (x : Fin 704) (z : Fin 1024), y = ix3 a x z := ⟨y 0, y 1, y 2, eq_ix3 y⟩
  rw [show a = 0 from Subsingleton.elim _ _]
  obtain ⟨h0, h1, h2, h3, h4, h5, h6, h7, h8⟩ := idx_all t
  have ht : t.val < 4 := t.isLt
  have hx (k : Fin 2048) (x : Fin 704) : iblk m c 0 t (ix3 0 k x) = V m c main_v6 (ix3 ⟨t.val, ht⟩ k x) := by
    unfold iblk
    blk_ext [h0]
  have hy (k : Fin 2048) (z : Fin 1024) : iblk m c 1 t (ix2 k z) = V m c main_v3 (ix2 k z) := by
    unfold iblk
    blk_ext [h1]
  rw [after0_6]
  frame_out
  refine (pay_of (iblk m c 0 t) (iblk m c 1 t) (m (c, Proc.devRef .tc main_arg1)) (half (m (c, Proc.devRef .tc main_arg4))) ⟨t.val, ht⟩ (fun k x => (hx k x).trans (R_s m c _ k x)) (fun k z => (hy k z).trans (R_dh m c k z)) x z).trans ?_
  refine congrArg (wgrad (m (c, Proc.devRef .tc main_arg1)) (half (m (c, Proc.devRef .tc main_arg4)))) ?_
  funext a
  fin_cases a <;> refine Fin.ext ?_ <;> blk_simp [h6] <;> rfl

theorem arr_7 : (dats m 0 c).arrAt 7 cfg0.N = wgrad (m (c, Proc.devRef .tc main_arg2)) (m (c, Proc.devRef .tc main_arg0)) := by
  refine (dats m 0 c).arrAt_eq_of_covers 7 _ (by decide +kernel) fun t hf y => ?_
  obtain ⟨a, x, z, rfl⟩ : ∃ (a : Fin 1) (x : Fin 704) (z : Fin 1024), y = ix3 a x z := ⟨y 0, y 1, y 2, eq_ix3 y⟩
  rw [show a = 0 from Subsingleton.elim _ _]
  obtain ⟨h0, h1, h2, h3, h4, h5, h6, h7, h8⟩ := idx_all t
  have ht : t.val < 4 := t.isLt
  have hx (k : Fin 2048) (x : Fin 704) : iblk m c 2 t (ix3 0 k x) = V m c main_v9 (ix3 ⟨t.val, ht⟩ k x) := by
    unfold iblk
    blk_ext [h2]
  have hy (k : Fin 2048) (z : Fin 1024) : iblk m c 3 t (ix2 k z) = V m c main_v0 (ix2 k z) := by
    unfold iblk
    blk_ext [h3]
  rw [after0_7]
  frame_out
  refine (pay_of (iblk m c 2 t) (iblk m c 3 t) (m (c, Proc.devRef .tc main_arg2)) (m (c, Proc.devRef .tc main_arg0)) ⟨t.val, ht⟩ (fun k x => (hx k x).trans (R_a m c _ k x)) (fun k z => (hy k z).trans (R_u m c k z)) x z).trans ?_
  refine congrArg (wgrad (m (c, Proc.devRef .tc main_arg2)) (m (c, Proc.devRef .tc main_arg0))) ?_
  funext a
  fin_cases a <;> refine Fin.ext ?_ <;> blk_simp [h7] <;> rfl

theorem arr_8 : (dats m 0 c).arrAt 8 cfg0.N = wgrad (m (c, Proc.devRef .tc main_arg3)) (m (c, Proc.devRef .tc main_arg0)) := by
  refine (dats m 0 c).arrAt_eq_of_covers 8 _ (by decide +kernel) fun t hf y => ?_
  obtain ⟨a, x, z, rfl⟩ : ∃ (a : Fin 1) (x : Fin 704) (z : Fin 1024), y = ix3 a x z := ⟨y 0, y 1, y 2, eq_ix3 y⟩
  rw [show a = 0 from Subsingleton.elim _ _]
  obtain ⟨h0, h1, h2, h3, h4, h5, h6, h7, h8⟩ := idx_all t
  have ht : t.val < 4 := t.isLt
  have hx (k : Fin 2048) (x : Fin 704) : iblk m c 4 t (ix3 0 k x) = V m c main_v12 (ix3 ⟨t.val, ht⟩ k x) := by
    unfold iblk
    blk_ext [h4]
  have hy (k : Fin 2048) (z : Fin 1024) : iblk m c 5 t (ix2 k z) = V m c main_v0 (ix2 k z) := by
    unfold iblk
    blk_ext [h5]
  rw [after0_8]
  frame_out
  refine (pay_of (iblk m c 4 t) (iblk m c 5 t) (m (c, Proc.devRef .tc main_arg3)) (m (c, Proc.devRef .tc main_arg0)) ⟨t.val, ht⟩ (fun k x => (hx k x).trans (R_b m c _ k x)) (fun k z => (hy k z).trans (R_u m c k z)) x z).trans ?_
  refine congrArg (wgrad (m (c, Proc.devRef .tc main_arg3)) (m (c, Proc.devRef .tc main_arg0))) ?_
  funext a
  fin_cases a <;> refine Fin.ext ?_ <;> blk_simp [h8] <;> rfl

end Cert.WgradKernelIdeal.Gen

namespace Cert.WgradReferenceIdeal.Value

open Cert.WgradReferenceIdeal Cert.WgradReferenceIdeal.Gen Idealize.ShloMosaic Idealize.ShloMosaic.TcCoe Idealize.ShloMosaic.Tactic
open Cert.Ffn Finset

set_option maxRecDepth 16384

/-- The reference's first result. -/
theorem down (x : FVec Ideal S2048x2816 .f32) (y : FVec Ideal S2048x1024 .f32) :
    shapeCast S4x704x1024 (truncf .bf16 (transpose S2816x1024 [1, 0] (Host.dotGeneral dot_S2048x1024_S2048x2816_S1024x2816_0_0_1_1_n_n none (mulf (broadcastInDim S2048x1024 ![] bcast_S_S2048x1024 (constant S_ .f32 0x3F000000#32)) y) x) transposes_S1024x2816_S2816x1024_1_0) bitsLt_bf16_f32) shapeCasts_S2816x1024_S4x704x1024
      = wgrad x (half y) := by
  funext i
  obtain ⟨s, a, b, rfl⟩ : ∃ (s : Fin 4) (a : Fin 704) (b : Fin 1024), i = ix3 s a b := ⟨i 0, i 1, i 2, eq_ix3 i⟩
  pointwise
  exact Finset.sum_congr rfl fun k _ => mul_comm (G := EReal) _ _

/-- The reference's two other results. -/
theorem gate (x : FVec Ideal S2048x2816 .f32) (y : FVec Ideal S2048x1024 .f32) :
    shapeCast S4x704x1024 (truncf .bf16 (transpose S2816x1024 [1, 0] (transpose S1024x2816 [1, 0] (Host.dotGeneral dot_S2048x2816_S2048x1024_S2816x1024_0_0_1_1_n_n none x y) transposes_S2816x1024_S1024x2816_1_0) transposes_S1024x2816_S2816x1024_1_0) bitsLt_bf16_f32) shapeCasts_S2816x1024_S4x704x1024
      = wgrad x y := by
  funext i
  obtain ⟨s, a, b, rfl⟩ : ∃ (s : Fin 4) (a : Fin 704) (b : Fin 1024), i = ix3 s a b := ⟨i 0, i 1, i 2, eq_ix3 i⟩
  pointwise
  rfl

end Cert.WgradReferenceIdeal.Value

end
-- ==== Proof.WgradClaim.lean ====
module

public import proofs.«01_k».proof.Defs
public import proofs.«01_k».proof.Proof.Gen.WgradKernel
public import proofs.«01_k».proof.Proof.Gen.WgradKernel.Frame
public import proofs.«01_k».proof.Proof.Gen.WgradKernelIdeal.Value
public import proofs.«01_k».proof.Proof.WgradValue
public import Idealize.ShloMosaic.Adequacy
public import Idealize.ShloMosaic.Lib.Claim

/-! The claims about the weight gradients of the feed-forward block. -/

@[expose] public section

noncomputable section

namespace Cert.Proof

open Idealize.ShloMosaic Idealize.ShloMosaic.TcCoe Idealize.ShloMosaic.Tactic Idealize.SL.Sem
open Cert.Ffn

/-- The reference leaves its arguments and the counters as they were. -/
theorem wgrad_reference_frame : Cert.quiescent_WgradReferenceIdeal (hWgradReferenceIdeal := Cert.WgradReferenceIdeal.Gen.facts) := fun m g _ =>
  (θ_run (Cert.WgradReferenceIdeal.defs (F := Ideal)) _ _).mono
    (fun r h => ⟨fun c => (h c).2.2.2, sem_eq_zero_of_no_sems (by decide) r.2⟩) (Cert.WgradReferenceIdeal.Value.run m g)

/-- Kernel and reference end with the same gradients. -/
theorem wgrad_algebraic : Cert.algebraic_WgradKernelIdeal_WgradReferenceIdeal (hWgradKernelIdeal := Cert.WgradKernelIdeal.Gen.facts)
    (hWgradReferenceIdeal := Cert.WgradReferenceIdeal.Gen.facts) := by
  intro m g m' g' _ hagree
  refine ⟨fun c => wgrad (m ((c.tc : Thread _ _).loc Cert.WgradKernelIdeal.main_arg1)) (half (m ((c.tc : Thread _ _).loc Cert.WgradKernelIdeal.main_arg4))),
    fun c => wgrad (m ((c.tc : Thread _ _).loc Cert.WgradKernelIdeal.main_arg2)) (m ((c.tc : Thread _ _).loc Cert.WgradKernelIdeal.main_arg0)),
    fun c => wgrad (m ((c.tc : Thread _ _).loc Cert.WgradKernelIdeal.main_arg3)) (m ((c.tc : Thread _ _).loc Cert.WgradKernelIdeal.main_arg0)), ?_, ?_⟩
  · refine (θ_run (Cert.WgradKernelIdeal.defs (F := Ideal)) _ _).mono (fun r h c => ?_) (Cert.WgradKernelIdeal.Value.run_blocks m g)
    obtain ⟨h0, h1, h2, hr⟩ := h c
    exact ⟨h0.trans (Cert.WgradKernelIdeal.Gen.arr_6 m c), h1.trans (Cert.WgradKernelIdeal.Gen.arr_7 m c),
      h2.trans (Cert.WgradKernelIdeal.Gen.arr_8 m c), hr⟩
  · refine (θ_run (Cert.WgradReferenceIdeal.defs (F := Ideal)) _ _).mono (fun r h c => ?_) (Cert.WgradReferenceIdeal.Value.run m' g')
    obtain ⟨h0, h1, h2, hr⟩ := h c
    obtain ⟨e0, e1, e2, e3, e4⟩ := hagree c
    refine ⟨h0.trans ((Cert.WgradReferenceIdeal.Value.down _ _).trans ?_), h1.trans ((Cert.WgradReferenceIdeal.Value.gate _ _).trans ?_),
      h2.trans ((Cert.WgradReferenceIdeal.Value.gate _ _).trans ?_), hr⟩
    · rw [e1, e4]
    · rw [e2, e0]
    · rw [e3, e0]

end Cert.Proof

end
-- ==== Proof.DactValue.lean ====
module

public import proofs.«01_k».proof.Proof.Gen.DactKernelIdeal.Value
public import proofs.«01_k».proof.Proof.Gen.DactReferenceIdeal.Run
public import proofs.«01_k».proof.Proof.FfnSpec
public import Idealize.ShloMosaic.Lib.Pipeline.ValueKit
public import Idealize.ShloMosaic.Lib.StableHlo.ReadAt

/-! The gradients of the feed-forward block's activation. -/

@[expose] public section

noncomputable section

namespace Cert.DactKernelIdeal.Gen

open Idealize.ShloMosaic Idealize.ShloMosaic.TcCoe Idealize.ShloMosaic.Tactic
open Cert.Ffn Finset

set_option maxRecDepth 16384

theorem pay5 (x : Vec Ideal S512x1024 .bf16) (y : Vec Ideal S1x704x1024 .bf16) (a b : Vec Ideal S1x512x704 .bf16) (i : Fin 512) (j : Fin 704) :
    k0_pay5 x y a b (ix3 0 i j) = (show EReal from dGate (∑ k : Fin 1024, (show EReal from x (ix2 i k)) * (show EReal from y (ix3 0 j k))) (a (ix3 0 i j)) (b (ix3 0 i j))) := by
  pointwise [k0_pay5, k0_pay4, k0_pay3, k0_pay2, dGate, sgm]
  rw [show (0 : EReal) - a (ix3 0 i j) = -a (ix3 0 i j) from zero_sub (G := EReal) _]

theorem pay6 (x : Vec Ideal S512x1024 .bf16) (y : Vec Ideal S1x704x1024 .bf16) (a : Vec Ideal S1x512x704 .bf16) (i : Fin 512) (j : Fin 704) :
    k0_pay1 (k0_pay6 x y a) (ix3 0 i j) = (show EReal from dUp (∑ k : Fin 1024, (show EReal from x (ix2 i k)) * (show EReal from y (ix3 0 j k))) (a (ix3 0 i j))) := by
  pointwise [k0_pay1, k0_pay6, k0_pay4, k0_pay3, k0_pay2, dUp, sgm]
  rw [show (0 : EReal) - a (ix3 0 i j) = -a (ix3 0 i j) from zero_sub (G := EReal) _]

theorem idx_all : ∀ t : Fin cfg0.N, win0_0.index t = ![t.val % 4, 0] ∧ win0_1.index t = ![t.val / 4, 0, 0] ∧ win0_2.index t = ![t.val / 4, t.val % 4, 0]
    ∧ win0_3.index t = ![t.val / 4, t.val % 4, 0] ∧ win0_4.index t = ![t.val / 4, t.val % 4, 0] ∧ win0_5.index t = ![t.val / 4, t.val % 4, 0] := by decide +kernel

variable (m : (l : Loc nD τ sig) → Buf (Elt Ideal) l) (c : Dev nD)

theorem R_d (i : Fin 2048) (k : Fin 1024) : V m c main_v2 (ix2 i k) = half (m (c, Proc.devRef .tc main_arg3)) (ix2 i k) := by
  unfold V
  after_reads_at
  rfl

theorem R_w (s : Fin 4) (j : Fin 704) (k : Fin 1024) : V m c main_v4 (ix3 s j k) = m (c, Proc.devRef .tc main_arg2) (ix2 (col s j) k) := by
  unfold V
  after_reads_at
  rfl

theorem R_a (s : Fin 4) (i : Fin 2048) (j : Fin 704) : V m c main_v7 (ix3 s i j) = m (c, Proc.devRef .tc main_arg0) (ix2 i (col s j)) := by
  unfold V
  after_reads_at
  rfl

theorem R_b (s : Fin 4) (i : Fin 2048) (j : Fin 704) : V m c main_v10 (ix3 s i j) = m (c, Proc.devRef .tc main_arg1) (ix2 i (col s j)) := by
  unfold V
  after_reads_at
  rfl

/-- The row that row `i` of block `r` is. -/
def row (r : ℕ) (h : r < 4) (i : Fin 512) : Fin 2048 := ⟨r * 512 + i.val, by have := i.isLt; omega⟩

section
variable (t : Fin cfg0.N)

theorem t_div : t.val / 4 < 4 := by
  have : t.val < 16 := t.isLt
  omega

theorem t_mod : t.val % 4 < 4 := Nat.mod_lt _ (by decide)

theorem B_d (i : Fin 512) (k : Fin 1024) : iblk m c 0 t (ix2 i k) = V m c main_v2 (ix2 (row (t.val % 4) (t_mod t) i) k) := by
  unfold iblk
  blk_ext [(idx_all t).1]
  all_goals rfl

theorem B_w (j : Fin 704) (k : Fin 1024) : iblk m c 1 t (ix3 0 j k) = V m c main_v4 (ix3 ⟨t.val / 4, t_div t⟩ j k) := by
  unfold iblk
  blk_ext [(idx_all t).2.1]

theorem B_a (i : Fin 512) (j : Fin 704) : iblk m c 2 t (ix3 0 i j) = V m c main_v7 (ix3 ⟨t.val / 4, t_div t⟩ (row (t.val % 4) (t_mod t) i) j) := by
  unfold iblk
  blk_ext [(idx_all t).2.2.1]
  all_goals rfl

theorem B_b (i : Fin 512) (j : Fin 704) : iblk m c 3 t (ix3 0 i j) = V m c main_v10 (ix3 ⟨t.val / 4, t_div t⟩ (row (t.val % 4) (t_mod t) i) j) := by
  unfold iblk
  blk_ext [(idx_all t).2.2.2.1]
  all_goals rfl

/-- The product of one grid point. -/
theorem dot_eq (i : Fin 512) (j : Fin 704) :
    (∑ k : Fin 1024, (show EReal from iblk m c 0 t (ix2 i k)) * (show EReal from iblk m c 1 t (ix3 0 j k)))
      = dSilu (m (c, Proc.devRef .tc main_arg3)) (m (c, Proc.devRef .tc main_arg2)) (row (t.val % 4) (t_mod t) i) (col ⟨t.val / 4, t_div t⟩ j) :=
  Finset.sum_congr rfl fun k _ => congrArg₂ (fun a b : EReal => a * b) ((B_d m c t i k).trans (R_d m c _ k)) ((B_w m c t j k).trans (R_w m c _ j k))

end

theorem gate_congr {d d' a a' b b' : EReal} (hd : d = d') (ha : a = a') (hb : b = b') : dGate d a b = dGate d' a' b' := by
  rw [hd, ha, hb]

theorem blk_4 (t : Fin cfg0.N) (x : Fin 512) (z : Fin 704) : k0_pay5 (iblk m c 0 t) (iblk m c 1 t) (iblk m c 2 t) (iblk m c 3 t) (ix3 0 x z)
    = daOf (m (c, Proc.devRef .tc main_arg0)) (m (c, Proc.devRef .tc main_arg1)) (m (c, Proc.devRef .tc main_arg2)) (m (c, Proc.devRef .tc main_arg3))
      (ix3 ⟨t.val / 4, t_div t⟩ (row (t.val % 4) (t_mod t) x) z) := by
  refine (pay5 (iblk m c 0 t) (iblk m c 1 t) (iblk m c 2 t) (iblk m c 3 t) x z).trans ?_
  exact gate_congr (dot_eq m c t x z) ((B_a m c t x z).trans (R_a m c _ _ z)) ((B_b m c t x z).trans (R_b m c _ _ z))

theorem arr_4 : (dats m 0 c).arrAt 4 cfg0.N = daOf (m (c, Proc.devRef .tc main_arg0)) (m (c, Proc.devRef .tc main_arg1)) (m (c, Proc.devRef .tc main_arg2)) (m (c, Proc.devRef .tc main_arg3)) := by
  refine (dats m 0 c).arrAt_eq_of_covers 4 _ (by decide +kernel) fun t hf y => ?_
  obtain ⟨a, x, z, rfl⟩ : ∃ (a : Fin 1) (x : Fin 512) (z : Fin 704), y = ix3 a x z := ⟨y 0, y 1, y 2, eq_ix3 y⟩
  rw [show a = 0 from Subsingleton.elim _ _]
  rw [after0_4]
  frame_out
  refine (blk_4 m c t x z).trans ?_
  refine congrArg (daOf (m (c, Proc.devRef .tc main_arg0)) (m (c, Proc.devRef .tc main_arg1)) (m (c, Proc.devRef .tc main_arg2)) (m (c, Proc.devRef .tc main_arg3))) (?_ : ix3 ⟨t.val / 4, t_div t⟩ (row (t.val % 4) (t_mod t) x) z = _)
  funext a
  fin_cases a <;> refine Fin.ext ?_ <;> blk_simp [(idx_all t).2.2.2.2.1] <;> rfl

theorem arr_5 : (dats m 0 c).arrAt 5 cfg0.N = dbOf (m (c, Proc.devRef .tc main_arg0)) (m (c, Proc.devRef .tc main_arg2)) (m (c, Proc.devRef .tc main_arg3)) := by
  refine (dats m 0 c).arrAt_eq_of_covers 5 _ (by decide +kernel) fun t hf y => ?_
  obtain ⟨a, x, z, rfl⟩ : ∃ (a : Fin 1) (x : Fin 512) (z : Fin 704), y = ix3 a x z := ⟨y 0, y 1, y 2, eq_ix3 y⟩
  rw [show a = 0 from Subsingleton.elim _ _]
  rw [after0_5]
  frame_out
  refine ((pay6 (iblk m c 0 t) (iblk m c 1 t) (iblk m c 2 t) x z).trans
    (congrArg₂ dUp (dot_eq m c t x z) ((B_a m c t x z).trans (R_a m c _ _ z)))).trans ?_
  refine congrArg (dbOf (m (c, Proc.devRef .tc main_arg0)) (m (c, Proc.devRef .tc main_arg2)) (m (c, Proc.devRef .tc main_arg3))) (?_ : ix3 ⟨t.val / 4, t_div t⟩ (row (t.val % 4) (t_mod t) x) z = _)
  funext a
  fin_cases a <;> refine Fin.ext ?_ <;> blk_simp [(idx_all t).2.2.2.2.2] <;> rfl

end Cert.DactKernelIdeal.Gen

namespace Cert.DactReferenceIdeal.Value

open Cert.DactReferenceIdeal Cert.DactReferenceIdeal.Gen Idealize.ShloMosaic Idealize.ShloMosaic.TcCoe Idealize.ShloMosaic.Tactic
open Cert.Ffn Finset

set_option maxRecDepth 16384

variable (a b : FVec Ideal S2048x2816 .f32) (w : FVec Ideal S2816x1024 .f32) (dh : FVec Ideal S2048x1024 .f32)

/-- The cotangent of the activation, as the reference computes it. -/
abbrev rDs : FVec Ideal S2048x2816 .f32 :=
  Host.dotGeneral dot_S2048x1024_S2816x1024_S2048x2816_1_1_0_0_n_n none (mulf (broadcastInDim S2048x1024 ![] bcast_S_S2048x1024 (constant S_ .f32 0x3F000000#32)) dh) w

/-- The logistic function, as the reference computes it. -/
abbrev rSg : FVec Ideal S2048x2816 .f32 :=
  Host.divf (broadcastInDim S2048x2816 ![] bcast_S_S2048x2816 (constant S_ .f32 0x3F800000#32))
    (addf (broadcastInDim S2048x2816 ![] bcast_S_S2048x2816 (constant S_ .f32 0x3F800000#32)) (Host.exp (Host.negf a)))

theorem rDs_at (i : Fin 2048) (j : Fin 2816) : rDs w dh (ix2 i j) = (show EReal from dSilu dh w i j) := by
  pointwise [dSilu, half]

theorem rSg_at (i : Fin 2048) (j : Fin 2816) : rSg a (ix2 i j) = (show EReal from sgm (a (ix2 i j))) := by
  pointwise [sgm]

/-- The reference's first result. -/
theorem first (ha : ∀ i, ∃ r : ℝ, a i = (r : EReal)) (hb : ∀ i, ∃ r : ℝ, b i = (r : EReal)) (hw : ∀ i, ∃ r : ℝ, w i = (r : EReal))
    (hdh : ∀ i, ∃ r : ℝ, dh i = (r : EReal)) :
    transpose S4x2048x704 [1, 0, 2] (shapeCast S2048x4x704 (truncf .bf16 (addf (mulf (mulf (rDs w dh) b) (rSg a))
      (mulf (mulf a (mulf (rDs w dh) b)) (mulf (rSg a) (subf (broadcastInDim S2048x2816 ![] bcast_S_S2048x2816 (constant S_ .f32 0x3F800000#32)) (rSg a))))) bitsLt_bf16_f32)
      shapeCasts_S2048x2816_S2048x4x704) transposes_S2048x4x704_S4x2048x704_1_0_2 = daOf a b w dh := by
  funext i
  obtain ⟨s, x, z, rfl⟩ : ∃ (s : Fin 4) (x : Fin 2048) (z : Fin 704), i = ix3 s x z := ⟨i 0, i 1, i 2, eq_ix3 i⟩
  have hd : ∃ r : ℝ, dSilu dh w x (col s z) = (r : EReal) :=
    sum_real _ _ fun k => mul_real (mul_real half_real (hdh _)) (hw _)
  obtain ⟨p, hp⟩ := ha (ix2 x (col s z))
  obtain ⟨q, hq⟩ := hb (ix2 x (col s z))
  obtain ⟨d, hd⟩ := hd
  have e1 := rDs_at w dh x (col s z)
  have e2 := rSg_at a x (col s z)
  refine Eq.trans ?_ ((dGate_rule d p q).symm.trans ?_)
  · rw [← hp, ← hq, ← hd]
    generalize rDs w dh = D at *
    generalize rSg a = S at *
    refine Eq.trans ?_ (congrArg₂ (fun (x y : EReal) => x * b (ix2 _ _) * y + a (ix2 _ _) * (x * b (ix2 _ _)) * (y * (1 - y))) e1 e2)
    pointwise
    rfl
  · rw [← hp, ← hq, ← hd]
    rfl

/-- The reference's second result. -/
theorem second :
    transpose S4x2048x704 [1, 0, 2] (shapeCast S2048x4x704 (truncf .bf16 (mulf (mulf a (rSg a)) (rDs w dh)) bitsLt_bf16_f32)
      shapeCasts_S2048x2816_S2048x4x704) transposes_S2048x4x704_S4x2048x704_1_0_2 = dbOf a w dh := by
  funext i
  obtain ⟨s, x, z, rfl⟩ : ∃ (s : Fin 4) (x : Fin 2048) (z : Fin 704), i = ix3 s x z := ⟨i 0, i 1, i 2, eq_ix3 i⟩
  have e1 := rDs_at w dh x (col s z)
  have e2 := rSg_at a x (col s z)
  refine Eq.trans ?_ (mul_comm (G := EReal) (a (ix2 x (col s z)) * sgm (a (ix2 x (col s z)))) (dSilu dh w x (col s z)))
  generalize rDs w dh = D at *
  generalize rSg a = S at *
  refine Eq.trans ?_ (congrArg₂ (fun (x y : EReal) => a (ix2 _ _) * y * x) e1 e2)
  pointwise
  rfl

end Cert.DactReferenceIdeal.Value

end
-- ==== Proof.DactClaim.lean ====
module

public import proofs.«01_k».proof.Defs
public import proofs.«01_k».proof.Proof.Gen.DactKernel
public import proofs.«01_k».proof.Proof.Gen.DactKernel.Frame
public import proofs.«01_k».proof.Proof.Gen.DactKernelIdeal.Value
public import proofs.«01_k».proof.Proof.DactValue
public import proofs.«01_k».proof.Proof.Finite
public import Idealize.ShloMosaic.Adequacy
public import Idealize.ShloMosaic.Lib.Claim

/-! The claims about the gradients of the feed-forward block's activation. -/

@[expose] public section

noncomputable section

namespace Cert.Proof

open Idealize.ShloMosaic Idealize.ShloMosaic.TcCoe Idealize.ShloMosaic.Tactic Idealize.SL.Sem
open Cert.Ffn

/-- The side conditions of the precondition's operations. -/
theorem dact_facts : Cert.Pre_dact_finite.Facts where
  bcast_S_S2048x2816 := by decide
  reducesTo_S2048x2816_S_d0_1 := by decide
  h_S_ := by decide
  bcast_S_S2816x1024 := by decide
  reducesTo_S2816x1024_S_d0_1 := by decide
  bcast_S_S2048x1024 := by decide
  reducesTo_S2048x1024_S_d0_1 := by decide

/-- Under the precondition every entry of the arguments is real. -/
theorem dact_real [Cert.Pre_dact_finite.Facts] (a b : FVec Ideal ⟨2, ![2048, 2816]⟩ .f32) (w : FVec Ideal ⟨2, ![2816, 1024]⟩ .f32)
    (dh : FVec Ideal ⟨2, ![2048, 1024]⟩ .f32) (h : Cert.Pre_dact_finite.fn (F := Ideal) a b w dh = fun _ => 1#1) :
    (∀ i, ∃ r : ℝ, a i = (r : EReal)) ∧ (∀ i, ∃ r : ℝ, b i = (r : EReal)) ∧ (∀ i, ∃ r : ℝ, w i = (r : EReal)) ∧ ∀ i, ∃ r : ℝ, dh i = (r : EReal) := by
  have h' := congrFun h (Shape.Idx.first Cert.Pre_dact_finite.Facts.h_S_)
  obtain ⟨h', h3⟩ := IntOp.andi_eq_one.1 h'
  obtain ⟨h', h2⟩ := IntOp.andi_eq_one.1 h'
  obtain ⟨h0, h1⟩ := IntOp.andi_eq_one.1 h'
  exact ⟨fun i => ⟨_, Cert.Rec.real_of_all a _ _ _ _ h0 i⟩, fun i => ⟨_, Cert.Rec.real_of_all b _ _ _ _ h1 i⟩,
    fun i => ⟨_, Cert.Rec.real_of_all w _ _ _ _ h2 i⟩, fun i => ⟨_, Cert.Rec.real_of_all dh _ _ _ _ h3 i⟩⟩

/-- The reference leaves its arguments and the counters as they were. -/
theorem dact_reference_frame (m) (g) : θ_run (Cert.DactReferenceIdeal.defs (F := Ideal)) (onTc (τ := Cert.DactReferenceIdeal.τ) (Cert.DactReferenceIdeal.main (F := Ideal)))
    ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0) :=
  (θ_run (Cert.DactReferenceIdeal.defs (F := Ideal)) _ _).mono
    (fun r h => ⟨fun c => (h c).2.2, sem_eq_zero_of_no_sems (by decide) r.2⟩) (Cert.DactReferenceIdeal.Value.run m g)

/-- Kernel and reference end with the same gradients. -/
theorem dact_algebraic : Cert.algebraic_DactKernelIdeal_DactReferenceIdeal_pre_dact_finite (hDactKernelIdeal := Cert.DactKernelIdeal.Gen.facts)
    (hDactReferenceIdeal := Cert.DactReferenceIdeal.Gen.facts) (hPre_dact_finite := dact_facts) := by
  intro m g m' g' hpre hagree
  haveI := dact_facts
  refine ⟨fun c => daOf (m ((c.tc : Thread _ _).loc Cert.DactKernelIdeal.main_arg0)) (m ((c.tc : Thread _ _).loc Cert.DactKernelIdeal.main_arg1))
      (m ((c.tc : Thread _ _).loc Cert.DactKernelIdeal.main_arg2)) (m ((c.tc : Thread _ _).loc Cert.DactKernelIdeal.main_arg3)),
    fun c => dbOf (m ((c.tc : Thread _ _).loc Cert.DactKernelIdeal.main_arg0)) (m ((c.tc : Thread _ _).loc Cert.DactKernelIdeal.main_arg2))
      (m ((c.tc : Thread _ _).loc Cert.DactKernelIdeal.main_arg3)), ?_, ?_⟩
  · refine (θ_run (Cert.DactKernelIdeal.defs (F := Ideal)) _ _).mono (fun r h c => ?_) (Cert.DactKernelIdeal.Value.run_blocks m g)
    obtain ⟨h0, h1, hr⟩ := h c
    exact ⟨h0.trans (Cert.DactKernelIdeal.Gen.arr_4 m c), h1.trans (Cert.DactKernelIdeal.Gen.arr_5 m c), hr⟩
  · refine (θ_run (Cert.DactReferenceIdeal.defs (F := Ideal)) _ _).mono (fun r h c => ?_) (Cert.DactReferenceIdeal.Value.run m' g')
    obtain ⟨h0, h1, hr⟩ := h c
    obtain ⟨e0, e1, e2, e3⟩ := hagree c
    obtain ⟨r0, r1, r2, r3⟩ := dact_real _ _ _ _ (hpre c)
    rw [← e0] at r0
    rw [← e1] at r1
    rw [← e2] at r2
    rw [← e3] at r3
    refine ⟨h0.trans ((Cert.DactReferenceIdeal.Value.first _ _ _ _ r0 r1 r2 r3).trans ?_), h1.trans ((Cert.DactReferenceIdeal.Value.second _ _ _).trans ?_), hr⟩
    · rw [e0, e1, e2, e3]
    · rw [e0, e2, e3]

end Cert.Proof

end
-- ==== Proof.DxSpec.lean ====
module

public import proofs.«01_k».proof.Proof.FfnSpec

/-! The gradient through the normalization in front of the feed-forward block. -/

@[expose] public section

noncomputable section

namespace Cert.Ffn

open Idealize.ShloMosaic

/-- The mean square of a row, with the constant that keeps it away from zero. -/
def msq (x : Fin 1024 → EReal) : EReal := Ideal.div (∑ k, x k * x k) (Ideal.ofBits .f32 0x44800000#32) + Ideal.ofBits .f32 0x358637BD#32

/-- The gradient in one entry of a row, plus what reaches it directly. -/
def dxRow (x g dy : Fin 1024 → EReal) (d : EReal) (k : Fin 1024) : EReal :=
  d + Ideal.rsqrt (msq x) * (dy k * g k - x k * Ideal.rsqrt (msq x)
    * Ideal.div (∑ l, dy l * g l * (x l * Ideal.rsqrt (msq x))) (Ideal.ofBits .f32 0x44800000#32))

/-- The factor of the row in the chain rule's second term. -/
def dxFac (x g dy : Fin 1024 → EReal) : EReal :=
  Ideal.div ((∑ l, x l * (dy l * g l)) * (Ideal.ofBits .f32 0xBF000000#32 * Ideal.div (Ideal.rsqrt (msq x)) (msq x))) (Ideal.ofBits .f32 0x44800000#32)

/-- The constants. -/
theorem n_real : Ideal.ofBits FTy.f32 0x44800000#32 = ((1024 : ℝ) : EReal) := by
  simp [Ideal.ofBits, Ideal.ieee]
  rw [← EReal.coe_mul]
  norm_num

theorem minus_half_real : Ideal.ofBits FTy.f32 0xBF000000#32 = ((-(1 / 2) : ℝ) : EReal) := by
  simp [Ideal.ofBits, Ideal.ieee]
  rw [← EReal.coe_mul]
  norm_num

theorem eps_real : ∃ e : ℝ, 0 < e ∧ Ideal.ofBits FTy.f32 0x358637BD#32 = (e : EReal) := by
  simp [Ideal.ofBits, Ideal.ieee]
  rw [← EReal.coe_mul]
  refine ⟨_, ?_, rfl⟩
  norm_num

/-- A sum of reals. -/
theorem coe_sum {n : ℕ} (f : Fin n → ℝ) : (∑ k, ((f k : ℝ) : EReal)) = ((∑ k, f k : ℝ) : EReal) :=
  (map_sum (⟨⟨fun r : ℝ => (r : EReal), EReal.coe_zero⟩, EReal.coe_add⟩ : ℝ →+ EReal) f Finset.univ).symm

/-- The mean square of a row of reals is a positive real. -/
theorem msq_real (x : Fin 1024 → ℝ) : ∃ v : ℝ, 0 < v ∧ msq (fun k => (x k : EReal)) = (v : EReal) := by
  obtain ⟨e, he, h⟩ := eps_real
  refine ⟨(∑ k, x k * x k) * (1 / 1024) + e, ?_, ?_⟩
  · have : 0 ≤ ∑ k, x k * x k := Finset.sum_nonneg fun k _ => mul_self_nonneg _
    positivity
  · rw [msq, h, n_real, Ideal.div_coe (by norm_num)]
    simp only [← EReal.coe_mul]
    rw [coe_sum, ← EReal.coe_mul, ← EReal.coe_add]

/-- A nonnegative real factor leaves a sum term by term. -/
theorem sum_scale {n : ℕ} (f : Fin n → EReal) (r : ℝ) (hr : 0 ≤ r) : (∑ k, f k * (r : EReal)) = (∑ k, f k) * (r : EReal) := by
  refine Finset.induction_on (motive := fun s : Finset (Fin n) => ∑ k ∈ s, f k * (r : EReal) = (∑ k ∈ s, f k) * (r : EReal)) Finset.univ ?_ ?_
  · simp
  · intro a s ha h
    rw [Finset.sum_insert ha, Finset.sum_insert ha, h,
      EReal.right_distrib_of_nonneg_of_ne_top (EReal.coe_nonneg.mpr hr) (EReal.coe_ne_top r)]

/-- Two halves of a negative multiple add up, at the infinities as well. -/
theorem two_halves (z : EReal) (q : ℝ) (hq : 0 < q) :
    z * ((-(q / 2) : ℝ) : EReal) + z * ((-(q / 2) : ℝ) : EReal) = -(z * (q : EReal)) := by
  have hn : (-(q / 2) : ℝ) < 0 := by linarith
  induction z with
  | bot => rw [EReal.bot_mul_coe_of_neg hn, EReal.bot_mul_coe_of_pos hq]; rfl
  | top => rw [EReal.top_mul_coe_of_neg hn, EReal.top_mul_coe_of_pos hq]; rfl
  | coe x =>
    simp only [← EReal.coe_mul, ← EReal.coe_add, ← EReal.coe_neg]
    exact congrArg _ (by ring)

/-- A square is not negative. -/
theorem sq_nonneg' (a : EReal) : 0 ≤ a * a := by
  induction a with
  | bot => simp
  | top => simp
  | coe x => exact_mod_cast mul_self_nonneg x

/-- The mean square of a row that holds an infinity. -/
theorem msq_top (x : Fin 1024 → EReal) (k : Fin 1024) (h : x k * x k = ⊤) : msq x = ⊤ := by
  have hs : (∑ k, x k * x k) = ⊤ :=
    top_le_iff.mp (h ▸ Finset.single_le_sum (f := fun k => x k * x k) (fun i _ => sq_nonneg' (x i)) (Finset.mem_univ k))
  obtain ⟨e, _, he⟩ := eps_real
  rw [msq, hs, he, n_real, Ideal.div_coe (by norm_num), EReal.top_mul_coe_of_pos (by norm_num), EReal.top_add_coe]

/-- Both ways of writing the gradient agree. -/
theorem dxRow_rule (x g dy : Fin 1024 → EReal) (d : EReal) (k : Fin 1024) :
    dxRow x g dy d k = d + dy k * g k * Ideal.rsqrt (msq x) + x k * dxFac x g dy + dxFac x g dy * x k := by
  by_cases hx : ∃ k, x k * x k = ⊤
  · obtain ⟨l, hl⟩ := hx
    have h0 : Ideal.div (0 : EReal) ⊤ = 0 := by simp [Ideal.div]
    have h1 : Ideal.div (0 : EReal) ((1024 : ℝ) : EReal) = 0 := by rw [Ideal.div_coe (by norm_num), zero_mul]
    rw [dxRow, dxFac, msq_top x l hl, Ideal.rsqrt_top, n_real, h0]
    simp only [mul_zero, zero_mul, add_zero, h1]
  have hr (l : Fin 1024) : ∃ r : ℝ, x l = (r : EReal) := by
    have := fun h => hx ⟨l, h⟩
    revert this
    generalize x l = a
    induction a with
    | bot => simp
    | top => simp
    | coe x => exact fun _ => ⟨x, rfl⟩
  choose y hy using hr
  obtain rfl : x = fun k => (y k : EReal) := funext hy
  obtain ⟨v, hv, e⟩ := msq_real y
  have hr : Ideal.rsqrt (v : EReal) = (((Real.sqrt v)⁻¹ : ℝ) : EReal) := by
    rw [Ideal.rsqrt_coe, if_neg hv.not_gt, if_neg hv.ne']
  have hs : (Real.sqrt v)⁻¹ * (Real.sqrt v)⁻¹ = v⁻¹ := by
    rw [← mul_inv, Real.mul_self_sqrt hv.le]
  have hp : 0 < (Real.sqrt v)⁻¹ := inv_pos.mpr (Real.sqrt_pos.mpr hv)
  rw [dxRow, dxFac, e, hr, n_real, minus_half_real]
  generalize (Real.sqrt v)⁻¹ = r at *
  rw [Ideal.div_coe (by norm_num), Ideal.div_coe (by norm_num), Ideal.div_coe hv.ne']
  have h1 : ∑ l, dy l * g l * ((y l : EReal) * (r : EReal)) = (∑ l, (y l : EReal) * (dy l * g l)) * (r : EReal) := by
    rw [← sum_scale _ r hp.le]
    exact Finset.sum_congr rfl fun l _ => by rw [← mul_assoc, mul_comm (dy l * g l) (y l : EReal)]
  rw [h1]
  generalize (∑ l, (y l : EReal) * (dy l * g l)) = S
  generalize dy k * g k = w
  have hq : 0 < r * r * r * (1 / 1024) := by positivity
  have e1 : (r : EReal) * (w - (y k : EReal) * (r : EReal) * (S * (r : EReal) * ((1 / 1024 : ℝ) : EReal)))
      = w * (r : EReal) + -((y k : EReal) * S * ((r * r * r * (1 / 1024) : ℝ) : EReal)) := by
    rw [sub_eq_add_neg, EReal.left_distrib_of_nonneg_of_ne_top (EReal.coe_nonneg.mpr hp.le) (EReal.coe_ne_top r), mul_neg, mul_comm (r : EReal) w]
    refine congrArg (fun z => w * (r : EReal) + -z) ?_
    simp only [EReal.coe_mul]
    ac_rfl
  have e2 : (y k : EReal) * (S * (((-(1 / 2) : ℝ) : EReal) * ((r : EReal) * ((1 / v : ℝ) : EReal))) * ((1 / 1024 : ℝ) : EReal))
      = (y k : EReal) * S * ((-(r * r * r * (1 / 1024) / 2) : ℝ) : EReal) := by
    rw [show (-(r * r * r * (1 / 1024) / 2) : ℝ) = -(1 / 2) * (r * (1 / v)) * (1 / 1024) by rw [one_div v, ← hs]; ring]
    simp only [EReal.coe_mul]
    ac_rfl
  rw [e1, ← two_halves _ _ hq, mul_comm _ (y k : EReal), e2]
  simp only [add_assoc]

/-- A sum over the columns is the sum over the parts of the sums over a part's columns. -/
theorem sum_col (f : Fin 2816 → EReal) : (∑ j, f j) = ∑ s : Fin 4, ∑ i : Fin 704, f (col s i) := by
  rw [← Finset.sum_product']
  refine (Fintype.sum_equiv (finProdFinEquiv (m := 4) (n := 704)) _ _ fun p => ?_).symm
  exact congrArg f (Fin.ext (by show p.1.val * 704 + p.2.val = p.2.val + 704 * p.1.val; omega))

/-- The gradient that reaches the normalized row. -/
def dyOf (da db : FVec Ideal ⟨2, ![2048, 2816]⟩ .f32) (wg wu : FVec Ideal ⟨2, ![1024, 2816]⟩ .f32) (i : Fin 2048) (k : Fin 1024) : EReal :=
  (∑ j : Fin 2816, (show EReal from da (ix2 i j)) * (show EReal from wg (ix2 k j))) + ∑ j : Fin 2816, (show EReal from db (ix2 i j)) * (show EReal from wu (ix2 k j))

variable (h : FVec Ideal ⟨2, ![2048, 1024]⟩ .f32) (g : FVec Ideal ⟨1, ![1024]⟩ .f32) (dy : Fin 2048 → Fin 1024 → EReal) (dh : FVec Ideal ⟨2, ![2048, 1024]⟩ .f32)

/-- The gradient in the rows. -/
def dxOf : FVec Ideal ⟨2, ![2048, 1024]⟩ .f32 := fun i =>
  (show EReal from dxRow (fun k => h (ix2 (i 0) k)) (fun k => g (ix1 k)) (dy (i 0)) (dh i) (i 1))

/-- One row's share of the gradient in the scale. -/
def dgRow (i : Fin 2048) (k : Fin 1024) : EReal :=
  dy i k * ((show EReal from h (ix2 i k)) * Ideal.rsqrt (msq fun k => h (ix2 i k)))

/-- The gradient in the scale. -/
def dgOf : FVec Ideal ⟨2, ![1, 1024]⟩ .f32 := fun i => (show EReal from ∑ r : Fin 2048, dgRow h dy r (i 1))

end Cert.Ffn

end
-- ==== Proof.LayerSpec.lean ====
module

public import proofs.«01_k».proof.Proof.DxSpec

/-! The products of the layer, the parts that the devices hold, and what is computed from them. -/

@[expose] public section

noncomputable section

namespace Cert.Ffn

open Idealize.ShloMosaic

/-- Column `j` of part `s`, for four parts of 512, two parts of 512 and four parts of 256. -/
def col5 (s : Fin 4) (j : Fin 512) : Fin 2048 := ⟨s.val * 512 + j.val, by have := s.isLt; have := j.isLt; omega⟩

def col2 (s : Fin 2) (j : Fin 512) : Fin 1024 := ⟨s.val * 512 + j.val, by have := s.isLt; have := j.isLt; omega⟩

def colq (s : Fin 4) (j : Fin 256) : Fin 1024 := ⟨s.val * 256 + j.val, by have := s.isLt; have := j.isLt; omega⟩

/-- Row `i` of block `r`. -/
def rowOf (r : ℕ) (h : r < 4) (i : Fin 512) : Fin 2048 := ⟨r * 512 + i.val, by have := i.isLt; omega⟩

/-- The entries of a product, of a product with a transposed right factor and of one with a transposed left factor. -/
def mm {a k b : ℕ} (x : FVec Ideal ⟨2, ![a, k]⟩ .f32) (w : FVec Ideal ⟨2, ![k, b]⟩ .f32) (i : Fin a) (j : Fin b) : EReal :=
  ∑ l : Fin k, (show EReal from x (ix2 i l)) * (show EReal from w (ix2 l j))

def mmT {a k b : ℕ} (x : FVec Ideal ⟨2, ![a, k]⟩ .f32) (w : FVec Ideal ⟨2, ![b, k]⟩ .f32) (i : Fin a) (j : Fin b) : EReal :=
  ∑ l : Fin k, (show EReal from x (ix2 i l)) * (show EReal from w (ix2 j l))

def tmm {a k b : ℕ} (x : FVec Ideal ⟨2, ![k, a]⟩ .f32) (y : FVec Ideal ⟨2, ![k, b]⟩ .f32) (i : Fin a) (j : Fin b) : EReal :=
  ∑ l : Fin k, (show EReal from x (ix2 l i)) * (show EReal from y (ix2 l j))

/-- A product is the sum of its terms, whatever names them. -/
theorem sum_mul_congr {n : ℕ} {f f' g g' : Fin n → EReal} (hf : ∀ l, f l = f' l) (hg : ∀ l, g l = g' l) : (∑ l, f l * g l) = ∑ l, f' l * g' l :=
  Finset.sum_congr rfl fun l _ => congrArg₂ (fun a b : EReal => a * b) (hf l) (hg l)

theorem tmm_comm {a k b : ℕ} (x : FVec Ideal ⟨2, ![k, a]⟩ .f32) (y : FVec Ideal ⟨2, ![k, b]⟩ .f32) (i : Fin a) (j : Fin b) : tmm x y i j = tmm y x j i :=
  Finset.sum_congr rfl fun _ _ => mul_comm (G := EReal) _ _

/-- The gated activation. -/
def swiglu (a b : EReal) : EReal := a * sgm a * b

/-- A gate's product by parts of the columns, and the gated activation. -/
def upOf (u : FVec Ideal ⟨2, ![2048, 1024]⟩ .f32) (w : FVec Ideal ⟨2, ![1024, 2816]⟩ .f32) : FVec Ideal ⟨3, ![4, 2048, 704]⟩ .bf16 := fun i =>
  (show EReal from mm u w (i 1) (col (i 0) (i 2)))

def actOf (u : FVec Ideal ⟨2, ![2048, 1024]⟩ .f32) (wg wu : FVec Ideal ⟨2, ![1024, 2816]⟩ .f32) : FVec Ideal ⟨3, ![4, 2048, 704]⟩ .bf16 := fun i =>
  (show EReal from swiglu (mm u wg (i 1) (col (i 0) (i 2))) (mm u wu (i 1) (col (i 0) (i 2))))

/-- A row's entry after the normalization with scale `g`. -/
def normRow (x g : Fin 1024 → EReal) (k : Fin 1024) : EReal := x k * Ideal.rsqrt (msq x) * g k

/-- The rows after the block's product is added with the factor `f`, and these rows normalized. -/
def addRow {k : ℕ} (f : EReal) (s : FVec Ideal ⟨2, ![2048, k]⟩ .f32) (w : FVec Ideal ⟨2, ![k, 1024]⟩ .f32) (h : FVec Ideal ⟨2, ![2048, 1024]⟩ .f32)
    (i : Fin 2048) (j : Fin 1024) : EReal := (show EReal from h (ix2 i j)) + f * mm s w i j

def addOf {k : ℕ} (f : EReal) (s : FVec Ideal ⟨2, ![2048, k]⟩ .f32) (w : FVec Ideal ⟨2, ![k, 1024]⟩ .f32) (h : FVec Ideal ⟨2, ![2048, 1024]⟩ .f32) :
    FVec Ideal ⟨2, ![2048, 1024]⟩ .f32 := fun i => (show EReal from addRow f s w h (i 0) (i 1))

def normOf {k : ℕ} (f : EReal) (s : FVec Ideal ⟨2, ![2048, k]⟩ .f32) (w : FVec Ideal ⟨2, ![k, 1024]⟩ .f32) (h : FVec Ideal ⟨2, ![2048, 1024]⟩ .f32)
    (g : FVec Ideal ⟨1, ![1024]⟩ .f32) : FVec Ideal ⟨2, ![2048, 1024]⟩ .bf16 := fun i =>
  (show EReal from normRow (addRow f s w h (i 0)) (fun k => g (ix1 k)) (i 1))

/-- The sum over the rows of a weight is the sum over its parts. -/
theorem sum_col5 (f : Fin 2048 → EReal) : (∑ j, f j) = ∑ s : Fin 4, ∑ i : Fin 512, f (col5 s i) := by
  rw [← Finset.sum_product']
  refine (Fintype.sum_equiv (finProdFinEquiv (m := 4) (n := 512)) _ _ fun p => ?_).symm
  exact congrArg f (Fin.ext (by show p.1.val * 512 + p.2.val = p.2.val + 512 * p.1.val; omega))

theorem sum_col2 (f : Fin 1024 → EReal) : (∑ j, f j) = ∑ s : Fin 2, ∑ i : Fin 512, f (col2 s i) := by
  rw [← Finset.sum_product']
  refine (Fintype.sum_equiv (finProdFinEquiv (m := 2) (n := 512)) _ _ fun p => ?_).symm
  exact congrArg f (Fin.ext (by show p.1.val * 512 + p.2.val = p.2.val + 512 * p.1.val; omega))

/-- The projection's parts, and the gradient that goes back through a product, by parts. -/
def projOf (u : FVec Ideal ⟨2, ![2048, 1024]⟩ .f32) (w : FVec Ideal ⟨2, ![1024, 2048]⟩ .f32) : FVec Ideal ⟨3, ![4, 2048, 512]⟩ .f32 := fun i =>
  (show EReal from mm u w (i 1) (col5 (i 0) (i 2)))

def backOf (d : FVec Ideal ⟨2, ![2048, 1024]⟩ .f32) (w : FVec Ideal ⟨2, ![1024, 1024]⟩ .f32) : FVec Ideal ⟨3, ![2, 2048, 512]⟩ .f32 := fun i =>
  (show EReal from mmT d w (i 1) (col2 (i 0) (i 2)))

/-- The weight gradients, by parts of the columns or of the rows. -/
def gradIn (u : FVec Ideal ⟨2, ![2048, 1024]⟩ .f32) (d : FVec Ideal ⟨2, ![2048, 2048]⟩ .f32) : FVec Ideal ⟨3, ![4, 1024, 512]⟩ .bf16 := fun i =>
  (show EReal from tmm u d (i 1) (col5 (i 0) (i 2)))

def gradOut (y d : FVec Ideal ⟨2, ![2048, 1024]⟩ .f32) : FVec Ideal ⟨3, ![2, 512, 1024]⟩ .bf16 := fun i =>
  (show EReal from tmm y d (col2 (i 0) (i 1)) (i 2))

def gradGate (u d : FVec Ideal ⟨2, ![2048, 1024]⟩ .f32) : FVec Ideal ⟨3, ![1, 1024, 1024]⟩ .bf16 := fun i =>
  (show EReal from tmm u d (i 1) (i 2))

def gradEmb (p : FVec Ideal ⟨2, ![2048, 256]⟩ .f32) (d : FVec Ideal ⟨2, ![2048, 1024]⟩ .f32) : FVec Ideal ⟨3, ![4, 256, 256]⟩ .bf16 := fun i =>
  (show EReal from tmm p d (i 1) (colq (i 0) (i 2)))

/-- The gated embedding added to the rows, and its gradients in the gate's argument and in the embedding's product. -/
def pleOf (u : FVec Ideal ⟨2, ![2048, 1024]⟩ .f32) (p : FVec Ideal ⟨2, ![2048, 256]⟩ .f32) (wg : FVec Ideal ⟨2, ![1024, 1024]⟩ .f32) (wp : FVec Ideal ⟨2, ![256, 1024]⟩ .f32)
    (h : FVec Ideal ⟨2, ![2048, 1024]⟩ .f32) : FVec Ideal ⟨2, ![2048, 1024]⟩ .f32 := fun i =>
  (show EReal from (show EReal from h i) + mm p wp (i 0) (i 1) * sgm (mm u wg (i 0) (i 1)))

def dPre (a b d : EReal) : EReal := d * b * sgm a * (1 - sgm a)

def dpreOf (u : FVec Ideal ⟨2, ![2048, 1024]⟩ .f32) (p : FVec Ideal ⟨2, ![2048, 256]⟩ .f32) (wg : FVec Ideal ⟨2, ![1024, 1024]⟩ .f32) (wp : FVec Ideal ⟨2, ![256, 1024]⟩ .f32)
    (d : FVec Ideal ⟨2, ![2048, 1024]⟩ .f32) : FVec Ideal ⟨2, ![2048, 1024]⟩ .bf16 := fun i =>
  (show EReal from dPre (mm u wg (i 0) (i 1)) (mm p wp (i 0) (i 1)) (d i))

def dppOf (u : FVec Ideal ⟨2, ![2048, 1024]⟩ .f32) (wg : FVec Ideal ⟨2, ![1024, 1024]⟩ .f32) (d : FVec Ideal ⟨2, ![2048, 1024]⟩ .f32) :
    FVec Ideal ⟨3, ![4, 2048, 256]⟩ .bf16 := fun i =>
  (show EReal from (show EReal from d (ix2 (i 1) (colq (i 0) (i 2)))) * sgm (mm u wg (i 1) (colq (i 0) (i 2))))

/-- Half of an array. -/
def halfOf (v : FVec Ideal ⟨2, ![2048, 1024]⟩ .f32) : FVec Ideal ⟨2, ![2048, 1024]⟩ .bf16 := fun i =>
  (show EReal from Ideal.ofBits .f32 0x3F000000#32 * (show EReal from v i))

/-- Two sums of equal terms. -/
theorem add_eq {a a' b b' : EReal} (h : a = a') (h' : b = b') : a + b = a' + b' := by
  rw [h, h']

end Cert.Ffn

end
-- ==== Proof.LayerLoad.lean ====
module

public import proofs.«01_k».proof.Proof.LayerSpec
public import Idealize.ShloMosaic.Lib.Pipeline.ValueKit

/-! What a load of one part of a block reads. -/

@[expose] public section

noncomputable section

namespace Cert.Ffn

open Idealize.ShloMosaic Idealize.ShloMosaic.Tactic

/-- A load of part `s` reads part `s`. -/
theorem ld_part {e : EltTy} {n a b : ℕ} (w : Vec Ideal ⟨3, ![n, a, b]⟩ e) (s : Fin n)
    (h : ∀ d, (![s.val, 0, 0] : Fin 3 → Nat) d + (⟨3, ![1, a, b]⟩ : Shape).size d ≤ (⟨3, ![n, a, b]⟩ : Shape).size d) (i : Fin a) (j : Fin b) :
    View.ld w (Rect.unit (s := ⟨3, ![n, a, b]⟩) ![s.val, 0, 0] (⟨3, ![1, a, b]⟩ : Shape).size h) (ix3 0 i j) = w (ix3 s i j) := by
  refine congrArg w ?_
  funext d
  fin_cases d <;> refine Fin.ext ?_
  all_goals first | rfl | exact (Nat.zero_add _).trans (Nat.mul_one _) | exact (Nat.zero_add _).trans (Nat.one_mul _) | exact Nat.zero_add _

/-- A load of a whole block reads the block. -/
theorem ld_whole {e : EltTy} {a b : ℕ} (w : Vec Ideal ⟨2, ![a, b]⟩ e)
    (h : ∀ d, (![0, 0] : Fin 2 → Nat) d + (⟨2, ![a, b]⟩ : Shape).size d ≤ (⟨2, ![a, b]⟩ : Shape).size d) (i : Fin a) (j : Fin b) :
    View.ld w (Rect.unit (s := ⟨2, ![a, b]⟩) ![0, 0] (⟨2, ![a, b]⟩ : Shape).size h) (ix2 i j) = w (ix2 i j) := by
  refine congrArg w ?_
  funext d
  fin_cases d <;> refine Fin.ext ?_
  all_goals first | rfl | exact (Nat.zero_add _).trans (Nat.mul_one _) | exact (Nat.zero_add _).trans (Nat.one_mul _) | exact Nat.zero_add _

end Cert.Ffn

end
-- ==== Proof.DxValue.lean ====
module

public import proofs.«01_k».proof.Proof.Gen.DxKernelIdeal.Value
public import proofs.«01_k».proof.Proof.Gen.DxReferenceIdeal.Run
public import proofs.«01_k».proof.Proof.LayerLoad
public import Idealize.ShloMosaic.Lib.Pipeline.ValueKit
public import Idealize.ShloMosaic.Lib.StableHlo.ReadAt

/-! The gradient through the normalization, as the kernel computes it. -/

@[expose] public section

noncomputable section

namespace Cert.DxKernelIdeal.Gen

open Idealize.ShloMosaic Idealize.ShloMosaic.TcCoe Idealize.ShloMosaic.Tactic
open Cert.Ffn Finset

set_option maxRecDepth 16384

theorem pay4_at (y x d : Vec Ideal S512x1024 .f32) (g : Vec Ideal S1x1024 .f32) (i : Fin 512) (k : Fin 1024) :
    k0_pay4 y x (k0_pay10 g) (k0_pay11 x) (k0_pay12 (F := Ideal)) d (ix2 i k)
      = (show EReal from dxRow (fun k => x (ix2 i k)) (fun k => g (ix2 0 k)) (fun k => y (ix2 i k)) (d (ix2 i k)) k) := by
  pointwise [k0_pay4, k0_pay10, k0_pay11, k0_pay12, k0_pay2, k0_pay1, dxRow, msq]

theorem pay3_at (y x : Vec Ideal S512x1024 .f32) (k : Fin 1024) :
    k0_pay3 y x (k0_pay11 x) (k0_pay12 (F := Ideal)) (ix2 0 k)
      = (show EReal from ∑ i : Fin 512, (show EReal from y (ix2 i k)) * ((show EReal from x (ix2 i k)) * Ideal.rsqrt (msq fun k => x (ix2 i k)))) := by
  pointwise [k0_pay3, k0_pay11, k0_pay12, k0_pay2, k0_pay1, msq]

theorem pay6_at (y x : Vec Ideal S512x1024 .f32) (z : Vec Ideal S1x1024 .f32) (k : Fin 1024) :
    k0_pay6 y x (k0_pay11 x) (k0_pay12 (F := Ideal)) z (ix2 0 k)
      = (show EReal from (show EReal from z (ix2 0 k)) + (show EReal from k0_pay3 y x (k0_pay11 x) (k0_pay12 (F := Ideal)) (ix2 0 k))) := by
  generalize e : k0_pay3 y x (k0_pay11 x) (k0_pay12 (F := Ideal)) = w
  rw [k0_pay6, e]
  pointwise

theorem pay9_at (a0 a1 a2 a3 b0 b1 b2 b3 : Vec Ideal S1x512x704 .bf16) (p0 p1 p2 p3 q0 q1 q2 q3 : Vec Ideal S1x704x1024 .bf16) (i : Fin 512) (k : Fin 1024) :
    k0_pay9 (k0_pay7 a0 p0 a1 p1 a2 p2 a3 p3) (k0_pay8 b0) q0 b1 q1 b2 q2 b3 q3 (ix2 i k)
      = (show EReal from (((((((∑ j : Fin 704, (show EReal from a0 (ix3 0 i j)) * (show EReal from p0 (ix3 0 j k)))
        + ∑ j : Fin 704, (show EReal from a1 (ix3 0 i j)) * (show EReal from p1 (ix3 0 j k)))
        + ∑ j : Fin 704, (show EReal from a2 (ix3 0 i j)) * (show EReal from p2 (ix3 0 j k)))
        + ∑ j : Fin 704, (show EReal from a3 (ix3 0 i j)) * (show EReal from p3 (ix3 0 j k)))
        + ∑ j : Fin 704, (show EReal from b0 (ix3 0 i j)) * (show EReal from q0 (ix3 0 j k)))
        + ∑ j : Fin 704, (show EReal from b1 (ix3 0 i j)) * (show EReal from q1 (ix3 0 j k)))
        + ∑ j : Fin 704, (show EReal from b2 (ix3 0 i j)) * (show EReal from q2 (ix3 0 j k)))
        + ∑ j : Fin 704, (show EReal from b3 (ix3 0 i j)) * (show EReal from q3 (ix3 0 j k))) := by
  pointwise [k0_pay9, k0_pay8, k0_pay7]

theorem idx_all : ∀ t : Fin cfg0.N, win0_0.index t = ![0, t.val, 0] ∧ win0_1.index t = ![0, 0, 0] ∧ win0_2.index t = ![0, t.val, 0]
    ∧ win0_3.index t = ![0, 0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] := by decide +kernel

variable (m : (l : Loc nD τ sig) → Buf (Elt Ideal) l) (c : Dev nD)

theorem R_a (s : Fin 4) (i : Fin 2048) (j : Fin 704) : V m c main_v8 (ix3 s i j) = m (c, Proc.devRef .tc main_arg4) (ix2 i (col s j)) := by
  unfold V
  after_reads_at
  rfl

theorem R_b (s : Fin 4) (i : Fin 2048) (j : Fin 704) : V m c main_v11 (ix3 s i j) = m (c, Proc.devRef .tc main_arg5) (ix2 i (col s j)) := by
  unfold V
  after_reads_at
  rfl

theorem R_g (s : Fin 4) (j : Fin 704) (k : Fin 1024) : V m c main_v2 (ix3 s j k) = m (c, Proc.devRef .tc main_arg2) (ix2 k (col s j)) := by
  unfold V
  after_reads_at
  rfl

theorem R_u (s : Fin 4) (j : Fin 704) (k : Fin 1024) : V m c main_v5 (ix3 s j k) = m (c, Proc.devRef .tc main_arg3) (ix2 k (col s j)) := by
  unfold V
  after_reads_at
  rfl

theorem R_sc (k : Fin 1024) : V m c main_v12 (ix2 0 k) = m (c, Proc.devRef .tc main_arg1) (ix1 k) := by
  unfold V
  after_reads_at
  all_goals rfl

/-- The row of a grid point. -/
def row (t : Fin cfg0.N) (i : Fin 512) : Fin 2048 := ⟨t.val * 512 + i.val, by have h1 : t.val < 4 := t.isLt; have h2 := i.isLt; omega⟩

theorem B_a (t : Fin cfg0.N) (s : Fin 4) (i : Fin 512) (j : Fin 704) : iblk m c 0 t (ix3 s i j) = V m c main_v8 (ix3 s (row t i) j) := by
  unfold iblk
  blk_ext [(idx_all t).1]
  all_goals rfl

theorem B_g (t : Fin cfg0.N) (s : Fin 4) (j : Fin 704) (k : Fin 1024) : iblk m c 1 t (ix3 s j k) = V m c main_v2 (ix3 s j k) := by
  unfold iblk
  blk_ext [(idx_all t).2.1]

theorem B_b (t : Fin cfg0.N) (s : Fin 4) (i : Fin 512) (j : Fin 704) : iblk m c 2 t (ix3 s i j) = V m c main_v11 (ix3 s (row t i) j) := by
  unfold iblk
  blk_ext [(idx_all t).2.2.1]
  all_goals rfl

theorem B_u (t : Fin cfg0.N) (s : Fin 4) (j : Fin 704) (k : Fin 1024) : iblk m c 3 t (ix3 s j k) = V m c main_v5 (ix3 s j k) := by
  unfold iblk
  blk_ext [(idx_all t).2.2.2.1]

theorem B_h (t : Fin cfg0.N) (i : Fin 512) (k : Fin 1024) : iblk m c 4 t (ix2 i k) = m (c, Proc.devRef .tc main_arg0) (ix2 (row t i) k) := by
  unfold iblk
  blk_ext [(idx_all t).2.2.2.2.1]
  all_goals rfl

theorem B_sc (t : Fin cfg0.N) (k : Fin 1024) : iblk m c 5 t (ix2 0 k) = V m c main_v12 (ix2 0 k) := by
  unfold iblk
  blk_ext [(idx_all t).2.2.2.2.2.1]

theorem B_dh (t : Fin cfg0.N) (i : Fin 512) (k : Fin 1024) : iblk m c 6 t (ix2 i k) = m (c, Proc.devRef .tc main_arg6) (ix2 (row t i) k) := by
  unfold iblk
  blk_ext [(idx_all t).2.2.2.2.2.2.1]
  all_goals rfl

/-- The gradient that reaches a grid point's rows. -/
abbrev yBlk (t : Fin cfg0.N) : Vec Ideal S512x1024 .f32 :=
  k0_pay9
    (k0_pay7 (View.ld (iblk m c 0 t) (Rect.unit (s := S4x512x704) ![0, 0, 0] S1x512x704.size inb_S4x512x704_S1x512x704_0_0_0)) (View.ld (iblk m c 1 t) (Rect.unit (s := S4x704x1024) ![0, 0, 0] S1x704x1024.size inb_S4x704x1024_S1x704x1024_0_0_0))
      (View.ld (iblk m c 0 t) (Rect.unit (s := S4x512x704) ![1, 0, 0] S1x512x704.size inb_S4x512x704_S1x512x704_1_0_0)) (View.ld (iblk m c 1 t) (Rect.unit (s := S4x704x1024) ![1, 0, 0] S1x704x1024.size inb_S4x704x1024_S1x704x1024_1_0_0))
      (View.ld (iblk m c 0 t) (Rect.unit (s := S4x512x704) ![2, 0, 0] S1x512x704.size inb_S4x512x704_S1x512x704_2_0_0)) (View.ld (iblk m c 1 t) (Rect.unit (s := S4x704x1024) ![2, 0, 0] S1x704x1024.size inb_S4x704x1024_S1x704x1024_2_0_0))
      (View.ld (iblk m c 0 t) (Rect.unit (s := S4x512x704) ![3, 0, 0] S1x512x704.size inb_S4x512x704_S1x512x704_3_0_0)) (View.ld (iblk m c 1 t) (Rect.unit (s := S4x704x1024) ![3, 0, 0] S1x704x1024.size inb_S4x704x1024_S1x704x1024_3_0_0)))
    (k0_pay8 (View.ld (iblk m c 2 t) (Rect.unit (s := S4x512x704) ![0, 0, 0] S1x512x704.size inb_S4x512x704_S1x512x704_0_0_0)))
    (View.ld (iblk m c 3 t) (Rect.unit (s := S4x704x1024) ![0, 0, 0] S1x704x1024.size inb_S4x704x1024_S1x704x1024_0_0_0))
    (View.ld (iblk m c 2 t) (Rect.unit (s := S4x512x704) ![1, 0, 0] S1x512x704.size inb_S4x512x704_S1x512x704_1_0_0)) (View.ld (iblk m c 3 t) (Rect.unit (s := S4x704x1024) ![1, 0, 0] S1x704x1024.size inb_S4x704x1024_S1x704x1024_1_0_0))
    (View.ld (iblk m c 2 t) (Rect.unit (s := S4x512x704) ![2, 0, 0] S1x512x704.size inb_S4x512x704_S1x512x704_2_0_0)) (View.ld (iblk m c 3 t) (Rect.unit (s := S4x704x1024) ![2, 0, 0] S1x704x1024.size inb_S4x704x1024_S1x704x1024_2_0_0))
    (View.ld (iblk m c 2 t) (Rect.unit (s := S4x512x704) ![3, 0, 0] S1x512x704.size inb_S4x512x704_S1x512x704_3_0_0)) (View.ld (iblk m c 3 t) (Rect.unit (s := S4x704x1024) ![3, 0, 0] S1x704x1024.size inb_S4x704x1024_S1x704x1024_3_0_0))

/-- The gradient that reaches the normalized rows. -/
abbrev dyM : Fin 2048 → Fin 1024 → EReal :=
  dyOf (m (c, Proc.devRef .tc main_arg4)) (m (c, Proc.devRef .tc main_arg5)) (m (c, Proc.devRef .tc main_arg2)) (m (c, Proc.devRef .tc main_arg3))

/-- The products of one part. -/
theorem dot_a (t : Fin cfg0.N) (s : Fin 4) (h : ∀ a, (![s.val, 0, 0] : Fin 3 → Nat) a + S1x512x704.size a ≤ S4x512x704.size a)
    (h' : ∀ a, (![s.val, 0, 0] : Fin 3 → Nat) a + S1x704x1024.size a ≤ S4x704x1024.size a) (i : Fin 512) (k : Fin 1024) :
    (∑ j : Fin 704, (show EReal from View.ld (iblk m c 0 t) (Rect.unit (s := S4x512x704) ![s.val, 0, 0] S1x512x704.size h) (ix3 0 i j))
        * (show EReal from View.ld (iblk m c 1 t) (Rect.unit (s := S4x704x1024) ![s.val, 0, 0] S1x704x1024.size h') (ix3 0 j k)))
      = ∑ j : Fin 704, (show EReal from m (c, Proc.devRef .tc main_arg4) (ix2 (row t i) (col s j))) * (show EReal from m (c, Proc.devRef .tc main_arg2) (ix2 k (col s j))) :=
  sum_mul_congr (fun j => ((ld_part (iblk m c 0 t) s h i j).trans (B_a m c t s i j)).trans (R_a m c s (row t i) j))
    fun j => ((ld_part (iblk m c 1 t) s h' j k).trans (B_g m c t s j k)).trans (R_g m c s j k)

theorem dot_b (t : Fin cfg0.N) (s : Fin 4) (h : ∀ a, (![s.val, 0, 0] : Fin 3 → Nat) a + S1x512x704.size a ≤ S4x512x704.size a)
    (h' : ∀ a, (![s.val, 0, 0] : Fin 3 → Nat) a + S1x704x1024.size a ≤ S4x704x1024.size a) (i : Fin 512) (k : Fin 1024) :
    (∑ j : Fin 704, (show EReal from View.ld (iblk m c 2 t) (Rect.unit (s := S4x512x704) ![s.val, 0, 0] S1x512x704.size h) (ix3 0 i j))
        * (show EReal from View.ld (iblk m c 3 t) (Rect.unit (s := S4x704x1024) ![s.val, 0, 0] S1x704x1024.size h') (ix3 0 j k)))
      = ∑ j : Fin 704, (show EReal from m (c, Proc.devRef .tc main_arg5) (ix2 (row t i) (col s j))) * (show EReal from m (c, Proc.devRef .tc main_arg3) (ix2 k (col s j))) :=
  sum_mul_congr (fun j => ((ld_part (iblk m c 2 t) s h i j).trans (B_b m c t s i j)).trans (R_b m c s (row t i) j))
    fun j => ((ld_part (iblk m c 3 t) s h' j k).trans (B_u m c t s j k)).trans (R_u m c s j k)

theorem yBlk_at (t : Fin cfg0.N) (i : Fin 512) (k : Fin 1024) : yBlk m c t (ix2 i k) = (show EReal from dyM m c (row t i) k) := by
  refine (pay9_at _ _ _ _ _ _ _ _ _ _ _ _ _ _ _ _ i k).trans ?_
  rw [dyM, dyOf, sum_col, sum_col, Fin.sum_univ_four, Fin.sum_univ_four]
  simp only [← add_assoc]
  exact add_eq (add_eq (add_eq (add_eq (add_eq (add_eq (add_eq
    (dot_a m c t 0 inb_S4x512x704_S1x512x704_0_0_0 inb_S4x704x1024_S1x704x1024_0_0_0 i k)
    (dot_a m c t 1 inb_S4x512x704_S1x512x704_1_0_0 inb_S4x704x1024_S1x704x1024_1_0_0 i k))
    (dot_a m c t 2 inb_S4x512x704_S1x512x704_2_0_0 inb_S4x704x1024_S1x704x1024_2_0_0 i k))
    (dot_a m c t 3 inb_S4x512x704_S1x512x704_3_0_0 inb_S4x704x1024_S1x704x1024_3_0_0 i k))
    (dot_b m c t 0 inb_S4x512x704_S1x512x704_0_0_0 inb_S4x704x1024_S1x704x1024_0_0_0 i k))
    (dot_b m c t 1 inb_S4x512x704_S1x512x704_1_0_0 inb_S4x704x1024_S1x704x1024_1_0_0 i k))
    (dot_b m c t 2 inb_S4x512x704_S1x512x704_2_0_0 inb_S4x704x1024_S1x704x1024_2_0_0 i k))
    (dot_b m c t 3 inb_S4x512x704_S1x512x704_3_0_0 inb_S4x704x1024_S1x704x1024_3_0_0 i k)

theorem row_congr {x x' g g' y y' : Fin 1024 → EReal} {d d' : EReal} (hx : x = x') (hg : g = g') (hy : y = y') (hd : d = d') (k : Fin 1024) :
    dxRow x g y d k = dxRow x' g' y' d' k := by
  rw [hx, hg, hy, hd]

/-- The gradient in the rows of one grid point. -/
theorem blk_7 (t : Fin cfg0.N) (i : Fin 512) (k : Fin 1024) :
    k0_pay4 (yBlk m c t) (iblk m c 4 t) (k0_pay10 (iblk m c 5 t)) (k0_pay11 (iblk m c 4 t)) (k0_pay12 (F := Ideal)) (iblk m c 6 t) (ix2 i k)
      = dxOf (m (c, Proc.devRef .tc main_arg0)) (m (c, Proc.devRef .tc main_arg1)) (dyM m c) (m (c, Proc.devRef .tc main_arg6)) (ix2 (row t i) k) := by
  refine (pay4_at (yBlk m c t) (iblk m c 4 t) (iblk m c 6 t) (iblk m c 5 t) i k).trans ?_
  exact row_congr (funext fun k => B_h m c t i k) (funext fun k => (B_sc m c t k).trans (R_sc m c k)) (funext fun k => yBlk_at m c t i k) (B_dh m c t i k) k

theorem pay5_at (y x d : Vec Ideal S512x1024 .f32) (g : Vec Ideal S1x1024 .f32) (a b : Vec Ideal S512x1 .f32) (i : Fin 512) (k : Fin 1024) :
    k0_pay5 y x g a b d (ix2 i k) = (show EReal from k0_pay4 y x g a b d (ix2 i k)) := by
  generalize e : k0_pay4 y x g a b d = w
  rw [k0_pay5, e]
  pointwise
  all_goals exact one_mul (M := EReal) _

/-- One grid point's share of the gradient in the scale. -/
theorem blk_9 (t : Fin cfg0.N) (k : Fin 1024) :
    k0_pay3 (yBlk m c t) (iblk m c 4 t) (k0_pay11 (iblk m c 4 t)) (k0_pay12 (F := Ideal)) (ix2 0 k)
      = (show EReal from ∑ i : Fin 512, dgRow (m (c, Proc.devRef .tc main_arg0)) (dyM m c) (row t i) k) := by
  refine (pay3_at (yBlk m c t) (iblk m c 4 t) k).trans ?_
  refine Finset.sum_congr rfl fun i _ => congrArg₂ (fun a b : EReal => a * b) (yBlk_at m c t i k) ?_
  exact congrArg₂ (fun a b : EReal => a * b) (B_h m c t i k) (congrArg (fun x => Ideal.rsqrt (msq x)) (funext fun k => B_h m c t i k))

theorem cases_outs (t : Fin cfg0.N) : (outsAt0 m c t.val t.isLt).1
    = k0_pay4 (yBlk m c t) (iblk m c 4 t) (k0_pay10 (iblk m c 5 t)) (k0_pay11 (iblk m c 4 t)) (k0_pay12 (F := Ideal)) (iblk m c 6 t) := by
  by_cases h1 : 1 ≤ t.val
  · have h0 : ¬t.val % 4 = 0 := by have : t.val < 4 := t.isLt; omega
    rw [outsAt0_B m c t h0 h1]
    dsimp only
    frame_out
    rfl
  · have h0 : t.val % 4 = 0 := by omega
    rw [outsAt0_A m c t h0 h1]
    dsimp only
    frame_out
    rfl

theorem cases_outs_b (t : Fin cfg0.N) : (outsAt0 m c t.val t.isLt).2.1
    = k0_pay5 (yBlk m c t) (iblk m c 4 t) (k0_pay10 (iblk m c 5 t)) (k0_pay11 (iblk m c 4 t)) (k0_pay12 (F := Ideal)) (iblk m c 6 t) := by
  by_cases h1 : 1 ≤ t.val
  · have h0 : ¬t.val % 4 = 0 := by have : t.val < 4 := t.isLt; omega
    rw [outsAt0_B m c t h0 h1]
    dsimp only
    frame_out
    rfl
  · have h0 : t.val % 4 = 0 := by omega
    rw [outsAt0_A m c t h0 h1]
    dsimp only
    frame_out
    rfl

theorem outs_first (t : Fin cfg0.N) (h0 : t.val % 4 = 0) (h1 : ¬1 ≤ t.val) : (outsAt0 m c t.val t.isLt).2.2
    = k0_pay3 (yBlk m c t) (iblk m c 4 t) (k0_pay11 (iblk m c 4 t)) (k0_pay12 (F := Ideal)) := by
  rw [outsAt0_A m c t h0 h1]
  dsimp only
  frame_out
  rfl

theorem outs_next (t : Fin cfg0.N) (h0 : ¬t.val % 4 = 0) (h1 : 1 ≤ t.val) : (outsAt0 m c t.val t.isLt).2.2
    = k0_pay6 (yBlk m c t) (iblk m c 4 t) (k0_pay11 (iblk m c 4 t)) (k0_pay12 (F := Ideal)) (outsAt0 m c (t.val - 1) (Nat.lt_of_le_of_lt (Nat.sub_le _ _) t.isLt)).2.2 := by
  rw [outsAt0_B m c t h0 h1]
  dsimp only
  frame_out
  rfl

theorem arr_7 : (dats m 0 c).arrAt 7 cfg0.N = dxOf (m (c, Proc.devRef .tc main_arg0)) (m (c, Proc.devRef .tc main_arg1)) (dyM m c) (m (c, Proc.devRef .tc main_arg6)) := by
  refine (dats m 0 c).arrAt_eq_of_covers 7 _ (by decide +kernel) fun t hf y => ?_
  obtain ⟨x, z, rfl⟩ : ∃ (x : Fin 512) (z : Fin 1024), y = ix2 x z := ⟨y 0, y 1, eq_ix2 y⟩
  rw [after0_7, cases_outs]
  refine (blk_7 m c t x z).trans ?_
  refine congrArg (dxOf (m (c, Proc.devRef .tc main_arg0)) (m (c, Proc.devRef .tc main_arg1)) (dyM m c) (m (c, Proc.devRef .tc main_arg6))) (?_ : ix2 (row t x) z = _)
  funext a
  fin_cases a <;> refine Fin.ext ?_ <;> blk_simp [(idx_all t).2.2.2.2.2.2.2.1] <;> rfl

theorem arr_8 : (dats m 0 c).arrAt 8 cfg0.N = (show FVec Ideal S2048x1024 .bf16 from dxOf (m (c, Proc.devRef .tc main_arg0)) (m (c, Proc.devRef .tc main_arg1)) (dyM m c) (m (c, Proc.devRef .tc main_arg6))) := by
  refine (dats m 0 c).arrAt_eq_of_covers 8 _ (by decide +kernel) fun t hf y => ?_
  obtain ⟨x, z, rfl⟩ : ∃ (x : Fin 512) (z : Fin 1024), y = ix2 x z := ⟨y 0, y 1, eq_ix2 y⟩
  rw [after0_8, cases_outs_b]
  refine ((pay5_at (yBlk m c t) (iblk m c 4 t) (iblk m c 6 t) (k0_pay10 (iblk m c 5 t)) (k0_pay11 (iblk m c 4 t)) (k0_pay12 (F := Ideal)) x z).trans (blk_7 m c t x z)).trans ?_
  refine congrArg (dxOf (m (c, Proc.devRef .tc main_arg0)) (m (c, Proc.devRef .tc main_arg1)) (dyM m c) (m (c, Proc.devRef .tc main_arg6))) (?_ : ix2 (row t x) z = _)
  funext a
  fin_cases a <;> refine Fin.ext ?_ <;> blk_simp [(idx_all t).2.2.2.2.2.2.2.2.1] <;> rfl

/-- A sum over the rows is the sum over the grid points of the sums over a point's rows. -/
theorem sum_row (f : Fin 2048 → EReal) : (∑ r, f r) = ∑ t : Fin 4, ∑ i : Fin 512, f (row t i) := by
  rw [← Finset.sum_product']
  refine (Fintype.sum_equiv (finProdFinEquiv (m := 4) (n := 512)) _ _ fun p => ?_).symm
  exact congrArg f (Fin.ext (by show p.1.val * 512 + p.2.val = p.2.val + 512 * p.1.val; omega))

/-- One grid point's share of the gradient in the scale. -/
def part (t : Fin 4) (k : Fin 1024) : EReal := ∑ i : Fin 512, dgRow (m (c, Proc.devRef .tc main_arg0)) (dyM m c) (row t i) k

theorem acc_zero (k : Fin 1024) : (outsAt0 m c 0 (by decide)).2.2 (ix2 0 k) = (show EReal from part m c 0 k) :=
  (congrFun (outs_first m c ⟨0, by decide⟩ (by decide) (by decide)) _).trans (blk_9 m c ⟨0, by decide⟩ k)

theorem acc_step (n : ℕ) (hn : n + 1 < cfg0.N) (k : Fin 1024) (x : EReal) (h : (outsAt0 m c n (Nat.lt_of_succ_lt hn)).2.2 (ix2 0 k) = x) :
    (outsAt0 m c (n + 1) hn).2.2 (ix2 0 k) = x + part m c ⟨n + 1, hn⟩ k := by
  have h4 : n + 1 < 4 := hn
  refine (congrFun (outs_next m c ⟨n + 1, hn⟩ (by show ¬(n + 1) % 4 = 0; omega) (Nat.le_add_left _ _)) _).trans ?_
  refine (pay6_at (yBlk m c ⟨n + 1, hn⟩) (iblk m c 4 ⟨n + 1, hn⟩) _ k).trans ?_
  exact congrArg₂ (fun a b : EReal => a + b) h (blk_9 m c ⟨n + 1, hn⟩ k)

theorem acc_last (k : Fin 1024) : (outsAt0 m c 3 (by decide)).2.2 (ix2 0 k) = dgOf (m (c, Proc.devRef .tc main_arg0)) (dyM m c) (ix2 0 k) := by
  refine (acc_step m c 2 (by decide) k _ (acc_step m c 1 (by decide) k _ (acc_step m c 0 (by decide) k _ (acc_zero m c k)))).trans ?_
  refine Eq.trans ?_ (sum_row _).symm
  rw [Fin.sum_univ_four]
  rfl

theorem arr_9 : (dats m 0 c).arrAt 9 cfg0.N = dgOf (m (c, Proc.devRef .tc main_arg0)) (dyM m c) := by
  refine (dats m 0 c).arrAt_eq_of_covers 9 _ (by decide +kernel) fun t hf y => ?_
  obtain ⟨x, z, rfl⟩ : ∃ (x : Fin 1) (z : Fin 1024), y = ix2 x z := ⟨y 0, y 1, eq_ix2 y⟩
  rw [show x = 0 from Subsingleton.elim _ _]
  obtain rfl : t = ⟨3, by decide⟩ := by
    revert hf
    revert t
    decide +kernel
  rw [after0_9]
  refine (acc_last m c z).trans ?_
  refine congrArg (dgOf (m (c, Proc.devRef .tc main_arg0)) (dyM m c)) (?_ : ix2 0 z = _)
  funext a
  fin_cases a <;> refine Fin.ext ?_ <;> blk_simp [] <;> first | rfl | exact (Nat.zero_add _).symm

end Cert.DxKernelIdeal.Gen

namespace Cert.DxReferenceIdeal.Value

open Cert.DxReferenceIdeal Cert.DxReferenceIdeal.Gen Idealize.ShloMosaic Idealize.ShloMosaic.TcCoe Idealize.ShloMosaic.Tactic
open Cert.Ffn Finset

set_option maxRecDepth 16384

variable (h : FVec Ideal S2048x1024 .f32) (g : FVec Ideal S1024 .f32) (wg wu : FVec Ideal S1024x2816 .f32) (da db : FVec Ideal S2048x2816 .f32) (dh D : FVec Ideal S2048x1024 .f32)
  (M : FVec Ideal S2048x1 .f32) (T : FVec Ideal S2048 .f32)

/-- The rows' mean squares, as the reference computes them. -/
abbrev rMs : FVec Ideal S2048x1 .f32 :=
  addf (Host.divf (broadcastInDim S2048x1 ![0] bcast_S2048_S2048x1_0 (Host.reduceAdd (mulf h h) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- The gradient that reaches the normalized rows, as the reference computes it. -/
abbrev rDy : FVec Ideal S2048x1024 .f32 :=
  addf (Host.dotGeneral dot_S2048x2816_S1024x2816_S2048x1024_1_1_0_0_n_n none db wu) (Host.dotGeneral dot_S2048x2816_S1024x2816_S2048x1024_1_1_0_0_n_n none da wg)

/-- That gradient times the scale. -/
abbrev rDg : FVec Ideal S2048x1024 .f32 :=
  mulf D (broadcastInDim S2048x1024 ![0, 1] bcast_S1x1024_S2048x1024_0_1 (broadcastInDim S1x1024 ![1] bcast_S1024_S1x1024_1 g))

/-- The factor of the chain rule's second term. -/
abbrev rFac : FVec Ideal S2048 .f32 :=
  Host.reduceAdd (Host.divf (mulf (shapeCast _ (Host.reduceAdd (mulf h (rDg g D)) (constant S_ .f32 0x00000000#32) reducesTo_S2048x1024_S2048_d1 h_S_) shapeCasts_S2048_S2048x1)
    (mulf (broadcastInDim S2048x1 ![] bcast_S_S2048x1 (constant S_ .f32 0xBF000000#32)) (Host.divf (Host.rsqrt M) M)))
    (broadcastInDim S2048x1 ![] bcast_S_S2048x1 (constant S_ .f32 0x44800000#32))) (constant S_ .f32 0x00000000#32) reducesTo_S2048x1_S2048_d1 h_S_

/-- The gradient in the rows. -/
abbrev rDx : FVec Ideal S2048x1024 .f32 :=
  addf (addf (addf dh (mulf (rDg g D) (broadcastInDim S2048x1024 ![0, 1] bcast_S2048x1_S2048x1024_0_1 (Host.rsqrt M))))
    (mulf h (broadcastInDim S2048x1024 ![0] bcast_S2048_S2048x1024_0 T))) (mulf (broadcastInDim S2048x1024 ![0] bcast_S2048_S2048x1024_0 T) h)

/-- The gradient in the scale. -/
abbrev rSc : FVec Ideal S1x1024 .f32 :=
  shapeCast _ (Host.reduceAdd (shapeCast _ (Host.reduceAdd (mulf (mulf h (broadcastInDim S2048x1024 ![0, 1] bcast_S2048x1_S2048x1024_0_1 (Host.rsqrt M))) D)
    (constant S_ .f32 0x00000000#32) reducesTo_S2048x1024_S1024_d0 h_S_) shapeCasts_S1024_S1x1024) (constant S_ .f32 0x00000000#32) reducesTo_S1x1024_S1024_d0 h_S_) shapeCasts_S1024_S1x1024

theorem rMs_at (i : Fin 2048) : rMs h (ix2 i 0) = (show EReal from msq fun k => h (ix2 i k)) := by
  pointwise [msq]

theorem rDy_at (i : Fin 2048) (k : Fin 1024) : rDy wg wu da db (ix2 i k) = (show EReal from dyOf da db wg wu i k) := by
  refine Eq.trans ?_ (add_comm (G := EReal) _ _)
  pointwise

theorem rFac_at (i : Fin 2048) (v : EReal) (e : M (ix2 i 0) = v) : rFac h g D M (ix1 i)
    = (show EReal from Ideal.div ((∑ l : Fin 1024, (show EReal from h (ix2 i l)) * ((show EReal from D (ix2 i l)) * (show EReal from g (ix1 l))))
      * (Ideal.ofBits .f32 0xBF000000#32 * Ideal.div (Ideal.rsqrt v) v)) (Ideal.ofBits .f32 0x44800000#32)) := by
  rw [← e]
  pointwise
  exact Fin.sum_univ_one _

theorem rDx_at (i : Fin 2048) (k : Fin 1024) : rDx h g dh D M T (ix2 i k)
    = (show EReal from (show EReal from dh (ix2 i k)) + (show EReal from D (ix2 i k)) * (show EReal from g (ix1 k)) * Ideal.rsqrt (show EReal from M (ix2 i 0))
      + (show EReal from h (ix2 i k)) * (show EReal from T (ix1 i)) + (show EReal from T (ix1 i)) * (show EReal from h (ix2 i k))) := by
  pointwise

theorem rSc_at (k : Fin 1024) : rSc h D M (ix2 0 k)
    = (show EReal from ∑ i : Fin 2048, (show EReal from h (ix2 i k)) * Ideal.rsqrt (show EReal from M (ix2 i 0)) * (show EReal from D (ix2 i k))) := by
  pointwise
  exact Fin.sum_univ_one _

variable (y : Fin 2048 → Fin 1024 → EReal)

/-- The gradient in the rows is the rule's, whatever reaches the normalized rows. -/
theorem first (e2 : ∀ (i : Fin 2048) (k : Fin 1024), D (ix2 i k) = (show EReal from y i k)) :
    rDx h g dh D (rMs h) (rFac h g D (rMs h)) = dxOf h g y dh := by
  funext i
  obtain ⟨x, z, rfl⟩ : ∃ (x : Fin 2048) (z : Fin 1024), i = ix2 x z := ⟨i 0, i 1, eq_ix2 i⟩
  have e1 := rMs_at h x
  have e3 := rFac_at h g D (rMs h) x _ e1
  refine (rDx_at h g dh D (rMs h) (rFac h g D (rMs h)) x z).trans ?_
  refine Eq.trans ?_ (dxRow_rule (fun k => h (ix2 x k)) (fun k => g (ix1 k)) (y x) (dh (ix2 x z)) z).symm
  rw [e1, e3]
  simp only [e2]
  rfl

/-- The gradient in the scale likewise. -/
theorem third (e2 : ∀ (i : Fin 2048) (k : Fin 1024), D (ix2 i k) = (show EReal from y i k)) : rSc h D (rMs h) = dgOf h y := by
  funext i
  obtain ⟨x, z, rfl⟩ : ∃ (x : Fin 1) (z : Fin 1024), i = ix2 x z := ⟨i 0, i 1, eq_ix2 i⟩
  rw [show x = 0 from Subsingleton.elim _ _]
  refine (rSc_at h D (rMs h) z).trans ?_
  refine Finset.sum_congr rfl fun r _ => ?_
  refine (mul_comm (G := EReal) _ _).trans ?_
  exact congrArg₂ (fun a b : EReal => a * b) (e2 r z) (congrArg (fun v : EReal => (show EReal from h (ix2 r z)) * Ideal.rsqrt v) (rMs_at h r))

end Cert.DxReferenceIdeal.Value

end
-- ==== Proof.DxClaim.lean ====
module

public import proofs.«01_k».proof.Defs
public import proofs.«01_k».proof.Proof.Gen.DxKernel
public import proofs.«01_k».proof.Proof.Gen.DxKernel.Frame
public import proofs.«01_k».proof.Proof.Gen.DxKernelIdeal.Value
public import proofs.«01_k».proof.Proof.DxValue
public import Idealize.ShloMosaic.Adequacy
public import Idealize.ShloMosaic.Lib.Claim

/-! The claims about the gradient through the normalization in front of the feed-forward block. -/

@[expose] public section

noncomputable section

namespace Cert.Proof

open Idealize.ShloMosaic Idealize.ShloMosaic.TcCoe Idealize.ShloMosaic.Tactic Idealize.SL.Sem
open Cert.Ffn

/-- The reference leaves its arguments and the counters as they were. -/
theorem dx_reference_frame : Cert.quiescent_DxReferenceIdeal (hDxReferenceIdeal := Cert.DxReferenceIdeal.Gen.facts) := fun m g _ =>
  (θ_run (Cert.DxReferenceIdeal.defs (F := Ideal)) _ _).mono
    (fun r h => ⟨fun c => (h c).2.2.2, sem_eq_zero_of_no_sems (by decide) r.2⟩) (Cert.DxReferenceIdeal.Value.run m g)

/-- The gradient that reaches the normalized rows, of the kernel's arguments. -/
abbrev dyArgs (m : (l : Loc Cert.DxKernelIdeal.nD Cert.DxKernelIdeal.τ Cert.DxKernelIdeal.sig) → Buf (Elt Ideal) l) (c : Dev Cert.DxKernelIdeal.nD) : Fin 2048 → Fin 1024 → EReal :=
  dyOf (m ((c.tc : Thread Cert.DxKernelIdeal.nD Cert.DxKernelIdeal.τ).loc Cert.DxKernelIdeal.main_arg4)) (m ((c.tc : Thread Cert.DxKernelIdeal.nD Cert.DxKernelIdeal.τ).loc Cert.DxKernelIdeal.main_arg5)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3))

/-- The gradient in the rows, of the kernel's arguments. -/
abbrev dxArgs (m : (l : Loc Cert.DxKernelIdeal.nD Cert.DxKernelIdeal.τ Cert.DxKernelIdeal.sig) → Buf (Elt Ideal) l) (c : Dev Cert.DxKernelIdeal.nD) : FVec Ideal ⟨2, ![2048, 1024]⟩ .f32 :=
  dxOf (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (dyArgs m c) (m ((c.tc : Thread Cert.DxKernelIdeal.nD Cert.DxKernelIdeal.τ).loc Cert.DxKernelIdeal.main_arg6))

/-- Kernel and reference end with the same gradients. -/
theorem dx_algebraic : Cert.algebraic_DxKernelIdeal_DxReferenceIdeal (hDxKernelIdeal := Cert.DxKernelIdeal.Gen.facts)
    (hDxReferenceIdeal := Cert.DxReferenceIdeal.Gen.facts) := by
  intro m g m' g' _ hagree
  refine ⟨fun c => dxArgs m c, fun c => (show FVec Ideal ⟨2, ![2048, 1024]⟩ .bf16 from dxArgs m c), fun c => dgOf (m ((c.tc : Thread Cert.DxKernelIdeal.nD Cert.DxKernelIdeal.τ).loc Cert.DxKernelIdeal.main_arg0)) (dyArgs m c), ?_, ?_⟩
  · refine (θ_run (Cert.DxKernelIdeal.defs (F := Ideal)) _ _).mono (fun r h c => ?_) (Cert.DxKernelIdeal.Value.run_blocks m g)
    obtain ⟨h0, h1, h2, hr⟩ := h c
    exact ⟨h0.trans (Cert.DxKernelIdeal.Gen.arr_7 m c), h1.trans (Cert.DxKernelIdeal.Gen.arr_8 m c), h2.trans (Cert.DxKernelIdeal.Gen.arr_9 m c), hr⟩
  · refine (θ_run (Cert.DxReferenceIdeal.defs (F := Ideal)) _ _).mono (fun r h c => ?_) (Cert.DxReferenceIdeal.Value.run m' g')
    obtain ⟨h0, h1, h2, hr⟩ := h c
    obtain ⟨e0, e1, e2, e3, e4, e5, e6⟩ := hagree c
    have e := Cert.DxReferenceIdeal.Value.rDy_at (m' ((c.tc : Thread Cert.DxReferenceIdeal.nD Cert.DxReferenceIdeal.τ).loc Cert.DxReferenceIdeal.main_arg2)) (m' ((c.tc : Thread Cert.DxReferenceIdeal.nD Cert.DxReferenceIdeal.τ).loc Cert.DxReferenceIdeal.main_arg3)) (m' ((c.tc : Thread Cert.DxReferenceIdeal.nD Cert.DxReferenceIdeal.τ).loc Cert.DxReferenceIdeal.main_arg4)) (m' ((c.tc : Thread Cert.DxReferenceIdeal.nD Cert.DxReferenceIdeal.τ).loc Cert.DxReferenceIdeal.main_arg5))
    have f1 := Cert.DxReferenceIdeal.Value.first (m' ((c.tc : Thread Cert.DxReferenceIdeal.nD Cert.DxReferenceIdeal.τ).loc Cert.DxReferenceIdeal.main_arg0)) (m' ((c.tc : Thread Cert.DxReferenceIdeal.nD Cert.DxReferenceIdeal.τ).loc Cert.DxReferenceIdeal.main_arg1)) (m' ((c.tc : Thread Cert.DxReferenceIdeal.nD Cert.DxReferenceIdeal.τ).loc Cert.DxReferenceIdeal.main_arg6)) _ _ e
    have f3 := Cert.DxReferenceIdeal.Value.third (m' ((c.tc : Thread Cert.DxReferenceIdeal.nD Cert.DxReferenceIdeal.τ).loc Cert.DxReferenceIdeal.main_arg0)) _ _ e
    rw [e0, e1, e2, e3, e4, e5, e6] at f1
    rw [e0, e2, e3, e4, e5] at f3
    rw [Cert.DxReferenceIdeal.Value.res_main_v41, e0, e1, e2, e3, e4, e5, e6] at h0
    rw [Cert.DxReferenceIdeal.Value.res_main_v42, e0, e1, e2, e3, e4, e5, e6] at h1
    rw [e0, e2, e3, e4, e5] at h2
    exact ⟨h0.trans f1, h1.trans f1, h2.trans f3, hr⟩

end Cert.Proof

end
-- ==== Proof.UpClaim.lean ====
module

public import proofs.«01_k».proof.Defs
public import proofs.«01_k».proof.Proof.Gen.UpKernel
public import proofs.«01_k».proof.Proof.Gen.UpKernel.Frame
public import proofs.«01_k».proof.Proof.Gen.UpKernelIdeal.Value
public import proofs.«01_k».proof.Proof.Gen.UpReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The gates of the feed-forward block and its activation. -/

@[expose] public section

noncomputable section

namespace Cert.UpKernelIdeal.Gen

open Idealize.ShloMosaic Idealize.ShloMosaic.TcCoe Idealize.ShloMosaic.Tactic
open Cert.Ffn Finset

set_option maxRecDepth 16384

theorem pay4_at (x : Vec Ideal S512x1024 .bf16) (y : Vec Ideal S1x704x1024 .bf16) (i : Fin 512) (j : Fin 704) :
    k0_pay4 x y (ix3 0 i j) = (show EReal from ∑ k : Fin 1024, (show EReal from x (ix2 i k)) * (show EReal from y (ix3 0 j k))) := by
  pointwise [k0_pay4, k0_pay2, k0_pay1]

theorem pay5_at (x : Vec Ideal S512x1024 .bf16) (y : Vec Ideal S1x704x1024 .bf16) (i : Fin 512) (j : Fin 704) :
    k0_pay5 x y (ix3 0 i j) = (show EReal from ∑ k : Fin 1024, (show EReal from x (ix2 i k)) * (show EReal from y (ix3 0 j k))) := by
  pointwise [k0_pay5, k0_pay3, k0_pay1]

theorem pay6_at (x : Vec Ideal S512x1024 .bf16) (y z : Vec Ideal S1x704x1024 .bf16) (i : Fin 512) (j : Fin 704) :
    k0_pay6 x y z (ix3 0 i j) = (show EReal from swiglu (∑ k : Fin 1024, (show EReal from x (ix2 i k)) * (show EReal from y (ix3 0 j k)))
      (∑ k : Fin 1024, (show EReal from x (ix2 i k)) * (show EReal from z (ix3 0 j k)))) := by
  pointwise [k0_pay6, k0_pay3, k0_pay2, k0_pay1, swiglu, sgm]
  generalize (∑ k : Fin 1024, (show EReal from x (ix2 i k)) * (show EReal from y (ix3 0 j k))) = a
  rw [show (0 : EReal) - a = -a from zero_sub (G := EReal) _]

theorem idx_all : ∀ t : Fin cfg0.N, win0_0.index t = ![t.val % 4, 0] ∧ win0_1.index t = ![t.val / 4, 0, 0] ∧ win0_2.index t = ![t.val / 4, 0, 0]
    ∧ win0_3.index t = ![t.val / 4, t.val % 4, 0] ∧ win0_4.index t = ![t.val / 4, t.val % 4, 0] ∧ win0_5.index t = ![t.val / 4, t.val % 4, 0] := by decide +kernel

variable (m : (l : Loc nD τ sig) → Buf (Elt Ideal) l) (c : Dev nD)

/-- The arguments. -/
abbrev A0 : FVec Ideal S2048x1024 .f32 := m (c, Proc.devRef .tc main_arg0)

abbrev A1 : FVec Ideal S1024x2816 .f32 := m (c, Proc.devRef .tc main_arg1)

abbrev A2 : FVec Ideal S1024x2816 .f32 := m (c, Proc.devRef .tc main_arg2)

theorem R_u (i : Fin 2048) (k : Fin 1024) : V m c main_v0 (ix2 i k) = A0 m c (ix2 i k) := by
  unfold V
  after_reads_at
  all_goals rfl

theorem R_g (s : Fin 4) (j : Fin 704) (k : Fin 1024) : V m c main_v3 (ix3 s j k) = A1 m c (ix2 k (col s j)) := by
  unfold V
  after_reads_at
  rfl

theorem R_w (s : Fin 4) (j : Fin 704) (k : Fin 1024) : V m c main_v6 (ix3 s j k) = A2 m c (ix2 k (col s j)) := by
  unfold V
  after_reads_at
  rfl

section
variable (t : Fin cfg0.N)

theorem t_div : t.val / 4 < 4 := by
  have : t.val < 16 := t.isLt
  omega

theorem t_mod : t.val % 4 < 4 := Nat.mod_lt _ (by decide)

theorem B_u (i : Fin 512) (k : Fin 1024) : iblk m c 0 t (ix2 i k) = V m c main_v0 (ix2 (rowOf (t.val % 4) (t_mod t) i) k) := by
  unfold iblk
  blk_ext [(idx_all t).1]
  all_goals rfl

theorem B_g (j : Fin 704) (k : Fin 1024) : iblk m c 1 t (ix3 0 j k) = V m c main_v3 (ix3 ⟨t.val / 4, t_div t⟩ j k) := by
  unfold iblk
  blk_ext [(idx_all t).2.1]

theorem B_w (j : Fin 704) (k : Fin 1024) : iblk m c 2 t (ix3 0 j k) = V m c main_v6 (ix3 ⟨t.val / 4, t_div t⟩ j k) := by
  unfold iblk
  blk_ext [(idx_all t).2.2.1]

/-- The products of one grid point. -/
theorem dot_g (i : Fin 512) (j : Fin 704) :
    (∑ k : Fin 1024, (show EReal from iblk m c 0 t (ix2 i k)) * (show EReal from iblk m c 1 t (ix3 0 j k)))
      = mm (A0 m c) (A1 m c) (rowOf (t.val % 4) (t_mod t) i) (col ⟨t.val / 4, t_div t⟩ j) :=
  sum_mul_congr (fun k => (B_u m c t i k).trans (R_u m c _ k)) fun k => (B_g m c t j k).trans (R_g m c _ j k)

theorem dot_w (i : Fin 512) (j : Fin 704) :
    (∑ k : Fin 1024, (show EReal from iblk m c 0 t (ix2 i k)) * (show EReal from iblk m c 2 t (ix3 0 j k)))
      = mm (A0 m c) (A2 m c) (rowOf (t.val % 4) (t_mod t) i) (col ⟨t.val / 4, t_div t⟩ j) :=
  sum_mul_congr (fun k => (B_u m c t i k).trans (R_u m c _ k)) fun k => (B_w m c t j k).trans (R_w m c _ j k)

end

theorem arr_3 : (dats m 0 c).arrAt 3 cfg0.N = upOf (A0 m c) (A1 m c) := by
  refine (dats m 0 c).arrAt_eq_of_covers 3 _ (by decide +kernel) fun t hf y => ?_
  obtain ⟨a, x, z, rfl⟩ : ∃ (a : Fin 1) (x : Fin 512) (z : Fin 704), y = ix3 a x z := ⟨y 0, y 1, y 2, eq_ix3 y⟩
  rw [show a = 0 from Subsingleton.elim _ _]
  rw [after0_3]
  frame_out
  refine ((pay4_at (iblk m c 0 t) (iblk m c 1 t) x z).trans (dot_g m c t x z)).trans ?_
  refine congrArg (upOf (A0 m c) (A1 m c)) (?_ : ix3 ⟨t.val / 4, t_div t⟩ (rowOf (t.val % 4) (t_mod t) x) z = _)
  funext a
  fin_cases a <;> refine Fin.ext ?_ <;> blk_simp [(idx_all t).2.2.2.1] <;> rfl

theorem arr_4 : (dats m 0 c).arrAt 4 cfg0.N = upOf (A0 m c) (A2 m c) := by
  refine (dats m 0 c).arrAt_eq_of_covers 4 _ (by decide +kernel) fun t hf y => ?_
  obtain ⟨a, x, z, rfl⟩ : ∃ (a : Fin 1) (x : Fin 512) (z : Fin 704), y = ix3 a x z := ⟨y 0, y 1, y 2, eq_ix3 y⟩
  rw [show a = 0 from Subsingleton.elim _ _]
  rw [after0_4]
  frame_out
  refine ((pay5_at (iblk m c 0 t) (iblk m c 2 t) x z).trans (dot_w m c t x z)).trans ?_
  refine congrArg (upOf (A0 m c) (A2 m c)) (?_ : ix3 ⟨t.val / 4, t_div t⟩ (rowOf (t.val % 4) (t_mod t) x) z = _)
  funext a
  fin_cases a <;> refine Fin.ext ?_ <;> blk_simp [(idx_all t).2.2.2.2.1] <;> rfl

theorem arr_5 : (dats m 0 c).arrAt 5 cfg0.N = actOf (A0 m c) (A1 m c) (A2 m c) := by
  refine (dats m 0 c).arrAt_eq_of_covers 5 _ (by decide +kernel) fun t hf y => ?_
  obtain ⟨a, x, z, rfl⟩ : ∃ (a : Fin 1) (x : Fin 512) (z : Fin 704), y = ix3 a x z := ⟨y 0, y 1, y 2, eq_ix3 y⟩
  rw [show a = 0 from Subsingleton.elim _ _]
  rw [after0_5]
  frame_out
  refine ((pay6_at (iblk m c 0 t) (iblk m c 1 t) (iblk m c 2 t) x z).trans (congrArg₂ swiglu (dot_g m c t x z) (dot_w m c t x z))).trans ?_
  refine congrArg (actOf (A0 m c) (A1 m c) (A2 m c)) (?_ : ix3 ⟨t.val / 4, t_div t⟩ (rowOf (t.val % 4) (t_mod t) x) z = _)
  funext a
  fin_cases a <;> refine Fin.ext ?_ <;> blk_simp [(idx_all t).2.2.2.2.2] <;> rfl

end Cert.UpKernelIdeal.Gen

namespace Cert.UpReferenceIdeal.Value

open Cert.UpReferenceIdeal Cert.UpReferenceIdeal.Gen Idealize.ShloMosaic Idealize.ShloMosaic.TcCoe Idealize.ShloMosaic.Tactic
open Cert.Ffn Finset

set_option maxRecDepth 16384

variable (u : FVec Ideal S2048x1024 .f32) (wg wu : FVec Ideal S1024x2816 .f32)

/-- A gate's product, as the reference computes it. -/
abbrev rMm : FVec Ideal S2048x2816 .f32 := Host.dotGeneral dot_S2048x1024_S1024x2816_S2048x2816_1_0_0_1_n_n none u wg

theorem rMm_at (i : Fin 2048) (j : Fin 2816) : rMm u wg (ix2 i j) = (show EReal from mm u wg i j) := by
  pointwise [mm]

/-- The reference's first two results. -/
theorem gate : transpose S4x2048x704 [1, 0, 2] (shapeCast S2048x4x704 (truncf .bf16 (rMm u wg) bitsLt_bf16_f32) shapeCasts_S2048x2816_S2048x4x704) transposes_S2048x4x704_S4x2048x704_1_0_2
    = upOf u wg := by
  funext i
  obtain ⟨s, x, z, rfl⟩ : ∃ (s : Fin 4) (x : Fin 2048) (z : Fin 704), i = ix3 s x z := ⟨i 0, i 1, i 2, eq_ix3 i⟩
  refine Eq.trans ?_ (rMm_at u wg x (col s z))
  generalize rMm u wg = D
  pointwise
  rfl

theorem act_at (A B : FVec Ideal S2048x2816 .f32) (s : Fin 4) (x : Fin 2048) (z : Fin 704) :
    transpose S4x2048x704 [1, 0, 2] (shapeCast S2048x4x704 (truncf .bf16 (mulf (mulf A (Host.divf (broadcastInDim S2048x2816 ![] bcast_S_S2048x2816 (constant S_ .f32 0x3F800000#32))
      (addf (broadcastInDim S2048x2816 ![] bcast_S_S2048x2816 (constant S_ .f32 0x3F800000#32)) (Host.exp (Host.negf A))))) B) bitsLt_bf16_f32) shapeCasts_S2048x2816_S2048x4x704)
      transposes_S2048x4x704_S4x2048x704_1_0_2 (ix3 s x z) = (show EReal from swiglu (A (ix2 x (col s z))) (B (ix2 x (col s z)))) := by
  pointwise [swiglu, sgm]
  rfl

/-- The reference's third result. -/
theorem act : transpose S4x2048x704 [1, 0, 2] (shapeCast S2048x4x704 (truncf .bf16 (mulf (mulf (rMm u wg) (Host.divf (broadcastInDim S2048x2816 ![] bcast_S_S2048x2816 (constant S_ .f32 0x3F800000#32))
      (addf (broadcastInDim S2048x2816 ![] bcast_S_S2048x2816 (constant S_ .f32 0x3F800000#32)) (Host.exp (Host.negf (rMm u wg)))))) (rMm u wu)) bitsLt_bf16_f32) shapeCasts_S2048x2816_S2048x4x704)
      transposes_S2048x4x704_S4x2048x704_1_0_2 = actOf u wg wu := by
  funext i
  obtain ⟨s, x, z, rfl⟩ : ∃ (s : Fin 4) (x : Fin 2048) (z : Fin 704), i = ix3 s x z := ⟨i 0, i 1, i 2, eq_ix3 i⟩
  exact (act_at (rMm u wg) (rMm u wu) s x z).trans (congrArg₂ swiglu (rMm_at u wg x (col s z)) (rMm_at u wu x (col s z)))

end Cert.UpReferenceIdeal.Value

namespace Cert.Proof

open Idealize.ShloMosaic Idealize.ShloMosaic.TcCoe Idealize.ShloMosaic.Tactic Idealize.SL.Sem
open Cert.Ffn Cert.UpKernelIdeal.Gen

/-- The reference leaves its arguments and the counters as they were. -/
theorem up_reference_frame : Cert.quiescent_UpReferenceIdeal (hUpReferenceIdeal := Cert.UpReferenceIdeal.Gen.facts) := fun m g _ =>
  (θ_run (Cert.UpReferenceIdeal.defs (F := Ideal)) _ _).mono
    (fun r h => ⟨fun c => (h c).2.2.2, sem_eq_zero_of_no_sems (by decide) r.2⟩) (Cert.UpReferenceIdeal.Value.run m g)

/-- Kernel and reference end with the same arrays. -/
theorem up_algebraic : Cert.algebraic_UpKernelIdeal_UpReferenceIdeal (hUpKernelIdeal := Cert.UpKernelIdeal.Gen.facts)
    (hUpReferenceIdeal := Cert.UpReferenceIdeal.Gen.facts) := by
  intro m g m' g' _ hagree
  refine ⟨fun c => upOf (A0 m c) (A1 m c),
    fun c => upOf (A0 m c) (A2 m c),
    fun c => actOf (A0 m c) (A1 m c) (A2 m c), ?_, ?_⟩
  · refine (θ_run (Cert.UpKernelIdeal.defs (F := Ideal)) _ _).mono (fun r h c => ?_) (Cert.UpKernelIdeal.Value.run_blocks m g)
    obtain ⟨h0, h1, h2, hr⟩ := h c
    exact ⟨h0.trans (arr_3 m c), h1.trans (arr_4 m c), h2.trans (arr_5 m c), hr⟩
  · refine (θ_run (Cert.UpReferenceIdeal.defs (F := Ideal)) _ _).mono (fun r h c => ?_) (Cert.UpReferenceIdeal.Value.run m' g')
    obtain ⟨h0, h1, h2, hr⟩ := h c
    obtain ⟨e0, e1, e2⟩ := hagree c
    refine ⟨h0.trans ((Cert.UpReferenceIdeal.Value.gate _ _).trans ?_), h1.trans ((Cert.UpReferenceIdeal.Value.gate _ _).trans ?_),
      h2.trans ((Cert.UpReferenceIdeal.Value.act _ _ _).trans ?_), hr⟩
    · rw [e0, e1]
    · rw [e0, e2]
    · rw [e0, e1, e2]

end Cert.Proof

end
-- ==== Proof.DownClaim.lean ====
module

public import proofs.«01_k».proof.Defs
public import proofs.«01_k».proof.Proof.Gen.DownKernel
public import proofs.«01_k».proof.Proof.Gen.DownKernel.Frame
public import proofs.«01_k».proof.Proof.Gen.DownKernelIdeal.Value
public import proofs.«01_k».proof.Proof.Gen.DownReferenceIdeal.Run
public import proofs.«01_k».proof.Proof.LayerLoad
public import Idealize.ShloMosaic.Lib.Pipeline.ValueKit
public import Idealize.ShloMosaic.Lib.StableHlo.ReadAt
public import Idealize.ShloMosaic.Adequacy
public import Idealize.ShloMosaic.Lib.Claim

/-! The feed-forward block's last product, added to the rows, and the rows normalized. -/

@[expose] public section

noncomputable section

namespace Cert.DownKernelIdeal.Gen

open Idealize.ShloMosaic Idealize.ShloMosaic.TcCoe Idealize.ShloMosaic.Tactic
open Cert.Ffn Finset

set_option maxRecDepth 16384

theorem pay2_at (a0 a1 a2 a3 : Vec Ideal S1x512x704 .bf16) (p0 p1 p2 p3 : Vec Ideal S1x704x1024 .bf16) (h : Vec Ideal S512x1024 .f32) (i : Fin 512) (k : Fin 1024) :
    k0_pay2 a0 p0 a1 p1 a2 p2 a3 p3 h (ix2 i k) = (show EReal from (show EReal from h (ix2 i k)) + Ideal.ofBits .f32 0x3F000000#32
      * ((∑ j : Fin 704, (show EReal from a0 (ix3 0 i j)) * (show EReal from p0 (ix3 0 j k))) + (∑ j : Fin 704, (show EReal from a1 (ix3 0 i j)) * (show EReal from p1 (ix3 0 j k)))
        + (∑ j : Fin 704, (show EReal from a2 (ix3 0 i j)) * (show EReal from p2 (ix3 0 j k))) + (∑ j : Fin 704, (show EReal from a3 (ix3 0 i j)) * (show EReal from p3 (ix3 0 j k))))) := by
  pointwise [k0_pay2]

theorem pay1_at (r : Vec Ideal S512x1024 .f32) (g : Vec Ideal S1x1024 .f32) (i : Fin 512) (k : Fin 1024) :
    k0_pay1 r g (ix2 i k) = (show EReal from normRow (fun k => r (ix2 i k)) (fun k => g (ix2 0 k)) k) := by
  pointwise [k0_pay1, normRow, msq]

theorem idx_all : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] := by decide +kernel

variable (m : (l : Loc nD τ sig) → Buf (Elt Ideal) l) (c : Dev nD)

/-- The arguments. -/
abbrev A0 : FVec Ideal S2048x2816 .f32 := m (c, Proc.devRef .tc main_arg0)

abbrev A1 : FVec Ideal S2816x1024 .f32 := m (c, Proc.devRef .tc main_arg1)

abbrev A2 : FVec Ideal S2048x1024 .f32 := m (c, Proc.devRef .tc main_arg2)

abbrev A3 : FVec Ideal S1024 .f32 := m (c, Proc.devRef .tc main_arg3)

theorem R_s (s : Fin 4) (i : Fin 2048) (j : Fin 704) : V m c main_v2 (ix3 s i j) = A0 m c (ix2 i (col s j)) := by
  unfold V
  after_reads_at
  rfl

theorem R_w (s : Fin 4) (j : Fin 704) (k : Fin 1024) : V m c main_v4 (ix3 s j k) = A1 m c (ix2 (col s j) k) := by
  unfold V
  after_reads_at
  rfl

theorem R_g (k : Fin 1024) : V m c main_v5 (ix2 0 k) = A3 m c (ix1 k) := by
  unfold V
  after_reads_at
  all_goals rfl

section
variable (t : Fin cfg0.N)

theorem t_lt : t.val < 4 := t.isLt

theorem B_s (s : Fin 4) (i : Fin 512) (j : Fin 704) : iblk m c 0 t (ix3 s i j) = V m c main_v2 (ix3 s (rowOf t.val (t_lt t) i) j) := by
  unfold iblk
  blk_ext [(idx_all t).1]
  all_goals rfl

theorem B_w (s : Fin 4) (j : Fin 704) (k : Fin 1024) : iblk m c 1 t (ix3 s j k) = V m c main_v4 (ix3 s j k) := by
  unfold iblk
  blk_ext [(idx_all t).2.1]

theorem B_h (i : Fin 512) (k : Fin 1024) : iblk m c 2 t (ix2 i k) = A2 m c (ix2 (rowOf t.val (t_lt t) i) k) := by
  unfold iblk
  blk_ext [(idx_all t).2.2.1]
  all_goals rfl

theorem B_g (k : Fin 1024) : iblk m c 3 t (ix2 0 k) = V m c main_v5 (ix2 0 k) := by
  unfold iblk
  blk_ext [(idx_all t).2.2.2.1]

/-- The product of one part. -/
theorem dot_part (s : Fin 4) (h : ∀ a, (![s.val, 0, 0] : Fin 3 → Nat) a + S1x512x704.size a ≤ S4x512x704.size a)
    (h' : ∀ a, (![s.val, 0, 0] : Fin 3 → Nat) a + S1x704x1024.size a ≤ S4x704x1024.size a) (i : Fin 512) (k : Fin 1024) :
    (∑ j : Fin 704, (show EReal from View.ld (iblk m c 0 t) (Rect.unit (s := S4x512x704) ![s.val, 0, 0] S1x512x704.size h) (ix3 0 i j))
        * (show EReal from View.ld (iblk m c 1 t) (Rect.unit (s := S4x704x1024) ![s.val, 0, 0] S1x704x1024.size h') (ix3 0 j k)))
      = ∑ j : Fin 704, (show EReal from A0 m c (ix2 (rowOf t.val (t_lt t) i) (col s j))) * (show EReal from A1 m c (ix2 (col s j) k)) :=
  sum_mul_congr (fun j => ((ld_part (iblk m c 0 t) s h i j).trans (B_s m c t s i j)).trans (R_s m c s _ j))
    fun j => ((ld_part (iblk m c 1 t) s h' j k).trans (B_w m c t s j k)).trans (R_w m c s j k)

/-- The rows of one grid point. -/
theorem rows_at (i : Fin 512) (k : Fin 1024) : k0_pay3 (iblk m c 0 t) (iblk m c 1 t) (iblk m c 2 t) (iblk m c 3 t) (ix2 i k)
    = (show EReal from addRow (Ideal.ofBits .f32 0x3F000000#32) (A0 m c) (A1 m c) (A2 m c) (rowOf t.val (t_lt t) i) k) := by
  refine (pay2_at _ _ _ _ _ _ _ _ _ i k).trans ?_
  refine congrArg₂ (fun a b : EReal => a + Ideal.ofBits .f32 0x3F000000#32 * b) ((ld_whole (iblk m c 2 t) inb_S512x1024_S512x1024_0_0 i k).trans (B_h m c t i k)) ?_
  rw [mm, sum_col, Fin.sum_univ_four]
  exact congrArg₂ (fun a b : EReal => a + b) (congrArg₂ (fun a b : EReal => a + b) (congrArg₂ (fun a b : EReal => a + b)
    (dot_part m c t 0 inb_S4x512x704_S1x512x704_0_0_0 inb_S4x704x1024_S1x704x1024_0_0_0 i k)
    (dot_part m c t 1 inb_S4x512x704_S1x512x704_1_0_0 inb_S4x704x1024_S1x704x1024_1_0_0 i k))
    (dot_part m c t 2 inb_S4x512x704_S1x512x704_2_0_0 inb_S4x704x1024_S1x704x1024_2_0_0 i k))
    (dot_part m c t 3 inb_S4x512x704_S1x512x704_3_0_0 inb_S4x704x1024_S1x704x1024_3_0_0 i k)

/-- The normalized rows of one grid point. -/
theorem norm_at (i : Fin 512) (k : Fin 1024) : k0_pay1 (k0_pay3 (iblk m c 0 t) (iblk m c 1 t) (iblk m c 2 t) (iblk m c 3 t)) (iblk m c 3 t) (ix2 i k)
    = (show EReal from normRow (addRow (Ideal.ofBits .f32 0x3F000000#32) (A0 m c) (A1 m c) (A2 m c) (rowOf t.val (t_lt t) i))
      (fun k => A3 m c (ix1 k)) k) :=
  (pay1_at _ (iblk m c 3 t) i k).trans (congrArg₂ (fun x g => normRow x g k) (funext fun k => rows_at m c t i k) (funext fun k => (B_g m c t k).trans (R_g m c k)))

end

theorem arr_4 : (dats m 0 c).arrAt 4 cfg0.N = addOf (Ideal.ofBits .f32 0x3F000000#32) (A0 m c) (A1 m c) (A2 m c) := by
  refine (dats m 0 c).arrAt_eq_of_covers 4 _ (by decide +kernel) fun t hf y => ?_
  obtain ⟨x, z, rfl⟩ : ∃ (x : Fin 512) (z : Fin 1024), y = ix2 x z := ⟨y 0, y 1, eq_ix2 y⟩
  rw [after0_4]
  frame_out
  refine (rows_at m c t x z).trans ?_
  refine congrArg (addOf (Ideal.ofBits .f32 0x3F000000#32) (A0 m c) (A1 m c) (A2 m c)) (?_ : ix2 (rowOf t.val (t_lt t) x) z = _)
  funext a
  fin_cases a <;> refine Fin.ext ?_ <;> blk_simp [(idx_all t).2.2.2.2.1] <;> rfl

theorem arr_5 : (dats m 0 c).arrAt 5 cfg0.N = normOf (Ideal.ofBits .f32 0x3F000000#32) (A0 m c) (A1 m c) (A2 m c) (A3 m c) := by
  refine (dats m 0 c).arrAt_eq_of_covers 5 _ (by decide +kernel) fun t hf y => ?_
  obtain ⟨x, z, rfl⟩ : ∃ (x : Fin 512) (z : Fin 1024), y = ix2 x z := ⟨y 0, y 1, eq_ix2 y⟩
  rw [after0_5]
  frame_out
  refine (norm_at m c t x z).trans ?_
  refine congrArg (normOf (Ideal.ofBits .f32 0x3F000000#32) (A0 m c) (A1 m c) (A2 m c) (A3 m c)) (?_ : ix2 (rowOf t.val (t_lt t) x) z = _)
  funext a
  fin_cases a <;> refine Fin.ext ?_ <;> blk_simp [(idx_all t).2.2.2.2.2] <;> rfl

end Cert.DownKernelIdeal.Gen

namespace Cert.DownReferenceIdeal.Value

open Cert.DownReferenceIdeal Cert.DownReferenceIdeal.Gen Idealize.ShloMosaic Idealize.ShloMosaic.TcCoe Idealize.ShloMosaic.Tactic
open Cert.Ffn Finset

set_option maxRecDepth 16384

variable (s : FVec Ideal S2048x2816 .f32) (w : FVec Ideal S2816x1024 .f32) (h H : FVec Ideal S2048x1024 .f32) (g : FVec Ideal S1024 .f32)

/-- The rows after the product is added, as the reference computes them. -/
abbrev rAdd : FVec Ideal S2048x1024 .f32 :=
  addf h (mulf (broadcastInDim S2048x1024 ![] bcast_S_S2048x1024 (constant S_ .f32 0x3F000000#32)) (Host.dotGeneral dot_S2048x2816_S2816x1024_S2048x1024_1_0_0_1_n_n none s w))

/-- The normalized rows, as the reference computes them. -/
abbrev rNorm : FVec Ideal S2048x1024 .bf16 :=
  truncf .bf16 (mulf (mulf H (broadcastInDim S2048x1024 ![0, 1] bcast_S2048x1_S2048x1024_0_1 (Host.rsqrt (addf (Host.divf (broadcastInDim S2048x1 ![0] bcast_S2048_S2048x1_0 (Host.reduceAdd (mulf H H) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))) bitsLt_bf16_f32

theorem rAdd_at (i : Fin 2048) (k : Fin 1024) : rAdd s w h (ix2 i k) = (show EReal from addRow (Ideal.ofBits .f32 0x3F000000#32) s w h i k) := by
  pointwise [addRow, mm]

theorem rNorm_at (i : Fin 2048) (k : Fin 1024) : rNorm H g (ix2 i k) = (show EReal from normRow (fun k => H (ix2 i k)) (fun k => g (ix1 k)) k) := by
  pointwise [normRow, msq]

/-- The reference's first result. -/
theorem res : rAdd s w h = addOf (Ideal.ofBits .f32 0x3F000000#32) s w h := by
  funext i
  obtain ⟨x, z, rfl⟩ : ∃ (x : Fin 2048) (z : Fin 1024), i = ix2 x z := ⟨i 0, i 1, eq_ix2 i⟩
  exact rAdd_at s w h x z

/-- The reference's second result. -/
theorem norm : rNorm (rAdd s w h) g = normOf (Ideal.ofBits .f32 0x3F000000#32) s w h g := by
  funext i
  obtain ⟨x, z, rfl⟩ : ∃ (x : Fin 2048) (z : Fin 1024), i = ix2 x z := ⟨i 0, i 1, eq_ix2 i⟩
  exact (rNorm_at (rAdd s w h) g x z).trans (congrArg (fun r => normRow r (fun k => g (ix1 k)) z) (funext fun k => rAdd_at s w h x k))

end Cert.DownReferenceIdeal.Value

namespace Cert.Proof

open Idealize.ShloMosaic Idealize.ShloMosaic.TcCoe Idealize.ShloMosaic.Tactic Idealize.SL.Sem
open Cert.Ffn Cert.DownKernelIdeal.Gen

/-- The reference leaves its arguments and the counters as they were. -/
theorem down_reference_frame : Cert.quiescent_DownReferenceIdeal (hDownReferenceIdeal := Cert.DownReferenceIdeal.Gen.facts) := fun m g _ =>
  (θ_run (Cert.DownReferenceIdeal.defs (F := Ideal)) _ _).mono
    (fun r h => ⟨fun c => (h c).2.2, sem_eq_zero_of_no_sems (by decide) r.2⟩) (Cert.DownReferenceIdeal.Value.run m g)

/-- Kernel and reference end with the same arrays. -/
theorem down_algebraic : Cert.algebraic_DownKernelIdeal_DownReferenceIdeal (hDownKernelIdeal := Cert.DownKernelIdeal.Gen.facts)
    (hDownReferenceIdeal := Cert.DownReferenceIdeal.Gen.facts) := by
  intro m g m' g' _ hagree
  refine ⟨fun c => addOf (Ideal.ofBits .f32 0x3F000000#32) (A0 m c) (A1 m c) (A2 m c),
    fun c => normOf (Ideal.ofBits .f32 0x3F000000#32) (A0 m c) (A1 m c) (A2 m c) (A3 m c), ?_, ?_⟩
  · refine (θ_run (Cert.DownKernelIdeal.defs (F := Ideal)) _ _).mono (fun r h c => ?_) (Cert.DownKernelIdeal.Value.run_blocks m g)
    obtain ⟨h0, h1, hr⟩ := h c
    exact ⟨h0.trans (arr_4 m c), h1.trans (arr_5 m c), hr⟩
  · refine (θ_run (Cert.DownReferenceIdeal.defs (F := Ideal)) _ _).mono (fun r h c => ?_) (Cert.DownReferenceIdeal.Value.run m' g')
    obtain ⟨h0, h1, hr⟩ := h c
    obtain ⟨e0, e1, e2, e3⟩ := hagree c
    refine ⟨h0.trans ((Cert.DownReferenceIdeal.Value.res _ _ _).trans ?_), h1.trans ((Cert.DownReferenceIdeal.Value.norm _ _ _ _).trans ?_), hr⟩
    · rw [e0, e1, e2]
    · rw [e0, e1, e2, e3]

end Cert.Proof

end
-- ==== Proof.ProjClaim.lean ====
module

public import proofs.«01_k».proof.Defs
public import proofs.«01_k».proof.Proof.Gen.ProjKernel
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The mixer's input projection. -/

@[expose] public section

noncomputable section

namespace Cert.ProjKernelIdeal.Gen

open Idealize.ShloMosaic Idealize.ShloMosaic.TcCoe Idealize.ShloMosaic.Tactic
open Cert.Ffn Finset

set_option maxRecDepth 16384

theorem pay_at (x : Vec Ideal S512x1024 .bf16) (y : Vec Ideal S1x1024x512 .bf16) (i j : Fin 512) :
    k0_pay1 x y (ix3 0 i j) = (show EReal from ∑ k : Fin 1024, (show EReal from x (ix2 i k)) * (show EReal from y (ix3 0 k j))) := by
  pointwise [k0_pay1]

theorem idx_all : ∀ t : Fin cfg0.N, win0_0.index t = ![t.val % 4, 0] ∧ win0_1.index t = ![t.val / 4, 0, 0] ∧ win0_2.index t = ![t.val / 4, t.val % 4, 0] := by decide +kernel

variable (m : (l : Loc nD τ sig) → Buf (Elt Ideal) l) (c : Dev nD)

theorem R_u (i : Fin 2048) (k : Fin 1024) : V m c main_v0 (ix2 i k) = m (c, Proc.devRef .tc main_arg0) (ix2 i k) := by
  unfold V
  after_reads_at
  all_goals rfl

theorem R_w (s : Fin 4) (k : Fin 1024) (j : Fin 512) : V m c main_v3 (ix3 s k j) = m (c, Proc.devRef .tc main_arg1) (ix2 k (col5 s j)) := by
  unfold V
  after_reads_at
  rfl

theorem arr : (dats m 0 c).arrAt 2 cfg0.N = projOf (m (c, Proc.devRef .tc main_arg0)) (m (c, Proc.devRef .tc main_arg1)) := by
  refine (dats m 0 c).arrAt_eq_of_covers 2 _ (by decide +kernel) fun t hf y => ?_
  obtain ⟨a, x, z, rfl⟩ : ∃ (a : Fin 1) (x : Fin 512) (z : Fin 512), y = ix3 a x z := ⟨y 0, y 1, y 2, eq_ix3 y⟩
  rw [show a = 0 from Subsingleton.elim _ _]
  obtain ⟨h0, h1, h2⟩ := idx_all t
  have ht : t.val / 4 < 4 := by
    have : t.val < 16 := t.isLt
    omega
  have hm : t.val % 4 < 4 := Nat.mod_lt _ (by decide)
  have hx (k : Fin 1024) : iblk m c 0 t (ix2 x k) = V m c main_v0 (ix2 (rowOf (t.val % 4) hm x) k) := by
    unfold iblk
    blk_ext [h0]
    all_goals rfl
  have hy (k : Fin 1024) : iblk m c 1 t (ix3 0 k z) = V m c main_v3 (ix3 ⟨t.val / 4, ht⟩ k z) := by
    unfold iblk
    blk_ext [h1]
  rw [after0_2]
  frame_out
  refine ((pay_at (iblk m c 0 t) (iblk m c 1 t) x z).trans (sum_mul_congr (fun k => (hx k).trans (R_u m c _ k)) fun k => (hy k).trans (R_w m c _ k z))).trans ?_
  refine congrArg (projOf (m (c, Proc.devRef .tc main_arg0)) (m (c, Proc.devRef .tc main_arg1))) (?_ : ix3 ⟨t.val / 4, ht⟩ (rowOf (t.val % 4) hm x) z = _)
  funext a
  fin_cases a <;> refine Fin.ext ?_ <;> blk_simp [h2] <;> rfl

end Cert.ProjKernelIdeal.Gen

namespace Cert.ProjReferenceIdeal.Value

open Cert.ProjReferenceIdeal Cert.ProjReferenceIdeal.Gen Idealize.ShloMosaic Idealize.ShloMosaic.TcCoe Idealize.ShloMosaic.Tactic
open Cert.Ffn Finset

/-- The reference's result. -/
theorem res (u : FVec Ideal S2048x1024 .f32) (w : FVec Ideal S1024x2048 .f32) :
    transpose S4x2048x512 [1, 0, 2] (shapeCast S2048x4x512 (Host.dotGeneral dot_S2048x1024_S1024x2048_S2048x2048_1_0_0_1_n_n none u w) shapeCasts_S2048x2048_S2048x4x512)
      transposes_S2048x4x512_S4x2048x512_1_0_2 = projOf u w := by
  have at_ (i j : Fin 2048) : Host.dotGeneral dot_S2048x1024_S1024x2048_S2048x2048_1_0_0_1_n_n none u w (ix2 i j) = (show EReal from mm u w i j) := by
    pointwise [mm]
  funext i
  obtain ⟨s, x, z, rfl⟩ : ∃ (s : Fin 4) (x : Fin 2048) (z : Fin 512), i = ix3 s x z := ⟨i 0, i 1, i 2, eq_ix3 i⟩
  refine Eq.trans ?_ (at_ x (col5 s z))
  generalize Host.dotGeneral dot_S2048x1024_S1024x2048_S2048x2048_1_0_0_1_n_n none u w = D
  pointwise
  rfl

end Cert.ProjReferenceIdeal.Value

namespace Cert.Proof

open Idealize.ShloMosaic Idealize.ShloMosaic.TcCoe Idealize.ShloMosaic.Tactic Idealize.SL.Sem
open Cert.Ffn

/-- The reference leaves its arguments and the counters as they were. -/
theorem proj_reference_frame : Cert.quiescent_ProjReferenceIdeal (hProjReferenceIdeal := Cert.ProjReferenceIdeal.Gen.facts) := fun m g _ =>
  (θ_run (Cert.ProjReferenceIdeal.defs (F := Ideal)) _ _).mono
    (fun r h => ⟨fun c => (h c).2, sem_eq_zero_of_no_sems (by decide) r.2⟩) (Cert.ProjReferenceIdeal.Value.run m g)

/-- Kernel and reference end with the same array. -/
theorem proj_algebraic : Cert.algebraic_ProjKernelIdeal_ProjReferenceIdeal (hProjKernelIdeal := Cert.ProjKernelIdeal.Gen.facts)
    (hProjReferenceIdeal := Cert.ProjReferenceIdeal.Gen.facts) := by
  intro m g m' g' _ hagree
  refine ⟨fun c => projOf (m ((c.tc : Thread _ _).loc Cert.ProjKernelIdeal.main_arg0)) (m ((c.tc : Thread _ _).loc Cert.ProjKernelIdeal.main_arg1)), ?_, ?_⟩
  · exact (θ_run (Cert.ProjKernelIdeal.defs (F := Ideal)) _ _).mono (fun r h c => ⟨(h c).1.trans (Cert.ProjKernelIdeal.Gen.arr m c), (h c).2⟩)
      (Cert.ProjKernelIdeal.Value.run_blocks m g)
  · refine (θ_run (Cert.ProjReferenceIdeal.defs (F := Ideal)) _ _).mono (fun r h c => ?_) (Cert.ProjReferenceIdeal.Value.run m' g')
    refine ⟨(h c).1.trans ((Cert.ProjReferenceIdeal.Value.res _ _).trans ?_), (h c).2⟩
    rw [(hagree c).1, (hagree c).2]

end Cert.Proof

end
-- ==== Proof.OutClaim.lean ====
module

public import proofs.«01_k».proof.Defs
public import proofs.«01_k».proof.Proof.Gen.OutKernel
public import proofs.«01_k».proof.Proof.Gen.OutKernel.Frame
public import proofs.«01_k».proof.Proof.Gen.OutKernelIdeal.Value
public import proofs.«01_k».proof.Proof.Gen.OutReferenceIdeal.Run
public import proofs.«01_k».proof.Proof.LayerLoad
public import Idealize.ShloMosaic.Lib.Pipeline.ValueKit
public import Idealize.ShloMosaic.Lib.StableHlo.ReadAt
public import Idealize.ShloMosaic.Adequacy
public import Idealize.ShloMosaic.Lib.Claim

/-! The mixer's output product, added to the rows, and the rows normalized. -/

@[expose] public section

noncomputable section

namespace Cert.OutKernelIdeal.Gen

open Idealize.ShloMosaic Idealize.ShloMosaic.TcCoe Idealize.ShloMosaic.Tactic
open Cert.Ffn Finset

set_option maxRecDepth 16384

theorem pay1_at (a0 a1 : Vec Ideal S1x512x512 .bf16) (p0 p1 : Vec Ideal S1x512x1024 .bf16) (h : Vec Ideal S512x1024 .f32) (i : Fin 512) (k : Fin 1024) :
    k0_pay1 a0 p0 a1 p1 h (ix2 i k) = (show EReal from (show EReal from h (ix2 i k)) + 1
      * ((∑ j : Fin 512, (show EReal from a0 (ix3 0 i j)) * (show EReal from p0 (ix3 0 j k))) + (∑ j : Fin 512, (show EReal from a1 (ix3 0 i j)) * (show EReal from p1 (ix3 0 j k))))) := by
  pointwise [k0_pay1]

theorem pay2_at (a0 a1 : Vec Ideal S1x512x512 .bf16) (p0 p1 : Vec Ideal S1x512x1024 .bf16) (h : Vec Ideal S512x1024 .f32) (g : Vec Ideal S1x1024 .f32) (i : Fin 512) (k : Fin 1024) :
    k0_pay2 a0 p0 a1 p1 h g (ix2 i k) = (show EReal from normRow (fun k => k0_pay1 a0 p0 a1 p1 h (ix2 i k)) (fun k => g (ix2 0 k)) k) := by
  generalize e : k0_pay1 a0 p0 a1 p1 h = r
  rw [k0_pay2, e]
  pointwise [normRow, msq]

theorem idx_all : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] := by decide +kernel

variable (m : (l : Loc nD τ sig) → Buf (Elt Ideal) l) (c : Dev nD)

/-- The arguments. -/
abbrev A0 : FVec Ideal S2048x1024 .f32 := m (c, Proc.devRef .tc main_arg0)

abbrev A1 : FVec Ideal S1024x1024 .f32 := m (c, Proc.devRef .tc main_arg1)

abbrev A2 : FVec Ideal S2048x1024 .f32 := m (c, Proc.devRef .tc main_arg2)

abbrev A3 : FVec Ideal S1024 .f32 := m (c, Proc.devRef .tc main_arg3)

theorem R_y (s : Fin 2) (i : Fin 2048) (j : Fin 512) : V m c main_v5 (ix3 s i j) = A0 m c (ix2 i (col2 s j)) := by
  unfold V
  after_reads_at
  fin_cases s
  · show StableHlo.upto hostOps0 (fun b => m (c, b)) 4 (Proc.devRef .tc main_v2) (ix3 0 i j) = _
    after_reads_at
    exact congrArg (fun k => A0 m c (ix2 i k)) (Fin.ext (by show j.val = 0 * 512 + j.val; omega))
  · show StableHlo.upto hostOps0 (fun b => m (c, b)) 4 (Proc.devRef .tc main_v3) (ix3 0 i j) = _
    after_reads_at
    rfl

theorem R_w (s : Fin 2) (j : Fin 512) (k : Fin 1024) : V m c main_v7 (ix3 s j k) = A1 m c (ix2 (col2 s j) k) := by
  unfold V
  after_reads_at
  rfl

theorem R_g (k : Fin 1024) : V m c main_v8 (ix2 0 k) = A3 m c (ix1 k) := by
  unfold V
  after_reads_at
  all_goals rfl

section
variable (t : Fin cfg0.N)

theorem t_lt : t.val < 4 := t.isLt

theorem B_y (s : Fin 2) (i : Fin 512) (j : Fin 512) : iblk m c 0 t (ix3 s i j) = V m c main_v5 (ix3 s (rowOf t.val (t_lt t) i) j) := by
  unfold iblk
  blk_ext [(idx_all t).1]
  all_goals rfl

theorem B_w (s : Fin 2) (j : Fin 512) (k : Fin 1024) : iblk m c 1 t (ix3 s j k) = V m c main_v7 (ix3 s j k) := by
  unfold iblk
  blk_ext [(idx_all t).2.1]

theorem B_h (i : Fin 512) (k : Fin 1024) : iblk m c 2 t (ix2 i k) = A2 m c (ix2 (rowOf t.val (t_lt t) i) k) := by
  unfold iblk
  blk_ext [(idx_all t).2.2.1]
  all_goals rfl

theorem B_g (k : Fin 1024) : iblk m c 3 t (ix2 0 k) = V m c main_v8 (ix2 0 k) := by
  unfold iblk
  blk_ext [(idx_all t).2.2.2.1]

/-- The product of one part. -/
theorem dot_part (s : Fin 2) (h : ∀ a, (![s.val, 0, 0] : Fin 3 → Nat) a + S1x512x512.size a ≤ S2x512x512.size a)
    (h' : ∀ a, (![s.val, 0, 0] : Fin 3 → Nat) a + S1x512x1024.size a ≤ S2x512x1024.size a) (i : Fin 512) (k : Fin 1024) :
    (∑ j : Fin 512, (show EReal from View.ld (iblk m c 0 t) (Rect.unit (s := S2x512x512) ![s.val, 0, 0] S1x512x512.size h) (ix3 0 i j))
        * (show EReal from View.ld (iblk m c 1 t) (Rect.unit (s := S2x512x1024) ![s.val, 0, 0] S1x512x1024.size h') (ix3 0 j k)))
      = ∑ j : Fin 512, (show EReal from A0 m c (ix2 (rowOf t.val (t_lt t) i) (col2 s j))) * (show EReal from A1 m c (ix2 (col2 s j) k)) :=
  sum_mul_congr (fun j => ((ld_part (iblk m c 0 t) s h i j).trans (B_y m c t s i j)).trans (R_y m c s _ j))
    fun j => ((ld_part (iblk m c 1 t) s h' j k).trans (B_w m c t s j k)).trans (R_w m c s j k)

/-- The blocks that one grid point loads, and the rows that it computes from them. -/
abbrev rows : Vec Ideal S512x1024 .f32 :=
  k0_pay1 (View.ld (iblk m c 0 t) (Rect.unit (s := S2x512x512) ![0, 0, 0] S1x512x512.size inb_S2x512x512_S1x512x512_0_0_0)) (View.ld (iblk m c 1 t) (Rect.unit (s := S2x512x1024) ![0, 0, 0] S1x512x1024.size inb_S2x512x1024_S1x512x1024_0_0_0))
    (View.ld (iblk m c 0 t) (Rect.unit (s := S2x512x512) ![1, 0, 0] S1x512x512.size inb_S2x512x512_S1x512x512_1_0_0)) (View.ld (iblk m c 1 t) (Rect.unit (s := S2x512x1024) ![1, 0, 0] S1x512x1024.size inb_S2x512x1024_S1x512x1024_1_0_0)) (iblk m c 2 t)

theorem rows_at (i : Fin 512) (k : Fin 1024) : rows m c t (ix2 i k)
    = (show EReal from addRow 1 (A0 m c) (A1 m c) (A2 m c) (rowOf t.val (t_lt t) i) k) := by
  refine (pay1_at _ _ _ _ _ i k).trans ?_
  refine congrArg₂ (fun a b : EReal => a + 1 * b) (B_h m c t i k) ?_
  rw [mm, sum_col2, Fin.sum_univ_two]
  exact congrArg₂ (fun a b : EReal => a + b) (dot_part m c t 0 inb_S2x512x512_S1x512x512_0_0_0 inb_S2x512x1024_S1x512x1024_0_0_0 i k)
    (dot_part m c t 1 inb_S2x512x512_S1x512x512_1_0_0 inb_S2x512x1024_S1x512x1024_1_0_0 i k)

end

theorem arr_4 : (dats m 0 c).arrAt 4 cfg0.N = addOf 1 (A0 m c) (A1 m c) (A2 m c) := by
  refine (dats m 0 c).arrAt_eq_of_covers 4 _ (by decide +kernel) fun t hf y => ?_
  obtain ⟨x, z, rfl⟩ : ∃ (x : Fin 512) (z : Fin 1024), y = ix2 x z := ⟨y 0, y 1, eq_ix2 y⟩
  rw [after0_4]
  frame_out
  refine (rows_at m c t x z).trans ?_
  refine congrArg (addOf 1 (A0 m c) (A1 m c) (A2 m c)) (?_ : ix2 (rowOf t.val (t_lt t) x) z = _)
  funext a
  fin_cases a <;> refine Fin.ext ?_ <;> blk_simp [(idx_all t).2.2.2.2.1] <;> rfl

theorem arr_5 : (dats m 0 c).arrAt 5 cfg0.N = normOf 1 (A0 m c) (A1 m c) (A2 m c) (A3 m c) := by
  refine (dats m 0 c).arrAt_eq_of_covers 5 _ (by decide +kernel) fun t hf y => ?_
  obtain ⟨x, z, rfl⟩ : ∃ (x : Fin 512) (z : Fin 1024), y = ix2 x z := ⟨y 0, y 1, eq_ix2 y⟩
  rw [after0_5]
  frame_out
  refine ((pay2_at _ _ _ _ _ _ x z).trans (congrArg₂ (fun r g => normRow r g z) (funext fun k => rows_at m c t x k) (funext fun k => (B_g m c t k).trans (R_g m c k)))).trans ?_
  refine congrArg (normOf 1 (A0 m c) (A1 m c) (A2 m c) (A3 m c)) (?_ : ix2 (rowOf t.val (t_lt t) x) z = _)
  funext a
  fin_cases a <;> refine Fin.ext ?_ <;> blk_simp [(idx_all t).2.2.2.2.2] <;> rfl

end Cert.OutKernelIdeal.Gen

namespace Cert.OutReferenceIdeal.Value

open Cert.OutReferenceIdeal Cert.OutReferenceIdeal.Gen Idealize.ShloMosaic Idealize.ShloMosaic.TcCoe Idealize.ShloMosaic.Tactic
open Cert.Ffn Finset

set_option maxRecDepth 16384

variable (y : FVec Ideal S2048x1024 .f32) (w : FVec Ideal S1024x1024 .f32) (h H : FVec Ideal S2048x1024 .f32) (g : FVec Ideal S1024 .f32)

/-- The rows after the product is added, as the reference computes them. -/
abbrev rAdd : FVec Ideal S2048x1024 .f32 :=
  addf h (Host.dotGeneral dot_S2048x1024_S1024x1024_S2048x1024_1_0_0_1_n_n none y w)

/-- The normalized rows, as the reference computes them. -/
abbrev rNorm : FVec Ideal S2048x1024 .bf16 :=
  truncf .bf16 (mulf (mulf H (broadcastInDim S2048x1024 ![0, 1] bcast_S2048x1_S2048x1024_0_1 (Host.rsqrt (addf (Host.divf (broadcastInDim S2048x1 ![0] bcast_S2048_S2048x1_0 (Host.reduceAdd (mulf H H) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))) bitsLt_bf16_f32

theorem rAdd_at (i : Fin 2048) (k : Fin 1024) : rAdd y w h (ix2 i k) = (show EReal from addRow 1 y w h i k) := by
  refine Eq.trans ?_ (congrArg (fun v : EReal => (show EReal from h (ix2 i k)) + v) (one_mul (M := EReal) (mm y w i k)).symm)
  pointwise [mm]

theorem rNorm_at (i : Fin 2048) (k : Fin 1024) : rNorm H g (ix2 i k) = (show EReal from normRow (fun k => H (ix2 i k)) (fun k => g (ix1 k)) k) := by
  pointwise [normRow, msq]

/-- The reference's first result. -/
theorem res : rAdd y w h = addOf 1 y w h := by
  funext i
  obtain ⟨x, z, rfl⟩ : ∃ (x : Fin 2048) (z : Fin 1024), i = ix2 x z := ⟨i 0, i 1, eq_ix2 i⟩
  exact rAdd_at y w h x z

/-- The reference's second result. -/
theorem norm : rNorm (rAdd y w h) g = normOf 1 y w h g := by
  funext i
  obtain ⟨x, z, rfl⟩ : ∃ (x : Fin 2048) (z : Fin 1024), i = ix2 x z := ⟨i 0, i 1, eq_ix2 i⟩
  exact (rNorm_at (rAdd y w h) g x z).trans (congrArg (fun r => normRow r (fun k => g (ix1 k)) z) (funext fun k => rAdd_at y w h x k))

end Cert.OutReferenceIdeal.Value

namespace Cert.Proof

open Idealize.ShloMosaic Idealize.ShloMosaic.TcCoe Idealize.ShloMosaic.Tactic Idealize.SL.Sem
open Cert.Ffn Cert.OutKernelIdeal.Gen

/-- The reference leaves its arguments and the counters as they were. -/
theorem out_reference_frame : Cert.quiescent_OutReferenceIdeal (hOutReferenceIdeal := Cert.OutReferenceIdeal.Gen.facts) := fun m g _ =>
  (θ_run (Cert.OutReferenceIdeal.defs (F := Ideal)) _ _).mono
    (fun r h => ⟨fun c => (h c).2.2, sem_eq_zero_of_no_sems (by decide) r.2⟩) (Cert.OutReferenceIdeal.Value.run m g)

/-- Kernel and reference end with the same arrays. -/
theorem out_algebraic : Cert.algebraic_OutKernelIdeal_OutReferenceIdeal (hOutKernelIdeal := Cert.OutKernelIdeal.Gen.facts)
    (hOutReferenceIdeal := Cert.OutReferenceIdeal.Gen.facts) := by
  intro m g m' g' _ hagree
  refine ⟨fun c => addOf 1 (A0 m c) (A1 m c) (A2 m c),
    fun c => normOf 1 (A0 m c) (A1 m c) (A2 m c) (A3 m c), ?_, ?_⟩
  · refine (θ_run (Cert.OutKernelIdeal.defs (F := Ideal)) _ _).mono (fun r h c => ?_) (Cert.OutKernelIdeal.Value.run_blocks m g)
    obtain ⟨h0, h1, hr⟩ := h c
    exact ⟨h0.trans (arr_4 m c), h1.trans (arr_5 m c), hr⟩
  · refine (θ_run (Cert.OutReferenceIdeal.defs (F := Ideal)) _ _).mono (fun r h c => ?_) (Cert.OutReferenceIdeal.Value.run m' g')
    obtain ⟨h0, h1, hr⟩ := h c
    obtain ⟨e0, e1, e2, e3⟩ := hagree c
    refine ⟨h0.trans ((Cert.OutReferenceIdeal.Value.res _ _ _).trans ?_), h1.trans ((Cert.OutReferenceIdeal.Value.norm _ _ _ _).trans ?_), hr⟩
    · rw [e0, e1, e2]
    · rw [e0, e1, e2, e3]

end Cert.Proof

end
-- ==== Proof.MixDxClaim.lean ====
module

public import proofs.«01_k».proof.Defs
public import proofs.«01_k».proof.Proof.Gen.MixDxKernel
public import proofs.«01_k».proof.Proof.Gen.MixDxKernel.Frame
public import proofs.«01_k».proof.Proof.Gen.MixDxKernelIdeal.Value
public import proofs.«01_k».proof.Proof.Gen.MixDxReferenceIdeal.Run
public import proofs.«01_k».proof.Proof.DxValue
public import Idealize.ShloMosaic.Lib.Pipeline.ValueKit
public import Idealize.ShloMosaic.Lib.StableHlo.ReadAt
public import Idealize.ShloMosaic.Adequacy
public import Idealize.ShloMosaic.Lib.Claim

/-! The gradient through the normalization in front of the mixing layer. -/

@[expose] public section

noncomputable section

namespace Cert.MixDxKernelIdeal.Gen

open Idealize.ShloMosaic Idealize.ShloMosaic.TcCoe Idealize.ShloMosaic.Tactic
open Cert.Ffn Finset
open Cert.DxKernelIdeal.Gen (row_congr sum_row)

set_option maxRecDepth 16384

theorem pay4_at (y x d : Vec Ideal S512x1024 .f32) (g : Vec Ideal S1x1024 .f32) (i : Fin 512) (k : Fin 1024) :
    k0_pay4 y x (k0_pay8 g) (k0_pay9 x) d (ix2 i k)
      = (show EReal from dxRow (fun k => x (ix2 i k)) (fun k => g (ix2 0 k)) (fun k => y (ix2 i k)) (d (ix2 i k)) k) := by
  pointwise [k0_pay4, k0_pay8, k0_pay9, k0_pay2, k0_pay1, dxRow, msq]

theorem pay5_at (y x d : Vec Ideal S512x1024 .f32) (g : Vec Ideal S1x1024 .f32) (a : Vec Ideal S512x1024 .f32) (i : Fin 512) (k : Fin 1024) :
    k0_pay5 y x g a d (ix2 i k) = (show EReal from Ideal.ofBits .f32 0x3F000000#32 * (show EReal from k0_pay4 y x g a d (ix2 i k))) := by
  generalize e : k0_pay4 y x g a d = w
  rw [k0_pay5, e]
  pointwise

theorem pay3_at (y x : Vec Ideal S512x1024 .f32) (k : Fin 1024) :
    k0_pay3 y x (k0_pay9 x) (ix2 0 k)
      = (show EReal from ∑ i : Fin 512, (show EReal from y (ix2 i k)) * ((show EReal from x (ix2 i k)) * Ideal.rsqrt (msq fun k => x (ix2 i k)))) := by
  pointwise [k0_pay3, k0_pay9, k0_pay2, k0_pay1, msq]

theorem pay6_at (y x : Vec Ideal S512x1024 .f32) (z : Vec Ideal S1x1024 .f32) (k : Fin 1024) :
    k0_pay6 y x (k0_pay9 x) z (ix2 0 k) = (show EReal from (show EReal from z (ix2 0 k)) + (show EReal from k0_pay3 y x (k0_pay9 x) (ix2 0 k))) := by
  generalize e : k0_pay3 y x (k0_pay9 x) = w
  rw [k0_pay6, e]
  pointwise

theorem pay7_at (a0 a1 a2 a3 : Vec Ideal S1x512x512 .bf16) (p0 p1 p2 p3 : Vec Ideal S1x1024x512 .bf16) (i : Fin 512) (k : Fin 1024) :
    k0_pay7 a0 p0 a1 p1 a2 p2 a3 p3 (ix2 i k) = (show EReal from
      (∑ j : Fin 512, (show EReal from a0 (ix3 0 i j)) * (show EReal from p0 (ix3 0 k j))) + (∑ j : Fin 512, (show EReal from a1 (ix3 0 i j)) * (show EReal from p1 (ix3 0 k j)))
        + (∑ j : Fin 512, (show EReal from a2 (ix3 0 i j)) * (show EReal from p2 (ix3 0 k j))) + ∑ j : Fin 512, (show EReal from a3 (ix3 0 i j)) * (show EReal from p3 (ix3 0 k j))) := by
  pointwise [k0_pay7]

theorem idx_all : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] := by decide +kernel

variable (m : (l : Loc nD τ sig) → Buf (Elt Ideal) l) (c : Dev nD)

/-- The arguments. -/
abbrev aH : FVec Ideal S2048x1024 .f32 := m (c, Proc.devRef .tc main_arg0)

abbrev aG : FVec Ideal S1024 .f32 := m (c, Proc.devRef .tc main_arg1)

abbrev aW : FVec Ideal S1024x2048 .f32 := m (c, Proc.devRef .tc main_arg2)

abbrev aZ : FVec Ideal S2048x2048 .f32 := m (c, Proc.devRef .tc main_arg3)

abbrev aD : FVec Ideal S2048x1024 .f32 := m (c, Proc.devRef .tc main_arg4)

theorem R_z (s : Fin 4) (i : Fin 2048) (j : Fin 512) : V m c main_v2 (ix3 s i j) = aZ m c (ix2 i (col5 s j)) := by
  unfold V
  after_reads_at
  rfl

theorem R_w (s : Fin 4) (k : Fin 1024) (j : Fin 512) : V m c main_v5 (ix3 s k j) = aW m c (ix2 k (col5 s j)) := by
  unfold V
  after_reads_at
  rfl

theorem R_g (k : Fin 1024) : V m c main_v6 (ix2 0 k) = aG m c (ix1 k) := by
  unfold V
  after_reads_at
  all_goals rfl

section
variable (t : Fin cfg0.N)

theorem t_lt : t.val < 4 := t.isLt

theorem B_z (s : Fin 4) (i : Fin 512) (j : Fin 512) : iblk m c 0 t (ix3 s i j) = V m c main_v2 (ix3 s (rowOf t.val (t_lt t) i) j) := by
  unfold iblk
  blk_ext [(idx_all t).1]
  all_goals rfl

theorem B_w (s : Fin 4) (k : Fin 1024) (j : Fin 512) : iblk m c 1 t (ix3 s k j) = V m c main_v5 (ix3 s k j) := by
  unfold iblk
  blk_ext [(idx_all t).2.1]

theorem B_h (i : Fin 512) (k : Fin 1024) : iblk m c 2 t (ix2 i k) = aH m c (ix2 (rowOf t.val (t_lt t) i) k) := by
  unfold iblk
  blk_ext [(idx_all t).2.2.1]
  all_goals rfl

theorem B_g (k : Fin 1024) : iblk m c 3 t (ix2 0 k) = V m c main_v6 (ix2 0 k) := by
  unfold iblk
  blk_ext [(idx_all t).2.2.2.1]

theorem B_d (i : Fin 512) (k : Fin 1024) : iblk m c 4 t (ix2 i k) = aD m c (ix2 (rowOf t.val (t_lt t) i) k) := by
  unfold iblk
  blk_ext [(idx_all t).2.2.2.2.1]
  all_goals rfl

/-- The product of one part. -/
theorem dot_part (s : Fin 4) (h : ∀ a, (![s.val, 0, 0] : Fin 3 → Nat) a + S1x512x512.size a ≤ S4x512x512.size a)
    (h' : ∀ a, (![s.val, 0, 0] : Fin 3 → Nat) a + S1x1024x512.size a ≤ S4x1024x512.size a) (i : Fin 512) (k : Fin 1024) :
    (∑ j : Fin 512, (show EReal from View.ld (iblk m c 0 t) (Rect.unit (s := S4x512x512) ![s.val, 0, 0] S1x512x512.size h) (ix3 0 i j))
        * (show EReal from View.ld (iblk m c 1 t) (Rect.unit (s := S4x1024x512) ![s.val, 0, 0] S1x1024x512.size h') (ix3 0 k j)))
      = ∑ j : Fin 512, (show EReal from aZ m c (ix2 (rowOf t.val (t_lt t) i) (col5 s j))) * (show EReal from aW m c (ix2 k (col5 s j))) :=
  sum_mul_congr (fun j => ((ld_part (iblk m c 0 t) s h i j).trans (B_z m c t s i j)).trans (R_z m c s _ j))
    fun j => ((ld_part (iblk m c 1 t) s h' k j).trans (B_w m c t s k j)).trans (R_w m c s k j)

/-- The gradient that reaches a grid point's rows. -/
abbrev yBlk : Vec Ideal S512x1024 .f32 :=
  k0_pay7 (View.ld (iblk m c 0 t) (Rect.unit (s := S4x512x512) ![0, 0, 0] S1x512x512.size inb_S4x512x512_S1x512x512_0_0_0)) (View.ld (iblk m c 1 t) (Rect.unit (s := S4x1024x512) ![0, 0, 0] S1x1024x512.size inb_S4x1024x512_S1x1024x512_0_0_0))
    (View.ld (iblk m c 0 t) (Rect.unit (s := S4x512x512) ![1, 0, 0] S1x512x512.size inb_S4x512x512_S1x512x512_1_0_0)) (View.ld (iblk m c 1 t) (Rect.unit (s := S4x1024x512) ![1, 0, 0] S1x1024x512.size inb_S4x1024x512_S1x1024x512_1_0_0))
    (View.ld (iblk m c 0 t) (Rect.unit (s := S4x512x512) ![2, 0, 0] S1x512x512.size inb_S4x512x512_S1x512x512_2_0_0)) (View.ld (iblk m c 1 t) (Rect.unit (s := S4x1024x512) ![2, 0, 0] S1x1024x512.size inb_S4x1024x512_S1x1024x512_2_0_0))
    (View.ld (iblk m c 0 t) (Rect.unit (s := S4x512x512) ![3, 0, 0] S1x512x512.size inb_S4x512x512_S1x512x512_3_0_0)) (View.ld (iblk m c 1 t) (Rect.unit (s := S4x1024x512) ![3, 0, 0] S1x1024x512.size inb_S4x1024x512_S1x1024x512_3_0_0))

/-- The gradient that reaches the normalized rows. -/
abbrev dyM : Fin 2048 → Fin 1024 → EReal := mmT (aZ m c) (aW m c)

theorem yBlk_at (i : Fin 512) (k : Fin 1024) : yBlk m c t (ix2 i k) = (show EReal from dyM m c (rowOf t.val (t_lt t) i) k) := by
  refine (pay7_at _ _ _ _ _ _ _ _ i k).trans ?_
  rw [dyM, mmT, sum_col5, Fin.sum_univ_four]
  exact add_eq (add_eq (add_eq
    (dot_part m c t 0 inb_S4x512x512_S1x512x512_0_0_0 inb_S4x1024x512_S1x1024x512_0_0_0 i k)
    (dot_part m c t 1 inb_S4x512x512_S1x512x512_1_0_0 inb_S4x1024x512_S1x1024x512_1_0_0 i k))
    (dot_part m c t 2 inb_S4x512x512_S1x512x512_2_0_0 inb_S4x1024x512_S1x1024x512_2_0_0 i k))
    (dot_part m c t 3 inb_S4x512x512_S1x512x512_3_0_0 inb_S4x1024x512_S1x1024x512_3_0_0 i k)

/-- The gradient in the rows of one grid point, and the point's share of the gradient in the scale. -/
theorem blk_5 (i : Fin 512) (k : Fin 1024) : k0_pay4 (yBlk m c t) (iblk m c 2 t) (k0_pay8 (iblk m c 3 t)) (k0_pay9 (iblk m c 2 t)) (iblk m c 4 t) (ix2 i k)
    = dxOf (aH m c) (aG m c) (dyM m c) (aD m c) (ix2 (rowOf t.val (t_lt t) i) k) :=
  (pay4_at (yBlk m c t) (iblk m c 2 t) (iblk m c 4 t) (iblk m c 3 t) i k).trans
    (row_congr (funext fun k => B_h m c t i k) (funext fun k => (B_g m c t k).trans (R_g m c k)) (funext fun k => yBlk_at m c t i k) (B_d m c t i k) k)

theorem blk_7 (k : Fin 1024) : k0_pay3 (yBlk m c t) (iblk m c 2 t) (k0_pay9 (iblk m c 2 t)) (ix2 0 k)
    = (show EReal from ∑ i : Fin 512, dgRow (aH m c) (dyM m c) (rowOf t.val (t_lt t) i) k) :=
  (pay3_at (yBlk m c t) (iblk m c 2 t) k).trans (Finset.sum_congr rfl fun i _ => congrArg₂ (fun a b : EReal => a * b) (yBlk_at m c t i k)
    (congrArg₂ (fun a b : EReal => a * b) (B_h m c t i k) (congrArg (fun x => Ideal.rsqrt (msq x)) (funext fun k => B_h m c t i k))))

theorem cases_outs : (outsAt0 m c t.val t.isLt).1 = k0_pay4 (yBlk m c t) (iblk m c 2 t) (k0_pay8 (iblk m c 3 t)) (k0_pay9 (iblk m c 2 t)) (iblk m c 4 t)
    ∧ (outsAt0 m c t.val t.isLt).2.1 = k0_pay5 (yBlk m c t) (iblk m c 2 t) (k0_pay8 (iblk m c 3 t)) (k0_pay9 (iblk m c 2 t)) (iblk m c 4 t) := by
  by_cases h1 : 1 ≤ t.val
  · have h0 : ¬t.val % 4 = 0 := by have : t.val < 4 := t.isLt; omega
    rw [outsAt0_B m c t h0 h1]
    dsimp only
    constructor <;> frame_out <;> rfl
  · have h0 : t.val % 4 = 0 := by omega
    rw [outsAt0_A m c t h0 h1]
    dsimp only
    constructor <;> frame_out <;> rfl

theorem outs_first (h0 : t.val % 4 = 0) (h1 : ¬1 ≤ t.val) : (outsAt0 m c t.val t.isLt).2.2 = k0_pay3 (yBlk m c t) (iblk m c 2 t) (k0_pay9 (iblk m c 2 t)) := by
  rw [outsAt0_A m c t h0 h1]
  dsimp only
  frame_out
  rfl

theorem outs_next (h0 : ¬t.val % 4 = 0) (h1 : 1 ≤ t.val) : (outsAt0 m c t.val t.isLt).2.2
    = k0_pay6 (yBlk m c t) (iblk m c 2 t) (k0_pay9 (iblk m c 2 t)) (outsAt0 m c (t.val - 1) (Nat.lt_of_le_of_lt (Nat.sub_le _ _) t.isLt)).2.2 := by
  rw [outsAt0_B m c t h0 h1]
  dsimp only
  frame_out
  rfl

end

theorem arr_5 : (dats m 0 c).arrAt 5 cfg0.N = dxOf (aH m c) (aG m c) (dyM m c) (aD m c) := by
  refine (dats m 0 c).arrAt_eq_of_covers 5 _ (by decide +kernel) fun t hf y => ?_
  obtain ⟨x, z, rfl⟩ : ∃ (x : Fin 512) (z : Fin 1024), y = ix2 x z := ⟨y 0, y 1, eq_ix2 y⟩
  rw [after0_5, (cases_outs m c t).1]
  refine (blk_5 m c t x z).trans ?_
  refine congrArg (dxOf (aH m c) (aG m c) (dyM m c) (aD m c)) (?_ : ix2 (rowOf t.val (t_lt t) x) z = _)
  funext a
  fin_cases a <;> refine Fin.ext ?_ <;> blk_simp [(idx_all t).2.2.2.2.2.1] <;> rfl

theorem arr_6 : (dats m 0 c).arrAt 6 cfg0.N = halfOf (dxOf (aH m c) (aG m c) (dyM m c) (aD m c)) := by
  refine (dats m 0 c).arrAt_eq_of_covers 6 _ (by decide +kernel) fun t hf y => ?_
  obtain ⟨x, z, rfl⟩ : ∃ (x : Fin 512) (z : Fin 1024), y = ix2 x z := ⟨y 0, y 1, eq_ix2 y⟩
  rw [after0_6, (cases_outs m c t).2]
  refine ((pay5_at (yBlk m c t) (iblk m c 2 t) (iblk m c 4 t) (k0_pay8 (iblk m c 3 t)) (k0_pay9 (iblk m c 2 t)) x z).trans
    (congrArg (fun v : EReal => Ideal.ofBits .f32 0x3F000000#32 * v) (blk_5 m c t x z))).trans ?_
  refine congrArg (halfOf (dxOf (aH m c) (aG m c) (dyM m c) (aD m c))) (?_ : ix2 (rowOf t.val (t_lt t) x) z = _)
  funext a
  fin_cases a <;> refine Fin.ext ?_ <;> blk_simp [(idx_all t).2.2.2.2.2.2.1] <;> rfl

/-- One grid point's share of the gradient in the scale. -/
def part (t : Fin 4) (k : Fin 1024) : EReal := ∑ i : Fin 512, dgRow (aH m c) (dyM m c) (rowOf t.val t.isLt i) k

theorem acc_zero (k : Fin 1024) : (outsAt0 m c 0 (by decide)).2.2 (ix2 0 k) = (show EReal from part m c 0 k) :=
  (congrFun (outs_first m c ⟨0, by decide⟩ (by decide) (by decide)) _).trans (blk_7 m c ⟨0, by decide⟩ k)

theorem acc_step (n : ℕ) (hn : n + 1 < cfg0.N) (k : Fin 1024) (x : EReal) (h : (outsAt0 m c n (Nat.lt_of_succ_lt hn)).2.2 (ix2 0 k) = x) :
    (outsAt0 m c (n + 1) hn).2.2 (ix2 0 k) = x + part m c ⟨n + 1, hn⟩ k := by
  have h4 : n + 1 < 4 := hn
  refine (congrFun (outs_next m c ⟨n + 1, hn⟩ (by show ¬(n + 1) % 4 = 0; omega) (Nat.le_add_left _ _)) _).trans ?_
  refine (pay6_at (yBlk m c ⟨n + 1, hn⟩) (iblk m c 2 ⟨n + 1, hn⟩) _ k).trans ?_
  exact add_eq h (blk_7 m c ⟨n + 1, hn⟩ k)

theorem acc_last (k : Fin 1024) : (outsAt0 m c 3 (by decide)).2.2 (ix2 0 k) = dgOf (aH m c) (dyM m c) (ix2 0 k) := by
  refine (acc_step m c 2 (by decide) k _ (acc_step m c 1 (by decide) k _ (acc_step m c 0 (by decide) k _ (acc_zero m c k)))).trans ?_
  refine Eq.trans ?_ (sum_row _).symm
  rw [Fin.sum_univ_four]
  rfl

theorem arr_7 : (dats m 0 c).arrAt 7 cfg0.N = dgOf (aH m c) (dyM m c) := by
  refine (dats m 0 c).arrAt_eq_of_covers 7 _ (by decide +kernel) fun t hf y => ?_
  obtain ⟨x, z, rfl⟩ : ∃ (x : Fin 1) (z : Fin 1024), y = ix2 x z := ⟨y 0, y 1, eq_ix2 y⟩
  rw [show x = 0 from Subsingleton.elim _ _]
  obtain rfl : t = ⟨3, by decide⟩ := by
    revert hf
    revert t
    decide +kernel
  rw [after0_7]
  refine (acc_last m c z).trans ?_
  refine congrArg (dgOf (aH m c) (dyM m c)) (?_ : ix2 0 z = _)
  funext a
  fin_cases a <;> refine Fin.ext ?_ <;> blk_simp [] <;> first | rfl | exact (Nat.zero_add _).symm

end Cert.MixDxKernelIdeal.Gen

namespace Cert.MixDxReferenceIdeal.Value

open Cert.MixDxReferenceIdeal Cert.MixDxReferenceIdeal.Gen Idealize.ShloMosaic Idealize.ShloMosaic.TcCoe Idealize.ShloMosaic.Tactic
open Cert.Ffn Finset

/-- The reference's product, and half of an array. -/
theorem dy_at (z : FVec Ideal S2048x2048 .f32) (w : FVec Ideal S1024x2048 .f32) (i : Fin 2048) (k : Fin 1024) :
    Host.dotGeneral dot_S2048x2048_S1024x2048_S2048x1024_1_1_0_0_n_n none z w (ix2 i k) = (show EReal from mmT z w i k) := by
  pointwise [mmT]

theorem half (v : FVec Ideal S2048x1024 .f32) :
    truncf (F := Ideal) .bf16 (mulf (broadcastInDim S2048x1024 ![] bcast_S_S2048x1024 (constant S_ .f32 0x3F000000#32)) v) bitsLt_bf16_f32 = halfOf v := by
  funext i
  pointwise [halfOf]

end Cert.MixDxReferenceIdeal.Value

namespace Cert.Proof

open Idealize.ShloMosaic Idealize.ShloMosaic.TcCoe Idealize.ShloMosaic.Tactic Idealize.SL.Sem
open Cert.Ffn Cert.MixDxKernelIdeal.Gen

/-- The reference leaves its arguments and the counters as they were. -/
theorem mix_dx_reference_frame : Cert.quiescent_MixDxReferenceIdeal (hMixDxReferenceIdeal := Cert.MixDxReferenceIdeal.Gen.facts) := fun m g _ =>
  (θ_run (Cert.MixDxReferenceIdeal.defs (F := Ideal)) _ _).mono
    (fun r h => ⟨fun c => (h c).2.2.2, sem_eq_zero_of_no_sems (by decide) r.2⟩) (Cert.MixDxReferenceIdeal.Value.run m g)

/-- Kernel and reference end with the same gradients. -/
theorem mix_dx_algebraic : Cert.algebraic_MixDxKernelIdeal_MixDxReferenceIdeal (hMixDxKernelIdeal := Cert.MixDxKernelIdeal.Gen.facts)
    (hMixDxReferenceIdeal := Cert.MixDxReferenceIdeal.Gen.facts) := by
  intro m g m' g' _ hagree
  refine ⟨fun c => dxOf (aH m c) (aG m c) (dyM m c) (aD m c), fun c => halfOf (dxOf (aH m c) (aG m c) (dyM m c) (aD m c)), fun c => dgOf (aH m c) (dyM m c), ?_, ?_⟩
  · refine (θ_run (Cert.MixDxKernelIdeal.defs (F := Ideal)) _ _).mono (fun r h c => ?_) (Cert.MixDxKernelIdeal.Value.run_blocks m g)
    obtain ⟨h0, h1, h2, hr⟩ := h c
    exact ⟨h0.trans (arr_5 m c), h1.trans (arr_6 m c), h2.trans (arr_7 m c), hr⟩
  · refine (θ_run (Cert.MixDxReferenceIdeal.defs (F := Ideal)) _ _).mono (fun r h c => ?_) (Cert.MixDxReferenceIdeal.Value.run m' g')
    obtain ⟨h0, h1, h2, hr⟩ := h c
    obtain ⟨e0, e1, e2, e3, e4⟩ := hagree c
    have e := Cert.MixDxReferenceIdeal.Value.dy_at (aZ m c) (aW m c)
    have f1 := Cert.DxReferenceIdeal.Value.first (aH m c) (aG m c) (aD m c) _ _ e
    have f3 := Cert.DxReferenceIdeal.Value.third (aH m c) _ _ e
    rw [Cert.MixDxReferenceIdeal.Value.res_main_v38, e0, e1, e2, e3, e4] at h0
    rw [Cert.MixDxReferenceIdeal.Value.res_main_v41, e0, e1, e2, e3, e4] at h1
    rw [e0, e2, e3] at h2
    exact ⟨h0.trans f1, h1.trans ((Cert.MixDxReferenceIdeal.Value.half _).trans (congrArg halfOf f1)), h2.trans f3, hr⟩

end Cert.Proof

end
-- ==== Proof.WinGradClaim.lean ====
module

public import proofs.«01_k».proof.Defs
public import proofs.«01_k».proof.Proof.Gen.WinGradKernel
public import proofs.«01_k».proof.Proof.Gen.WinGradKernel.Frame
public import proofs.«01_k».proof.Proof.Gen.WinGradKernelIdeal.Value
public import proofs.«01_k».proof.Proof.Gen.WinGradReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The gradient of the mixer's input weight. -/

@[expose] public section

noncomputable section

namespace Cert.WinGradKernelIdeal.Gen

open Idealize.ShloMosaic Idealize.ShloMosaic.TcCoe Idealize.ShloMosaic.Tactic
open Cert.Ffn Finset

set_option maxRecDepth 16384

theorem pay_at (x : Vec Ideal S1x2048x1024 .bf16) (y : Vec Ideal S1x2048x512 .bf16) (i : Fin 1024) (j : Fin 512) :
    k0_pay1 x y (ix3 0 i j) = (show EReal from ∑ k : Fin 2048, (show EReal from x (ix3 0 k i)) * (show EReal from y (ix3 0 k j))) := by
  pointwise [k0_pay1]

theorem idx_all : ∀ t : Fin cfg0.N, win0_0.index t = ![0, 0, 0] ∧ win0_1.index t = ![t.val, 0, 0] ∧ win0_2.index t = ![t.val, 0, 0] := by decide +kernel

variable (m : (l : Loc nD τ sig) → Buf (Elt Ideal) l) (c : Dev nD)

theorem R_u (k : Fin 2048) (i : Fin 1024) : V m c main_v4 (ix3 0 k i) = m (c, Proc.devRef .tc main_arg0) (ix2 k i) := by
  unfold V
  after_reads_at
  all_goals rfl

theorem R_d (s : Fin 4) (k : Fin 2048) (j : Fin 512) : V m c main_v3 (ix3 s k j) = m (c, Proc.devRef .tc main_arg1) (ix2 k (col5 s j)) := by
  unfold V
  after_reads_at
  rfl

theorem arr : (dats m 0 c).arrAt 2 cfg0.N = gradIn (m (c, Proc.devRef .tc main_arg0)) (m (c, Proc.devRef .tc main_arg1)) := by
  refine (dats m 0 c).arrAt_eq_of_covers 2 _ (by decide +kernel) fun t hf y => ?_
  obtain ⟨a, x, z, rfl⟩ : ∃ (a : Fin 1) (x : Fin 1024) (z : Fin 512), y = ix3 a x z := ⟨y 0, y 1, y 2, eq_ix3 y⟩
  rw [show a = 0 from Subsingleton.elim _ _]
  obtain ⟨h0, h1, h2⟩ := idx_all t
  have ht : t.val < 4 := t.isLt
  have hx (k : Fin 2048) : iblk m c 0 t (ix3 0 k x) = V m c main_v4 (ix3 0 k x) := by
    unfold iblk
    blk_ext [h0]
  have hy (k : Fin 2048) : iblk m c 1 t (ix3 0 k z) = V m c main_v3 (ix3 ⟨t.val, ht⟩ k z) := by
    unfold iblk
    blk_ext [h1]
  rw [after0_2]
  frame_out
  refine ((pay_at (iblk m c 0 t) (iblk m c 1 t) x z).trans (sum_mul_congr (fun k => (hx k).trans (R_u m c k x)) fun k => (hy k).trans (R_d m c _ k z))).trans ?_
  refine congrArg (gradIn (m (c, Proc.devRef .tc main_arg0)) (m (c, Proc.devRef .tc main_arg1))) (?_ : ix3 ⟨t.val, ht⟩ x z = _)
  funext a
  fin_cases a <;> refine Fin.ext ?_ <;> blk_simp [h2] <;> rfl

end Cert.WinGradKernelIdeal.Gen

namespace Cert.WinGradReferenceIdeal.Value

open Cert.WinGradReferenceIdeal Cert.WinGradReferenceIdeal.Gen Idealize.ShloMosaic Idealize.ShloMosaic.TcCoe Idealize.ShloMosaic.Tactic
open Cert.Ffn Finset

/-- The reference's result. -/
theorem res (u : FVec Ideal S2048x1024 .f32) (d : FVec Ideal S2048x2048 .f32) :
    transpose S4x1024x512 [1, 0, 2] (shapeCast S1024x4x512 (truncf .bf16 (transpose S1024x2048 [1, 0] (Host.dotGeneral dot_S2048x2048_S2048x1024_S2048x1024_0_0_1_1_n_n none d u)
      transposes_S2048x1024_S1024x2048_1_0) bitsLt_bf16_f32) shapeCasts_S1024x2048_S1024x4x512) transposes_S1024x4x512_S4x1024x512_1_0_2 = gradIn u d := by
  have at_ (j : Fin 2048) (i : Fin 1024) : Host.dotGeneral dot_S2048x2048_S2048x1024_S2048x1024_0_0_1_1_n_n none d u (ix2 j i) = (show EReal from tmm d u j i) := by
    pointwise [tmm]
  funext i
  obtain ⟨s, x, z, rfl⟩ : ∃ (s : Fin 4) (x : Fin 1024) (z : Fin 512), i = ix3 s x z := ⟨i 0, i 1, i 2, eq_ix3 i⟩
  refine Eq.trans ?_ ((at_ (col5 s z) x).trans (tmm_comm d u _ _))
  generalize Host.dotGeneral dot_S2048x2048_S2048x1024_S2048x1024_0_0_1_1_n_n none d u = D
  pointwise
  rfl

end Cert.WinGradReferenceIdeal.Value

namespace Cert.Proof

open Idealize.ShloMosaic Idealize.ShloMosaic.TcCoe Idealize.ShloMosaic.Tactic Idealize.SL.Sem
open Cert.Ffn

/-- The reference leaves its arguments and the counters as they were. -/
theorem win_grad_reference_frame : Cert.quiescent_WinGradReferenceIdeal (hWinGradReferenceIdeal := Cert.WinGradReferenceIdeal.Gen.facts) := fun m g _ =>
  (θ_run (Cert.WinGradReferenceIdeal.defs (F := Ideal)) _ _).mono
    (fun r h => ⟨fun c => (h c).2, sem_eq_zero_of_no_sems (by decide) r.2⟩) (Cert.WinGradReferenceIdeal.Value.run m g)

/-- Kernel and reference end with the same array. -/
theorem win_grad_algebraic : Cert.algebraic_WinGradKernelIdeal_WinGradReferenceIdeal (hWinGradKernelIdeal := Cert.WinGradKernelIdeal.Gen.facts)
    (hWinGradReferenceIdeal := Cert.WinGradReferenceIdeal.Gen.facts) := by
  intro m g m' g' _ hagree
  refine ⟨fun c => gradIn (m ((c.tc : Thread _ _).loc Cert.WinGradKernelIdeal.main_arg0)) (m ((c.tc : Thread _ _).loc Cert.WinGradKernelIdeal.main_arg1)), ?_, ?_⟩
  · exact (θ_run (Cert.WinGradKernelIdeal.defs (F := Ideal)) _ _).mono (fun r h c => ⟨(h c).1.trans (Cert.WinGradKernelIdeal.Gen.arr m c), (h c).2⟩)
      (Cert.WinGradKernelIdeal.Value.run_blocks m g)
  · refine (θ_run (Cert.WinGradReferenceIdeal.defs (F := Ideal)) _ _).mono (fun r h c => ?_) (Cert.WinGradReferenceIdeal.Value.run m' g')
    refine ⟨(h c).1.trans ((Cert.WinGradReferenceIdeal.Value.res _ _).trans ?_), (h c).2⟩
    rw [(hagree c).1, (hagree c).2]

end Cert.Proof

end
-- ==== Proof.OutDactClaim.lean ====
module

public import proofs.«01_k».proof.Defs
public import proofs.«01_k».proof.Proof.Gen.OutDactKernel
public import proofs.«01_k».proof.Proof.Gen.OutDactKernel.Frame
public import proofs.«01_k».proof.Proof.Gen.OutDactKernelIdeal.Value
public import proofs.«01_k».proof.Proof.Gen.OutDactReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The gradient that goes back through the mixer's output product. -/

@[expose] public section

noncomputable section

namespace Cert.OutDactKernelIdeal.Gen

open Idealize.ShloMosaic Idealize.ShloMosaic.TcCoe Idealize.ShloMosaic.Tactic
open Cert.Ffn Finset

set_option maxRecDepth 16384

theorem pay_at (x : Vec Ideal S512x1024 .bf16) (y : Vec Ideal S1x512x1024 .bf16) (i j : Fin 512) :
    k0_pay1 x y (ix3 0 i j) = (show EReal from ∑ k : Fin 1024, (show EReal from x (ix2 i k)) * (show EReal from y (ix3 0 j k))) := by
  pointwise [k0_pay1]

theorem idx_all : ∀ t : Fin cfg0.N, win0_0.index t = ![t.val % 4, 0] ∧ win0_1.index t = ![t.val / 4, 0, 0] ∧ win0_2.index t = ![t.val / 4, t.val % 4, 0] := by decide +kernel

variable (m : (l : Loc nD τ sig) → Buf (Elt Ideal) l) (c : Dev nD)

theorem R_d (i : Fin 2048) (k : Fin 1024) : V m c main_v0 (ix2 i k) = m (c, Proc.devRef .tc main_arg0) (ix2 i k) := by
  unfold V
  after_reads_at
  all_goals rfl

theorem R_w (s : Fin 2) (j : Fin 512) (k : Fin 1024) : V m c main_v2 (ix3 s j k) = m (c, Proc.devRef .tc main_arg1) (ix2 (col2 s j) k) := by
  unfold V
  after_reads_at
  rfl

theorem arr : (dats m 0 c).arrAt 2 cfg0.N = backOf (m (c, Proc.devRef .tc main_arg0)) (m (c, Proc.devRef .tc main_arg1)) := by
  refine (dats m 0 c).arrAt_eq_of_covers 2 _ (by decide +kernel) fun t hf y => ?_
  obtain ⟨a, x, z, rfl⟩ : ∃ (a : Fin 1) (x : Fin 512) (z : Fin 512), y = ix3 a x z := ⟨y 0, y 1, y 2, eq_ix3 y⟩
  rw [show a = 0 from Subsingleton.elim _ _]
  obtain ⟨h0, h1, h2⟩ := idx_all t
  have ht : t.val / 4 < 2 := by
    have : t.val < 8 := t.isLt
    omega
  have hm : t.val % 4 < 4 := Nat.mod_lt _ (by decide)
  have hx (k : Fin 1024) : iblk m c 0 t (ix2 x k) = V m c main_v0 (ix2 (rowOf (t.val % 4) hm x) k) := by
    unfold iblk
    blk_ext [h0]
    all_goals rfl
  have hy (k : Fin 1024) : iblk m c 1 t (ix3 0 z k) = V m c main_v2 (ix3 ⟨t.val / 4, ht⟩ z k) := by
    unfold iblk
    blk_ext [h1]
  rw [after0_2]
  frame_out
  refine ((pay_at (iblk m c 0 t) (iblk m c 1 t) x z).trans (sum_mul_congr (fun k => (hx k).trans (R_d m c _ k)) fun k => (hy k).trans (R_w m c _ z k))).trans ?_
  refine congrArg (backOf (m (c, Proc.devRef .tc main_arg0)) (m (c, Proc.devRef .tc main_arg1))) (?_ : ix3 ⟨t.val / 4, ht⟩ (rowOf (t.val % 4) hm x) z = _)
  funext a
  fin_cases a <;> refine Fin.ext ?_ <;> blk_simp [h2] <;> rfl

end Cert.OutDactKernelIdeal.Gen

namespace Cert.OutDactReferenceIdeal.Value

open Cert.OutDactReferenceIdeal Cert.OutDactReferenceIdeal.Gen Idealize.ShloMosaic Idealize.ShloMosaic.TcCoe Idealize.ShloMosaic.Tactic
open Cert.Ffn Finset

/-- The reference's result. -/
theorem res (d : FVec Ideal S2048x1024 .f32) (w : FVec Ideal S1024x1024 .f32) :
    transpose S2x2048x512 [1, 0, 2] (shapeCast S2048x2x512 (Host.dotGeneral dot_S2048x1024_S1024x1024_S2048x1024_1_1_0_0_n_n none d w) shapeCasts_S2048x1024_S2048x2x512)
      transposes_S2048x2x512_S2x2048x512_1_0_2 = backOf d w := by
  have at_ (i : Fin 2048) (j : Fin 1024) : Host.dotGeneral dot_S2048x1024_S1024x1024_S2048x1024_1_1_0_0_n_n none d w (ix2 i j) = (show EReal from mmT d w i j) := by
    pointwise [mmT]
  funext i
  obtain ⟨s, x, z, rfl⟩ : ∃ (s : Fin 2) (x : Fin 2048) (z : Fin 512), i = ix3 s x z := ⟨i 0, i 1, i 2, eq_ix3 i⟩
  refine Eq.trans ?_ (at_ x (col2 s z))
  generalize Host.dotGeneral dot_S2048x1024_S1024x1024_S2048x1024_1_1_0_0_n_n none d w = D
  pointwise
  rfl

end Cert.OutDactReferenceIdeal.Value

namespace Cert.Proof

open Idealize.ShloMosaic Idealize.ShloMosaic.TcCoe Idealize.ShloMosaic.Tactic Idealize.SL.Sem
open Cert.Ffn

/-- The reference leaves its arguments and the counters as they were. -/
theorem out_dact_reference_frame : Cert.quiescent_OutDactReferenceIdeal (hOutDactReferenceIdeal := Cert.OutDactReferenceIdeal.Gen.facts) := fun m g _ =>
  (θ_run (Cert.OutDactReferenceIdeal.defs (F := Ideal)) _ _).mono
    (fun r h => ⟨fun c => (h c).2, sem_eq_zero_of_no_sems (by decide) r.2⟩) (Cert.OutDactReferenceIdeal.Value.run m g)

/-- Kernel and reference end with the same array. -/
theorem out_dact_algebraic : Cert.algebraic_OutDactKernelIdeal_OutDactReferenceIdeal (hOutDactKernelIdeal := Cert.OutDactKernelIdeal.Gen.facts)
    (hOutDactReferenceIdeal := Cert.OutDactReferenceIdeal.Gen.facts) := by
  intro m g m' g' _ hagree
  refine ⟨fun c => backOf (m ((c.tc : Thread _ _).loc Cert.OutDactKernelIdeal.main_arg0)) (m ((c.tc : Thread _ _).loc Cert.OutDactKernelIdeal.main_arg1)), ?_, ?_⟩
  · exact (θ_run (Cert.OutDactKernelIdeal.defs (F := Ideal)) _ _).mono (fun r h c => ⟨(h c).1.trans (Cert.OutDactKernelIdeal.Gen.arr m c), (h c).2⟩)
      (Cert.OutDactKernelIdeal.Value.run_blocks m g)
  · refine (θ_run (Cert.OutDactReferenceIdeal.defs (F := Ideal)) _ _).mono (fun r h c => ?_) (Cert.OutDactReferenceIdeal.Value.run m' g')
    refine ⟨(h c).1.trans ((Cert.OutDactReferenceIdeal.Value.res _ _).trans ?_), (h c).2⟩
    rw [(hagree c).1, (hagree c).2]

end Cert.Proof

end
-- ==== Proof.OutGradClaim.lean ====
module

public import proofs.«01_k».proof.Defs
public import proofs.«01_k».proof.Proof.Gen.OutGradKernel
public import proofs.«01_k».proof.Proof.Gen.OutGradKernel.Frame
public import proofs.«01_k».proof.Proof.Gen.OutGradKernelIdeal.Value
public import proofs.«01_k».proof.Proof.Gen.OutGradReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The gradient of the mixer's output weight. -/

@[expose] public section

noncomputable section

namespace Cert.OutGradKernelIdeal.Gen

open Idealize.ShloMosaic Idealize.ShloMosaic.TcCoe Idealize.ShloMosaic.Tactic
open Cert.Ffn Finset

set_option maxRecDepth 16384

theorem pay_at (x : Vec Ideal S1x2048x512 .bf16) (y : Vec Ideal S1x2048x1024 .bf16) (i : Fin 512) (j : Fin 1024) :
    k0_pay1 x y (ix3 0 i j) = (show EReal from ∑ k : Fin 2048, (show EReal from x (ix3 0 k i)) * (show EReal from y (ix3 0 k j))) := by
  pointwise [k0_pay1]

theorem idx_all : ∀ t : Fin cfg0.N, win0_0.index t = ![t.val, 0, 0] ∧ win0_1.index t = ![0, 0, 0] ∧ win0_2.index t = ![t.val, 0, 0] := by decide +kernel

variable (m : (l : Loc nD τ sig) → Buf (Elt Ideal) l) (c : Dev nD)

theorem R_y (s : Fin 2) (k : Fin 2048) (i : Fin 512) : V m c main_v5 (ix3 s k i) = m (c, Proc.devRef .tc main_arg0) (ix2 k (col2 s i)) := by
  unfold V
  after_reads_at
  fin_cases s
  · show StableHlo.upto hostOps0 (fun b => m (c, b)) 4 (Proc.devRef .tc main_v2) (ix3 0 k i) = _
    after_reads_at
    exact congrArg (fun j => m (c, Proc.devRef .tc main_arg0) (ix2 k j)) (Fin.ext (by show i.val = 0 * 512 + i.val; omega))
  · show StableHlo.upto hostOps0 (fun b => m (c, b)) 4 (Proc.devRef .tc main_v3) (ix3 0 k i) = _
    after_reads_at
    rfl

theorem R_d (k : Fin 2048) (j : Fin 1024) : V m c main_v7 (ix3 0 k j) = m (c, Proc.devRef .tc main_arg1) (ix2 k j) := by
  unfold V
  after_reads_at
  all_goals rfl

theorem arr : (dats m 0 c).arrAt 2 cfg0.N = gradOut (m (c, Proc.devRef .tc main_arg0)) (m (c, Proc.devRef .tc main_arg1)) := by
  refine (dats m 0 c).arrAt_eq_of_covers 2 _ (by decide +kernel) fun t hf y => ?_
  obtain ⟨a, x, z, rfl⟩ : ∃ (a : Fin 1) (x : Fin 512) (z : Fin 1024), y = ix3 a x z := ⟨y 0, y 1, y 2, eq_ix3 y⟩
  rw [show a = 0 from Subsingleton.elim _ _]
  obtain ⟨h0, h1, h2⟩ := idx_all t
  have ht : t.val < 2 := t.isLt
  have hx (k : Fin 2048) : iblk m c 0 t (ix3 0 k x) = V m c main_v5 (ix3 ⟨t.val, ht⟩ k x) := by
    unfold iblk
    blk_ext [h0]
  have hy (k : Fin 2048) : iblk m c 1 t (ix3 0 k z) = V m c main_v7 (ix3 0 k z) := by
    unfold iblk
    blk_ext [h1]
  rw [after0_2]
  frame_out
  refine ((pay_at (iblk m c 0 t) (iblk m c 1 t) x z).trans (sum_mul_congr (fun k => (hx k).trans (R_y m c _ k x)) fun k => (hy k).trans (R_d m c k z))).trans ?_
  generalize m (c, Proc.devRef .tc main_arg0) = A
  generalize m (c, Proc.devRef .tc main_arg1) = B
  refine Eq.trans (?_ : _ = gradOut A B (ix3 ⟨t.val, ht⟩ x z)) (congrArg (gradOut A B) ?_)
  · rfl
  funext a
  fin_cases a <;> refine Fin.ext ?_ <;> blk_simp [h2] <;> rfl

end Cert.OutGradKernelIdeal.Gen

namespace Cert.OutGradReferenceIdeal.Value

open Cert.OutGradReferenceIdeal Cert.OutGradReferenceIdeal.Gen Idealize.ShloMosaic Idealize.ShloMosaic.TcCoe Idealize.ShloMosaic.Tactic
open Cert.Ffn Finset

/-- The reference's result. -/
theorem res (y d : FVec Ideal S2048x1024 .f32) :
    shapeCast S2x512x1024 (truncf .bf16 (transpose S1024x1024 [1, 0] (Host.dotGeneral dot_S2048x1024_S2048x1024_S1024x1024_0_0_1_1_n_n none d y)
      transposes_S1024x1024_S1024x1024_1_0) bitsLt_bf16_f32) shapeCasts_S1024x1024_S2x512x1024 = gradOut y d := by
  have at_ (j i : Fin 1024) : Host.dotGeneral dot_S2048x1024_S2048x1024_S1024x1024_0_0_1_1_n_n none d y (ix2 j i) = (show EReal from tmm d y j i) := by
    pointwise [tmm]
  funext i
  obtain ⟨s, x, z, rfl⟩ : ∃ (s : Fin 2) (x : Fin 512) (z : Fin 1024), i = ix3 s x z := ⟨i 0, i 1, i 2, eq_ix3 i⟩
  refine Eq.trans ?_ ((at_ z (col2 s x)).trans (tmm_comm d y _ _))
  generalize Host.dotGeneral dot_S2048x1024_S2048x1024_S1024x1024_0_0_1_1_n_n none d y = D
  pointwise
  rfl

end Cert.OutGradReferenceIdeal.Value

namespace Cert.Proof

open Idealize.ShloMosaic Idealize.ShloMosaic.TcCoe Idealize.ShloMosaic.Tactic Idealize.SL.Sem
open Cert.Ffn

/-- The reference leaves its arguments and the counters as they were. -/
theorem out_grad_reference_frame : Cert.quiescent_OutGradReferenceIdeal (hOutGradReferenceIdeal := Cert.OutGradReferenceIdeal.Gen.facts) := fun m g _ =>
  (θ_run (Cert.OutGradReferenceIdeal.defs (F := Ideal)) _ _).mono
    (fun r h => ⟨fun c => (h c).2, sem_eq_zero_of_no_sems (by decide) r.2⟩) (Cert.OutGradReferenceIdeal.Value.run m g)

/-- Kernel and reference end with the same array. -/
theorem out_grad_algebraic : Cert.algebraic_OutGradKernelIdeal_OutGradReferenceIdeal (hOutGradKernelIdeal := Cert.OutGradKernelIdeal.Gen.facts)
    (hOutGradReferenceIdeal := Cert.OutGradReferenceIdeal.Gen.facts) := by
  intro m g m' g' _ hagree
  refine ⟨fun c => gradOut (m ((c.tc : Thread _ _).loc Cert.OutGradKernelIdeal.main_arg0)) (m ((c.tc : Thread _ _).loc Cert.OutGradKernelIdeal.main_arg1)), ?_, ?_⟩
  · exact (θ_run (Cert.OutGradKernelIdeal.defs (F := Ideal)) _ _).mono (fun r h c => ⟨(h c).1.trans (Cert.OutGradKernelIdeal.Gen.arr m c), (h c).2⟩)
      (Cert.OutGradKernelIdeal.Value.run_blocks m g)
  · refine (θ_run (Cert.OutGradReferenceIdeal.defs (F := Ideal)) _ _).mono (fun r h c => ?_) (Cert.OutGradReferenceIdeal.Value.run m' g')
    refine ⟨(h c).1.trans ((Cert.OutGradReferenceIdeal.Value.res _ _).trans ?_), (h c).2⟩
    rw [(hagree c).1, (hagree c).2]

end Cert.Proof

end
-- ==== Proof.PleBwdClaim.lean ====
module

public import proofs.«01_k».proof.Defs
public import proofs.«01_k».proof.Proof.Gen.PleBwdKernel
public import proofs.«01_k».proof.Proof.Gen.PleBwdKernel.Frame
public import proofs.«01_k».proof.Proof.Gen.PleBwdKernelIdeal.Value
public import proofs.«01_k».proof.Proof.Gen.PleBwdReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The gradients of the gated embedding. -/

@[expose] public section

noncomputable section

namespace Cert.PleBwdKernelIdeal.Gen

open Idealize.ShloMosaic Idealize.ShloMosaic.TcCoe Idealize.ShloMosaic.Tactic
open Cert.Ffn Finset

set_option maxRecDepth 16384

theorem pay4_at (x : Vec Ideal S512x1024 .bf16) (g : Vec Ideal S1024x256 .bf16) (p : Vec Ideal S512x256 .bf16) (w : Vec Ideal S1x256x256 .bf16) (d : Vec Ideal S512x256 .f32) (o : Vec Ideal S1x1 .f32)
    (i : Fin 512) (j : Fin 256) : k0_pay4 x g p w d o (ix2 i j) = (show EReal from dPre (∑ k : Fin 1024, (show EReal from x (ix2 i k)) * (show EReal from g (ix2 k j)))
      (∑ k : Fin 256, (show EReal from p (ix2 i k)) * (show EReal from w (ix3 0 k j))) ((show EReal from d (ix2 i j)) + (show EReal from o (ix2 0 0)))) := by
  pointwise [k0_pay4, k0_pay2, k0_pay1, dPre, sgm]
  generalize (∑ k : Fin 1024, (show EReal from x (ix2 i k)) * (show EReal from g (ix2 k j))) = a
  rw [show (0 : EReal) - a = -a from zero_sub (G := EReal) _]

theorem pay3_at (x : Vec Ideal S512x1024 .bf16) (g : Vec Ideal S1024x256 .bf16) (d : Vec Ideal S512x256 .f32) (o : Vec Ideal S1x1 .f32)
    (i : Fin 512) (j : Fin 256) : k0_pay3 x g d o (ix3 0 i j) = (show EReal from ((show EReal from d (ix2 i j)) + (show EReal from o (ix2 0 0)))
      * sgm (∑ k : Fin 1024, (show EReal from x (ix2 i k)) * (show EReal from g (ix2 k j)))) := by
  pointwise [k0_pay3, k0_pay2, k0_pay1, sgm]
  generalize (∑ k : Fin 1024, (show EReal from x (ix2 i k)) * (show EReal from g (ix2 k j))) = a
  rw [show (0 : EReal) - a = -a from zero_sub (G := EReal) _]

theorem idx_all : ∀ t : Fin cfg0.N, win0_0.index t = ![t.val % 4, 0] ∧ win0_1.index t = ![t.val % 4, 0] ∧ win0_2.index t = ![0, t.val / 4]
    ∧ win0_3.index t = ![t.val / 4, 0, 0] ∧ win0_4.index t = ![t.val % 4, t.val / 4] ∧ win0_5.index t = ![0, 0] ∧ win0_6.index t = ![t.val % 4, t.val / 4]
    ∧ win0_7.index t = ![t.val / 4, t.val % 4, 0] := by decide +kernel

variable (m : (l : Loc nD τ sig) → Buf (Elt Ideal) l) (c : Dev nD)

/-- The arguments. -/
abbrev A0 : FVec Ideal S2048x1024 .f32 := m (c, Proc.devRef .tc main_arg0)

abbrev A1 : FVec Ideal S2048x256 .f32 := m (c, Proc.devRef .tc main_arg1)

abbrev A2 : FVec Ideal S1024x1024 .f32 := m (c, Proc.devRef .tc main_arg2)

abbrev A3 : FVec Ideal S256x1024 .f32 := m (c, Proc.devRef .tc main_arg3)

abbrev A4 : FVec Ideal S2048x1024 .f32 := m (c, Proc.devRef .tc main_arg4)

theorem R_u (i : Fin 2048) (k : Fin 1024) : V m c main_v0 (ix2 i k) = A0 m c (ix2 i k) := by
  unfold V
  after_reads_at
  all_goals rfl

theorem R_p (i : Fin 2048) (k : Fin 256) : V m c main_v1 (ix2 i k) = A1 m c (ix2 i k) := by
  unfold V
  after_reads_at
  all_goals rfl

theorem R_g (k j : Fin 1024) : V m c main_v2 (ix2 k j) = A2 m c (ix2 k j) := by
  unfold V
  after_reads_at
  all_goals rfl

theorem R_w (s : Fin 4) (k j : Fin 256) : V m c main_v5 (ix3 s k j) = A3 m c (ix2 k (colq s j)) := by
  unfold V
  after_reads_at
  rfl

theorem R_t : V m c main_v6 (ix2 0 0) = (show EReal from 0) := by
  unfold V
  after_reads_at
  all_goals first | rfl | exact Ideal.ofBits_zero .f32

section
variable (t : Fin cfg0.N)

theorem t_div : t.val / 4 < 4 := by
  have : t.val < 16 := t.isLt
  omega

theorem t_mod : t.val % 4 < 4 := Nat.mod_lt _ (by decide)

theorem B_u (i : Fin 512) (k : Fin 1024) : iblk m c 0 t (ix2 i k) = V m c main_v0 (ix2 (rowOf (t.val % 4) (t_mod t) i) k) := by
  unfold iblk
  blk_ext [(idx_all t).1]
  all_goals rfl

theorem B_p (i : Fin 512) (k : Fin 256) : iblk m c 1 t (ix2 i k) = V m c main_v1 (ix2 (rowOf (t.val % 4) (t_mod t) i) k) := by
  unfold iblk
  blk_ext [(idx_all t).2.1]
  all_goals rfl

theorem B_g (k : Fin 1024) (j : Fin 256) : iblk m c 2 t (ix2 k j) = V m c main_v2 (ix2 k (colq ⟨t.val / 4, t_div t⟩ j)) := by
  unfold iblk
  blk_ext [(idx_all t).2.2.1]
  all_goals rfl

theorem B_w (k j : Fin 256) : iblk m c 3 t (ix3 0 k j) = V m c main_v5 (ix3 ⟨t.val / 4, t_div t⟩ k j) := by
  unfold iblk
  blk_ext [(idx_all t).2.2.2.1]

theorem B_h (i : Fin 512) (j : Fin 256) : iblk m c 4 t (ix2 i j) = A4 m c (ix2 (rowOf (t.val % 4) (t_mod t) i) (colq ⟨t.val / 4, t_div t⟩ j)) := by
  unfold iblk
  blk_ext [(idx_all t).2.2.2.2.1]
  all_goals rfl

theorem B_t : iblk m c 5 t (ix2 0 0) = V m c main_v6 (ix2 0 0) := by
  unfold iblk
  blk_ext [(idx_all t).2.2.2.2.2.1]

/-- The entry that is loaded from the block of zeros. -/
theorem tok : View.ld (iblk m c 5 t) (Rect.unit (s := S8x128) ![0, 0] S1x1.size inb_S8x128_S1x1_0_0) (ix2 0 0) = (show EReal from 0) := by
  refine Eq.trans (congrArg (iblk m c 5 t) (?_ : _ = ix2 0 0)) ((B_t m c t).trans (R_t m c))
  funext d
  fin_cases d <;> exact Fin.ext rfl

/-- The products of one grid point. -/
theorem dot_g (i : Fin 512) (j : Fin 256) :
    (∑ k : Fin 1024, (show EReal from iblk m c 0 t (ix2 i k)) * (show EReal from iblk m c 2 t (ix2 k j)))
      = mm (A0 m c) (A2 m c) (rowOf (t.val % 4) (t_mod t) i) (colq ⟨t.val / 4, t_div t⟩ j) :=
  sum_mul_congr (fun k => (B_u m c t i k).trans (R_u m c _ k)) fun k => (B_g m c t k j).trans (R_g m c k _)

theorem dot_p (i : Fin 512) (j : Fin 256) :
    (∑ k : Fin 256, (show EReal from iblk m c 1 t (ix2 i k)) * (show EReal from iblk m c 3 t (ix3 0 k j)))
      = mm (A1 m c) (A3 m c) (rowOf (t.val % 4) (t_mod t) i) (colq ⟨t.val / 4, t_div t⟩ j) :=
  sum_mul_congr (fun k => (B_p m c t i k).trans (R_p m c _ k)) fun k => (B_w m c t k j).trans (R_w m c _ k j)

end

/-- The cotangent of one grid point. -/
theorem cot (t : Fin cfg0.N) (i : Fin 512) (j : Fin 256) : (show EReal from iblk m c 4 t (ix2 i j))
      + (show EReal from View.ld (iblk m c 5 t) (Rect.unit (s := S8x128) ![0, 0] S1x1.size inb_S8x128_S1x1_0_0) (ix2 0 0))
    = (show EReal from A4 m c (ix2 (rowOf (t.val % 4) (t_mod t) i) (colq ⟨t.val / 4, t_div t⟩ j))) :=
  (congrArg₂ (fun a b : EReal => a + b) (B_h m c t i j) (tok m c t)).trans (add_zero (M := EReal) _)

theorem dPre_congr {a a' b b' d d' : EReal} (ha : a = a') (hb : b = b') (hd : d = d') : dPre a b d = dPre a' b' d' := by
  rw [ha, hb, hd]

theorem arr_6 : (dats m 0 c).arrAt 6 cfg0.N = dpreOf (A0 m c) (A1 m c) (A2 m c) (A3 m c) (A4 m c) := by
  refine (dats m 0 c).arrAt_eq_of_covers 6 _ (by decide +kernel) fun t hf y => ?_
  obtain ⟨x, z, rfl⟩ : ∃ (x : Fin 512) (z : Fin 256), y = ix2 x z := ⟨y 0, y 1, eq_ix2 y⟩
  rw [after0_6]
  frame_out
  refine ((pay4_at (iblk m c 0 t) (iblk m c 2 t) (iblk m c 1 t) (iblk m c 3 t) (iblk m c 4 t) _ x z).trans (dPre_congr (dot_g m c t x z) (dot_p m c t x z) (cot m c t x z))).trans ?_
  refine congrArg (dpreOf (A0 m c) (A1 m c) (A2 m c) (A3 m c) (A4 m c))
    (?_ : ix2 (rowOf (t.val % 4) (t_mod t) x) (colq ⟨t.val / 4, t_div t⟩ z) = _)
  funext a
  fin_cases a <;> refine Fin.ext ?_ <;> blk_simp [(idx_all t).2.2.2.2.2.2.1] <;> rfl

theorem arr_7 : (dats m 0 c).arrAt 7 cfg0.N = dppOf (A0 m c) (A2 m c) (A4 m c) := by
  refine (dats m 0 c).arrAt_eq_of_covers 7 _ (by decide +kernel) fun t hf y => ?_
  obtain ⟨a, x, z, rfl⟩ : ∃ (a : Fin 1) (x : Fin 512) (z : Fin 256), y = ix3 a x z := ⟨y 0, y 1, y 2, eq_ix3 y⟩
  rw [show a = 0 from Subsingleton.elim _ _]
  rw [after0_7]
  frame_out
  refine ((pay3_at (iblk m c 0 t) (iblk m c 2 t) (iblk m c 4 t) _ x z).trans (congrArg₂ (fun a b : EReal => a * sgm b) (cot m c t x z) (dot_g m c t x z))).trans ?_
  refine congrArg (dppOf (A0 m c) (A2 m c) (A4 m c))
    (?_ : ix3 ⟨t.val / 4, t_div t⟩ (rowOf (t.val % 4) (t_mod t) x) z = _)
  funext a
  fin_cases a <;> refine Fin.ext ?_ <;> blk_simp [(idx_all t).2.2.2.2.2.2.2] <;> rfl

end Cert.PleBwdKernelIdeal.Gen

namespace Cert.PleBwdReferenceIdeal.Value

open Cert.PleBwdReferenceIdeal Cert.PleBwdReferenceIdeal.Gen Idealize.ShloMosaic Idealize.ShloMosaic.TcCoe Idealize.ShloMosaic.Tactic
open Cert.Ffn Finset

variable (u : FVec Ideal S2048x1024 .f32) (p : FVec Ideal S2048x256 .f32) (wg : FVec Ideal S1024x1024 .f32) (wp : FVec Ideal S256x1024 .f32) (d : FVec Ideal S2048x1024 .f32)

/-- The products and the gate, as the reference computes them. -/
abbrev rG : FVec Ideal S2048x1024 .f32 := Host.dotGeneral dot_S2048x1024_S1024x1024_S2048x1024_1_0_0_1_n_n none u wg

abbrev rP : FVec Ideal S2048x1024 .f32 := Host.dotGeneral dot_S2048x256_S256x1024_S2048x1024_1_0_0_1_n_n none p wp

abbrev rS (A : FVec Ideal S2048x1024 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf A)))

theorem rG_at (i : Fin 2048) (j : Fin 1024) : rG u wg (ix2 i j) = (show EReal from mm u wg i j) := by
  pointwise [mm]

theorem rP_at (i : Fin 2048) (j : Fin 1024) : rP p wp (ix2 i j) = (show EReal from mm p wp i j) := by
  pointwise [mm]

theorem dpre_at (A B : FVec Ideal S2048x1024 .f32) (i : Fin 2048) (j : Fin 1024) :
    truncf (F := Ideal) .bf16 (mulf (mulf B d) (mulf (rS A) (subf (broadcastInDim S2048x1024 ![] bcast_S_S2048x1024 (constant S_ .f32 0x3F800000#32)) (rS A)))) bitsLt_bf16_f32 (ix2 i j)
      = (show EReal from dPre (A (ix2 i j)) (B (ix2 i j)) (d (ix2 i j))) := by
  refine Eq.trans ?_ ((mul_assoc (G := EReal) _ _ _).symm.trans (congrArg (fun v : EReal => v * _ * _) (mul_comm (G := EReal) _ _)))
  pointwise [sgm]

theorem dpp_at (A : FVec Ideal S2048x1024 .f32) (s : Fin 4) (i : Fin 2048) (j : Fin 256) :
    transpose S4x2048x256 [1, 0, 2] (shapeCast S2048x4x256 (truncf .bf16 (mulf d (rS A)) bitsLt_bf16_f32) shapeCasts_S2048x1024_S2048x4x256) transposes_S2048x4x256_S4x2048x256_1_0_2 (ix3 s i j)
      = (show EReal from (show EReal from d (ix2 i (colq s j))) * sgm (A (ix2 i (colq s j)))) := by
  pointwise [sgm]
  rfl

/-- The reference's first result. -/
theorem dpre : truncf (F := Ideal) .bf16 (mulf (mulf (rP p wp) d) (mulf (rS (rG u wg)) (subf (broadcastInDim S2048x1024 ![] bcast_S_S2048x1024 (constant S_ .f32 0x3F800000#32)) (rS (rG u wg))))) bitsLt_bf16_f32
    = dpreOf u p wg wp d := by
  funext i
  obtain ⟨x, z, rfl⟩ : ∃ (x : Fin 2048) (z : Fin 1024), i = ix2 x z := ⟨i 0, i 1, eq_ix2 i⟩
  exact (dpre_at d (rG u wg) (rP p wp) x z).trans (congrArg₂ (fun a b : EReal => dPre a b (d (ix2 x z))) (rG_at u wg x z) (rP_at p wp x z))

/-- The reference's second result. -/
theorem dpp : transpose S4x2048x256 [1, 0, 2] (shapeCast S2048x4x256 (truncf .bf16 (mulf d (rS (rG u wg))) bitsLt_bf16_f32) shapeCasts_S2048x1024_S2048x4x256) transposes_S2048x4x256_S4x2048x256_1_0_2
    = dppOf u wg d := by
  funext i
  obtain ⟨s, x, z, rfl⟩ : ∃ (s : Fin 4) (x : Fin 2048) (z : Fin 256), i = ix3 s x z := ⟨i 0, i 1, i 2, eq_ix3 i⟩
  exact (dpp_at d (rG u wg) s x z).trans (congrArg (fun a : EReal => (show EReal from d (ix2 x (colq s z))) * sgm a) (rG_at u wg x (colq s z)))

end Cert.PleBwdReferenceIdeal.Value

namespace Cert.Proof

open Idealize.ShloMosaic Idealize.ShloMosaic.TcCoe Idealize.ShloMosaic.Tactic Idealize.SL.Sem
open Cert.Ffn Cert.PleBwdKernelIdeal.Gen

/-- The reference leaves its arguments and the counters as they were. -/
theorem ple_bwd_reference_frame : Cert.quiescent_PleBwdReferenceIdeal (hPleBwdReferenceIdeal := Cert.PleBwdReferenceIdeal.Gen.facts) := fun m g _ =>
  (θ_run (Cert.PleBwdReferenceIdeal.defs (F := Ideal)) _ _).mono
    (fun r h => ⟨fun c => (h c).2.2, sem_eq_zero_of_no_sems (by decide) r.2⟩) (Cert.PleBwdReferenceIdeal.Value.run m g)

/-- Kernel and reference end with the same arrays. -/
theorem ple_bwd_algebraic : Cert.algebraic_PleBwdKernelIdeal_PleBwdReferenceIdeal (hPleBwdKernelIdeal := Cert.PleBwdKernelIdeal.Gen.facts)
    (hPleBwdReferenceIdeal := Cert.PleBwdReferenceIdeal.Gen.facts) := by
  intro m g m' g' _ hagree
  refine ⟨fun c => dpreOf (A0 m c) (A1 m c) (A2 m c) (A3 m c) (A4 m c),
    fun c => dppOf (A0 m c) (A2 m c) (A4 m c), ?_, ?_⟩
  · refine (θ_run (Cert.PleBwdKernelIdeal.defs (F := Ideal)) _ _).mono (fun r h c => ?_) (Cert.PleBwdKernelIdeal.Value.run_blocks m g)
    obtain ⟨h0, h1, hr⟩ := h c
    exact ⟨h0.trans (arr_6 m c), h1.trans (arr_7 m c), hr⟩
  · refine (θ_run (Cert.PleBwdReferenceIdeal.defs (F := Ideal)) _ _).mono (fun r h c => ?_) (Cert.PleBwdReferenceIdeal.Value.run m' g')
    obtain ⟨h0, h1, hr⟩ := h c
    obtain ⟨e0, e1, e2, e3, e4⟩ := hagree c
    refine ⟨h0.trans ((Cert.PleBwdReferenceIdeal.Value.dpre _ _ _ _ _).trans ?_), h1.trans ((Cert.PleBwdReferenceIdeal.Value.dpp _ _ _).trans ?_), hr⟩
    · rw [e0, e1, e2, e3, e4]
    · rw [e0, e2, e4]

end Cert.Proof

end
-- ==== Proof.PleDxClaim.lean ====
module

public import proofs.«01_k».proof.Defs
public import proofs.«01_k».proof.Proof.Gen.PleDxKernel
public import proofs.«01_k».proof.Proof.Gen.PleDxKernel.Frame
public import proofs.«01_k».proof.Proof.Gen.PleDxKernelIdeal.Value
public import proofs.«01_k».proof.Proof.Gen.PleDxReferenceIdeal.Run
public import proofs.«01_k».proof.Proof.DxValue
public import Idealize.ShloMosaic.Lib.Pipeline.ValueKit
public import Idealize.ShloMosaic.Lib.StableHlo.ReadAt
public import Idealize.ShloMosaic.Adequacy
public import Idealize.ShloMosaic.Lib.Claim

/-! The gradient through the normalization in front of the gated embedding. -/

@[expose] public section

noncomputable section

namespace Cert.PleDxKernelIdeal.Gen

open Idealize.ShloMosaic Idealize.ShloMosaic.TcCoe Idealize.ShloMosaic.Tactic
open Cert.Ffn Finset
open Cert.DxKernelIdeal.Gen (row_congr sum_row)

set_option maxRecDepth 16384

theorem pay3_at (z : Vec Ideal S1x512x1024 .bf16) (w : Vec Ideal S1x1024x1024 .bf16) (i : Fin 512) (k : Fin 1024) :
    k0_pay3 z w (ix2 i k) = (show EReal from ∑ j : Fin 1024, (show EReal from z (ix3 0 i j)) * (show EReal from w (ix3 0 k j))) := by
  pointwise [k0_pay3]

theorem pay7_at (z : Vec Ideal S1x512x1024 .bf16) (w : Vec Ideal S1x1024x1024 .bf16) (x d : Vec Ideal S512x1024 .f32) (g : Vec Ideal S1x1024 .f32) (i : Fin 512) (k : Fin 1024) :
    k0_pay7 z w x g d (ix2 i k) = (show EReal from dxRow (fun k => x (ix2 i k)) (fun k => g (ix2 0 k)) (fun k => k0_pay3 z w (ix2 i k)) (d (ix2 i k)) k) := by
  generalize e : k0_pay3 z w = y
  rw [k0_pay7, e]
  pointwise [k0_pay5, k0_pay4, dxRow, msq]

theorem pay6_at (z : Vec Ideal S1x512x1024 .bf16) (w : Vec Ideal S1x1024x1024 .bf16) (x : Vec Ideal S512x1024 .f32) (k : Fin 1024) :
    k0_pay6 z w x (ix2 0 k) = (show EReal from ∑ i : Fin 512, (show EReal from k0_pay3 z w (ix2 i k)) * ((show EReal from x (ix2 i k)) * Ideal.rsqrt (msq fun k => x (ix2 i k)))) := by
  generalize e : k0_pay3 z w = y
  rw [k0_pay6, e]
  pointwise [k0_pay5, k0_pay4, msq]

theorem pay1_at (v : FVec Ideal S512x1024 .f32) (i : Fin 512) (k : Fin 1024) :
    k0_pay1 v (Scalar.ofBits (F := Ideal) .f32 0x3F000000#32) (ix2 i k) = (show EReal from Ideal.ofBits .f32 0x3F000000#32 * (show EReal from v (ix2 i k))) := by
  pointwise [k0_pay1]

theorem pay2_at (v : FVec Ideal S1x1024 .f32) (z : Vec Ideal S1x1024 .f32) (k : Fin 1024) :
    k0_pay2 v z (ix2 0 k) = (show EReal from (show EReal from z (ix2 0 k)) + (show EReal from v (ix2 0 k))) := by
  pointwise [k0_pay2]

theorem idx_all : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] := by decide +kernel

variable (m : (l : Loc nD τ sig) → Buf (Elt Ideal) l) (c : Dev nD)

/-- The arguments. -/
abbrev aH : FVec Ideal S2048x1024 .f32 := m (c, Proc.devRef .tc main_arg0)

abbrev aG : FVec Ideal S1024 .f32 := m (c, Proc.devRef .tc main_arg1)

abbrev aW : FVec Ideal S1024x1024 .f32 := m (c, Proc.devRef .tc main_arg2)

abbrev aZ : FVec Ideal S2048x1024 .f32 := m (c, Proc.devRef .tc main_arg3)

abbrev aD : FVec Ideal S2048x1024 .f32 := m (c, Proc.devRef .tc main_arg4)

theorem R_z (i : Fin 2048) (j : Fin 1024) : V m c main_v1 (ix3 0 i j) = aZ m c (ix2 i j) := by
  unfold V
  after_reads_at
  all_goals rfl

theorem R_w (k j : Fin 1024) : V m c main_v3 (ix3 0 k j) = aW m c (ix2 k j) := by
  unfold V
  after_reads_at
  all_goals rfl

theorem R_g (k : Fin 1024) : V m c main_v4 (ix2 0 k) = aG m c (ix1 k) := by
  unfold V
  after_reads_at
  all_goals rfl

section
variable (t : Fin cfg0.N)

theorem t_lt : t.val < 4 := t.isLt

theorem B_z (i : Fin 512) (j : Fin 1024) : iblk m c 0 t (ix3 0 i j) = V m c main_v1 (ix3 0 (rowOf t.val (t_lt t) i) j) := by
  unfold iblk
  blk_ext [(idx_all t).1]
  all_goals rfl

theorem B_w (k j : Fin 1024) : iblk m c 1 t (ix3 0 k j) = V m c main_v3 (ix3 0 k j) := by
  unfold iblk
  blk_ext [(idx_all t).2.1]

theorem B_h (i : Fin 512) (k : Fin 1024) : iblk m c 2 t (ix2 i k) = aH m c (ix2 (rowOf t.val (t_lt t) i) k) := by
  unfold iblk
  blk_ext [(idx_all t).2.2.1]
  all_goals rfl

theorem B_g (k : Fin 1024) : iblk m c 3 t (ix2 0 k) = V m c main_v4 (ix2 0 k) := by
  unfold iblk
  blk_ext [(idx_all t).2.2.2.1]

theorem B_d (i : Fin 512) (k : Fin 1024) : iblk m c 4 t (ix2 i k) = aD m c (ix2 (rowOf t.val (t_lt t) i) k) := by
  unfold iblk
  blk_ext [(idx_all t).2.2.2.2.1]
  all_goals rfl

/-- The gradient that reaches the normalized rows. -/
abbrev dyM : Fin 2048 → Fin 1024 → EReal := mmT (aZ m c) (aW m c)

theorem y_at (i : Fin 512) (k : Fin 1024) : k0_pay3 (iblk m c 0 t) (iblk m c 1 t) (ix2 i k) = (show EReal from dyM m c (rowOf t.val (t_lt t) i) k) :=
  (pay3_at _ _ i k).trans (sum_mul_congr (fun j => (B_z m c t i j).trans (R_z m c _ j)) fun j => (B_w m c t k j).trans (R_w m c k j))

/-- The gradient in the rows of one grid point, and the point's share of the gradient in the scale. -/
theorem blk_5 (i : Fin 512) (k : Fin 1024) : k0_pay7 (iblk m c 0 t) (iblk m c 1 t) (iblk m c 2 t) (iblk m c 3 t) (iblk m c 4 t) (ix2 i k)
    = dxOf (aH m c) (aG m c) (dyM m c) (aD m c) (ix2 (rowOf t.val (t_lt t) i) k) :=
  (pay7_at (iblk m c 0 t) (iblk m c 1 t) (iblk m c 2 t) (iblk m c 4 t) (iblk m c 3 t) i k).trans
    (row_congr (funext fun k => B_h m c t i k) (funext fun k => (B_g m c t k).trans (R_g m c k)) (funext fun k => y_at m c t i k) (B_d m c t i k) k)

theorem blk_7 (k : Fin 1024) : k0_pay6 (iblk m c 0 t) (iblk m c 1 t) (iblk m c 2 t) (ix2 0 k)
    = (show EReal from ∑ i : Fin 512, dgRow (aH m c) (dyM m c) (rowOf t.val (t_lt t) i) k) :=
  (pay6_at (iblk m c 0 t) (iblk m c 1 t) (iblk m c 2 t) k).trans (Finset.sum_congr rfl fun i _ => congrArg₂ (fun a b : EReal => a * b) (y_at m c t i k)
    (congrArg₂ (fun a b : EReal => a * b) (B_h m c t i k) (congrArg (fun x => Ideal.rsqrt (msq x)) (funext fun k => B_h m c t i k))))

theorem cases_outs : (outsAt0 m c t.val t.isLt).1 = k0_pay7 (iblk m c 0 t) (iblk m c 1 t) (iblk m c 2 t) (iblk m c 3 t) (iblk m c 4 t)
    ∧ (outsAt0 m c t.val t.isLt).2.1 = k0_pay1 (k0_pay7 (iblk m c 0 t) (iblk m c 1 t) (iblk m c 2 t) (iblk m c 3 t) (iblk m c 4 t)) (Scalar.ofBits (F := Ideal) .f32 0x3F000000#32) := by
  by_cases h1 : 1 ≤ t.val
  · have h0 : ¬t.val % 4 = 0 := by have : t.val < 4 := t.isLt; omega
    rw [outsAt0_B m c t h0 h1]
    dsimp only
    constructor <;> frame_out <;> rfl
  · have h0 : t.val % 4 = 0 := by omega
    rw [outsAt0_A m c t h0 h1]
    dsimp only
    constructor <;> frame_out <;> rfl

theorem outs_first (h0 : t.val % 4 = 0) (h1 : ¬1 ≤ t.val) : (outsAt0 m c t.val t.isLt).2.2 = k0_pay6 (iblk m c 0 t) (iblk m c 1 t) (iblk m c 2 t) := by
  rw [outsAt0_A m c t h0 h1]
  dsimp only
  frame_out
  all_goals rfl

theorem outs_next (h0 : ¬t.val % 4 = 0) (h1 : 1 ≤ t.val) : (outsAt0 m c t.val t.isLt).2.2
    = k0_pay2 (k0_pay6 (iblk m c 0 t) (iblk m c 1 t) (iblk m c 2 t)) (outsAt0 m c (t.val - 1) (Nat.lt_of_le_of_lt (Nat.sub_le _ _) t.isLt)).2.2 := by
  rw [outsAt0_B m c t h0 h1]
  dsimp only
  frame_out
  all_goals rfl

end

theorem arr_5 : (dats m 0 c).arrAt 5 cfg0.N = dxOf (aH m c) (aG m c) (dyM m c) (aD m c) := by
  refine (dats m 0 c).arrAt_eq_of_covers 5 _ (by decide +kernel) fun t hf y => ?_
  obtain ⟨x, z, rfl⟩ : ∃ (x : Fin 512) (z : Fin 1024), y = ix2 x z := ⟨y 0, y 1, eq_ix2 y⟩
  rw [after0_5, (cases_outs m c t).1]
  refine (blk_5 m c t x z).trans ?_
  refine congrArg (dxOf (aH m c) (aG m c) (dyM m c) (aD m c)) (?_ : ix2 (rowOf t.val (t_lt t) x) z = _)
  funext a
  fin_cases a <;> refine Fin.ext ?_ <;> blk_simp [(idx_all t).2.2.2.2.2.1] <;> rfl

theorem arr_6 : (dats m 0 c).arrAt 6 cfg0.N = halfOf (dxOf (aH m c) (aG m c) (dyM m c) (aD m c)) := by
  refine (dats m 0 c).arrAt_eq_of_covers 6 _ (by decide +kernel) fun t hf y => ?_
  obtain ⟨x, z, rfl⟩ : ∃ (x : Fin 512) (z : Fin 1024), y = ix2 x z := ⟨y 0, y 1, eq_ix2 y⟩
  rw [after0_6, (cases_outs m c t).2]
  refine ((pay1_at _ x z).trans (congrArg (fun v : EReal => Ideal.ofBits .f32 0x3F000000#32 * v) (blk_5 m c t x z))).trans ?_
  refine congrArg (halfOf (dxOf (aH m c) (aG m c) (dyM m c) (aD m c))) (?_ : ix2 (rowOf t.val (t_lt t) x) z = _)
  funext a
  fin_cases a <;> refine Fin.ext ?_ <;> blk_simp [(idx_all t).2.2.2.2.2.2.1] <;> rfl

/-- One grid point's share of the gradient in the scale. -/
def part (t : Fin 4) (k : Fin 1024) : EReal := ∑ i : Fin 512, dgRow (aH m c) (dyM m c) (rowOf t.val t.isLt i) k

theorem acc_zero (k : Fin 1024) : (outsAt0 m c 0 (by decide)).2.2 (ix2 0 k) = (show EReal from part m c 0 k) :=
  (congrFun (outs_first m c ⟨0, by decide⟩ (by decide) (by decide)) _).trans (blk_7 m c ⟨0, by decide⟩ k)

theorem acc_step (n : ℕ) (hn : n + 1 < cfg0.N) (k : Fin 1024) (x : EReal) (h : (outsAt0 m c n (Nat.lt_of_succ_lt hn)).2.2 (ix2 0 k) = x) :
    (outsAt0 m c (n + 1) hn).2.2 (ix2 0 k) = x + part m c ⟨n + 1, hn⟩ k := by
  have h4 : n + 1 < 4 := hn
  refine (congrFun (outs_next m c ⟨n + 1, hn⟩ (by show ¬(n + 1) % 4 = 0; omega) (Nat.le_add_left _ _)) _).trans ?_
  exact (pay2_at _ _ k).trans (add_eq h (blk_7 m c ⟨n + 1, hn⟩ k))

theorem acc_last (k : Fin 1024) : (outsAt0 m c 3 (by decide)).2.2 (ix2 0 k) = dgOf (aH m c) (dyM m c) (ix2 0 k) := by
  refine (acc_step m c 2 (by decide) k _ (acc_step m c 1 (by decide) k _ (acc_step m c 0 (by decide) k _ (acc_zero m c k)))).trans ?_
  refine Eq.trans ?_ (sum_row _).symm
  rw [Fin.sum_univ_four]
  rfl

theorem arr_7 : (dats m 0 c).arrAt 7 cfg0.N = dgOf (aH m c) (dyM m c) := by
  refine (dats m 0 c).arrAt_eq_of_covers 7 _ (by decide +kernel) fun t hf y => ?_
  obtain ⟨x, z, rfl⟩ : ∃ (x : Fin 1) (z : Fin 1024), y = ix2 x z := ⟨y 0, y 1, eq_ix2 y⟩
  rw [show x = 0 from Subsingleton.elim _ _]
  obtain rfl : t = ⟨3, by decide⟩ := by
    revert hf
    revert t
    decide +kernel
  rw [after0_7]
  refine (acc_last m c z).trans ?_
  refine congrArg (dgOf (aH m c) (dyM m c)) (?_ : ix2 0 z = _)
  funext a
  fin_cases a <;> refine Fin.ext ?_ <;> blk_simp [] <;> first | rfl | exact (Nat.zero_add _).symm

end Cert.PleDxKernelIdeal.Gen

namespace Cert.PleDxReferenceIdeal.Value

open Cert.PleDxReferenceIdeal Cert.PleDxReferenceIdeal.Gen Idealize.ShloMosaic Idealize.ShloMosaic.TcCoe Idealize.ShloMosaic.Tactic
open Cert.Ffn Finset

/-- The reference's product, and half of an array. -/
theorem dy_at (z : FVec Ideal S2048x1024 .f32) (w : FVec Ideal S1024x1024 .f32) (i : Fin 2048) (k : Fin 1024) :
    Host.dotGeneral dot_S2048x1024_S1024x1024_S2048x1024_1_1_0_0_n_n none z w (ix2 i k) = (show EReal from mmT z w i k) := by
  pointwise [mmT]

theorem half (v : FVec Ideal S2048x1024 .f32) :
    truncf (F := Ideal) .bf16 (mulf (broadcastInDim S2048x1024 ![] bcast_S_S2048x1024 (constant S_ .f32 0x3F000000#32)) v) bitsLt_bf16_f32 = halfOf v := by
  funext i
  pointwise [halfOf]

end Cert.PleDxReferenceIdeal.Value

namespace Cert.Proof

open Idealize.ShloMosaic Idealize.ShloMosaic.TcCoe Idealize.ShloMosaic.Tactic Idealize.SL.Sem
open Cert.Ffn Cert.PleDxKernelIdeal.Gen

/-- The reference leaves its arguments and the counters as they were. -/
theorem ple_dx_reference_frame : Cert.quiescent_PleDxReferenceIdeal (hPleDxReferenceIdeal := Cert.PleDxReferenceIdeal.Gen.facts) := fun m g _ =>
  (θ_run (Cert.PleDxReferenceIdeal.defs (F := Ideal)) _ _).mono
    (fun r h => ⟨fun c => (h c).2.2.2, sem_eq_zero_of_no_sems (by decide) r.2⟩) (Cert.PleDxReferenceIdeal.Value.run m g)

/-- Kernel and reference end with the same gradients. -/
theorem ple_dx_algebraic : Cert.algebraic_PleDxKernelIdeal_PleDxReferenceIdeal (hPleDxKernelIdeal := Cert.PleDxKernelIdeal.Gen.facts)
    (hPleDxReferenceIdeal := Cert.PleDxReferenceIdeal.Gen.facts) := by
  intro m g m' g' _ hagree
  refine ⟨fun c => dxOf (aH m c) (aG m c) (dyM m c) (aD m c), fun c => halfOf (dxOf (aH m c) (aG m c) (dyM m c) (aD m c)), fun c => dgOf (aH m c) (dyM m c), ?_, ?_⟩
  · refine (θ_run (Cert.PleDxKernelIdeal.defs (F := Ideal)) _ _).mono (fun r h c => ?_) (Cert.PleDxKernelIdeal.Value.run_blocks m g)
    obtain ⟨h0, h1, h2, hr⟩ := h c
    exact ⟨h0.trans (arr_5 m c), h1.trans (arr_6 m c), h2.trans (arr_7 m c), hr⟩
  · refine (θ_run (Cert.PleDxReferenceIdeal.defs (F := Ideal)) _ _).mono (fun r h c => ?_) (Cert.PleDxReferenceIdeal.Value.run m' g')
    obtain ⟨h0, h1, h2, hr⟩ := h c
    obtain ⟨e0, e1, e2, e3, e4⟩ := hagree c
    have e := Cert.PleDxReferenceIdeal.Value.dy_at (aZ m c) (aW m c)
    have f1 := Cert.DxReferenceIdeal.Value.first (aH m c) (aG m c) (aD m c) _ _ e
    have f3 := Cert.DxReferenceIdeal.Value.third (aH m c) _ _ e
    rw [Cert.PleDxReferenceIdeal.Value.res_main_v38, e0, e1, e2, e3, e4] at h0
    rw [Cert.PleDxReferenceIdeal.Value.res_main_v41, e0, e1, e2, e3, e4] at h1
    rw [e0, e2, e3] at h2
    exact ⟨h0.trans f1, h1.trans ((Cert.PleDxReferenceIdeal.Value.half _).trans (congrArg halfOf f1)), h2.trans f3, hr⟩

end Cert.Proof

end
-- ==== Proof.GateGradClaim.lean ====
module

public import proofs.«01_k».proof.Defs
public import proofs.«01_k».proof.Proof.Gen.GateGradKernel
public import proofs.«01_k».proof.Proof.Gen.GateGradKernel.Frame
public import proofs.«01_k».proof.Proof.Gen.GateGradKernelIdeal.Value
public import proofs.«01_k».proof.Proof.Gen.GateGradReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The gradient of the gate's weight. -/

@[expose] public section

noncomputable section

namespace Cert.GateGradKernelIdeal.Gen

open Idealize.ShloMosaic Idealize.ShloMosaic.TcCoe Idealize.ShloMosaic.Tactic
open Cert.Ffn Finset

set_option maxRecDepth 16384

theorem pay_at (x y : Vec Ideal S1x2048x1024 .bf16) (i j : Fin 1024) :
    k0_pay1 x y (ix3 0 i j) = (show EReal from ∑ k : Fin 2048, (show EReal from x (ix3 0 k i)) * (show EReal from y (ix3 0 k j))) := by
  pointwise [k0_pay1]

theorem idx_all : ∀ t : Fin cfg0.N, win0_0.index t = ![0, 0, 0] ∧ win0_1.index t = ![0, 0, 0] ∧ win0_2.index t = ![0, 0, 0] := by decide +kernel

variable (m : (l : Loc nD τ sig) → Buf (Elt Ideal) l) (c : Dev nD)

theorem R_u (k : Fin 2048) (i : Fin 1024) : V m c main_v2 (ix3 0 k i) = m (c, Proc.devRef .tc main_arg0) (ix2 k i) := by
  unfold V
  after_reads_at
  all_goals rfl

theorem R_d (k : Fin 2048) (j : Fin 1024) : V m c main_v3 (ix3 0 k j) = m (c, Proc.devRef .tc main_arg1) (ix2 k j) := by
  unfold V
  after_reads_at
  all_goals rfl

theorem arr : (dats m 0 c).arrAt 2 cfg0.N = gradGate (m (c, Proc.devRef .tc main_arg0)) (m (c, Proc.devRef .tc main_arg1)) := by
  refine (dats m 0 c).arrAt_eq_of_covers 2 _ (by decide +kernel) fun t hf y => ?_
  obtain ⟨a, x, z, rfl⟩ : ∃ (a : Fin 1) (x : Fin 1024) (z : Fin 1024), y = ix3 a x z := ⟨y 0, y 1, y 2, eq_ix3 y⟩
  rw [show a = 0 from Subsingleton.elim _ _]
  obtain ⟨h0, h1, h2⟩ := idx_all t
  have hx (k : Fin 2048) : iblk m c 0 t (ix3 0 k x) = V m c main_v2 (ix3 0 k x) := by
    unfold iblk
    blk_ext [h0]
  have hy (k : Fin 2048) : iblk m c 1 t (ix3 0 k z) = V m c main_v3 (ix3 0 k z) := by
    unfold iblk
    blk_ext [h1]
  rw [after0_2]
  frame_out
  refine ((pay_at (iblk m c 0 t) (iblk m c 1 t) x z).trans (sum_mul_congr (fun k => (hx k).trans (R_u m c k x)) fun k => (hy k).trans (R_d m c k z))).trans ?_
  refine congrArg (gradGate (m (c, Proc.devRef .tc main_arg0)) (m (c, Proc.devRef .tc main_arg1))) (?_ : ix3 0 x z = _)
  funext a
  fin_cases a <;> refine Fin.ext ?_ <;> blk_simp [h2] <;> first | rfl | exact (Nat.zero_add _).symm

end Cert.GateGradKernelIdeal.Gen

namespace Cert.GateGradReferenceIdeal.Value

open Cert.GateGradReferenceIdeal Cert.GateGradReferenceIdeal.Gen Idealize.ShloMosaic Idealize.ShloMosaic.TcCoe Idealize.ShloMosaic.Tactic
open Cert.Ffn Finset

/-- The reference's result. -/
theorem res (u d : FVec Ideal S2048x1024 .f32) :
    shapeCast S1x1024x1024 (truncf .bf16 (transpose S1024x1024 [1, 0] (Host.dotGeneral dot_S2048x1024_S2048x1024_S1024x1024_0_0_1_1_n_n none d u)
      transposes_S1024x1024_S1024x1024_1_0) bitsLt_bf16_f32) shapeCasts_S1024x1024_S1x1024x1024 = gradGate u d := by
  have at_ (j i : Fin 1024) : Host.dotGeneral dot_S2048x1024_S2048x1024_S1024x1024_0_0_1_1_n_n none d u (ix2 j i) = (show EReal from tmm d u j i) := by
    pointwise [tmm]
  funext i
  obtain ⟨s, x, z, rfl⟩ : ∃ (s : Fin 1) (x : Fin 1024) (z : Fin 1024), i = ix3 s x z := ⟨i 0, i 1, i 2, eq_ix3 i⟩
  refine Eq.trans ?_ ((at_ z x).trans (tmm_comm d u _ _))
  rw [show s = 0 from Subsingleton.elim _ _]
  generalize Host.dotGeneral dot_S2048x1024_S2048x1024_S1024x1024_0_0_1_1_n_n none d u = D
  pointwise

end Cert.GateGradReferenceIdeal.Value

namespace Cert.Proof

open Idealize.ShloMosaic Idealize.ShloMosaic.TcCoe Idealize.ShloMosaic.Tactic Idealize.SL.Sem
open Cert.Ffn

/-- The reference leaves its arguments and the counters as they were. -/
theorem gate_grad_reference_frame : Cert.quiescent_GateGradReferenceIdeal (hGateGradReferenceIdeal := Cert.GateGradReferenceIdeal.Gen.facts) := fun m g _ =>
  (θ_run (Cert.GateGradReferenceIdeal.defs (F := Ideal)) _ _).mono
    (fun r h => ⟨fun c => (h c).2, sem_eq_zero_of_no_sems (by decide) r.2⟩) (Cert.GateGradReferenceIdeal.Value.run m g)

/-- Kernel and reference end with the same array. -/
theorem gate_grad_algebraic : Cert.algebraic_GateGradKernelIdeal_GateGradReferenceIdeal (hGateGradKernelIdeal := Cert.GateGradKernelIdeal.Gen.facts)
    (hGateGradReferenceIdeal := Cert.GateGradReferenceIdeal.Gen.facts) := by
  intro m g m' g' _ hagree
  refine ⟨fun c => gradGate (m ((c.tc : Thread _ _).loc Cert.GateGradKernelIdeal.main_arg0)) (m ((c.tc : Thread _ _).loc Cert.GateGradKernelIdeal.main_arg1)), ?_, ?_⟩
  · exact (θ_run (Cert.GateGradKernelIdeal.defs (F := Ideal)) _ _).mono (fun r h c => ⟨(h c).1.trans (Cert.GateGradKernelIdeal.Gen.arr m c), (h c).2⟩)
      (Cert.GateGradKernelIdeal.Value.run_blocks m g)
  · refine (θ_run (Cert.GateGradReferenceIdeal.defs (F := Ideal)) _ _).mono (fun r h c => ?_) (Cert.GateGradReferenceIdeal.Value.run m' g')
    refine ⟨(h c).1.trans ((Cert.GateGradReferenceIdeal.Value.res _ _).trans ?_), (h c).2⟩
    rw [(hagree c).1, (hagree c).2]

end Cert.Proof

end
-- ==== Proof.EmbGradClaim.lean ====
module

public import proofs.«01_k».proof.Defs
public import proofs.«01_k».proof.Proof.Gen.EmbGradKernel
public import proofs.«01_k».proof.Proof.Gen.EmbGradKernel.Frame
public import proofs.«01_k».proof.Proof.Gen.EmbGradKernelIdeal.Value
public import proofs.«01_k».proof.Proof.Gen.EmbGradReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The gradient of the embedding's weight. -/

@[expose] public section

noncomputable section

namespace Cert.EmbGradKernelIdeal.Gen

open Idealize.ShloMosaic Idealize.ShloMosaic.TcCoe Idealize.ShloMosaic.Tactic
open Cert.Ffn Finset

set_option maxRecDepth 16384

theorem pay_at (x y : Vec Ideal S1x2048x256 .bf16) (i j : Fin 256) :
    k0_pay1 x y (ix3 0 i j) = (show EReal from ∑ k : Fin 2048, (show EReal from x (ix3 0 k i)) * (show EReal from y (ix3 0 k j))) := by
  pointwise [k0_pay1]

theorem idx_all : ∀ t : Fin cfg0.N, win0_0.index t = ![0, 0, 0] ∧ win0_1.index t = ![t.val, 0, 0] ∧ win0_2.index t = ![t.val, 0, 0] := by decide +kernel

variable (m : (l : Loc nD τ sig) → Buf (Elt Ideal) l) (c : Dev nD)

theorem R_p (k : Fin 2048) (i : Fin 256) : V m c main_v4 (ix3 0 k i) = m (c, Proc.devRef .tc main_arg0) (ix2 k i) := by
  unfold V
  after_reads_at
  all_goals rfl

theorem R_d (s : Fin 4) (k : Fin 2048) (j : Fin 256) : V m c main_v3 (ix3 s k j) = m (c, Proc.devRef .tc main_arg1) (ix2 k (colq s j)) := by
  unfold V
  after_reads_at
  rfl

theorem arr : (dats m 0 c).arrAt 2 cfg0.N = gradEmb (m (c, Proc.devRef .tc main_arg0)) (m (c, Proc.devRef .tc main_arg1)) := by
  refine (dats m 0 c).arrAt_eq_of_covers 2 _ (by decide +kernel) fun t hf y => ?_
  obtain ⟨a, x, z, rfl⟩ : ∃ (a : Fin 1) (x : Fin 256) (z : Fin 256), y = ix3 a x z := ⟨y 0, y 1, y 2, eq_ix3 y⟩
  rw [show a = 0 from Subsingleton.elim _ _]
  obtain ⟨h0, h1, h2⟩ := idx_all t
  have ht : t.val < 4 := t.isLt
  have hx (k : Fin 2048) : iblk m c 0 t (ix3 0 k x) = V m c main_v4 (ix3 0 k x) := by
    unfold iblk
    blk_ext [h0]
  have hy (k : Fin 2048) : iblk m c 1 t (ix3 0 k z) = V m c main_v3 (ix3 ⟨t.val, ht⟩ k z) := by
    unfold iblk
    blk_ext [h1]
  rw [after0_2]
  frame_out
  refine ((pay_at (iblk m c 0 t) (iblk m c 1 t) x z).trans (sum_mul_congr (fun k => (hx k).trans (R_p m c k x)) fun k => (hy k).trans (R_d m c _ k z))).trans ?_
  refine congrArg (gradEmb (m (c, Proc.devRef .tc main_arg0)) (m (c, Proc.devRef .tc main_arg1))) (?_ : ix3 ⟨t.val, ht⟩ x z = _)
  funext a
  fin_cases a <;> refine Fin.ext ?_ <;> blk_simp [h2] <;> rfl

end Cert.EmbGradKernelIdeal.Gen

namespace Cert.EmbGradReferenceIdeal.Value

open Cert.EmbGradReferenceIdeal Cert.EmbGradReferenceIdeal.Gen Idealize.ShloMosaic Idealize.ShloMosaic.TcCoe Idealize.ShloMosaic.Tactic
open Cert.Ffn Finset

/-- The reference's result. -/
theorem res (p : FVec Ideal S2048x256 .f32) (d : FVec Ideal S2048x1024 .f32) :
    transpose S4x256x256 [1, 0, 2] (shapeCast S256x4x256 (truncf .bf16 (transpose S256x1024 [1, 0] (Host.dotGeneral dot_S2048x1024_S2048x256_S1024x256_0_0_1_1_n_n none d p)
      transposes_S1024x256_S256x1024_1_0) bitsLt_bf16_f32) shapeCasts_S256x1024_S256x4x256) transposes_S256x4x256_S4x256x256_1_0_2 = gradEmb p d := by
  have at_ (j : Fin 1024) (i : Fin 256) : Host.dotGeneral dot_S2048x1024_S2048x256_S1024x256_0_0_1_1_n_n none d p (ix2 j i) = (show EReal from tmm d p j i) := by
    pointwise [tmm]
  funext i
  obtain ⟨s, x, z, rfl⟩ : ∃ (s : Fin 4) (x : Fin 256) (z : Fin 256), i = ix3 s x z := ⟨i 0, i 1, i 2, eq_ix3 i⟩
  refine Eq.trans ?_ ((at_ (colq s z) x).trans (tmm_comm d p _ _))
  generalize Host.dotGeneral dot_S2048x1024_S2048x256_S1024x256_0_0_1_1_n_n none d p = D
  pointwise
  rfl

end Cert.EmbGradReferenceIdeal.Value

namespace Cert.Proof

open Idealize.ShloMosaic Idealize.ShloMosaic.TcCoe Idealize.ShloMosaic.Tactic Idealize.SL.Sem
open Cert.Ffn

/-- The reference leaves its arguments and the counters as they were. -/
theorem emb_grad_reference_frame : Cert.quiescent_EmbGradReferenceIdeal (hEmbGradReferenceIdeal := Cert.EmbGradReferenceIdeal.Gen.facts) := fun m g _ =>
  (θ_run (Cert.EmbGradReferenceIdeal.defs (F := Ideal)) _ _).mono
    (fun r h => ⟨fun c => (h c).2, sem_eq_zero_of_no_sems (by decide) r.2⟩) (Cert.EmbGradReferenceIdeal.Value.run m g)

/-- Kernel and reference end with the same array. -/
theorem emb_grad_algebraic : Cert.algebraic_EmbGradKernelIdeal_EmbGradReferenceIdeal (hEmbGradKernelIdeal := Cert.EmbGradKernelIdeal.Gen.facts)
    (hEmbGradReferenceIdeal := Cert.EmbGradReferenceIdeal.Gen.facts) := by
  intro m g m' g' _ hagree
  refine ⟨fun c => gradEmb (m ((c.tc : Thread _ _).loc Cert.EmbGradKernelIdeal.main_arg0)) (m ((c.tc : Thread _ _).loc Cert.EmbGradKernelIdeal.main_arg1)), ?_, ?_⟩
  · exact (θ_run (Cert.EmbGradKernelIdeal.defs (F := Ideal)) _ _).mono (fun r h c => ⟨(h c).1.trans (Cert.EmbGradKernelIdeal.Gen.arr m c), (h c).2⟩)
      (Cert.EmbGradKernelIdeal.Value.run_blocks m g)
  · refine (θ_run (Cert.EmbGradReferenceIdeal.defs (F := Ideal)) _ _).mono (fun r h c => ?_) (Cert.EmbGradReferenceIdeal.Value.run m' g')
    refine ⟨(h c).1.trans ((Cert.EmbGradReferenceIdeal.Value.res _ _).trans ?_), (h c).2⟩
    rw [(hagree c).1, (hagree c).2]

end Cert.Proof

end
-- ==== Proof.PleClaim.lean ====
module

public import proofs.«01_k».proof.Defs
public import proofs.«01_k».proof.Proof.Gen.PleKernel
public import proofs.«01_k».proof.Proof.Gen.PleKernel.Frame
public import proofs.«01_k».proof.Proof.Gen.PleKernelIdeal.Value
public import proofs.«01_k».proof.Proof.Gen.PleReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The gated embedding, added to the rows. -/

@[expose] public section

noncomputable section

namespace Cert.PleKernelIdeal.Gen

open Idealize.ShloMosaic Idealize.ShloMosaic.TcCoe Idealize.ShloMosaic.Tactic
open Cert.Ffn Finset

set_option maxRecDepth 16384

theorem pay_at (x : Vec Ideal S512x1024 .bf16) (g : Vec Ideal S1024x256 .bf16) (h : Vec Ideal S512x256 .f32) (o : Vec Ideal S1x1 .f32) (p : Vec Ideal S512x256 .bf16) (w : Vec Ideal S1x256x256 .bf16)
    (i : Fin 512) (j : Fin 256) : k0_pay1 x g h o p w (ix2 i j) = (show EReal from (show EReal from h (ix2 i j)) + (show EReal from o (ix2 0 0))
      + (∑ k : Fin 256, (show EReal from p (ix2 i k)) * (show EReal from w (ix3 0 k j))) * sgm (∑ k : Fin 1024, (show EReal from x (ix2 i k)) * (show EReal from g (ix2 k j)))) := by
  pointwise [k0_pay1, sgm]
  generalize (∑ k : Fin 1024, (show EReal from x (ix2 i k)) * (show EReal from g (ix2 k j))) = a
  rw [show (0 : EReal) - a = -a from zero_sub (G := EReal) _]

theorem idx_all : ∀ t : Fin cfg0.N, win0_0.index t = ![t.val % 4, 0] ∧ win0_1.index t = ![t.val % 4, 0] ∧ win0_2.index t = ![0, t.val / 4]
    ∧ win0_3.index t = ![t.val / 4, 0, 0] ∧ win0_4.index t = ![t.val % 4, t.val / 4] ∧ win0_5.index t = ![0, 0] ∧ win0_6.index t = ![t.val % 4, t.val / 4] := by decide +kernel

variable (m : (l : Loc nD τ sig) → Buf (Elt Ideal) l) (c : Dev nD)

/-- The arguments. -/
abbrev A0 : FVec Ideal S2048x1024 .f32 := m (c, Proc.devRef .tc main_arg0)

abbrev A1 : FVec Ideal S2048x256 .f32 := m (c, Proc.devRef .tc main_arg1)

abbrev A2 : FVec Ideal S1024x1024 .f32 := m (c, Proc.devRef .tc main_arg2)

abbrev A3 : FVec Ideal S256x1024 .f32 := m (c, Proc.devRef .tc main_arg3)

abbrev A4 : FVec Ideal S2048x1024 .f32 := m (c, Proc.devRef .tc main_arg4)

theorem R_u (i : Fin 2048) (k : Fin 1024) : V m c main_v0 (ix2 i k) = A0 m c (ix2 i k) := by
  unfold V
  after_reads_at
  all_goals rfl

theorem R_p (i : Fin 2048) (k : Fin 256) : V m c main_v1 (ix2 i k) = A1 m c (ix2 i k) := by
  unfold V
  after_reads_at
  all_goals rfl

theorem R_g (k j : Fin 1024) : V m c main_v2 (ix2 k j) = A2 m c (ix2 k j) := by
  unfold V
  after_reads_at
  all_goals rfl

theorem R_w (s : Fin 4) (k j : Fin 256) : V m c main_v5 (ix3 s k j) = A3 m c (ix2 k (colq s j)) := by
  unfold V
  after_reads_at
  rfl

theorem R_t : V m c main_v6 (ix2 0 0) = (show EReal from 0) := by
  unfold V
  after_reads_at
  all_goals first | rfl | exact Ideal.ofBits_zero .f32

section
variable (t : Fin cfg0.N)

theorem t_div : t.val / 4 < 4 := by
  have : t.val < 16 := t.isLt
  omega

theorem t_mod : t.val % 4 < 4 := Nat.mod_lt _ (by decide)

theorem B_u (i : Fin 512) (k : Fin 1024) : iblk m c 0 t (ix2 i k) = V m c main_v0 (ix2 (rowOf (t.val % 4) (t_mod t) i) k) := by
  unfold iblk
  blk_ext [(idx_all t).1]
  all_goals rfl

theorem B_p (i : Fin 512) (k : Fin 256) : iblk m c 1 t (ix2 i k) = V m c main_v1 (ix2 (rowOf (t.val % 4) (t_mod t) i) k) := by
  unfold iblk
  blk_ext [(idx_all t).2.1]
  all_goals rfl

theorem B_g (k : Fin 1024) (j : Fin 256) : iblk m c 2 t (ix2 k j) = V m c main_v2 (ix2 k (colq ⟨t.val / 4, t_div t⟩ j)) := by
  unfold iblk
  blk_ext [(idx_all t).2.2.1]
  all_goals rfl

theorem B_w (k j : Fin 256) : iblk m c 3 t (ix3 0 k j) = V m c main_v5 (ix3 ⟨t.val / 4, t_div t⟩ k j) := by
  unfold iblk
  blk_ext [(idx_all t).2.2.2.1]

theorem B_h (i : Fin 512) (j : Fin 256) : iblk m c 4 t (ix2 i j) = A4 m c (ix2 (rowOf (t.val % 4) (t_mod t) i) (colq ⟨t.val / 4, t_div t⟩ j)) := by
  unfold iblk
  blk_ext [(idx_all t).2.2.2.2.1]
  all_goals rfl

theorem B_t : iblk m c 5 t (ix2 0 0) = V m c main_v6 (ix2 0 0) := by
  unfold iblk
  blk_ext [(idx_all t).2.2.2.2.2.1]

/-- The entry that is loaded from the block of zeros. -/
theorem tok : View.ld (iblk m c 5 t) (Rect.unit (s := S8x128) ![0, 0] S1x1.size inb_S8x128_S1x1_0_0) (ix2 0 0) = (show EReal from 0) := by
  refine Eq.trans (congrArg (iblk m c 5 t) (?_ : _ = ix2 0 0)) ((B_t m c t).trans (R_t m c))
  funext d
  fin_cases d <;> exact Fin.ext rfl

/-- The products of one grid point. -/
theorem dot_g (i : Fin 512) (j : Fin 256) :
    (∑ k : Fin 1024, (show EReal from iblk m c 0 t (ix2 i k)) * (show EReal from iblk m c 2 t (ix2 k j)))
      = mm (A0 m c) (A2 m c) (rowOf (t.val % 4) (t_mod t) i) (colq ⟨t.val / 4, t_div t⟩ j) :=
  sum_mul_congr (fun k => (B_u m c t i k).trans (R_u m c _ k)) fun k => (B_g m c t k j).trans (R_g m c k _)

theorem dot_p (i : Fin 512) (j : Fin 256) :
    (∑ k : Fin 256, (show EReal from iblk m c 1 t (ix2 i k)) * (show EReal from iblk m c 3 t (ix3 0 k j)))
      = mm (A1 m c) (A3 m c) (rowOf (t.val % 4) (t_mod t) i) (colq ⟨t.val / 4, t_div t⟩ j) :=
  sum_mul_congr (fun k => (B_p m c t i k).trans (R_p m c _ k)) fun k => (B_w m c t k j).trans (R_w m c _ k j)

end

theorem arr_6 : (dats m 0 c).arrAt 6 cfg0.N = pleOf (A0 m c) (A1 m c) (A2 m c) (A3 m c) (A4 m c) := by
  refine (dats m 0 c).arrAt_eq_of_covers 6 _ (by decide +kernel) fun t hf y => ?_
  obtain ⟨x, z, rfl⟩ : ∃ (x : Fin 512) (z : Fin 256), y = ix2 x z := ⟨y 0, y 1, eq_ix2 y⟩
  rw [after0_6]
  frame_out
  refine (pay_at (iblk m c 0 t) (iblk m c 2 t) (iblk m c 4 t) _ (iblk m c 1 t) (iblk m c 3 t) x z).trans ?_
  refine (congrArg₂ (fun a b : EReal => a + b) ((congrArg₂ (fun a b : EReal => a + b) (B_h m c t x z) (tok m c t)).trans (add_zero (M := EReal) _))
    (congrArg₂ (fun a b : EReal => b * sgm a) (dot_g m c t x z) (dot_p m c t x z))).trans ?_
  refine congrArg (pleOf (A0 m c) (A1 m c) (A2 m c) (A3 m c) (A4 m c))
    (?_ : ix2 (rowOf (t.val % 4) (t_mod t) x) (colq ⟨t.val / 4, t_div t⟩ z) = _)
  funext a
  fin_cases a <;> refine Fin.ext ?_ <;> blk_simp [(idx_all t).2.2.2.2.2.2] <;> rfl

end Cert.PleKernelIdeal.Gen

namespace Cert.PleReferenceIdeal.Value

open Cert.PleReferenceIdeal Cert.PleReferenceIdeal.Gen Idealize.ShloMosaic Idealize.ShloMosaic.TcCoe Idealize.ShloMosaic.Tactic
open Cert.Ffn Finset

/-- The reference's result. -/
theorem res (u : FVec Ideal S2048x1024 .f32) (p : FVec Ideal S2048x256 .f32) (wg : FVec Ideal S1024x1024 .f32) (wp : FVec Ideal S256x1024 .f32) (h : FVec Ideal S2048x1024 .f32) :
    addf h (mulf (Host.dotGeneral dot_S2048x256_S256x1024_S2048x1024_1_0_0_1_n_n none p wp) (Host.divf (broadcastInDim S2048x1024 ![] bcast_S_S2048x1024 (constant S_ .f32 0x3F800000#32))
      (addf (broadcastInDim S2048x1024 ![] bcast_S_S2048x1024 (constant S_ .f32 0x3F800000#32)) (Host.exp (Host.negf (Host.dotGeneral dot_S2048x1024_S1024x1024_S2048x1024_1_0_0_1_n_n none u wg))))))
      = pleOf u p wg wp h := by
  funext i
  obtain ⟨x, z, rfl⟩ : ∃ (x : Fin 2048) (z : Fin 1024), i = ix2 x z := ⟨i 0, i 1, eq_ix2 i⟩
  show _ = (show EReal from (show EReal from h (ix2 x z)) + mm p wp x z * sgm (mm u wg x z))
  pointwise [mm, sgm]

end Cert.PleReferenceIdeal.Value

namespace Cert.Proof

open Idealize.ShloMosaic Idealize.ShloMosaic.TcCoe Idealize.ShloMosaic.Tactic Idealize.SL.Sem
open Cert.Ffn Cert.PleKernelIdeal.Gen

/-- The reference leaves its arguments and the counters as they were. -/
theorem ple_reference_frame : Cert.quiescent_PleReferenceIdeal (hPleReferenceIdeal := Cert.PleReferenceIdeal.Gen.facts) := fun m g _ =>
  (θ_run (Cert.PleReferenceIdeal.defs (F := Ideal)) _ _).mono
    (fun r h => ⟨fun c => (h c).2, sem_eq_zero_of_no_sems (by decide) r.2⟩) (Cert.PleReferenceIdeal.Value.run m g)

/-- Kernel and reference end with the same array. -/
theorem ple_algebraic : Cert.algebraic_PleKernelIdeal_PleReferenceIdeal (hPleKernelIdeal := Cert.PleKernelIdeal.Gen.facts)
    (hPleReferenceIdeal := Cert.PleReferenceIdeal.Gen.facts) := by
  intro m g m' g' _ hagree
  refine ⟨fun c => pleOf (A0 m c) (A1 m c) (A2 m c) (A3 m c) (A4 m c), ?_, ?_⟩
  · exact (θ_run (Cert.PleKernelIdeal.defs (F := Ideal)) _ _).mono (fun r h c => ⟨(h c).1.trans (arr_6 m c), (h c).2⟩)
      (Cert.PleKernelIdeal.Value.run_blocks m g)
  · refine (θ_run (Cert.PleReferenceIdeal.defs (F := Ideal)) _ _).mono (fun r h c => ?_) (Cert.PleReferenceIdeal.Value.run m' g')
    refine ⟨(h c).1.trans ((Cert.PleReferenceIdeal.Value.res _ _ _ _ _).trans ?_), (h c).2⟩
    obtain ⟨e0, e1, e2, e3, e4⟩ := hagree c
    rw [e0, e1, e2, e3, e4]

end Cert.Proof

end
-- ==== Proof.GluSpec.lean ====
module

public import proofs.«01_k».proof.Proof.LayerSpec

/-! The gated unit of the mixer's two inner parts: what it computes for a row of 512 entries. -/

@[expose] public section

noncomputable section

namespace Cert.Ffn

open Idealize.ShloMosaic

/-- The gradient of the gated unit's weight. -/
def gradGlu (u d : FVec Ideal ⟨2, ![2048, 512]⟩ .f32) : FVec Ideal ⟨3, ![1, 512, 512]⟩ .bf16 := fun i =>
  (show EReal from tmm u d (i 1) (i 2))

/-- The gelu's argument of the hyperbolic tangent, and the gelu. -/
def geluTanh (y : EReal) : EReal :=
  Ideal.tanh (Ideal.ofBits .f32 0x3F4C422A#32 * (y + Ideal.ofBits .f32 0x3D372713#32 * (y * y * y)))

def gelu (y : EReal) : EReal := y * (Ideal.ofBits .f32 0x3F000000#32 * (1 + geluTanh y))

/-- The same with the factors in another order. -/
theorem gelu_eq (y : EReal) : Ideal.ofBits .f32 0x3F000000#32 * y * (1 + Ideal.tanh (Ideal.ofBits .f32 0x3F4C422A#32
    * (y + Ideal.ofBits .f32 0x3D372713#32 * y * y * y))) = gelu y := by
  rw [gelu, geluTanh]
  simp only [mul_assoc (G := EReal), mul_left_comm (G := EReal) y]

/-- The mean square of a row, and a row's entry after the normalization with scale `g`. -/
def msq5 (x : Fin 512 → EReal) : EReal := Ideal.div (∑ k, x k * x k) (Ideal.ofBits .f32 0x44000000#32) + Ideal.ofBits .f32 0x358637BD#32

def normRow5 (x g : Fin 512 → EReal) (k : Fin 512) : EReal := x k * Ideal.rsqrt (msq5 x) * g k

/-- The gate's argument and the gated row. -/
def gluPre (z : Fin 512 → EReal) (w : Fin 512 → Fin 512 → EReal) (b : Fin 512 → EReal) (k : Fin 512) : EReal := (∑ j, z j * w j k) + b k

def gluRow (z : Fin 512 → EReal) (w : Fin 512 → Fin 512 → EReal) (b : Fin 512 → EReal) (k : Fin 512) : EReal := z k * sgm (gluPre z w b k)

variable (y : FVec Ideal ⟨2, ![2048, 512]⟩ .f32) (w : FVec Ideal ⟨2, ![512, 512]⟩ .f32) (b g : FVec Ideal ⟨1, ![512]⟩ .f32)

/-- The gated unit, normalized. -/
def gluOf : FVec Ideal ⟨2, ![2048, 512]⟩ .bf16 := fun i =>
  (show EReal from normRow5 (gluRow (fun k => gelu (y (ix2 (i 0) k))) (fun j k => w (ix2 j k)) (fun k => b (ix1 k))) (fun k => g (ix1 k)) (i 1))

end Cert.Ffn

end
-- ==== Proof.GluGradClaim.lean ====
module

public import proofs.«01_k».proof.Defs
public import proofs.«01_k».proof.Proof.Gen.GluGradKernel
public import proofs.«01_k».proof.Proof.Gen.GluGradKernel.Frame
public import proofs.«01_k».proof.Proof.Gen.GluGradKernelIdeal.Value
public import proofs.«01_k».proof.Proof.Gen.GluGradReferenceIdeal.Run
public import proofs.«01_k».proof.Proof.GluSpec
public import Idealize.ShloMosaic.Lib.Pipeline.ValueKit
public import Idealize.ShloMosaic.Lib.StableHlo.ReadAt
public import Idealize.ShloMosaic.Adequacy
public import Idealize.ShloMosaic.Lib.Claim

/-! The gradient of the gated unit's weight. -/

@[expose] public section

noncomputable section

namespace Cert.GluGradKernelIdeal.Gen

open Idealize.ShloMosaic Idealize.ShloMosaic.TcCoe Idealize.ShloMosaic.Tactic
open Cert.Ffn Finset

set_option maxRecDepth 16384

theorem pay_at (x y : Vec Ideal S1x2048x512 .bf16) (i j : Fin 512) :
    k0_pay1 x y (ix3 0 i j) = (show EReal from ∑ k : Fin 2048, (show EReal from x (ix3 0 k i)) * (show EReal from y (ix3 0 k j))) := by
  pointwise [k0_pay1]

theorem idx_all : ∀ t : Fin cfg0.N, win0_0.index t = ![0, 0, 0] ∧ win0_1.index t = ![0, 0, 0] ∧ win0_2.index t = ![0, 0, 0] := by decide +kernel

variable (m : (l : Loc nD τ sig) → Buf (Elt Ideal) l) (c : Dev nD)

theorem R_u (k : Fin 2048) (i : Fin 512) : V m c main_v2 (ix3 0 k i) = m (c, Proc.devRef .tc main_arg0) (ix2 k i) := by
  unfold V
  after_reads_at
  all_goals rfl

theorem R_d (k : Fin 2048) (j : Fin 512) : V m c main_v3 (ix3 0 k j) = m (c, Proc.devRef .tc main_arg1) (ix2 k j) := by
  unfold V
  after_reads_at
  all_goals rfl

theorem arr : (dats m 0 c).arrAt 2 cfg0.N = gradGlu (m (c, Proc.devRef .tc main_arg0)) (m (c, Proc.devRef .tc main_arg1)) := by
  refine (dats m 0 c).arrAt_eq_of_covers 2 _ (by decide +kernel) fun t hf y => ?_
  obtain ⟨a, x, z, rfl⟩ : ∃ (a : Fin 1) (x : Fin 512) (z : Fin 512), y = ix3 a x z := ⟨y 0, y 1, y 2, eq_ix3 y⟩
  rw [show a = 0 from Subsingleton.elim _ _]
  obtain ⟨h0, h1, h2⟩ := idx_all t
  have hx (k : Fin 2048) : iblk m c 0 t (ix3 0 k x) = V m c main_v2 (ix3 0 k x) := by
    unfold iblk
    blk_ext [h0]
  have hy (k : Fin 2048) : iblk m c 1 t (ix3 0 k z) = V m c main_v3 (ix3 0 k z) := by
    unfold iblk
    blk_ext [h1]
  rw [after0_2]
  frame_out
  refine ((pay_at (iblk m c 0 t) (iblk m c 1 t) x z).trans (sum_mul_congr (fun k => (hx k).trans (R_u m c k x)) fun k => (hy k).trans (R_d m c k z))).trans ?_
  refine congrArg (gradGlu (m (c, Proc.devRef .tc main_arg0)) (m (c, Proc.devRef .tc main_arg1))) (?_ : ix3 0 x z = _)
  funext a
  fin_cases a <;> refine Fin.ext ?_ <;> blk_simp [h2] <;> first | rfl | exact (Nat.zero_add _).symm

end Cert.GluGradKernelIdeal.Gen

namespace Cert.GluGradReferenceIdeal.Value

open Cert.GluGradReferenceIdeal Cert.GluGradReferenceIdeal.Gen Idealize.ShloMosaic Idealize.ShloMosaic.TcCoe Idealize.ShloMosaic.Tactic
open Cert.Ffn Finset

/-- The reference's result. -/
theorem res (u d : FVec Ideal S2048x512 .f32) :
    shapeCast S1x512x512 (truncf .bf16 (transpose S512x512 [1, 0] (Host.dotGeneral dot_S2048x512_S2048x512_S512x512_0_0_1_1_n_n none d u)
      transposes_S512x512_S512x512_1_0) bitsLt_bf16_f32) shapeCasts_S512x512_S1x512x512 = gradGlu u d := by
  have at_ (j i : Fin 512) : Host.dotGeneral dot_S2048x512_S2048x512_S512x512_0_0_1_1_n_n none d u (ix2 j i) = (show EReal from tmm d u j i) := by
    pointwise [tmm]
  funext i
  obtain ⟨s, x, z, rfl⟩ : ∃ (s : Fin 1) (x : Fin 512) (z : Fin 512), i = ix3 s x z := ⟨i 0, i 1, i 2, eq_ix3 i⟩
  refine Eq.trans ?_ ((at_ z x).trans (tmm_comm d u _ _))
  rw [show s = 0 from Subsingleton.elim _ _]
  generalize Host.dotGeneral dot_S2048x512_S2048x512_S512x512_0_0_1_1_n_n none d u = D
  pointwise

end Cert.GluGradReferenceIdeal.Value

namespace Cert.Proof

open Idealize.ShloMosaic Idealize.ShloMosaic.TcCoe Idealize.ShloMosaic.Tactic Idealize.SL.Sem
open Cert.Ffn

/-- The reference leaves its arguments and the counters as they were. -/
theorem glu_grad_reference_frame : Cert.quiescent_GluGradReferenceIdeal (hGluGradReferenceIdeal := Cert.GluGradReferenceIdeal.Gen.facts) := fun m g _ =>
  (θ_run (Cert.GluGradReferenceIdeal.defs (F := Ideal)) _ _).mono
    (fun r h => ⟨fun c => (h c).2, sem_eq_zero_of_no_sems (by decide) r.2⟩) (Cert.GluGradReferenceIdeal.Value.run m g)

/-- Kernel and reference end with the same array. -/
theorem glu_grad_algebraic : Cert.algebraic_GluGradKernelIdeal_GluGradReferenceIdeal (hGluGradKernelIdeal := Cert.GluGradKernelIdeal.Gen.facts)
    (hGluGradReferenceIdeal := Cert.GluGradReferenceIdeal.Gen.facts) := by
  intro m g m' g' _ hagree
  refine ⟨fun c => gradGlu (m ((c.tc : Thread _ _).loc Cert.GluGradKernelIdeal.main_arg0)) (m ((c.tc : Thread _ _).loc Cert.GluGradKernelIdeal.main_arg1)), ?_, ?_⟩
  · exact (θ_run (Cert.GluGradKernelIdeal.defs (F := Ideal)) _ _).mono (fun r h c => ⟨(h c).1.trans (Cert.GluGradKernelIdeal.Gen.arr m c), (h c).2⟩)
      (Cert.GluGradKernelIdeal.Value.run_blocks m g)
  · refine (θ_run (Cert.GluGradReferenceIdeal.defs (F := Ideal)) _ _).mono (fun r h c => ?_) (Cert.GluGradReferenceIdeal.Value.run m' g')
    refine ⟨(h c).1.trans ((Cert.GluGradReferenceIdeal.Value.res _ _).trans ?_), (h c).2⟩
    rw [(hagree c).1, (hagree c).2]

end Cert.Proof

end
-- ==== Proof.GluClaim.lean ====
module

public import proofs.«01_k».proof.Defs
public import proofs.«01_k».proof.Proof.Gen.GluKernel
public import proofs.«01_k».proof.Proof.Gen.GluKernel.Frame
public import proofs.«01_k».proof.Proof.Gen.GluKernelIdeal.Value
public import proofs.«01_k».proof.Proof.Gen.GluReferenceIdeal.Run
public import proofs.«01_k».proof.Proof.GluSpec
public import Idealize.ShloMosaic.Lib.Pipeline.ValueKit
public import Idealize.ShloMosaic.Lib.StableHlo.ReadAt
public import Idealize.ShloMosaic.Adequacy
public import Idealize.ShloMosaic.Lib.Claim

/-! The gated unit, normalized. -/

@[expose] public section

noncomputable section

namespace Cert.GluKernelIdeal.Gen

open Idealize.ShloMosaic Idealize.ShloMosaic.TcCoe Idealize.ShloMosaic.Tactic
open Cert.Ffn Finset

set_option maxRecDepth 16384

theorem pay2_at (y : Vec Ideal S512x512 .f32) (w : Vec Ideal S512x512 .bf16) (b : Vec Ideal S1x512 .f32) (i k : Fin 512) :
    k0_pay2 y w b (ix2 i k) = (show EReal from gluRow (fun k => gelu (y (ix2 i k))) (fun j k => w (ix2 j k)) (fun k => b (ix2 0 k)) k
      * Ideal.rsqrt (msq5 (gluRow (fun k => gelu (y (ix2 i k))) (fun j k => w (ix2 j k)) (fun k => b (ix2 0 k))))) := by
  pointwise [k0_pay2, gluRow, gluPre, sgm, msq5]
  simp only [zero_sub (G := EReal), gelu_eq]

theorem pay1_at (x : FVec Ideal S512x512 .f32) (g : Vec Ideal S1x512 .f32) (i k : Fin 512) :
    k0_pay1 x g (ix2 i k) = (show EReal from (show EReal from x (ix2 i k)) * (show EReal from g (ix2 0 k))) := by
  pointwise [k0_pay1]

theorem idx_all : ∀ t : Fin cfg0.N, win0_0.index t = ![t.val, 0] ∧ win0_1.index t = ![0, 0] ∧ win0_2.index t = ![0, 0] ∧ win0_3.index t = ![0, 0]
    ∧ win0_4.index t = ![t.val, 0] := by decide +kernel

variable (m : (l : Loc nD τ sig) → Buf (Elt Ideal) l) (c : Dev nD)

/-- The arguments. -/
abbrev A0 : FVec Ideal S2048x512 .f32 := m (c, Proc.devRef .tc main_arg0)

abbrev A1 : FVec Ideal S512x512 .f32 := m (c, Proc.devRef .tc main_arg1)

abbrev A2 : FVec Ideal S512 .f32 := m (c, Proc.devRef .tc main_arg2)

abbrev A3 : FVec Ideal S512 .f32 := m (c, Proc.devRef .tc main_arg3)

theorem R_w (j k : Fin 512) : V m c main_v0 (ix2 j k) = A1 m c (ix2 j k) := by
  unfold V
  after_reads_at
  all_goals rfl

theorem R_b (k : Fin 512) : V m c main_v1 (ix2 0 k) = A2 m c (ix1 k) := by
  unfold V
  after_reads_at
  all_goals rfl

theorem R_g (k : Fin 512) : V m c main_v2 (ix2 0 k) = A3 m c (ix1 k) := by
  unfold V
  after_reads_at
  all_goals rfl

section
variable (t : Fin cfg0.N)

theorem t_lt : t.val < 4 := t.isLt

theorem B_y (i k : Fin 512) : iblk m c 0 t (ix2 i k) = A0 m c (ix2 (rowOf t.val (t_lt t) i) k) := by
  unfold iblk
  blk_ext [(idx_all t).1]
  all_goals rfl

theorem B_w (j k : Fin 512) : iblk m c 1 t (ix2 j k) = A1 m c (ix2 j k) := by
  refine Eq.trans ?_ (R_w m c j k)
  unfold iblk
  blk_ext [(idx_all t).2.1]

theorem B_b (k : Fin 512) : iblk m c 2 t (ix2 0 k) = A2 m c (ix1 k) := by
  refine Eq.trans ?_ (R_b m c k)
  unfold iblk
  blk_ext [(idx_all t).2.2.1]

theorem B_g (k : Fin 512) : iblk m c 3 t (ix2 0 k) = A3 m c (ix1 k) := by
  refine Eq.trans ?_ (R_g m c k)
  unfold iblk
  blk_ext [(idx_all t).2.2.2.1]

theorem row_at (i : Fin 512) : gluRow (fun k => gelu (iblk m c 0 t (ix2 i k))) (fun j k => iblk m c 1 t (ix2 j k)) (fun k => iblk m c 2 t (ix2 0 k))
    = gluRow (fun k => gelu (A0 m c (ix2 (rowOf t.val (t_lt t) i) k))) (fun j k => A1 m c (ix2 j k)) (fun k => A2 m c (ix1 k)) := by
  have h0 : (fun k => gelu (iblk m c 0 t (ix2 i k))) = fun k => gelu (A0 m c (ix2 (rowOf t.val (t_lt t) i) k)) := funext fun k => congrArg gelu (B_y m c t i k)
  have h1 : (fun j k => (show EReal from iblk m c 1 t (ix2 j k))) = fun j k => A1 m c (ix2 j k) := funext fun j => funext fun k => B_w m c t j k
  have h2 : (fun k => (show EReal from iblk m c 2 t (ix2 0 k))) = fun k => A2 m c (ix1 k) := funext fun k => B_b m c t k
  exact (congrArg (fun z => gluRow z _ _) h0).trans ((congrArg (fun w => gluRow _ w _) h1).trans (congrArg (gluRow _ _) h2))

end

theorem arr : (dats m 0 c).arrAt 4 cfg0.N = gluOf (A0 m c) (A1 m c) (A2 m c) (A3 m c) := by
  refine (dats m 0 c).arrAt_eq_of_covers 4 _ (by decide +kernel) fun t hf y => ?_
  obtain ⟨x, z, rfl⟩ : ∃ (x : Fin 512) (z : Fin 512), y = ix2 x z := ⟨y 0, y 1, eq_ix2 y⟩
  rw [after0_4]
  frame_out
  refine ((pay1_at _ _ x z).trans (congrArg₂ (fun r g : EReal => r * g) ((pay2_at _ _ _ x z).trans
    (congrArg (fun r => r z * Ideal.rsqrt (msq5 r)) (row_at m c t x))) (B_g m c t z))).trans ?_
  refine congrArg (gluOf (A0 m c) (A1 m c) (A2 m c) (A3 m c)) (?_ : ix2 (rowOf t.val (t_lt t) x) z = _)
  funext a
  fin_cases a <;> refine Fin.ext ?_ <;> blk_simp [(idx_all t).2.2.2.2] <;> rfl

end Cert.GluKernelIdeal.Gen

namespace Cert.GluReferenceIdeal.Value

open Cert.GluReferenceIdeal Cert.GluReferenceIdeal.Gen Idealize.ShloMosaic Idealize.ShloMosaic.TcCoe Idealize.ShloMosaic.Tactic
open Cert.Ffn Finset

set_option maxRecDepth 16384

variable (y z H : FVec Ideal S2048x512 .f32) (w : FVec Ideal S512x512 .f32) (b g : FVec Ideal S512 .f32)

/-- The gelu, the gated rows and the normalized rows, as the reference computes them. -/
abbrev rGelu : FVec Ideal S2048x512 .f32 :=
  mulf y (mulf (broadcastInDim S2048x512 ![] bcast_S_S2048x512 (constant S_ .f32 0x3F000000#32)) (addf (broadcastInDim S2048x512 ![] bcast_S_S2048x512 (constant S_ .f32 0x3F800000#32)) (Host.tanh (mulf (broadcastInDim S2048x512 ![] bcast_S_S2048x512 (constant S_ .f32 0x3F4C422A#32)) (addf y (mulf (broadcastInDim S2048x512 ![] bcast_S_S2048x512 (constant S_ .f32 0x3D372713#32)) (mulf (mulf y y) y)))))))

abbrev rGate : FVec Ideal S2048x512 .f32 :=
  mulf z (Host.divf (broadcastInDim S2048x512 ![] bcast_S_S2048x512 (constant S_ .f32 0x3F800000#32)) (addf (broadcastInDim S2048x512 ![] bcast_S_S2048x512 (constant S_ .f32 0x3F800000#32)) (Host.exp (Host.negf (addf (Host.dotGeneral dot_S2048x512_S512x512_S2048x512_1_0_0_1_n_n none z w) (broadcastInDim S2048x512 ![0, 1] bcast_S1x512_S2048x512_0_1 (broadcastInDim S1x512 ![1] bcast_S512_S1x512_1 b)))))))

abbrev rNorm : FVec Ideal S2048x512 .bf16 :=
  truncf .bf16 (mulf (mulf H (broadcastInDim S2048x512 ![0, 1] bcast_S2048x1_S2048x512_0_1 (Host.rsqrt (addf (Host.divf (broadcastInDim S2048x1 ![0] bcast_S2048_S2048x1_0 (Host.reduceAdd (mulf H H) (constant S_ .f32 0x00000000#32) reducesTo_S2048x512_S2048_d1 h_S_)) (broadcastInDim S2048x1 ![] bcast_S_S2048x1 (constant S_ .f32 0x44000000#32))) (broadcastInDim S2048x1 ![] bcast_S_S2048x1 (constant S_ .f32 0x358637BD#32))))))
    (broadcastInDim S2048x512 ![0, 1] bcast_S1x512_S2048x512_0_1 (broadcastInDim S1x512 ![1] bcast_S512_S1x512_1 g))) bitsLt_bf16_f32

theorem rGelu_at (i : Fin 2048) (k : Fin 512) : rGelu y (ix2 i k) = (show EReal from gelu (y (ix2 i k))) := by
  pointwise [gelu, geluTanh]

theorem rGate_at (i : Fin 2048) (k : Fin 512) : rGate z w b (ix2 i k) = (show EReal from gluRow (fun k => z (ix2 i k)) (fun j k => w (ix2 j k)) (fun k => b (ix1 k)) k) := by
  pointwise [gluRow, gluPre, sgm]

theorem rNorm_at (i : Fin 2048) (k : Fin 512) : rNorm H g (ix2 i k) = (show EReal from normRow5 (fun k => H (ix2 i k)) (fun k => g (ix1 k)) k) := by
  pointwise [normRow5, msq5]

/-- The reference's result. -/
theorem norm : rNorm (rGate (rGelu y) w b) g = gluOf y w b g := by
  funext i
  obtain ⟨x, k, rfl⟩ : ∃ (x : Fin 2048) (k : Fin 512), i = ix2 x k := ⟨i 0, i 1, eq_ix2 i⟩
  refine (rNorm_at _ g x k).trans (congrArg (fun r => normRow5 r (fun k => g (ix1 k)) k) (funext fun k => (rGate_at _ w b x k).trans ?_))
  exact congrArg (fun z => gluRow z (fun j k => w (ix2 j k)) (fun k => b (ix1 k)) k) (funext fun k => rGelu_at y x k)

theorem res (m : (ℓ : Loc nD τ sig) → Buf (Elt Ideal) ℓ) (c : Dev nD) : res_main_v37 m c = gluOf (m ((c.tc : Thread nD τ).loc main_arg0)) (m ((c.tc : Thread nD τ).loc main_arg1))
    (m ((c.tc : Thread nD τ).loc main_arg2)) (m ((c.tc : Thread nD τ).loc main_arg3)) := by
  unfold res_main_v37
  exact norm _ _ _ _

end Cert.GluReferenceIdeal.Value

namespace Cert.Proof

open Idealize.ShloMosaic Idealize.ShloMosaic.TcCoe Idealize.ShloMosaic.Tactic Idealize.SL.Sem
open Cert.Ffn Cert.GluKernelIdeal.Gen

/-- The reference leaves its arguments and the counters as they were. -/
theorem glu_reference_frame : Cert.quiescent_GluReferenceIdeal (hGluReferenceIdeal := Cert.GluReferenceIdeal.Gen.facts) := fun m g _ =>
  (θ_run (Cert.GluReferenceIdeal.defs (F := Ideal)) _ _).mono
    (fun r h => ⟨fun c => (h c).2, sem_eq_zero_of_no_sems (by decide) r.2⟩) (Cert.GluReferenceIdeal.Value.run m g)

/-- Kernel and reference end with the same array. -/
theorem glu_algebraic : Cert.algebraic_GluKernelIdeal_GluReferenceIdeal (hGluKernelIdeal := Cert.GluKernelIdeal.Gen.facts)
    (hGluReferenceIdeal := Cert.GluReferenceIdeal.Gen.facts) := by
  intro m g m' g' _ hagree
  refine ⟨fun c => gluOf (A0 m c) (A1 m c) (A2 m c) (A3 m c), ?_, ?_⟩
  · exact (θ_run (Cert.GluKernelIdeal.defs (F := Ideal)) _ _).mono (fun r h c => ⟨(h c).1.trans (arr m c), (h c).2⟩)
      (Cert.GluKernelIdeal.Value.run_blocks m g)
  · refine (θ_run (Cert.GluReferenceIdeal.defs (F := Ideal)) _ _).mono (fun r h c => ?_) (Cert.GluReferenceIdeal.Value.run m' g')
    obtain ⟨e0, e1, e2, e3⟩ := hagree c
    refine ⟨(h c).1.trans ((Cert.GluReferenceIdeal.Value.res m' c).trans ?_), (h c).2⟩
    rw [e0, e1, e2, e3]

end Cert.Proof

end
-- ==== Proof.NormClaim.lean ====
module

public import proofs.«01_k».proof.Defs
public import proofs.«01_k».proof.Proof.Gen.NormKernel
public import proofs.«01_k».proof.Proof.Gen.NormKernel.Frame
public import proofs.«01_k».proof.Proof.Gen.NormKernelIdeal.Value
public import proofs.«01_k».proof.Proof.Gen.NormReferenceIdeal.Run
public import proofs.«01_k».proof.Proof.LayerSpec
public import Idealize.ShloMosaic.Lib.Pipeline.ValueKit
public import Idealize.ShloMosaic.Lib.StableHlo.ReadAt
public import Idealize.ShloMosaic.Adequacy
public import Idealize.ShloMosaic.Lib.Claim

/-! The normalization of the rows. -/

@[expose] public section

noncomputable section

namespace Cert.Ffn

open Idealize.ShloMosaic

/-- The normalized rows. -/
def normRows (h : FVec Ideal ⟨2, ![2048, 1024]⟩ .f32) (g : FVec Ideal ⟨1, ![1024]⟩ .f32) : FVec Ideal ⟨2, ![2048, 1024]⟩ .bf16 := fun i =>
  (show EReal from normRow (fun k => h (ix2 (i 0) k)) (fun k => g (ix1 k)) (i 1))

end Cert.Ffn

namespace Cert.NormKernelIdeal.Gen

open Idealize.ShloMosaic Idealize.ShloMosaic.TcCoe Idealize.ShloMosaic.Tactic
open Cert.Ffn Finset

set_option maxRecDepth 16384

theorem pay_at (h : Vec Ideal S512x1024 .f32) (g : Vec Ideal S1x1024 .f32) (i : Fin 512) (k : Fin 1024) :
    k0_pay1 h g (ix2 i k) = (show EReal from normRow (fun k => h (ix2 i k)) (fun k => g (ix2 0 k)) k) := by
  pointwise [k0_pay1, normRow, msq]

theorem idx_all : ∀ t : Fin cfg0.N, win0_0.index t = ![t.val, 0] ∧ win0_1.index t = ![0, 0] ∧ win0_2.index t = ![t.val, 0] := by decide +kernel

variable (m : (l : Loc nD τ sig) → Buf (Elt Ideal) l) (c : Dev nD)

/-- The arguments. -/
abbrev A0 : FVec Ideal S2048x1024 .f32 := m (c, Proc.devRef .tc main_arg0)

abbrev A1 : FVec Ideal S1024 .f32 := m (c, Proc.devRef .tc main_arg1)

theorem R_g (k : Fin 1024) : V m c main_v0 (ix2 0 k) = A1 m c (ix1 k) := by
  unfold V
  after_reads_at
  all_goals rfl

theorem t_lt (t : Fin cfg0.N) : t.val < 4 := t.isLt

theorem B_h (t : Fin cfg0.N) (i : Fin 512) (k : Fin 1024) : iblk m c 0 t (ix2 i k) = A0 m c (ix2 (rowOf t.val (t_lt t) i) k) := by
  unfold iblk
  blk_ext [(idx_all t).1]
  all_goals rfl

theorem B_g (t : Fin cfg0.N) (k : Fin 1024) : iblk m c 1 t (ix2 0 k) = V m c main_v0 (ix2 0 k) := by
  unfold iblk
  blk_ext [(idx_all t).2.1]

theorem arr : (dats m 0 c).arrAt 2 cfg0.N = normRows (A0 m c) (A1 m c) := by
  refine (dats m 0 c).arrAt_eq_of_covers 2 _ (by decide +kernel) fun t hf y => ?_
  obtain ⟨x, z, rfl⟩ : ∃ (x : Fin 512) (z : Fin 1024), y = ix2 x z := ⟨y 0, y 1, eq_ix2 y⟩
  rw [after0_2]
  frame_out
  refine ((pay_at _ _ x z).trans (congrArg₂ (fun r g => normRow r g z) (funext fun k => B_h m c t x k) (funext fun k => (B_g m c t k).trans (R_g m c k)))).trans ?_
  refine congrArg (normRows (A0 m c) (A1 m c)) (?_ : ix2 (rowOf t.val (t_lt t) x) z = _)
  funext a
  fin_cases a <;> refine Fin.ext ?_ <;> blk_simp [(idx_all t).2.2] <;> rfl

end Cert.NormKernelIdeal.Gen

namespace Cert.NormReferenceIdeal.Value

open Cert.NormReferenceIdeal Cert.NormReferenceIdeal.Gen Idealize.ShloMosaic Idealize.ShloMosaic.TcCoe Idealize.ShloMosaic.Tactic
open Cert.Ffn Finset

set_option maxRecDepth 16384

variable (H : FVec Ideal S2048x1024 .f32) (g : FVec Ideal S1024 .f32)

/-- The reference's result. -/
theorem res : truncf .bf16 (mulf (mulf H (broadcastInDim S2048x1024 ![0, 1] bcast_S2048x1_S2048x1024_0_1 (Host.rsqrt (addf (Host.divf (broadcastInDim S2048x1 ![0] bcast_S2048_S2048x1_0 (Host.reduceAdd (mulf H H) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))) bitsLt_bf16_f32 = normRows H g := by
  funext i
  obtain ⟨x, z, rfl⟩ : ∃ (x : Fin 2048) (z : Fin 1024), i = ix2 x z := ⟨i 0, i 1, eq_ix2 i⟩
  refine Eq.trans ?_ (rfl : (show EReal from normRow (fun k => H (ix2 x k)) (fun k => g (ix1 k)) z) = normRows H g (ix2 x z))
  pointwise [normRow, msq]

end Cert.NormReferenceIdeal.Value

namespace Cert.Proof

open Idealize.ShloMosaic Idealize.ShloMosaic.TcCoe Idealize.ShloMosaic.Tactic Idealize.SL.Sem
open Cert.Ffn Cert.NormKernelIdeal.Gen

/-- The reference leaves its arguments and the counters as they were. -/
theorem norm_reference_frame : Cert.quiescent_NormReferenceIdeal (hNormReferenceIdeal := Cert.NormReferenceIdeal.Gen.facts) := fun m g _ =>
  (θ_run (Cert.NormReferenceIdeal.defs (F := Ideal)) _ _).mono
    (fun r h => ⟨fun c => (h c).2, sem_eq_zero_of_no_sems (by decide) r.2⟩) (Cert.NormReferenceIdeal.Value.run m g)

/-- Kernel and reference end with the same array. -/
theorem norm_algebraic : Cert.algebraic_NormKernelIdeal_NormReferenceIdeal (hNormKernelIdeal := Cert.NormKernelIdeal.Gen.facts)
    (hNormReferenceIdeal := Cert.NormReferenceIdeal.Gen.facts) := by
  intro m g m' g' _ hagree
  refine ⟨fun c => normRows (A0 m c) (A1 m c), ?_, ?_⟩
  · exact (θ_run (Cert.NormKernelIdeal.defs (F := Ideal)) _ _).mono (fun r h c => ⟨(h c).1.trans (arr m c), (h c).2⟩)
      (Cert.NormKernelIdeal.Value.run_blocks m g)
  · refine (θ_run (Cert.NormReferenceIdeal.defs (F := Ideal)) _ _).mono (fun r h c => ?_) (Cert.NormReferenceIdeal.Value.run m' g')
    refine ⟨(h c).1.trans ((Cert.NormReferenceIdeal.Value.res _ _).trans ?_), (h c).2⟩
    rw [(hagree c).1, (hagree c).2]

end Cert.Proof

end
-- ==== Proof.GluBwdSpec.lean ====
module

public import proofs.«01_k».proof.Proof.GluSpec
public import proofs.«01_k».proof.Proof.DxSpec

/-! The gradients of the gated unit: what they are for a row of 512 entries, and the chain rule's way of writing them. -/

@[expose] public section

noncomputable section

namespace Cert.Ffn

open Idealize.ShloMosaic

/-- The gelu's constant, and three times it. -/
def cub : EReal := ((8943 / 200000 : ℝ) : EReal)

def cub3 : EReal := ((26829 / 200000 : ℝ) : EReal)

/-- The gelu's hyperbolic tangent, and the gelu. -/
def bTanh (y : EReal) : EReal := Ideal.tanh (Ideal.ofBits .f32 0x3F4C422A#32 * (y + cub * y * y * y))

def bGelu (y : EReal) : EReal := Ideal.ofBits .f32 0x3F000000#32 * y * (1 + bTanh y)

/-- The gradient through the normalization of a row. -/
def bNorm (x g d : Fin 512 → EReal) (k : Fin 512) : EReal :=
  Ideal.rsqrt (msq5 x) * (d k * g k - x k * Ideal.rsqrt (msq5 x) * Ideal.div (∑ l, d l * g l * (x l * Ideal.rsqrt (msq5 x))) (Ideal.ofBits .f32 0x44000000#32))

/-- The factor of the row in the chain rule's second term. -/
def bFac (x g d : Fin 512 → EReal) : EReal :=
  Ideal.div ((∑ l, x l * (d l * g l)) * (Ideal.ofBits .f32 0xBF000000#32 * Ideal.div (Ideal.rsqrt (msq5 x)) (msq5 x))) (Ideal.ofBits .f32 0x44000000#32)

/-- The gradient in the gate's argument, in the gelu, and in the gelu's argument. -/
def bPre (e z s : EReal) : EReal := e * z * s * (1 - s)

def bZ (e s : EReal) (p w : Fin 512 → EReal) : EReal := e * s + ∑ j, p j * w j

def bY (y q : EReal) : EReal :=
  q * (Ideal.ofBits .f32 0x3F000000#32 * (1 + bTanh y) + Ideal.ofBits .f32 0x3F000000#32 * y
    * ((1 - bTanh y * bTanh y) * Ideal.ofBits .f32 0x3F4C422A#32 * (1 + cub3 * y * y)))

/-- Being real. -/
def Re (x : EReal) : Prop := ∃ r : ℝ, x = (r : EReal)

theorem Re.mul {x y : EReal} (hx : Re x) (hy : Re y) : Re (x * y) := mul_real hx hy

theorem Re.add {x y : EReal} (hx : Re x) (hy : Re y) : Re (x + y) := by
  obtain ⟨a, rfl⟩ := hx
  obtain ⟨b, rfl⟩ := hy
  exact ⟨a + b, (EReal.coe_add a b).symm⟩

theorem Re.sub {x y : EReal} (hx : Re x) (hy : Re y) : Re (x - y) := by
  obtain ⟨a, rfl⟩ := hx
  obtain ⟨b, rfl⟩ := hy
  exact ⟨a - b, (EReal.coe_sub a b).symm⟩

theorem Re.sum {n : ℕ} {f : Fin n → EReal} (h : ∀ k, Re (f k)) : Re (∑ k, f k) := sum_real _ f h

theorem re_one : Re 1 := ⟨1, EReal.coe_one.symm⟩

theorem re_half : Re (Ideal.ofBits .f32 0x3F000000#32) := half_real

theorem re_scale : Re (Ideal.ofBits .f32 0x3F4C422A#32) := by
  refine ⟨?_, ?_⟩
  rotate_left
  · simp [Ideal.ofBits, Ideal.ieee]
    rw [← EReal.coe_mul]

theorem n5_real : Ideal.ofBits FTy.f32 0x44000000#32 = ((512 : ℝ) : EReal) := by
  simp [Ideal.ofBits, Ideal.ieee]
  rw [← EReal.coe_mul]
  norm_num

theorem three_real : Ideal.ofBits FTy.f32 0x40400000#32 = ((3 : ℝ) : EReal) := by
  simp [Ideal.ofBits, Ideal.ieee]
  rw [← EReal.coe_mul]
  norm_num

/-- The quotient that the reference writes for the gelu's constant. -/
theorem cub_quotient : Ideal.div (Ideal.ofBits FTy.f32 0x472EAB00#32) (Ideal.ofBits FTy.f32 0x49742400#32) = cub := by
  have h1 : Ideal.ofBits FTy.f32 0x472EAB00#32 = ((44715 : ℝ) : EReal) := by
    simp [Ideal.ofBits, Ideal.ieee]
    rw [← EReal.coe_mul]
    norm_num
  have h2 : Ideal.ofBits FTy.f32 0x49742400#32 = ((1000000 : ℝ) : EReal) := by
    simp [Ideal.ofBits, Ideal.ieee]
    rw [← EReal.coe_mul]
    norm_num
  rw [h1, h2, cub, Ideal.div_coe (by norm_num), ← EReal.coe_mul]
  norm_num

theorem Re.div5 {x : EReal} (hx : Re x) : Re (Ideal.div x (Ideal.ofBits .f32 0x44000000#32)) := by
  rw [n5_real, Ideal.div_coe (by norm_num)]
  exact hx.mul ⟨_, rfl⟩

/-- The hyperbolic tangent and the gelu of a real are real, and so is the logistic function of anything. -/
theorem re_tanh {y : EReal} (h : Re y) : Re (bTanh y) := by
  obtain ⟨a, ha⟩ := re_scale.mul (h.add (((Re.mul ⟨_, rfl⟩ h).mul h).mul h : Re (cub * y * y * y)))
  exact ⟨_, (congrArg Ideal.tanh ha).trans (Ideal.tanh_coe a)⟩

theorem re_gelu {y : EReal} (h : Re y) : Re (bGelu y) := (re_half.mul h).mul (re_one.add (re_tanh h))

theorem re_sgm (a : EReal) : Re (sgm a) := by
  induction a with
  | bot => exact ⟨0, by simp [sgm, Ideal.div, show (1 : EReal) + ⊤ = ⊤ from EReal.coe_add_top 1]⟩
  | top => exact ⟨1, by simp [sgm, Ideal.div]⟩
  | coe r => exact ⟨_, sgm_coe r⟩

/-- The mean square of a row of reals is a positive real. -/
theorem msq5_real (x : Fin 512 → ℝ) : ∃ v : ℝ, 0 < v ∧ msq5 (fun k => (x k : EReal)) = (v : EReal) := by
  obtain ⟨e, he, h⟩ := eps_real
  refine ⟨(∑ k, x k * x k) * (1 / 512) + e, ?_, ?_⟩
  · have : 0 ≤ ∑ k, x k * x k := Finset.sum_nonneg fun k _ => mul_self_nonneg _
    positivity
  · rw [msq5, h, n5_real, Ideal.div_coe (by norm_num)]
    simp only [← EReal.coe_mul]
    rw [coe_sum, ← EReal.coe_mul, ← EReal.coe_add]

variable {x g d : Fin 512 → EReal}

theorem re_norm (hx : ∀ k, Re (x k)) (hg : ∀ k, Re (g k)) (hd : ∀ k, Re (d k)) (k : Fin 512) : Re (bNorm x g d k) := by
  have hr : Re (Ideal.rsqrt (msq5 x)) := by
    choose y hy using hx
    obtain rfl : x = fun k => (y k : EReal) := funext hy
    obtain ⟨v, hv, e⟩ := msq5_real y
    rw [e, Ideal.rsqrt_coe, if_neg hv.not_gt, if_neg hv.ne']
    exact ⟨_, rfl⟩
  exact hr.mul (((hd k).mul (hg k)).sub (((hx k).mul hr).mul (Re.div5 (Re.sum fun l => ((hd l).mul (hg l)).mul ((hx l).mul hr)))))

/-- Both ways of writing the gradient through the normalization agree at reals. -/
theorem bNorm_rule (hx : ∀ k, Re (x k)) (hg : ∀ k, Re (g k)) (hd : ∀ k, Re (d k)) (k : Fin 512) :
    bNorm x g d k = d k * g k * Ideal.rsqrt (msq5 x) + x k * bFac x g d + bFac x g d * x k := by
  choose y hy using hx
  choose p hp using hg
  choose q hq using hd
  obtain rfl : x = fun k => (y k : EReal) := funext hy
  obtain rfl : g = fun k => (p k : EReal) := funext hp
  obtain rfl : d = fun k => (q k : EReal) := funext hq
  obtain ⟨v, hv, e⟩ := msq5_real y
  have hr : Ideal.rsqrt (v : EReal) = (((Real.sqrt v)⁻¹ : ℝ) : EReal) := by
    rw [Ideal.rsqrt_coe, if_neg hv.not_gt, if_neg hv.ne']
  have hs : (Real.sqrt v)⁻¹ * (Real.sqrt v)⁻¹ = v⁻¹ := by
    rw [← mul_inv, Real.mul_self_sqrt hv.le]
  rw [bNorm, bFac, e, hr, n5_real, minus_half_real]
  generalize (Real.sqrt v)⁻¹ = r at *
  rw [Ideal.div_coe (by norm_num), Ideal.div_coe (by norm_num), Ideal.div_coe hv.ne']
  simp only [← EReal.coe_mul, coe_sum]
  have h1 : ∑ l, q l * p l * (y l * r) = (∑ l, y l * (q l * p l)) * r := by
    rw [Finset.sum_mul]
    exact Finset.sum_congr rfl fun l _ => by ring
  rw [h1, one_div v, ← hs]
  generalize (∑ l, y l * (q l * p l)) = S
  simp only [← EReal.coe_mul, ← EReal.coe_add, ← EReal.coe_sub]
  exact congrArg _ (by ring)

/-- Both ways of writing the gradient in the gelu's argument agree at reals. -/
theorem bY_rule {y q : EReal} (hy : Re y) (hq : Re q) :
    bY y q = q * (Ideal.ofBits .f32 0x3F000000#32 * (1 + bTanh y))
      + Ideal.ofBits .f32 0x3F4C422A#32 * (Ideal.ofBits .f32 0x3F000000#32 * (y * q) * ((1 + bTanh y) * (1 - bTanh y)))
      + cub * (Ideal.ofBits .f32 0x3F4C422A#32 * (Ideal.ofBits .f32 0x3F000000#32 * (y * q) * ((1 + bTanh y) * (1 - bTanh y))))
        * (Ideal.ofBits .f32 0x40400000#32 * (y * y)) := by
  obtain ⟨t, ht⟩ := re_tanh hy
  obtain ⟨c, hc⟩ := re_scale
  obtain ⟨h, hh⟩ := re_half
  obtain ⟨y, rfl⟩ := hy
  obtain ⟨q, rfl⟩ := hq
  rw [bY, ht, hc, hh, three_real, cub, cub3, ← EReal.coe_one]
  simp only [← EReal.coe_mul, ← EReal.coe_add, ← EReal.coe_sub]
  exact congrArg _ (by ring)

/-- The gelu and the gradient in the gate's argument with the factors in another order. -/
theorem bGelu_eq (y : EReal) : y * (Ideal.ofBits .f32 0x3F000000#32 * (1 + bTanh y)) = bGelu y := by
  rw [bGelu]
  ac_rfl

theorem bTanh_eq (y : EReal) : Ideal.tanh (Ideal.ofBits .f32 0x3F4C422A#32 * (y + cub * (y * y * y))) = bTanh y := by
  rw [bTanh]
  simp only [mul_assoc (G := EReal)]

theorem bPre_eq (e z s : EReal) : z * e * (s * (1 - s)) = bPre e z s := by
  rw [bPre]
  ac_rfl

/-- Row `i` of the 256 rows of grid point `t`. -/
def row8 (t : ℕ) (ht : t < 8) (i : Fin 256) : Fin 2048 := ⟨t * 256 + i.val, by have := i.isLt; omega⟩

theorem sum_row8 (f : Fin 2048 → EReal) : (∑ r, f r) = ∑ t : Fin 8, ∑ i : Fin 256, f (row8 t.val t.isLt i) := by
  rw [← Finset.sum_product']
  refine (Fintype.sum_equiv (finProdFinEquiv (m := 8) (n := 256)) _ _ fun p => ?_).symm
  exact congrArg f (Fin.ext (by show p.1.val * 256 + p.2.val = p.2.val + 256 * p.1.val; omega))

/-- A sum built up over the grid points. -/
theorem sum_points (a : (n : ℕ) → n < 8 → EReal) (f : Fin 8 → EReal) (h0 : a 0 (by decide) = f 0)
    (hs : ∀ (n : ℕ) (hn : n + 1 < 8), a (n + 1) hn = a n (Nat.lt_of_succ_lt hn) + f ⟨n + 1, hn⟩) : a 7 (by decide) = ∑ t, f t := by
  rw [Fin.sum_univ_eight, hs 6, hs 5, hs 4, hs 3, hs 2, hs 1, hs 0, h0]
  rfl

variable (y : FVec Ideal ⟨2, ![2048, 512]⟩ .f32) (w : FVec Ideal ⟨2, ![512, 512]⟩ .f32) (b g : FVec Ideal ⟨1, ![512]⟩ .f32) (d : FVec Ideal ⟨2, ![2048, 512]⟩ .f32)

/-- The rows: the gelu, the gate, the gated row, and the gradients. -/
def zB (r : Fin 2048) (k : Fin 512) : EReal := bGelu (y (ix2 r k))

def sB (r : Fin 2048) (k : Fin 512) : EReal := sgm (gluPre (zB y r) (fun j k => w (ix2 j k)) (fun k => b (ix1 k)) k)

def oB (r : Fin 2048) (k : Fin 512) : EReal := zB y r k * sB y w b r k

def eB (r : Fin 2048) : Fin 512 → EReal := bNorm (oB y w b r) (fun k => g (ix1 k)) (fun k => d (ix2 r k))

def pB (r : Fin 2048) (k : Fin 512) : EReal := bPre (eB y w b g d r k) (zB y r k) (sB y w b r k)

def qB (r : Fin 2048) (k : Fin 512) : EReal := bZ (eB y w b g d r k) (sB y w b r k) (pB y w b g d r) (fun j => w (ix2 k j))

def dgB (r : Fin 2048) (k : Fin 512) : EReal := (show EReal from d (ix2 r k)) * (oB y w b r k * Ideal.rsqrt (msq5 (oB y w b r)))

/-- The five results. -/
def dyG : FVec Ideal ⟨2, ![2048, 512]⟩ .f32 := fun i => (show EReal from bY (y (ix2 (i 0) (i 1))) (qB y w b g d (i 0) (i 1)))

def dpreG : FVec Ideal ⟨2, ![2048, 512]⟩ .bf16 := fun i => (show EReal from pB y w b g d (i 0) (i 1))

def zgG : FVec Ideal ⟨2, ![2048, 512]⟩ .bf16 := fun i => (show EReal from zB y (i 0) (i 1))

def dbG : FVec Ideal ⟨2, ![1, 512]⟩ .f32 := fun i => (show EReal from ∑ r, pB y w b g d r (i 1))

def dgG : FVec Ideal ⟨2, ![1, 512]⟩ .f32 := fun i => (show EReal from ∑ r, dgB y w b d r (i 1))

end Cert.Ffn

end
-- ==== Proof.GluBwdValue.lean ====
module

public import proofs.«01_k».proof.Defs
public import proofs.«01_k».proof.Proof.Gen.GluBwdKernelIdeal.Value
public import proofs.«01_k».proof.Proof.GluBwdSpec
public import Idealize.ShloMosaic.Lib.Pipeline.ValueKit
public import Idealize.ShloMosaic.Lib.StableHlo.ReadAt

/-! What the kernel of the gated unit's gradients leaves in its results. -/

@[expose] public section

noncomputable section

namespace Cert.GluBwdKernelIdeal.Gen

open Idealize.ShloMosaic Idealize.ShloMosaic.TcCoe Idealize.ShloMosaic.Tactic
open Cert.Ffn Finset

set_option maxRecDepth 16384

/-- The two named constants. -/
theorem named_cub : Named.named (F := Ideal) κ "gelu_cubic" (φ := .f32) 0x3D372713#32 = cub :=
  IdealRules.named_const.ideal_named_scalar _ _ _ _ rfl

theorem named_cub3 : Named.named (F := Ideal) κ "gelu_cubic_3" (φ := .f32) 0x3E095D4F#32 = cub3 :=
  IdealRules.named_const.ideal_named_scalar _ _ _ _ rfl

theorem pay5_at (y : Vec Ideal S256x512 .f32) (i : Fin 256) (k : Fin 512) : k0_pay5 y (ix2 i k) = (show EReal from bTanh (y (ix2 i k))) := by
  rw [k0_pay5, named_cub]
  pointwise [bTanh]

theorem pay6_at (y : Vec Ideal S256x512 .f32) (i : Fin 256) (k : Fin 512) : k0_pay6 y (ix2 i k) = (show EReal from bGelu (y (ix2 i k))) := by
  rw [bGelu, ← show (k0_pay5 y (ix2 i k) : EReal) = bTanh (y (ix2 i k)) from pay5_at y i k]
  generalize e : k0_pay5 y = u
  rw [k0_pay6, e]
  pointwise

theorem pay7_at (y : Vec Ideal S256x512 .f32) (i : Fin 256) (k : Fin 512) : k0_pay7 y (ix2 i k) = (show EReal from bGelu (y (ix2 i k))) := by
  rw [← pay6_at]
  generalize e : k0_pay6 y = u
  rw [k0_pay7, e]
  pointwise

theorem pay8_at (y : Vec Ideal S256x512 .f32) (w : Vec Ideal S512x512 .bf16) (b : Vec Ideal S1x512 .f32) (i : Fin 256) (k : Fin 512) :
    k0_pay8 y w b (ix2 i k) = (show EReal from sgm (gluPre (fun k => bGelu (y (ix2 i k))) (fun j k => w (ix2 j k)) (fun k => b (ix2 0 k)) k)) := by
  simp only [← pay7_at]
  generalize e : k0_pay7 y = u
  rw [k0_pay8, e]
  pointwise [gluPre, sgm]
  simp only [zero_sub (G := EReal)]

theorem pay9_at (y : Vec Ideal S256x512 .f32) (w : Vec Ideal S512x512 .bf16) (b : Vec Ideal S1x512 .f32) (i : Fin 256) (k : Fin 512) :
    k0_pay9 y w b (ix2 i k) = (show EReal from (show EReal from k0_pay6 y (ix2 i k)) * (show EReal from k0_pay8 y w b (ix2 i k))) := by
  generalize e : k0_pay6 y = u
  generalize e' : k0_pay8 y w b = v
  rw [k0_pay9, e, e']
  pointwise

theorem pay10_at (g : Vec Ideal S1x512 .f32) (k : Fin 512) : k0_pay10 g (ix2 0 k) = (show EReal from g (ix2 0 k)) := by
  pointwise [k0_pay10]

theorem pay11_at (y : Vec Ideal S256x512 .f32) (w : Vec Ideal S512x512 .bf16) (b : Vec Ideal S1x512 .f32) (i : Fin 256) :
    (show EReal from (show EReal from k0_pay11 y w b (ix2 i 0)) + Ideal.ofBits .f32 0x358637BD#32) = msq5 (fun k => k0_pay9 y w b (ix2 i k)) := by
  generalize e : k0_pay9 y w b = u
  rw [k0_pay11, e]
  pointwise [msq5]

variable (x d z s p : FVec Ideal S256x512 .f32) (g : FVec Ideal S1x512 .f32) (v : FVec Ideal S256x1 .f32) (w : Vec Ideal S512x512 .bf16)

/-- The small constant under the root. -/
abbrev eps : Ideal .f32 := Scalar.ofBits .f32 0x358637BD#32

theorem pay14_at (i : Fin 256) (k : Fin 512) (e : (show EReal from (show EReal from v (ix2 i 0)) + Ideal.ofBits .f32 0x358637BD#32) = msq5 (fun k => x (ix2 i k))) :
    k0_pay14 x g d v eps (ix2 i k) = (show EReal from bNorm (fun k => x (ix2 i k)) (fun k => g (ix2 0 k)) (fun k => d (ix2 i k)) k) := by
  rw [bNorm, ← e]
  pointwise [k0_pay14, k0_pay13, k0_pay12]

theorem pay15_at (k : Fin 512) (e : ∀ i, (show EReal from (show EReal from v (ix2 i 0)) + Ideal.ofBits .f32 0x358637BD#32) = msq5 (fun k => x (ix2 i k))) :
    k0_pay15 x d v eps (ix2 0 k) = (show EReal from ∑ i : Fin 256, (show EReal from d (ix2 i k)) * ((show EReal from x (ix2 i k)) * Ideal.rsqrt (msq5 (fun k => x (ix2 i k))))) := by
  simp only [← e]
  pointwise [k0_pay15, k0_pay13, k0_pay12]

theorem pay16_at (i : Fin 256) (k : Fin 512) :
    k0_pay16 z s x g d v eps (ix2 i k) = (show EReal from bPre (k0_pay14 x g d v eps (ix2 i k)) (z (ix2 i k)) (s (ix2 i k))) := by
  generalize e : k0_pay14 x g d v eps = u
  rw [k0_pay16, e]
  pointwise [bPre]

theorem pay17_at (i : Fin 256) (k : Fin 512) : k0_pay17 z s x g d v eps (ix2 i k) = (show EReal from k0_pay16 z s x g d v eps (ix2 i k)) := by
  generalize e : k0_pay16 z s x g d v eps = u
  rw [k0_pay17, e]
  pointwise

theorem pay18_at (i : Fin 256) (k : Fin 512) :
    k0_pay18 z s x g d v eps w (ix2 i k) = (show EReal from bZ (k0_pay14 x g d v eps (ix2 i k)) (s (ix2 i k)) (fun j => k0_pay17 z s x g d v eps (ix2 i j)) (fun j => w (ix2 k j))) := by
  generalize e : k0_pay14 x g d v eps = u
  generalize e' : k0_pay17 z s x g d v eps = p
  rw [k0_pay18, e, e']
  pointwise [bZ]

theorem pay1_at (y : Vec Ideal S256x512 .f32) (q : FVec Ideal S256x512 .f32) (i : Fin 256) (k : Fin 512) :
    k0_pay1 y q (k0_pay19 y (k0_pay5 y)) (k0_pay20 (k0_pay5 y)) (Scalar.ofBits .f32 0x3F000000#32) (ix2 i k) = (show EReal from bY (y (ix2 i k)) (q (ix2 i k))) := by
  rw [bY, ← show (k0_pay5 y (ix2 i k) : EReal) = bTanh (y (ix2 i k)) from pay5_at y i k]
  generalize k0_pay5 y = t
  rw [k0_pay19, named_cub3]
  pointwise [k0_pay1, k0_pay20]

theorem pay2_at (k : Fin 512) : k0_pay2 p (ix2 0 k) = (show EReal from ∑ i : Fin 256, (show EReal from p (ix2 i k))) := by
  pointwise [k0_pay2]

theorem pay3_at (a : Vec Ideal S1x512 .f32) (k : Fin 512) : k0_pay3 p a (ix2 0 k) = (show EReal from (show EReal from a (ix2 0 k)) + (show EReal from k0_pay2 p (ix2 0 k))) := by
  generalize e : k0_pay2 p = u
  rw [k0_pay3, e]
  pointwise

theorem pay4_at (a : Vec Ideal S1x512 .f32) (k : Fin 512) : k0_pay4 g a (ix2 0 k) = (show EReal from (show EReal from a (ix2 0 k)) + (show EReal from g (ix2 0 k))) := by
  pointwise [k0_pay4]

end Cert.GluBwdKernelIdeal.Gen

end
-- ==== Proof.GluBwdArrays.lean ====
module

public import proofs.«01_k».proof.Proof.GluBwdValue

/-! The result arrays of the kernel of the gated unit's gradients. -/

@[expose] public section

noncomputable section

namespace Cert.GluBwdKernelIdeal.Gen

open Idealize.ShloMosaic Idealize.ShloMosaic.TcCoe Idealize.ShloMosaic.Tactic
open Cert.Ffn Finset

set_option maxRecDepth 16384

theorem idx_all : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] := by decide +kernel

variable (m : (l : Loc nD τ sig) → Buf (Elt Ideal) l) (c : Dev nD)

/-- The arguments. -/
abbrev aY : FVec Ideal S2048x512 .f32 := m (c, Proc.devRef .tc main_arg0)

abbrev aW : FVec Ideal S512x512 .f32 := m (c, Proc.devRef .tc main_arg1)

abbrev aB : FVec Ideal S512 .f32 := m (c, Proc.devRef .tc main_arg2)

abbrev aG : FVec Ideal S512 .f32 := m (c, Proc.devRef .tc main_arg3)

abbrev aD : FVec Ideal S2048x512 .f32 := m (c, Proc.devRef .tc main_arg4)

theorem R_w (j k : Fin 512) : V m c main_v0 (ix2 j k) = aW m c (ix2 j k) := by
  unfold V
  after_reads_at
  all_goals rfl

theorem R_b (k : Fin 512) : V m c main_v1 (ix2 0 k) = aB m c (ix1 k) := by
  unfold V
  after_reads_at
  all_goals rfl

theorem R_g (k : Fin 512) : V m c main_v2 (ix2 0 k) = aG m c (ix1 k) := by
  unfold V
  after_reads_at
  all_goals rfl

section
variable (t : Fin cfg0.N)

theorem t_lt : t.val < 8 := t.isLt

theorem B_y (i : Fin 256) (k : Fin 512) : iblk m c 0 t (ix2 i k) = aY m c (ix2 (row8 t.val (t_lt t) i) k) := by
  unfold iblk
  blk_ext [(idx_all t).1]
  all_goals rfl

theorem B_w (j k : Fin 512) : iblk m c 1 t (ix2 j k) = aW m c (ix2 j k) := by
  refine Eq.trans ?_ (R_w m c j k)
  unfold iblk
  blk_ext [(idx_all t).2.1]

theorem B_b (k : Fin 512) : iblk m c 2 t (ix2 0 k) = aB m c (ix1 k) := by
  refine Eq.trans ?_ (R_b m c k)
  unfold iblk
  blk_ext [(idx_all t).2.2.1]

theorem B_g (k : Fin 512) : iblk m c 3 t (ix2 0 k) = aG m c (ix1 k) := by
  refine Eq.trans ?_ (R_g m c k)
  unfold iblk
  blk_ext [(idx_all t).2.2.2.1]

theorem B_d (i : Fin 256) (k : Fin 512) : iblk m c 4 t (ix2 i k) = aD m c (ix2 (row8 t.val (t_lt t) i) k) := by
  unfold iblk
  blk_ext [(idx_all t).2.2.2.2.1]
  all_goals rfl

/-- What a grid point computes on the way. -/
abbrev kZ : FVec Ideal S256x512 .f32 := k0_pay6 (iblk m c 0 t)

abbrev kS : FVec Ideal S256x512 .f32 := k0_pay8 (iblk m c 0 t) (iblk m c 1 t) (iblk m c 2 t)

abbrev kO : FVec Ideal S256x512 .f32 := k0_pay9 (iblk m c 0 t) (iblk m c 1 t) (iblk m c 2 t)

abbrev kG : FVec Ideal S1x512 .f32 := k0_pay10 (iblk m c 3 t)

abbrev kM : FVec Ideal S256x1 .f32 := k0_pay11 (iblk m c 0 t) (iblk m c 1 t) (iblk m c 2 t)

abbrev kE : FVec Ideal S256x512 .f32 := k0_pay14 (kO m c t) (kG m c t) (iblk m c 4 t) (kM m c t) eps

abbrev kP : FVec Ideal S256x512 .f32 := k0_pay16 (kZ m c t) (kS m c t) (kO m c t) (kG m c t) (iblk m c 4 t) (kM m c t) eps

abbrev kP' : FVec Ideal S256x512 .bf16 := k0_pay17 (kZ m c t) (kS m c t) (kO m c t) (kG m c t) (iblk m c 4 t) (kM m c t) eps

abbrev kQ : FVec Ideal S256x512 .f32 := k0_pay18 (kZ m c t) (kS m c t) (kO m c t) (kG m c t) (iblk m c 4 t) (kM m c t) eps (iblk m c 1 t)

abbrev kY : FVec Ideal S256x512 .f32 :=
  k0_pay1 (iblk m c 0 t) (kQ m c t) (k0_pay19 (iblk m c 0 t) (k0_pay5 (iblk m c 0 t))) (k0_pay20 (k0_pay5 (iblk m c 0 t))) (Scalar.ofBits .f32 0x3F000000#32)

abbrev kD : FVec Ideal S1x512 .f32 := k0_pay15 (kO m c t) (iblk m c 4 t) (kM m c t) eps

/-- The row of the arrays. -/
abbrev rw8 (i : Fin 256) : Fin 2048 := row8 t.val (t_lt t) i

theorem z_at (i : Fin 256) (k : Fin 512) : kZ m c t (ix2 i k) = (show EReal from zB (aY m c) (rw8 t i) k) :=
  (pay6_at (iblk m c 0 t) i k).trans (congrArg bGelu (B_y m c t i k))

theorem z7_at (i : Fin 256) (k : Fin 512) : k0_pay7 (iblk m c 0 t) (ix2 i k) = (show EReal from zB (aY m c) (rw8 t i) k) :=
  (pay7_at (iblk m c 0 t) i k).trans (congrArg bGelu (B_y m c t i k))

theorem s_at (i : Fin 256) (k : Fin 512) : kS m c t (ix2 i k) = (show EReal from sB (aY m c) (aW m c) (aB m c) (rw8 t i) k) := by
  have h0 : (fun k => bGelu (iblk m c 0 t (ix2 i k))) = zB (aY m c) (rw8 t i) := funext fun k => congrArg bGelu (B_y m c t i k)
  have h1 : (fun j k => (show EReal from iblk m c 1 t (ix2 j k))) = fun j k => aW m c (ix2 j k) := funext fun j => funext fun k => B_w m c t j k
  have h2 : (fun k => (show EReal from iblk m c 2 t (ix2 0 k))) = fun k => aB m c (ix1 k) := funext fun k => B_b m c t k
  exact (pay8_at (iblk m c 0 t) (iblk m c 1 t) (iblk m c 2 t) i k).trans
    ((congrArg (fun z => sgm (gluPre z _ _ k)) h0).trans ((congrArg (fun w => sgm (gluPre _ w _ k)) h1).trans (congrArg (fun b => sgm (gluPre _ _ b k)) h2)))

theorem o_at (i : Fin 256) (k : Fin 512) : kO m c t (ix2 i k) = (show EReal from oB (aY m c) (aW m c) (aB m c) (rw8 t i) k) :=
  (pay9_at (iblk m c 0 t) (iblk m c 1 t) (iblk m c 2 t) i k).trans (congrArg₂ (fun a b : EReal => a * b) (z_at m c t i k) (s_at m c t i k))

theorem o_row (i : Fin 256) : (fun k => (show EReal from kO m c t (ix2 i k))) = oB (aY m c) (aW m c) (aB m c) (rw8 t i) := funext fun k => o_at m c t i k

theorem e_at (i : Fin 256) (k : Fin 512) : kE m c t (ix2 i k) = (show EReal from eB (aY m c) (aW m c) (aB m c) (aG m c) (aD m c) (rw8 t i) k) := by
  have h1 : (fun k => (show EReal from kG m c t (ix2 0 k))) = fun k => aG m c (ix1 k) := funext fun k => (pay10_at (iblk m c 3 t) k).trans (B_g m c t k)
  have h2 : (fun k => (show EReal from iblk m c 4 t (ix2 i k))) = fun k => aD m c (ix2 (rw8 t i) k) := funext fun k => B_d m c t i k
  exact (pay14_at (kO m c t) (iblk m c 4 t) (kG m c t) (kM m c t) i k (pay11_at (iblk m c 0 t) (iblk m c 1 t) (iblk m c 2 t) i)).trans
    ((congrArg (fun x => bNorm x _ _ k) (o_row m c t i)).trans ((congrArg (fun g => bNorm _ g _ k) h1).trans (congrArg (fun d => bNorm _ _ d k) h2)))

theorem p_at (i : Fin 256) (k : Fin 512) : kP m c t (ix2 i k) = (show EReal from pB (aY m c) (aW m c) (aB m c) (aG m c) (aD m c) (rw8 t i) k) :=
  (pay16_at (kO m c t) (iblk m c 4 t) (kZ m c t) (kS m c t) (kG m c t) (kM m c t) i k).trans
    ((congrArg (fun e => bPre e _ _) (e_at m c t i k)).trans ((congrArg (fun z => bPre _ z _) (z_at m c t i k)).trans (congrArg (bPre _ _) (s_at m c t i k))))

theorem p17_at (i : Fin 256) (k : Fin 512) : kP' m c t (ix2 i k) = (show EReal from pB (aY m c) (aW m c) (aB m c) (aG m c) (aD m c) (rw8 t i) k) :=
  (pay17_at (kO m c t) (iblk m c 4 t) (kZ m c t) (kS m c t) (kG m c t) (kM m c t) i k).trans (p_at m c t i k)

theorem q_at (i : Fin 256) (k : Fin 512) : kQ m c t (ix2 i k) = (show EReal from qB (aY m c) (aW m c) (aB m c) (aG m c) (aD m c) (rw8 t i) k) := by
  have h1 : (fun j => (show EReal from kP' m c t (ix2 i j))) = pB (aY m c) (aW m c) (aB m c) (aG m c) (aD m c) (rw8 t i) := funext fun j => p17_at m c t i j
  have h2 : (fun j => (show EReal from iblk m c 1 t (ix2 k j))) = fun j => aW m c (ix2 k j) := funext fun j => B_w m c t k j
  exact (pay18_at (kO m c t) (iblk m c 4 t) (kZ m c t) (kS m c t) (kG m c t) (kM m c t) (iblk m c 1 t) i k).trans
    ((congrArg (fun e => bZ e _ _ _) (e_at m c t i k)).trans ((congrArg (fun s => bZ _ s _ _) (s_at m c t i k)).trans
      ((congrArg (fun p => bZ _ _ p _) h1).trans (congrArg (bZ _ _ _) h2))))

theorem y_at (i : Fin 256) (k : Fin 512) : kY m c t (ix2 i k) = dyG (aY m c) (aW m c) (aB m c) (aG m c) (aD m c) (ix2 (rw8 t i) k) :=
  (pay1_at (iblk m c 0 t) (kQ m c t) i k).trans (congrArg₂ bY (B_y m c t i k) (q_at m c t i k))

theorem dpre_at (i : Fin 256) (k : Fin 512) : kP' m c t (ix2 i k) = dpreG (aY m c) (aW m c) (aB m c) (aG m c) (aD m c) (ix2 (rw8 t i) k) :=
  p17_at m c t i k

theorem b_at (k : Fin 512) : k0_pay2 (kP m c t) (ix2 0 k) = (show EReal from ∑ i : Fin 256, pB (aY m c) (aW m c) (aB m c) (aG m c) (aD m c) (rw8 t i) k) :=
  (pay2_at (kP m c t) k).trans (Finset.sum_congr rfl fun i _ => p_at m c t i k)

theorem g_at (k : Fin 512) : kD m c t (ix2 0 k) = (show EReal from ∑ i : Fin 256, dgB (aY m c) (aW m c) (aB m c) (aD m c) (rw8 t i) k) :=
  (pay15_at (kO m c t) (iblk m c 4 t) (kM m c t) k fun i => pay11_at (iblk m c 0 t) (iblk m c 1 t) (iblk m c 2 t) i).trans
    (Finset.sum_congr rfl fun i _ => congrArg₂ (fun a b : EReal => a * b) (B_d m c t i k)
      (congrArg₂ (fun a b : EReal => a * b) (o_at m c t i k) (congrArg (fun x => Ideal.rsqrt (msq5 x)) (o_row m c t i))))

theorem cases_outs : (outsAt0 m c t.val t.isLt).1 = kY m c t ∧ (outsAt0 m c t.val t.isLt).2.1 = kP' m c t
    ∧ (outsAt0 m c t.val t.isLt).2.2.1 = k0_pay7 (iblk m c 0 t) := by
  by_cases h1 : 1 ≤ t.val
  · have h0 : ¬t.val % 8 = 0 := by have : t.val < 8 := t.isLt; omega
    rw [outsAt0_B m c t h0 h1]
    dsimp only
    refine ⟨?_, ?_, ?_⟩ <;> frame_out <;> rfl
  · have h0 : t.val % 8 = 0 := by omega
    rw [outsAt0_A m c t h0 h1]
    dsimp only
    refine ⟨?_, ?_, ?_⟩ <;> frame_out <;> rfl

theorem outs_first (h0 : t.val % 8 = 0) (h1 : ¬1 ≤ t.val) :
    (outsAt0 m c t.val t.isLt).2.2.2.1 = k0_pay2 (kP m c t) ∧ (outsAt0 m c t.val t.isLt).2.2.2.2 = kD m c t := by
  rw [outsAt0_A m c t h0 h1]
  dsimp only
  constructor <;> frame_out <;> rfl

theorem outs_next (h0 : ¬t.val % 8 = 0) (h1 : 1 ≤ t.val) :
    (outsAt0 m c t.val t.isLt).2.2.2.1 = k0_pay3 (kP m c t) (outsAt0 m c (t.val - 1) (Nat.lt_of_le_of_lt (Nat.sub_le _ _) t.isLt)).2.2.2.1
    ∧ (outsAt0 m c t.val t.isLt).2.2.2.2 = k0_pay4 (kD m c t) (outsAt0 m c (t.val - 1) (Nat.lt_of_le_of_lt (Nat.sub_le _ _) t.isLt)).2.2.2.2 := by
  rw [outsAt0_B m c t h0 h1]
  dsimp only
  constructor <;> frame_out <;> rfl

end

theorem arr_5 : (dats m 0 c).arrAt 5 cfg0.N = dyG (aY m c) (aW m c) (aB m c) (aG m c) (aD m c) := by
  refine (dats m 0 c).arrAt_eq_of_covers 5 _ (by decide +kernel) fun t hf y => ?_
  obtain ⟨x, z, rfl⟩ : ∃ (x : Fin 256) (z : Fin 512), y = ix2 x z := ⟨y 0, y 1, eq_ix2 y⟩
  rw [after0_5, (cases_outs m c t).1]
  refine (y_at m c t x z).trans ?_
  refine congrArg (dyG (aY m c) (aW m c) (aB m c) (aG m c) (aD m c)) (?_ : ix2 (rw8 t x) z = _)
  funext a
  fin_cases a <;> refine Fin.ext ?_ <;> blk_simp [(idx_all t).2.2.2.2.2.1] <;> rfl

theorem arr_6 : (dats m 0 c).arrAt 6 cfg0.N = dpreG (aY m c) (aW m c) (aB m c) (aG m c) (aD m c) := by
  refine (dats m 0 c).arrAt_eq_of_covers 6 _ (by decide +kernel) fun t hf y => ?_
  obtain ⟨x, z, rfl⟩ : ∃ (x : Fin 256) (z : Fin 512), y = ix2 x z := ⟨y 0, y 1, eq_ix2 y⟩
  rw [after0_6, (cases_outs m c t).2.1]
  refine (dpre_at m c t x z).trans ?_
  refine congrArg (dpreG (aY m c) (aW m c) (aB m c) (aG m c) (aD m c)) (?_ : ix2 (rw8 t x) z = _)
  funext a
  fin_cases a <;> refine Fin.ext ?_ <;> blk_simp [(idx_all t).2.2.2.2.2.2.1] <;> rfl

theorem arr_7 : (dats m 0 c).arrAt 7 cfg0.N = zgG (aY m c) := by
  refine (dats m 0 c).arrAt_eq_of_covers 7 _ (by decide +kernel) fun t hf y => ?_
  obtain ⟨x, z, rfl⟩ : ∃ (x : Fin 256) (z : Fin 512), y = ix2 x z := ⟨y 0, y 1, eq_ix2 y⟩
  rw [after0_7, (cases_outs m c t).2.2]
  refine (z7_at m c t x z).trans ?_
  refine congrArg (zgG (aY m c)) (?_ : ix2 (rw8 t x) z = _)
  funext a
  fin_cases a <;> refine Fin.ext ?_ <;> blk_simp [(idx_all t).2.2.2.2.2.2.2] <;> rfl

/-- The column sums after the last grid point. -/
theorem acc_8 (k : Fin 512) : (outsAt0 m c 7 (by decide)).2.2.2.1 (ix2 0 k) = dbG (aY m c) (aW m c) (aB m c) (aG m c) (aD m c) (ix2 0 k) := by
  refine (sum_points (fun n hn => (show EReal from (outsAt0 m c n hn).2.2.2.1 (ix2 0 k)))
    (fun t => ∑ i : Fin 256, pB (aY m c) (aW m c) (aB m c) (aG m c) (aD m c) (row8 t.val t.isLt i) k) ?_ fun n hn => ?_).trans (sum_row8 fun r => pB (aY m c) (aW m c) (aB m c) (aG m c) (aD m c) r k).symm
  · exact (congrFun (outs_first m c ⟨0, by decide⟩ (by decide) (by decide)).1 _).trans (b_at m c ⟨0, by decide⟩ k)
  · have h8 : n + 1 < 8 := hn
    refine (congrFun (outs_next m c ⟨n + 1, hn⟩ (by show ¬(n + 1) % 8 = 0; omega) (Nat.le_add_left _ _)).1 _).trans ?_
    exact (pay3_at (kP m c ⟨n + 1, hn⟩) _ k).trans (add_eq rfl (b_at m c ⟨n + 1, hn⟩ k))

theorem acc_9 (k : Fin 512) : (outsAt0 m c 7 (by decide)).2.2.2.2 (ix2 0 k) = dgG (aY m c) (aW m c) (aB m c) (aD m c) (ix2 0 k) := by
  refine (sum_points (fun n hn => (show EReal from (outsAt0 m c n hn).2.2.2.2 (ix2 0 k)))
    (fun t => ∑ i : Fin 256, dgB (aY m c) (aW m c) (aB m c) (aD m c) (row8 t.val t.isLt i) k) ?_ fun n hn => ?_).trans (sum_row8 fun r => dgB (aY m c) (aW m c) (aB m c) (aD m c) r k).symm
  · exact (congrFun (outs_first m c ⟨0, by decide⟩ (by decide) (by decide)).2 _).trans (g_at m c ⟨0, by decide⟩ k)
  · have h8 : n + 1 < 8 := hn
    refine (congrFun (outs_next m c ⟨n + 1, hn⟩ (by show ¬(n + 1) % 8 = 0; omega) (Nat.le_add_left _ _)).2 _).trans ?_
    exact (pay4_at (kD m c ⟨n + 1, hn⟩) _ k).trans (add_eq rfl (g_at m c ⟨n + 1, hn⟩ k))

theorem arr_8 : (dats m 0 c).arrAt 8 cfg0.N = dbG (aY m c) (aW m c) (aB m c) (aG m c) (aD m c) := by
  refine (dats m 0 c).arrAt_eq_of_covers 8 _ (by decide +kernel) fun t hf y => ?_
  obtain ⟨x, z, rfl⟩ : ∃ (x : Fin 1) (z : Fin 512), y = ix2 x z := ⟨y 0, y 1, eq_ix2 y⟩
  rw [show x = 0 from Subsingleton.elim _ _]
  obtain rfl : t = ⟨7, by decide⟩ := by
    revert hf
    revert t
    decide +kernel
  rw [after0_8]
  refine (acc_8 m c z).trans ?_
  refine congrArg (dbG (aY m c) (aW m c) (aB m c) (aG m c) (aD m c)) (?_ : ix2 0 z = _)
  funext a
  fin_cases a <;> refine Fin.ext ?_ <;> blk_simp [] <;> first | rfl | exact (Nat.zero_add _).symm

theorem arr_9 : (dats m 0 c).arrAt 9 cfg0.N = dgG (aY m c) (aW m c) (aB m c) (aD m c) := by
  refine (dats m 0 c).arrAt_eq_of_covers 9 _ (by decide +kernel) fun t hf y => ?_
  obtain ⟨x, z, rfl⟩ : ∃ (x : Fin 1) (z : Fin 512), y = ix2 x z := ⟨y 0, y 1, eq_ix2 y⟩
  rw [show x = 0 from Subsingleton.elim _ _]
  obtain rfl : t = ⟨7, by decide⟩ := by
    revert hf
    revert t
    decide +kernel
  rw [after0_9]
  refine (acc_9 m c z).trans ?_
  refine congrArg (dgG (aY m c) (aW m c) (aB m c) (aD m c)) (?_ : ix2 0 z = _)
  funext a
  fin_cases a <;> refine Fin.ext ?_ <;> blk_simp [] <;> first | rfl | exact (Nat.zero_add _).symm

end Cert.GluBwdKernelIdeal.Gen

end
-- ==== Proof.GluBwdRule.lean ====
module

public import proofs.«01_k».proof.Proof.GluBwdSpec
public import proofs.«01_k».proof.Proof.DxSpec

/-! The two rules of the gated unit's gradients for any activations, gate matrix and bias, infinite ones included: what is infinite meets a factor zero. -/

@[expose] public section

noncomputable section

namespace Cert.Ffn

open Idealize.ShloMosaic Finset

theorem Re.of_ne {x : EReal} (h : x ≠ ⊤) (h' : x ≠ ⊥) : Re x := ⟨x.toReal, (EReal.coe_toReal h h').symm⟩

theorem Re.ne_top {x : EReal} (h : Re x) : x ≠ ⊤ := by
  obtain ⟨r, rfl⟩ := h
  exact EReal.coe_ne_top r

theorem Re.ne_bot {x : EReal} (h : Re x) : x ≠ ⊥ := by
  obtain ⟨r, rfl⟩ := h
  exact EReal.coe_ne_bot r

theorem re_zero : Re 0 := ⟨0, EReal.coe_zero.symm⟩

/-- A real sum has real terms. -/
theorem Re.of_add {x y : EReal} (h : Re (x + y)) : Re x ∧ Re y := by
  have ht := h.ne_top
  have hb := h.ne_bot
  induction x with
  | bot => exact absurd (EReal.bot_add y) hb
  | top =>
    induction y with
    | bot => exact absurd (EReal.add_bot ⊤) hb
    | top => exact absurd rfl ht
    | coe r => exact absurd (EReal.top_add_coe r) ht
  | coe r =>
    induction y with
    | bot => exact absurd (EReal.add_bot _) hb
    | top => exact absurd (EReal.coe_add_top r) ht
    | coe q => exact ⟨⟨r, rfl⟩, ⟨q, rfl⟩⟩

theorem Re.of_sum {n : ℕ} {f : Fin n → EReal} (h : Re (∑ k, f k)) (k : Fin n) : Re (f k) := by
  rw [← Finset.add_sum_erase _ f (Finset.mem_univ k)] at h
  exact h.of_add.1

/-- A real product whose one factor is a real other than zero. -/
theorem Re.of_mul {z w : EReal} (hz : Re z) (h0 : z ≠ 0) (h : Re (z * w)) : Re w := by
  obtain ⟨r, rfl⟩ := hz
  have hr : r ≠ 0 := fun e => h0 (by rw [e, EReal.coe_zero])
  have ht := h.ne_top
  have hb := h.ne_bot
  rcases lt_or_gt_of_ne hr with hn | hp
  · refine Re.of_ne ?_ ?_ <;> rintro rfl
    · exact hb (EReal.coe_mul_top_of_neg hn)
    · exact ht (EReal.coe_mul_bot_of_neg hn)
  · refine Re.of_ne ?_ ?_ <;> rintro rfl
    · exact ht (EReal.coe_mul_top_of_pos hp)
    · exact hb (EReal.coe_mul_bot_of_pos hp)

/-- The logistic function is not negative, and 0 or 1 at the infinities. -/
theorem sgm_nonneg (a : EReal) : 0 ≤ sgm a := by
  induction a with
  | bot => simp [sgm, Ideal.div, show (1 : EReal) + ⊤ = ⊤ from EReal.coe_add_top 1]
  | top => simp [sgm, Ideal.div]
  | coe r =>
    rw [sgm_coe]
    exact EReal.coe_nonneg.mpr (by positivity)

theorem sgm_inf {a : EReal} (h : ¬Re a) : sgm a = 0 ∨ sgm a = 1 := by
  induction a with
  | bot => exact .inl (by simp [sgm, Ideal.div, show (1 : EReal) + ⊤ = ⊤ from EReal.coe_add_top 1])
  | top => exact .inr (by simp [sgm, Ideal.div])
  | coe r => exact absurd ⟨r, rfl⟩ h

theorem one_sub_one : (1 : EReal) - 1 = 0 := by
  rw [← EReal.coe_one, ← EReal.coe_sub, sub_self, EReal.coe_zero]

theorem scale_pos : ∃ r : ℝ, 0 < r ∧ Ideal.ofBits FTy.f32 0x3F4C422A#32 = (r : EReal) := by
  simp [Ideal.ofBits, Ideal.ieee]
  rw [← EReal.coe_mul]
  refine ⟨_, ?_, rfl⟩
  norm_num

theorem half_pos' : Ideal.ofBits FTy.f32 0x3F000000#32 = ((1 / 2 : ℝ) : EReal) := by
  simp [Ideal.ofBits, Ideal.ieee]
  rw [← EReal.coe_mul]
  norm_num

/-- The gelu's tangent at the infinities, and the gelu: a real, or +inf at +inf. -/
theorem bTanh_top : bTanh ⊤ = 1 := by
  obtain ⟨r, hr, e⟩ := scale_pos
  have h : cub * ⊤ * ⊤ * ⊤ = ⊤ := by
    rw [cub, EReal.coe_mul_top_of_pos (by norm_num), EReal.top_mul_top, EReal.top_mul_top]
  rw [bTanh, h, e, EReal.top_add_top, EReal.coe_mul_top_of_pos hr, Ideal.tanh_top]

theorem bTanh_bot : bTanh ⊥ = -1 := by
  obtain ⟨r, hr, e⟩ := scale_pos
  rw [bTanh, e, EReal.bot_add, EReal.coe_mul_bot_of_pos hr, Ideal.tanh_bot]

theorem one_add_neg_one : (1 : EReal) + -1 = 0 := by
  rw [← EReal.coe_one, ← EReal.coe_neg, ← EReal.coe_add, add_neg_cancel, EReal.coe_zero]

theorem bGelu_cases (y : EReal) : Re (bGelu y) ∨ bGelu y = ⊤ := by
  induction y with
  | bot =>
    refine .inl ?_
    rw [bGelu, bTanh_bot, one_add_neg_one, mul_zero]
    exact re_zero
  | top =>
    refine .inr ?_
    rw [bGelu, bTanh_top, half_pos', EReal.coe_mul_top_of_pos (by norm_num), show (1 : EReal) + 1 = ((2 : ℝ) : EReal) by rw [← EReal.coe_one, ← EReal.coe_add]; norm_num,
      EReal.top_mul_coe_of_pos (by norm_num)]
  | coe r => exact .inl (re_gelu ⟨r, rfl⟩)

/-- The gelu of a real other than zero is a real other than zero. -/
theorem bGelu_ne {y : EReal} (hy : Re y) (h0 : y ≠ 0) : bGelu y ≠ 0 := by
  obtain ⟨c, hc⟩ := re_scale.mul (hy.add (((Re.mul ⟨_, rfl⟩ hy).mul hy).mul hy : Re (cub * y * y * y)))
  have ht : bTanh y = ((Real.tanh c : ℝ) : EReal) := (congrArg Ideal.tanh hc).trans (Ideal.tanh_coe c)
  obtain ⟨r, rfl⟩ := hy
  have hr : r ≠ 0 := fun e => h0 (by rw [e, EReal.coe_zero])
  have h1 : 0 < 1 + Real.tanh c := by
    rw [Real.tanh_eq_sinh_div_cosh, Real.sinh_eq, Real.cosh_eq]
    have := Real.exp_pos c
    have := Real.exp_pos (-c)
    rw [show 1 + (Real.exp c - Real.exp (-c)) / 2 / ((Real.exp c + Real.exp (-c)) / 2) = 2 * Real.exp c / (Real.exp c + Real.exp (-c)) by field_simp; ring]
    positivity
  rw [bGelu, ht, half_pos', ← EReal.coe_one, ← EReal.coe_mul, ← EReal.coe_add, ← EReal.coe_mul, ← EReal.coe_zero]
  exact fun e => (mul_ne_zero (mul_ne_zero (by norm_num) hr) h1.ne') (EReal.coe_injective e)

/-- A row with an entry +inf: the root's inverse is 0, and so are both ways of writing the gradient. -/
theorem msq5_top {x : Fin 512 → EReal} {l : Fin 512} (h : x l = ⊤) : msq5 x = ⊤ := by
  have h' : x l * x l = ⊤ := by rw [h, EReal.top_mul_top]
  have hs : (∑ k, x k * x k) = ⊤ :=
    top_le_iff.mp (h' ▸ Finset.single_le_sum (f := fun k => x k * x k) (fun i _ => sq_nonneg' (x i)) (Finset.mem_univ l))
  obtain ⟨e, _, he⟩ := eps_real
  rw [msq5, hs, he, n5_real, Ideal.div_coe (by norm_num), EReal.top_mul_coe_of_pos (by norm_num), EReal.top_add_coe]

variable {x g d : Fin 512 → EReal}

theorem bNorm_top {l : Fin 512} (h : x l = ⊤) (k : Fin 512) : bNorm x g d k = 0 := by
  rw [bNorm, msq5_top h, Ideal.rsqrt_top, zero_mul]

theorem re_norm' (hx : ∀ k, Re (x k) ∨ x k = ⊤) (hg : ∀ k, Re (g k)) (hd : ∀ k, Re (d k)) (k : Fin 512) : Re (bNorm x g d k) := by
  by_cases h : ∃ l, x l = ⊤
  · obtain ⟨l, hl⟩ := h
    rw [bNorm_top hl]
    exact re_zero
  · exact re_norm (fun l => (hx l).resolve_right fun e => h ⟨l, e⟩) hg hd k

theorem bNorm_rule' (hx : ∀ k, Re (x k) ∨ x k = ⊤) (hg : ∀ k, Re (g k)) (hd : ∀ k, Re (d k)) (k : Fin 512) :
    bNorm x g d k = d k * g k * Ideal.rsqrt (msq5 x) + x k * bFac x g d + bFac x g d * x k := by
  by_cases h : ∃ l, x l = ⊤
  · obtain ⟨l, hl⟩ := h
    have h0 : Ideal.div (0 : EReal) ⊤ = 0 := by simp [Ideal.div]
    have hf : bFac x g d = 0 := by
      rw [bFac, msq5_top hl, Ideal.rsqrt_top, h0, mul_zero, mul_zero, n5_real, Ideal.div_coe (by norm_num), zero_mul]
    rw [bNorm_top hl, hf, msq5_top hl, Ideal.rsqrt_top, mul_zero, mul_zero, zero_mul, add_zero, add_zero]
  · exact bNorm_rule (fun l => (hx l).resolve_right fun e => h ⟨l, e⟩) hg hd k

/-- The gated row: a gelu times a gate. -/
theorem gated_cases {z : EReal} (hz : Re z ∨ z = ⊤) (a : EReal) : Re (z * sgm a) ∨ z * sgm a = ⊤ := by
  rcases hz with hz | rfl
  · exact .inl (hz.mul (re_sgm a))
  · rcases (sgm_nonneg a).eq_or_lt with h | h
    · rw [← h, mul_zero]
      exact .inl re_zero
    · exact .inr (EReal.top_mul_of_pos h)

/-- The gradient in the gate's argument is real, and 0 where that argument is infinite. -/
theorem re_pre {z e : EReal} {a : EReal} (hz : Re z ∨ z = ⊤) (he : Re e) (h : z * sgm a = ⊤ → e = 0) : Re (bPre e z (sgm a)) := by
  rcases hz with hz | rfl
  · exact ((he.mul hz).mul (re_sgm a)).mul (re_one.sub (re_sgm a))
  · rcases (sgm_nonneg a).eq_or_lt with h0 | h0
    · rw [bPre, ← h0, mul_zero, zero_mul]
      exact re_zero
    · rw [bPre, h (EReal.top_mul_of_pos h0), zero_mul, zero_mul, zero_mul]
      exact re_zero

theorem pre_inf {z e a : EReal} (h : ¬Re a) : bPre e z (sgm a) = 0 := by
  rcases sgm_inf h with h | h
  · rw [bPre, h, mul_zero, zero_mul]
  · rw [bPre, h, one_sub_one, mul_zero]

/-- Both ways of writing the gradient in the gelu's argument agree, for a real gradient where that argument is a real other than zero. -/
theorem bY_rule' {y q : EReal} (hq : Re y → y ≠ 0 → Re q) :
    bY y q = q * (Ideal.ofBits .f32 0x3F000000#32 * (1 + bTanh y))
      + Ideal.ofBits .f32 0x3F4C422A#32 * (Ideal.ofBits .f32 0x3F000000#32 * (y * q) * ((1 + bTanh y) * (1 - bTanh y)))
      + cub * (Ideal.ofBits .f32 0x3F4C422A#32 * (Ideal.ofBits .f32 0x3F000000#32 * (y * q) * ((1 + bTanh y) * (1 - bTanh y))))
        * (Ideal.ofBits .f32 0x40400000#32 * (y * y)) := by
  induction y with
  | bot =>
    rw [bY, bTanh_bot, one_add_neg_one, neg_mul_neg, one_mul, one_sub_one]
    simp only [zero_mul, mul_zero, add_zero]
  | top =>
    rw [bY, bTanh_top, one_mul, one_sub_one]
    simp only [zero_mul, mul_zero, add_zero]
  | coe r =>
    by_cases h : (r : EReal) = 0
    · rw [bY, h]
      simp only [zero_mul, mul_zero, add_zero]
    · exact bY_rule ⟨r, rfl⟩ (hq ⟨r, rfl⟩ h)

end Cert.Ffn

end
-- ==== Proof.GluBwdRef.lean ====
module

public import proofs.«01_k».proof.Proof.Gen.GluBwdReferenceIdeal.Run
public import proofs.«01_k».proof.Proof.GluBwdRule
public import Idealize.ShloMosaic.Lib.Pointwise

/-! What the reference of the gated unit's gradients computes. -/

@[expose] public section

noncomputable section

namespace Cert.GluBwdReferenceIdeal.Value

open Cert.GluBwdReferenceIdeal Cert.GluBwdReferenceIdeal.Gen Idealize.ShloMosaic Idealize.ShloMosaic.TcCoe Idealize.ShloMosaic.Tactic
open Cert.Ffn Finset

set_option maxRecDepth 16384

variable (y z s o e p q u D : FVec Ideal S2048x512 .f32) (w : FVec Ideal S512x512 .f32) (b g : FVec Ideal S512 .f32) (M R : FVec Ideal S2048x1 .f32) (f : FVec Ideal S_ .f32)

/-- The reference's arrays one after another: the tangent, the gelu, the gate, the mean squares, the gradients. -/
abbrev rTanh : FVec Ideal S2048x512 .f32 :=
  Host.tanh (mulf (broadcastInDim S2048x512 ![] bcast_S_S2048x512 (constant S_ .f32 0x3F4C422A#32)) (addf y (mulf (broadcastInDim S2048x512 ![] bcast_S_S2048x512 (Host.divf (constant (F := Ideal) S_ .f32 0x472EAB00#32) (constant S_ .f32 0x49742400#32))) (mulf (mulf y y) y))))

abbrev rHalf (t : FVec Ideal S2048x512 .f32) : FVec Ideal S2048x512 .f32 :=
  mulf (broadcastInDim S2048x512 ![] bcast_S_S2048x512 (constant S_ .f32 0x3F000000#32)) (addf (broadcastInDim S2048x512 ![] bcast_S_S2048x512 (constant S_ .f32 0x3F800000#32)) t)

abbrev rGate : FVec Ideal S2048x512 .f32 :=
  Host.divf (broadcastInDim S2048x512 ![] bcast_S_S2048x512 (constant S_ .f32 0x3F800000#32)) (addf (broadcastInDim S2048x512 ![] bcast_S_S2048x512 (constant S_ .f32 0x3F800000#32)) (Host.exp (Host.negf (addf (Host.dotGeneral dot_S2048x512_S512x512_S2048x512_1_0_0_1_n_n none z w) (broadcastInDim S2048x512 ![0, 1] bcast_S1x512_S2048x512_0_1 (broadcastInDim S1x512 ![1] bcast_S512_S1x512_1 b))))))

abbrev rMs : FVec Ideal S2048x1 .f32 :=
  addf (Host.divf (broadcastInDim S2048x1 ![0] bcast_S2048_S2048x1_0 (Host.reduceAdd (mulf o o) (constant S_ .f32 0x00000000#32) reducesTo_S2048x512_S2048_d1 h_S_)) (broadcastInDim S2048x1 ![] bcast_S_S2048x1 (constant S_ .f32 0x44000000#32))) (broadcastInDim S2048x1 ![] bcast_S_S2048x1 (constant S_ .f32 0x358637BD#32))

abbrev rDg : FVec Ideal S2048x512 .f32 :=
  mulf D (broadcastInDim S2048x512 ![0, 1] bcast_S1x512_S2048x512_0_1 (broadcastInDim S1x512 ![1] bcast_S512_S1x512_1 g))

abbrev rFac : FVec Ideal S2048x512 .f32 :=
  broadcastInDim S2048x512 ![0] bcast_S2048_S2048x512_0 (Host.reduceAdd (Host.divf (mulf (shapeCast _ (Host.reduceAdd (mulf o u) (constant S_ .f32 0x00000000#32) reducesTo_S2048x512_S2048_d1 h_S_) shapeCasts_S2048_S2048x1)
    (mulf (broadcastInDim S2048x1 ![] bcast_S_S2048x1 (constant S_ .f32 0xBF000000#32)) (Host.divf (Host.rsqrt M) M))) (broadcastInDim S2048x1 ![] bcast_S_S2048x1 (constant S_ .f32 0x44000000#32))) (constant S_ .f32 0x00000000#32) reducesTo_S2048x1_S2048_d1 h_S_)

abbrev rNorm : FVec Ideal S2048x512 .f32 :=
  addf (addf (mulf u (broadcastInDim S2048x512 ![0, 1] bcast_S2048x1_S2048x512_0_1 (Host.rsqrt M))) (mulf o (rFac o u M))) (mulf (rFac o u M) o)

abbrev rPre : FVec Ideal S2048x512 .f32 :=
  mulf (mulf z e) (mulf s (subf (broadcastInDim S2048x512 ![] bcast_S_S2048x512 (constant S_ .f32 0x3F800000#32)) s))

abbrev rZ : FVec Ideal S2048x512 .f32 := addf (mulf e s) (Host.dotGeneral dot_S2048x512_S512x512_S2048x512_1_1_0_0_n_n none p w)

abbrev rT (t : FVec Ideal S2048x512 .f32) : FVec Ideal S2048x512 .f32 :=
  mulf (broadcastInDim S2048x512 ![] bcast_S_S2048x512 (constant S_ .f32 0x3F4C422A#32)) (mulf (mulf (broadcastInDim S2048x512 ![] bcast_S_S2048x512 (constant S_ .f32 0x3F000000#32)) (mulf y q)) (mulf (addf (broadcastInDim S2048x512 ![] bcast_S_S2048x512 (constant S_ .f32 0x3F800000#32)) t) (subf (broadcastInDim S2048x512 ![] bcast_S_S2048x512 (constant S_ .f32 0x3F800000#32)) t)))

abbrev rY (t : FVec Ideal S2048x512 .f32) : FVec Ideal S2048x512 .f32 :=
  addf (addf (mulf q (rHalf t)) (rT y q t)) (mulf (mulf (broadcastInDim S2048x512 ![] bcast_S_S2048x512 (Host.divf (constant (F := Ideal) S_ .f32 0x472EAB00#32) (constant S_ .f32 0x49742400#32))) (rT y q t)) (mulf (broadcastInDim S2048x512 ![] bcast_S_S2048x512 (constant S_ .f32 0x40400000#32)) (mulf y y)))

abbrev rCol : FVec Ideal S1x512 .f32 :=
  shapeCast _ (Host.reduceAdd (shapeCast _ (Host.reduceAdd p (constant S_ .f32 0x00000000#32) reducesTo_S2048x512_S512_d0 h_S_) shapeCasts_S512_S1x512) (constant S_ .f32 0x00000000#32) reducesTo_S1x512_S512_d0 h_S_) shapeCasts_S512_S1x512

abbrev rSc : FVec Ideal S2048x512 .f32 := mulf (mulf o (broadcastInDim S2048x512 ![0, 1] bcast_S2048x1_S2048x512_0_1 (Host.rsqrt M))) D

theorem rTanh_at (i : Fin 2048) (k : Fin 512) : rTanh y (ix2 i k) = (show EReal from bTanh (y (ix2 i k))) := by
  rw [← bTanh_eq, ← cub_quotient]
  pointwise

theorem rGelu_at (t : FVec Ideal S2048x512 .f32) (i : Fin 2048) (k : Fin 512) (h : t (ix2 i k) = (show EReal from bTanh (y (ix2 i k)))) :
    mulf y (rHalf t) (ix2 i k) = (show EReal from bGelu (y (ix2 i k))) := by
  rw [← bGelu_eq, ← show (t (ix2 i k) : EReal) = bTanh (y (ix2 i k)) from h]
  pointwise

theorem rGate_at (i : Fin 2048) (k : Fin 512) : rGate z w b (ix2 i k) = (show EReal from sgm (gluPre (fun k => z (ix2 i k)) (fun j k => w (ix2 j k)) (fun k => b (ix1 k)) k)) := by
  pointwise [gluPre, sgm]

theorem rMs_at (i : Fin 2048) : rMs o (ix2 i 0) = (show EReal from msq5 fun k => o (ix2 i k)) := by
  pointwise [msq5]

theorem rDg_at (i : Fin 2048) (k : Fin 512) : rDg D g (ix2 i k) = (show EReal from (show EReal from D (ix2 i k)) * (show EReal from g (ix1 k))) := by
  pointwise

theorem rFac_at (i : Fin 2048) (k : Fin 512) (v : EReal) (h : M (ix2 i 0) = v) : rFac o u M (ix2 i k)
    = (show EReal from Ideal.div ((∑ l : Fin 512, (show EReal from o (ix2 i l)) * (show EReal from u (ix2 i l)))
      * (Ideal.ofBits .f32 0xBF000000#32 * Ideal.div (Ideal.rsqrt v) v)) (Ideal.ofBits .f32 0x44000000#32)) := by
  rw [← h]
  pointwise
  exact Fin.sum_univ_one _

theorem rNorm_at (T : FVec Ideal S2048x512 .f32) (i : Fin 2048) (k : Fin 512) :
    addf (addf (mulf u (broadcastInDim S2048x512 ![0, 1] bcast_S2048x1_S2048x512_0_1 (Host.rsqrt M))) (mulf o T)) (mulf T o) (ix2 i k)
    = (show EReal from (show EReal from u (ix2 i k)) * Ideal.rsqrt (show EReal from M (ix2 i 0)) + (show EReal from o (ix2 i k)) * (show EReal from T (ix2 i k)) + (show EReal from T (ix2 i k)) * (show EReal from o (ix2 i k))) := by
  pointwise

theorem rPre_at (i : Fin 2048) (k : Fin 512) : rPre z s e (ix2 i k) = (show EReal from bPre (e (ix2 i k)) (z (ix2 i k)) (s (ix2 i k))) := by
  rw [← bPre_eq]
  pointwise

theorem rZ_at (i : Fin 2048) (k : Fin 512) : rZ s e p w (ix2 i k) = (show EReal from bZ (e (ix2 i k)) (s (ix2 i k)) (fun j => p (ix2 i j)) (fun j => w (ix2 k j))) := by
  pointwise [bZ]

theorem rY_at (t : FVec Ideal S2048x512 .f32) (i : Fin 2048) (k : Fin 512) (h : t (ix2 i k) = (show EReal from bTanh (y (ix2 i k))))
    (hq : Re (y (ix2 i k)) → (y (ix2 i k) : EReal) ≠ 0 → Re (q (ix2 i k))) : rY y q t (ix2 i k) = (show EReal from bY (y (ix2 i k)) (q (ix2 i k))) := by
  rw [bY_rule' hq, ← show (t (ix2 i k) : EReal) = bTanh (y (ix2 i k)) from h, ← cub_quotient]
  pointwise

theorem rCol_at (k : Fin 512) : rCol p (ix2 0 k) = (show EReal from ∑ i : Fin 2048, (show EReal from p (ix2 i k))) := by
  pointwise
  exact Fin.sum_univ_one _

theorem rSc_at (i : Fin 2048) (k : Fin 512) : rSc o D M (ix2 i k)
    = (show EReal from (show EReal from D (ix2 i k)) * ((show EReal from o (ix2 i k)) * Ideal.rsqrt (show EReal from M (ix2 i 0)))) := by
  refine Eq.trans ?_ (mul_comm (G := EReal) _ _)
  pointwise

variable (V : Valuation τ sig (Elt Ideal)) (i : Fin 2048) (k : Fin 512)

/-- The arguments. -/
abbrev aY : FVec Ideal S2048x512 .f32 := V (Proc.devRef .tc main_arg0)

abbrev aW : FVec Ideal S512x512 .f32 := V (Proc.devRef .tc main_arg1)

abbrev aB : FVec Ideal S512 .f32 := V (Proc.devRef .tc main_arg2)

abbrev aG : FVec Ideal S512 .f32 := V (Proc.devRef .tc main_arg3)

abbrev aD : FVec Ideal S2048x512 .f32 := V (Proc.devRef .tc main_arg4)

/-- An entry of an array. -/
def ent (x : FVec Ideal S2048x512 .f32) (i : Fin 2048) (k : Fin 512) : EReal := x (ix2 i k)

theorem t_at : ent (res_main_v11 V) i k = bTanh (aY V (ix2 i k)) := rTanh_at (aY V) i k

theorem z_at : ent (res_main_v21 V) i k = zB (aY V) i k := rGelu_at (aY V) (res_main_v11 V) i k (t_at V i k)

theorem s_at : ent (res_main_v31 V) i k = sB (aY V) (aW V) (aB V) i k := by
  refine (rGate_at (res_main_v21 V) (aW V) (aB V) i k).trans ?_
  show sgm (gluPre (fun k => ent (res_main_v21 V) i k) _ _ k) = _
  simp only [z_at]
  rfl

theorem o_at : ent (res_main_v35 V) i k = oB (aY V) (aW V) (aB V) i k := by
  show ent (res_main_v21 V) i k * ent (res_main_v31 V) i k = _
  rw [z_at, s_at, oB]

theorem m_at : res_main_v42 V (ix2 i 0) = (show EReal from msq5 (oB (aY V) (aW V) (aB V) i)) := by
  refine (rMs_at (res_main_v35 V) i).trans ?_
  show msq5 (fun k => ent (res_main_v35 V) i k) = _
  simp only [o_at]

theorem u_at : ent (res_main_v56 V) i k = (show EReal from aD V (ix2 i k)) * (show EReal from aG V (ix1 k)) := rDg_at (aD V) (aG V) i k

theorem f_at : ent (res_main_v67 V) i k = bFac (oB (aY V) (aW V) (aB V) i) (fun k => aG V (ix1 k)) (fun k => aD V (ix2 i k)) := by
  refine (rFac_at (res_main_v35 V) (res_main_v56 V) (res_main_v42 V) i k _ (m_at V i)).trans ?_
  show Ideal.div ((∑ l : Fin 512, ent (res_main_v35 V) i l * ent (res_main_v56 V) i l) * _) _ = _
  simp only [o_at, u_at]
  rfl

/-- The norm's scale and the gradient of the block's output are real numbers. -/
structure Reals : Prop where
  g : ∀ i, Re (aG V i)
  d : ∀ i, Re (aD V i)

theorem z_re : Re (zB (aY V) i k) ∨ zB (aY V) i k = ⊤ := bGelu_cases _

theorem o_re : Re (oB (aY V) (aW V) (aB V) i k) ∨ oB (aY V) (aW V) (aB V) i k = ⊤ := gated_cases (z_re V i k) _

variable {V} (h : Reals V)
include h

theorem e_at : ent (res_main_v71 V) i k = eB (aY V) (aW V) (aB V) (aG V) (aD V) i k := by
  refine (rNorm_at (res_main_v35 V) (res_main_v56 V) (res_main_v42 V) (res_main_v67 V) i k).trans ?_
  show ent (res_main_v56 V) i k * Ideal.rsqrt (show EReal from res_main_v42 V (ix2 i 0)) + ent (res_main_v35 V) i k * ent (res_main_v67 V) i k + ent (res_main_v67 V) i k * ent (res_main_v35 V) i k = _
  rw [o_at, u_at, f_at, m_at, eB, bNorm_rule' (fun k => o_re V i k) (fun _ => h.g _) (fun _ => h.d _)]

theorem e_re : Re (eB (aY V) (aW V) (aB V) (aG V) (aD V) i k) := re_norm' (fun k => o_re V i k) (fun _ => h.g _) (fun _ => h.d _) k

theorem p_at : ent (res_main_v74 V) i k = pB (aY V) (aW V) (aB V) (aG V) (aD V) i k := by
  refine (rPre_at (res_main_v21 V) (res_main_v31 V) (res_main_v71 V) i k).trans ?_
  show bPre (ent (res_main_v71 V) i k) (ent (res_main_v21 V) i k) (ent (res_main_v31 V) i k) = _
  rw [e_at i k h, z_at, s_at, pB]

theorem q_at : ent (res_main_v79 V) i k = qB (aY V) (aW V) (aB V) (aG V) (aD V) i k := by
  refine (rZ_at (res_main_v31 V) (res_main_v71 V) (res_main_v74 V) (aW V) i k).trans ?_
  show bZ (ent (res_main_v71 V) i k) (ent (res_main_v31 V) i k) (fun j => ent (res_main_v74 V) i j) _ = _
  simp only [e_at i k h, s_at, p_at i _ h]
  rfl

theorem p_re : Re (pB (aY V) (aW V) (aB V) (aG V) (aD V) i k) :=
  re_pre (z_re V i k) (e_re i k h) fun e => bNorm_top (l := k) e k

/-- The gradient in the gelu is real where the gelu's argument is a real other than zero: an infinite entry of the matrix makes its column's gate 0 or 1. -/
theorem q_re (hy : Re (aY V (ix2 i k))) (h0 : (aY V (ix2 i k) : EReal) ≠ 0) : Re (qB (aY V) (aW V) (aB V) (aG V) (aD V) i k) := by
  refine ((e_re i k h).mul (re_sgm _)).add (Re.sum fun j => ?_)
  by_cases ha : Re (gluPre (zB (aY V) i) (fun j k => aW V (ix2 j k)) (fun k => aB V (ix1 k)) j)
  · exact (p_re i j h).mul (Re.of_mul (re_gelu hy) (bGelu_ne hy h0) (Re.of_sum ha.of_add.1 k))
  · rw [show pB (aY V) (aW V) (aB V) (aG V) (aD V) i j = 0 from pre_inf ha, zero_mul]
    exact re_zero

theorem y_at : rY (aY V) (res_main_v79 V) (res_main_v11 V) (ix2 i k) = (show EReal from bY (aY V (ix2 i k)) (qB (aY V) (aW V) (aB V) (aG V) (aD V) i k)) := by
  refine (rY_at (aY V) (res_main_v79 V) (res_main_v11 V) i k (t_at V i k) fun hy h0 => ?_).trans ?_
  · show Re (ent (res_main_v79 V) i k)
    rw [q_at i k h]
    exact q_re i k h hy h0
  · show bY _ (ent (res_main_v79 V) i k) = _
    rw [q_at i k h]

omit h

theorem eq_of_ent {x : FVec Ideal S2048x512 .f32} {f : Fin 2048 → Fin 512 → EReal} (e : ∀ i k, ent x i k = f i k) :
    x = fun j => (show EReal from f (j 0) (j 1)) := by
  funext j
  obtain ⟨a, b, rfl⟩ : ∃ (a : Fin 2048) (b : Fin 512), j = ix2 a b := ⟨j 0, j 1, eq_ix2 j⟩
  exact e a b

theorem col_of_ent {x : FVec Ideal S2048x512 .f32} {f : Fin 2048 → Fin 512 → EReal} (e : ∀ i k, ent x i k = f i k) :
    rCol x = fun j => (show EReal from ∑ r, f r (j 1)) := by
  funext j
  obtain ⟨a, b, rfl⟩ : ∃ (a : Fin 1) (b : Fin 512), j = ix2 a b := ⟨j 0, j 1, eq_ix2 j⟩
  obtain rfl : a = 0 := Subsingleton.elim _ _
  exact (rCol_at x b).trans (sum_congr rfl fun r _ => e r b)

theorem sc_at : ent (rSc (res_main_v35 V) (aD V) (res_main_v42 V)) i k = dgB (aY V) (aW V) (aB V) (aD V) i k := by
  refine (rSc_at (res_main_v35 V) (aD V) (res_main_v42 V) i k).trans ?_
  show _ * (ent (res_main_v35 V) i k * Ideal.rsqrt (show EReal from res_main_v42 V (ix2 i 0))) = _
  rw [o_at, m_at, dgB]

/-- The five results. -/
theorem dy_eq (h : Reals V) : rY (aY V) (res_main_v79 V) (res_main_v11 V) = dyG (aY V) (aW V) (aB V) (aG V) (aD V) :=
  eq_of_ent (x := rY (aY V) (res_main_v79 V) (res_main_v11 V)) (f := fun i k => bY (aY V (ix2 i k)) (qB (aY V) (aW V) (aB V) (aG V) (aD V) i k)) fun i k => y_at i k h

theorem dpre_eq (h : Reals V) : truncf .bf16 (res_main_v74 V) bitsLt_bf16_f32 = dpreG (aY V) (aW V) (aB V) (aG V) (aD V) :=
  eq_of_ent (x := res_main_v74 V) fun i k => p_at i k h

theorem zg_eq : truncf .bf16 (res_main_v21 V) bitsLt_bf16_f32 = zgG (aY V) :=
  eq_of_ent (x := res_main_v21 V) fun i k => z_at V i k

theorem db_eq (h : Reals V) : rCol (res_main_v74 V) = dbG (aY V) (aW V) (aB V) (aG V) (aD V) :=
  col_of_ent fun i k => p_at i k h

theorem dg_eq : rCol (rSc (res_main_v35 V) (aD V) (res_main_v42 V)) = dgG (aY V) (aW V) (aB V) (aD V) :=
  col_of_ent fun i k => sc_at i k

end Cert.GluBwdReferenceIdeal.Value

end
-- ==== Proof.GluBwdClaim.lean ====
module

public import proofs.«01_k».proof.Defs
public import proofs.«01_k».proof.Proof.Gen.GluBwdKernel
public import proofs.«01_k».proof.Proof.Gen.GluBwdKernel.Frame
public import proofs.«01_k».proof.Proof.Gen.GluBwdKernelIdeal.Value
public import proofs.«01_k».proof.Proof.GluBwdArrays
public import proofs.«01_k».proof.Proof.GluBwdRef
public import proofs.«01_k».proof.Proof.Finite
public import Idealize.ShloMosaic.Adequacy
public import Idealize.ShloMosaic.Lib.Claim

/-! The claims about the gradients of the gated unit. -/

@[expose] public section

noncomputable section

namespace Cert.Proof

open Idealize.ShloMosaic Idealize.ShloMosaic.TcCoe Idealize.ShloMosaic.Tactic Idealize.SL.Sem
open Cert.Ffn

/-- The side conditions of the precondition's operations. -/
theorem glu_facts : Cert.Pre_glu_finite.Facts where
  bcast_S_S2048x512 := by decide
  reducesTo_S2048x512_S_d0_1 := by decide
  h_S_ := by decide
  bcast_S_S512 := by decide
  reducesTo_S512_S_d0 := by decide

/-- Under the precondition the norm's scale and the gradient of the block's output are real. -/
theorem glu_real [Cert.Pre_glu_finite.Facts] (y d : FVec Ideal ⟨2, ![2048, 512]⟩ .f32) (w : FVec Ideal ⟨2, ![512, 512]⟩ .f32)
    (b g : FVec Ideal ⟨1, ![512]⟩ .f32) (h : Cert.Pre_glu_finite.fn (F := Ideal) y w b g d = fun _ => 1#1) :
    (∀ i, Re (g i)) ∧ ∀ i, Re (d i) := by
  have h' := congrFun h (Shape.Idx.first Cert.Pre_glu_finite.Facts.h_S_)
  obtain ⟨h0, h1⟩ := IntOp.andi_eq_one.1 h'
  exact ⟨fun i => ⟨_, Cert.Rec.real_of_all g _ _ _ _ h0 i⟩, fun i => ⟨_, Cert.Rec.real_of_all d _ _ _ _ h1 i⟩⟩

/-- The reference leaves its arguments and the counters as they were. -/
theorem glu_bwd_reference_frame (m) (g) : θ_run (Cert.GluBwdReferenceIdeal.defs (F := Ideal)) (onTc (τ := Cert.GluBwdReferenceIdeal.τ) (Cert.GluBwdReferenceIdeal.main (F := Ideal)))
    ⟨m, fun _ => 0, g⟩ (fun r => (∀ c : Dev Cert.GluBwdReferenceIdeal.nD,
      r.2.mem ((c.tc : Thread Cert.GluBwdReferenceIdeal.nD Cert.GluBwdReferenceIdeal.τ).loc Cert.GluBwdReferenceIdeal.main_arg0) = m ((c.tc : Thread Cert.GluBwdReferenceIdeal.nD Cert.GluBwdReferenceIdeal.τ).loc Cert.GluBwdReferenceIdeal.main_arg0)
      ∧ r.2.mem ((c.tc : Thread Cert.GluBwdReferenceIdeal.nD Cert.GluBwdReferenceIdeal.τ).loc Cert.GluBwdReferenceIdeal.main_arg1) = m ((c.tc : Thread Cert.GluBwdReferenceIdeal.nD Cert.GluBwdReferenceIdeal.τ).loc Cert.GluBwdReferenceIdeal.main_arg1)
      ∧ r.2.mem ((c.tc : Thread Cert.GluBwdReferenceIdeal.nD Cert.GluBwdReferenceIdeal.τ).loc Cert.GluBwdReferenceIdeal.main_arg2) = m ((c.tc : Thread Cert.GluBwdReferenceIdeal.nD Cert.GluBwdReferenceIdeal.τ).loc Cert.GluBwdReferenceIdeal.main_arg2)
      ∧ r.2.mem ((c.tc : Thread Cert.GluBwdReferenceIdeal.nD Cert.GluBwdReferenceIdeal.τ).loc Cert.GluBwdReferenceIdeal.main_arg3) = m ((c.tc : Thread Cert.GluBwdReferenceIdeal.nD Cert.GluBwdReferenceIdeal.τ).loc Cert.GluBwdReferenceIdeal.main_arg3)
      ∧ r.2.mem ((c.tc : Thread Cert.GluBwdReferenceIdeal.nD Cert.GluBwdReferenceIdeal.τ).loc Cert.GluBwdReferenceIdeal.main_arg4) = m ((c.tc : Thread Cert.GluBwdReferenceIdeal.nD Cert.GluBwdReferenceIdeal.τ).loc Cert.GluBwdReferenceIdeal.main_arg4))
      ∧ r.2.sem = fun _ => 0) :=
  (θ_run (Cert.GluBwdReferenceIdeal.defs (F := Ideal)) _ _).mono
    (fun r h => ⟨fun c => (h c).2.2.2.2.2, sem_eq_zero_of_no_sems (by decide) r.2⟩) (Cert.GluBwdReferenceIdeal.Value.run m g)

/-- The two named constants are what the kernel's literals round. -/
theorem glu_bwd_preserves : Cert.preserves_GluBwdKernel_GluBwdKernelIdeal :=
  ⟨IdealRules.named_const.statement Cert.GluBwdKernelIdeal.κ "gelu_cubic" .f32 0x3D372713#32 ((8943 / 200000 : ℝ) : EReal) rfl,
    IdealRules.named_const.statement Cert.GluBwdKernelIdeal.κ "gelu_cubic_3" .f32 0x3E095D4F#32 ((26829 / 200000 : ℝ) : EReal) rfl⟩

/-- Kernel and reference end with the same gradients. -/
theorem glu_bwd_algebraic : Cert.algebraic_GluBwdKernelIdeal_GluBwdReferenceIdeal_pre_glu_finite (hGluBwdKernelIdeal := Cert.GluBwdKernelIdeal.Gen.facts)
    (hGluBwdReferenceIdeal := Cert.GluBwdReferenceIdeal.Gen.facts) (hPre_glu_finite := glu_facts) := by
  intro m g m' g' hpre hagree
  haveI := glu_facts
  refine ⟨fun c => dyG (Cert.GluBwdKernelIdeal.Gen.aY m c) (Cert.GluBwdKernelIdeal.Gen.aW m c) (Cert.GluBwdKernelIdeal.Gen.aB m c) (Cert.GluBwdKernelIdeal.Gen.aG m c) (Cert.GluBwdKernelIdeal.Gen.aD m c),
    fun c => dpreG (Cert.GluBwdKernelIdeal.Gen.aY m c) (Cert.GluBwdKernelIdeal.Gen.aW m c) (Cert.GluBwdKernelIdeal.Gen.aB m c) (Cert.GluBwdKernelIdeal.Gen.aG m c) (Cert.GluBwdKernelIdeal.Gen.aD m c),
    fun c => zgG (Cert.GluBwdKernelIdeal.Gen.aY m c),
    fun c => dbG (Cert.GluBwdKernelIdeal.Gen.aY m c) (Cert.GluBwdKernelIdeal.Gen.aW m c) (Cert.GluBwdKernelIdeal.Gen.aB m c) (Cert.GluBwdKernelIdeal.Gen.aG m c) (Cert.GluBwdKernelIdeal.Gen.aD m c),
    fun c => dgG (Cert.GluBwdKernelIdeal.Gen.aY m c) (Cert.GluBwdKernelIdeal.Gen.aW m c) (Cert.GluBwdKernelIdeal.Gen.aB m c) (Cert.GluBwdKernelIdeal.Gen.aD m c), ?_, ?_⟩
  · refine (θ_run (Cert.GluBwdKernelIdeal.defs (F := Ideal)) _ _).mono (fun r h c => ?_) (Cert.GluBwdKernelIdeal.Value.run_blocks m g)
    obtain ⟨h0, h1, h2, h3, h4, hr⟩ := h c
    exact ⟨h0.trans (Cert.GluBwdKernelIdeal.Gen.arr_5 m c), h1.trans (Cert.GluBwdKernelIdeal.Gen.arr_6 m c), h2.trans (Cert.GluBwdKernelIdeal.Gen.arr_7 m c),
      h3.trans (Cert.GluBwdKernelIdeal.Gen.arr_8 m c), h4.trans (Cert.GluBwdKernelIdeal.Gen.arr_9 m c), hr⟩
  · refine (θ_run (Cert.GluBwdReferenceIdeal.defs (F := Ideal)) _ _).mono (fun r h c => ?_) (Cert.GluBwdReferenceIdeal.Value.run m' g')
    obtain ⟨h0, h1, h2, h3, h4, hr⟩ := h c
    obtain ⟨e0, e1, e2, e3, e4⟩ := hagree c
    obtain ⟨rg, rd⟩ := glu_real _ _ _ _ _ (hpre c)
    rw [← e3] at rg
    rw [← e4] at rd
    have hv : Cert.GluBwdReferenceIdeal.Value.Reals (fun b => m' (c, b)) := ⟨rg, rd⟩
    refine ⟨h0.trans ((Cert.GluBwdReferenceIdeal.Value.dy_eq hv).trans ?_), h1.trans ((Cert.GluBwdReferenceIdeal.Value.dpre_eq hv).trans ?_),
      h2.trans ((Cert.GluBwdReferenceIdeal.Value.zg_eq (V := fun b => m' (c, b))).trans ?_), h3.trans ((Cert.GluBwdReferenceIdeal.Value.db_eq hv).trans ?_),
      h4.trans ((Cert.GluBwdReferenceIdeal.Value.dg_eq (V := fun b => m' (c, b))).trans ?_), hr⟩
    · exact congr (congr (congr (congr (congrArg dyG e0) e1) e2) e3) e4
    · exact congr (congr (congr (congr (congrArg dpreG e0) e1) e2) e3) e4
    · exact congrArg zgG e0
    · exact congr (congr (congr (congr (congrArg dbG e0) e1) e2) e3) e4
    · exact congr (congr (congr (congrArg dgG e0) e1) e2) e4

end Cert.Proof

end
-- ==== Proof.lean ====
module

public import proofs.«01_k».proof.Proof.Gen.GluBwdKernelIdeal.Value
public import proofs.«01_k».proof.Proof.Gen.GluBwdReferenceIdeal.Run
public import proofs.«01_k».proof.Proof.Gen.GluBwdKernel.Frame
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefValue
public import proofs.«01_k».proof.Proof.KRun
public import proofs.«01_k».proof.Proof.Finite
public import proofs.«01_k».proof.Proof.WgradClaim
public import proofs.«01_k».proof.Proof.DactClaim
public import proofs.«01_k».proof.Proof.DxClaim
public import proofs.«01_k».proof.Proof.UpClaim
public import proofs.«01_k».proof.Proof.DownClaim
public import proofs.«01_k».proof.Proof.ProjClaim
public import proofs.«01_k».proof.Proof.OutClaim
public import proofs.«01_k».proof.Proof.MixDxClaim
public import proofs.«01_k».proof.Proof.WinGradClaim
public import proofs.«01_k».proof.Proof.OutDactClaim
public import proofs.«01_k».proof.Proof.OutGradClaim
public import proofs.«01_k».proof.Proof.PleBwdClaim
public import proofs.«01_k».proof.Proof.PleDxClaim
public import proofs.«01_k».proof.Proof.GateGradClaim
public import proofs.«01_k».proof.Proof.EmbGradClaim
public import proofs.«01_k».proof.Proof.PleClaim
public import proofs.«01_k».proof.Proof.GluGradClaim
public import proofs.«01_k».proof.Proof.GluClaim
public import proofs.«01_k».proof.Proof.NormClaim
public import proofs.«01_k».proof.Proof.GluBwdClaim
public import proofs.«01_k».proof.Proof.Gen.WgradKernel
public import proofs.«01_k».proof.Proof.Gen.WgradKernel.Frame
public import proofs.«01_k».proof.Proof.Gen.WgradKernelIdeal
public import proofs.«01_k».proof.Proof.Gen.WgradKernelIdeal.Value
public import proofs.«01_k».proof.Proof.Gen.WgradReferenceIdeal.Run
public import proofs.«01_k».proof.Proof.Gen.DactKernel
public import proofs.«01_k».proof.Proof.Gen.DactKernel.Frame
public import proofs.«01_k».proof.Proof.Gen.DactKernelIdeal
public import proofs.«01_k».proof.Proof.Gen.DactKernelIdeal.Value
public import proofs.«01_k».proof.Proof.Gen.DactReferenceIdeal.Run
public import proofs.«01_k».proof.Proof.Gen.DxKernel
public import proofs.«01_k».proof.Proof.Gen.DxKernel.Frame
public import proofs.«01_k».proof.Proof.Gen.DxKernelIdeal
public import proofs.«01_k».proof.Proof.Gen.DxKernelIdeal.Value
public import proofs.«01_k».proof.Proof.Gen.DxReferenceIdeal.Run

@[expose] public section

noncomputable section

namespace Cert.Proof

open Idealize.ShloMosaic Idealize.SL.Sem

/-- The side conditions of the precondition's operations. -/
theorem finite_facts : Cert.Pre_finite.Facts where
  bcast_S_S2048x512 := by decide
  reducesTo_S2048x512_S_d0_1 := by decide
  h_S_ := by decide
  bcast_S_S32x64 := by decide
  reducesTo_S32x64_S_d0_1 := by decide
  bcast_S_S32x64x16 := by decide
  reducesTo_S32x64x16_S_d0_1_2 := by decide
  bcast_S_S32x16x64 := by decide
  reducesTo_S32x16x64_S_d0_1_2 := by decide
  bcast_S_S32x16 := by decide
  reducesTo_S32x16_S_d0_1 := by decide

/-- Kernel and reference end with the same gradients. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hagree
  haveI := finite_facts
  choose D hD using fun c => Cert.Rec.holds_of_pre _ _ _ _ _ _ _ _ _ (hpre c)
  refine ⟨fun c => (D c).aU, fun c => (D c).aLre, fun c => (D c).aLim, fun c => (D c).aBre, fun c => (D c).aBim, fun c => (D c).aCre,
    fun c => (D c).aCim, fun c => (D c).aD, Cert.KernelIdeal.Gen.gradients m g D hD, Cert.ReferenceIdeal.Scan.gradients m' g' D fun c => ?_⟩
  obtain ⟨h0, h1, h2, h3, h4, h5, h6, h7, h8⟩ := hagree c
  show Cert.Rec.Data.Holds _ _ _ _ _ _ _ _ _ _
  rw [h0, h1, h2, h3, h4, h5, h6, h7, h8]
  exact hD c

theorem claim : Cert.Claim :=
  ⟨Cert.Kernel.Gen.facts, Cert.KernelIdeal.Gen.facts, Cert.ReferenceIdeal.Gen.facts,
    Cert.WgradKernel.Gen.facts, Cert.WgradKernelIdeal.Gen.facts, Cert.WgradReferenceIdeal.Gen.facts,
    Cert.DactKernel.Gen.facts, Cert.DactKernelIdeal.Gen.facts, Cert.DactReferenceIdeal.Gen.facts,
    Cert.DxKernel.Gen.facts, Cert.DxKernelIdeal.Gen.facts, Cert.DxReferenceIdeal.Gen.facts,
    Cert.UpKernel.Gen.facts, Cert.UpKernelIdeal.Gen.facts, Cert.UpReferenceIdeal.Gen.facts,
    Cert.DownKernel.Gen.facts, Cert.DownKernelIdeal.Gen.facts, Cert.DownReferenceIdeal.Gen.facts,
    Cert.ProjKernel.Gen.facts, Cert.ProjKernelIdeal.Gen.facts, Cert.ProjReferenceIdeal.Gen.facts,
    Cert.OutKernel.Gen.facts, Cert.OutKernelIdeal.Gen.facts, Cert.OutReferenceIdeal.Gen.facts,
    Cert.MixDxKernel.Gen.facts, Cert.MixDxKernelIdeal.Gen.facts, Cert.MixDxReferenceIdeal.Gen.facts,
    Cert.WinGradKernel.Gen.facts, Cert.WinGradKernelIdeal.Gen.facts, Cert.WinGradReferenceIdeal.Gen.facts,
    Cert.OutDactKernel.Gen.facts, Cert.OutDactKernelIdeal.Gen.facts, Cert.OutDactReferenceIdeal.Gen.facts,
    Cert.OutGradKernel.Gen.facts, Cert.OutGradKernelIdeal.Gen.facts, Cert.OutGradReferenceIdeal.Gen.facts,
    Cert.PleBwdKernel.Gen.facts, Cert.PleBwdKernelIdeal.Gen.facts, Cert.PleBwdReferenceIdeal.Gen.facts,
    Cert.PleDxKernel.Gen.facts, Cert.PleDxKernelIdeal.Gen.facts, Cert.PleDxReferenceIdeal.Gen.facts,
    Cert.GateGradKernel.Gen.facts, Cert.GateGradKernelIdeal.Gen.facts, Cert.GateGradReferenceIdeal.Gen.facts,
    Cert.EmbGradKernel.Gen.facts, Cert.EmbGradKernelIdeal.Gen.facts, Cert.EmbGradReferenceIdeal.Gen.facts,
    Cert.PleKernel.Gen.facts, Cert.PleKernelIdeal.Gen.facts, Cert.PleReferenceIdeal.Gen.facts,
    Cert.GluGradKernel.Gen.facts, Cert.GluGradKernelIdeal.Gen.facts, Cert.GluGradReferenceIdeal.Gen.facts,
    Cert.GluKernel.Gen.facts, Cert.GluKernelIdeal.Gen.facts, Cert.GluReferenceIdeal.Gen.facts,
    Cert.NormKernel.Gen.facts, Cert.NormKernelIdeal.Gen.facts, Cert.NormReferenceIdeal.Gen.facts,
    Cert.GluBwdKernel.Gen.facts, Cert.GluBwdKernelIdeal.Gen.facts, Cert.GluBwdReferenceIdeal.Gen.facts,
    finite_facts, dact_facts, glu_facts,
    fun m ρ _ => Cert.Kernel.Gen.frame m ρ, fun m ρ _ => Cert.KernelIdeal.Gen.frame m ρ, fun m ρ _ => Cert.KernelIdeal.Gen.frame m ρ,
    fun m ρ _ => Cert.ReferenceIdeal.Scan.frame m ρ, fun m ρ _ => Cert.ReferenceIdeal.Scan.frame m ρ,
    fun m ρ _ => Cert.WgradKernel.Gen.frame m ρ, fun m ρ _ => Cert.WgradKernelIdeal.Gen.frame m ρ, wgrad_reference_frame,
    fun m ρ _ => Cert.DactKernel.Gen.frame m ρ, fun m ρ _ => Cert.DactKernelIdeal.Gen.frame m ρ, fun m ρ _ => Cert.DactKernelIdeal.Gen.frame m ρ,
    fun m ρ _ => dact_reference_frame m ρ, fun m ρ _ => dact_reference_frame m ρ,
    fun m ρ _ => Cert.DxKernel.Gen.frame m ρ, fun m ρ _ => Cert.DxKernelIdeal.Gen.frame m ρ, dx_reference_frame,
    fun m ρ _ => Cert.UpKernel.Gen.frame m ρ, fun m ρ _ => Cert.UpKernelIdeal.Gen.frame m ρ, up_reference_frame,
    fun m ρ _ => Cert.DownKernel.Gen.frame m ρ, fun m ρ _ => Cert.DownKernelIdeal.Gen.frame m ρ, down_reference_frame,
    fun m ρ _ => Cert.ProjKernel.Gen.frame m ρ, fun m ρ _ => Cert.ProjKernelIdeal.Gen.frame m ρ, proj_reference_frame,
    fun m ρ _ => Cert.OutKernel.Gen.frame m ρ, fun m ρ _ => Cert.OutKernelIdeal.Gen.frame m ρ, out_reference_frame,
    fun m ρ _ => Cert.MixDxKernel.Gen.frame m ρ, fun m ρ _ => Cert.MixDxKernelIdeal.Gen.frame m ρ, mix_dx_reference_frame,
    fun m ρ _ => Cert.WinGradKernel.Gen.frame m ρ, fun m ρ _ => Cert.WinGradKernelIdeal.Gen.frame m ρ, win_grad_reference_frame,
    fun m ρ _ => Cert.OutDactKernel.Gen.frame m ρ, fun m ρ _ => Cert.OutDactKernelIdeal.Gen.frame m ρ, out_dact_reference_frame,
    fun m ρ _ => Cert.OutGradKernel.Gen.frame m ρ, fun m ρ _ => Cert.OutGradKernelIdeal.Gen.frame m ρ, out_grad_reference_frame,
    fun m ρ _ => Cert.PleBwdKernel.Gen.frame m ρ, fun m ρ _ => Cert.PleBwdKernelIdeal.Gen.frame m ρ, ple_bwd_reference_frame,
    fun m ρ _ => Cert.PleDxKernel.Gen.frame m ρ, fun m ρ _ => Cert.PleDxKernelIdeal.Gen.frame m ρ, ple_dx_reference_frame,
    fun m ρ _ => Cert.GateGradKernel.Gen.frame m ρ, fun m ρ _ => Cert.GateGradKernelIdeal.Gen.frame m ρ, gate_grad_reference_frame,
    fun m ρ _ => Cert.EmbGradKernel.Gen.frame m ρ, fun m ρ _ => Cert.EmbGradKernelIdeal.Gen.frame m ρ, emb_grad_reference_frame,
    fun m ρ _ => Cert.PleKernel.Gen.frame m ρ, fun m ρ _ => Cert.PleKernelIdeal.Gen.frame m ρ, ple_reference_frame,
    fun m ρ _ => Cert.GluGradKernel.Gen.frame m ρ, fun m ρ _ => Cert.GluGradKernelIdeal.Gen.frame m ρ, glu_grad_reference_frame,
    fun m ρ _ => Cert.GluKernel.Gen.frame m ρ, fun m ρ _ => Cert.GluKernelIdeal.Gen.frame m ρ, glu_reference_frame,
    fun m ρ _ => Cert.NormKernel.Gen.frame m ρ, fun m ρ _ => Cert.NormKernelIdeal.Gen.frame m ρ, norm_reference_frame,
    fun m ρ _ => Cert.GluBwdKernel.Gen.frame m ρ, fun m ρ _ => Cert.GluBwdKernelIdeal.Gen.frame m ρ, fun m ρ _ => Cert.GluBwdKernelIdeal.Gen.frame m ρ,
    fun m ρ _ => glu_bwd_reference_frame m ρ, fun m ρ _ => glu_bwd_reference_frame m ρ,
    trivial, algebraic, trivial, wgrad_algebraic, trivial, dact_algebraic, trivial, dx_algebraic,
    trivial, up_algebraic, trivial, down_algebraic, trivial, proj_algebraic, trivial, out_algebraic,
    trivial, mix_dx_algebraic, trivial, win_grad_algebraic, trivial, out_dact_algebraic, trivial, out_grad_algebraic,
    trivial, ple_bwd_algebraic, trivial, ple_dx_algebraic, trivial, gate_grad_algebraic, trivial, emb_grad_algebraic, trivial, ple_algebraic,
    trivial, glu_grad_algebraic,
    trivial, glu_algebraic,
    trivial, norm_algebraic,
    glu_bwd_preserves, glu_bwd_algebraic⟩

end Cert.Proof

end
